-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gate_finite [hPre_gate_finite : Cert.Pre_gate_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gate_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_gate_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_gate_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_gate_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_gate_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_gate_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gate_finite [hPre_gate_finite : Cert.Pre_gate_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gate_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_gate_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_gate_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_gate_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_gate_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_gate_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_sgu_finite [hPre_sgu_finite : Cert.Pre_sgu_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_sgu_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_sgu_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_sgu_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_sgu_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 = (fun _ => 1#1)
    ∧ (Cert.Pre_sgu_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.1 = (fun _ => 1#1)
    ∧ (Cert.Pre_sgu_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.1 = (fun _ => 1#1)
    ∧ (Cert.Pre_sgu_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2.1 = (fun _ => 1#1)
    ∧ (Cert.Pre_sgu_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_sgu_finite [hPre_sgu_finite : Cert.Pre_sgu_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_sgu_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_sgu_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_sgu_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_sgu_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.1 = (fun _ => 1#1)
    ∧ (Cert.Pre_sgu_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.1 = (fun _ => 1#1)
    ∧ (Cert.Pre_sgu_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.1 = (fun _ => 1#1)
    ∧ (Cert.Pre_sgu_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2.1 = (fun _ => 1#1)
    ∧ (Cert.Pre_sgu_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_ret_finite [hPre_ret_finite : Cert.Pre_ret_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_ret_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_ret_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_ret_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.1 = (fun _ => 1#1)
    ∧ (Cert.Pre_ret_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_ret_finite [hPre_ret_finite : Cert.Pre_ret_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_ret_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_ret_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_ret_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.1 = (fun _ => 1#1)
    ∧ (Cert.Pre_ret_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_gate_finite [hKernel2Ideal : Cert.Kernel2Ideal.Facts] [hPre_gate_finite : Cert.Pre_gate_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gate_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_gate_finite [hReference2Ideal : Cert.Reference2Ideal.Facts] [hPre_gate_finite : Cert.Pre_gate_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gate_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_sgu_finite [hKernel3Ideal : Cert.Kernel3Ideal.Facts] [hPre_sgu_finite : Cert.Pre_sgu_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_sgu_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_sgu_finite [hReference3Ideal : Cert.Reference3Ideal.Facts] [hPre_sgu_finite : Cert.Pre_sgu_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_sgu_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_ret_finite [hKernel4Ideal : Cert.Kernel4Ideal.Facts] [hPre_ret_finite : Cert.Pre_ret_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_ret_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_ret_finite [hReference4Ideal : Cert.Reference4Ideal.Facts] [hPre_ret_finite : Cert.Pre_ret_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_ret_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "gelu" .f32 0x3D372713#32 ((8943 / 200000 : ℝ) : EReal)
  ∧ IdealRules.named_const.Statement Cert.Kernel2Ideal.κ "gelu3" .f32 0x3E095D4F#32 ((26829 / 200000 : ℝ) : EReal)

def algebraic_Kernel2Ideal_Reference2Ideal_pre_gate_finite [hKernel2Ideal : Cert.Kernel2Ideal.Facts] [hReference2Ideal : Cert.Reference2Ideal.Facts] [hPre_gate_finite : Cert.Pre_gate_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gate_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)) (v1 : (c : Dev Cert.Kernel2Ideal.nD) → Buf (Elt Ideal) ((c.tc : Thread Cert.Kernel2Ideal.nD Cert.Kernel2Ideal.τ).loc Cert.Kernel2Ideal.main_v7)) (v2 : (c : Dev Cert.Kernel2Ideal.nD) → Buf (Elt Ideal) ((c.tc : Thread Cert.Kernel2Ideal.nD Cert.Kernel2Ideal.τ).loc Cert.Kernel2Ideal.main_v8)) (v3 : (c : Dev Cert.Kernel2Ideal.nD) → Buf (Elt Ideal) ((c.tc : Thread Cert.Kernel2Ideal.nD Cert.Kernel2Ideal.τ).loc Cert.Kernel2Ideal.main_v9)) (v4 : (c : Dev Cert.Kernel2Ideal.nD) → Buf (Elt Ideal) ((c.tc : Thread Cert.Kernel2Ideal.nD Cert.Kernel2Ideal.τ).loc Cert.Kernel2Ideal.main_v10)) (v5 : (c : Dev Cert.Kernel2Ideal.nD) → Buf (Elt Ideal) ((c.tc : Thread Cert.Kernel2Ideal.nD Cert.Kernel2Ideal.τ).loc Cert.Kernel2Ideal.main_v4_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_v7) = v1 c
          ∧ r.2.mem ((c.tc : Thread Cert.Kernel2Ideal.nD Cert.Kernel2Ideal.τ).loc Cert.Kernel2Ideal.main_v8) = v2 c
          ∧ r.2.mem ((c.tc : Thread Cert.Kernel2Ideal.nD Cert.Kernel2Ideal.τ).loc Cert.Kernel2Ideal.main_v9) = v3 c
          ∧ r.2.mem ((c.tc : Thread Cert.Kernel2Ideal.nD Cert.Kernel2Ideal.τ).loc Cert.Kernel2Ideal.main_v10) = v4 c
          ∧ r.2.mem ((c.tc : Thread Cert.Kernel2Ideal.nD Cert.Kernel2Ideal.τ).loc Cert.Kernel2Ideal.main_v4_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_v76) = v2 c
          ∧ r.2.mem ((c.tc : Thread Cert.Reference2Ideal.nD Cert.Reference2Ideal.τ).loc Cert.Reference2Ideal.main_v94) = v3 c
          ∧ r.2.mem ((c.tc : Thread Cert.Reference2Ideal.nD Cert.Reference2Ideal.τ).loc Cert.Reference2Ideal.main_v40) = v4 c
          ∧ r.2.mem ((c.tc : Thread Cert.Reference2Ideal.nD Cert.Reference2Ideal.τ).loc Cert.Reference2Ideal.main_v48) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "gelu" .f32 0x3D372713#32 ((8943 / 200000 : ℝ) : EReal)
  ∧ IdealRules.named_const.Statement Cert.Kernel3Ideal.κ "gelu3" .f32 0x3E095D4F#32 ((26829 / 200000 : ℝ) : EReal)

def algebraic_Kernel3Ideal_Reference3Ideal_pre_sgu_finite [hKernel3Ideal : Cert.Kernel3Ideal.Facts] [hReference3Ideal : Cert.Reference3Ideal.Facts] [hPre_sgu_finite : Cert.Pre_sgu_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_sgu_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v3)) (v1 : (c : Dev Cert.Kernel3Ideal.nD) → Buf (Elt Ideal) ((c.tc : Thread Cert.Kernel3Ideal.nD Cert.Kernel3Ideal.τ).loc Cert.Kernel3Ideal.main_v4)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)) (v4 : (c : Dev Cert.Kernel3Ideal.nD) → Buf (Elt Ideal) ((c.tc : Thread Cert.Kernel3Ideal.nD Cert.Kernel3Ideal.τ).loc Cert.Kernel3Ideal.main_v2_4)) (v5 : (c : Dev Cert.Kernel3Ideal.nD) → Buf (Elt Ideal) ((c.tc : Thread Cert.Kernel3Ideal.nD Cert.Kernel3Ideal.τ).loc Cert.Kernel3Ideal.main_v5)) (v6 : (c : Dev Cert.Kernel3Ideal.nD) → Buf (Elt Ideal) ((c.tc : Thread Cert.Kernel3Ideal.nD Cert.Kernel3Ideal.τ).loc Cert.Kernel3Ideal.main_v2_6)) (v7 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_v4) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_v2_4) = v4 c
          ∧ r.2.mem ((c.tc : Thread Cert.Kernel3Ideal.nD Cert.Kernel3Ideal.τ).loc Cert.Kernel3Ideal.main_v5) = v5 c
          ∧ r.2.mem ((c.tc : Thread Cert.Kernel3Ideal.nD Cert.Kernel3Ideal.τ).loc Cert.Kernel3Ideal.main_v2_6) = v6 c
          ∧ r.2.mem ((c.tc : Thread Cert.Kernel3Ideal.nD Cert.Kernel3Ideal.τ).loc Cert.Kernel3Ideal.main_v7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v180) = v0 c
          ∧ r.2.mem ((c.tc : Thread Cert.Reference3Ideal.nD Cert.Reference3Ideal.τ).loc Cert.Reference3Ideal.main_v65) = v1 c
          ∧ r.2.mem ((c.tc : Thread Cert.Reference3Ideal.nD Cert.Reference3Ideal.τ).loc Cert.Reference3Ideal.main_v116) = v2 c
          ∧ r.2.mem ((c.tc : Thread Cert.Reference3Ideal.nD Cert.Reference3Ideal.τ).loc Cert.Reference3Ideal.main_v136) = v3 c
          ∧ r.2.mem ((c.tc : Thread Cert.Reference3Ideal.nD Cert.Reference3Ideal.τ).loc Cert.Reference3Ideal.main_v132) = v4 c
          ∧ r.2.mem ((c.tc : Thread Cert.Reference3Ideal.nD Cert.Reference3Ideal.τ).loc Cert.Reference3Ideal.main_v127) = v5 c
          ∧ r.2.mem ((c.tc : Thread Cert.Reference3Ideal.nD Cert.Reference3Ideal.τ).loc Cert.Reference3Ideal.main_v100) = v6 c
          ∧ r.2.mem ((c.tc : Thread Cert.Reference3Ideal.nD Cert.Reference3Ideal.τ).loc Cert.Reference3Ideal.main_v91) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  IdealRules.named_const.Statement Cert.Kernel4Ideal.κ "log_gamma0" .f32 0xBD020AEC#32 ((Real.log (31 / 32) : ℝ) : EReal)
  ∧ IdealRules.named_const.Statement Cert.Kernel4Ideal.κ "log_gamma1" .f32 0xBC8102B3#32 ((Real.log (63 / 64) : ℝ) : EReal)
  ∧ IdealRules.named_const.Statement Cert.Kernel4Ideal.κ "log_gamma2" .f32 0xBC0080AC#32 ((Real.log (127 / 128) : ℝ) : EReal)
  ∧ IdealRules.named_const.Statement Cert.Kernel4Ideal.κ "log_gamma3" .f32 0xBB80402B#32 ((Real.log (255 / 256) : ℝ) : EReal)
  ∧ IdealRules.named_const.Statement Cert.Kernel4Ideal.κ "gamma0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.Kernel4Ideal.κ "gamma1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.Kernel4Ideal.κ "gamma2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.Kernel4Ideal.κ "gamma3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_Kernel4Ideal_Reference4Ideal_pre_ret_finite [hKernel4Ideal : Cert.Kernel4Ideal.Facts] [hReference4Ideal : Cert.Reference4Ideal.Facts] [hPre_ret_finite : Cert.Pre_ret_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_ret_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v168)) (v1 : (c : Dev Cert.Kernel4Ideal.nD) → Buf (Elt Ideal) ((c.tc : Thread Cert.Kernel4Ideal.nD Cert.Kernel4Ideal.τ).loc Cert.Kernel4Ideal.main_v169)) (v2 : (c : Dev Cert.Kernel4Ideal.nD) → Buf (Elt Ideal) ((c.tc : Thread Cert.Kernel4Ideal.nD Cert.Kernel4Ideal.τ).loc Cert.Kernel4Ideal.main_v167_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v168) = v0 c
          ∧ r.2.mem ((c.tc : Thread Cert.Kernel4Ideal.nD Cert.Kernel4Ideal.τ).loc Cert.Kernel4Ideal.main_v169) = v1 c
          ∧ r.2.mem ((c.tc : Thread Cert.Kernel4Ideal.nD Cert.Kernel4Ideal.τ).loc Cert.Kernel4Ideal.main_v167_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v280) = v0 c
          ∧ r.2.mem ((c.tc : Thread Cert.Reference4Ideal.nD Cert.Reference4Ideal.τ).loc Cert.Reference4Ideal.main_v172) = v1 c
          ∧ r.2.mem ((c.tc : Thread Cert.Reference4Ideal.nD Cert.Reference4Ideal.τ).loc Cert.Reference4Ideal.main_v181) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v10)) (v1 : (c : Dev Cert.Kernel5Ideal.nD) → Buf (Elt Ideal) ((c.tc : Thread Cert.Kernel5Ideal.nD Cert.Kernel5Ideal.τ).loc Cert.Kernel5Ideal.main_v11)) (v2 : (c : Dev Cert.Kernel5Ideal.nD) → Buf (Elt Ideal) ((c.tc : Thread Cert.Kernel5Ideal.nD Cert.Kernel5Ideal.τ).loc Cert.Kernel5Ideal.main_v12)) (v3 : (c : Dev Cert.Kernel5Ideal.nD) → Buf (Elt Ideal) ((c.tc : Thread Cert.Kernel5Ideal.nD Cert.Kernel5Ideal.τ).loc Cert.Kernel5Ideal.main_v13)) (v4 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_v11) = v1 c
          ∧ r.2.mem ((c.tc : Thread Cert.Kernel5Ideal.nD Cert.Kernel5Ideal.τ).loc Cert.Kernel5Ideal.main_v12) = v2 c
          ∧ r.2.mem ((c.tc : Thread Cert.Kernel5Ideal.nD Cert.Kernel5Ideal.τ).loc Cert.Kernel5Ideal.main_v13) = v3 c
          ∧ r.2.mem ((c.tc : Thread Cert.Kernel5Ideal.nD Cert.Kernel5Ideal.τ).loc Cert.Kernel5Ideal.main_v14) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v154) = v0 c
          ∧ r.2.mem ((c.tc : Thread Cert.Reference5Ideal.nD Cert.Reference5Ideal.τ).loc Cert.Reference5Ideal.main_v143) = v1 c
          ∧ r.2.mem ((c.tc : Thread Cert.Reference5Ideal.nD Cert.Reference5Ideal.τ).loc Cert.Reference5Ideal.main_v153) = v2 c
          ∧ r.2.mem ((c.tc : Thread Cert.Reference5Ideal.nD Cert.Reference5Ideal.τ).loc Cert.Reference5Ideal.main_v85) = v3 c
          ∧ r.2.mem ((c.tc : Thread Cert.Reference5Ideal.nD Cert.Reference5Ideal.τ).loc Cert.Reference5Ideal.main_v77) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  IdealRules.named_const.Statement Cert.Kernel6Ideal.κ "log_gamma0" .f32 0xBD020AEC#32 ((Real.log (31 / 32) : ℝ) : EReal)
  ∧ IdealRules.named_const.Statement Cert.Kernel6Ideal.κ "log_gamma1" .f32 0xBC8102B3#32 ((Real.log (63 / 64) : ℝ) : EReal)
  ∧ IdealRules.named_const.Statement Cert.Kernel6Ideal.κ "log_gamma2" .f32 0xBC0080AC#32 ((Real.log (127 / 128) : ℝ) : EReal)
  ∧ IdealRules.named_const.Statement Cert.Kernel6Ideal.κ "log_gamma3" .f32 0xBB80402B#32 ((Real.log (255 / 256) : ℝ) : EReal)
  ∧ IdealRules.named_const.Statement Cert.Kernel6Ideal.κ "gamma0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.Kernel6Ideal.κ "gamma1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.Kernel6Ideal.κ "gamma2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.Kernel6Ideal.κ "gamma3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v15)) (v1 : (c : Dev Cert.Kernel6Ideal.nD) → Buf (Elt Ideal) ((c.tc : Thread Cert.Kernel6Ideal.nD Cert.Kernel6Ideal.τ).loc Cert.Kernel6Ideal.main_v16)) (v2 : (c : Dev Cert.Kernel6Ideal.nD) → Buf (Elt Ideal) ((c.tc : Thread Cert.Kernel6Ideal.nD Cert.Kernel6Ideal.τ).loc Cert.Kernel6Ideal.main_v19)) (v3 : (c : Dev Cert.Kernel6Ideal.nD) → Buf (Elt Ideal) ((c.tc : Thread Cert.Kernel6Ideal.nD Cert.Kernel6Ideal.τ).loc Cert.Kernel6Ideal.main_v20)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15) = v0 c
          ∧ r.2.mem ((c.tc : Thread Cert.Kernel6Ideal.nD Cert.Kernel6Ideal.τ).loc Cert.Kernel6Ideal.main_v16) = v1 c
          ∧ r.2.mem ((c.tc : Thread Cert.Kernel6Ideal.nD Cert.Kernel6Ideal.τ).loc Cert.Kernel6Ideal.main_v19) = v2 c
          ∧ r.2.mem ((c.tc : Thread Cert.Kernel6Ideal.nD Cert.Kernel6Ideal.τ).loc Cert.Kernel6Ideal.main_v20) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v167) = v0 c
          ∧ r.2.mem ((c.tc : Thread Cert.Reference6Ideal.nD Cert.Reference6Ideal.τ).loc Cert.Reference6Ideal.main_v137) = v1 c
          ∧ r.2.mem ((c.tc : Thread Cert.Reference6Ideal.nD Cert.Reference6Ideal.τ).loc Cert.Reference6Ideal.main_v104) = v2 c
          ∧ r.2.mem ((c.tc : Thread Cert.Reference6Ideal.nD Cert.Reference6Ideal.τ).loc Cert.Reference6Ideal.main_v144) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v6)) (v1 : (c : Dev Cert.Kernel7Ideal.nD) → Buf (Elt Ideal) ((c.tc : Thread Cert.Kernel7Ideal.nD Cert.Kernel7Ideal.τ).loc Cert.Kernel7Ideal.main_v7)) (v2 : (c : Dev Cert.Kernel7Ideal.nD) → Buf (Elt Ideal) ((c.tc : Thread Cert.Kernel7Ideal.nD Cert.Kernel7Ideal.τ).loc Cert.Kernel7Ideal.main_v8)) (v3 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_v7) = v1 c
          ∧ r.2.mem ((c.tc : Thread Cert.Kernel7Ideal.nD Cert.Kernel7Ideal.τ).loc Cert.Kernel7Ideal.main_v8) = v2 c
          ∧ r.2.mem ((c.tc : Thread Cert.Kernel7Ideal.nD Cert.Kernel7Ideal.τ).loc Cert.Kernel7Ideal.main_v9) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_v14) = v1 c
          ∧ r.2.mem ((c.tc : Thread Cert.Reference7Ideal.nD Cert.Reference7Ideal.τ).loc Cert.Reference7Ideal.main_v34) = v2 c
          ∧ r.2.mem ((c.tc : Thread Cert.Reference7Ideal.nD Cert.Reference7Ideal.τ).loc Cert.Reference7Ideal.main_v41) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v5) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_v13) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  IdealRules.named_const.Statement Cert.Kernel9Ideal.κ "gelu" .f32 0x3D372713#32 ((8943 / 200000 : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v29) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_v7) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v15) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_gate_finite : Cert.Pre_gate_finite.Facts) (hPre_sgu_finite : Cert.Pre_sgu_finite.Facts) (hPre_ret_finite : Cert.Pre_ret_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_gate_finite (hKernel2Ideal := hKernel2Ideal) (hPre_gate_finite := hPre_gate_finite)
    ∧ quiescent_Reference2Ideal (hReference2Ideal := hReference2Ideal)
    ∧ quiescent_Reference2Ideal_pre_gate_finite (hReference2Ideal := hReference2Ideal) (hPre_gate_finite := hPre_gate_finite)
    ∧ quiescent_Kernel3 (hKernel3 := hKernel3)
    ∧ quiescent_Kernel3Ideal (hKernel3Ideal := hKernel3Ideal)
    ∧ quiescent_Kernel3Ideal_pre_sgu_finite (hKernel3Ideal := hKernel3Ideal) (hPre_sgu_finite := hPre_sgu_finite)
    ∧ quiescent_Reference3Ideal (hReference3Ideal := hReference3Ideal)
    ∧ quiescent_Reference3Ideal_pre_sgu_finite (hReference3Ideal := hReference3Ideal) (hPre_sgu_finite := hPre_sgu_finite)
    ∧ quiescent_Kernel4 (hKernel4 := hKernel4)
    ∧ quiescent_Kernel4Ideal (hKernel4Ideal := hKernel4Ideal)
    ∧ quiescent_Kernel4Ideal_pre_ret_finite (hKernel4Ideal := hKernel4Ideal) (hPre_ret_finite := hPre_ret_finite)
    ∧ quiescent_Reference4Ideal (hReference4Ideal := hReference4Ideal)
    ∧ quiescent_Reference4Ideal_pre_ret_finite (hReference4Ideal := hReference4Ideal) (hPre_ret_finite := hPre_ret_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_gate_finite (hKernel2Ideal := hKernel2Ideal) (hReference2Ideal := hReference2Ideal) (hPre_gate_finite := hPre_gate_finite)
    ∧ preserves_Kernel3_Kernel3Ideal
    ∧ algebraic_Kernel3Ideal_Reference3Ideal_pre_sgu_finite (hKernel3Ideal := hKernel3Ideal) (hReference3Ideal := hReference3Ideal) (hPre_sgu_finite := hPre_sgu_finite)
    ∧ preserves_Kernel4_Kernel4Ideal
    ∧ algebraic_Kernel4Ideal_Reference4Ideal_pre_ret_finite (hKernel4Ideal := hKernel4Ideal) (hReference4Ideal := hReference4Ideal) (hPre_ret_finite := hPre_ret_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S8192x6144 : Shape := ⟨2, ![8192, 6144]⟩
abbrev S8192x1024 : Shape := ⟨2, ![8192, 1024]⟩
abbrev S1x1024 : Shape := ⟨2, ![1, 1024]⟩
abbrev S1024x6144 : Shape := ⟨2, ![1024, 6144]⟩
abbrev S_ : Shape := ⟨0, ![]⟩

class Facts : Prop where
  bcast_S_S8192x6144 : S_.BroadcastsInDim S8192x6144 (![] : Fin 0 → Fin S8192x6144.rank)
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x6144 : S_.BroadcastsInDim S1024x6144 (![] : Fin 0 → Fin S1024x6144.rank)

variable [Facts]

def fn {F : FTy → Type} [FloatOps F] (main_arg0 : FVec F S8192x6144 .f32) (main_arg1 : FVec F S8192x1024 .f32) (main_arg2 : FVec F S1x1024 .f32) (main_arg3 : FVec F S1024x6144 .f32) (main_arg4 : FVec F S8192x1024 .f32) : IVec S8192x6144 1 × IVec S8192x1024 1 × IVec S1x1024 1 × IVec S1024x6144 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x6144 .f32 := Host.absf main_arg3
  let main_cst_2 : FVec F S_ .f32 := constant S_ .f32 0x7F800000#32
  let main_v10 : FVec F S1024x6144 .f32 := broadcastInDim S1024x6144 ![] bcast_S_S1024x6144 main_cst_2
  let main_v11 : IVec S1024x6144 1 := cmpf .olt main_v9 main_v10
  (main_v2, main_v5, main_v8, main_v11)
-- ==== Pre_gate_finite.lean ====
abbrev S8192x1024 : Shape := ⟨2, ![8192, 1024]⟩
abbrev S8192x6144 : Shape := ⟨2, ![8192, 6144]⟩
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S8192x6144 : S_.BroadcastsInDim S8192x6144 (![] : Fin 0 → Fin S8192x6144.rank)
  bcast_S_S2048x1024 : S_.BroadcastsInDim S2048x1024 (![] : Fin 0 → Fin S2048x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x6144 .f32) (main_arg2 : FVec F S8192x1024 .f32) (main_arg3 : FVec F S2048x1024 .f32) (main_arg4 : FVec F S1024x1024 .f32) (main_arg5 : FVec F S1x1024 .f32) : IVec S8192x1024 1 × IVec S8192x6144 1 × IVec S8192x1024 1 × IVec S2048x1024 1 × IVec S1024x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x6144 .f32 := Host.absf main_arg1
  let main_cst_0 : FVec F S_ .f32 := constant S_ .f32 0x7F800000#32
  let main_v4 : FVec F S8192x6144 .f32 := broadcastInDim S8192x6144 ![] bcast_S_S8192x6144 main_cst_0
  let main_v5 : IVec S8192x6144 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_ret_finite.lean ====
abbrev S8192x6144 : Shape := ⟨2, ![8192, 6144]⟩
abbrev S1x1024 : Shape := ⟨2, ![1, 1024]⟩
abbrev S8192x1024 : Shape := ⟨2, ![8192, 1024]⟩
abbrev S2048x1024 : Shape := ⟨2, ![2048, 1024]⟩
abbrev S_ : Shape := ⟨0, ![]⟩

class Facts : Prop where
  bcast_S_S8192x6144 : S_.BroadcastsInDim S8192x6144 (![] : Fin 0 → Fin S8192x6144.rank)
  bcast_S_S1x1024 : S_.BroadcastsInDim S1x1024 (![] : Fin 0 → Fin S1x1024.rank)
  bcast_S_S8192x1024 : S_.BroadcastsInDim S8192x1024 (![] : Fin 0 → Fin S8192x1024.rank)
  bcast_S_S2048x1024 : S_.BroadcastsInDim S2048x1024 (![] : Fin 0 → Fin S2048x1024.rank)

variable [Facts]

def fn {F : FTy → Type} [FloatOps F] (main_arg0 : FVec F S8192x6144 .f32) (main_arg1 : FVec F S1x1024 .f32) (main_arg2 : FVec F S8192x1024 .f32) (main_arg3 : FVec F S2048x1024 .f32) (main_arg4 : FVec F S8192x1024 .f32) (main_arg5 : FVec F S8192x1024 .f32) : IVec S8192x6144 1 × IVec S1x1024 1 × IVec S8192x1024 1 × IVec S2048x1024 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  (main_v2, main_v5, main_v8, main_v11)
-- ==== Pre_sgu_finite.lean ====
abbrev S8192x6144 : Shape := ⟨2, ![8192, 6144]⟩
abbrev S8192x1024 : Shape := ⟨2, ![8192, 1024]⟩
abbrev S1x2048 : Shape := ⟨2, ![1, 2048]⟩
abbrev S4x128x128 : Shape := ⟨3, ![4, 128, 128]⟩
abbrev S4x128 : Shape := ⟨2, ![4, 128]⟩
abbrev S2048x1024 : Shape := ⟨2, ![2048, 1024]⟩
abbrev S1x1024 : Shape := ⟨2, ![1, 1024]⟩
abbrev S_ : Shape := ⟨0, ![]⟩

class Facts : Prop where
  bcast_S_S8192x6144 : S_.BroadcastsInDim S8192x6144 (![] : Fin 0 → Fin S8192x6144.rank)
  bcast_S_S8192x1024 : S_.BroadcastsInDim S8192x1024 (![] : Fin 0 → Fin S8192x1024.rank)
  bcast_S_S1x2048 : S_.BroadcastsInDim S1x2048 (![] : Fin 0 → Fin S1x2048.rank)
  bcast_S_S4x128x128 : S_.BroadcastsInDim S4x128x128 (![] : Fin 0 → Fin S4x128x128.rank)
  bcast_S_S4x128 : S_.BroadcastsInDim S4x128 (![] : Fin 0 → Fin S4x128.rank)
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn_part1 {F : FTy → Type} [FloatOps F] (main_arg6 : FVec F S1x1024 .f32) (main_arg7 : FVec F S8192x1024 .f32) (main_v2 : IVec S8192x6144 1) (main_v5 : IVec S8192x1024 1) (main_v8 : IVec S1x2048 1) (main_v11 : IVec S4x128x128 1) (main_v14 : IVec S4x128 1) (main_v17 : IVec S2048x1024 1) : IVec S8192x6144 1 × IVec S8192x1024 1 × IVec S1x2048 1 × IVec S4x128x128 1 × IVec S4x128 1 × IVec S2048x1024 1 × IVec S1x1024 1 × IVec S8192x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S8192x1024 .f32 := Host.absf main_arg7
  let main_cst_6 : FVec F S_ .f32 := constant S_ .f32 0x7F800000#32
  let main_v22 : FVec F S8192x1024 .f32 := broadcastInDim S8192x1024 ![] bcast_S_S8192x1024 main_cst_6
  let main_v23 : IVec S8192x1024 1 := cmpf .olt main_v21 main_v22
  (main_v2, main_v5, main_v8, main_v11, main_v14, main_v17, main_v20, main_v23)

def fn {F : FTy → Type} [FloatOps F] (main_arg0 : FVec F S8192x6144 .f32) (main_arg1 : FVec F S8192x1024 .f32) (main_arg2 : FVec F S1x2048 .f32) (main_arg3 : FVec F S4x128x128 .f32) (main_arg4 : FVec F S4x128 .f32) (main_arg5 : FVec F S2048x1024 .f32) (main_arg6 : FVec F S1x1024 .f32) (main_arg7 : FVec F S8192x1024 .f32) : IVec S8192x6144 1 × IVec S8192x1024 1 × IVec S1x2048 1 × IVec S4x128x128 1 × IVec S4x128 1 × IVec S2048x1024 1 × IVec S1x1024 1 × IVec S8192x1024 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_v12 : FVec F S4x128 .f32 := Host.absf main_arg4
  let main_cst_3 : FVec F S_ .f32 := constant S_ .f32 0x7F800000#32
  let main_v13 : FVec F S4x128 .f32 := broadcastInDim S4x128 ![] bcast_S_S4x128 main_cst_3
  let main_v14 : IVec S4x128 1 := cmpf .olt main_v12 main_v13
  let main_v15 : FVec F S2048x1024 .f32 := Host.absf main_arg5
  let main_cst_4 : FVec F S_ .f32 := constant S_ .f32 0x7F800000#32
  let main_v16 : FVec F S2048x1024 .f32 := broadcastInDim S2048x1024 ![] bcast_S_S2048x1024 main_cst_4
  let main_v17 : IVec S2048x1024 1 := cmpf .olt main_v15 main_v16
  fn_part1 (F := F) main_arg6 main_arg7 main_v2 main_v5 main_v8 main_v11 main_v14 main_v17
-- ==== Kernel.lean ====
abbrev S8192x6144 : Shape := ⟨2, ![8192, 6144]⟩
abbrev S8192x1024 : Shape := ⟨2, ![8192, 1024]⟩
abbrev S1x1024 : Shape := ⟨2, ![1, 1024]⟩
abbrev S1024x6144 : Shape := ⟨2, ![1024, 6144]⟩
abbrev S1024x8x768 : Shape := ⟨3, ![1024, 8, 768]⟩
abbrev S8x1024x768 : Shape := ⟨3, ![8, 1024, 768]⟩
abbrev S512x6144 : Shape := ⟨2, ![512, 6144]⟩
abbrev S512x1024 : Shape := ⟨2, ![512, 1024]⟩
abbrev S_ : Shape := ⟨0, ![]⟩
abbrev S512x768 : Shape := ⟨2, ![512, 768]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩
abbrev S1024 : Shape := ⟨1, ![1024]⟩

abbrev nBuf : Space → Nat
  | .hbm => 11
  | .vmem => 11
  | .smem => 0
  | _ => 0

abbrev bufTy : (tb : Table) → Fin (tcTables nBuf tb) → BufTy
  | .hbm, ⟨0, _⟩ => ⟨S8192x6144, .f32⟩
  | .hbm, ⟨1, _⟩ => ⟨S8192x1024, .f32⟩
  | .hbm, ⟨2, _⟩ => ⟨S1x1024, .f32⟩
  | .hbm, ⟨3, _⟩ => ⟨S1024x6144, .f32⟩
  | .hbm, ⟨4, _⟩ => ⟨S8192x1024, .f32⟩
  | .hbm, ⟨5, _⟩ => ⟨S8192x6144, .bf16⟩
  | .hbm, ⟨6, _⟩ => ⟨S1024x8x768, .f32⟩
  | .hbm, ⟨7, _⟩ => ⟨S8x1024x768, .f32⟩
  | .hbm, ⟨8, _⟩ => ⟨S8x1024x768, .bf16⟩
  | .hbm, ⟨9, _⟩ => ⟨S8192x1024, .f32⟩
  | .hbm, ⟨10, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S8x1024x768, .bf16⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8192x6144 : Shape := ⟨2, ![8192, 6144]⟩
abbrev S8192x1024 : Shape := ⟨2, ![8192, 1024]⟩
abbrev S1x1024 : Shape := ⟨2, ![1, 1024]⟩
abbrev S1024x6144 : Shape := ⟨2, ![1024, 6144]⟩
abbrev S_ : Shape := ⟨0, ![]⟩
abbrev S8192 : Shape := ⟨1, ![8192]⟩
abbrev S8192x1 : Shape := ⟨2, ![8192, 1]⟩
abbrev S6144x1024 : Shape := ⟨2, ![6144, 1024]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S8192x1024, .f32⟩
  | .hbm, ⟨2, _⟩ => ⟨S1x1024, .f32⟩
  | .hbm, ⟨3, _⟩ => ⟨S1024x6144, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x6144, .f32⟩
  | .hbm, ⟨25, _⟩ => ⟨S6144x1024, .f32⟩
  | .hbm, ⟨26, _⟩ => ⟨S1024x6144, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel2.lean ====
abbrev S8192x1024 : Shape := ⟨2, ![8192, 1024]⟩
abbrev S8192x6144 : Shape := ⟨2, ![8192, 6144]⟩
abbrev S2048x1024 : Shape := ⟨2, ![2048, 1024]⟩
abbrev S1024x1024 : Shape := ⟨2, ![1024, 1024]⟩
abbrev S1x1024 : Shape := ⟨2, ![1, 1024]⟩
abbrev S8192x8x128 : Shape := ⟨3, ![8192, 8, 128]⟩
abbrev S8x8192x128 : Shape := ⟨3, ![8, 8192, 128]⟩
abbrev S8x512x128 : Shape := ⟨3, ![8, 512, 128]⟩
abbrev S512x1024 : Shape := ⟨2, ![512, 1024]⟩
abbrev S1x256x128 : Shape := ⟨3, ![1, 256, 128]⟩
abbrev S256x128 : Shape := ⟨2, ![256, 128]⟩
abbrev S256x1024 : Shape := ⟨2, ![256, 1024]⟩
abbrev S1024 : Shape := ⟨1, ![1024]⟩

abbrev nBuf : Space → Nat
  | .hbm => 22
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S8192x1024, .f32⟩
  | .hbm, ⟨3, _⟩ => ⟨S2048x1024, .f32⟩
  | .hbm, ⟨4, _⟩ => ⟨S1024x1024, .f32⟩
  | .hbm, ⟨5, _⟩ => ⟨S1x1024, .f32⟩
  | .hbm, ⟨6, _⟩ => ⟨S8192x8x128, .f32⟩
  | .hbm, ⟨7, _⟩ => ⟨S8x8192x128, .f32⟩
  | .hbm, ⟨8, _⟩ => ⟨S2048x1024, .bf16⟩
  | .hbm, ⟨9, _⟩ => ⟨S1024x1024, .bf16⟩
  | .hbm, ⟨10, _⟩ => ⟨S8x8192x128, .f32⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S1x1024, .f32⟩
  | .hbm, ⟨16, _⟩ => ⟨S8192x8x128, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .local _ .vmem, ⟨0, _⟩ => ⟨S8x512x128, .f32⟩
  | .local _ .vmem, ⟨1, _⟩ => ⟨S8x512x128, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S8x512x128, .f32⟩
  | .local _ .vmem, ⟨10, _⟩ => ⟨S8x512x128, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Kernel2Ideal.lean ====
variable {F : FTy → Type} [FloatOps F] [Named F]
def κ : String → Option EReal := fun
  | "gelu" => some ((8943 / 200000 : ℝ) : EReal)
  | "gelu3" => some ((26829 / 200000 : ℝ) : EReal)
  | _ => none
-- ==== Reference2Ideal.lean ====
abbrev S8192x1024 : Shape := ⟨2, ![8192, 1024]⟩
abbrev S8192x6144 : Shape := ⟨2, ![8192, 6144]⟩
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩

abbrev nBuf : Space → Nat
  | .hbm => 146
  | .vmem => 0
  | .smem => 0
  | _ => 0

abbrev hbmTy0_0 (i : Nat) : BufTy := match i % 128 with
  | 0 => ⟨S8192x1024, .f32⟩
  | 1 => ⟨S8192x6144, .f32⟩
  | 2 => ⟨S8192x1024, .f32⟩
  | 3 => ⟨S2048x1024, .f32⟩
  | 4 => ⟨S1024x1024, .f32⟩
  | 5 => ⟨S1x1024, .f32⟩
  | 6 => ⟨S8192x1024, .f32⟩
  | 7 => ⟨S1024x1024, .f32⟩
  | 8 => ⟨S1024x1024, .f32⟩
  | 9 => ⟨S8192x1024, .f32⟩
  | 10 => ⟨S_, .f32⟩
  | 11 => ⟨S_, .f32⟩
  | 12 => ⟨S_, .f32⟩
  | 13 => ⟨S8192x1024, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S_, .f32⟩
  | 23 => ⟨S8192x1024, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S_, .f32⟩
  | 30 => ⟨S8192x1024, .f32⟩
  | 31 => ⟨S8192x1024, .f32⟩
  | 32 => ⟨S8192x1024, .f32⟩
  | 33 => ⟨S_, .f32⟩
  | 34 => ⟨S8192x1024, .f32⟩
  | 35 => ⟨S8192x1024, .f32⟩
  | 36 => ⟨S_, .f32⟩
  | 37 => ⟨S8192x1024, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S_, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S_, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S_, .f32⟩
  | 80 => ⟨S1024, .f32⟩
  | 81 => ⟨S1x1024, .f32⟩
  | 82 => ⟨S8192x1024, .f32⟩
  | 83 => ⟨S8192x1024, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S8192x1024, .f32⟩
  | 90 => ⟨S_, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S_, .f32⟩
  | 99 => ⟨S_, .f32⟩
  | 100 => ⟨S_, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S_, .f32⟩
  | 107 => ⟨S8192x1024, .f32⟩
  | 108 => ⟨S8192x1024, .f32⟩
  | 109 => ⟨S8192x1024, .f32⟩
  | 110 => ⟨S_, .f32⟩
  | 111 => ⟨S8192x1024, .f32⟩
  | 112 => ⟨S8192x1024, .f32⟩
  | 113 => ⟨S_, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S_, .f32⟩
  | 123 => ⟨S8192x1024, .f32⟩
  | 124 => ⟨S8192x1024, .f32⟩
  | 125 => ⟨S_, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S_, .f32⟩
  | 8 => ⟨S8192x1024, .f32⟩
  | 9 => ⟨S8192x1024, .f32⟩
  | 10 => ⟨S_, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_v39_2 : Ref sig .tc := ⟨.hbm, 63, rfl⟩
abbrev main_call0_cst_1 : Ref sig .tc := ⟨.hbm, 64, rfl⟩
abbrev main_call0_v6 : Ref sig .tc := ⟨.hbm, 65, rfl⟩
abbrev main_call0_v7 : Ref sig .tc := ⟨.hbm, 66, rfl⟩
abbrev main_v39_1 : Ref sig .tc := ⟨.hbm, 67, rfl⟩
abbrev main_v39_0 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_10 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_12 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_13 : Ref sig .tc := ⟨.hbm, 98, rfl⟩
abbrev main_cst_14 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_15 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_16 : Ref sig .tc := ⟨.hbm, 110, rfl⟩
abbrev main_v72 : Ref sig .tc := ⟨.hbm, 111, rfl⟩
abbrev main_v73 : Ref sig .tc := ⟨.hbm, 112, rfl⟩
abbrev main_cst_17 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_18 : Ref sig .tc := ⟨.hbm, 122, rfl⟩
abbrev main_v82 : Ref sig .tc := ⟨.hbm, 123, rfl⟩
abbrev main_v83 : Ref sig .tc := ⟨.hbm, 124, rfl⟩
abbrev main_cst_19 : Ref sig .tc := ⟨.hbm, 125, rfl⟩
abbrev main_v84 : Ref sig .tc := ⟨.hbm, 126, rfl⟩
abbrev main_v85 : Ref sig .tc := ⟨.hbm, 127, rfl⟩
abbrev main_cst_20 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_call2_v0 : Ref sig .tc := ⟨.hbm, 133, rfl⟩
abbrev main_call2_v1 : Ref sig .tc := ⟨.hbm, 134, rfl⟩
abbrev main_call2_cst : Ref sig .tc := ⟨.hbm, 135, rfl⟩
abbrev main_call2_v2 : Ref sig .tc := ⟨.hbm, 136, rfl⟩
abbrev main_call2_v3 : Ref sig .tc := ⟨.hbm, 137, rfl⟩
abbrev main_call2_cst_0 : Ref sig .tc := ⟨.hbm, 138, rfl⟩
abbrev main_call2_v4 : Ref sig .tc := ⟨.hbm, 139, rfl⟩
abbrev main_call2_v5 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩

abbrev nD : Nat := 1
abbrev τ : Topo := Topo.v7x

variable {F : FTy → Type} [FloatOps F]
-- ==== Kernel3.lean ====
abbrev S8192x6144 : Shape := ⟨2, ![8192, 6144]⟩
abbrev S8192x1024 : Shape := ⟨2, ![8192, 1024]⟩
abbrev S1x2048 : Shape := ⟨2, ![1, 2048]⟩
abbrev S4x128x128 : Shape := ⟨3, ![4, 128, 128]⟩
abbrev S4x128 : Shape := ⟨2, ![4, 128]⟩
abbrev S2048x1024 : Shape := ⟨2, ![2048, 1024]⟩
abbrev S1x1024 : Shape := ⟨2, ![1, 1024]⟩
abbrev S4x128x1 : Shape := ⟨3, ![4, 128, 1]⟩
abbrev S8192x2048 : Shape := ⟨2, ![8192, 2048]⟩
abbrev S1x128 : Shape := ⟨2, ![1, 128]⟩
abbrev S256x6144 : Shape := ⟨2, ![256, 6144]⟩
abbrev S256x1024 : Shape := ⟨2, ![256, 1024]⟩
abbrev S256x2048 : Shape := ⟨2, ![256, 2048]⟩
abbrev S128x6144 : Shape := ⟨2, ![128, 6144]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x512 : Shape := ⟨2, ![128, 512]⟩
abbrev S1x128x1 : Shape := ⟨3, ![1, 128, 1]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩
abbrev S2048 : Shape := ⟨1, ![2048]⟩
abbrev S_ : Shape := ⟨0, ![]⟩

abbrev nBuf : Space → Nat
  | .hbm => 23
  | .vmem => 22
  | .smem => 0
  | _ => 0

abbrev bufTy : (tb : Table) → Fin (tcTables nBuf tb) → BufTy
  | .hbm, ⟨0, _⟩ => ⟨S8192x6144, .f32⟩
  | .hbm, ⟨1, _⟩ => ⟨S8192x1024, .f32⟩
  | .hbm, ⟨2, _⟩ => ⟨S1x2048, .f32⟩
  | .hbm, ⟨3, _⟩ => ⟨S4x128x128, .f32⟩
  | .hbm, ⟨4, _⟩ => ⟨S4x128, .f32⟩
  | .hbm, ⟨5, _⟩ => ⟨S2048x1024, .f32⟩
  | .hbm, ⟨6, _⟩ => ⟨S1x1024, .f32⟩
  | .hbm, ⟨7, _⟩ => ⟨S8192x1024, .f32⟩
  | .hbm, ⟨8, _⟩ => ⟨S4x128x1, .f32⟩
  | .hbm, ⟨9, _⟩ => ⟨S2048x1024, .bf16⟩
  | .hbm, ⟨10, _⟩ => ⟨S8192x6144, .bf16⟩
  | .hbm, ⟨11, _⟩ => ⟨S8192x2048, .bf16⟩
  | .hbm, ⟨12, _⟩ => ⟨S8192x1024, .f32⟩
  | .hbm, ⟨13, _⟩ => ⟨S1x2048, .f32⟩
  | .hbm, ⟨14, _⟩ => ⟨S4x128x128, .f32⟩
  | .hbm, ⟨15, _⟩ => ⟨S4x128x1, .f32⟩
  | .hbm, ⟨16, _⟩ => ⟨S1x1024, .f32⟩
  | .hbm, ⟨17, _⟩ => ⟨S1x128, .f32⟩
  | .hbm, ⟨18, _⟩ => ⟨S8192x6144, .f32⟩
  | .hbm, ⟨19, _⟩ => ⟨S8192x2048, .f32⟩
  | .hbm, ⟨20, _⟩ => ⟨S4x128, .f32⟩
  | .hbm, ⟨21, _⟩ => ⟨S1x1, .f32⟩
  | .hbm, ⟨22, _⟩ => ⟨S_, .f32⟩
  | .local _ .vmem, ⟨0, _⟩ => ⟨S256x6144, .f32⟩
  | .local _ .vmem, ⟨1, _⟩ => ⟨S256x6144, .f32⟩
  | .local _ .vmem, ⟨2, _⟩ => ⟨S256x1024, .f32⟩
  | .local _ .vmem, ⟨3, _⟩ => ⟨S256x1024, .f32⟩
  | .local _ .vmem, ⟨4, _⟩ => ⟨S1x2048, .f32⟩
  | .local _ .vmem, ⟨5, _⟩ => ⟨S4x128x128, .f32⟩
  | .local _ .vmem, ⟨6, _⟩ => ⟨S4x128x1, .f32⟩
  | .local _ .vmem, ⟨7, _⟩ => ⟨S2048x1024, .bf16⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x6144, .bf16⟩
  | .local _ .vmem, ⟨12, _⟩ => ⟨S256x6144, .bf16⟩
  | .local _ .vmem, ⟨13, _⟩ => ⟨S256x2048, .bf16⟩
  | .local _ .vmem, ⟨14, _⟩ => ⟨S256x2048, .bf16⟩
  | .local _ .vmem, ⟨15, _⟩ => ⟨S256x1024, .f32⟩
  | .local _ .vmem, ⟨16, _⟩ => ⟨S256x1024, .f32⟩
  | .local _ .vmem, ⟨17, _⟩ => ⟨S1x2048, .f32⟩
  | .local _ .vmem, ⟨18, _⟩ => ⟨S4x128x128, .f32⟩
  | .local _ .vmem, ⟨19, _⟩ => ⟨S4x128x1, .f32⟩
  | .local _ .vmem, ⟨20, _⟩ => ⟨S1x1024, .f32⟩
  | .local _ .vmem, ⟨21, _⟩ => ⟨S1x128, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev main_v2_6 : Ref sig .tc := ⟨.hbm, 16, rfl⟩
abbrev main_v2_7 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x6144 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Kernel3Ideal.lean ====
variable {F : FTy → Type} [FloatOps F] [Named F]
def κ : String → Option EReal := fun
  | "gelu" => some ((8943 / 200000 : ℝ) : EReal)
  | "gelu3" => some ((26829 / 200000 : ℝ) : EReal)
  | _ => none
-- ==== Reference3Ideal.lean ====
abbrev S8192x6144 : Shape := ⟨2, ![8192, 6144]⟩
abbrev S8192x1024 : Shape := ⟨2, ![8192, 1024]⟩
abbrev S1x2048 : Shape := ⟨2, ![1, 2048]⟩
abbrev S4x128x128 : Shape := ⟨3, ![4, 128, 128]⟩
abbrev S4x128 : Shape := ⟨2, ![4, 128]⟩
abbrev S2048x1024 : Shape := ⟨2, ![2048, 1024]⟩
abbrev S1x1024 : Shape := ⟨2, ![1, 1024]⟩
abbrev S8192x4096 : Shape := ⟨2, ![8192, 4096]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S64x128x4x512 : Shape := ⟨4, ![64, 128, 4, 512]⟩
abbrev S128x128 : Shape := ⟨2, ![128, 128]⟩
abbrev S1x128x128 : Shape := ⟨3, ![1, 128, 128]⟩
abbrev S4x64x512x128 : Shape := ⟨4, ![4, 64, 512, 128]⟩
abbrev S128x4 : Shape := ⟨2, ![128, 4]⟩
abbrev S1x128x4x1 : Shape := ⟨4, ![1, 128, 4, 1]⟩
abbrev S1024 : Shape := ⟨1, ![1024]⟩
abbrev S2048 : Shape := ⟨1, ![2048]⟩

abbrev nBuf : Space → Nat
  | .hbm => 268
  | .vmem => 0
  | .smem => 0
  | _ => 0

abbrev hbmTy0_0 (i : Nat) : BufTy := match i % 128 with
  | 0 => ⟨S8192x6144, .f32⟩
  | 1 => ⟨S8192x1024, .f32⟩
  | 2 => ⟨S1x2048, .f32⟩
  | 3 => ⟨S4x128x128, .f32⟩
  | 4 => ⟨S4x128, .f32⟩
  | 5 => ⟨S2048x1024, .f32⟩
  | 6 => ⟨S1x1024, .f32⟩
  | 7 => ⟨S8192x1024, .f32⟩
  | 8 => ⟨S8192x4096, .f32⟩
  | 9 => ⟨S_, .f32⟩
  | 10 => ⟨S_, .f32⟩
  | 11 => ⟨S_, .f32⟩
  | 12 => ⟨S8192x4096, .f32⟩
  | 13 => ⟨S8192x4096, .f32⟩
  | 14 => ⟨S8192x4096, .f32⟩
  | 15 => ⟨S_, .f32⟩
  | 16 => ⟨S8192x4096, .f32⟩
  | 17 => ⟨S8192x4096, .f32⟩
  | 18 => ⟨S8192x4096, .f32⟩
  | 19 => ⟨S8192x4096, .f32⟩
  | 20 => ⟨S8192x4096, .f32⟩
  | 21 => ⟨S_, .f32⟩
  | 22 => ⟨S8192x4096, .f32⟩
  | 23 => ⟨S8192x4096, .f32⟩
  | 24 => ⟨S8192x4096, .f32⟩
  | 25 => ⟨S_, .f32⟩
  | 26 => ⟨S8192x4096, .f32⟩
  | 27 => ⟨S8192x4096, .f32⟩
  | 28 => ⟨S_, .f32⟩
  | 29 => ⟨S8192x4096, .f32⟩
  | 30 => ⟨S8192x4096, .f32⟩
  | 31 => ⟨S8192x4096, .f32⟩
  | 32 => ⟨S_, .f32⟩
  | 33 => ⟨S8192x4096, .f32⟩
  | 34 => ⟨S8192x4096, .f32⟩
  | 35 => ⟨S_, .f32⟩
  | 36 => ⟨S8192x4096, .f32⟩
  | 37 => ⟨S8192x4096, .f32⟩
  | 38 => ⟨S8192x4096, .f32⟩
  | 39 => ⟨S8192x2048, .f32⟩
  | 40 => ⟨S8192x2048, .f32⟩
  | 41 => ⟨S8192x2048, .f32⟩
  | 42 => ⟨S_, .f32⟩
  | 43 => ⟨S8192, .f32⟩
  | 44 => ⟨S8192x1, .f32⟩
  | 45 => ⟨S_, .f32⟩
  | 46 => ⟨S8192x1, .f32⟩
  | 47 => ⟨S8192x1, .f32⟩
  | 48 => ⟨S8192x2048, .f32⟩
  | 49 => ⟨S8192x2048, .f32⟩
  | 50 => ⟨S8192x2048, .f32⟩
  | 51 => ⟨S_, .f32⟩
  | 52 => ⟨S8192x2048, .f32⟩
  | 53 => ⟨S8192x2048, .f32⟩
  | 54 => ⟨S_, .f32⟩
  | 55 => ⟨S8192, .f32⟩
  | 56 => ⟨S8192x1, .f32⟩
  | 57 => ⟨S_, .f32⟩
  | 58 => ⟨S8192x1, .f32⟩
  | 59 => ⟨S8192x1, .f32⟩
  | 60 => ⟨S8192x2048, .f32⟩
  | 61 => ⟨S8192x2048, .f32⟩
  | 62 => ⟨S_, .f32⟩
  | 63 => ⟨S8192x1, .f32⟩
  | 64 => ⟨S8192x1, .f32⟩
  | 65 => ⟨S8192x1, .f32⟩
  | 66 => ⟨S8192x1, .f32⟩
  | 67 => ⟨S_, .f32⟩
  | 68 => ⟨S8192x1, .f32⟩
  | 69 => ⟨S8192x1, .f32⟩
  | 70 => ⟨S8192x2048, .f32⟩
  | 71 => ⟨S8192x2048, .f32⟩
  | 72 => ⟨S8192x2048, .f32⟩
  | 73 => ⟨S8192x2048, .f32⟩
  | 74 => ⟨S64x128x4x512, .f32⟩
  | 75 => ⟨S_, .i1⟩
  | 76 => ⟨S128x128, .i1⟩
  | 77 => ⟨S128x128, .i32⟩
  | 78 => ⟨S_, .i32⟩
  | 79 => ⟨S128x128, .i32⟩
  | 80 => ⟨S128x128, .i32⟩
  | 81 => ⟨S128x128, .i32⟩
  | 82 => ⟨S128x128, .i1⟩
  | 83 => ⟨S_, .i1⟩
  | 84 => ⟨S128x128, .i1⟩
  | 85 => ⟨S128x128, .i1⟩
  | 86 => ⟨S1x128x128, .i1⟩
  | 87 => ⟨S_, .f32⟩
  | 88 => ⟨S_, .f32⟩
  | 89 => ⟨S4x128x128, .i1⟩
  | 90 => ⟨S4x128x128, .f32⟩
  | 91 => ⟨S4x128x128, .f32⟩
  | 92 => ⟨S_, .f32⟩
  | 93 => ⟨S4x128x128, .f32⟩
  | 94 => ⟨S4x64x512x128, .f32⟩
  | 95 => ⟨S64x128x4x512, .f32⟩
  | 96 => ⟨S128x4, .f32⟩
  | 97 => ⟨S1x128x4x1, .f32⟩
  | 98 => ⟨S64x128x4x512, .f32⟩
  | 99 => ⟨S64x128x4x512, .f32⟩
  | 100 => ⟨S8192x2048, .f32⟩
  | 101 => ⟨S8192x2048, .f32⟩
  | 102 => ⟨S8192x2048, .f32⟩
  | 103 => ⟨S8192x2048, .f32⟩
  | 104 => ⟨S_, .f32⟩
  | 105 => ⟨S8192x2048, .f32⟩
  | 106 => ⟨S8192x2048, .f32⟩
  | 107 => ⟨S_, .f32⟩
  | 108 => ⟨S8192x2048, .f32⟩
  | 109 => ⟨S8192x2048, .f32⟩
  | 110 => ⟨S_, .f32⟩
  | 111 => ⟨S8192x2048, .f32⟩
  | 112 => ⟨S8192x2048, .f32⟩
  | 113 => ⟨S8192x2048, .f32⟩
  | 114 => ⟨S8192x2048, .f32⟩
  | 115 => ⟨S8192x2048, .f32⟩
  | 116 => ⟨S8192x1024, .f32⟩
  | 117 => ⟨S8192x1024, .f32⟩
  | 118 => ⟨S8192x1024, .f32⟩
  | 119 => ⟨S_, .f32⟩
  | 120 => ⟨S8192, .f32⟩
  | 121 => ⟨S8192x1, .f32⟩
  | 122 => ⟨S_, .f32⟩
  | 123 => ⟨S8192x1, .f32⟩
  | 124 => ⟨S8192x1, .f32⟩
  | 125 => ⟨S_, .f32⟩
  | 126 => ⟨S8192x1, .f32⟩
  | 127 => ⟨S8192x1, .f32⟩
  | _ => ⟨S8192x6144, .f32⟩

abbrev hbmTy0_1 (i : Nat) : BufTy := match i % 128 with
  | 0 => ⟨S8192x1, .f32⟩
  | 1 => ⟨S8192x1, .f32⟩
  | 2 => ⟨S_, .f32⟩
  | 3 => ⟨S8192x1, .f32⟩
  | 4 => ⟨S8192x1, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S_, .f32⟩
  | 15 => ⟨S8192, .f32⟩
  | 16 => ⟨S_, .f32⟩
  | 17 => ⟨S8192, .f32⟩
  | 18 => ⟨S8192, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S8192, .f32⟩
  | 27 => ⟨S_, .f32⟩
  | 28 => ⟨S8192, .f32⟩
  | 29 => ⟨S8192, .f32⟩
  | 30 => ⟨S8192x1024, .f32⟩
  | 31 => ⟨S8192x1024, .f32⟩
  | 32 => ⟨S8192x1024, .f32⟩
  | 33 => ⟨S_, .f32⟩
  | 34 => ⟨S1024, .f32⟩
  | 35 => ⟨S1x1024, .f32⟩
  | 36 => ⟨S8192x1024, .f32⟩
  | 37 => ⟨S8192x1024, .f32⟩
  | 38 => ⟨S8192x1024, .f32⟩
  | 39 => ⟨S_, .f32⟩
  | 40 => ⟨S8192, .f32⟩
  | 41 => ⟨S8192x1, .f32⟩
  | 42 => ⟨S8192x1024, .f32⟩
  | 43 => ⟨S8192x1024, .f32⟩
  | 44 => ⟨S8192x1, .f32⟩
  | 45 => ⟨S_, .f32⟩
  | 46 => ⟨S8192x1, .f32⟩
  | 47 => ⟨S8192x1, .f32⟩
  | 48 => ⟨S_, .f32⟩
  | 49 => ⟨S8192, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S8192x2048, .f32⟩
  | 56 => ⟨S8192x2048, .f32⟩
  | 57 => ⟨S8192x2048, .f32⟩
  | 58 => ⟨S8192x2048, .f32⟩
  | 59 => ⟨S8192x2048, .f32⟩
  | 60 => ⟨S8192x2048, .f32⟩
  | 61 => ⟨S8192x2048, .f32⟩
  | 62 => ⟨S8192x2048, .f32⟩
  | 63 => ⟨S8192x2048, .f32⟩
  | 64 => ⟨S64x128x4x512, .f32⟩
  | 65 => ⟨S_, .f32⟩
  | 66 => ⟨S128x4, .f32⟩
  | 67 => ⟨S1x128x4x1, .f32⟩
  | 68 => ⟨S_, .f32⟩
  | 69 => ⟨S128x4, .f32⟩
  | 70 => ⟨S4x128, .f32⟩
  | 71 => ⟨S4x64x512x128, .f32⟩
  | 72 => ⟨S4x128x128, .f32⟩
  | 73 => ⟨S4x64x512x128, .f32⟩
  | 74 => ⟨S64x128x4x512, .f32⟩
  | 75 => ⟨S_, .f32⟩
  | 76 => ⟨S4x128x128, .f32⟩
  | 77 => ⟨S4x128x128, .f32⟩
  | 78 => ⟨S8192x2048, .f32⟩
  | 79 => ⟨S8192x2048, .f32⟩
  | 80 => ⟨S_, .f32⟩
  | 81 => ⟨S2048, .f32⟩
  | 82 => ⟨S1x2048, .f32⟩
  | 83 => ⟨S8192x2048, .f32⟩
  | 84 => ⟨S8192x2048, .f32⟩
  | 85 => ⟨S8192x2048, .f32⟩
  | 86 => ⟨S_, .f32⟩
  | 87 => ⟨S8192, .f32⟩
  | 88 => ⟨S8192x1, .f32⟩
  | 89 => ⟨S8192x2048, .f32⟩
  | 90 => ⟨S8192x2048, .f32⟩
  | 91 => ⟨S8192x1, .f32⟩
  | 92 => ⟨S8192x2048, .f32⟩
  | 93 => ⟨S_, .f32⟩
  | 94 => ⟨S8192, .f32⟩
  | 95 => ⟨S8192x1, .f32⟩
  | 96 => ⟨S_, .f32⟩
  | 97 => ⟨S8192x1, .f32⟩
  | 98 => ⟨S8192x1, .f32⟩
  | 99 => ⟨S_, .f32⟩
  | 100 => ⟨S8192, .f32⟩
  | 101 => ⟨S8192x2048, .f32⟩
  | 102 => ⟨S8192x2048, .f32⟩
  | 103 => ⟨S8192x2048, .f32⟩
  | 104 => ⟨S_, .f32⟩
  | 105 => ⟨S8192, .f32⟩
  | 106 => ⟨S8192x1, .f32⟩
  | 107 => ⟨S8192x2048, .f32⟩
  | 108 => ⟨S8192x1, .f32⟩
  | 109 => ⟨S_, .f32⟩
  | 110 => ⟨S8192x1, .f32⟩
  | 111 => ⟨S8192x1, .f32⟩
  | 112 => ⟨S_, .f32⟩
  | 113 => ⟨S8192, .f32⟩
  | 114 => ⟨S8192x2048, .f32⟩
  | 115 => ⟨S8192x2048, .f32⟩
  | 116 => ⟨S_, .f32⟩
  | 117 => ⟨S8192x4096, .f32⟩
  | 118 => ⟨S_, .f32⟩
  | 119 => ⟨S8192x4096, .f32⟩
  | 120 => ⟨S8192x4096, .f32⟩
  | 121 => ⟨S_, .f32⟩
  | 122 => ⟨S8192x6144, .f32⟩
  | 123 => ⟨S8192x4096, .f32⟩
  | 124 => ⟨S8192x4096, .f32⟩
  | 125 => ⟨S_, .f32⟩
  | 126 => ⟨S8192x4096, .f32⟩
  | 127 => ⟨S8192x4096, .f32⟩
  | _ => ⟨S8192x6144, .f32⟩

abbrev hbmTy0_2 (i : Nat) : BufTy := match i % 128 with
  | 0 => ⟨S8192x4096, .f32⟩
  | 1 => ⟨S_, .f32⟩
  | 2 => ⟨S8192x4096, .f32⟩
  | 3 => ⟨S8192x4096, .f32⟩
  | 4 => ⟨S8192x4096, .f32⟩
  | 5 => ⟨S8192x4096, .f32⟩
  | 6 => ⟨S8192x4096, .f32⟩
  | 7 => ⟨S8192x4096, .f32⟩
  | 8 => ⟨S8192x4096, .f32⟩
  | 9 => ⟨S_, .f32⟩
  | 10 => ⟨S8192x6144, .f32⟩
  | 11 => ⟨S8192x6144, .f32⟩
  | _ => ⟨S8192x6144, .f32⟩

abbrev hbmTy (i : Nat) : BufTy := match i / 128 with
  | 0 => hbmTy0_0 i
  | 1 => hbmTy0_1 i
  | 2 => hbmTy0_2 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_cst_10 : Ref sig .tc := ⟨.hbm, 54, rfl⟩
abbrev main_v35 : Ref sig .tc := ⟨.hbm, 55, rfl⟩
abbrev main_v36 : Ref sig .tc := ⟨.hbm, 56, rfl⟩
abbrev main_cst_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_12 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_13 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c : Ref sig .tc := ⟨.hbm, 75, rfl⟩
abbrev main_v52 : Ref sig .tc := ⟨.hbm, 76, rfl⟩
abbrev main_call0_v0 : Ref sig .tc := ⟨.hbm, 77, rfl⟩
abbrev main_call0_c : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_c_0 : Ref sig .tc := ⟨.hbm, 83, rfl⟩
abbrev main_call0_v5 : Ref sig .tc := ⟨.hbm, 84, rfl⟩
abbrev main_v53 : Ref sig .tc := ⟨.hbm, 85, rfl⟩
abbrev main_v54 : Ref sig .tc := ⟨.hbm, 86, rfl⟩
abbrev main_cst_14 : Ref sig .tc := ⟨.hbm, 87, rfl⟩
abbrev main_call1_v0 : Ref sig .tc := ⟨.hbm, 88, rfl⟩
abbrev main_v55_1 : Ref sig .tc := ⟨.hbm, 89, rfl⟩
abbrev main_call1_v2 : Ref sig .tc := ⟨.hbm, 90, rfl⟩
abbrev main_v55_0 : Ref sig .tc := ⟨.hbm, 91, rfl⟩
abbrev main_call1_cst : Ref sig .tc := ⟨.hbm, 92, rfl⟩
abbrev main_v55_2 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_call2_v0 : Ref sig .tc := ⟨.hbm, 102, rfl⟩
abbrev main_call2_v1 : Ref sig .tc := ⟨.hbm, 103, rfl⟩
abbrev main_call2_cst : Ref sig .tc := ⟨.hbm, 104, rfl⟩
abbrev main_call2_v2 : Ref sig .tc := ⟨.hbm, 105, rfl⟩
abbrev main_call2_v3 : Ref sig .tc := ⟨.hbm, 106, rfl⟩
abbrev main_call2_cst_0 : Ref sig .tc := ⟨.hbm, 107, rfl⟩
abbrev main_call2_v4 : Ref sig .tc := ⟨.hbm, 108, rfl⟩
abbrev main_v64_2 : Ref sig .tc := ⟨.hbm, 109, rfl⟩
abbrev main_call2_cst_1 : Ref sig .tc := ⟨.hbm, 110, rfl⟩
abbrev main_call2_v6 : Ref sig .tc := ⟨.hbm, 111, rfl⟩
abbrev main_call2_v7 : Ref sig .tc := ⟨.hbm, 112, rfl⟩
abbrev main_v64_1 : Ref sig .tc := ⟨.hbm, 113, rfl⟩
abbrev main_v64_0 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_cst_15 : Ref sig .tc := ⟨.hbm, 119, rfl⟩
abbrev main_v69 : Ref sig .tc := ⟨.hbm, 120, rfl⟩
abbrev main_v70 : Ref sig .tc := ⟨.hbm, 121, rfl⟩
abbrev main_cst_16 : Ref sig .tc := ⟨.hbm, 122, rfl⟩
abbrev main_v71 : Ref sig .tc := ⟨.hbm, 123, rfl⟩
abbrev main_v72 : Ref sig .tc := ⟨.hbm, 124, rfl⟩
abbrev main_cst_17 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_18 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_cst_19 : Ref sig .tc := ⟨.hbm, 139, rfl⟩
abbrev main_v85 : Ref sig .tc := ⟨.hbm, 140, rfl⟩
abbrev main_v86 : Ref sig .tc := ⟨.hbm, 141, rfl⟩
abbrev main_cst_20 : Ref sig .tc := ⟨.hbm, 142, rfl⟩
abbrev main_v87 : Ref sig .tc := ⟨.hbm, 143, rfl⟩
abbrev main_cst_21 : Ref sig .tc := ⟨.hbm, 144, rfl⟩
abbrev main_v88 : Ref sig .tc := ⟨.hbm, 145, rfl⟩
abbrev main_v89 : Ref sig .tc := ⟨.hbm, 146, rfl⟩
abbrev main_cst_22 : Ref sig .tc := ⟨.hbm, 147, rfl⟩
abbrev main_v90 : Ref sig .tc := ⟨.hbm, 148, rfl⟩
abbrev main_cst_23 : Ref sig .tc := ⟨.hbm, 149, rfl⟩
abbrev main_v91 : Ref sig .tc := ⟨.hbm, 150, rfl⟩
abbrev main_cst_24 : Ref sig .tc := ⟨.hbm, 151, rfl⟩
abbrev main_cst_25 : Ref sig .tc := ⟨.hbm, 152, rfl⟩
abbrev main_v92 : Ref sig .tc := ⟨.hbm, 153, rfl⟩
abbrev main_v93 : Ref sig .tc := ⟨.hbm, 154, rfl⟩
abbrev main_cst_26 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_cst_27 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_28 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_cst_29 : Ref sig .tc := ⟨.hbm, 173, rfl⟩
abbrev main_v109 : Ref sig .tc := ⟨.hbm, 174, rfl⟩
abbrev main_v110 : Ref sig .tc := ⟨.hbm, 175, rfl⟩
abbrev main_cst_30 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_call3_v0 : Ref sig .tc := ⟨.hbm, 186, rfl⟩
abbrev main_call3_v1 : Ref sig .tc := ⟨.hbm, 187, rfl⟩
abbrev main_call3_v2 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_cst_31 : Ref sig .tc := ⟨.hbm, 193, rfl⟩
abbrev main_v124 : Ref sig .tc := ⟨.hbm, 194, rfl⟩
abbrev main_v125 : Ref sig .tc := ⟨.hbm, 195, rfl⟩
abbrev main_cst_32 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_call4_cst : Ref sig .tc := ⟨.hbm, 203, rfl⟩
abbrev main_call4_v0 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_cst_33 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_cst_34 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_cst_35 : Ref sig .tc := ⟨.hbm, 221, rfl⟩
abbrev main_v146 : Ref sig .tc := ⟨.hbm, 222, rfl⟩
abbrev main_v147 : Ref sig .tc := ⟨.hbm, 223, rfl⟩
abbrev main_cst_36 : Ref sig .tc := ⟨.hbm, 224, rfl⟩
abbrev main_v148 : Ref sig .tc := ⟨.hbm, 225, rfl⟩
abbrev main_v149 : Ref sig .tc := ⟨.hbm, 226, rfl⟩
abbrev main_cst_37 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_cst_38 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_cst_39 : Ref sig .tc := ⟨.hbm, 237, rfl⟩
abbrev main_v158 : Ref sig .tc := ⟨.hbm, 238, rfl⟩
abbrev main_v159 : Ref sig .tc := ⟨.hbm, 239, rfl⟩
abbrev main_cst_40 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_cst_41 : Ref sig .tc := ⟨.hbm, 244, rfl⟩
abbrev main_v163 : Ref sig .tc := ⟨.hbm, 245, rfl⟩
abbrev main_cst_42 : Ref sig .tc := ⟨.hbm, 246, rfl⟩
abbrev main_v164 : Ref sig .tc := ⟨.hbm, 247, rfl⟩
abbrev main_v165 : Ref sig .tc := ⟨.hbm, 248, rfl⟩
abbrev main_cst_43 : Ref sig .tc := ⟨.hbm, 249, rfl⟩
abbrev main_v166 : Ref sig .tc := ⟨.hbm, 250, rfl⟩
abbrev main_v167 : Ref sig .tc := ⟨.hbm, 251, rfl⟩
abbrev main_v168 : Ref sig .tc := ⟨.hbm, 252, rfl⟩
abbrev main_cst_44 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_cst_45 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_cst_46 : Ref sig .tc := ⟨.hbm, 265, rfl⟩
abbrev main_v179 : Ref sig .tc := ⟨.hbm, 266, rfl⟩
abbrev main_v180 : Ref sig .tc := ⟨.hbm, 267, rfl⟩

abbrev nD : Nat := 1
abbrev τ : Topo := Topo.v7x

variable {F : FTy → Type} [FloatOps F]
-- ==== Kernel4.lean ====
abbrev S8192x6144 : Shape := ⟨2, ![8192, 6144]⟩
abbrev S1x1024 : Shape := ⟨2, ![1, 1024]⟩
abbrev S8192x1024 : Shape := ⟨2, ![8192, 1024]⟩
abbrev S2048x1024 : Shape := ⟨2, ![2048, 1024]⟩
abbrev S8192x4x256 : Shape := ⟨3, ![8192, 4, 256]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S8192x1x128 : Shape := ⟨3, ![8192, 1, 128]⟩
abbrev S8192x4x128 : Shape := ⟨3, ![8192, 4, 128]⟩
abbrev S4 : Shape := ⟨1, ![4]⟩
abbrev S128x1 : Shape := ⟨2, ![128, 1]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4 : Shape := ⟨2, ![1, 4]⟩
abbrev S128x4 : Shape := ⟨2, ![128, 4]⟩
abbrev S64x128x4x256 : Shape := ⟨4, ![64, 128, 4, 256]⟩
abbrev S64x4x128x128 : Shape := ⟨4, ![64, 4, 128, 128]⟩
abbrev S1x4x128x128 : Shape := ⟨4, ![1, 4, 128, 128]⟩
abbrev S64x4x256x128 : Shape := ⟨4, ![64, 4, 256, 128]⟩
abbrev S64 : Shape := ⟨1, ![64]⟩
abbrev S64x1 : Shape := ⟨2, ![64, 1]⟩
abbrev S1x8192 : Shape := ⟨2, ![1, 8192]⟩
abbrev S64x8192 : Shape := ⟨2, ![64, 8192]⟩
abbrev S1x64x8192 : Shape := ⟨3, ![1, 64, 8192]⟩
abbrev S4x64x8192 : Shape := ⟨3, ![4, 64, 8192]⟩
abbrev S1x8192x4x256 : Shape := ⟨4, ![1, 8192, 4, 256]⟩
abbrev S64x8192x4 : Shape := ⟨3, ![64, 8192, 4]⟩
abbrev S64x8192x4x1 : Shape := ⟨4, ![64, 8192, 4, 1]⟩
abbrev S64x8192x4x256 : Shape := ⟨4, ![64, 8192, 4, 256]⟩
abbrev S4x256x64x256 : Shape := ⟨4, ![4, 256, 64, 256]⟩
abbrev S64x4x256x256 : Shape := ⟨4, ![64, 4, 256, 256]⟩
abbrev S1x128x4x1 : Shape := ⟨4, ![1, 128, 4, 1]⟩
abbrev S64x128x4x128 : Shape := ⟨4, ![64, 128, 4, 128]⟩
abbrev S8192x512 : Shape := ⟨2, ![8192, 512]⟩
abbrev S8192x8x128 : Shape := ⟨3, ![8192, 8, 128]⟩
abbrev S8x8192x128 : Shape := ⟨3, ![8, 8192, 128]⟩
abbrev S256x1024 : Shape := ⟨2, ![256, 1024]⟩
abbrev S256x128 : Shape := ⟨2, ![256, 128]⟩
abbrev S2x4x256x256 : Shape := ⟨4, ![2, 4, 256, 256]⟩
abbrev S256x512 : Shape := ⟨2, ![256, 512]⟩
abbrev S1024x1024 : Shape := ⟨2, ![1024, 1024]⟩
abbrev S8x256x128 : Shape := ⟨3, ![8, 256, 128]⟩
abbrev S256x6144 : Shape := ⟨2, ![256, 6144]⟩
abbrev S4x256x256 : Shape := ⟨3, ![4, 256, 256]⟩
abbrev S4x128x256 : Shape := ⟨3, ![4, 128, 256]⟩
abbrev S128x256 : Shape := ⟨2, ![128, 256]⟩
abbrev S1x128x256 : Shape := ⟨3, ![1, 128, 256]⟩
abbrev S1x256x128 : Shape := ⟨3, ![1, 256, 128]⟩
abbrev S128x1024 : Shape := ⟨2, ![128, 1024]⟩
abbrev S1x128x1 : Shape := ⟨3, ![1, 128, 1]⟩
abbrev S1x1x256x256 : Shape := ⟨4, ![1, 1, 256, 256]⟩
abbrev S256x256 : Shape := ⟨2, ![256, 256]⟩
abbrev S1x256 : Shape := ⟨2, ![1, 256]⟩
abbrev S256 : Shape := ⟨1, ![256]⟩
abbrev S1x256x256 : Shape := ⟨3, ![1, 256, 256]⟩

abbrev nBuf : Space → Nat
  | .hbm => 202
  | .vmem => 34
  | .smem => 0
  | _ => 0

abbrev hbmTy0_0 (i : Nat) : BufTy := match i % 128 with
  | 0 => ⟨S8192x6144, .f32⟩
  | 1 => ⟨S1x1024, .f32⟩
  | 2 => ⟨S8192x1024, .f32⟩
  | 3 => ⟨S2048x1024, .f32⟩
  | 4 => ⟨S8192x1024, .f32⟩
  | 5 => ⟨S8192x1024, .f32⟩
  | 6 => ⟨S8192x1024, .f32⟩
  | 7 => ⟨S8192x1024, .f32⟩
  | 8 => ⟨S8192x1024, .f32⟩
  | 9 => ⟨S8192x4x256, .f32⟩
  | 10 => ⟨S128, .f32⟩
  | 11 => ⟨S128, .f32⟩
  | 12 => ⟨S_, .f32⟩
  | 13 => ⟨S128, .f32⟩
  | 14 => ⟨S128, .f32⟩
  | 15 => ⟨S_, .f32⟩
  | 16 => ⟨S128, .f32⟩
  | 17 => ⟨S128, .f32⟩
  | 18 => ⟨S8192, .f32⟩
  | 19 => ⟨S8192x1, .f32⟩
  | 20 => ⟨S1x128, .f32⟩
  | 21 => ⟨S8192x128, .f32⟩
  | 22 => ⟨S8192x128, .f32⟩
  | 23 => ⟨S8192x128, .f32⟩
  | 24 => ⟨S8192x128, .f32⟩
  | 25 => ⟨S8192x1x128, .f32⟩
  | 26 => ⟨S8192x128, .f32⟩
  | 27 => ⟨S8192x1x128, .f32⟩
  | 28 => ⟨S8192x4x128, .f32⟩
  | 29 => ⟨S8192x4x128, .f32⟩
  | 30 => ⟨S8192x4x128, .f32⟩
  | 31 => ⟨S8192x4x128, .f32⟩
  | 32 => ⟨S8192x4x128, .f32⟩
  | 33 => ⟨S8192x4x128, .f32⟩
  | 34 => ⟨S8192x4x128, .f32⟩
  | 35 => ⟨S8192x4x128, .f32⟩
  | 36 => ⟨S8192x4x128, .f32⟩
  | 37 => ⟨S8192x4x128, .f32⟩
  | 38 => ⟨S8192x4x128, .f32⟩
  | 39 => ⟨S8192x4x128, .f32⟩
  | 40 => ⟨S8192x4x256, .f32⟩
  | 41 => ⟨S8192x4x256, .f32⟩
  | 42 => ⟨S128, .f32⟩
  | 43 => ⟨S128, .f32⟩
  | 44 => ⟨S_, .f32⟩
  | 45 => ⟨S128, .f32⟩
  | 46 => ⟨S128, .f32⟩
  | 47 => ⟨S_, .f32⟩
  | 48 => ⟨S128, .f32⟩
  | 49 => ⟨S128, .f32⟩
  | 50 => ⟨S8192, .f32⟩
  | 51 => ⟨S8192x1, .f32⟩
  | 52 => ⟨S1x128, .f32⟩
  | 53 => ⟨S8192x128, .f32⟩
  | 54 => ⟨S8192x128, .f32⟩
  | 55 => ⟨S8192x128, .f32⟩
  | 56 => ⟨S8192x128, .f32⟩
  | 57 => ⟨S8192x1x128, .f32⟩
  | 58 => ⟨S8192x128, .f32⟩
  | 59 => ⟨S8192x1x128, .f32⟩
  | 60 => ⟨S8192x4x128, .f32⟩
  | 61 => ⟨S8192x4x128, .f32⟩
  | 62 => ⟨S8192x4x128, .f32⟩
  | 63 => ⟨S8192x4x128, .f32⟩
  | 64 => ⟨S8192x4x128, .f32⟩
  | 65 => ⟨S8192x4x128, .f32⟩
  | 66 => ⟨S8192x4x128, .f32⟩
  | 67 => ⟨S8192x4x128, .f32⟩
  | 68 => ⟨S8192x4x128, .f32⟩
  | 69 => ⟨S8192x4x128, .f32⟩
  | 70 => ⟨S8192x4x128, .f32⟩
  | 71 => ⟨S8192x4x128, .f32⟩
  | 72 => ⟨S8192x4x256, .f32⟩
  | 73 => ⟨S_, .f32⟩
  | 74 => ⟨S8192x4x256, .f32⟩
  | 75 => ⟨S8192x4x256, .f32⟩
  | 76 => ⟨S4, .f32⟩
  | 77 => ⟨S_, .f32⟩
  | 78 => ⟨S4, .f32⟩
  | 79 => ⟨S4, .f32⟩
  | 80 => ⟨S_, .f32⟩
  | 81 => ⟨S4, .f32⟩
  | 82 => ⟨S4, .f32⟩
  | 83 => ⟨S4, .f32⟩
  | 84 => ⟨S4, .f32⟩
  | 85 => ⟨S128, .f32⟩
  | 86 => ⟨S128x1, .f32⟩
  | 87 => ⟨S1x128, .f32⟩
  | 88 => ⟨S128x128, .f32⟩
  | 89 => ⟨S128x128, .f32⟩
  | 90 => ⟨S128x128, .f32⟩
  | 91 => ⟨S_, .f32⟩
  | 92 => ⟨S128x128, .f32⟩
  | 93 => ⟨S128x128, .i1⟩
  | 94 => ⟨S4x1x1, .f32⟩
  | 95 => ⟨S_, .f32⟩
  | 96 => ⟨S128x128, .f32⟩
  | 97 => ⟨S128x128, .f32⟩
  | 98 => ⟨S1x128x128, .f32⟩
  | 99 => ⟨S4x128x128, .f32⟩
  | 100 => ⟨S4x128x128, .f32⟩
  | 101 => ⟨S4x128x128, .f32⟩
  | 102 => ⟨S4x128x128, .f32⟩
  | 103 => ⟨S_, .f32⟩
  | 104 => ⟨S_, .f32⟩
  | 105 => ⟨S4x128x128, .i1⟩
  | 106 => ⟨S4x128x128, .f32⟩
  | 107 => ⟨S4x128x128, .f32⟩
  | 108 => ⟨S1x4, .f32⟩
  | 109 => ⟨S128x1, .f32⟩
  | 110 => ⟨S_, .f32⟩
  | 111 => ⟨S128x1, .f32⟩
  | 112 => ⟨S128x1, .f32⟩
  | 113 => ⟨S128x4, .f32⟩
  | 114 => ⟨S128x4, .f32⟩
  | 115 => ⟨S128x4, .f32⟩
  | 116 => ⟨S128x4, .f32⟩
  | 117 => ⟨S64x128x4x256, .f32⟩
  | 118 => ⟨S64x128x4x256, .f32⟩
  | 119 => ⟨S64x128x4x256, .f32⟩
  | 120 => ⟨S64x4x128x128, .f32⟩
  | 121 => ⟨S1x4x128x128, .f32⟩
  | 122 => ⟨S64x4x128x128, .f32⟩
  | 123 => ⟨S64x4x128x128, .f32⟩
  | 124 => ⟨S64x4x256x128, .f32⟩
  | 125 => ⟨S64x128x4x256, .f32⟩
  | 126 => ⟨S64, .f32⟩
  | 127 => ⟨S64x1, .f32⟩
  | _ => ⟨S8192x6144, .f32⟩

abbrev hbmTy0_1 (i : Nat) : BufTy := match i % 128 with
  | 0 => ⟨S_, .f32⟩
  | 1 => ⟨S64x1, .f32⟩
  | 2 => ⟨S64x1, .f32⟩
  | 3 => ⟨S_, .f32⟩
  | 4 => ⟨S64x1, .f32⟩
  | 5 => ⟨S64x1, .f32⟩
  | 6 => ⟨S8192, .f32⟩
  | 7 => ⟨S1x8192, .f32⟩
  | 8 => ⟨S64x8192, .f32⟩
  | 9 => ⟨S64x8192, .f32⟩
  | 10 => ⟨S64x8192, .f32⟩
  | 11 => ⟨S_, .f32⟩
  | 12 => ⟨S64x8192, .f32⟩
  | 13 => ⟨S64x8192, .i1⟩
  | 14 => ⟨S4x1x1, .f32⟩
  | 15 => ⟨S_, .f32⟩
  | 16 => ⟨S64x8192, .f32⟩
  | 17 => ⟨S64x8192, .f32⟩
  | 18 => ⟨S1x64x8192, .f32⟩
  | 19 => ⟨S4x64x8192, .f32⟩
  | 20 => ⟨S4x64x8192, .f32⟩
  | 21 => ⟨S4x64x8192, .f32⟩
  | 22 => ⟨S4x64x8192, .f32⟩
  | 23 => ⟨S_, .f32⟩
  | 24 => ⟨S_, .f32⟩
  | 25 => ⟨S4x64x8192, .i1⟩
  | 26 => ⟨S4x64x8192, .f32⟩
  | 27 => ⟨S4x64x8192, .f32⟩
  | 28 => ⟨S1x8192x4x256, .f32⟩
  | 29 => ⟨S64x8192x4, .f32⟩
  | 30 => ⟨S64x8192x4x1, .f32⟩
  | 31 => ⟨S64x8192x4x256, .f32⟩
  | 32 => ⟨S64x8192x4x256, .f32⟩
  | 33 => ⟨S64x8192x4x256, .f32⟩
  | 34 => ⟨S8192x4x256, .f32⟩
  | 35 => ⟨S4x256x64x256, .f32⟩
  | 36 => ⟨S64x4x256x256, .f32⟩
  | 37 => ⟨S1x128x4x1, .f32⟩
  | 38 => ⟨S64x128x4x256, .f32⟩
  | 39 => ⟨S64x128x4x256, .f32⟩
  | 40 => ⟨S64x4x256x128, .f32⟩
  | 41 => ⟨S64x128x4x256, .f32⟩
  | 42 => ⟨S64x128x4x256, .f32⟩
  | 43 => ⟨S8192x4x256, .f32⟩
  | 44 => ⟨S128, .f32⟩
  | 45 => ⟨S128, .f32⟩
  | 46 => ⟨S_, .f32⟩
  | 47 => ⟨S128, .f32⟩
  | 48 => ⟨S128, .f32⟩
  | 49 => ⟨S_, .f32⟩
  | 50 => ⟨S128, .f32⟩
  | 51 => ⟨S128, .f32⟩
  | 52 => ⟨S8192, .f32⟩
  | 53 => ⟨S8192x1, .f32⟩
  | 54 => ⟨S1x128, .f32⟩
  | 55 => ⟨S8192x128, .f32⟩
  | 56 => ⟨S8192x128, .f32⟩
  | 57 => ⟨S8192x128, .f32⟩
  | 58 => ⟨S8192x128, .f32⟩
  | 59 => ⟨S8192x128, .f32⟩
  | 60 => ⟨S64x4x256x256, .bf16⟩
  | 61 => ⟨S64x128x4x128, .f32⟩
  | 62 => ⟨S8192x512, .f32⟩
  | 63 => ⟨S8192x512, .bf16⟩
  | 64 => ⟨S8192x1024, .f32⟩
  | 65 => ⟨S2048x1024, .bf16⟩
  | 66 => ⟨S8192x8x128, .f32⟩
  | 67 => ⟨S8x8192x128, .f32⟩
  | 68 => ⟨S8192x1024, .bf16⟩
  | 69 => ⟨S8192x6144, .bf16⟩
  | 70 => ⟨S8192x1024, .bf16⟩
  | 71 => ⟨S1x1024, .f32⟩
  | 72 => ⟨S8192x6144, .f32⟩
  | 73 => ⟨S8192x1024, .f32⟩
  | _ => ⟨S8192x6144, .f32⟩

abbrev hbmTy (i : Nat) : BufTy := match i / 128 with
  | 0 => hbmTy0_0 i
  | 1 => hbmTy0_1 i
  | _ => ⟨S8192x6144, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x1024, .f32⟩
  | .local _ .vmem, ⟨13, _⟩ => ⟨S2x4x256x256, .bf16⟩
  | .local _ .vmem, ⟨14, _⟩ => ⟨S2x4x256x256, .bf16⟩
  | .local _ .vmem, ⟨15, _⟩ => ⟨S256x512, .bf16⟩
  | .local _ .vmem, ⟨16, _⟩ => ⟨S256x512, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S1024x1024, .bf16⟩
  | .local _ .vmem, ⟨22, _⟩ => ⟨S8x256x128, .f32⟩
  | .local _ .vmem, ⟨23, _⟩ => ⟨S8x256x128, .f32⟩
  | .local _ .vmem, ⟨24, _⟩ => ⟨S256x1024, .bf16⟩
  | .local _ .vmem, ⟨25, _⟩ => ⟨S256x1024, .bf16⟩
  | .local _ .vmem, ⟨26, _⟩ => ⟨S256x6144, .bf16⟩
  | .local _ .vmem, ⟨27, _⟩ => ⟨S256x6144, .bf16⟩
  | .local _ .vmem, ⟨28, _⟩ => ⟨S256x1024, .bf16⟩
  | .local _ .vmem, ⟨29, _⟩ => ⟨S256x1024, .bf16⟩
  | .local _ .vmem, ⟨30, _⟩ => ⟨S1x1024, .f32⟩
  | .local _ .vmem, ⟨31, _⟩ => ⟨S4x256x256, .f32⟩
  | .local _ .vmem, ⟨32, _⟩ => ⟨S4x128x128, .f32⟩
  | .local _ .vmem, ⟨33, _⟩ => ⟨S4x128x256, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_1 : Ref sig .tc := ⟨.hbm, 44, rfl⟩
abbrev main_v36 : Ref sig .tc := ⟨.hbm, 45, rfl⟩
abbrev main_v37 : Ref sig .tc := ⟨.hbm, 46, rfl⟩
abbrev main_cst_2 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_3 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_4 : Ref sig .tc := ⟨.hbm, 77, rfl⟩
abbrev main_v66 : Ref sig .tc := ⟨.hbm, 78, rfl⟩
abbrev main_v67 : Ref sig .tc := ⟨.hbm, 79, rfl⟩
abbrev main_cst_5 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_cst_6 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_cst_7 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_cst_8 : Ref sig .tc := ⟨.hbm, 103, rfl⟩
abbrev main_call0_v0 : Ref sig .tc := ⟨.hbm, 104, rfl⟩
abbrev main_call0_v1 : Ref sig .tc := ⟨.hbm, 105, rfl⟩
abbrev main_call0_v2 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_9 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_cst_10 : Ref sig .tc := ⟨.hbm, 128, rfl⟩
abbrev main_v108 : Ref sig .tc := ⟨.hbm, 129, rfl⟩
abbrev main_v109 : Ref sig .tc := ⟨.hbm, 130, rfl⟩
abbrev main_cst_11 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_cst_12 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_cst_13 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_cst_14 : Ref sig .tc := ⟨.hbm, 151, rfl⟩
abbrev main_call1_v0 : Ref sig .tc := ⟨.hbm, 152, rfl⟩
abbrev main_call1_v1 : Ref sig .tc := ⟨.hbm, 153, rfl⟩
abbrev main_call1_v2 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_cst_15 : Ref sig .tc := ⟨.hbm, 174, rfl⟩
abbrev main_v146 : Ref sig .tc := ⟨.hbm, 175, rfl⟩
abbrev main_v147 : Ref sig .tc := ⟨.hbm, 176, rfl⟩
abbrev main_cst_16 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167_0 : Ref sig .tc := ⟨.hbm, 197, rfl⟩
abbrev main_v167_1 : Ref sig .tc := ⟨.hbm, 198, rfl⟩
abbrev main_v167_2 : Ref sig .tc := ⟨.hbm, 199, rfl⟩
abbrev main_v168 : Ref sig .tc := ⟨.hbm, 200, rfl⟩
abbrev main_v169 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c5_i32 : BitVec 32 := 5#32
  let c0_i32 : BitVec 32 := 0#32
  ![v0.toNat, c5_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_12 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x4x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x6144 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Kernel4Ideal.lean ====
variable {F : FTy → Type} [FloatOps F] [Named F]
def κ : String → Option EReal := fun
  | "gamma0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "gamma1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "gamma2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "gamma3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "log_gamma0" => some ((Real.log (31 / 32) : ℝ) : EReal)
  | "log_gamma1" => some ((Real.log (63 / 64) : ℝ) : EReal)
  | "log_gamma2" => some ((Real.log (127 / 128) : ℝ) : EReal)
  | "log_gamma3" => some ((Real.log (255 / 256) : ℝ) : EReal)
  | _ => none
-- ==== Reference4Ideal.lean ====
abbrev S8192x6144 : Shape := ⟨2, ![8192, 6144]⟩
abbrev S1x1024 : Shape := ⟨2, ![1, 1024]⟩
abbrev S8192x1024 : Shape := ⟨2, ![8192, 1024]⟩
abbrev S2048x1024 : Shape := ⟨2, ![2048, 1024]⟩
abbrev S8192x4x256 : Shape := ⟨3, ![8192, 4, 256]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S8192x1x128 : Shape := ⟨3, ![8192, 1, 128]⟩
abbrev S8192x4x128 : Shape := ⟨3, ![8192, 4, 128]⟩
abbrev S4 : Shape := ⟨1, ![4]⟩
abbrev S128x1 : Shape := ⟨2, ![128, 1]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4 : Shape := ⟨2, ![1, 4]⟩
abbrev S128x4 : Shape := ⟨2, ![128, 4]⟩
abbrev S64x128x4x256 : Shape := ⟨4, ![64, 128, 4, 256]⟩
abbrev S64x4x128x128 : Shape := ⟨4, ![64, 4, 128, 128]⟩
abbrev S1x4x128x128 : Shape := ⟨4, ![1, 4, 128, 128]⟩
abbrev S64x4x256x128 : Shape := ⟨4, ![64, 4, 256, 128]⟩
abbrev S64 : Shape := ⟨1, ![64]⟩
abbrev S64x1 : Shape := ⟨2, ![64, 1]⟩
abbrev S1x8192 : Shape := ⟨2, ![1, 8192]⟩
abbrev S64x8192 : Shape := ⟨2, ![64, 8192]⟩
abbrev S1x64x8192 : Shape := ⟨3, ![1, 64, 8192]⟩
abbrev S4x64x8192 : Shape := ⟨3, ![4, 64, 8192]⟩
abbrev S1x8192x4x256 : Shape := ⟨4, ![1, 8192, 4, 256]⟩
abbrev S64x8192x4 : Shape := ⟨3, ![64, 8192, 4]⟩
abbrev S64x8192x4x1 : Shape := ⟨4, ![64, 8192, 4, 1]⟩
abbrev S64x8192x4x256 : Shape := ⟨4, ![64, 8192, 4, 256]⟩
abbrev S4x256x64x256 : Shape := ⟨4, ![4, 256, 64, 256]⟩
abbrev S64x4x256x256 : Shape := ⟨4, ![64, 4, 256, 256]⟩
abbrev S1x128x4x1 : Shape := ⟨4, ![1, 128, 4, 1]⟩
abbrev S8192x4 : Shape := ⟨2, ![8192, 4]⟩
abbrev S8192x4x1 : Shape := ⟨3, ![8192, 4, 1]⟩
abbrev S1024x1024 : Shape := ⟨2, ![1024, 1024]⟩
abbrev S1024 : Shape := ⟨1, ![1024]⟩
abbrev S64x4x128x256 : Shape := ⟨4, ![64, 4, 128, 256]⟩
abbrev S4x64x256x8192 : Shape := ⟨4, ![4, 64, 256, 8192]⟩
abbrev S4x256x8192 : Shape := ⟨3, ![4, 256, 8192]⟩

abbrev nBuf : Space → Nat
  | .hbm => 346
  | .vmem => 0
  | .smem => 0
  | _ => 0

abbrev hbmTy0_0 (i : Nat) : BufTy := match i % 128 with
  | 0 => ⟨S8192x6144, .f32⟩
  | 1 => ⟨S1x1024, .f32⟩
  | 2 => ⟨S8192x1024, .f32⟩
  | 3 => ⟨S2048x1024, .f32⟩
  | 4 => ⟨S8192x1024, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S8192x4x256, .f32⟩
  | 11 => ⟨S128, .f32⟩
  | 12 => ⟨S128, .f32⟩
  | 13 => ⟨S_, .f32⟩
  | 14 => ⟨S128, .f32⟩
  | 15 => ⟨S128, .f32⟩
  | 16 => ⟨S_, .f32⟩
  | 17 => ⟨S128, .f32⟩
  | 18 => ⟨S128, .f32⟩
  | 19 => ⟨S8192, .f32⟩
  | 20 => ⟨S8192x1, .f32⟩
  | 21 => ⟨S1x128, .f32⟩
  | 22 => ⟨S8192x128, .f32⟩
  | 23 => ⟨S8192x128, .f32⟩
  | 24 => ⟨S8192x128, .f32⟩
  | 25 => ⟨S8192x128, .f32⟩
  | 26 => ⟨S8192x1x128, .f32⟩
  | 27 => ⟨S8192x128, .f32⟩
  | 28 => ⟨S8192x1x128, .f32⟩
  | 29 => ⟨S8192x4x128, .f32⟩
  | 30 => ⟨S8192x4x128, .f32⟩
  | 31 => ⟨S8192x4x128, .f32⟩
  | 32 => ⟨S8192x4x128, .f32⟩
  | 33 => ⟨S8192x4x128, .f32⟩
  | 34 => ⟨S8192x4x128, .f32⟩
  | 35 => ⟨S8192x4x128, .f32⟩
  | 36 => ⟨S8192x4x128, .f32⟩
  | 37 => ⟨S8192x4x128, .f32⟩
  | 38 => ⟨S8192x4x128, .f32⟩
  | 39 => ⟨S8192x4x128, .f32⟩
  | 40 => ⟨S8192x4x128, .f32⟩
  | 41 => ⟨S8192x4x256, .f32⟩
  | 42 => ⟨S8192x4x256, .f32⟩
  | 43 => ⟨S128, .f32⟩
  | 44 => ⟨S128, .f32⟩
  | 45 => ⟨S_, .f32⟩
  | 46 => ⟨S128, .f32⟩
  | 47 => ⟨S128, .f32⟩
  | 48 => ⟨S_, .f32⟩
  | 49 => ⟨S128, .f32⟩
  | 50 => ⟨S128, .f32⟩
  | 51 => ⟨S8192, .f32⟩
  | 52 => ⟨S8192x1, .f32⟩
  | 53 => ⟨S1x128, .f32⟩
  | 54 => ⟨S8192x128, .f32⟩
  | 55 => ⟨S8192x128, .f32⟩
  | 56 => ⟨S8192x128, .f32⟩
  | 57 => ⟨S8192x128, .f32⟩
  | 58 => ⟨S8192x1x128, .f32⟩
  | 59 => ⟨S8192x128, .f32⟩
  | 60 => ⟨S8192x1x128, .f32⟩
  | 61 => ⟨S8192x4x128, .f32⟩
  | 62 => ⟨S8192x4x128, .f32⟩
  | 63 => ⟨S8192x4x128, .f32⟩
  | 64 => ⟨S8192x4x128, .f32⟩
  | 65 => ⟨S8192x4x128, .f32⟩
  | 66 => ⟨S8192x4x128, .f32⟩
  | 67 => ⟨S8192x4x128, .f32⟩
  | 68 => ⟨S8192x4x128, .f32⟩
  | 69 => ⟨S8192x4x128, .f32⟩
  | 70 => ⟨S8192x4x128, .f32⟩
  | 71 => ⟨S8192x4x128, .f32⟩
  | 72 => ⟨S8192x4x128, .f32⟩
  | 73 => ⟨S8192x4x256, .f32⟩
  | 74 => ⟨S_, .f32⟩
  | 75 => ⟨S8192x4x256, .f32⟩
  | 76 => ⟨S8192x4x256, .f32⟩
  | 77 => ⟨S4, .f32⟩
  | 78 => ⟨S_, .f32⟩
  | 79 => ⟨S4, .f32⟩
  | 80 => ⟨S4, .f32⟩
  | 81 => ⟨S_, .f32⟩
  | 82 => ⟨S4, .f32⟩
  | 83 => ⟨S4, .f32⟩
  | 84 => ⟨S4, .f32⟩
  | 85 => ⟨S4, .f32⟩
  | 86 => ⟨S128, .f32⟩
  | 87 => ⟨S128x1, .f32⟩
  | 88 => ⟨S1x128, .f32⟩
  | 89 => ⟨S128x128, .f32⟩
  | 90 => ⟨S128x128, .f32⟩
  | 91 => ⟨S128x128, .f32⟩
  | 92 => ⟨S_, .f32⟩
  | 93 => ⟨S128x128, .f32⟩
  | 94 => ⟨S128x128, .i1⟩
  | 95 => ⟨S4x1x1, .f32⟩
  | 96 => ⟨S_, .f32⟩
  | 97 => ⟨S128x128, .f32⟩
  | 98 => ⟨S128x128, .f32⟩
  | 99 => ⟨S1x128x128, .f32⟩
  | 100 => ⟨S4x128x128, .f32⟩
  | 101 => ⟨S4x128x128, .f32⟩
  | 102 => ⟨S4x128x128, .f32⟩
  | 103 => ⟨S4x128x128, .f32⟩
  | 104 => ⟨S_, .f32⟩
  | 105 => ⟨S_, .f32⟩
  | 106 => ⟨S4x128x128, .i1⟩
  | 107 => ⟨S4x128x128, .f32⟩
  | 108 => ⟨S4x128x128, .f32⟩
  | 109 => ⟨S1x4, .f32⟩
  | 110 => ⟨S128x1, .f32⟩
  | 111 => ⟨S_, .f32⟩
  | 112 => ⟨S128x1, .f32⟩
  | 113 => ⟨S128x1, .f32⟩
  | 114 => ⟨S128x4, .f32⟩
  | 115 => ⟨S128x4, .f32⟩
  | 116 => ⟨S128x4, .f32⟩
  | 117 => ⟨S128x4, .f32⟩
  | 118 => ⟨S64x128x4x256, .f32⟩
  | 119 => ⟨S64x128x4x256, .f32⟩
  | 120 => ⟨S64x128x4x256, .f32⟩
  | 121 => ⟨S64x4x128x128, .f32⟩
  | 122 => ⟨S1x4x128x128, .f32⟩
  | 123 => ⟨S64x4x128x128, .f32⟩
  | 124 => ⟨S64x4x128x128, .f32⟩
  | 125 => ⟨S64x4x256x128, .f32⟩
  | 126 => ⟨S64x128x4x256, .f32⟩
  | 127 => ⟨S64, .f32⟩
  | _ => ⟨S8192x6144, .f32⟩

abbrev hbmTy0_1 (i : Nat) : BufTy := match i % 128 with
  | 0 => ⟨S64x1, .f32⟩
  | 1 => ⟨S_, .f32⟩
  | 2 => ⟨S64x1, .f32⟩
  | 3 => ⟨S64x1, .f32⟩
  | 4 => ⟨S_, .f32⟩
  | 5 => ⟨S64x1, .f32⟩
  | 6 => ⟨S64x1, .f32⟩
  | 7 => ⟨S8192, .f32⟩
  | 8 => ⟨S1x8192, .f32⟩
  | 9 => ⟨S64x8192, .f32⟩
  | 10 => ⟨S64x8192, .f32⟩
  | 11 => ⟨S64x8192, .f32⟩
  | 12 => ⟨S_, .f32⟩
  | 13 => ⟨S64x8192, .f32⟩
  | 14 => ⟨S64x8192, .i1⟩
  | 15 => ⟨S4x1x1, .f32⟩
  | 16 => ⟨S_, .f32⟩
  | 17 => ⟨S64x8192, .f32⟩
  | 18 => ⟨S64x8192, .f32⟩
  | 19 => ⟨S1x64x8192, .f32⟩
  | 20 => ⟨S4x64x8192, .f32⟩
  | 21 => ⟨S4x64x8192, .f32⟩
  | 22 => ⟨S4x64x8192, .f32⟩
  | 23 => ⟨S4x64x8192, .f32⟩
  | 24 => ⟨S_, .f32⟩
  | 25 => ⟨S_, .f32⟩
  | 26 => ⟨S4x64x8192, .i1⟩
  | 27 => ⟨S4x64x8192, .f32⟩
  | 28 => ⟨S4x64x8192, .f32⟩
  | 29 => ⟨S1x8192x4x256, .f32⟩
  | 30 => ⟨S64x8192x4, .f32⟩
  | 31 => ⟨S64x8192x4x1, .f32⟩
  | 32 => ⟨S64x8192x4x256, .f32⟩
  | 33 => ⟨S64x8192x4x256, .f32⟩
  | 34 => ⟨S64x8192x4x256, .f32⟩
  | 35 => ⟨S8192x4x256, .f32⟩
  | 36 => ⟨S4x256x64x256, .f32⟩
  | 37 => ⟨S64x4x256x256, .f32⟩
  | 38 => ⟨S1x128x4x1, .f32⟩
  | 39 => ⟨S64x128x4x256, .f32⟩
  | 40 => ⟨S64x128x4x256, .f32⟩
  | 41 => ⟨S64x4x256x128, .f32⟩
  | 42 => ⟨S64x128x4x256, .f32⟩
  | 43 => ⟨S64x128x4x256, .f32⟩
  | 44 => ⟨S8192x4x256, .f32⟩
  | 45 => ⟨S_, .f32⟩
  | 46 => ⟨S8192x4, .f32⟩
  | 47 => ⟨S8192x4x1, .f32⟩
  | 48 => ⟨S_, .f32⟩
  | 49 => ⟨S8192x4x1, .f32⟩
  | 50 => ⟨S8192x4x1, .f32⟩
  | 51 => ⟨S8192x4x256, .f32⟩
  | 52 => ⟨S8192x4x256, .f32⟩
  | 53 => ⟨S8192x4x256, .f32⟩
  | 54 => ⟨S_, .f32⟩
  | 55 => ⟨S8192x4x256, .f32⟩
  | 56 => ⟨S8192x4x256, .f32⟩
  | 57 => ⟨S_, .f32⟩
  | 58 => ⟨S8192x4, .f32⟩
  | 59 => ⟨S8192x4x1, .f32⟩
  | 60 => ⟨S_, .f32⟩
  | 61 => ⟨S8192x4x1, .f32⟩
  | 62 => ⟨S8192x4x1, .f32⟩
  | 63 => ⟨S8192x4x256, .f32⟩
  | 64 => ⟨S8192x4x256, .f32⟩
  | 65 => ⟨S_, .f32⟩
  | 66 => ⟨S8192x4x1, .f32⟩
  | 67 => ⟨S8192x4x1, .f32⟩
  | 68 => ⟨S8192x4x1, .f32⟩
  | 69 => ⟨S8192x4x1, .f32⟩
  | 70 => ⟨S_, .f32⟩
  | 71 => ⟨S8192x4x1, .f32⟩
  | 72 => ⟨S8192x4x1, .f32⟩
  | 73 => ⟨S8192x4x256, .f32⟩
  | 74 => ⟨S8192x4x256, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S_, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S1024x1024, .f32⟩
  | 93 => ⟨S1024x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S_, .f32⟩
  | 103 => ⟨S1024, .f32⟩
  | 104 => ⟨S1x1024, .f32⟩
  | 105 => ⟨S8192x1024, .f32⟩
  | 106 => ⟨S8192x1024, .f32⟩
  | 107 => ⟨S8192x4x256, .f32⟩
  | 108 => ⟨S8192x4x256, .f32⟩
  | 109 => ⟨S_, .f32⟩
  | 110 => ⟨S8192x4, .f32⟩
  | 111 => ⟨S8192x4x1, .f32⟩
  | 112 => ⟨S8192x4x256, .f32⟩
  | 113 => ⟨S8192x4x256, .f32⟩
  | 114 => ⟨S8192x4x1, .f32⟩
  | 115 => ⟨S8192x4x256, .f32⟩
  | 116 => ⟨S_, .f32⟩
  | 117 => ⟨S8192x4, .f32⟩
  | 118 => ⟨S8192x4x1, .f32⟩
  | 119 => ⟨S_, .f32⟩
  | 120 => ⟨S8192x4x1, .f32⟩
  | 121 => ⟨S8192x4x1, .f32⟩
  | 122 => ⟨S_, .f32⟩
  | 123 => ⟨S8192x4, .f32⟩
  | 124 => ⟨S8192x4x256, .f32⟩
  | 125 => ⟨S8192x4x256, .f32⟩
  | 126 => ⟨S8192x4x256, .f32⟩
  | 127 => ⟨S_, .f32⟩
  | _ => ⟨S8192x6144, .f32⟩

abbrev hbmTy0_2 (i : Nat) : BufTy := match i % 128 with
  | 0 => ⟨S8192x4, .f32⟩
  | 1 => ⟨S8192x4x1, .f32⟩
  | 2 => ⟨S8192x4x256, .f32⟩
  | 3 => ⟨S8192x4x1, .f32⟩
  | 4 => ⟨S_, .f32⟩
  | 5 => ⟨S8192x4x1, .f32⟩
  | 6 => ⟨S8192x4x1, .f32⟩
  | 7 => ⟨S_, .f32⟩
  | 8 => ⟨S8192x4, .f32⟩
  | 9 => ⟨S8192x4x256, .f32⟩
  | 10 => ⟨S8192x4x256, .f32⟩
  | 11 => ⟨S64x128x4x256, .f32⟩
  | 12 => ⟨S64x4x256x128, .f32⟩
  | 13 => ⟨S64x4x128x256, .f32⟩
  | 14 => ⟨S64x128x4x256, .f32⟩
  | 15 => ⟨S64x4x256x256, .f32⟩
  | 16 => ⟨S64x4x256x256, .f32⟩
  | 17 => ⟨S64x128x4x256, .f32⟩
  | 18 => ⟨S64x128x4x256, .f32⟩
  | 19 => ⟨S4x256x64x256, .f32⟩
  | 20 => ⟨S4x64x256x8192, .f32⟩
  | 21 => ⟨S64x8192x4x256, .f32⟩
  | 22 => ⟨S4x256x8192, .f32⟩
  | 23 => ⟨S8192x4x256, .f32⟩
  | 24 => ⟨S8192x1024, .f32⟩
  | 25 => ⟨S64x8192x4x256, .f32⟩
  | 26 => ⟨S64x8192x4x256, .f32⟩
  | 27 => ⟨S_, .f32⟩
  | 28 => ⟨S8192x4x256, .f32⟩
  | 29 => ⟨S1x8192x4x256, .f32⟩
  | 30 => ⟨S_, .f32⟩
  | 31 => ⟨S8192x4x256, .f32⟩
  | 32 => ⟨S64x4x256x128, .f32⟩
  | 33 => ⟨S64x4x128x128, .f32⟩
  | 34 => ⟨S64x4x256x128, .f32⟩
  | 35 => ⟨S64x128x4x256, .f32⟩
  | 36 => ⟨S64x4x128x128, .f32⟩
  | 37 => ⟨S64x4x128x128, .f32⟩
  | 38 => ⟨S64x4x128x256, .f32⟩
  | 39 => ⟨S64x128x4x256, .f32⟩
  | 40 => ⟨S64x4x128x256, .f32⟩
  | 41 => ⟨S64x128x4x256, .f32⟩
  | 42 => ⟨S64x128x4x256, .f32⟩
  | 43 => ⟨S8192x1024, .f32⟩
  | 44 => ⟨S8192x1024, .f32⟩
  | 45 => ⟨S8192x4x256, .f32⟩
  | 46 => ⟨S8192x4x256, .f32⟩
  | 47 => ⟨S8192x4x256, .f32⟩
  | 48 => ⟨S_, .f32⟩
  | 49 => ⟨S8192x4x256, .f32⟩
  | 50 => ⟨S8192x4x256, .f32⟩
  | 51 => ⟨S8192x4x128, .f32⟩
  | 52 => ⟨S8192x4x128, .f32⟩
  | 53 => ⟨S8192x4x128, .f32⟩
  | 54 => ⟨S8192x4x128, .f32⟩
  | 55 => ⟨S8192x4x128, .f32⟩
  | 56 => ⟨S8192x4x128, .f32⟩
  | 57 => ⟨S8192x4x128, .f32⟩
  | 58 => ⟨S8192x4x128, .f32⟩
  | 59 => ⟨S8192x4x128, .f32⟩
  | 60 => ⟨S8192x4x128, .f32⟩
  | 61 => ⟨S8192x4x128, .f32⟩
  | 62 => ⟨S8192x4x128, .f32⟩
  | 63 => ⟨S8192x4x128, .f32⟩
  | 64 => ⟨S_, .f32⟩
  | 65 => ⟨S8192x4x256, .f32⟩
  | 66 => ⟨S_, .f32⟩
  | 67 => ⟨S8192x4x256, .f32⟩
  | 68 => ⟨S8192x4x256, .f32⟩
  | 69 => ⟨S8192x1024, .f32⟩
  | 70 => ⟨S8192x4x128, .f32⟩
  | 71 => ⟨S8192x4x128, .f32⟩
  | 72 => ⟨S8192x4x128, .f32⟩
  | 73 => ⟨S8192x4x128, .f32⟩
  | 74 => ⟨S8192x4x128, .f32⟩
  | 75 => ⟨S8192x4x128, .f32⟩
  | 76 => ⟨S8192x4x128, .f32⟩
  | 77 => ⟨S8192x4x128, .f32⟩
  | 78 => ⟨S8192x4x128, .f32⟩
  | 79 => ⟨S8192x4x128, .f32⟩
  | 80 => ⟨S8192x4x128, .f32⟩
  | 81 => ⟨S8192x4x128, .f32⟩
  | 82 => ⟨S8192x4x128, .f32⟩
  | 83 => ⟨S_, .f32⟩
  | 84 => ⟨S8192x4x256, .f32⟩
  | 85 => ⟨S_, .f32⟩
  | 86 => ⟨S8192x4x256, .f32⟩
  | 87 => ⟨S8192x4x256, .f32⟩
  | 88 => ⟨S8192x1024, .f32⟩
  | 89 => ⟨S8192x6144, .f32⟩
  | _ => ⟨S8192x6144, .f32⟩

abbrev hbmTy (i : Nat) : BufTy := match i / 128 with
  | 0 => hbmTy0_0 i
  | 1 => hbmTy0_1 i
  | 2 => hbmTy0_2 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_1 : Ref sig .tc := ⟨.hbm, 45, rfl⟩
abbrev main_v37 : Ref sig .tc := ⟨.hbm, 46, rfl⟩
abbrev main_v38 : Ref sig .tc := ⟨.hbm, 47, rfl⟩
abbrev main_cst_2 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_3 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_cst_4 : Ref sig .tc := ⟨.hbm, 78, rfl⟩
abbrev main_v67 : Ref sig .tc := ⟨.hbm, 79, rfl⟩
abbrev main_v68 : Ref sig .tc := ⟨.hbm, 80, rfl⟩
abbrev main_cst_5 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_cst_6 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_cst_7 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_cst_8 : Ref sig .tc := ⟨.hbm, 104, rfl⟩
abbrev main_call0_v0 : Ref sig .tc := ⟨.hbm, 105, rfl⟩
abbrev main_call0_v1 : Ref sig .tc := ⟨.hbm, 106, rfl⟩
abbrev main_call0_v2 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_9 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_cst_10 : Ref sig .tc := ⟨.hbm, 129, rfl⟩
abbrev main_v109 : Ref sig .tc := ⟨.hbm, 130, rfl⟩
abbrev main_v110 : Ref sig .tc := ⟨.hbm, 131, rfl⟩
abbrev main_cst_11 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_cst_12 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_cst_13 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_cst_14 : Ref sig .tc := ⟨.hbm, 152, rfl⟩
abbrev main_call1_v0 : Ref sig .tc := ⟨.hbm, 153, rfl⟩
abbrev main_call1_v1 : Ref sig .tc := ⟨.hbm, 154, rfl⟩
abbrev main_call1_v2 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_cst_15 : Ref sig .tc := ⟨.hbm, 173, rfl⟩
abbrev main_v145 : Ref sig .tc := ⟨.hbm, 174, rfl⟩
abbrev main_v146 : Ref sig .tc := ⟨.hbm, 175, rfl⟩
abbrev main_cst_16 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_cst_17 : Ref sig .tc := ⟨.hbm, 182, rfl⟩
abbrev main_v152 : Ref sig .tc := ⟨.hbm, 183, rfl⟩
abbrev main_v153 : Ref sig .tc := ⟨.hbm, 184, rfl⟩
abbrev main_cst_18 : Ref sig .tc := ⟨.hbm, 185, rfl⟩
abbrev main_v154 : Ref sig .tc := ⟨.hbm, 186, rfl⟩
abbrev main_v155 : Ref sig .tc := ⟨.hbm, 187, rfl⟩
abbrev main_cst_19 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_cst_20 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_cst_21 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_call2_v0 : Ref sig .tc := ⟨.hbm, 206, rfl⟩
abbrev main_call2_v1 : Ref sig .tc := ⟨.hbm, 207, rfl⟩
abbrev main_call2_cst : Ref sig .tc := ⟨.hbm, 208, rfl⟩
abbrev main_call2_v2 : Ref sig .tc := ⟨.hbm, 209, rfl⟩
abbrev main_call2_v3 : Ref sig .tc := ⟨.hbm, 210, rfl⟩
abbrev main_call2_cst_0 : Ref sig .tc := ⟨.hbm, 211, rfl⟩
abbrev main_call2_v4 : Ref sig .tc := ⟨.hbm, 212, rfl⟩
abbrev main_v171_2 : Ref sig .tc := ⟨.hbm, 213, rfl⟩
abbrev main_call2_cst_1 : Ref sig .tc := ⟨.hbm, 214, rfl⟩
abbrev main_call2_v6 : Ref sig .tc := ⟨.hbm, 215, rfl⟩
abbrev main_call2_v7 : Ref sig .tc := ⟨.hbm, 216, rfl⟩
abbrev main_v171_1 : Ref sig .tc := ⟨.hbm, 217, rfl⟩
abbrev main_v171_0 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_call3_v0 : Ref sig .tc := ⟨.hbm, 225, rfl⟩
abbrev main_call3_v1 : Ref sig .tc := ⟨.hbm, 226, rfl⟩
abbrev main_call3_v2 : Ref sig .tc := ⟨.hbm, 227, rfl⟩
abbrev main_v178 : Ref sig .tc := ⟨.hbm, 228, rfl⟩
abbrev main_v179 : Ref sig .tc := ⟨.hbm, 229, rfl⟩
abbrev main_cst_22 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_cst_23 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_cst_24 : Ref sig .tc := ⟨.hbm, 244, rfl⟩
abbrev main_v192 : Ref sig .tc := ⟨.hbm, 245, rfl⟩
abbrev main_v193 : Ref sig .tc := ⟨.hbm, 246, rfl⟩
abbrev main_cst_25 : Ref sig .tc := ⟨.hbm, 247, rfl⟩
abbrev main_v194 : Ref sig .tc := ⟨.hbm, 248, rfl⟩
abbrev main_v195 : Ref sig .tc := ⟨.hbm, 249, rfl⟩
abbrev main_cst_26 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_cst_27 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_cst_28 : Ref sig .tc := ⟨.hbm, 260, rfl⟩
abbrev main_v204 : Ref sig .tc := ⟨.hbm, 261, rfl⟩
abbrev main_v205 : Ref sig .tc := ⟨.hbm, 262, rfl⟩
abbrev main_cst_29 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_cst_30 : Ref sig .tc := ⟨.hbm, 283, rfl⟩
abbrev main_v225 : Ref sig .tc := ⟨.hbm, 284, rfl⟩
abbrev main_v226 : Ref sig .tc := ⟨.hbm, 285, rfl⟩
abbrev main_cst_31 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_cst_32 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_cst_33 : Ref sig .tc := ⟨.hbm, 320, rfl⟩
abbrev main_v259 : Ref sig .tc := ⟨.hbm, 321, rfl⟩
abbrev main_cst_34 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_cst_35 : Ref sig .tc := ⟨.hbm, 339, rfl⟩
abbrev main_v276 : Ref sig .tc := ⟨.hbm, 340, rfl⟩
abbrev main_cst_36 : Ref sig .tc := ⟨.hbm, 341, rfl⟩
abbrev main_v277 : Ref sig .tc := ⟨.hbm, 342, rfl⟩
abbrev main_v278 : Ref sig .tc := ⟨.hbm, 343, rfl⟩
abbrev main_v279 : Ref sig .tc := ⟨.hbm, 344, rfl⟩
abbrev main_v280 : Ref sig .tc := ⟨.hbm, 345, rfl⟩

abbrev nD : Nat := 1
abbrev τ : Topo := Topo.v7x

variable {F : FTy → Type} [FloatOps F]
-- ==== Kernel5.lean ====
abbrev S64x64 : Shape := ⟨2, ![64, 64]⟩
abbrev S64 : Shape := ⟨1, ![64]⟩
abbrev S64x64x16 : Shape := ⟨3, ![64, 64, 16]⟩
abbrev S64x1x64 : Shape := ⟨3, ![64, 1, 64]⟩
abbrev S64x1x1 : Shape := ⟨3, ![64, 1, 1]⟩
abbrev S64x16x64 : Shape := ⟨3, ![64, 16, 64]⟩
abbrev S64x1 : Shape := ⟨2, ![64, 1]⟩

abbrev nBuf : Space → Nat
  | .hbm => 28
  | .vmem => 14
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x64, .f32⟩
  | .hbm, ⟨6, _⟩ => ⟨S64x64, .f32⟩
  | .hbm, ⟨7, _⟩ => ⟨S64x64x16, .f32⟩
  | .hbm, ⟨8, _⟩ => ⟨S64x64x16, .f32⟩
  | .hbm, ⟨9, _⟩ => ⟨S64x1x64, .f32⟩
  | .hbm, ⟨10, _⟩ => ⟨S64x1x64, .f32⟩
  | .hbm, ⟨11, _⟩ => ⟨S64x1x1, .f32⟩
  | .hbm, ⟨12, _⟩ => ⟨S64x16x64, .f32⟩
  | .hbm, ⟨13, _⟩ => ⟨S64x16x64, .f32⟩
  | .hbm, ⟨14, _⟩ => ⟨S64x1x64, .f32⟩
  | .hbm, ⟨15, _⟩ => ⟨S64x1x64, .f32⟩
  | .hbm, ⟨16, _⟩ => ⟨S64x16x64, .f32⟩
  | .hbm, ⟨17, _⟩ => ⟨S64x16x64, .f32⟩
  | .hbm, ⟨18, _⟩ => ⟨S64x1x64, .f32⟩
  | .hbm, ⟨19, _⟩ => ⟨S64x1x64, .f32⟩
  | .hbm, ⟨20, _⟩ => ⟨S64x1x1, .f32⟩
  | .hbm, ⟨21, _⟩ => ⟨S64x16x64, .f32⟩
  | .hbm, ⟨22, _⟩ => ⟨S64x16x64, .f32⟩
  | .hbm, ⟨23, _⟩ => ⟨S64x64, .f32⟩
  | .hbm, ⟨24, _⟩ => ⟨S64x64, .f32⟩
  | .hbm, ⟨25, _⟩ => ⟨S64, .f32⟩
  | .hbm, ⟨26, _⟩ => ⟨S64x64x16, .f32⟩
  | .hbm, ⟨27, _⟩ => ⟨S64x64x16, .f32⟩
  | .local _ .vmem, ⟨0, _⟩ => ⟨S64x1x64, .f32⟩
  | .local _ .vmem, ⟨1, _⟩ => ⟨S64x1x64, .f32⟩
  | .local _ .vmem, ⟨2, _⟩ => ⟨S64x1x1, .f32⟩
  | .local _ .vmem, ⟨3, _⟩ => ⟨S64x16x64, .f32⟩
  | .local _ .vmem, ⟨4, _⟩ => ⟨S64x16x64, .f32⟩
  | .local _ .vmem, ⟨5, _⟩ => ⟨S64x1x64, .f32⟩
  | .local _ .vmem, ⟨6, _⟩ => ⟨S64x1x64, .f32⟩
  | .local _ .vmem, ⟨7, _⟩ => ⟨S64x16x64, .f32⟩
  | .local _ .vmem, ⟨8, _⟩ => ⟨S64x16x64, .f32⟩
  | .local _ .vmem, ⟨9, _⟩ => ⟨S64x1x64, .f32⟩
  | .local _ .vmem, ⟨10, _⟩ => ⟨S64x1x64, .f32⟩
  | .local _ .vmem, ⟨11, _⟩ => ⟨S64x1x1, .f32⟩
  | .local _ .vmem, ⟨12, _⟩ => ⟨S64x16x64, .f32⟩
  | .local _ .vmem, ⟨13, _⟩ => ⟨S64x16x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S64x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference5Ideal.lean ====
abbrev S64x64 : Shape := ⟨2, ![64, 64]⟩
abbrev S64 : Shape := ⟨1, ![64]⟩
abbrev S64x64x16 : Shape := ⟨3, ![64, 64, 16]⟩
abbrev S_ : Shape := ⟨0, ![]⟩
abbrev S64x1 : Shape := ⟨2, ![64, 1]⟩
abbrev S64x64x1 : Shape := ⟨3, ![64, 64, 1]⟩

abbrev nBuf : Space → Nat
  | .hbm => 185
  | .vmem => 0
  | .smem => 0
  | _ => 0

abbrev hbmTy0_0 (i : Nat) : BufTy := match i % 128 with
  | 0 => ⟨S64x64, .f32⟩
  | 1 => ⟨S64x64, .f32⟩
  | 2 => ⟨S64, .f32⟩
  | 3 => ⟨S64x64x16, .f32⟩
  | 4 => ⟨S64x64x16, .f32⟩
  | 5 => ⟨S64x64, .f32⟩
  | 6 => ⟨S64x64, .f32⟩
  | 7 => ⟨S64x64x16, .f32⟩
  | 8 => ⟨S64x64x16, .f32⟩
  | 9 => ⟨S_, .f32⟩
  | 10 => ⟨S64x64, .f32⟩
  | 11 => ⟨S64x64, .f32⟩
  | 12 => ⟨S_, .f32⟩
  | 13 => ⟨S64x64, .f32⟩
  | 14 => ⟨S64x64, .i1⟩
  | 15 => ⟨S_, .f32⟩
  | 16 => ⟨S64x64, .f32⟩
  | 17 => ⟨S64x64, .i1⟩
  | 18 => ⟨S_, .f32⟩
  | 19 => ⟨S64x64, .f32⟩
  | 20 => ⟨S_, .f32⟩
  | 21 => ⟨S64x64, .f32⟩
  | 22 => ⟨S_, .f32⟩
  | 23 => ⟨S64x64, .f32⟩
  | 24 => ⟨S64x64, .f32⟩
  | 25 => ⟨S64x64, .f32⟩
  | 26 => ⟨S64, .f32⟩
  | 27 => ⟨S64x1, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S64x64, .f32⟩
  | 42 => ⟨S64x64, .f32⟩
  | 43 => ⟨S64x64, .f32⟩
  | 44 => ⟨S_, .f32⟩
  | 45 => ⟨S64x64, .f32⟩
  | 46 => ⟨S64x64, .f32⟩
  | 47 => ⟨S64x64, .f32⟩
  | 48 => ⟨S64x64, .f32⟩
  | 49 => ⟨S64x64, .f32⟩
  | 50 => ⟨S64x64, .f32⟩
  | 51 => ⟨S64x64, .f32⟩
  | 52 => ⟨S_, .f32⟩
  | 53 => ⟨S64x64, .f32⟩
  | 54 => ⟨S64x64, .f32⟩
  | 55 => ⟨S64x64, .f32⟩
  | 56 => ⟨S64x64, .f32⟩
  | 57 => ⟨S64x64, .f32⟩
  | 58 => ⟨S64x64, .f32⟩
  | 59 => ⟨S64x64, .f32⟩
  | 60 => ⟨S_, .f32⟩
  | 61 => ⟨S64x64, .f32⟩
  | 62 => ⟨S64x64, .f32⟩
  | 63 => ⟨S64x64x1, .f32⟩
  | 64 => ⟨S64x64x16, .f32⟩
  | 65 => ⟨S64x64x16, .f32⟩
  | 66 => ⟨S64x64x1, .f32⟩
  | 67 => ⟨S64x64x16, .f32⟩
  | 68 => ⟨S64x64x16, .f32⟩
  | 69 => ⟨S64x64x16, .f32⟩
  | 70 => ⟨S64x64x1, .f32⟩
  | 71 => ⟨S64x64x16, .f32⟩
  | 72 => ⟨S64x64x16, .f32⟩
  | 73 => ⟨S64x64x1, .f32⟩
  | 74 => ⟨S64x64x16, .f32⟩
  | 75 => ⟨S64x64x16, .f32⟩
  | 76 => ⟨S64x64x16, .f32⟩
  | 77 => ⟨S64x64x16, .f32⟩
  | 78 => ⟨S64x64x16, .f32⟩
  | 79 => ⟨S64x64x16, .f32⟩
  | 80 => ⟨S64x64x16, .f32⟩
  | 81 => ⟨S64x64x16, .f32⟩
  | 82 => ⟨S_, .f32⟩
  | 83 => ⟨S64x64, .f32⟩
  | 84 => ⟨S64x64x1, .f32⟩
  | 85 => ⟨S_, .f32⟩
  | 86 => ⟨S64x64, .f32⟩
  | 87 => ⟨S64x64x16, .f32⟩
  | 88 => ⟨S64x64x16, .f32⟩
  | 89 => ⟨S64x64x16, .f32⟩
  | 90 => ⟨S_, .f32⟩
  | 91 => ⟨S64x64, .f32⟩
  | 92 => ⟨S64x64x1, .f32⟩
  | 93 => ⟨S_, .f32⟩
  | 94 => ⟨S64x64, .f32⟩
  | 95 => ⟨S64x64x16, .f32⟩
  | 96 => ⟨S64x64x16, .f32⟩
  | 97 => ⟨S64x64x16, .f32⟩
  | 98 => ⟨S64x64x16, .f32⟩
  | 99 => ⟨S64x64x16, .f32⟩
  | 100 => ⟨S64x64x16, .f32⟩
  | 101 => ⟨S_, .f32⟩
  | 102 => ⟨S64x64, .f32⟩
  | 103 => ⟨S64x64x1, .f32⟩
  | 104 => ⟨S_, .f32⟩
  | 105 => ⟨S64x64, .f32⟩
  | 106 => ⟨S64x64, .f32⟩
  | 107 => ⟨S64x64x16, .f32⟩
  | 108 => ⟨S64x64x16, .f32⟩
  | 109 => ⟨S64x64x16, .f32⟩
  | 110 => ⟨S64x64x16, .f32⟩
  | 111 => ⟨S_, .f32⟩
  | 112 => ⟨S64x64, .f32⟩
  | 113 => ⟨S64x64x1, .f32⟩
  | 114 => ⟨S_, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S64x64, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S_, .f32⟩
  | 26 => ⟨S64, .f32⟩
  | 27 => ⟨S64x1, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S_, .f32⟩
  | 38 => ⟨S64, .f32⟩
  | 39 => ⟨S64x1, .f32⟩
  | 40 => ⟨S64x1, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S_, .f32⟩
  | 47 => ⟨S64, .f32⟩
  | 48 => ⟨S64x1, .f32⟩
  | 49 => ⟨S64x1, .f32⟩
  | 50 => ⟨S64x64, .f32⟩
  | 51 => ⟨S64x64, .f32⟩
  | 52 => ⟨S64x64, .f32⟩
  | 53 => ⟨S_, .f32⟩
  | 54 => ⟨S64, .f32⟩
  | 55 => ⟨S64, .f32⟩
  | 56 => ⟨S64x64, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_cst_4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_8 : Ref sig .tc := ⟨.hbm, 82, rfl⟩
abbrev main_v64 : Ref sig .tc := ⟨.hbm, 83, rfl⟩
abbrev main_v65 : Ref sig .tc := ⟨.hbm, 84, rfl⟩
abbrev main_cst_9 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_10 : Ref sig .tc := ⟨.hbm, 90, rfl⟩
abbrev main_v70 : Ref sig .tc := ⟨.hbm, 91, rfl⟩
abbrev main_v71 : Ref sig .tc := ⟨.hbm, 92, rfl⟩
abbrev main_cst_11 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_12 : Ref sig .tc := ⟨.hbm, 101, rfl⟩
abbrev main_v79 : Ref sig .tc := ⟨.hbm, 102, rfl⟩
abbrev main_v80 : Ref sig .tc := ⟨.hbm, 103, rfl⟩
abbrev main_cst_13 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_14 : Ref sig .tc := ⟨.hbm, 111, rfl⟩
abbrev main_v87 : Ref sig .tc := ⟨.hbm, 112, rfl⟩
abbrev main_v88 : Ref sig .tc := ⟨.hbm, 113, rfl⟩
abbrev main_cst_15 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_cst_16 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_cst_17 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_cst_18 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_cst_19 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩

abbrev nD : Nat := 1
abbrev τ : Topo := Topo.v7x

variable {F : FTy → Type} [FloatOps F]
-- ==== Kernel6.lean ====
abbrev S8192x6144 : Shape := ⟨2, ![8192, 6144]⟩
abbrev S1x1024 : Shape := ⟨2, ![1, 1024]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S8192x1024 : Shape := ⟨2, ![8192, 1024]⟩
abbrev S64x4x256x256 : Shape := ⟨4, ![64, 4, 256, 256]⟩
abbrev S8192x512 : Shape := ⟨2, ![8192, 512]⟩
abbrev S128x1024 : Shape := ⟨2, ![128, 1024]⟩
abbrev S128x128 : Shape := ⟨2, ![128, 128]⟩
abbrev S1x4x256x256 : Shape := ⟨4, ![1, 4, 256, 256]⟩
abbrev S128x512 : Shape := ⟨2, ![128, 512]⟩
abbrev S4x256x256 : Shape := ⟨3, ![4, 256, 256]⟩
abbrev S4x128x128 : Shape := ⟨3, ![4, 128, 128]⟩
abbrev S4x128x256 : Shape := ⟨3, ![4, 128, 256]⟩
abbrev S128x1 : Shape := ⟨2, ![128, 1]⟩
abbrev S1x128x128 : Shape := ⟨3, ![1, 128, 128]⟩
abbrev S128x256 : Shape := ⟨2, ![128, 256]⟩
abbrev S1x128x256 : Shape := ⟨3, ![1, 128, 256]⟩
abbrev S1x128x1 : Shape := ⟨3, ![1, 128, 1]⟩
abbrev S1x256x256 : Shape := ⟨3, ![1, 256, 256]⟩
abbrev S256x256 : Shape := ⟨2, ![256, 256]⟩
abbrev S1x1x256x256 : Shape := ⟨4, ![1, 1, 256, 256]⟩
abbrev S1x256 : Shape := ⟨2, ![1, 256]⟩
abbrev S64x128x4x128 : Shape := ⟨4, ![64, 128, 4, 128]⟩
abbrev S64x4x128x128 : Shape := ⟨4, ![64, 4, 128, 128]⟩
abbrev S8192x4x256 : Shape := ⟨3, ![8192, 4, 256]⟩

abbrev nBuf : Space → Nat
  | .hbm => 28
  | .vmem => 24
  | .smem => 0
  | _ => 0

abbrev bufTy : (tb : Table) → Fin (tcTables nBuf tb) → BufTy
  | .hbm, ⟨0, _⟩ => ⟨S8192x6144, .f32⟩
  | .hbm, ⟨1, _⟩ => ⟨S1x1024, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S8192, .f32⟩
  | .hbm, ⟨11, _⟩ => ⟨S8192x1, .f32⟩
  | .hbm, ⟨12, _⟩ => ⟨S1x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x1024, .bf16⟩
  | .hbm, ⟨19, _⟩ => ⟨S64x4x256x256, .bf16⟩
  | .hbm, ⟨20, _⟩ => ⟨S8192x512, .bf16⟩
  | .hbm, ⟨21, _⟩ => ⟨S8192x1024, .f32⟩
  | .hbm, ⟨22, _⟩ => ⟨S8192x1024, .f32⟩
  | .hbm, ⟨23, _⟩ => ⟨S64x4x256x256, .f32⟩
  | .hbm, ⟨24, _⟩ => ⟨S8192x512, .f32⟩
  | .hbm, ⟨25, _⟩ => ⟨S64x128x4x128, .f32⟩
  | .hbm, ⟨26, _⟩ => ⟨S64x4x128x128, .f32⟩
  | .hbm, ⟨27, _⟩ => ⟨S8192x4x256, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S1x1024, .f32⟩
  | .local _ .vmem, ⟨13, _⟩ => ⟨S128x1024, .bf16⟩
  | .local _ .vmem, ⟨14, _⟩ => ⟨S128x1024, .bf16⟩
  | .local _ .vmem, ⟨15, _⟩ => ⟨S1x4x256x256, .bf16⟩
  | .local _ .vmem, ⟨16, _⟩ => ⟨S1x4x256x256, .bf16⟩
  | .local _ .vmem, ⟨17, _⟩ => ⟨S128x512, .bf16⟩
  | .local _ .vmem, ⟨18, _⟩ => ⟨S128x512, .bf16⟩
  | .local _ .vmem, ⟨19, _⟩ => ⟨S128x1024, .f32⟩
  | .local _ .vmem, ⟨20, _⟩ => ⟨S128x1024, .f32⟩
  | .local _ .vmem, ⟨21, _⟩ => ⟨S4x256x256, .f32⟩
  | .local _ .vmem, ⟨22, _⟩ => ⟨S4x128x128, .f32⟩
  | .local _ .vmem, ⟨23, _⟩ => ⟨S4x128x256, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev main_v14_2 : Ref sig .tc := ⟨.hbm, 20, rfl⟩
abbrev main_v14_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel6Ideal.lean ====
variable {F : FTy → Type} [FloatOps F] [Named F]
def κ : String → Option EReal := fun
  | "gamma0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "gamma1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "gamma2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "gamma3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "log_gamma0" => some ((Real.log (31 / 32) : ℝ) : EReal)
  | "log_gamma1" => some ((Real.log (63 / 64) : ℝ) : EReal)
  | "log_gamma2" => some ((Real.log (127 / 128) : ℝ) : EReal)
  | "log_gamma3" => some ((Real.log (255 / 256) : ℝ) : EReal)
  | _ => none
-- ==== Reference6Ideal.lean ====
abbrev S8192x6144 : Shape := ⟨2, ![8192, 6144]⟩
abbrev S1x1024 : Shape := ⟨2, ![1, 1024]⟩
abbrev S8192x1024 : Shape := ⟨2, ![8192, 1024]⟩
abbrev S8192x4x256 : Shape := ⟨3, ![8192, 4, 256]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S8192x1x128 : Shape := ⟨3, ![8192, 1, 128]⟩
abbrev S8192x4x128 : Shape := ⟨3, ![8192, 4, 128]⟩
abbrev S4 : Shape := ⟨1, ![4]⟩
abbrev S128x1 : Shape := ⟨2, ![128, 1]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4 : Shape := ⟨2, ![1, 4]⟩
abbrev S128x4 : Shape := ⟨2, ![128, 4]⟩
abbrev S64x128x4x256 : Shape := ⟨4, ![64, 128, 4, 256]⟩
abbrev S64x4x128x128 : Shape := ⟨4, ![64, 4, 128, 128]⟩
abbrev S1x4x128x128 : Shape := ⟨4, ![1, 4, 128, 128]⟩
abbrev S64x4x256x128 : Shape := ⟨4, ![64, 4, 256, 128]⟩
abbrev S64 : Shape := ⟨1, ![64]⟩
abbrev S64x1 : Shape := ⟨2, ![64, 1]⟩
abbrev S1x8192 : Shape := ⟨2, ![1, 8192]⟩
abbrev S64x8192 : Shape := ⟨2, ![64, 8192]⟩
abbrev S1x64x8192 : Shape := ⟨3, ![1, 64, 8192]⟩
abbrev S4x64x8192 : Shape := ⟨3, ![4, 64, 8192]⟩
abbrev S1x8192x4x256 : Shape := ⟨4, ![1, 8192, 4, 256]⟩
abbrev S64x8192x4 : Shape := ⟨3, ![64, 8192, 4]⟩
abbrev S64x8192x4x1 : Shape := ⟨4, ![64, 8192, 4, 1]⟩
abbrev S64x8192x4x256 : Shape := ⟨4, ![64, 8192, 4, 256]⟩
abbrev S4x256x64x256 : Shape := ⟨4, ![4, 256, 64, 256]⟩
abbrev S64x4x256x256 : Shape := ⟨4, ![64, 4, 256, 256]⟩
abbrev S1x128x4x1 : Shape := ⟨4, ![1, 128, 4, 1]⟩
abbrev S8192x4 : Shape := ⟨2, ![8192, 4]⟩
abbrev S8192x4x1 : Shape := ⟨3, ![8192, 4, 1]⟩

abbrev nBuf : Space → Nat
  | .hbm => 205
  | .vmem => 0
  | .smem => 0
  | _ => 0

abbrev hbmTy0_0 (i : Nat) : BufTy := match i % 128 with
  | 0 => ⟨S8192x6144, .f32⟩
  | 1 => ⟨S1x1024, .f32⟩
  | 2 => ⟨S8192x1024, .f32⟩
  | 3 => ⟨S8192x1024, .f32⟩
  | 4 => ⟨S8192x1024, .f32⟩
  | 5 => ⟨S8192x1024, .f32⟩
  | 6 => ⟨S8192x4x256, .f32⟩
  | 7 => ⟨S128, .f32⟩
  | 8 => ⟨S128, .f32⟩
  | 9 => ⟨S_, .f32⟩
  | 10 => ⟨S128, .f32⟩
  | 11 => ⟨S128, .f32⟩
  | 12 => ⟨S_, .f32⟩
  | 13 => ⟨S128, .f32⟩
  | 14 => ⟨S128, .f32⟩
  | 15 => ⟨S8192, .f32⟩
  | 16 => ⟨S8192x1, .f32⟩
  | 17 => ⟨S1x128, .f32⟩
  | 18 => ⟨S8192x128, .f32⟩
  | 19 => ⟨S8192x128, .f32⟩
  | 20 => ⟨S8192x128, .f32⟩
  | 21 => ⟨S8192x128, .f32⟩
  | 22 => ⟨S8192x1x128, .f32⟩
  | 23 => ⟨S8192x128, .f32⟩
  | 24 => ⟨S8192x1x128, .f32⟩
  | 25 => ⟨S8192x4x128, .f32⟩
  | 26 => ⟨S8192x4x128, .f32⟩
  | 27 => ⟨S8192x4x128, .f32⟩
  | 28 => ⟨S8192x4x128, .f32⟩
  | 29 => ⟨S8192x4x128, .f32⟩
  | 30 => ⟨S8192x4x128, .f32⟩
  | 31 => ⟨S8192x4x128, .f32⟩
  | 32 => ⟨S8192x4x128, .f32⟩
  | 33 => ⟨S8192x4x128, .f32⟩
  | 34 => ⟨S8192x4x128, .f32⟩
  | 35 => ⟨S8192x4x128, .f32⟩
  | 36 => ⟨S8192x4x128, .f32⟩
  | 37 => ⟨S8192x4x256, .f32⟩
  | 38 => ⟨S8192x4x256, .f32⟩
  | 39 => ⟨S128, .f32⟩
  | 40 => ⟨S128, .f32⟩
  | 41 => ⟨S_, .f32⟩
  | 42 => ⟨S128, .f32⟩
  | 43 => ⟨S128, .f32⟩
  | 44 => ⟨S_, .f32⟩
  | 45 => ⟨S128, .f32⟩
  | 46 => ⟨S128, .f32⟩
  | 47 => ⟨S8192, .f32⟩
  | 48 => ⟨S8192x1, .f32⟩
  | 49 => ⟨S1x128, .f32⟩
  | 50 => ⟨S8192x128, .f32⟩
  | 51 => ⟨S8192x128, .f32⟩
  | 52 => ⟨S8192x128, .f32⟩
  | 53 => ⟨S8192x128, .f32⟩
  | 54 => ⟨S8192x1x128, .f32⟩
  | 55 => ⟨S8192x128, .f32⟩
  | 56 => ⟨S8192x1x128, .f32⟩
  | 57 => ⟨S8192x4x128, .f32⟩
  | 58 => ⟨S8192x4x128, .f32⟩
  | 59 => ⟨S8192x4x128, .f32⟩
  | 60 => ⟨S8192x4x128, .f32⟩
  | 61 => ⟨S8192x4x128, .f32⟩
  | 62 => ⟨S8192x4x128, .f32⟩
  | 63 => ⟨S8192x4x128, .f32⟩
  | 64 => ⟨S8192x4x128, .f32⟩
  | 65 => ⟨S8192x4x128, .f32⟩
  | 66 => ⟨S8192x4x128, .f32⟩
  | 67 => ⟨S8192x4x128, .f32⟩
  | 68 => ⟨S8192x4x128, .f32⟩
  | 69 => ⟨S8192x4x256, .f32⟩
  | 70 => ⟨S_, .f32⟩
  | 71 => ⟨S8192x4x256, .f32⟩
  | 72 => ⟨S8192x4x256, .f32⟩
  | 73 => ⟨S4, .f32⟩
  | 74 => ⟨S_, .f32⟩
  | 75 => ⟨S4, .f32⟩
  | 76 => ⟨S4, .f32⟩
  | 77 => ⟨S_, .f32⟩
  | 78 => ⟨S4, .f32⟩
  | 79 => ⟨S4, .f32⟩
  | 80 => ⟨S4, .f32⟩
  | 81 => ⟨S4, .f32⟩
  | 82 => ⟨S128, .f32⟩
  | 83 => ⟨S128x1, .f32⟩
  | 84 => ⟨S1x128, .f32⟩
  | 85 => ⟨S128x128, .f32⟩
  | 86 => ⟨S128x128, .f32⟩
  | 87 => ⟨S128x128, .f32⟩
  | 88 => ⟨S_, .f32⟩
  | 89 => ⟨S128x128, .f32⟩
  | 90 => ⟨S128x128, .i1⟩
  | 91 => ⟨S4x1x1, .f32⟩
  | 92 => ⟨S_, .f32⟩
  | 93 => ⟨S128x128, .f32⟩
  | 94 => ⟨S128x128, .f32⟩
  | 95 => ⟨S1x128x128, .f32⟩
  | 96 => ⟨S4x128x128, .f32⟩
  | 97 => ⟨S4x128x128, .f32⟩
  | 98 => ⟨S4x128x128, .f32⟩
  | 99 => ⟨S4x128x128, .f32⟩
  | 100 => ⟨S_, .f32⟩
  | 101 => ⟨S_, .f32⟩
  | 102 => ⟨S4x128x128, .i1⟩
  | 103 => ⟨S4x128x128, .f32⟩
  | 104 => ⟨S4x128x128, .f32⟩
  | 105 => ⟨S1x4, .f32⟩
  | 106 => ⟨S128x1, .f32⟩
  | 107 => ⟨S_, .f32⟩
  | 108 => ⟨S128x1, .f32⟩
  | 109 => ⟨S128x1, .f32⟩
  | 110 => ⟨S128x4, .f32⟩
  | 111 => ⟨S128x4, .f32⟩
  | 112 => ⟨S128x4, .f32⟩
  | 113 => ⟨S128x4, .f32⟩
  | 114 => ⟨S64x128x4x256, .f32⟩
  | 115 => ⟨S64x128x4x256, .f32⟩
  | 116 => ⟨S64x128x4x256, .f32⟩
  | 117 => ⟨S64x4x128x128, .f32⟩
  | 118 => ⟨S1x4x128x128, .f32⟩
  | 119 => ⟨S64x4x128x128, .f32⟩
  | 120 => ⟨S64x4x128x128, .f32⟩
  | 121 => ⟨S64x4x256x128, .f32⟩
  | 122 => ⟨S64x128x4x256, .f32⟩
  | 123 => ⟨S64, .f32⟩
  | 124 => ⟨S64x1, .f32⟩
  | 125 => ⟨S_, .f32⟩
  | 126 => ⟨S64x1, .f32⟩
  | 127 => ⟨S64x1, .f32⟩
  | _ => ⟨S8192x6144, .f32⟩

abbrev hbmTy0_1 (i : Nat) : BufTy := match i % 128 with
  | 0 => ⟨S_, .f32⟩
  | 1 => ⟨S64x1, .f32⟩
  | 2 => ⟨S64x1, .f32⟩
  | 3 => ⟨S8192, .f32⟩
  | 4 => ⟨S1x8192, .f32⟩
  | 5 => ⟨S64x8192, .f32⟩
  | 6 => ⟨S64x8192, .f32⟩
  | 7 => ⟨S64x8192, .f32⟩
  | 8 => ⟨S_, .f32⟩
  | 9 => ⟨S64x8192, .f32⟩
  | 10 => ⟨S64x8192, .i1⟩
  | 11 => ⟨S4x1x1, .f32⟩
  | 12 => ⟨S_, .f32⟩
  | 13 => ⟨S64x8192, .f32⟩
  | 14 => ⟨S64x8192, .f32⟩
  | 15 => ⟨S1x64x8192, .f32⟩
  | 16 => ⟨S4x64x8192, .f32⟩
  | 17 => ⟨S4x64x8192, .f32⟩
  | 18 => ⟨S4x64x8192, .f32⟩
  | 19 => ⟨S4x64x8192, .f32⟩
  | 20 => ⟨S_, .f32⟩
  | 21 => ⟨S_, .f32⟩
  | 22 => ⟨S4x64x8192, .i1⟩
  | 23 => ⟨S4x64x8192, .f32⟩
  | 24 => ⟨S4x64x8192, .f32⟩
  | 25 => ⟨S1x8192x4x256, .f32⟩
  | 26 => ⟨S64x8192x4, .f32⟩
  | 27 => ⟨S64x8192x4x1, .f32⟩
  | 28 => ⟨S64x8192x4x256, .f32⟩
  | 29 => ⟨S64x8192x4x256, .f32⟩
  | 30 => ⟨S64x8192x4x256, .f32⟩
  | 31 => ⟨S8192x4x256, .f32⟩
  | 32 => ⟨S4x256x64x256, .f32⟩
  | 33 => ⟨S64x4x256x256, .f32⟩
  | 34 => ⟨S1x128x4x1, .f32⟩
  | 35 => ⟨S64x128x4x256, .f32⟩
  | 36 => ⟨S64x128x4x256, .f32⟩
  | 37 => ⟨S64x4x256x128, .f32⟩
  | 38 => ⟨S64x128x4x256, .f32⟩
  | 39 => ⟨S64x128x4x256, .f32⟩
  | 40 => ⟨S8192x4x256, .f32⟩
  | 41 => ⟨S_, .f32⟩
  | 42 => ⟨S8192x4, .f32⟩
  | 43 => ⟨S8192x4x1, .f32⟩
  | 44 => ⟨S_, .f32⟩
  | 45 => ⟨S8192x4x1, .f32⟩
  | 46 => ⟨S8192x4x1, .f32⟩
  | 47 => ⟨S8192x4x256, .f32⟩
  | 48 => ⟨S8192x4x256, .f32⟩
  | 49 => ⟨S8192x4x256, .f32⟩
  | 50 => ⟨S_, .f32⟩
  | 51 => ⟨S8192x4, .f32⟩
  | 52 => ⟨S8192x4x1, .f32⟩
  | 53 => ⟨S_, .f32⟩
  | 54 => ⟨S8192x4x1, .f32⟩
  | 55 => ⟨S8192x4x1, .f32⟩
  | 56 => ⟨S8192x4x256, .f32⟩
  | 57 => ⟨S8192x4x256, .f32⟩
  | 58 => ⟨S_, .f32⟩
  | 59 => ⟨S8192x4x1, .f32⟩
  | 60 => ⟨S8192x4x1, .f32⟩
  | 61 => ⟨S8192x4x1, .f32⟩
  | 62 => ⟨S8192x4x256, .f32⟩
  | 63 => ⟨S8192x4x256, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S_, .f32⟩
  | 73 => ⟨S8192x1024, .f32⟩
  | 74 => ⟨S8192x1024, .f32⟩
  | 75 => ⟨S8192x1024, .f32⟩
  | 76 => ⟨S8192x1024, .f32⟩
  | _ => ⟨S8192x6144, .f32⟩

abbrev hbmTy (i : Nat) : BufTy := match i / 128 with
  | 0 => hbmTy0_0 i
  | 1 => hbmTy0_1 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst_1 : Ref sig .tc := ⟨.hbm, 41, rfl⟩
abbrev main_v37 : Ref sig .tc := ⟨.hbm, 42, rfl⟩
abbrev main_v38 : Ref sig .tc := ⟨.hbm, 43, rfl⟩
abbrev main_cst_2 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_cst_3 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_cst_4 : Ref sig .tc := ⟨.hbm, 74, rfl⟩
abbrev main_v67 : Ref sig .tc := ⟨.hbm, 75, rfl⟩
abbrev main_v68 : Ref sig .tc := ⟨.hbm, 76, rfl⟩
abbrev main_cst_5 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_cst_6 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_cst_7 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_cst_8 : Ref sig .tc := ⟨.hbm, 100, rfl⟩
abbrev main_call0_v0 : Ref sig .tc := ⟨.hbm, 101, rfl⟩
abbrev main_call0_v1 : Ref sig .tc := ⟨.hbm, 102, rfl⟩
abbrev main_call0_v2 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_cst_9 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_cst_10 : Ref sig .tc := ⟨.hbm, 125, rfl⟩
abbrev main_v109 : Ref sig .tc := ⟨.hbm, 126, rfl⟩
abbrev main_v110 : Ref sig .tc := ⟨.hbm, 127, rfl⟩
abbrev main_cst_11 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_12 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_cst_13 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_cst_14 : Ref sig .tc := ⟨.hbm, 148, rfl⟩
abbrev main_call1_v0 : Ref sig .tc := ⟨.hbm, 149, rfl⟩
abbrev main_call1_v1 : Ref sig .tc := ⟨.hbm, 150, rfl⟩
abbrev main_call1_v2 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_cst_15 : Ref sig .tc := ⟨.hbm, 169, rfl⟩
abbrev main_v145 : Ref sig .tc := ⟨.hbm, 170, rfl⟩
abbrev main_v146 : Ref sig .tc := ⟨.hbm, 171, rfl⟩
abbrev main_cst_16 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_cst_17 : Ref sig .tc := ⟨.hbm, 178, rfl⟩
abbrev main_v152 : Ref sig .tc := ⟨.hbm, 179, rfl⟩
abbrev main_v153 : Ref sig .tc := ⟨.hbm, 180, rfl⟩
abbrev main_cst_18 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_cst_19 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_call2_v0 : Ref sig .tc := ⟨.hbm, 195, rfl⟩
abbrev main_call2_v1 : Ref sig .tc := ⟨.hbm, 196, rfl⟩
abbrev main_call2_cst : Ref sig .tc := ⟨.hbm, 197, rfl⟩
abbrev main_call2_v2 : Ref sig .tc := ⟨.hbm, 198, rfl⟩
abbrev main_call2_v3 : Ref sig .tc := ⟨.hbm, 199, rfl⟩
abbrev main_call2_cst_0 : Ref sig .tc := ⟨.hbm, 200, rfl⟩
abbrev main_call2_v4 : Ref sig .tc := ⟨.hbm, 201, rfl⟩
abbrev main_call2_v5 : Ref sig .tc := ⟨.hbm, 202, rfl⟩
abbrev main_v166 : Ref sig .tc := ⟨.hbm, 203, rfl⟩
abbrev main_v167 : Ref sig .tc := ⟨.hbm, 204, rfl⟩

abbrev nD : Nat := 1
abbrev τ : Topo := Topo.v7x

variable {F : FTy → Type} [FloatOps F]
-- ==== Kernel7.lean ====
abbrev S64x64 : Shape := ⟨2, ![64, 64]⟩
abbrev S64 : Shape := ⟨1, ![64]⟩
abbrev S64x64x16 : Shape := ⟨3, ![64, 64, 16]⟩
abbrev S64x1x64 : Shape := ⟨3, ![64, 1, 64]⟩
abbrev S64x1x1 : Shape := ⟨3, ![64, 1, 1]⟩
abbrev S64x16x64 : Shape := ⟨3, ![64, 16, 64]⟩

abbrev nBuf : Space → Nat
  | .hbm => 18
  | .vmem => 9
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x1x64, .f32⟩
  | .hbm, ⟨6, _⟩ => ⟨S64x1x64, .f32⟩
  | .hbm, ⟨7, _⟩ => ⟨S64x1x1, .f32⟩
  | .hbm, ⟨8, _⟩ => ⟨S64x16x64, .f32⟩
  | .hbm, ⟨9, _⟩ => ⟨S64x16x64, .f32⟩
  | .hbm, ⟨10, _⟩ => ⟨S64x1x64, .f32⟩
  | .hbm, ⟨11, _⟩ => ⟨S64x1x64, .f32⟩
  | .hbm, ⟨12, _⟩ => ⟨S64x16x64, .f32⟩
  | .hbm, ⟨13, _⟩ => ⟨S64x16x64, .f32⟩
  | .hbm, ⟨14, _⟩ => ⟨S64x64, .f32⟩
  | .hbm, ⟨15, _⟩ => ⟨S64x64, .f32⟩
  | .hbm, ⟨16, _⟩ => ⟨S64x64x16, .f32⟩
  | .hbm, ⟨17, _⟩ => ⟨S64x64x16, .f32⟩
  | .local _ .vmem, ⟨0, _⟩ => ⟨S64x1x64, .f32⟩
  | .local _ .vmem, ⟨1, _⟩ => ⟨S64x1x64, .f32⟩
  | .local _ .vmem, ⟨2, _⟩ => ⟨S64x1x1, .f32⟩
  | .local _ .vmem, ⟨3, _⟩ => ⟨S64x16x64, .f32⟩
  | .local _ .vmem, ⟨4, _⟩ => ⟨S64x16x64, .f32⟩
  | .local _ .vmem, ⟨5, _⟩ => ⟨S64x1x64, .f32⟩
  | .local _ .vmem, ⟨6, _⟩ => ⟨S64x1x64, .f32⟩
  | .local _ .vmem, ⟨7, _⟩ => ⟨S64x16x64, .f32⟩
  | .local _ .vmem, ⟨8, _⟩ => ⟨S64x16x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S64x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference7Ideal.lean ====
abbrev S64x64 : Shape := ⟨2, ![64, 64]⟩
abbrev S64 : Shape := ⟨1, ![64]⟩
abbrev S64x64x16 : Shape := ⟨3, ![64, 64, 16]⟩
abbrev S_ : Shape := ⟨0, ![]⟩
abbrev S64x1 : Shape := ⟨2, ![64, 1]⟩
abbrev S64x64x1 : Shape := ⟨3, ![64, 64, 1]⟩

abbrev nBuf : Space → Nat
  | .hbm => 49
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S_, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64x1, .f32⟩
  | .hbm, ⟨36, _⟩ => ⟨S64x64x16, .f32⟩
  | .hbm, ⟨37, _⟩ => ⟨S64x64x16, .f32⟩
  | .hbm, ⟨38, _⟩ => ⟨S64x64x1, .f32⟩
  | .hbm, ⟨39, _⟩ => ⟨S64x64x16, .f32⟩
  | .hbm, ⟨40, _⟩ => ⟨S64x64x16, .f32⟩
  | .hbm, ⟨41, _⟩ => ⟨S64x64x16, .f32⟩
  | .hbm, ⟨42, _⟩ => ⟨S64x64x1, .f32⟩
  | .hbm, ⟨43, _⟩ => ⟨S64x64x16, .f32⟩
  | .hbm, ⟨44, _⟩ => ⟨S64x64x16, .f32⟩
  | .hbm, ⟨45, _⟩ => ⟨S64x64x1, .f32⟩
  | .hbm, ⟨46, _⟩ => ⟨S64x64x16, .f32⟩
  | .hbm, ⟨47, _⟩ => ⟨S64x64x16, .f32⟩
  | .hbm, ⟨48, _⟩ => ⟨S64x64x16, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S1024x6144 : Shape := ⟨2, ![1024, 6144]⟩
abbrev S1024x8x768 : Shape := ⟨3, ![1024, 8, 768]⟩
abbrev S8x1024x768 : Shape := ⟨3, ![8, 1024, 768]⟩
abbrev S8192x6144 : Shape := ⟨2, ![8192, 6144]⟩
abbrev S8x8192x128 : Shape := ⟨3, ![8, 8192, 128]⟩
abbrev S512x1024 : Shape := ⟨2, ![512, 1024]⟩
abbrev S512x6144 : Shape := ⟨2, ![512, 6144]⟩
abbrev S8x512x128 : Shape := ⟨3, ![8, 512, 128]⟩
abbrev S_ : Shape := ⟨0, ![]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩
abbrev S512x128 : Shape := ⟨2, ![512, 128]⟩
abbrev S1x512x128 : Shape := ⟨3, ![1, 512, 128]⟩
abbrev S8192x8x128 : Shape := ⟨3, ![8192, 8, 128]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6144, .f32⟩
  | .hbm, ⟨3, _⟩ => ⟨S1024x8x768, .f32⟩
  | .hbm, ⟨4, _⟩ => ⟨S8x1024x768, .f32⟩
  | .hbm, ⟨5, _⟩ => ⟨S8x1024x768, .bf16⟩
  | .hbm, ⟨6, _⟩ => ⟨S8192x6144, .f32⟩
  | .hbm, ⟨7, _⟩ => ⟨S8x8192x128, .f32⟩
  | .hbm, ⟨8, _⟩ => ⟨S8192x8x128, .f32⟩
  | .hbm, ⟨9, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x6144, .f32⟩
  | .local _ .vmem, ⟨4, _⟩ => ⟨S512x6144, .f32⟩
  | .local _ .vmem, ⟨5, _⟩ => ⟨S8x512x128, .f32⟩
  | .local _ .vmem, ⟨6, _⟩ => ⟨S8x512x128, .f32⟩
  | .local _ .vmem, ⟨7, _⟩ => ⟨S8x1024x768, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S8192x1024 : Shape := ⟨2, ![8192, 1024]⟩
abbrev S1x1024 : Shape := ⟨2, ![1, 1024]⟩
abbrev S1024x6144 : Shape := ⟨2, ![1024, 6144]⟩
abbrev S_ : Shape := ⟨0, ![]⟩
abbrev S8192 : Shape := ⟨1, ![8192]⟩
abbrev S8192x1 : Shape := ⟨2, ![8192, 1]⟩
abbrev S8192x6144 : Shape := ⟨2, ![8192, 6144]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6144, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x6144, .f32⟩
  | .hbm, ⟨19, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel9.lean ====
abbrev S8192x1024 : Shape := ⟨2, ![8192, 1024]⟩
abbrev S8192x6144 : Shape := ⟨2, ![8192, 6144]⟩
abbrev S1024x1024 : Shape := ⟨2, ![1024, 1024]⟩
abbrev S1x1024 : Shape := ⟨2, ![1, 1024]⟩
abbrev S2048x1024 : Shape := ⟨2, ![2048, 1024]⟩
abbrev S8192x8x128 : Shape := ⟨3, ![8192, 8, 128]⟩
abbrev S8x8192x128 : Shape := ⟨3, ![8, 8192, 128]⟩
abbrev S512x1024 : Shape := ⟨2, ![512, 1024]⟩
abbrev S8x512x128 : Shape := ⟨3, ![8, 512, 128]⟩
abbrev S1x512x128 : Shape := ⟨3, ![1, 512, 128]⟩
abbrev S512x128 : Shape := ⟨2, ![512, 128]⟩
abbrev S512x2048 : Shape := ⟨2, ![512, 2048]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x6144, .f32⟩
  | .hbm, ⟨3, _⟩ => ⟨S8192x1024, .f32⟩
  | .hbm, ⟨4, _⟩ => ⟨S1024x1024, .f32⟩
  | .hbm, ⟨5, _⟩ => ⟨S1x1024, .f32⟩
  | .hbm, ⟨6, _⟩ => ⟨S2048x1024, .f32⟩
  | .hbm, ⟨7, _⟩ => ⟨S8192x8x128, .f32⟩
  | .hbm, ⟨8, _⟩ => ⟨S8x8192x128, .f32⟩
  | .hbm, ⟨9, _⟩ => ⟨S8192x1024, .bf16⟩
  | .hbm, ⟨10, _⟩ => ⟨S1024x1024, .bf16⟩
  | .hbm, ⟨11, _⟩ => ⟨S2048x1024, .bf16⟩
  | .hbm, ⟨12, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S8x512x128, .f32⟩
  | .local _ .vmem, ⟨3, _⟩ => ⟨S8x512x128, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1x1024, .f32⟩
  | .local _ .vmem, ⟨10, _⟩ => ⟨S2048x1024, .bf16⟩
  | .local _ .vmem, ⟨11, _⟩ => ⟨S512x1024, .f32⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel9Ideal.lean ====
variable {F : FTy → Type} [FloatOps F] [Named F]
def κ : String → Option EReal := fun
  | "gelu" => some ((8943 / 200000 : ℝ) : EReal)
  | _ => none
-- ==== Reference9Ideal.lean ====
abbrev S8192x1024 : Shape := ⟨2, ![8192, 1024]⟩
abbrev S8192x6144 : Shape := ⟨2, ![8192, 6144]⟩
abbrev S1024x1024 : Shape := ⟨2, ![1024, 1024]⟩
abbrev S1x1024 : Shape := ⟨2, ![1, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x6144, .f32⟩
  | .hbm, ⟨3, _⟩ => ⟨S8192x1024, .f32⟩
  | .hbm, ⟨4, _⟩ => ⟨S1024x1024, .f32⟩
  | .hbm, ⟨5, _⟩ => ⟨S1x1024, .f32⟩
  | .hbm, ⟨6, _⟩ => ⟨S2048x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x2048, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== Kernel10.lean ====
abbrev S128 : Shape := ⟨1, ![128]⟩
abbrev S1x128 : Shape := ⟨2, ![1, 128]⟩
abbrev S8192x128 : Shape := ⟨2, ![8192, 128]⟩
abbrev S512x128 : Shape := ⟨2, ![512, 128]⟩

abbrev nBuf : Space → Nat
  | .hbm => 4
  | .vmem => 5
  | .smem => 0
  | _ => 0

abbrev bufTy : (tb : Table) → Fin (tcTables nBuf tb) → BufTy
  | .hbm, ⟨0, _⟩ => ⟨S128, .f32⟩
  | .hbm, ⟨1, _⟩ => ⟨S1x128, .f32⟩
  | .hbm, ⟨2, _⟩ => ⟨S8192x128, .f32⟩
  | .hbm, ⟨3, _⟩ => ⟨S8192x128, .f32⟩
  | .local _ .vmem, ⟨0, _⟩ => ⟨S1x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | _, _ => ⟨S128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S128 : Shape := ⟨1, ![128]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩

abbrev nBuf : Space → Nat
  | .hbm => 9
  | .vmem => 0
  | .smem => 0
  | _ => 0

abbrev bufTy : (tb : Table) → Fin (tcTables nBuf tb) → BufTy
  | .hbm, ⟨0, _⟩ => ⟨S128, .f32⟩
  | .hbm, ⟨1, _⟩ => ⟨S8192, .f32⟩
  | .hbm, ⟨2, _⟩ => ⟨S8192x1, .f32⟩
  | .hbm, ⟨3, _⟩ => ⟨S1x128, .f32⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S8192x128, .f32⟩
  | .hbm, ⟨8, _⟩ => ⟨S8192x128, .f32⟩
  | _, _ => ⟨S128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩

abbrev nD : Nat := 1
abbrev τ : Topo := Topo.v7x

variable {F : FTy → Type} [FloatOps F]
-- ==== Kernel11.lean ====
abbrev S8192x1024 : Shape := ⟨2, ![8192, 1024]⟩
abbrev S1x1024 : Shape := ⟨2, ![1, 1024]⟩
abbrev S8192x6144 : Shape := ⟨2, ![8192, 6144]⟩
abbrev S8x1024x768 : Shape := ⟨3, ![8, 1024, 768]⟩
abbrev S1024x1024 : Shape := ⟨2, ![1024, 1024]⟩
abbrev S1024x3072 : Shape := ⟨2, ![1024, 3072]⟩
abbrev S4x1024x768 : Shape := ⟨3, ![4, 1024, 768]⟩
abbrev S1024 : Shape := ⟨1, ![1024]⟩
abbrev S1024x1 : Shape := ⟨2, ![1024, 1]⟩
abbrev S1024x768 : Shape := ⟨2, ![1024, 768]⟩
abbrev S1x1024x768 : Shape := ⟨3, ![1, 1024, 768]⟩
abbrev S1024x8x768 : Shape := ⟨3, ![1024, 8, 768]⟩
abbrev S1024x6144 : Shape := ⟨2, ![1024, 6144]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x6144, .f32⟩
  | .hbm, ⟨3, _⟩ => ⟨S8192x6144, .bf16⟩
  | .hbm, ⟨4, _⟩ => ⟨S8x1024x768, .bf16⟩
  | .hbm, ⟨5, _⟩ => ⟨S8x1024x768, .f32⟩
  | .hbm, ⟨6, _⟩ => ⟨S1024x8x768, .f32⟩
  | .hbm, ⟨7, _⟩ => ⟨S1024x6144, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x3072, .bf16⟩
  | .local _ .vmem, ⟨5, _⟩ => ⟨S4x1024x768, .bf16⟩
  | .local _ .vmem, ⟨6, _⟩ => ⟨S4x1024x768, .bf16⟩
  | .local _ .vmem, ⟨7, _⟩ => ⟨S1024x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference11Ideal.lean ====
abbrev S8192x1024 : Shape := ⟨2, ![8192, 1024]⟩
abbrev S1x1024 : Shape := ⟨2, ![1, 1024]⟩
abbrev S8192x6144 : Shape := ⟨2, ![8192, 6144]⟩
abbrev S_ : Shape := ⟨0, ![]⟩
abbrev S1024x6144 : Shape := ⟨2, ![1024, 6144]⟩
abbrev S8192 : Shape := ⟨1, ![8192]⟩
abbrev S8192x1 : Shape := ⟨2, ![8192, 1]⟩
abbrev S6144x1024 : Shape := ⟨2, ![6144, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x6144, .f32⟩
  | .hbm, ⟨3, _⟩ => ⟨S_, .f32⟩
  | .hbm, ⟨4, _⟩ => ⟨S1024x6144, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x6144, .f32⟩
  | .hbm, ⟨21, _⟩ => ⟨S6144x1024, .f32⟩
  | .hbm, ⟨22, _⟩ => ⟨S1024x6144, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel12.lean ====
abbrev S8192x1024 : Shape := ⟨2, ![8192, 1024]⟩
abbrev S8x256x1024 : Shape := ⟨3, ![8, 256, 1024]⟩
abbrev S1024x1024 : Shape := ⟨2, ![1024, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S8x256x1024, .bf16⟩
  | .hbm, ⟨6, _⟩ => ⟨S8x256x1024, .f32⟩
  | .hbm, ⟨7, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x256x1024, .bf16⟩
  | .local _ .vmem, ⟨7, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v21 : BitVec 1 := Scalar.cmpi .eq arg0 c7_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference12Ideal.lean ====
abbrev S8192x1024 : Shape := ⟨2, ![8192, 1024]⟩
abbrev S_ : Shape := ⟨0, ![]⟩
abbrev S2048x1024 : Shape := ⟨2, ![2048, 1024]⟩
abbrev S8192x2048 : Shape := ⟨2, ![8192, 2048]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S2048x1024, .f32⟩
  | .hbm, ⟨5, _⟩ => ⟨S8192x2048, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.WholeCopy.lean ====
module

public import Idealize.ShloMosaic.Lib.Pipeline.ReadBack

/-! A buffer filled by one copy of a whole array holds that array, and every later load reads the array. -/

@[expose] public section

noncomputable section

namespace Cert.WholeCopy

open Idealize.ShloMosaic

variable {S : Shape} {e : EltTy} {Val : EltTy → Type} [∀ e, Nonempty (Val e)]

/-- After one write of the whole array the contents are what was written. -/
theorem canon_whole (w : (Rect.whole S).shape.Idx → Val e) :
    View.canon (Val := Val) [⟨Rect.whole S, w⟩] = (w : S.Idx → Val e) :=
  funext fun (y : (Rect.whole S).shape.Idx) => (congrArg _ (Rect.emb_whole_apply S y).symm).trans (View.canon_cons_emb (Rect.whole S) w [] y)

/-- A load after one write of the whole array reads what was written. -/
theorem load_whole {sig : RefSig} {κ : Kind} {sp : Space} (v : View sig κ sp S e) (w : (Rect.whole S).shape.Idx → Val e)
    (r : Rect S) : v.readCov (Val := Val) [⟨Rect.whole S, w⟩] r.toLoadRect = View.ld (w : S.Idx → Val e) r := by
  rw [View.readCov_eq_canon', canon_whole]

end Cert.WholeCopy

end
-- ==== Proof.RealValues.lean ====
module

public import Idealize.ShloMosaic.PureOps.Ideal
public import Idealize.ShloMosaic.Lib.IdealHost

/-! The arithmetic of extended reals on real numbers: what the proofs of the gradients share.
    Sums, products, quotients and reciprocal roots of real numbers are real numbers, so an equation between two
    such expressions is an equation of real numbers. -/

@[expose] public section

noncomputable section

namespace Cert.RealValues

open Idealize.ShloMosaic

/-- The extended real is a real number. -/
def IsReal (x : EReal) : Prop := ∃ r : ℝ, x = (r : EReal)

theorem isReal_coe (r : ℝ) : IsReal (r : EReal) := ⟨r, rfl⟩

/-- A number whose absolute value is below infinity is a real number. -/
theorem isReal_of_abs_lt_top {x : EReal} (h : max x (-x) < ⊤) : IsReal x := by
  induction x with
  | bot => simp at h
  | top => simp at h
  | coe r => exact ⟨r, rfl⟩

/-- A family of real numbers comes from a real-valued function. -/
theorem lift_family {ι : Type*} {f : ι → EReal} (h : ∀ i, IsReal (f i)) : ∃ g : ι → ℝ, f = fun i => (g i : EReal) :=
  ⟨fun i => (h i).choose, funext fun i => (h i).choose_spec⟩

/-- The real sum, seen in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} {s : Finset ι} {f : ι → EReal} (h : ∀ i, IsReal (f i)) : IsReal (∑ i ∈ s, f i) := by
  obtain ⟨g, rfl⟩ := lift_family h; exact ⟨∑ i ∈ s, g i, (coe_sum s g).symm⟩

/-- The positive infinity a finiteness test compares with. -/
theorem inf_f32 : Ideal.ofBits .f32 0x7F800000#32 = ⊤ := by simp [Ideal.ofBits, Ideal.ieee]

/-- The model width. -/
theorem width_f32 : Ideal.ofBits .f32 0x44800000#32 = ((1024 : ℝ) : EReal) := by
  simp [Ideal.ofBits, Ideal.ieee, -EReal.coe_mul]; norm_num

/-- Minus one half, the derivative's factor of a reciprocal root. -/
theorem neg_half_f32 : Ideal.ofBits .f32 0xBF000000#32 = ((-(1 / 2) : ℝ) : EReal) := by
  simp [Ideal.ofBits, Ideal.ieee, -EReal.coe_mul]; norm_num

/-- The norms' epsilon is a positive real number. -/
theorem eps_f32 : ∃ e : ℝ, 0 < e ∧ Ideal.ofBits .f32 0x358637BD#32 = (e : EReal) := by
  refine ⟨_, ?_, by simp [Ideal.ofBits, Ideal.ieee, -EReal.coe_mul]; rfl⟩
  norm_num

/-- A quotient by a real number that is not zero. -/
theorem div_coe_coe (x : ℝ) {y : ℝ} (h : y ≠ 0) : Ideal.div (x : EReal) (y : EReal) = ((x / y : ℝ) : EReal) := by
  rw [Ideal.div_coe h, ← EReal.coe_mul]; congr 1; ring

/-- The reciprocal root of a positive real number. -/
theorem rsqrt_pos {v : ℝ} (h : 0 < v) : Ideal.rsqrt (v : EReal) = (((Real.sqrt v)⁻¹ : ℝ) : EReal) := by
  rw [Ideal.rsqrt_coe, if_neg (not_lt.mpr h.le), if_neg h.ne']

/-- One test of a finiteness precondition, at one element: where it answers true the element is a real number. -/
theorem isReal_of_test {x : EReal} (h : Ideal.cmp .olt (max x (-x)) (Ideal.ofBits .f32 0x7F800000#32) = 1#1) : IsReal x := by
  rw [inf_f32] at h
  apply isReal_of_abs_lt_top
  by_contra hn
  simp [Ideal.cmp, hn] at h

end Cert.RealValues

end
-- ==== Proof.NormGrad.lean ====
module

public import proofs.«01_k».proof.Proof.RealValues

/-! The gradient of a root-mean-square norm along one row of `n` numbers, written in two ways: by the norm's own
    reciprocal root, and by the chain rule through the quotient, the root and the sum of squares. On real numbers the two
    are one. -/

@[expose] public section

noncomputable section

namespace Cert.NormGrad

open Idealize.ShloMosaic Cert.RealValues

variable {n : ℕ}

/-- A positive real number among the extended reals. -/
def IsPos (x : EReal) : Prop := ∃ r : ℝ, 0 < r ∧ x = (r : EReal)

/-- The mean square of a row plus the epsilon: what the root is taken of. -/
def meanSq (w e : EReal) (x : Fin n → EReal) : EReal := Ideal.div (∑ k, x k * x k) w + e

/-- The reciprocal root mean square of a row. -/
def invRms (w e : EReal) (x : Fin n → EReal) : EReal := Ideal.rsqrt (meanSq w e x)

/-- The row's gradient from the cotangent `d` of the normalised row, by the reciprocal root: the kernel's way. -/
def gradByRoot (w e : EReal) (d x : Fin n → EReal) (j : Fin n) : EReal :=
  invRms w e x * (d j - x j * invRms w e x * Ideal.div (∑ k, d k * (x k * invRms w e x)) w)

/-- The common factor the chain rule gives both factors of the square. -/
def chainFactor (w e : EReal) (d x : Fin n → EReal) : EReal :=
  Ideal.div ((∑ k, x k * d k) * (Ideal.ofBits .f32 0xBF000000#32 * Ideal.div (invRms w e x) (meanSq w e x))) w

/-- The mean square of real numbers is a positive real number. -/
theorem meanSq_pos {w e : EReal} (hw : IsPos w) (he : IsPos e) {x : Fin n → EReal} (hx : ∀ k, IsReal (x k)) :
    IsPos (meanSq w e x) := by
  obtain ⟨w, hw, rfl⟩ := hw; obtain ⟨e, he, rfl⟩ := he; obtain ⟨x, rfl⟩ := lift_family hx
  refine ⟨(∑ k, x k * x k) / w + e, ?_, ?_⟩
  · have : 0 ≤ ∑ k, x k * x k := Finset.sum_nonneg fun k _ => mul_self_nonneg _
    positivity
  · simp only [meanSq, ← EReal.coe_mul, ← coe_sum, div_coe_coe _ hw.ne', ← EReal.coe_add]

/-- The reciprocal root mean square of real numbers is a real number whose square inverts the mean square. -/
theorem invRms_real {w e : EReal} (hw : IsPos w) (he : IsPos e) {x : Fin n → EReal} (hx : ∀ k, IsReal (x k)) :
    ∃ r v : ℝ, invRms w e x = (r : EReal) ∧ meanSq w e x = (v : EReal) ∧ 0 < v ∧ r * r = 1 / v := by
  obtain ⟨v, hv, h⟩ := meanSq_pos hw he hx
  refine ⟨(Real.sqrt v)⁻¹, v, by rw [invRms, h, rsqrt_pos hv], h, hv, ?_⟩
  rw [← mul_inv, Real.mul_self_sqrt hv.le, one_div]

/-- The chain rule's gradient is the gradient by the reciprocal root, whatever is added to both. -/
theorem chain_eq_root {w e : EReal} (hw : IsPos w) (he : IsPos e) {d x : Fin n → EReal} (hd : ∀ k, IsReal (d k))
    (hx : ∀ k, IsReal (x k)) (a : EReal) (j : Fin n) :
    a + d j * invRms w e x + x j * chainFactor w e d x + chainFactor w e d x * x j = a + gradByRoot w e d x j := by
  obtain ⟨r, v, hr, hv, hpos, hrv⟩ := invRms_real hw he hx
  simp only [gradByRoot, chainFactor, hr, hv, neg_half_f32]
  obtain ⟨w, hw, rfl⟩ := hw; obtain ⟨x, rfl⟩ := lift_family hx; obtain ⟨d, rfl⟩ := lift_family hd
  simp only [← EReal.coe_mul, ← coe_sum, div_coe_coe _ hw.ne', div_coe_coe _ hpos.ne', ← EReal.coe_sub,
    add_assoc, ← EReal.coe_add]
  congr 2
  have hs : ∑ k, d k * (x k * r) = (∑ k, x k * d k) * r := by
    rw [Finset.sum_mul]; exact Finset.sum_congr rfl fun k _ => by ring
  have hq : r / v = r * (r * r) := by rw [hrv]; ring
  rw [hs, hq]; ring

end Cert.NormGrad

end
-- ==== Proof.InProjSpec.lean ====
module

public import proofs.«01_k».proof.Proof.NormGrad
public import Idealize.ShloMosaic.Lib.Pointwise

/-! The input projection's backward call: its two results as functions of the five argument arrays. -/

@[expose] public section

noncomputable section

namespace Cert.InProj

open Idealize.ShloMosaic Cert.NormGrad

/-- The model width and the norms' epsilon. -/
abbrev width : EReal := Ideal.ofBits .f32 0x44800000#32
abbrev eps : EReal := Ideal.ofBits .f32 0x358637BD#32

abbrev Rows : Type := FVec Ideal ⟨2, ![8192, 1024]⟩ .f32
abbrev Cots : Type := FVec Ideal ⟨2, ![8192, 6144]⟩ .f32
abbrev Gain : Type := FVec Ideal ⟨2, ![1, 1024]⟩ .f32
abbrev Mat : Type := FVec Ideal ⟨2, ![1024, 6144]⟩ .f32

/-- The cotangent of the normalised and scaled rows: the product's transpose. -/
def cot (dp : Cots) (w : Mat) (p : Fin 8192) (q : Fin 1024) : EReal := ∑ k : Fin 6144, dp (ix2 p k) * w (ix2 q k)

/-- The row's numbers. -/
abbrev row (x : Rows) (p : Fin 8192) : Fin 1024 → EReal := fun k => x (ix2 p k)

/-- The gradient of the rows, with the residual's cotangent. -/
def dxAt (dp : Cots) (x : Rows) (g : Gain) (w : Mat) (r : Rows) (p : Fin 8192) (q : Fin 1024) : EReal :=
  r (ix2 p q) + gradByRoot width eps (fun k => cot dp w p k * g (ix2 0 k)) (row x p) q

/-- One row's share of the gain's gradient. -/
def gainTerm (dp : Cots) (x : Rows) (w : Mat) (q : Fin 1024) (p : Fin 8192) : EReal :=
  cot dp w p q * (x (ix2 p q) * invRms width eps (row x p))

/-- The two results. -/
def dx (dp : Cots) (x : Rows) (g : Gain) (w : Mat) (r : Rows) : Rows := fun i => dxAt dp x g w r (i 0) (i 1)
def dgain (dp : Cots) (x : Rows) (w : Mat) : Gain := fun i => ∑ p : Fin 8192, gainTerm dp x w (i 1) p

end Cert.InProj

end
-- ==== Proof.InProjBlock.lean ====
module

public import proofs.«01_k».proof.Proof.Gen.KernelIdeal.Value
public import proofs.«01_k».proof.Proof.WholeCopy
public import proofs.«01_k».proof.Proof.InProjSpec
public import Idealize.ShloMosaic.Lib.Pipeline.ValueKit
public import Idealize.ShloMosaic.Lib.Pointwise
public import Idealize.ShloMosaic.Lib.Claim

/-! The input projection's backward call: what one grid point (512 rows) computes from its input blocks. -/

@[expose] public section

set_option maxRecDepth 16384

noncomputable section

namespace Cert.InProj

open Cert.KernelIdeal Cert.KernelIdeal.Gen Idealize.ShloMosaic Idealize.ShloMosaic.TcCoe Idealize.SL.Sem
open Cert.WholeCopy Cert.NormGrad

/-! ## The payloads at an index -/

/-- The cotangent of the normalised rows: the eight column blocks' products, added up. -/
def dhBlk (dp : Vec Ideal S512x6144 .bf16) (w : Vec Ideal S8x1024x768 .bf16) : FVec Ideal S512x1024 .f32 :=
  k0_pay7 (k0_pay6 (View.ld (Val := Elt Ideal) dp (Rect.unit ![0, 0] ![512, 768] inb_S512x6144_S512x768_0_0))
      (View.ld (Val := Elt Ideal) w (Rect.unit ![0, 0, 0] ![1, 1024, 768] inb_S8x1024x768_S1x1024x768_0_0_0))
      (View.ld (Val := Elt Ideal) dp (Rect.unit ![0, 768] ![512, 768] inb_S512x6144_S512x768_0_768))
      (View.ld (Val := Elt Ideal) w (Rect.unit ![1, 0, 0] ![1, 1024, 768] inb_S8x1024x768_S1x1024x768_1_0_0))
      (View.ld (Val := Elt Ideal) dp (Rect.unit ![0, 1536] ![512, 768] inb_S512x6144_S512x768_0_1536))
      (View.ld (Val := Elt Ideal) w (Rect.unit ![2, 0, 0] ![1, 1024, 768] inb_S8x1024x768_S1x1024x768_2_0_0))
      (View.ld (Val := Elt Ideal) dp (Rect.unit ![0, 2304] ![512, 768] inb_S512x6144_S512x768_0_2304))
      (View.ld (Val := Elt Ideal) w (Rect.unit ![3, 0, 0] ![1, 1024, 768] inb_S8x1024x768_S1x1024x768_3_0_0)))
    (View.ld (Val := Elt Ideal) dp (Rect.unit ![0, 3072] ![512, 768] inb_S512x6144_S512x768_0_3072))
    (View.ld (Val := Elt Ideal) w (Rect.unit ![4, 0, 0] ![1, 1024, 768] inb_S8x1024x768_S1x1024x768_4_0_0))
    (View.ld (Val := Elt Ideal) dp (Rect.unit ![0, 3840] ![512, 768] inb_S512x6144_S512x768_0_3840))
    (View.ld (Val := Elt Ideal) w (Rect.unit ![5, 0, 0] ![1, 1024, 768] inb_S8x1024x768_S1x1024x768_5_0_0))
    (View.ld (Val := Elt Ideal) dp (Rect.unit ![0, 4608] ![512, 768] inb_S512x6144_S512x768_0_4608))
    (View.ld (Val := Elt Ideal) w (Rect.unit ![6, 0, 0] ![1, 1024, 768] inb_S8x1024x768_S1x1024x768_6_0_0))
    (View.ld (Val := Elt Ideal) dp (Rect.unit ![0, 5376] ![512, 768] inb_S512x6144_S512x768_0_5376))
    (View.ld (Val := Elt Ideal) w (Rect.unit ![7, 0, 0] ![1, 1024, 768] inb_S8x1024x768_S1x1024x768_7_0_0))

/-- At an index the blocks' products are one sum over block and column. -/
theorem dhBlk_at (dp : Vec Ideal S512x6144 .bf16) (w : Vec Ideal S8x1024x768 .bf16) (p : Fin 512) (q : Fin 1024) :
    dhBlk dp w (ix2 p q)
      = (∑ n : Fin 8, ∑ k : Fin 768, (dp (ix2 p ⟨n.val * 768 + k.val, by omega⟩) : EReal) * (w (ix3 n q k) : EReal) : EReal) := by
  rw [dhBlk]
  pointwise [k0_pay6, k0_pay7, Fin.sum_univ_eight]

/-- The stored row block: the residual's cotangent plus the norm's gradient by its reciprocal root. -/
theorem dx_at (d x : FVec Ideal S512x1024 .f32) (g : FVec Ideal S1x1024 .f32) (r : FVec Ideal S512x1024 .f32)
    (p : Fin 512) (q : Fin 1024) :
    k0_pay3 d x (k0_pay8 x) k0_pay9 g r (ix2 p q)
      = r (ix2 p q) + gradByRoot width eps (fun k => d (ix2 p k) * g (ix2 0 k)) (fun k => x (ix2 p k)) q := by
  pointwise [k0_pay3, k0_pay2, k0_pay1, k0_pay8, k0_pay9, gradByRoot, invRms, meanSq]

/-- The gain's gradient over the block, added to what was there. -/
theorem gain_at (d x : FVec Ideal S512x1024 .f32) (a : FVec Ideal S1x1024 .f32) (q : Fin 1024) :
    k0_pay4 d x (k0_pay8 x) k0_pay9 a (ix2 0 q)
      = a (ix2 0 q) + ∑ p : Fin 512, d (ix2 p q) * (x (ix2 p q) * invRms width eps fun k => x (ix2 p k)) := by
  pointwise [k0_pay4, k0_pay2, k0_pay1, k0_pay8, k0_pay9, invRms, meanSq]

/-- The accumulator's fill is zero. -/
theorem fill_at (i : S1x1024.Idx) : (k0_pay5 (F := Ideal)) i = 0 := by
  pointwise [k0_pay5]

/-! ## What a point leaves -/

variable (m : (ℓ : Loc nD τ sig) → Buf (Elt Ideal) ℓ)

/-- The weights as the launch finds them, the eight column blocks stacked. -/
abbrev weights (c : Dev nD) : Vec Ideal S8x1024x768 .bf16 := V m c main_v3

/-- The first point copies the weights into the scratch. -/
theorem scratch_first (c : Dev nD) (t : Fin cfg0.N) (h : t.val % 16 = 0) :
    (outsAt0 m c t.val t.isLt).2.2 = weights m c := by
  rw [outsAt0_A m c t h h]
  frame_out
  exact canon_whole _

/-- Every point leaves the weights there. -/
theorem scratch_eq (c : Dev nD) : ∀ (n : ℕ) (hn : n < cfg0.N), (outsAt0 m c n hn).2.2 = weights m c
  | 0, hn => scratch_first m c ⟨0, hn⟩ rfl
  | n + 1, hn => by
    by_cases h : (n + 1) % 16 = 0
    · exact scratch_first m c ⟨n + 1, hn⟩ h
    · rw [outsAt0_B m c ⟨n + 1, hn⟩ h h]
      exact scratch_eq c n (Nat.lt_of_succ_lt hn)

/-- A point's row block of the result. -/
theorem dx_point (c : Dev nD) (t : Fin cfg0.N) :
    (outsAt0 m c t.val t.isLt).1
      = k0_pay3 (dhBlk (iblk m c 0 t) (weights m c)) (iblk m c 1 t) (k0_pay8 (iblk m c 1 t)) k0_pay9 (iblk m c 2 t) (iblk m c 3 t) := by
  by_cases h : t.val % 16 = 0
  · rw [outsAt0_A m c t h h]
    frame_out
    simp only [load_whole]
    rfl
  · rw [outsAt0_B m c t h h]
    frame_out
    simp only [read_unread_whole, scratch_eq]
    rfl

/-- The first point's gradient of the gain, over the fill. -/
theorem gain_first (c : Dev nD) (t : Fin cfg0.N) (h : t.val % 16 = 0) :
    (outsAt0 m c t.val t.isLt).2.1
      = k0_pay4 (dhBlk (iblk m c 0 t) (weights m c)) (iblk m c 1 t) (k0_pay8 (iblk m c 1 t)) k0_pay9 (k0_pay5 (F := Ideal)) := by
  rw [outsAt0_A m c t h h]
  frame_out
  simp only [load_whole]
  rfl

/-- A later point adds its gradient to what the point before left. -/
theorem gain_later (c : Dev nD) (t : Fin cfg0.N) (h : ¬ t.val % 16 = 0) :
    (outsAt0 m c t.val t.isLt).2.1
      = k0_pay4 (dhBlk (iblk m c 0 t) (weights m c)) (iblk m c 1 t) (k0_pay8 (iblk m c 1 t)) k0_pay9
          (outsAt0 m c (t.val - 1) (Nat.lt_of_le_of_lt (Nat.sub_le _ _) t.isLt)).2.1 := by
  rw [outsAt0_B m c t h h]
  frame_out
  simp only [read_unread_whole, scratch_eq]
  rfl

end Cert.InProj

end
-- ==== Proof.InProjArray.lean ====
module

public import proofs.«01_k».proof.Proof.InProjBlock

/-! The input projection's backward call: what the two result arrays hold after the sixteen grid points. -/

@[expose] public section

set_option maxRecDepth 16384

noncomputable section

namespace Cert.InProj

open Cert.KernelIdeal Cert.KernelIdeal.Gen Idealize.ShloMosaic Idealize.ShloMosaic.TcCoe Idealize.SL.Sem
open Cert.NormGrad

variable (m : (ℓ : Loc nD τ sig) → Buf (Elt Ideal) ℓ)

/-- The five argument arrays. -/
abbrev dpA (c : Dev nD) : Cots := m ((c : Thread nD τ).loc main_arg0)
abbrev xA (c : Dev nD) : Rows := m ((c : Thread nD τ).loc main_arg1)
abbrev gA (c : Dev nD) : Gain := m ((c : Thread nD τ).loc main_arg2)
abbrev wA (c : Dev nD) : Mat := m ((c : Thread nD τ).loc main_arg3)
abbrev rA (c : Dev nD) : Rows := m ((c : Thread nD τ).loc main_arg4)

/-- Point `t` reads and writes row block `t`. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

/-- The array row of block `t`'s row `p`. -/
abbrev arow (t : Fin cfg0.N) (p : Fin 512) : Fin 8192 := ⟨t.val * 512 + p.val, by have := t.isLt; have : cfg0.N = 16 := N_0; omega⟩

theorem weights_at (c : Dev nD) (n : Fin 8) (q : Fin 1024) (k : Fin 768) :
    (weights m c : FVec Ideal S8x1024x768 .bf16) (ix3 n q k) = wA m c (ix2 q ⟨n.val * 768 + k.val, by omega⟩) := by
  unfold weights
  entry_read
  show truncf (F := Ideal) _ _ _ _ = _
  pointwise []

theorem dp_at (c : Dev nD) (i : S8192x6144.Idx) : (V m c main_v0 : FVec Ideal S8192x6144 .bf16) i = dpA m c i := by
  entry_read
  rfl

theorem dpBlk_at (c : Dev nD) (t : Fin cfg0.N) (p : Fin 512) (k : Fin 6144) :
    (iblk m c 0 t : FVec Ideal S512x6144 .bf16) (ix2 p k) = dpA m c (ix2 (arow t p) k) := by
  rw [← dp_at]
  blk_point [iblk, idx t]

theorem xBlk_at (c : Dev nD) (t : Fin cfg0.N) (p : Fin 512) (k : Fin 1024) :
    (iblk m c 1 t : FVec Ideal S512x1024 .f32) (ix2 p k) = xA m c (ix2 (arow t p) k) := by
  blk_point [iblk, V, idx t]

theorem gBlk_at (c : Dev nD) (t : Fin cfg0.N) (k : Fin 1024) :
    (iblk m c 2 t : FVec Ideal S1x1024 .f32) (ix2 0 k) = gA m c (ix2 0 k) := by
  blk_point [iblk, V, idx t]

theorem rBlk_at (c : Dev nD) (t : Fin cfg0.N) (p : Fin 512) (k : Fin 1024) :
    (iblk m c 3 t : FVec Ideal S512x1024 .f32) (ix2 p k) = rA m c (ix2 (arow t p) k) := by
  blk_point [iblk, V, idx t]

/-- A column of 6144 is a block and a column of 768. -/
theorem cotBlk_at (c : Dev nD) (t : Fin cfg0.N) (p : Fin 512) (q : Fin 1024) :
    dhBlk (iblk m c 0 t) (weights m c) (ix2 p q) = cot (dpA m c) (wA m c) (arow t p) q := by
  rw [dhBlk_at, cot, Fin.sum_univ_tiles 8 768 rfl]
  exact Finset.sum_congr rfl fun n _ => Finset.sum_congr rfl fun k _ => congrArg₂ (· * ·) (dpBlk_at m c t p _) (weights_at m c n q k)

theorem xRow_at (c : Dev nD) (t : Fin cfg0.N) (p : Fin 512) :
    (fun k : Fin 1024 => (iblk m c 1 t : FVec Ideal S512x1024 .f32) (ix2 p k)) = row (xA m c) (arow t p) :=
  funext (xBlk_at m c t p)

/-- The first result array. -/
theorem dx_array (c : Dev nD) : (dats m 0 c).arrAt 4 cfg0.N = dx (dpA m c) (xA m c) (gA m c) (wA m c) (rA m c) := by
  refine (dats m 0 c).arrAt_eq_of_covers 4 _ (by decide +kernel) fun t _ y => ?_
  blk_simp
  rw [after0_4, dx_point]
  idx_vars y
  rw [show ((View.whole main_v4_0).slice (win0_4.rect t)).emb (ix2 y0 y1) = ix2 (arow t y0) y1 from by blk_ext [idx t]]
  refine (dx_at _ _ _ _ y0 y1).trans ?_
  show _ = dxAt (dpA m c) (xA m c) (gA m c) (wA m c) (rA m c) (arow t y0) y1
  rw [dxAt, rBlk_at, xRow_at]
  congr 2
  exact funext fun k => by rw [cotBlk_at, gBlk_at]

/-- A point's share of the gain's gradient, over what it adds to. -/
theorem gainSum_at (c : Dev nD) (t : Fin cfg0.N) (a : FVec Ideal S1x1024 .f32) (i0 : Fin 1) (q : Fin 1024) :
    k0_pay4 (dhBlk (iblk m c 0 t) (weights m c)) (iblk m c 1 t) (k0_pay8 (iblk m c 1 t)) k0_pay9 a (ix2 i0 q)
      = a (ix2 i0 q) + ∑ p : Fin 512, gainTerm (dpA m c) (xA m c) (wA m c) q (arow t p) := by
  obtain rfl : i0 = 0 := Subsingleton.elim _ _
  rw [gain_at]
  refine congrArg (_ + ·) (Finset.sum_congr rfl fun p _ => ?_)
  rw [gainTerm, cotBlk_at, xBlk_at, xRow_at]

/-- The second result array. -/
theorem dgain_array (c : Dev nD) : (dats m 0 c).arrAt 5 cfg0.N = dgain (dpA m c) (xA m c) (wA m c) := by
  refine (dats m 0 c).arrAt_eq_of_after_last 5 t0_15 (by decide +kernel) _ fun j => ?_
  blk_simp
  idx_vars j
  rw [after0_5, Pipeline.eq_sum_fin_of_reset_step_apply_last (fun n h => (outsAt0 m c n h).2.1) 16 (fun _ => (0 : EReal))
    (fun t i => (∑ p : Fin 512, gainTerm (dpA m c) (xA m c) (wA m c) (i 1) (arow t p) : EReal))
    (fun t h i => ?_) (fun t h i => ?_) (le_of_eq N_0) t0_15 rfl (ix2 j0 j1), zero_add]
  · show _ = ∑ p : Fin 8192, gainTerm (dpA m c) (xA m c) (wA m c) j1 p
    rw [Fin.sum_univ_tiles 16 512 rfl]
    rfl
  · idx_vars i
    rw [gain_first m c t h, gainSum_at, fill_at]
  · idx_vars i
    rw [gain_later m c t h, gainSum_at]

end Cert.InProj

end
-- ==== Proof.InProjRef.lean ====
module

public import proofs.«01_k».proof.Proof.Gen.ReferenceIdeal.Read
public import proofs.«01_k».proof.Proof.InProjSpec

/-! The input projection's backward call: what the reference computes, element by element. -/

@[expose] public section

set_option maxRecDepth 16384

noncomputable section

namespace Cert.InProj

open Cert.ReferenceIdeal Cert.ReferenceIdeal.Gen Cert.ReferenceIdeal.Read Idealize.ShloMosaic Idealize.ShloMosaic.TcCoe
open Cert.NormGrad Cert.RealValues

variable (dp : Cots) (x : Rows) (g : Gain) (w : Mat) (r : Rows)

/-- The mean square plus the epsilon. -/
theorem ref_meanSq (p : Fin 8192) (z : Fin 1) : (val_main_v6 (F := Ideal) x : FVec Ideal S8192x1 .f32) (ix2 p z) = meanSq width eps (row x p) := by
  pointwise [val_main_v6, val_main_v5, val_main_v4, val_main_v3, val_main_v2, val_main_v1, val_main_v0, val_main_cst,
    val_main_cst_0, val_main_cst_1, meanSq]

/-- The cotangent before the gain. -/
theorem ref_cot (p : Fin 8192) (q : Fin 1024) :
    (val_main_v18 (F := Ideal) dp w : FVec Ideal S8192x1024 .f32) (ix2 p q) = cot dp w p q := by
  pointwise [val_main_v18, cot]

/-- The chain rule's common factor of a row. -/
theorem ref_factor (p : Fin 8192) (q : Fin 1024) :
    (val_main_v34 (F := Ideal) dp x g w : FVec Ideal S8192x1024 .f32) (ix2 p q)
      = chainFactor width eps (fun k => cot dp w p k * g (ix2 0 k)) (row x p) := by
  pointwise [val_main_v34, val_main_v33, val_main_v32, val_main_v31, val_main_v30, val_main_v26, val_main_v25, val_main_v24,
    val_main_v23, val_main_v22, val_main_v10, val_main_v9, val_main_v8, val_main_v7, val_main_cst_2, val_main_cst_4,
    val_main_cst_5, val_main_cst_6, ref_meanSq, ref_cot, chainFactor, invRms, Finset.univ_unique, Finset.sum_singleton]

theorem pos_width : IsPos width := ⟨1024, by norm_num, width_f32⟩
theorem pos_eps : IsPos eps := eps_f32

/-- The first result, on real numbers. -/
theorem ref_dx (hdp : ∀ i, IsReal (dp i)) (hx : ∀ i, IsReal (x i)) (hg : ∀ i, IsReal (g i)) (hw : ∀ i, IsReal (w i)) :
    val_main_v38 (F := Ideal) dp x g w r = dx dp x g w r := by
  funext i
  idx_vars i
  refine Eq.trans ?_ (chain_eq_root pos_width pos_eps (d := fun k => cot dp w i0 k * g (ix2 0 k)) (x := row x i0)
    (fun k => (IsReal.sum fun _ => (hdp _).mul (hw _)).mul (hg _)) (fun k => hx _) (r (ix2 i0 i1)) i1)
  pointwise [val_main_v38, val_main_v37, val_main_v36, val_main_v35, val_main_v29, val_main_v28, val_main_v27, val_main_v23,
    val_main_v22, val_main_v7, ref_factor, ref_meanSq, ref_cot, invRms]

/-- The second result. -/
theorem ref_dgain : val_main_v21 (F := Ideal) dp x w = dgain dp x w := by
  funext i
  idx_vars i
  show _ = ∑ p : Fin 8192, gainTerm dp x w i1 p
  pointwise [val_main_v21, val_main_v20, val_main_v19, val_main_v12, val_main_v11, val_main_v7, val_main_cst_3, ref_meanSq,
    ref_cot, gainTerm, invRms]
  exact Finset.sum_congr rfl fun p _ => mul_comm _ _

end Cert.InProj

end
-- ==== Proof.RealArrays.lean ====
module

public import proofs.«01_k».proof.Proof.RealValues
public import Idealize.ShloMosaic.Lib.Pointwise

/-! An array that passes a finiteness test holds real numbers. -/

@[expose] public section

noncomputable section

namespace Cert.RealValues

open Idealize.ShloMosaic

/-- One of the precondition's tests, at every element of its array. -/
theorem isReal_of_array {S : Shape} {x : FVec Ideal S .f32} {b : (⟨0, ![]⟩ : Shape).BroadcastsInDim S (![] : Fin 0 → Fin S.rank)}
    (h : cmpf .olt (Host.absf x) (broadcastInDim S ![] b (constant (⟨0, ![]⟩ : Shape) .f32 0x7F800000#32)) = fun _ => 1#1)
    (i : S.Idx) : IsReal (x i) :=
  isReal_of_test (congrFun h i)

end Cert.RealValues

end
-- ==== Proof.InProjClaim.lean ====
module

public import proofs.«01_k».proof.Defs
public import proofs.«01_k».proof.Proof.InProjArray
public import proofs.«01_k».proof.Proof.InProjRef
public import proofs.«01_k».proof.Proof.RealArrays
public import Idealize.ShloMosaic.Lib.Claim
public import Idealize.ShloMosaic.Lib.Quiescent

/-! The input projection's backward call: the kernel's two results are the reference's. -/

@[expose] public section

set_option maxRecDepth 16384

noncomputable section

namespace Cert.InProj

open Idealize.ShloMosaic Idealize.ShloMosaic.TcCoe Idealize.SL.Sem Cert.RealValues

/-- The precondition's side conditions. -/
theorem preFacts : Cert.Pre_finite.Facts where
  bcast_S_S8192x6144 := by decide
  bcast_S_S8192x1024 := by decide
  bcast_S_S1x1024 := by decide
  bcast_S_S1024x6144 := by decide

attribute [local instance] Cert.KernelIdeal.Gen.facts Cert.ReferenceIdeal.Gen.facts preFacts

/-- The reference leaves its arguments as they were; it has no semaphore. -/
theorem ref_frame : Cert.quiescent_ReferenceIdeal (hReferenceIdeal := Cert.ReferenceIdeal.Gen.facts) := fun m g _ =>
  (θ_run _ _ _).mono (fun r h => ⟨fun c => (h c).2.2, sem_eq_zero_of_no_sems rfl r.2⟩) (Cert.ReferenceIdeal.Value.run m g)

/-- The two runs end with equal results. -/
theorem algebraic : Cert.algebraic_KernelIdeal_ReferenceIdeal_pre_finite
    (hKernelIdeal := Cert.KernelIdeal.Gen.facts) (hReferenceIdeal := Cert.ReferenceIdeal.Gen.facts) (hPre_finite := preFacts) := by
  intro m g m' g' hpre hargs
  refine ⟨fun c => dx (dpA m c) (xA m c) (gA m c) (wA m c) (rA m c), fun c => dgain (dpA m c) (xA m c) (wA m c), ?_, ?_⟩
  · exact (θ_run _ _ _).mono (fun r h c => ⟨(h c).1.trans (dx_array m c), (h c).2.1.trans (dgain_array m c), (h c).2.2⟩)
      (Cert.KernelIdeal.Value.run_blocks m g)
  · refine (θ_run _ _ _).mono (fun r h c => ⟨?_, ?_, (h c).2.2⟩) (Cert.ReferenceIdeal.Value.run m' g')
    · obtain ⟨a0, a1, a2, a3, a4⟩ := hargs c
      obtain ⟨h0, h1, h2, h3⟩ := hpre c
      rw [(h c).1, Cert.ReferenceIdeal.Read.val_main_v38_eq, a0, a1, a2, a3, a4]
      exact ref_dx _ _ _ _ _ (isReal_of_array h0) (isReal_of_array h1) (isReal_of_array h2) (isReal_of_array h3)
    · obtain ⟨a0, a1, a2, a3, a4⟩ := hargs c
      refine (h c).2.1.trans ((Cert.ReferenceIdeal.Read.val_main_v21_eq _ _ _).trans ?_)
      rw [a0, a1, a3]
      exact ref_dgain _ _ _

end Cert.InProj

end
-- ==== Proof.Activations.lean ====
module

public import proofs.«01_k».proof.Proof.RealValues

/-! The activations of the step, the tanh form of gelu and silu, with their slopes as the kernels write them, and the
    chain rule's form of the same gradients. On real numbers the two forms are one. -/

@[expose] public section

noncomputable section

namespace Cert.Activations

open Idealize.ShloMosaic Cert.RealValues

/-- One half. -/
abbrev half : EReal := Ideal.ofBits .f32 0x3F000000#32
/-- Three. -/
abbrev three : EReal := Ideal.ofBits .f32 0x40400000#32
/-- The root of `2/π`, as both programs round it. -/
abbrev scale : EReal := Ideal.ofBits .f32 0x3F4C422A#32
/-- The cubic coefficient of gelu. -/
def cubic : EReal := ((8943 / 200000 : ℝ) : EReal)
/-- Three times it. -/
def cubic3 : EReal := ((26829 / 200000 : ℝ) : EReal)

/-- The hyperbolic tangent in gelu. -/
def geluTanh (x : EReal) : EReal := Ideal.tanh (scale * x * (1 + cubic * (x * x)))
/-- What gelu multiplies its argument by. -/
def geluGate (x : EReal) : EReal := half * (1 + geluTanh x)
def gelu (x : EReal) : EReal := x * geluGate x
def geluSlope (x : EReal) : EReal :=
  geluGate x + half * x * (1 - geluTanh x * geluTanh x) * scale * (1 + cubic3 * (x * x))
def silu (x : EReal) : EReal := x * Ideal.logistic x
def siluSlope (x : EReal) : EReal := Ideal.logistic x * (1 + x * (1 - Ideal.logistic x))

theorem half_f32 : half = ((1 / 2 : ℝ) : EReal) := by simp [Ideal.ofBits, Ideal.ieee, -EReal.coe_mul]; norm_num
theorem three_f32 : three = ((3 : ℝ) : EReal) := by simp [Ideal.ofBits, Ideal.ieee, -EReal.coe_mul]; norm_num
theorem scale_f32 : ∃ s : ℝ, scale = (s : EReal) := ⟨_, by simp [Ideal.ofBits, Ideal.ieee, -EReal.coe_mul]; rfl⟩

/-- The quotient the reference writes the cubic coefficient as. -/
theorem cubic_quotient : Ideal.div (Ideal.ofBits .f32 0x472EAB00#32) (Ideal.ofBits .f32 0x49742400#32) = cubic := by
  have h1 : Ideal.ofBits .f32 0x472EAB00#32 = ((44715 : ℝ) : EReal) := by
    simp [Ideal.ofBits, Ideal.ieee, -EReal.coe_mul]; norm_num
  have h2 : Ideal.ofBits .f32 0x49742400#32 = ((1000000 : ℝ) : EReal) := by
    simp [Ideal.ofBits, Ideal.ieee, -EReal.coe_mul]; norm_num
  rw [h1, h2, div_coe_coe _ (by norm_num), cubic]; congr 1; norm_num

/-- The argument of the tangent, multiplied out. -/
theorem tanh_cubed {x : EReal} (hx : IsReal x) : Ideal.tanh (scale * (x + cubic * (x * x * x))) = geluTanh x := by
  obtain ⟨s, hs⟩ := scale_f32; obtain ⟨x, rfl⟩ := hx
  rw [geluTanh, hs, cubic]
  simp only [← EReal.coe_mul, ← EReal.coe_add, ← EReal.coe_one]
  congr 2; ring

theorem geluTanh_real {x : EReal} (hx : IsReal x) : IsReal (geluTanh x) := by
  obtain ⟨s, hs⟩ := scale_f32; obtain ⟨x, rfl⟩ := hx
  rw [geluTanh, hs, cubic]
  simp only [← EReal.coe_mul, ← EReal.coe_add, ← EReal.coe_one, Ideal.tanh_coe]
  exact isReal_coe _

theorem isReal_one : IsReal (1 : EReal) := ⟨1, EReal.coe_one.symm⟩

/-- A difference of real numbers is one. -/
theorem sub_real {x y : EReal} (hx : IsReal x) (hy : IsReal y) : IsReal (x - y) := by
  obtain ⟨x, rfl⟩ := hx; obtain ⟨y, rfl⟩ := hy; exact ⟨x - y, rfl⟩

theorem geluGate_real {x : EReal} (hx : IsReal x) : IsReal (geluGate x) :=
  IsReal.mul ⟨_, half_f32⟩ (isReal_one.add (geluTanh_real hx))

theorem gelu_real {x : EReal} (hx : IsReal x) : IsReal (gelu x) := hx.mul (geluGate_real hx)

theorem logistic_real {x : EReal} (hx : IsReal x) : IsReal (Ideal.logistic x) := by
  obtain ⟨x, rfl⟩ := hx; rw [Ideal.logistic_coe]; exact isReal_coe _

theorem silu_real {x : EReal} (hx : IsReal x) : IsReal (silu x) := hx.mul (logistic_real hx)

/-- The chain rule through gelu's product, tangent and cube. -/
theorem gelu_chain {x d : EReal} (hx : IsReal x) (hd : IsReal d) :
    d * geluGate x + scale * (half * (x * d) * ((1 + geluTanh x) * (1 - geluTanh x)))
        + cubic * (scale * (half * (x * d) * ((1 + geluTanh x) * (1 - geluTanh x)))) * (three * (x * x))
      = d * geluSlope x := by
  obtain ⟨t, ht⟩ := geluTanh_real hx
  obtain ⟨s, hs⟩ := scale_f32; obtain ⟨x, rfl⟩ := hx; obtain ⟨d, rfl⟩ := hd
  rw [geluSlope, geluGate, ht, hs, half_f32, three_f32, cubic, cubic3]
  simp only [← EReal.coe_mul, ← EReal.coe_add, ← EReal.coe_one, ← EReal.coe_sub]
  congr 1; ring

/-- The chain rule through silu's product and logistic. -/
theorem silu_chain {x d : EReal} (hx : IsReal x) (hd : IsReal d) :
    d * Ideal.logistic x + x * d * (Ideal.logistic x * (1 - Ideal.logistic x)) = d * siluSlope x := by
  obtain ⟨l, hl⟩ := logistic_real hx
  obtain ⟨x, rfl⟩ := hx; obtain ⟨d, rfl⟩ := hd
  rw [siluSlope, hl]
  simp only [← EReal.coe_mul, ← EReal.coe_add, ← EReal.coe_one, ← EReal.coe_sub]
  congr 1; ring

end Cert.Activations

end
-- ==== Proof.GateSpec.lean ====
module

public import proofs.«01_k».proof.Proof.Activations

/-! The gate's backward call in closed form, one row at a time: `y` the state-space output's row, `a` the gate's row, `d`
    the output's cotangent, `w` the rows of the output projection the branch feeds, `g` and `b` the gated unit's weights
    and bias. -/

@[expose] public section

noncomputable section

namespace Cert.Gate

open Idealize.ShloMosaic Cert.Activations

/-- A row of 1024 numbers. -/
abbrev Row := Fin 1024 → EReal
/-- A matrix of 1024 by 1024 numbers. -/
abbrev Square := Fin 1024 → Fin 1024 → EReal

variable (y a d : Row) (w g : Square) (b : Row)

/-- The gated unit's gate: the logistic of the activated row through the weights. -/
def gate (q : Fin 1024) : EReal := Ideal.logistic (∑ k, gelu (y k) * g k q + b q)
/-- The gated unit's result. -/
def gated (q : Fin 1024) : EReal := gelu (y q) * gate y g b q
/-- The branch's result. -/
def branch (q : Fin 1024) : EReal := gated y g b q * silu (a q)
/-- The branch's cotangent: the output's through the projection. -/
def cotBranch (q : Fin 1024) : EReal := ∑ k, d k * w q k
/-- The gated unit's cotangent. -/
def cotGated (q : Fin 1024) : EReal := cotBranch d w q * silu (a q)
/-- The gradient of the gate's row. -/
def gradGate (q : Fin 1024) : EReal := cotBranch d w q * gated y g b q * siluSlope (a q)
/-- The gradient of the logits. -/
def gradLogit (q : Fin 1024) : EReal := cotGated a d w q * gelu (y q) * gate y g b q * (1 - gate y g b q)
/-- The gradient of the activated row. -/
def gradAct (q : Fin 1024) : EReal :=
  cotGated a d w q * gate y g b q + ∑ k, gradLogit y a d w g b k * g q k
/-- The gradient of the state-space output's row. -/
def gradIn (q : Fin 1024) : EReal := gradAct y a d w g b q * geluSlope (y q)

end Cert.Gate

end
-- ==== Proof.GateResult.lean ====
module

public import proofs.«01_k».proof.Proof.GateSpec
public import Idealize.ShloMosaic.Lib.Pointwise

/-! The gate's backward call: the results as functions of the argument arrays. -/

@[expose] public section

noncomputable section

namespace Cert.Gate

open Idealize.ShloMosaic

/-- A row of 1024 numbers of an array of rows. -/
abbrev row {n : ℕ} (x : (⟨2, ![n, 1024]⟩ : Shape).Idx → EReal) (p : Fin n) : Row := fun k => x (ix2 p k)
/-- A matrix by its two coordinates. -/
abbrev mat (x : (⟨2, ![1024, 1024]⟩ : Shape).Idx → EReal) : Square := fun p q => x (ix2 p q)

/-- A result of one row from the rows of the arguments. -/
abbrev Rule := Row → Row → Row → Square → Square → Row → Row

/-- The gate's columns of the projected rows. -/
abbrev gateRow (p : Fin 8192 → Fin 6144 → EReal) (r : Fin 8192) : Row := fun k => p r ⟨1024 + k.val, by omega⟩
/-- The first 1024 rows of the output projection. -/
abbrev top (w : Fin 2048 → Fin 1024 → EReal) : Square := fun p => w ⟨p.val, by omega⟩

section Spec

variable (y : (⟨2, ![8192, 1024]⟩ : Shape).Idx → EReal) (p : (⟨2, ![8192, 6144]⟩ : Shape).Idx → EReal) (d : (⟨2, ![8192, 1024]⟩ : Shape).Idx → EReal)
variable (w : (⟨2, ![2048, 1024]⟩ : Shape).Idx → EReal) (g : (⟨2, ![1024, 1024]⟩ : Shape).Idx → EReal) (b : (⟨2, ![1, 1024]⟩ : Shape).Idx → EReal)

/-- A rule at row `r`, column `q` of the argument arrays. -/
def ruleAt (R : Rule) (r : Fin 8192) (q : Fin 1024) : EReal :=
  R (row y r) (gateRow (fun i k => p (ix2 i k)) r) (row d r) (top fun i k => w (ix2 i k)) (mat g) (row b 0) q
/-- A rule over all rows. -/
def ruled (R : Rule) : (⟨2, ![8192, 1024]⟩ : Shape).Idx → EReal := fun i => ruleAt y p d w g b R (i 0) (i 1)
/-- The gradient of the bias: the logits' gradient summed over the rows. -/
def biasGrad : (⟨2, ![1, 1024]⟩ : Shape).Idx → EReal := fun i => ∑ r : Fin 8192, ruleAt y p d w g b gradLogit r (i 1)

end Spec

end Cert.Gate

end
-- ==== Proof.GateBlock.lean ====
module

public import proofs.«01_k».proof.Proof.Gen.Kernel2Ideal.Frame
public import proofs.«01_k».proof.Proof.GateResult
public import Idealize.ShloMosaic.Lib.Pipeline.ValueKit
public import Idealize.ShloMosaic.Lib.Pointwise
public import Idealize.ShloMosaic.Lib.Claim

/-! The gate's backward call: what one grid point (two halves of 256 rows) computes from its input blocks. -/

@[expose] public section

set_option maxRecDepth 16384

noncomputable section

namespace Cert.Gate

open Cert.Kernel2Ideal Cert.Kernel2Ideal.Gen Idealize.ShloMosaic Idealize.ShloMosaic.TcCoe Idealize.SL.Sem
open Cert.Activations

/-! ## The payloads of one half at an index -/

theorem named_cubic (b : BitVec FTy.f32.bits) : Named.named (F := Ideal) κ "gelu" b = cubic :=
  IdealRules.named_const.ideal_named_scalar κ "gelu" b _ rfl
theorem named_cubic3 (b : BitVec FTy.f32.bits) : Named.named (F := Ideal) κ "gelu3" b = cubic3 :=
  IdealRules.named_const.ideal_named_scalar κ "gelu3" b _ rfl

/-- Half a block of rows. -/
abbrev Half := FVec Ideal S256x1024 .f32

/-- The tangents a half holds are those of its rows. -/
def IsTanh (y th : Half) : Prop := ∀ i, th i = geluTanh (y i)

variable (y th a d : Half) (w g : Vec Ideal S1024x1024 .bf16) (b : FVec Ideal S1x1024 .f32) (h : IsTanh y th)

theorem cotGated_at (p : Fin 256) (q : Fin 1024) :
    k0_pay23 (k0_pay17 a) d (k0_pay20 w) (ix2 p q) = cotGated (row a p) (row d p) (mat w) q := by
  pointwise [k0_pay23, k0_pay21, k0_pay20, k0_pay17, k0_pay16, cotGated, cotBranch, silu]

include h

theorem gelu_at (p : Fin 256) (q : Fin 1024) : k0_pay13 y th (ix2 p q) = gelu (y (ix2 p q)) := by
  pointwise [k0_pay13, k0_pay12, gelu, geluGate, h (ix2 p q)]

theorem slope_at (p : Fin 256) (q : Fin 1024) : k0_pay14 y (mulf y y) th (ix2 p q) = geluSlope (y (ix2 p q)) := by
  pointwise [k0_pay14, k0_pay12, geluSlope, geluGate, h (ix2 p q), named_cubic3]

theorem gate_at (p : Fin 256) (q : Fin 1024) : k0_pay15 y th g b (ix2 p q) = gate (row y p) (mat g) (row b 0) q := by
  pointwise [k0_pay15, gelu_at y th h, gate]

theorem gated_at (p : Fin 256) (q : Fin 1024) : k0_pay19 y th g b (ix2 p q) = gated (row y p) (mat g) (row b 0) q := by
  pointwise [k0_pay19, gelu_at y th h, gate_at y th g b h, gated]

theorem branch_at (p : Fin 256) (q : Fin 1024) :
    k0_pay37 (k0_pay17 a) (k0_pay19 y th g b) (ix2 p q) = branch (row y p) (row a p) (mat g) (row b 0) q := by
  pointwise [k0_pay37, k0_pay17, k0_pay16, gated_at y th g b h, branch, silu]

theorem gradGate_at (p : Fin 256) (q : Fin 1024) :
    k0_pay22 (k0_pay18 a) (k0_pay19 y th g b) d (k0_pay20 w) (ix2 p q)
      = gradGate (row y p) (row a p) (row d p) (mat w) (mat g) (row b 0) q := by
  pointwise [k0_pay22, k0_pay21, k0_pay20, k0_pay18, k0_pay16, gated_at y th g b h, gradGate, cotBranch, siluSlope]

theorem gradLogit_at (p : Fin 256) (q : Fin 1024) :
    k0_pay24 (k0_pay13 y th) (k0_pay15 y th g b) (k0_pay17 a) d (k0_pay20 w) (ix2 p q)
      = gradLogit (row y p) (row a p) (row d p) (mat w) (mat g) (row b 0) q := by
  pointwise [k0_pay24, cotGated_at a d w, gelu_at y th h, gate_at y th g b h, gradLogit]

theorem gradIn_at (p : Fin 256) (q : Fin 1024) :
    k0_pay25 (k0_pay13 y th) (k0_pay14 y (mulf y y) th) (k0_pay15 y th g b) (k0_pay17 a) d (k0_pay20 w) g (ix2 p q)
      = gradIn (row y p) (row a p) (row d p) (mat w) (mat g) (row b 0) q := by
  pointwise [k0_pay25, cotGated_at a d w, slope_at y th h, gate_at y th g b h, gradLogit_at y th a d w g b h, gradIn, gradAct]

omit h in
/-- The bias gradient of a half, added to what was there. -/
theorem bias_at (s : Half) (z : FVec Ideal S1x1024 .f32) (q : Fin 1024) :
    k0_pay38 s z (ix2 0 q) = z (ix2 0 q) + ∑ p : Fin 256, s (ix2 p q) := by
  pointwise [k0_pay38]

omit h in
/-- The accumulator's fill is zero. -/
theorem fill_at (i : S1x1024.Idx) : (k0_pay8 (F := Ideal)) i = 0 := by
  pointwise [k0_pay8]

/-! ## The two halves of a block -/

/-- A row of a block kept as eight lane groups of 128 columns. -/
abbrev laneRow {n : ℕ} (x : (⟨3, ![8, n, 128]⟩ : Shape).Idx → EReal) (p : Fin n) : Row :=
  fun k => x (ix3 ⟨k.val / 128, by omega⟩ p ⟨k.val % 128, by omega⟩)

omit h

variable (x : Vec Ideal S8x512x128 .f32)

/-- The first 256 rows of the block, the lane groups side by side. -/
def lo : Half :=
  k0_pay9 (F := Ideal) (View.ld (Val := Elt Ideal) x (Rect.unit ![0, 0, 0] ![1, 256, 128] inb_S8x512x128_S1x256x128_0_0_0))
    (View.ld (Val := Elt Ideal) x (Rect.unit ![1, 0, 0] ![1, 256, 128] inb_S8x512x128_S1x256x128_1_0_0))
    (View.ld (Val := Elt Ideal) x (Rect.unit ![2, 0, 0] ![1, 256, 128] inb_S8x512x128_S1x256x128_2_0_0))
    (View.ld (Val := Elt Ideal) x (Rect.unit ![3, 0, 0] ![1, 256, 128] inb_S8x512x128_S1x256x128_3_0_0))
    (View.ld (Val := Elt Ideal) x (Rect.unit ![4, 0, 0] ![1, 256, 128] inb_S8x512x128_S1x256x128_4_0_0))
    (View.ld (Val := Elt Ideal) x (Rect.unit ![5, 0, 0] ![1, 256, 128] inb_S8x512x128_S1x256x128_5_0_0))
    (View.ld (Val := Elt Ideal) x (Rect.unit ![6, 0, 0] ![1, 256, 128] inb_S8x512x128_S1x256x128_6_0_0))
    (View.ld (Val := Elt Ideal) x (Rect.unit ![7, 0, 0] ![1, 256, 128] inb_S8x512x128_S1x256x128_7_0_0))

/-- Their tangents. -/
def loTanh : Half :=
  k0_pay11 (F := Ideal) (View.ld (Val := Elt Ideal) x (Rect.unit ![0, 0, 0] ![1, 256, 128] inb_S8x512x128_S1x256x128_0_0_0))
    (View.ld (Val := Elt Ideal) x (Rect.unit ![1, 0, 0] ![1, 256, 128] inb_S8x512x128_S1x256x128_1_0_0))
    (View.ld (Val := Elt Ideal) x (Rect.unit ![2, 0, 0] ![1, 256, 128] inb_S8x512x128_S1x256x128_2_0_0))
    (View.ld (Val := Elt Ideal) x (Rect.unit ![3, 0, 0] ![1, 256, 128] inb_S8x512x128_S1x256x128_3_0_0))
    (View.ld (Val := Elt Ideal) x (Rect.unit ![4, 0, 0] ![1, 256, 128] inb_S8x512x128_S1x256x128_4_0_0))
    (View.ld (Val := Elt Ideal) x (Rect.unit ![5, 0, 0] ![1, 256, 128] inb_S8x512x128_S1x256x128_5_0_0))
    (View.ld (Val := Elt Ideal) x (Rect.unit ![6, 0, 0] ![1, 256, 128] inb_S8x512x128_S1x256x128_6_0_0))
    (View.ld (Val := Elt Ideal) x (Rect.unit ![7, 0, 0] ![1, 256, 128] inb_S8x512x128_S1x256x128_7_0_0))

/-- The last 256 rows of the block. -/
def hi : Half :=
  k0_pay9 (F := Ideal) (View.ld (Val := Elt Ideal) x (Rect.unit ![0, 256, 0] ![1, 256, 128] inb_S8x512x128_S1x256x128_0_256_0))
    (View.ld (Val := Elt Ideal) x (Rect.unit ![1, 256, 0] ![1, 256, 128] inb_S8x512x128_S1x256x128_1_256_0))
    (View.ld (Val := Elt Ideal) x (Rect.unit ![2, 256, 0] ![1, 256, 128] inb_S8x512x128_S1x256x128_2_256_0))
    (View.ld (Val := Elt Ideal) x (Rect.unit ![3, 256, 0] ![1, 256, 128] inb_S8x512x128_S1x256x128_3_256_0))
    (View.ld (Val := Elt Ideal) x (Rect.unit ![4, 256, 0] ![1, 256, 128] inb_S8x512x128_S1x256x128_4_256_0))
    (View.ld (Val := Elt Ideal) x (Rect.unit ![5, 256, 0] ![1, 256, 128] inb_S8x512x128_S1x256x128_5_256_0))
    (View.ld (Val := Elt Ideal) x (Rect.unit ![6, 256, 0] ![1, 256, 128] inb_S8x512x128_S1x256x128_6_256_0))
    (View.ld (Val := Elt Ideal) x (Rect.unit ![7, 256, 0] ![1, 256, 128] inb_S8x512x128_S1x256x128_7_256_0))

/-- Their tangents. -/
def hiTanh : Half :=
  k0_pay11 (F := Ideal) (View.ld (Val := Elt Ideal) x (Rect.unit ![0, 256, 0] ![1, 256, 128] inb_S8x512x128_S1x256x128_0_256_0))
    (View.ld (Val := Elt Ideal) x (Rect.unit ![1, 256, 0] ![1, 256, 128] inb_S8x512x128_S1x256x128_1_256_0))
    (View.ld (Val := Elt Ideal) x (Rect.unit ![2, 256, 0] ![1, 256, 128] inb_S8x512x128_S1x256x128_2_256_0))
    (View.ld (Val := Elt Ideal) x (Rect.unit ![3, 256, 0] ![1, 256, 128] inb_S8x512x128_S1x256x128_3_256_0))
    (View.ld (Val := Elt Ideal) x (Rect.unit ![4, 256, 0] ![1, 256, 128] inb_S8x512x128_S1x256x128_4_256_0))
    (View.ld (Val := Elt Ideal) x (Rect.unit ![5, 256, 0] ![1, 256, 128] inb_S8x512x128_S1x256x128_5_256_0))
    (View.ld (Val := Elt Ideal) x (Rect.unit ![6, 256, 0] ![1, 256, 128] inb_S8x512x128_S1x256x128_6_256_0))
    (View.ld (Val := Elt Ideal) x (Rect.unit ![7, 256, 0] ![1, 256, 128] inb_S8x512x128_S1x256x128_7_256_0))

/-- The first half's rows are the block's. -/
theorem lo_row (p : Fin 256) : row (lo x) p = laneRow x ⟨p.val, by omega⟩ := by
  funext k
  show lo x (ix2 p k) = _
  pointwise [lo, k0_pay9]
  blk_point []

/-- The second half's rows are the block's, 256 further down. -/
theorem hi_row (p : Fin 256) : row (hi x) p = laneRow x ⟨256 + p.val, by omega⟩ := by
  funext k
  show hi x (ix2 p k) = _
  pointwise [hi, k0_pay9]
  blk_point []

theorem lo_tanh : IsTanh (lo x) (loTanh x) := fun i => by
  idx_vars i
  pointwise [loTanh, k0_pay11, k0_pay10, lo, geluTanh, named_cubic]

theorem hi_tanh : IsTanh (hi x) (hiTanh x) := fun i => by
  idx_vars i
  pointwise [hiTanh, k0_pay11, k0_pay10, hi, geluTanh, named_cubic]

end Cert.Gate

end
-- ==== Proof.GatePoint.lean ====
module

public import proofs.«01_k».proof.Proof.GateBlock

/-! The gate's backward call: what a grid point leaves in its six output blocks. -/

@[expose] public section

set_option maxRecDepth 16384

noncomputable section

namespace Cert.Gate

open Cert.Kernel2Ideal Cert.Kernel2Ideal.Gen Idealize.ShloMosaic Idealize.ShloMosaic.TcCoe Idealize.SL.Sem

/-! ## Two halves make a block -/

/-- The first 256 rows of a block. -/
abbrev loRows (x : Vec Ideal S512x1024 .f32) : Half :=
  View.ld (Val := Elt Ideal) x (Rect.unit ![0, 0] ![256, 1024] inb_S512x1024_S256x1024_0_0)
/-- The last 256 rows of a block. -/
abbrev hiRows (x : Vec Ideal S512x1024 .f32) : Half :=
  View.ld (Val := Elt Ideal) x (Rect.unit ![256, 0] ![256, 1024] inb_S512x1024_S256x1024_256_0)

theorem row_lo (x : Vec Ideal S512x1024 .f32) (p : Fin 256) : row (loRows x) p = row x ⟨p.val, by omega⟩ := by
  funext k
  show loRows x (ix2 p k) = x (ix2 _ k)
  pointwise [loRows]
  try blk_ext

theorem row_hi (x : Vec Ideal S512x1024 .f32) (p : Fin 256) : row (hiRows x) p = row x ⟨256 + p.val, by omega⟩ := by
  funext k
  show hiRows x (ix2 p k) = x (ix2 _ k)
  pointwise [hiRows]
  try blk_ext

/-- A block of which each half is stored by the same row function holds that function of its rows. -/
theorem canon_halves (R : Row → Row → Row → Row) (x : Vec Ideal S8x512x128 .f32) (a d : Vec Ideal S512x1024 .f32)
    (f : Half → Half → Half → Half → FVec Ideal S256x1024 .bf16)
    (hf : ∀ y th u v, IsTanh y th → ∀ p q, f y th u v (ix2 p q) = R (row y p) (row u p) (row v p) q) :
    (View.canon (Val := Elt Ideal) [⟨Rect.unit ![256, 0] ![256, 1024] inb_S512x1024_S256x1024_256_0,
          f (hi x) (hiTanh x) (hiRows a) (hiRows d)⟩,
        ⟨Rect.unit ![0, 0] ![256, 1024] inb_S512x1024_S256x1024_0_0, f (lo x) (loTanh x) (loRows a) (loRows d)⟩] : Vec Ideal S512x1024 .bf16)
      = fun j : S512x1024.Idx => R (laneRow x (j 0)) (row a (j 0)) (row d (j 0)) (j 1) := by
  funext y
  canon_tiles z h
  · idx_vars z
    rw [hf _ _ _ _ (hi_tanh x), hi_row, row_hi, row_hi, show y 0 = (⟨256 + z0.val, by omega⟩ : Fin 512) from Fin.ext h0,
      show y 1 = z1 from Fin.ext h1]
  · idx_vars z
    rw [hf _ _ _ _ (lo_tanh x), lo_row, row_lo, row_lo, show y 0 = (⟨z0.val, by omega⟩ : Fin 512) from Fin.ext h0,
      show y 1 = z1 from Fin.ext h1]

/-! ## What a point leaves -/

variable (m : (ℓ : Loc nD τ sig) → Buf (Elt Ideal) ℓ) (c : Dev nD) (t : Fin cfg0.N)

/-- A function of a row of each streamed block, whole. -/
abbrev ofRows (R : Row → Row → Row → Row) : S512x1024.Idx → EReal :=
  fun j => R (laneRow (iblk m c 0 t) (j 0)) (row (iblk m c 1 t) (j 0)) (row (iblk m c 2 t) (j 0)) (j 1)

/-- A block written in halves, in either case of the grid point. -/
theorem gradGate_point : (outsAt0 m c t.val t.isLt).2.1
    = ofRows m c t fun y a d => gradGate y a d (mat (iblk m c 3 t)) (mat (iblk m c 4 t)) (row (iblk m c 5 t) 0) := by
  have key := canon_halves (fun y a d => gradGate y a d (mat (iblk m c 3 t)) (mat (iblk m c 4 t)) (row (iblk m c 5 t) 0))
    (iblk m c 0 t) (iblk m c 1 t) (iblk m c 2 t)
    (fun y th a d => k0_pay22 (k0_pay18 a) (k0_pay19 y th (iblk m c 4 t) (iblk m c 5 t)) d (k0_pay20 (iblk m c 3 t)))
    (fun y th a d hy => gradGate_at y th a d _ _ _ hy)
  by_cases h : t.val % 16 = 0
  · rw [outsAt0_A m c t h]
    frame_out
    exact key
  · rw [outsAt0_B m c t h]
    frame_out
    exact key

/-- The activated rows. -/
theorem gelu_point : (outsAt0 m c t.val t.isLt).2.2.1 = ofRows m c t fun y _ _ q => Activations.gelu (y q) := by
  have key := canon_halves (fun y _ _ q => Activations.gelu (y q)) (iblk m c 0 t) (iblk m c 1 t) (iblk m c 2 t)
    (fun y th _ _ => k0_pay35 (k0_pay13 y th)) (fun y th _ _ hy p q => gelu_at y th hy p q)
  by_cases h : t.val % 16 = 0
  · rw [outsAt0_A m c t h]
    frame_out
    exact key
  · rw [outsAt0_B m c t h]
    frame_out
    exact key

/-- The gradient of the logits. -/
theorem gradLogit_point : (outsAt0 m c t.val t.isLt).2.2.2.1
    = ofRows m c t fun y a d => gradLogit y a d (mat (iblk m c 3 t)) (mat (iblk m c 4 t)) (row (iblk m c 5 t) 0) := by
  have key := canon_halves (fun y a d => gradLogit y a d (mat (iblk m c 3 t)) (mat (iblk m c 4 t)) (row (iblk m c 5 t) 0))
    (iblk m c 0 t) (iblk m c 1 t) (iblk m c 2 t)
    (fun y th a d => k0_pay36 (k0_pay24 (k0_pay13 y th) (k0_pay15 y th (iblk m c 4 t) (iblk m c 5 t)) (k0_pay17 a) d
      (k0_pay20 (iblk m c 3 t))))
    (fun y th a d hy => gradLogit_at y th a d _ _ _ hy)
  by_cases h : t.val % 16 = 0
  · rw [outsAt0_A m c t h]
    frame_out
    exact key
  · rw [outsAt0_B m c t h]
    frame_out
    exact key

/-- The branch's result. -/
theorem branch_point : (outsAt0 m c t.val t.isLt).2.2.2.2.1
    = ofRows m c t fun y a _ => branch y a (mat (iblk m c 4 t)) (row (iblk m c 5 t) 0) := by
  have key := canon_halves (fun y a _ => branch y a (mat (iblk m c 4 t)) (row (iblk m c 5 t) 0))
    (iblk m c 0 t) (iblk m c 1 t) (iblk m c 2 t)
    (fun y th a _ => k0_pay37 (k0_pay17 a) (k0_pay19 y th (iblk m c 4 t) (iblk m c 5 t)))
    (fun y th a _ hy => branch_at y th a _ _ hy)
  by_cases h : t.val % 16 = 0
  · rw [outsAt0_A m c t h]
    frame_out
    exact key
  · rw [outsAt0_B m c t h]
    frame_out
    exact key

/-- The gradient of the logits over the point's rows, added up, onto what was there. -/
theorem bias_sum (R : Row → Row → Row → Row) (x : Vec Ideal S8x512x128 .f32) (a d : Vec Ideal S512x1024 .f32)
    (f : Half → Half → Half → Half → Half)
    (hf : ∀ y th u v, IsTanh y th → ∀ p q, f y th u v (ix2 p q) = R (row y p) (row u p) (row v p) q)
    (z : FVec Ideal S1x1024 .f32) (q : Fin 1024) :
    k0_pay38 (f (hi x) (hiTanh x) (hiRows a) (hiRows d)) (k0_pay38 (f (lo x) (loTanh x) (loRows a) (loRows d)) z) (ix2 0 q)
      = z (ix2 0 q) + ∑ p : Fin 512, R (laneRow x p) (row a p) (row d p) q := by
  have e : ∀ p p' : Fin 512, p.val = p'.val → R (laneRow x p) (row a p) (row d p) q = R (laneRow x p') (row a p') (row d p') q :=
    fun p p' h => by rw [Fin.ext h]
  rw [bias_at, bias_at, Fin.sum_univ_tiles 2 256 rfl, Fin.sum_univ_two, add_assoc]
  refine congrArg (z _ + ·) (congrArg₂ (· + ·) (Finset.sum_congr rfl fun p _ => ?_) (Finset.sum_congr rfl fun p _ => ?_))
  · rw [hf _ _ _ _ (lo_tanh x), lo_row, row_lo, row_lo]
    exact e _ _ (by simp)
  · rw [hf _ _ _ _ (hi_tanh x), hi_row, row_hi, row_hi]
    exact e _ _ (by simp)

/-- The gradient of the logits over the rows of a point, for one column. -/
abbrev pointBias (q : Fin 1024) : EReal :=
  ∑ p : Fin 512, gradLogit (laneRow (iblk m c 0 t) p) (row (iblk m c 1 t) p) (row (iblk m c 2 t) p) (mat (iblk m c 3 t))
    (mat (iblk m c 4 t)) (row (iblk m c 5 t) 0) q

/-- The two halves' bias gradients onto `z`, the way a point computes them. -/
theorem bias_key (z : FVec Ideal S1x1024 .f32) (q : Fin 1024) :
    k0_pay38 (k0_pay24 (k0_pay13 (hi (iblk m c 0 t)) (hiTanh (iblk m c 0 t)))
          (k0_pay15 (hi (iblk m c 0 t)) (hiTanh (iblk m c 0 t)) (iblk m c 4 t) (iblk m c 5 t)) (k0_pay17 (hiRows (iblk m c 1 t)))
          (hiRows (iblk m c 2 t)) (k0_pay20 (iblk m c 3 t)))
        (k0_pay38 (k0_pay24 (k0_pay13 (lo (iblk m c 0 t)) (loTanh (iblk m c 0 t)))
          (k0_pay15 (lo (iblk m c 0 t)) (loTanh (iblk m c 0 t)) (iblk m c 4 t) (iblk m c 5 t)) (k0_pay17 (loRows (iblk m c 1 t)))
          (loRows (iblk m c 2 t)) (k0_pay20 (iblk m c 3 t))) z) (ix2 0 q)
      = z (ix2 0 q) + pointBias m c t q :=
  bias_sum (fun y a d => gradLogit y a d (mat (iblk m c 3 t)) (mat (iblk m c 4 t)) (row (iblk m c 5 t) 0))
    (iblk m c 0 t) (iblk m c 1 t) (iblk m c 2 t)
    (fun y th a d => k0_pay24 (k0_pay13 y th) (k0_pay15 y th (iblk m c 4 t) (iblk m c 5 t)) (k0_pay17 a) d
      (k0_pay20 (iblk m c 3 t)))
    (fun y th a d hy => gradLogit_at y th a d _ _ _ hy) z q

/-- The first point's bias gradient. -/
theorem bias_first (h : t.val % 16 = 0) (q : Fin 1024) :
    (outsAt0 m c t.val t.isLt).2.2.2.2.2 (ix2 0 q) = 0 + pointBias m c t q := by
  rw [outsAt0_A m c t h]
  frame_out
  exact (bias_key m c t _ q).trans (by rw [fill_at])

/-- A later point adds its bias gradient to what the point before left. -/
theorem bias_later (h : ¬ t.val % 16 = 0) (q : Fin 1024) :
    (outsAt0 m c t.val t.isLt).2.2.2.2.2 (ix2 0 q)
      = (outsAt0 m c (t.val - 1) (Nat.lt_of_le_of_lt (Nat.sub_le _ _) t.isLt)).2.2.2.2.2 (ix2 0 q) + pointBias m c t q := by
  rw [outsAt0_B m c t h]
  frame_out
  exact bias_key m c t _ q

/-- The gradient of the state-space output over a block. -/
abbrev blockIn (p : Fin 512) (q : Fin 1024) : EReal :=
  gradIn (laneRow (iblk m c 0 t) p) (row (iblk m c 1 t) p) (row (iblk m c 2 t) p) (mat (iblk m c 3 t)) (mat (iblk m c 4 t))
    (row (iblk m c 5 t) 0) q

/-- The first half's gradient is the block's. -/
theorem gradIn_lo (p : Fin 256) (q q' : Fin 1024) (r : Fin 512) (hr : r.val = p.val) (hq : q'.val = q.val) :
    k0_pay25 (k0_pay13 (lo (iblk m c 0 t)) (loTanh (iblk m c 0 t)))
        (k0_pay14 (lo (iblk m c 0 t)) (mulf (lo (iblk m c 0 t)) (lo (iblk m c 0 t))) (loTanh (iblk m c 0 t)))
        (k0_pay15 (lo (iblk m c 0 t)) (loTanh (iblk m c 0 t)) (iblk m c 4 t) (iblk m c 5 t)) (k0_pay17 (loRows (iblk m c 1 t)))
        (loRows (iblk m c 2 t)) (k0_pay20 (iblk m c 3 t)) (iblk m c 4 t) (ix2 p q)
      = blockIn m c t r q' := by
  rw [gradIn_at _ _ _ _ _ _ _ (lo_tanh _), lo_row, row_lo, row_lo, Fin.ext hq, show r = ⟨p.val, by omega⟩ from Fin.ext hr]

/-- The second half's gradient is the block's, 256 rows further down. -/
theorem gradIn_hi (p : Fin 256) (q q' : Fin 1024) (r : Fin 512) (hr : r.val = 256 + p.val) (hq : q'.val = q.val) :
    k0_pay25 (k0_pay13 (hi (iblk m c 0 t)) (hiTanh (iblk m c 0 t)))
        (k0_pay14 (hi (iblk m c 0 t)) (mulf (hi (iblk m c 0 t)) (hi (iblk m c 0 t))) (hiTanh (iblk m c 0 t)))
        (k0_pay15 (hi (iblk m c 0 t)) (hiTanh (iblk m c 0 t)) (iblk m c 4 t) (iblk m c 5 t)) (k0_pay17 (hiRows (iblk m c 1 t)))
        (hiRows (iblk m c 2 t)) (k0_pay20 (iblk m c 3 t)) (iblk m c 4 t) (ix2 p q)
      = blockIn m c t r q' := by
  rw [gradIn_at _ _ _ _ _ _ _ (hi_tanh _), hi_row, row_hi, row_hi, Fin.ext hq, show r = ⟨256 + p.val, by omega⟩ from Fin.ext hr]

/-- One lane group of a half, under a unit axis. -/
def lane (u : Half) (o : Fin 2 → ℕ) (h : S256x1024.Slices o S256x128) : FVec Ideal S1x256x128 .f32 :=
  shapeCast S1x256x128 (extractStridedSlice S256x128 o u h) shapeCasts_S256x128_S1x256x128

/-- A block stored by lane groups, half by half, holds at each lane the column of the half. -/
theorem canon_lanes (u v : Half) (T : Fin 512 → Fin 1024 → EReal)
    (hu : ∀ (p : Fin 256) (q q' : Fin 1024) (r : Fin 512), r.val = p.val → q'.val = q.val → u (ix2 p q) = T r q')
    (hv : ∀ (p : Fin 256) (q q' : Fin 1024) (r : Fin 512), r.val = 256 + p.val → q'.val = q.val → v (ix2 p q) = T r q') :
    (View.canon (Val := Elt Ideal) [
        ⟨Rect.unit ![7, 256, 0] ![1, 256, 128] inb_S8x512x128_S1x256x128_7_256_0, lane v ![0, 896] slices_S256x1024_o0_896_S256x128⟩,
        ⟨Rect.unit ![6, 256, 0] ![1, 256, 128] inb_S8x512x128_S1x256x128_6_256_0, lane v ![0, 768] slices_S256x1024_o0_768_S256x128⟩,
        ⟨Rect.unit ![5, 256, 0] ![1, 256, 128] inb_S8x512x128_S1x256x128_5_256_0, lane v ![0, 640] slices_S256x1024_o0_640_S256x128⟩,
        ⟨Rect.unit ![4, 256, 0] ![1, 256, 128] inb_S8x512x128_S1x256x128_4_256_0, lane v ![0, 512] slices_S256x1024_o0_512_S256x128⟩,
        ⟨Rect.unit ![3, 256, 0] ![1, 256, 128] inb_S8x512x128_S1x256x128_3_256_0, lane v ![0, 384] slices_S256x1024_o0_384_S256x128⟩,
        ⟨Rect.unit ![2, 256, 0] ![1, 256, 128] inb_S8x512x128_S1x256x128_2_256_0, lane v ![0, 256] slices_S256x1024_o0_256_S256x128⟩,
        ⟨Rect.unit ![1, 256, 0] ![1, 256, 128] inb_S8x512x128_S1x256x128_1_256_0, lane v ![0, 128] slices_S256x1024_o0_128_S256x128⟩,
        ⟨Rect.unit ![0, 256, 0] ![1, 256, 128] inb_S8x512x128_S1x256x128_0_256_0, lane v ![0, 0] slices_S256x1024_o0_0_S256x128⟩,
        ⟨Rect.unit ![7, 0, 0] ![1, 256, 128] inb_S8x512x128_S1x256x128_7_0_0, lane u ![0, 896] slices_S256x1024_o0_896_S256x128⟩,
        ⟨Rect.unit ![6, 0, 0] ![1, 256, 128] inb_S8x512x128_S1x256x128_6_0_0, lane u ![0, 768] slices_S256x1024_o0_768_S256x128⟩,
        ⟨Rect.unit ![5, 0, 0] ![1, 256, 128] inb_S8x512x128_S1x256x128_5_0_0, lane u ![0, 640] slices_S256x1024_o0_640_S256x128⟩,
        ⟨Rect.unit ![4, 0, 0] ![1, 256, 128] inb_S8x512x128_S1x256x128_4_0_0, lane u ![0, 512] slices_S256x1024_o0_512_S256x128⟩,
        ⟨Rect.unit ![3, 0, 0] ![1, 256, 128] inb_S8x512x128_S1x256x128_3_0_0, lane u ![0, 384] slices_S256x1024_o0_384_S256x128⟩,
        ⟨Rect.unit ![2, 0, 0] ![1, 256, 128] inb_S8x512x128_S1x256x128_2_0_0, lane u ![0, 256] slices_S256x1024_o0_256_S256x128⟩,
        ⟨Rect.unit ![1, 0, 0] ![1, 256, 128] inb_S8x512x128_S1x256x128_1_0_0, lane u ![0, 128] slices_S256x1024_o0_128_S256x128⟩,
        ⟨Rect.unit ![0, 0, 0] ![1, 256, 128] inb_S8x512x128_S1x256x128_0_0_0, lane u ![0, 0] slices_S256x1024_o0_0_S256x128⟩] :
      Vec Ideal S8x512x128 .f32)
      = fun j : S8x512x128.Idx => T (j 1)
        ⟨(j 0).val * 128 + (j 2).val, by have h0 := (j 0).isLt; have h2 := (j 2).isLt; simp at h0 h2; omega⟩ := by
  funext j
  canon_tiles z hz
  all_goals
    idx_vars z
    pointwise [lane]
    first
      | exact hv _ _ _ _ (by omega) (by simp only []; omega)
      | exact hu _ _ _ _ (by omega) (by simp only []; omega)

/-- The gradient of the state-space output, in eight lane groups. -/
theorem gradIn_point : (outsAt0 m c t.val t.isLt).1
    = fun j : S8x512x128.Idx => blockIn m c t (j 1)
        ⟨(j 0).val * 128 + (j 2).val, by have h0 := (j 0).isLt; have h2 := (j 2).isLt; simp at h0 h2; omega⟩ := by
  have key := canon_lanes _ _ (blockIn m c t) (gradIn_lo m c t) (gradIn_hi m c t)
  by_cases h : t.val % 16 = 0
  · rw [outsAt0_A m c t h]
    frame_out
    exact key
  · rw [outsAt0_B m c t h]
    frame_out
    exact key

end Cert.Gate

end
-- ==== Proof.GateArray.lean ====
module

public import proofs.«01_k».proof.Proof.GatePoint
public import proofs.«01_k».proof.Proof.GateResult
public import Idealize.ShloMosaic.Lib.Claim

/-! The gate's backward call: what the six result arrays hold after the sixteen grid points and the host lines. -/

@[expose] public section

set_option maxRecDepth 16384

noncomputable section

namespace Cert.Gate

open Cert.Kernel2Ideal Cert.Kernel2Ideal.Gen Idealize.ShloMosaic Idealize.ShloMosaic.TcCoe Idealize.SL.Sem

variable (m : (ℓ : Loc nD τ sig) → Buf (Elt Ideal) ℓ)

/-- The six argument arrays. -/
abbrev yA (c : Dev nD) : FVec Ideal S8192x1024 .f32 := m ((c : Thread nD τ).loc main_arg0)
abbrev pA (c : Dev nD) : FVec Ideal S8192x6144 .f32 := m ((c : Thread nD τ).loc main_arg1)
abbrev dA (c : Dev nD) : FVec Ideal S8192x1024 .f32 := m ((c : Thread nD τ).loc main_arg2)
abbrev wA (c : Dev nD) : FVec Ideal S2048x1024 .f32 := m ((c : Thread nD τ).loc main_arg3)
abbrev gA (c : Dev nD) : FVec Ideal S1024x1024 .f32 := m ((c : Thread nD τ).loc main_arg4)
abbrev bA (c : Dev nD) : FVec Ideal S1x1024 .f32 := m ((c : Thread nD τ).loc main_arg5)

/-- Point `t` reads and writes row block `t`. -/
theorem idx : ∀ t : Fin cfg0.N, win0_0.index t = ![0, t.val, 0] ∧ win0_1.index t = ![t.val, 1] ∧ win0_2.index t = ![t.val, 0]
    ∧ win0_3.index t = ![0, 0] ∧ win0_4.index t = ![0, 0] ∧ win0_5.index t = ![0, 0] ∧ win0_6.index t = ![0, t.val, 0]
    ∧ win0_7.index t = ![t.val, 0] ∧ win0_8.index t = ![t.val, 0] ∧ win0_9.index t = ![t.val, 0]
    ∧ win0_10.index t = ![t.val, 0] ∧ win0_11.index t = ![0, 0] :=
  (by decide +kernel : ∀ t : Fin grid0.N, _)

/-- The array row of block `t`'s row `p`. -/
abbrev arow (t : Fin cfg0.N) (p : Fin 512) : Fin 8192 := ⟨t.val * 512 + p.val, by have := t.isLt; have : cfg0.N = 16 := N_0; omega⟩

variable (c : Dev nD) (t : Fin cfg0.N)

/-- The rows in eight lane groups, as the host lays them. -/
theorem lanes_at (n : Fin 8) (r : Fin 8192) (l : Fin 128) :
    (V m c main_v1 : FVec Ideal S8x8192x128 .f32) (ix3 n r l) = yA m c (ix2 r ⟨n.val * 128 + l.val, by omega⟩) := by
  entry_read
  show transpose _ _ (shapeCast _ (yA m c) _) _ _ = _
  pointwise []
  try blk_ext

theorem yBlk_at (p : Fin 512) : laneRow (iblk m c 0 t) p = row (yA m c) (arow t p) := by
  funext k
  show (iblk m c 0 t : FVec Ideal S8x512x128 .f32) (ix3 _ _ _) = _
  rw [show row (yA m c) (arow t p) k = (V m c main_v1 : FVec Ideal S8x8192x128 .f32) (ix3 ⟨k.val / 128, by omega⟩ (arow t p) ⟨k.val % 128, by omega⟩) from by
    rw [lanes_at]; show yA m c _ = yA m c _; congr 1; blk_ext]
  blk_point [iblk, idx t]

theorem aBlk_at (p : Fin 512) : row (iblk m c 1 t) p = gateRow (fun i k => pA m c (ix2 i k)) (arow t p) := by
  funext k
  show (iblk m c 1 t : FVec Ideal S512x1024 .f32) (ix2 p k) = pA m c (ix2 _ _)
  blk_point [iblk, V, idx t]

theorem dBlk_at (p : Fin 512) : row (iblk m c 2 t) p = row (dA m c) (arow t p) := by
  funext k
  show (iblk m c 2 t : FVec Ideal S512x1024 .f32) (ix2 p k) = dA m c (ix2 _ _)
  blk_point [iblk, V, idx t]

theorem wHost_at (i : S2048x1024.Idx) : (V m c main_v2 : FVec Ideal S2048x1024 .bf16) i = wA m c i := by
  entry_read
  rfl

theorem gHost_at (i : S1024x1024.Idx) : (V m c main_v3 : FVec Ideal S1024x1024 .bf16) i = gA m c i := by
  entry_read
  rfl

theorem wBlk_at : mat (iblk m c 3 t) = top fun i k => wA m c (ix2 i k) := by
  funext p k
  show (iblk m c 3 t : FVec Ideal S1024x1024 .bf16) (ix2 p k) = wA m c (ix2 _ _)
  rw [← wHost_at]
  blk_point [iblk, idx t]

theorem gBlk_at : mat (iblk m c 4 t) = mat (gA m c) := by
  funext p k
  show (iblk m c 4 t : FVec Ideal S1024x1024 .bf16) (ix2 p k) = gA m c (ix2 _ _)
  rw [← gHost_at]
  blk_point [iblk, idx t]

theorem bBlk_at : row (iblk m c 5 t) 0 = row (bA m c) 0 := by
  funext k
  show (iblk m c 5 t : FVec Ideal S1x1024 .f32) (ix2 0 k) = bA m c (ix2 _ _)
  blk_point [iblk, V, idx t]

/-- A rule over a block's row is the rule over the array's row. -/
theorem rule_block (R : Rule) (p : Fin 512) (q : Fin 1024) :
    R (laneRow (iblk m c 0 t) p) (row (iblk m c 1 t) p) (row (iblk m c 2 t) p) (mat (iblk m c 3 t)) (mat (iblk m c 4 t))
        (row (iblk m c 5 t) 0) q
      = ruleAt (yA m c) (pA m c) (dA m c) (wA m c) (gA m c) (bA m c) R (arow t p) q := by
  rw [yBlk_at, aBlk_at, dBlk_at, wBlk_at, gBlk_at, bBlk_at, ruleAt]

/-! ## The result arrays -/

/-- A tiled result of 512 rows a point. -/
theorem tiled (R : Rule) (y0 : Fin 512) (y1 : Fin 1024) :
    ofRows m c t (fun y a d => R y a d (mat (iblk m c 3 t)) (mat (iblk m c 4 t)) (row (iblk m c 5 t) 0)) (ix2 y0 y1)
      = ruled (yA m c) (pA m c) (dA m c) (wA m c) (gA m c) (bA m c) R (ix2 (arow t y0) y1) :=
  rule_block m c t R y0 y1

theorem gradGate_array : (dats m 0 c).arrAt 7 cfg0.N = ruled (yA m c) (pA m c) (dA m c) (wA m c) (gA m c) (bA m c) gradGate := by
  refine (dats m 0 c).arrAt_eq_of_covers 7 _ (by decide +kernel) fun t _ y => ?_
  blk_simp
  rw [after0_7, gradGate_point]
  idx_vars y
  rw [show ((View.whole main_v4_1).slice (win0_7.rect t)).emb (ix2 y0 y1) = ix2 (arow t y0) y1 from by blk_ext [idx t]]
  exact tiled m c t gradGate y0 y1

theorem gelu_array : (dats m 0 c).arrAt 8 cfg0.N
    = ruled (yA m c) (pA m c) (dA m c) (wA m c) (gA m c) (bA m c) fun y _ _ _ _ _ q => Activations.gelu (y q) := by
  refine (dats m 0 c).arrAt_eq_of_covers 8 _ (by decide +kernel) fun t _ y => ?_
  blk_simp
  rw [after0_8, gelu_point]
  idx_vars y
  rw [show ((View.whole main_v4_2).slice (win0_8.rect t)).emb (ix2 y0 y1) = ix2 (arow t y0) y1 from by blk_ext [idx t]]
  exact tiled m c t (fun y _ _ _ _ _ q => Activations.gelu (y q)) y0 y1

theorem gradLogit_array : (dats m 0 c).arrAt 9 cfg0.N
    = ruled (yA m c) (pA m c) (dA m c) (wA m c) (gA m c) (bA m c) gradLogit := by
  refine (dats m 0 c).arrAt_eq_of_covers 9 _ (by decide +kernel) fun t _ y => ?_
  blk_simp
  rw [after0_9, gradLogit_point]
  idx_vars y
  rw [show ((View.whole main_v4_3).slice (win0_9.rect t)).emb (ix2 y0 y1) = ix2 (arow t y0) y1 from by blk_ext [idx t]]
  exact tiled m c t gradLogit y0 y1

theorem branch_array : (dats m 0 c).arrAt 10 cfg0.N
    = ruled (yA m c) (pA m c) (dA m c) (wA m c) (gA m c) (bA m c) fun y a _ _ g b => branch y a g b := by
  refine (dats m 0 c).arrAt_eq_of_covers 10 _ (by decide +kernel) fun t _ y => ?_
  blk_simp
  rw [after0_10, branch_point]
  idx_vars y
  rw [show ((View.whole main_v4_4).slice (win0_10.rect t)).emb (ix2 y0 y1) = ix2 (arow t y0) y1 from by blk_ext [idx t]]
  exact tiled m c t (fun y a _ _ g b => branch y a g b) y0 y1

/-- A result in eight lane groups. -/
def inLanes (T : S8192x1024.Idx → EReal) : S8x8192x128.Idx → EReal :=
  fun j => T (ix2 (j 1) ⟨(j 0).val * 128 + (j 2).val, by have h0 := (j 0).isLt; have h2 := (j 2).isLt; simp at h0 h2; omega⟩)

theorem gradIn_array : (dats m 0 c).arrAt 6 cfg0.N
    = inLanes (ruled (yA m c) (pA m c) (dA m c) (wA m c) (gA m c) (bA m c) gradIn) := by
  refine (dats m 0 c).arrAt_eq_of_covers 6 _ (by decide +kernel) fun t _ y => ?_
  blk_simp
  rw [after0_6, gradIn_point]
  idx_vars y
  rw [show ((View.whole main_v4_0).slice (win0_6.rect t)).emb (ix3 y0 y1 y2) = ix3 y0 (arow t y1) y2 from by blk_ext [idx t]]
  exact rule_block m c t gradIn y1 _

/-- Taken out of the lane groups by the host, it is the result. -/
theorem from_lanes (T : S8192x1024.Idx → EReal) :
    shapeCast S8192x1024 (transpose S8192x8x128 [1, 0, 2] (inLanes T : FVec Ideal S8x8192x128 .f32) transposes_S8x8192x128_S8192x8x128_1_0_2)
      shapeCasts_S8192x8x128_S8192x1024 = T := by
  funext i
  idx_vars i
  pointwise [inLanes]
  try blk_ext

/-- The bias gradient's share of a point. -/
theorem pointBias_at (q : Fin 1024) : pointBias m c t q
    = ∑ p : Fin 512, ruleAt (yA m c) (pA m c) (dA m c) (wA m c) (gA m c) (bA m c) gradLogit (arow t p) q :=
  Finset.sum_congr rfl fun p _ => rule_block m c t gradLogit p q

theorem bias_array : (dats m 0 c).arrAt 11 cfg0.N = biasGrad (yA m c) (pA m c) (dA m c) (wA m c) (gA m c) (bA m c) := by
  refine (dats m 0 c).arrAt_eq_of_after_last 11 t0_15 (by decide +kernel) _ fun j => ?_
  blk_simp
  idx_vars j
  rw [after0_11, Pipeline.eq_sum_fin_of_reset_step_apply_last (fun n h => (outsAt0 m c n h).2.2.2.2.2) 16 (fun _ => (0 : EReal))
    (fun t i => (pointBias m c t (i 1) : EReal)) (fun t h i => ?_) (fun t h i => ?_) (le_of_eq N_0) t0_15 rfl (ix2 j0 j1), zero_add]
  · show _ = ∑ p : Fin 8192, ruleAt (yA m c) (pA m c) (dA m c) (wA m c) (gA m c) (bA m c) gradLogit p j1
    rw [Fin.sum_univ_tiles 16 512 rfl]
    exact Finset.sum_congr rfl fun t _ => pointBias_at m c _ j1
  · idx_vars i
    obtain rfl : i0 = 0 := Subsingleton.elim _ _
    exact bias_first m c t h i1
  · idx_vars i
    obtain rfl : i0 = 0 := Subsingleton.elim _ _
    exact bias_later m c t h i1

/-! ## The run -/

/-- What the six results and the six arguments hold at the end. -/
theorem run (ρ : Dev nD → PrngReg) : θ_run defs (onTc (τ := τ) (main (F := Ideal))) ⟨m, fun _ => 0, ρ⟩ (fun r => ∀ c : Dev nD,
      r.2.mem ((c.tc : Thread nD τ).loc main_v6) = ruled (yA m c) (pA m c) (dA m c) (wA m c) (gA m c) (bA m c) gradIn
      ∧ r.2.mem ((c.tc : Thread nD τ).loc main_v7) = ruled (yA m c) (pA m c) (dA m c) (wA m c) (gA m c) (bA m c) gradGate
      ∧ r.2.mem ((c.tc : Thread nD τ).loc main_v8)
        = ruled (yA m c) (pA m c) (dA m c) (wA m c) (gA m c) (bA m c) (fun y _ _ _ _ _ q => Activations.gelu (y q))
      ∧ r.2.mem ((c.tc : Thread nD τ).loc main_v9) = ruled (yA m c) (pA m c) (dA m c) (wA m c) (gA m c) (bA m c) gradLogit
      ∧ r.2.mem ((c.tc : Thread nD τ).loc main_v10)
        = ruled (yA m c) (pA m c) (dA m c) (wA m c) (gA m c) (bA m c) (fun y a _ _ g b => branch y a g b)
      ∧ r.2.mem ((c.tc : Thread nD τ).loc main_v4_5) = biasGrad (yA m c) (pA m c) (dA m c) (wA m c) (gA m c) (bA m c)) := by
  refine (θ_run defs _ _).mono (fun r h c => ⟨?_, ?_, ?_, ?_, ?_, ((h c).1 11).trans (bias_array m c)⟩) (run_main m ρ)
  · refine ((h c).2 main_v6 (Pipeline.mem_restRefs_of main_v6 (by decide) (by decide))).trans ?_
    unfold Pipeline.afterTail₀
    simp only [hostOps1, List.flatten_cons, List.flatten_nil, List.append_nil]
    after_results
    erw [Pipeline.withArrays_arr _ launch0.win.arr_inj c _ _ 6, gradIn_array]
    exact from_lanes _
  · refine ((h c).2 main_v7 (Pipeline.mem_restRefs_of main_v7 (by decide) (by decide))).trans ?_
    unfold Pipeline.afterTail₀
    simp only [hostOps1, List.flatten_cons, List.flatten_nil, List.append_nil]
    after_results
    erw [Pipeline.withArrays_arr _ launch0.win.arr_inj c _ _ 7, gradGate_array]
    rfl
  · refine ((h c).2 main_v8 (Pipeline.mem_restRefs_of main_v8 (by decide) (by decide))).trans ?_
    unfold Pipeline.afterTail₀
    simp only [hostOps1, List.flatten_cons, List.flatten_nil, List.append_nil]
    after_results
    erw [Pipeline.withArrays_arr _ launch0.win.arr_inj c _ _ 8, gelu_array]
    rfl
  · refine ((h c).2 main_v9 (Pipeline.mem_restRefs_of main_v9 (by decide) (by decide))).trans ?_
    unfold Pipeline.afterTail₀
    simp only [hostOps1, List.flatten_cons, List.flatten_nil, List.append_nil]
    after_results
    erw [Pipeline.withArrays_arr _ launch0.win.arr_inj c _ _ 9, gradLogit_array]
    rfl
  · refine ((h c).2 main_v10 (Pipeline.mem_restRefs_of main_v10 (by decide) (by decide))).trans ?_
    unfold Pipeline.afterTail₀
    simp only [hostOps1, List.flatten_cons, List.flatten_nil, List.append_nil]
    after_results
    erw [Pipeline.withArrays_arr _ launch0.win.arr_inj c _ _ 10, branch_array]
    rfl

end Cert.Gate

end
-- ==== Proof.GateRef.lean ====
module

public import proofs.«01_k».proof.Proof.Gen.Reference2Ideal.Read
public import proofs.«01_k».proof.Proof.GateResult
public import Idealize.ShloMosaic.Lib.Pipeline.ValueKit

/-! The gate's backward call: what the reference computes, element by element. -/

@[expose] public section

set_option maxRecDepth 16384

noncomputable section

namespace Cert.Gate

open Cert.Reference2Ideal Cert.Reference2Ideal.Gen Cert.Reference2Ideal.Read Idealize.ShloMosaic Idealize.ShloMosaic.TcCoe
open Cert.Activations Cert.RealValues

variable (y : FVec Ideal S8192x1024 .f32) (p : FVec Ideal S8192x6144 .f32) (d : FVec Ideal S8192x1024 .f32)
variable (w : FVec Ideal S2048x1024 .f32) (g : FVec Ideal S1024x1024 .f32) (b : FVec Ideal S1x1024 .f32)

/-- The gate's columns. -/
theorem ref_gateRow (r : Fin 8192) (q : Fin 1024) :
    (val_main_v0 (F := Ideal) p : FVec Ideal S8192x1024 .f32) (ix2 r q) = gateRow (fun i k => p (ix2 i k)) r q := by
  pointwise [val_main_v0]
  try blk_ext

/-- The branch's cotangent. -/
theorem ref_cot (r : Fin 8192) (q : Fin 1024) :
    (val_main_v3 (F := Ideal) d w : FVec Ideal S8192x1024 .f32) (ix2 r q) = cotBranch (row d r) (top fun i k => w (ix2 i k)) q := by
  pointwise [val_main_v3, val_main_v2, val_main_v1, cotBranch]
  try blk_ext

/-- The gate's logistic. -/
theorem ref_logistic (r : Fin 8192) (q : Fin 1024) :
    (val_main_v39_2 (F := Ideal) p : FVec Ideal S8192x1024 .f32) (ix2 r q)
      = Ideal.logistic (gateRow (fun i k => p (ix2 i k)) r q) := by
  rw [← ref_gateRow]
  pointwise [val_main_v39_2, val_main_call0_v4, val_main_call0_v3, val_main_call0_v2, val_main_call0_v1, val_main_call0_v0,
    val_main_call0_cst, val_main_call0_cst_0]
  try rfl

/-- The second copy of the gate's logistic. -/
theorem ref_logistic' (r : Fin 8192) (q : Fin 1024) :
    (val_main_call2_v5 (F := Ideal) p : FVec Ideal S8192x1024 .f32) (ix2 r q)
      = Ideal.logistic (gateRow (fun i k => p (ix2 i k)) r q) := by
  rw [← ref_gateRow]
  pointwise [val_main_call2_v5, val_main_call2_v4, val_main_call2_v3, val_main_call2_v2, val_main_call2_v1, val_main_call2_v0,
    val_main_call2_cst, val_main_call2_cst_0]
  try rfl

section

variable (hy : ∀ i, IsReal (y i))
include hy

/-- The tangent. -/
theorem ref_tanh (r : Fin 8192) (q : Fin 1024) :
    (val_main_v15 (F := Ideal) y : FVec Ideal S8192x1024 .f32) (ix2 r q) = geluTanh (y (ix2 r q)) := by
  rw [← tanh_cubed (hy _), ← cubic_quotient]
  pointwise [val_main_v15, val_main_v14, val_main_v13, val_main_v12, val_main_v11, val_main_v10, val_main_v6, val_main_v5,
    val_main_v4, val_main_cst, val_main_cst_0, val_main_cst_2]

/-- The activated rows. -/
theorem ref_gelu (r : Fin 8192) (q : Fin 1024) :
    (val_main_v25 (F := Ideal) y : FVec Ideal S8192x1024 .f32) (ix2 r q) = gelu (y (ix2 r q)) := by
  pointwise [val_main_v25, val_main_v24, val_main_v23, val_main_v22, val_main_v21, val_main_cst_5, val_main_cst_6, ref_tanh y hy,
    gelu, geluGate]

/-- The gated unit's gate. -/
theorem ref_gate (r : Fin 8192) (q : Fin 1024) :
    (val_main_v34 (F := Ideal) y g b : FVec Ideal S8192x1024 .f32) (ix2 r q) = gate (row y r) (mat g) (row b 0) q := by
  pointwise [val_main_v34, val_main_v33, val_main_v32, val_main_v31, val_main_v30, val_main_v29, val_main_v28, val_main_v27,
    val_main_v26, val_main_cst_7, val_main_cst_8, ref_gelu y hy, gate, Ideal.logistic]

/-- The activated rows, second copy. -/
theorem ref_gelu' (r : Fin 8192) (q : Fin 1024) :
    (val_main_v76 (F := Ideal) y : FVec Ideal S8192x1024 .f32) (ix2 r q) = gelu (y (ix2 r q)) := by
  rw [gelu, geluGate, ← tanh_cubed (hy _), ← cubic_quotient]
  pointwise [val_main_v76, val_main_v75, val_main_v74, val_main_v73, val_main_v72, val_main_v71, val_main_v70, val_main_v69,
    val_main_v68, val_main_v67, val_main_v66, val_main_v65, val_main_v64, val_main_v63, val_main_cst_13, val_main_cst_14,
    val_main_cst_15, val_main_cst_16, val_main_cst_17]

/-- The gated unit's gate, second copy. -/
theorem ref_gate' (r : Fin 8192) (q : Fin 1024) :
    (val_main_v85 (F := Ideal) y g b : FVec Ideal S8192x1024 .f32) (ix2 r q) = gate (row y r) (mat g) (row b 0) q := by
  pointwise [val_main_v85, val_main_v84, val_main_v83, val_main_v82, val_main_v81, val_main_v80, val_main_v79, val_main_v78,
    val_main_v77, val_main_cst_18, val_main_cst_19, ref_gelu' y hy, gate, Ideal.logistic]

/-- The gradient of the logits, before the two copies are told apart. -/
theorem ref_gradLogit (r : Fin 8192) (q : Fin 1024) :
    (val_main_v46 (F := Ideal) y p d w g b : FVec Ideal S8192x1024 .f32) (ix2 r q) = ruleAt y p d w g b gradLogit r q := by
  pointwise [val_main_v46, val_main_v44, val_main_v42, val_main_v39_0, val_main_v37, val_main_v36, val_main_v35, val_main_cst_9,
    ref_gate y g b hy, ref_gelu y hy, ref_cot, ref_logistic, ref_gateRow, ruleAt, gradLogit, cotGated, silu]
  ac_rfl

/-! ## The six results -/

theorem ref_result_gelu : val_main_v76 (F := Ideal) y = ruled y p d w g b fun y _ _ _ _ _ q => gelu (y q) := by
  funext i
  idx_vars i
  exact ref_gelu' y hy i0 i1

theorem ref_result_branch : val_main_v40 (F := Ideal) y p g b = ruled y p d w g b fun y a _ _ g b => branch y a g b := by
  funext i
  idx_vars i
  show _ = branch (row y i0) (gateRow _ i0) (mat g) (row b 0) i1
  pointwise [val_main_v40, val_main_v38, val_main_v39_0, ref_gate y g b hy, ref_gelu y hy, ref_logistic, ref_gateRow, branch,
    gated, silu]

theorem ref_result_gradLogit : val_main_v94 (F := Ideal) y p d w g b = ruled y p d w g b gradLogit := by
  funext i
  idx_vars i
  show _ = ruleAt y p d w g b gradLogit i0 i1
  pointwise [val_main_v94, val_main_v93, val_main_v92, val_main_v90, val_main_v88, val_main_v87, val_main_v86, val_main_cst_20,
    ref_gate' y g b hy, ref_gelu' y hy, ref_cot, ref_logistic', ref_gateRow, ruleAt, gradLogit, cotGated, silu]
  ac_rfl

theorem ref_result_bias : val_main_v48 (F := Ideal) y p d w g b = biasGrad y p d w g b := by
  funext i
  idx_vars i
  show _ = ∑ r : Fin 8192, ruleAt y p d w g b gradLogit r i1
  pointwise [val_main_v48, val_main_v47, val_main_cst_10, ref_gradLogit y p d w g b hy]

/-- The branch's cotangent and the gated unit are real numbers on real arguments. -/
theorem gated_real (hg : ∀ i, IsReal (g i)) (hb : ∀ i, IsReal (b i)) (r : Fin 8192) (q : Fin 1024) :
    IsReal (gate (row y r) (mat g) (row b 0) q) :=
  logistic_real ((IsReal.sum fun _ => (gelu_real (hy _)).mul (hg _)).add (hb _))

theorem ref_result_gradGate (hp : ∀ i, IsReal (p i)) (hd : ∀ i, IsReal (d i)) (hw : ∀ i, IsReal (w i)) (hg : ∀ i, IsReal (g i))
    (hb : ∀ i, IsReal (b i)) : val_main_v43 (F := Ideal) y p d w g b = ruled y p d w g b gradGate := by
  funext i
  idx_vars i
  show _ = cotBranch (row d i0) _ i1 * gated (row y i0) (mat g) (row b 0) i1 * siluSlope (gateRow _ i0 i1)
  refine Eq.trans ?_ (silu_chain (hp _) ((IsReal.sum fun _ => (hd _).mul (hw _)).mul ((gelu_real (hy _)).mul (gated_real y g b hy hg hb i0 i1))))
  pointwise [val_main_v43, val_main_call1_v0, val_main_call1_v1, val_main_call1_v2, val_main_v41, val_main_v39_1, val_main_v38,
    val_main_call0_v7, val_main_call0_v6, val_main_call0_cst_1, ref_gate y g b hy, ref_gelu y hy, ref_logistic, ref_gateRow, ref_cot, gated]
  simp only [mul_comm (gelu _ * gate _ _ _ _)]

theorem ref_result_gradIn (hp : ∀ i, IsReal (p i)) (hd : ∀ i, IsReal (d i)) (hw : ∀ i, IsReal (w i)) (hg : ∀ i, IsReal (g i))
    (hb : ∀ i, IsReal (b i)) : val_main_v62 (F := Ideal) y p d w g b = ruled y p d w g b gradIn := by
  funext i
  idx_vars i
  have hgate : ∀ q, IsReal (gate (row y i0) (mat g) (row b 0) q) := gated_real y g b hy hg hb i0
  have hcot : ∀ q, IsReal (cotGated (gateRow (fun i k => p (ix2 i k)) i0) (row d i0) (top fun i k => w (ix2 i k)) q) :=
    fun q => (IsReal.sum fun _ => (hd _).mul (hw _)).mul (silu_real (hp _))
  have hlogit : ∀ q, IsReal (ruleAt y p d w g b gradLogit i0 q) := fun q =>
    (((hcot q).mul (gelu_real (hy _))).mul (hgate q)).mul (sub_real isReal_one (hgate q))
  have hact : IsReal (ruleAt y p d w g b gradAct i0 i1) :=
    ((hcot i1).mul (hgate i1)).add (IsReal.sum fun k => (hlogit k).mul (hg _))
  refine Eq.trans ?_ (gelu_chain (hy (ix2 i0 i1)) hact)
  have act : (val_main_v50 (F := Ideal) y p d w g b : FVec Ideal S8192x1024 .f32) (ix2 i0 i1) = ruleAt y p d w g b gradAct i0 i1 := by
    pointwise [val_main_v50, val_main_v49, val_main_v45, val_main_v42, val_main_v39_0, ref_gradLogit y p d w g b hy, ref_gate y g b hy,
      ref_logistic, ref_gateRow, ref_cot]
    rfl
  pointwise [val_main_v62, val_main_v61, val_main_v60, val_main_v59, val_main_v58, val_main_v57, val_main_v56, val_main_v55,
    val_main_v54, val_main_v53, val_main_v52, val_main_v51, val_main_v24, val_main_v23, val_main_v22, val_main_v21, val_main_v20,
    val_main_v19, val_main_v18, val_main_v17, val_main_v16, val_main_v9, val_main_v8, val_main_v7, val_main_v4, val_main_cst,
    val_main_cst_0, val_main_cst_1, val_main_cst_3, val_main_cst_4, val_main_cst_5, val_main_cst_6, val_main_cst_11,
    val_main_cst_12, act, ref_tanh y hy, geluGate]
  rw [cubic_quotient]
  rfl

end

end Cert.Gate

end
-- ==== Proof.GateClaim.lean ====
module

public import proofs.«01_k».proof.Defs
public import proofs.«01_k».proof.Proof.GateArray
public import proofs.«01_k».proof.Proof.GateRef
public import proofs.«01_k».proof.Proof.RealArrays
public import Idealize.ShloMosaic.Lib.Claim
public import Idealize.ShloMosaic.Lib.Quiescent

/-! The gate's backward call: the kernel's six results are the reference's. -/

@[expose] public section

set_option maxRecDepth 16384

noncomputable section

namespace Cert.Gate

open Idealize.ShloMosaic Idealize.ShloMosaic.TcCoe Idealize.SL.Sem Cert.RealValues

/-- The precondition's side conditions. -/
theorem preFacts : Cert.Pre_gate_finite.Facts where
  bcast_S_S8192x6144 := by decide
  bcast_S_S8192x1024 := by decide
  bcast_S_S2048x1024 := by decide
  bcast_S_S1024x1024 := by decide
  bcast_S_S1x1024 := by decide

attribute [local instance] Cert.Kernel2Ideal.Gen.facts Cert.Reference2Ideal.Gen.facts preFacts

/-- The reference leaves its arguments as they were; it has no semaphore. -/
theorem ref_frame : Cert.quiescent_Reference2Ideal (hReference2Ideal := Cert.Reference2Ideal.Gen.facts) := fun m g _ =>
  (θ_run _ _ _).mono (fun r h => ⟨fun c => (h c).2.2.2.2.2.2, sem_eq_zero_of_no_sems rfl r.2⟩) (Cert.Reference2Ideal.Value.run m g)

/-- The two named constants. -/
theorem preserves : Cert.preserves_Kernel2_Kernel2Ideal := ⟨
  IdealRules.named_const.statement Cert.Kernel2Ideal.κ "gelu" .f32 0x3D372713#32 _ rfl,
  IdealRules.named_const.statement Cert.Kernel2Ideal.κ "gelu3" .f32 0x3E095D4F#32 _ rfl⟩

/-- A rule over the kernel's argument arrays. -/
abbrev over (m : (ℓ : Loc Cert.Kernel2Ideal.nD Cert.Kernel2Ideal.τ Cert.Kernel2Ideal.sig) → Buf (Elt Ideal) ℓ)
    (c : Dev Cert.Kernel2Ideal.nD) (R : Rule) := ruled (yA m c) (pA m c) (dA m c) (wA m c) (gA m c) (bA m c) R

/-- The two runs end with equal results. -/
theorem algebraic : Cert.algebraic_Kernel2Ideal_Reference2Ideal_pre_gate_finite
    (hKernel2Ideal := Cert.Kernel2Ideal.Gen.facts) (hReference2Ideal := Cert.Reference2Ideal.Gen.facts)
    (hPre_gate_finite := preFacts) := by
  intro m g m' g' hpre hargs
  refine ⟨fun c => over m c gradIn, fun c => over m c gradGate, fun c => over m c (fun y _ _ _ _ _ q => Activations.gelu (y q)),
    fun c => over m c gradLogit, fun c => over m c (fun y a _ _ g b => branch y a g b),
    fun c => biasGrad (yA m c) (pA m c) (dA m c) (wA m c) (gA m c) (bA m c), (θ_run _ _ _).mono (fun r h c => ?_) (θ_run_and (run m g) (Cert.Kernel2Ideal.Gen.unchanged m g)), ?_⟩
  · obtain ⟨h0, h1, h2, h3, h4, h5⟩ := h.1 c
    exact ⟨h0, h1, h2, h3, h4, h5, h.2 c⟩
  · refine (θ_run _ _ _).mono (fun r h c => ?_) (Cert.Reference2Ideal.Value.run m' g')
    obtain ⟨a0, a1, a2, a3, a4, a5⟩ := hargs c
    obtain ⟨h0, h1, h2, h3, h4, h5⟩ := hpre c
    have hy := isReal_of_array h0
    have hp := isReal_of_array h1
    have hd := isReal_of_array h2
    have hw := isReal_of_array h3
    have hg := isReal_of_array h4
    have hb := isReal_of_array h5
    obtain ⟨r0, r1, r2, r3, r4, r5, rest⟩ := h c
    refine ⟨?_, ?_, ?_, ?_, ?_, ?_, rest⟩
    · rw [r0, Cert.Reference2Ideal.Read.val_main_v62_eq, a0, a1, a2, a3, a4, a5]
      exact ref_result_gradIn _ _ _ _ _ _ hy hp hd hw hg hb
    · rw [r1, Cert.Reference2Ideal.Read.val_main_v43_eq, a0, a1, a2, a3, a4, a5]
      exact ref_result_gradGate _ _ _ _ _ _ hy hp hd hw hg hb
    · rw [r2, Cert.Reference2Ideal.Read.val_main_v76_eq, a0]
      exact ref_result_gelu _ _ _ _ _ _ hy
    · rw [r3, Cert.Reference2Ideal.Read.val_main_v94_eq, a0, a1, a2, a3, a4, a5]
      exact ref_result_gradLogit _ _ _ _ _ _ hy
    · rw [r4, Cert.Reference2Ideal.Read.val_main_v40_eq, a0, a1, a4, a5]
      exact ref_result_branch _ _ _ _ _ _ hy
    · rw [r5, Cert.Reference2Ideal.Read.val_main_v48_eq, a0, a1, a2, a3, a4, a5]
      exact ref_result_bias _ _ _ _ _ _ hy

end Cert.Gate

end
-- ==== Proof.SguSpec.lean ====
module

public import proofs.«01_k».proof.Proof.Activations
public import proofs.«01_k».proof.Proof.NormGrad

/-! The spatial gating unit, the final norm and the loss, forward and backward, in closed form. The unit works on chunks of
    128 rows: `P` a chunk of the projected rows, `G` the layer norm's gain, `W` and `B` the four groups' mixing weights and
    biases. The rows that follow are taken one at a time: `y` the unit's row, `x` the residual's, `g` the target's, `O` the
    output projection, `F` the final norm's gain. -/

@[expose] public section

noncomputable section

namespace Cert.Sgu

open Idealize.ShloMosaic Cert.Activations Cert.NormGrad

/-- The norms' two widths and their epsilon. -/
abbrev width : EReal := Ideal.ofBits .f32 0x44800000#32
abbrev wide : EReal := Ideal.ofBits .f32 0x45000000#32
abbrev eps : EReal := Ideal.ofBits .f32 0x358637BD#32
/-- The reciprocal of the narrow width. -/
abbrev perWidth : EReal := Ideal.ofBits .f32 0x3A800000#32

abbrev Chunk := Fin 128 → Fin 6144 → EReal
abbrev Wide := Fin 128 → Fin 2048 → EReal
abbrev WideRow := Fin 2048 → EReal
abbrev Row := Fin 1024 → EReal
abbrev Proj := Fin 2048 → Fin 1024 → EReal
abbrev Mix := Fin 4 → Fin 128 → Fin 128 → EReal
abbrev Bias := Fin 4 → Fin 128 → EReal

/-- The three column blocks of a projected row. -/
abbrev colU (k : Fin 2048) : Fin 6144 := ⟨k.val, by omega⟩
abbrev colV (k : Fin 2048) : Fin 6144 := ⟨2048 + k.val, by omega⟩
abbrev colZ (k : Fin 2048) : Fin 6144 := ⟨4096 + k.val, by omega⟩
/-- The mixing group of a column, and a column from its group and its place there. -/
abbrev grp (k : Fin 2048) : Fin 4 := ⟨k.val / 512, by omega⟩
abbrev col (g : Fin 4) (d : Fin 512) : Fin 2048 := ⟨g.val * 512 + d.val, by omega⟩

/-! ## The unit, forward -/

section Forward

variable (P : Chunk) (G : WideRow) (W : Mix) (B : Bias)

def u (t : Fin 128) (k : Fin 2048) : EReal := gelu (P t (colU k))
def v (t : Fin 128) (k : Fin 2048) : EReal := gelu (P t (colV k))
/-- The centred row. -/
def ctr (t : Fin 128) (k : Fin 2048) : EReal := v P t k - Ideal.div (∑ j, v P t j) wide
/-- The reciprocal deviation. -/
def rstd (t : Fin 128) : EReal := invRms wide eps (ctr P t)
def vhat (t : Fin 128) (k : Fin 2048) : EReal := ctr P t k * rstd P t
def vn (t : Fin 128) (k : Fin 2048) : EReal := vhat P t k * G k
/-- The mixing weights, no row from a later one. -/
def wm (g : Fin 4) (t s : Fin 128) : EReal := if s.val ≤ t.val then W g t s else 0
def mix (t : Fin 128) (k : Fin 2048) : EReal := ∑ s, wm W (grp k) t s * vn P G s k + B (grp k) t
def yOut (t : Fin 128) (k : Fin 2048) : EReal := u P t k * mix P G W B t k * silu (P t (colZ k))

end Forward

/-! ## The output projection, the final norm and the loss -/

section Middle

variable (y : WideRow) (x g : Row) (O : Proj) (F : Row)

/-- The residual's row after the unit. -/
def resid (q : Fin 1024) : EReal := x q + ∑ k, y k * O k q
def invR : EReal := invRms width eps (resid y x O)
def xhat (q : Fin 1024) : EReal := resid y x O q * invR y x O
def err (q : Fin 1024) : EReal := xhat y x O q * F q - g q
/-- The row's mean squared error. -/
def lossRow : EReal := Ideal.div (∑ q, err y x g O F q * err y x g O F q) width
/-- The cotangent of the normalised and scaled row. -/
def dOut (q : Fin 1024) : EReal := err y x g O F q * perWidth
def finalTerm (q : Fin 1024) : EReal := dOut y x g O F q * xhat y x O q
/-- The residual's gradient. -/
def dResid (q : Fin 1024) : EReal := gradByRoot width eps (fun k => dOut y x g O F k * F k) (resid y x O) q
/-- The unit's cotangent. -/
def dY (k : Fin 2048) : EReal := ∑ q, dResid y x g O F q * O k q

end Middle

/-! ## The unit, backward -/

section Backward

variable (P : Chunk) (G : WideRow) (W : Mix) (B : Bias) (D : Wide)

def du (t : Fin 128) (k : Fin 2048) : EReal := D t k * mix P G W B t k * silu (P t (colZ k))
def ds (t : Fin 128) (k : Fin 2048) : EReal := D t k * u P t k * silu (P t (colZ k))
def dz (t : Fin 128) (k : Fin 2048) : EReal := D t k * u P t k * mix P G W B t k * siluSlope (P t (colZ k))
/-- A chunk's share of the mixing biases' and weights' gradients. -/
def biasTerm (g : Fin 4) (t : Fin 128) : EReal := ∑ d, ds P D t (col g d)
def mixTerm (g : Fin 4) (t s : Fin 128) : EReal := if s.val ≤ t.val then ∑ d, ds P D t (col g d) * vn P G s (col g d) else 0
def dvn (s : Fin 128) (k : Fin 2048) : EReal := ∑ t, wm W (grp k) t s * ds P D t k
/-- A row's share of the layer norm's gain's gradient. -/
def gainTerm (t : Fin 128) (k : Fin 2048) : EReal := dvn P W D t k * vhat P t k
def dvhat (t : Fin 128) (k : Fin 2048) : EReal := dvn P W D t k * G k
/-- The layer norm's gradient. -/
def dv (t : Fin 128) (k : Fin 2048) : EReal :=
  rstd P t * (dvhat P G W D t k - Ideal.div (∑ j, dvhat P G W D t j) wide
    - vhat P t k * Ideal.div (∑ j, dvhat P G W D t j * vhat P t j) wide)
def dpU (t : Fin 128) (k : Fin 2048) : EReal := du P G W B D t k * geluSlope (P t (colU k))
def dpV (t : Fin 128) (k : Fin 2048) : EReal := dv P G W D t k * geluSlope (P t (colV k))

/-- The gradient of the projected rows: its three column blocks. -/
def dProj (t : Fin 128) (k : Fin 6144) : EReal :=
  if h : k.val < 2048 then dpU P G W B D t ⟨k.val, h⟩
  else if h' : k.val - 2048 < 2048 then dpV P G W D t ⟨k.val - 2048, h'⟩
  else dz P G W B D t ⟨k.val - 2048 - 2048, by omega⟩

end Backward

/-! ## A chunk of rows from the arrays -/

/-- What every chunk shares: the layer norm's gain, the mixing weights and biases, the output projection and the final norm's gain. -/
structure Shared where
  G : WideRow
  W : Mix
  B : Bias
  O : Proj
  F : Row

/-- A chunk's rows of the projection, the residual and the target. -/
structure Rows where
  P : Chunk
  X : Fin 128 → Row
  T : Fin 128 → Row

section Whole

variable (w : Shared) (c : Rows)

def yC : Wide := yOut c.P w.G w.W w.B
def lossC (t : Fin 128) : EReal := lossRow (yC w c t) (c.X t) (c.T t) w.O w.F
def dResidC (t : Fin 128) : Row := dResid (yC w c t) (c.X t) (c.T t) w.O w.F
def dYC : Wide := fun t => dY (yC w c t) (c.X t) (c.T t) w.O w.F
def dProjC : Chunk := dProj c.P w.G w.W w.B (dYC w c)
/-- A chunk's share of the gradients of what the chunks share. -/
def gainC (k : Fin 2048) : EReal := ∑ t, gainTerm c.P w.W (dYC w c) t k
def mixC (g : Fin 4) (t s : Fin 128) : EReal := mixTerm c.P w.G (dYC w c) g t s
def biasC (g : Fin 4) (t : Fin 128) : EReal := biasTerm c.P (dYC w c) g t
def finalC (q : Fin 1024) : EReal := ∑ t, finalTerm (yC w c t) (c.X t) (c.T t) w.O w.F q

end Whole

end Cert.Sgu

end
-- ==== Proof.SguForward.lean ====
module

public import proofs.«01_k».proof.Proof.Gen.Kernel3Ideal.Frame
public import proofs.«01_k».proof.Proof.SguSpec
public import Idealize.ShloMosaic.Lib.Pipeline.ValueKit
public import Idealize.ShloMosaic.Lib.Pointwise
public import Idealize.ShloMosaic.Lib.Claim

/-! The spatial gating unit's kernel: what it computes forward from one chunk of 128 rows, element by element. -/

@[expose] public section

set_option maxRecDepth 16384

noncomputable section

namespace Cert.Sgu

open Cert.Kernel3Ideal Cert.Kernel3Ideal.Gen Idealize.ShloMosaic Idealize.ShloMosaic.TcCoe Idealize.SL.Sem
open Cert.Activations Cert.NormGrad

/-- The named constants are the rational coefficients. -/
theorem named_cubic (b : BitVec FTy.f32.bits) : Named.named (F := Ideal) κ "gelu" b = cubic :=
  IdealRules.named_const.ideal_named_scalar κ "gelu" b _ rfl
theorem named_cubic3 (b : BitVec FTy.f32.bits) : Named.named (F := Ideal) κ "gelu3" b = cubic3 :=
  IdealRules.named_const.ideal_named_scalar κ "gelu3" b _ rfl

abbrev CVec := FVec Ideal S128x6144 .f32
abbrev WVec := FVec Ideal S128x2048 .f32
abbrev MVec := FVec Ideal S1x128x128 .f32
abbrev BVec := FVec Ideal S1x128x1 .f32

/-- An array of rows by its two coordinates. -/
abbrev mat {a b : ℕ} (x : (⟨2, ![a, b]⟩ : Shape).Idx → EReal) (i : Fin a) (j : Fin b) : EReal := x (ix2 i j)

/-- The four groups' mixing weights and biases, each a block of its own. -/
abbrev mixOf (w0 w1 w2 w3 : MVec) : Mix := fun g t s => (![w0, w1, w2, w3] g) (ix3 0 t s)
abbrev biasOf (b0 b1 b2 b3 : BVec) : Bias := fun g t => (![b0, b1, b2, b3] g) (ix3 0 t 0)

variable (p : CVec) (g : FVec Ideal S1x2048 .f32)

/-- The normalised rows of a chunk, their reciprocal deviations, and the scaled rows. -/
def vhatVec : WVec := k0_pay23 (k0_pay8 p) (k0_pay15 p) (k0_pay16 p) k0_pay17
def rstdVec : FVec Ideal S128x1 .f32 := k0_pay22 (k0_pay8 p) (k0_pay15 p) (k0_pay16 p) k0_pay17
def vnVec : WVec := k0_pay24 g (k0_pay8 p) (k0_pay15 p) (k0_pay16 p) k0_pay17
def slopeV : WVec := k0_pay20 (k0_pay8 p) (k0_pay15 p) (k0_pay16 p) k0_pay17

theorem u_at (t : Fin 128) (k : Fin 2048) : k0_pay13 (F := Ideal) p (ix2 t k) = u (mat p) t k := by
  pointwise [k0_pay13, k0_pay12, k0_pay11, k0_pay10, k0_pay7, u, gelu, geluGate, geluTanh, named_cubic]

theorem slopeU_at (t : Fin 128) (k : Fin 2048) : k0_pay14 (F := Ideal) p (ix2 t k) = geluSlope (mat p t (colU k)) := by
  pointwise [k0_pay14, k0_pay12, k0_pay11, k0_pay10, k0_pay7, geluSlope, geluGate, geluTanh, named_cubic, named_cubic3]

theorem slopeV_at (t : Fin 128) (k : Fin 2048) : slopeV p (ix2 t k) = geluSlope (mat p t (colV k)) := by
  rw [slopeV]
  pointwise [k0_pay20, k0_pay19, k0_pay18, k0_pay17, k0_pay16, k0_pay15, k0_pay8, geluSlope, geluGate, geluTanh, named_cubic, named_cubic3]

theorem ctr_at (t : Fin 128) (k : Fin 2048) :
    k0_pay21 (F := Ideal) (k0_pay8 p) (k0_pay15 p) (k0_pay16 p) k0_pay17 (ix2 t k) = ctr (mat p) t k := by
  pointwise [k0_pay21, k0_pay19, k0_pay18, k0_pay17, k0_pay16, k0_pay15, k0_pay8, ctr, v, gelu, geluGate, geluTanh, named_cubic]

theorem rstd_at (t : Fin 128) : rstdVec p (ix2 t 0) = rstd (mat p) t := by
  rw [rstdVec]
  pointwise [k0_pay22, ctr_at, rstd, invRms, meanSq]

theorem vhat_at (t : Fin 128) (k : Fin 2048) : vhatVec p (ix2 t k) = vhat (mat p) t k := by
  rw [vhatVec, vhat, ← rstd_at]
  pointwise [k0_pay23, ctr_at, rstdVec]

theorem vn_at (t : Fin 128) (k : Fin 2048) : vnVec p g (ix2 t k) = vn (mat p) (mat g 0) t k := by
  rw [vnVec, vn, ← vhat_at]
  pointwise [k0_pay24, vhatVec]

variable (w0 w1 w2 w3 : MVec) (b0 b1 b2 b3 : BVec)

/-- A mixing weight of a group's block, no row from a later one. -/
def mask (w : MVec) (t s : Fin 128) : EReal := if s.val ≤ t.val then w (ix3 0 t s) else 0

theorem mask_at (w : MVec) (t s : Fin 128) : k0_pay26 (F := Ideal) k0_pay25 w (ix2 t s) = mask w t s := by
  rw [mask]
  pointwise [k0_pay26, k0_pay25]
  rw [WordCmp.cmpi_sge_ofNat (by omega) (by omega)]
  by_cases h : s.val ≤ t.val <;> simp [h, Scalar.select]

theorem mask1 : @k0_pay27 = @k0_pay26 := rfl
theorem mask2 : @k0_pay28 = @k0_pay26 := rfl
theorem mask3 : @k0_pay29 = @k0_pay26 := rfl

/-- The mixed rows of a chunk. -/
def mixVec : WVec := k0_pay33 (vnVec p g) (k0_pay29 k0_pay25 w3) (k0_pay30 (vnVec p g) k0_pay25 w0 b0)
  (k0_pay31 (vnVec p g) k0_pay25 w1 b1) (k0_pay32 (vnVec p g) k0_pay25 w2) b2 b3

theorem mix_group (P : Chunk) (G : WideRow) (W : Mix) (B : Bias) (h : Fin 4) (w : MVec) (b : BVec)
    (hw : ∀ t s, w (ix3 0 t s) = W h t s) (hb : ∀ t, b (ix3 0 t 0) = B h t) (t : Fin 128) (k k' : Fin 2048) (e : k' = k)
    (hk : k.val / 512 = h.val) : ∑ s, mask w t s * vn P G s k' + (b (ix3 0 t 0) : EReal) = mix P G W B t k := by
  subst e
  obtain rfl : h = grp k' := Fin.ext hk.symm
  simp only [mask, mix, wm, hw, hb]

theorem mix_at (t : Fin 128) (k : Fin 2048) :
    mixVec p g w0 w1 w2 w3 b0 b1 b2 b3 (ix2 t k)
      = mix (mat p) (mat g 0) (mixOf w0 w1 w2 w3) (biasOf b0 b1 b2 b3) t k := by
  rw [mixVec]
  pointwise [k0_pay33, k0_pay30, k0_pay31, k0_pay32, mask1, mask2, mask3, mask_at, vn_at]
  by_cases h0 : k.val < 512
  · rw [dif_pos h0]
    exact mix_group _ _ (mixOf w0 w1 w2 w3) (biasOf b0 b1 b2 b3) 0 w0 b0 (fun _ _ => rfl) (fun _ => rfl) t k k rfl (Nat.div_eq_of_lt h0)
  rw [dif_neg h0]
  by_cases h1 : k.val - 512 < 512
  · have e : 512 + (k.val - 512) = k.val := by omega
    have hk : k.val / 512 = 1 := by omega
    rw [dif_pos h1]
    exact mix_group _ _ (mixOf w0 w1 w2 w3) (biasOf b0 b1 b2 b3) 1 w1 b1 (fun _ _ => rfl) (fun _ => rfl) t k ⟨512 + (k.val - 512), by omega⟩ (Fin.ext e) hk
  rw [dif_neg h1]
  by_cases h2 : k.val - 512 - 512 < 512
  · have e : 1024 + (k.val - 512 - 512) = k.val := by omega
    have hk : k.val / 512 = 2 := by omega
    rw [dif_pos h2]
    exact mix_group _ _ (mixOf w0 w1 w2 w3) (biasOf b0 b1 b2 b3) 2 w2 b2 (fun _ _ => rfl) (fun _ => rfl) t k ⟨1024 + (k.val - 512 - 512), by omega⟩ (Fin.ext e) hk
  have e : 1536 + (k.val - 512 - 512 - 512) = k.val := by omega
  have hk : k.val / 512 = 3 := by omega
  rw [dif_neg h2]
  exact mix_group _ _ (mixOf w0 w1 w2 w3) (biasOf b0 b1 b2 b3) 3 w3 b3 (fun _ _ => rfl) (fun _ => rfl) t k ⟨1536 + (k.val - 512 - 512 - 512), by omega⟩ (Fin.ext e) hk

/-- The gate's last factor and its slope. -/
theorem silu_at (t : Fin 128) (k : Fin 2048) : k0_pay35 (F := Ideal) (k0_pay9 p) (ix2 t k) = silu (mat p t (colZ k)) := by
  pointwise [k0_pay35, k0_pay34, k0_pay9, silu]
theorem siluSlope_at (t : Fin 128) (k : Fin 2048) :
    k0_pay36 (F := Ideal) (k0_pay9 p) (ix2 t k) = siluSlope (mat p t (colZ k)) := by
  pointwise [k0_pay36, k0_pay34, k0_pay9, siluSlope]

/-- The unit's rows. -/
def yVec : FVec Ideal S128x2048 .bf16 :=
  truncf .bf16 (mulf (mulf (k0_pay13 p) (mixVec p g w0 w1 w2 w3 b0 b1 b2 b3)) (k0_pay35 (k0_pay9 p))) bitsLt_bf16_f32

theorem y_at (t : Fin 128) (k : Fin 2048) :
    yVec p g w0 w1 w2 w3 b0 b1 b2 b3 (ix2 t k)
      = yOut (mat p) (mat g 0) (mixOf w0 w1 w2 w3) (biasOf b0 b1 b2 b3) t k := by
  rw [yVec, yOut]
  pointwise [u_at, mix_at, silu_at]

end Cert.Sgu

end
-- ==== Proof.SguBackward.lean ====
module

public import proofs.«01_k».proof.Proof.SguForward

/-! The spatial gating unit's kernel: the output projection, the norm and the loss for one block of 256 rows, and the unit's
    gradients for one chunk of 128 rows, element by element. -/

@[expose] public section

set_option maxRecDepth 16384

noncomputable section

namespace Cert.Sgu

open Cert.Kernel3Ideal Cert.Kernel3Ideal.Gen Idealize.ShloMosaic Idealize.ShloMosaic.TcCoe Idealize.SL.Sem
open Cert.Activations Cert.NormGrad

/-! ## A block's rows -/

section Middle

variable (y : FVec Ideal S256x2048 .bf16) (x g : FVec Ideal S256x1024 .f32) (o : FVec Ideal S2048x1024 .bf16)
  (n : FVec Ideal S1x1024 .f32)

abbrev proj : Proj := fun k q => o (ix2 k q)

theorem resid_at (r : Fin 256) (q : Fin 1024) :
    k0_pay66 (F := Ideal) x y o (ix2 r q) = resid (fun k => y (ix2 r k)) (fun k => x (ix2 r k)) (proj o) q := by
  pointwise [k0_pay66, resid]

theorem invR_at (r : Fin 256) :
    k0_pay67 (F := Ideal) x y o (ix2 r 0) = invR (fun k => y (ix2 r k)) (fun k => x (ix2 r k)) (proj o) := by
  pointwise [k0_pay67, resid_at, invR, invRms, meanSq]

theorem xhat_at (r : Fin 256) (q : Fin 1024) :
    k0_pay68 (F := Ideal) x y o (ix2 r q) = xhat (fun k => y (ix2 r k)) (fun k => x (ix2 r k)) (proj o) q := by
  rw [xhat]
  pointwise [k0_pay68, resid_at, invR_at]

theorem err_at (r : Fin 256) (q : Fin 1024) :
    k0_pay69 (F := Ideal) x y o n g (ix2 r q)
      = err (fun k => y (ix2 r k)) (fun k => x (ix2 r k)) (fun k => g (ix2 r k)) (proj o) (mat n 0) q := by
  rw [err]
  pointwise [k0_pay69, xhat_at]

theorem loss_at (l : FVec Ideal S1x128 .f32) (j : Fin 128) :
    k0_pay70 (F := Ideal) x y o n g l (ix2 0 j)
      = l (ix2 0 j) + half * ∑ r : Fin 256, lossRow (fun k => y (ix2 r k)) (fun k => x (ix2 r k)) (fun k => g (ix2 r k)) (proj o) (mat n 0) := by
  pointwise [k0_pay70, err_at, lossRow]

theorem final_at (f : FVec Ideal S1x1024 .f32) (q : Fin 1024) :
    k0_pay72 (F := Ideal) (k0_pay68 x y o) (k0_pay69 x y o n g) f (ix2 0 q)
      = f (ix2 0 q) + ∑ r : Fin 256, finalTerm (fun k => y (ix2 r k)) (fun k => x (ix2 r k)) (fun k => g (ix2 r k)) (proj o) (mat n 0) q := by
  pointwise [k0_pay72, k0_pay71, err_at, xhat_at, finalTerm, dOut]

/-- A block's residual gradients and the unit's cotangents. -/
def dResidVec : FVec Ideal S256x1024 .f32 := k0_pay73 (k0_pay67 x y o) (k0_pay68 x y o) n (k0_pay69 x y o n g)
def dYVec : FVec Ideal S256x2048 .f32 := k0_pay74 (k0_pay67 x y o) (k0_pay68 x y o) n (k0_pay69 x y o n g) o

theorem dResid_at (r : Fin 256) (q : Fin 1024) :
    dResidVec y x g o n (ix2 r q)
      = dResid (fun k => y (ix2 r k)) (fun k => x (ix2 r k)) (fun k => g (ix2 r k)) (proj o) (mat n 0) q := by
  rw [dResidVec, dResid, gradByRoot]
  pointwise [k0_pay73, k0_pay71, invR_at, err_at, xhat_at, dOut, xhat, invR]

theorem dY_at (r : Fin 256) (k : Fin 2048) :
    dYVec y x g o n (ix2 r k)
      = dY (fun k => y (ix2 r k)) (fun k => x (ix2 r k)) (fun k => g (ix2 r k)) (proj o) (mat n 0) k := by
  rw [dYVec]
  simp only [dY, ← dResid_at]
  pointwise [k0_pay74, dResidVec]

end Middle

/-! ## A chunk's gradients -/

section Chunk

variable (p : CVec) (g : FVec Ideal S1x2048 .f32) (w0 w1 w2 w3 : MVec) (b0 b1 b2 b3 : BVec) (d : WVec)

def duVec : WVec := mulf (mulf d (mixVec p g w0 w1 w2 w3 b0 b1 b2 b3)) (k0_pay35 (k0_pay9 p))
def dsVec : WVec := mulf (mulf d (k0_pay13 p)) (k0_pay35 (k0_pay9 p))
def dzVec : WVec := mulf (mulf (mulf d (k0_pay13 p)) (mixVec p g w0 w1 w2 w3 b0 b1 b2 b3)) (k0_pay36 (k0_pay9 p))

theorem du_at (t : Fin 128) (k : Fin 2048) :
    duVec p g w0 w1 w2 w3 b0 b1 b2 b3 d (ix2 t k)
      = du (mat p) (mat g 0) (mixOf w0 w1 w2 w3) (biasOf b0 b1 b2 b3) (mat d) t k := by
  rw [duVec, du]
  pointwise [mix_at, silu_at]

theorem ds_at (t : Fin 128) (k : Fin 2048) : dsVec p d (ix2 t k) = ds (mat p) (mat d) t k := by
  rw [dsVec, ds]
  pointwise [u_at, silu_at]

theorem dz_at (t : Fin 128) (k : Fin 2048) :
    dzVec p g w0 w1 w2 w3 b0 b1 b2 b3 d (ix2 t k)
      = dz (mat p) (mat g 0) (mixOf w0 w1 w2 w3) (biasOf b0 b1 b2 b3) (mat d) t k := by
  rw [dzVec, dz]
  pointwise [u_at, mix_at, siluSlope_at]

/-- The four groups' columns of an array, one after the other. -/
abbrev part0 (s : WVec) : FVec Ideal S128x512 .f32 := extractStridedSlice S128x512 ![0, 0] s slices_S128x2048_o0_0_S128x512
abbrev part1 (s : WVec) : FVec Ideal S128x512 .f32 := extractStridedSlice S128x512 ![0, 512] s slices_S128x2048_o0_512_S128x512
abbrev part2 (s : WVec) : FVec Ideal S128x512 .f32 := extractStridedSlice S128x512 ![0, 1024] s slices_S128x2048_o0_1024_S128x512
abbrev part3 (s : WVec) : FVec Ideal S128x512 .f32 := extractStridedSlice S128x512 ![0, 1536] s slices_S128x2048_o0_1536_S128x512

/-- The mixing's transpose: a group's weights against its columns. -/
abbrev back (w : MVec) (s : FVec Ideal S128x512 .f32) : FVec Ideal S128x512 .f32 := k0_pay85 (k0_pay26 k0_pay25 w) s

theorem back_at (w : MVec) (s : FVec Ideal S128x512 .f32) (t : Fin 128) (j : Fin 512) :
    back w s (ix2 t j) = ∑ r, mask w r t * s (ix2 r j) := by
  rw [back]
  pointwise [k0_pay85, mask_at]

theorem dvn_group (P : Chunk) (W : Mix) (D : Wide) (h : Fin 4) (w : MVec) (hw : ∀ t s, w (ix3 0 t s) = W h t s)
    (t : Fin 128) (k k' : Fin 2048) (e : k' = k) (hk : k.val / 512 = h.val) :
    ∑ r, mask w r t * ds P D r k' = dvn P W D t k := by
  subst e
  obtain rfl : h = grp k' := Fin.ext hk.symm
  simp only [mask, dvn, wm, hw]

def dvnVec : WVec := k0_pay102 (k0_pay26 k0_pay25 w3) (back w0 (part0 (dsVec p d))) (back w1 (part1 (dsVec p d)))
  (back w2 (part2 (dsVec p d))) (part3 (dsVec p d))

theorem dvn_at (t : Fin 128) (k : Fin 2048) :
    dvnVec p w0 w1 w2 w3 d (ix2 t k) = dvn (mat p) (mixOf w0 w1 w2 w3) (mat d) t k := by
  rw [dvnVec]
  pointwise [k0_pay102, back_at, mask_at, ds_at]
  by_cases h0 : k.val < 512
  · rw [dif_pos h0]
    exact dvn_group _ (mixOf w0 w1 w2 w3) _ 0 w0 (fun _ _ => rfl) t k k rfl (Nat.div_eq_of_lt h0)
  rw [dif_neg h0]
  by_cases h1 : k.val - 512 < 512
  · have e : 512 + (k.val - 512) = k.val := by omega
    have hk : k.val / 512 = 1 := by omega
    rw [dif_pos h1]
    exact dvn_group _ (mixOf w0 w1 w2 w3) _ 1 w1 (fun _ _ => rfl) t k ⟨512 + (k.val - 512), by omega⟩ (Fin.ext e) hk
  rw [dif_neg h1]
  by_cases h2 : k.val - 512 - 512 < 512
  · have e : 1024 + (k.val - 512 - 512) = k.val := by omega
    have hk : k.val / 512 = 2 := by omega
    rw [dif_pos h2]
    exact dvn_group _ (mixOf w0 w1 w2 w3) _ 2 w2 (fun _ _ => rfl) t k ⟨1024 + (k.val - 512 - 512), by omega⟩ (Fin.ext e) hk
  have e : 1536 + (k.val - 512 - 512 - 512) = k.val := by omega
  have hk : k.val / 512 = 3 := by omega
  rw [dif_neg h2]
  exact dvn_group _ (mixOf w0 w1 w2 w3) _ 3 w3 (fun _ _ => rfl) t k ⟨1536 + (k.val - 512 - 512 - 512), by omega⟩ (Fin.ext e) hk

/-- The accumulated gradients, one chunk further. -/
def gainAdd (old : FVec Ideal S1x2048 .f32) : FVec Ideal S1x2048 .f32 :=
  k0_pay103 (vhatVec p) (k0_pay26 k0_pay25 w3) (back w0 (part0 (dsVec p d))) (back w1 (part1 (dsVec p d)))
    (back w2 (part2 (dsVec p d))) (part3 (dsVec p d)) old
abbrev biasAdd (s : FVec Ideal S128x512 .f32) (old : BVec) : BVec := k0_pay100 s (k0_pay99 old)
abbrev mixAdd (s v : FVec Ideal S128x512 .f32) (old : MVec) : MVec := k0_pay101 k0_pay25 s v old

theorem gainAdd_at (old : FVec Ideal S1x2048 .f32) (k : Fin 2048) :
    gainAdd p w0 w1 w2 w3 d old (ix2 0 k)
      = old (ix2 0 k) + ∑ t : Fin 128, gainTerm (mat p) (mixOf w0 w1 w2 w3) (mat d) t k := by
  rw [gainAdd]
  simp only [gainTerm, ← dvn_at]
  pointwise [k0_pay103, vhat_at, dvnVec]

theorem biasAdd_at (s : FVec Ideal S128x512 .f32) (old : BVec) (t : Fin 128) :
    biasAdd s old (ix3 0 t 0) = old (ix3 0 t 0) + ∑ j, s (ix2 t j) := by
  rw [biasAdd]
  pointwise [k0_pay100, k0_pay99]

theorem mixAdd_at (s v : FVec Ideal S128x512 .f32) (old : MVec) (t r : Fin 128) :
    mixAdd s v old (ix3 0 t r) = old (ix3 0 t r) + if r.val ≤ t.val then ∑ j, s (ix2 t j) * v (ix2 r j) else 0 := by
  rw [mixAdd]
  pointwise [k0_pay101, k0_pay25]
  rw [WordCmp.cmpi_sge_ofNat (by omega) (by omega)]
  by_cases h : r.val ≤ t.val <;> simp [h, Scalar.select]

/-- The layer norm's cotangent, and the chunk's gradients of the projected rows. -/
def dvhatVec : WVec := k0_pay104 g (k0_pay26 k0_pay25 w3) (back w0 (part0 (dsVec p d))) (back w1 (part1 (dsVec p d)))
  (back w2 (part2 (dsVec p d))) (part3 (dsVec p d))

theorem dvhat_at (t : Fin 128) (k : Fin 2048) :
    dvhatVec p g w0 w1 w2 w3 d (ix2 t k) = dvhat (mat p) (mat g 0) (mixOf w0 w1 w2 w3) (mat d) t k := by
  rw [dvhatVec, dvhat, ← dvn_at]
  pointwise [k0_pay104, dvnVec]

def centred : WVec := k0_pay105 g (k0_pay26 k0_pay25 w3) (back w0 (part0 (dsVec p d))) (back w1 (part1 (dsVec p d)))
  (back w2 (part2 (dsVec p d))) (part3 (dsVec p d))

theorem centred_at (t : Fin 128) (k : Fin 2048) :
    centred p g w0 w1 w2 w3 d (ix2 t k) = dvhat (mat p) (mat g 0) (mixOf w0 w1 w2 w3) (mat d) t k
      - Ideal.div (∑ j, dvhat (mat p) (mat g 0) (mixOf w0 w1 w2 w3) (mat d) t j) wide := by
  rw [centred]
  simp only [← dvhat_at]
  pointwise [k0_pay105, dvhatVec]

def dProjVec : FVec Ideal S128x6144 .bf16 := k0_pay107 (k0_pay14 p) (slopeV p) (rstdVec p) (vhatVec p)
  (duVec p g w0 w1 w2 w3 b0 b1 b2 b3 d) (dzVec p g w0 w1 w2 w3 b0 b1 b2 b3 d) (centred p g w0 w1 w2 w3 d)
  (mulf (dvhatVec p g w0 w1 w2 w3 d) (vhatVec p))

theorem dProj_at (t : Fin 128) (k : Fin 6144) :
    dProjVec p g w0 w1 w2 w3 b0 b1 b2 b3 d (ix2 t k)
      = dProj (mat p) (mat g 0) (mixOf w0 w1 w2 w3) (biasOf b0 b1 b2 b3) (mat d) t k := by
  rw [dProjVec, dProj]
  pointwise [k0_pay107, slopeU_at, slopeV_at, rstd_at, vhat_at, du_at, dz_at, centred_at, dvhat_at, dpU, dpV, dv]

end Chunk

end Cert.Sgu

end
-- ==== Proof.SguPoint.lean ====
module

public import proofs.«01_k».proof.Proof.SguBackward

/-! The spatial gating unit's kernel: what the windows hold after the body at one grid point, from the blocks it read. -/

@[expose] public section

set_option maxRecDepth 16384

noncomputable section

namespace Cert.Sgu

open Cert.Kernel3Ideal Cert.Kernel3Ideal.Gen Idealize.ShloMosaic Idealize.ShloMosaic.TcCoe Idealize.SL.Sem
open Cert.Activations Cert.NormGrad

/-- What a grid point reads: the projected rows, the residual, the layer norm's gain, the mixing weights and biases, the
    output projection, the final norm's gain and the target. -/
structure Blocks where
  x : Vec Ideal S256x6144 .f32
  z : Vec Ideal S256x1024 .f32
  g : Vec Ideal S1x2048 .f32
  w : Vec Ideal S4x128x128 .f32
  b : Vec Ideal S4x128x1 .f32
  o : Vec Ideal S2048x1024 .bf16
  n : Vec Ideal S1x1024 .f32
  tg : Vec Ideal S256x1024 .f32

namespace Blocks

variable (k : Blocks)

/-- A block's two chunks of rows, the four groups' weights and biases, and the whole of the others. -/
abbrev chunk0 : CVec := View.ld (Val := Elt Ideal) k.x (Rect.unit ![0, 0] ![128, 6144] inb_S256x6144_S128x6144_0_0)
abbrev chunk1 : CVec := View.ld (Val := Elt Ideal) k.x (Rect.unit ![128, 0] ![128, 6144] inb_S256x6144_S128x6144_128_0)
abbrev w0 : MVec := View.ld (Val := Elt Ideal) k.w (Rect.unit ![0, 0, 0] ![1, 128, 128] inb_S4x128x128_S1x128x128_0_0_0)
abbrev w1 : MVec := View.ld (Val := Elt Ideal) k.w (Rect.unit ![1, 0, 0] ![1, 128, 128] inb_S4x128x128_S1x128x128_1_0_0)
abbrev w2 : MVec := View.ld (Val := Elt Ideal) k.w (Rect.unit ![2, 0, 0] ![1, 128, 128] inb_S4x128x128_S1x128x128_2_0_0)
abbrev w3 : MVec := View.ld (Val := Elt Ideal) k.w (Rect.unit ![3, 0, 0] ![1, 128, 128] inb_S4x128x128_S1x128x128_3_0_0)
abbrev b0 : BVec := View.ld (Val := Elt Ideal) k.b (Rect.unit ![0, 0, 0] ![1, 128, 1] inb_S4x128x1_S1x128x1_0_0_0)
abbrev b1 : BVec := View.ld (Val := Elt Ideal) k.b (Rect.unit ![1, 0, 0] ![1, 128, 1] inb_S4x128x1_S1x128x1_1_0_0)
abbrev b2 : BVec := View.ld (Val := Elt Ideal) k.b (Rect.unit ![2, 0, 0] ![1, 128, 1] inb_S4x128x1_S1x128x1_2_0_0)
abbrev b3 : BVec := View.ld (Val := Elt Ideal) k.b (Rect.unit ![3, 0, 0] ![1, 128, 1] inb_S4x128x1_S1x128x1_3_0_0)
abbrev gain : FVec Ideal S1x2048 .f32 := View.ld (Val := Elt Ideal) k.g (Rect.unit ![0, 0] ![1, 2048] inb_S1x2048_S1x2048_0_0)
abbrev rest : FVec Ideal S256x1024 .f32 := View.ld (Val := Elt Ideal) k.z (Rect.unit ![0, 0] ![256, 1024] inb_S256x1024_S256x1024_0_0)
abbrev goal : FVec Ideal S256x1024 .f32 := View.ld (Val := Elt Ideal) k.tg (Rect.unit ![0, 0] ![256, 1024] inb_S256x1024_S256x1024_0_0)
abbrev out : FVec Ideal S2048x1024 .bf16 := View.ld (Val := Elt Ideal) k.o (Rect.unit ![0, 0] ![2048, 1024] inb_S2048x1024_S2048x1024_0_0)
abbrev final : FVec Ideal S1x1024 .f32 := View.ld (Val := Elt Ideal) k.n (Rect.unit ![0, 0] ![1, 1024] inb_S1x1024_S1x1024_0_0)

/-- The unit's rows of a block, a chunk at a time, and the block as it is read back. -/
def yPieces : List (View.Piece (Elt Ideal) S256x2048 .bf16) :=
  [⟨Rect.unit ![128, 0] ![128, 2048] inb_S256x2048_S128x2048_128_0, yVec k.chunk1 k.gain k.w0 k.w1 k.w2 k.w3 k.b0 k.b1 k.b2 k.b3⟩,
    ⟨Rect.unit ![0, 0] ![128, 2048] inb_S256x2048_S128x2048_0_0, yVec k.chunk0 k.gain k.w0 k.w1 k.w2 k.w3 k.b0 k.b1 k.b2 k.b3⟩]
def yBlk (v : View sig .tc .vmem S256x2048 .bf16) : FVec Ideal S256x2048 .bf16 :=
  v.readCov k.yPieces (Rect.unit (s := S256x2048) (![0, 0] : Fin 2 → ℕ) ![256, 2048] inb_S256x2048_S256x2048_0_0).toLoadRect

/-- The gradient at the unit's rows, and its two chunks. -/
def dYBlk (v : View sig .tc .vmem S256x2048 .bf16) : FVec Ideal S256x2048 .f32 := dYVec (k.yBlk v) k.rest k.goal k.out k.final
abbrev d0 (v : View sig .tc .vmem S256x2048 .bf16) : WVec :=
  extractStridedSlice S128x2048 ![0, 0] (k.dYBlk v) slices_S256x2048_o0_0_S128x2048
abbrev d1 (v : View sig .tc .vmem S256x2048 .bf16) : WVec :=
  extractStridedSlice S128x2048 ![128, 0] (k.dYBlk v) slices_S256x2048_o128_0_S128x2048

/-- The projection's gradient, a chunk of rows at a time. -/
def dProjPieces (v : View sig .tc .vmem S256x2048 .bf16) : List (View.Piece (Elt Ideal) S256x6144 .bf16) :=
  [⟨Rect.unit ![128, 0] ![128, 6144] inb_S256x6144_S128x6144_128_0, dProjVec k.chunk1 k.gain k.w0 k.w1 k.w2 k.w3 k.b0 k.b1 k.b2 k.b3 (k.d1 v)⟩,
    ⟨Rect.unit ![0, 0] ![128, 6144] inb_S256x6144_S128x6144_0_0, dProjVec k.chunk0 k.gain k.w0 k.w1 k.w2 k.w3 k.b0 k.b1 k.b2 k.b3 (k.d0 v)⟩]

end Blocks

/-- The parts of the arrays a step accumulates into: a whole row, or one group's weights or biases. -/
abbrev rowRect : Rect S1x2048 := Rect.unit (s := S1x2048) (![0, 0] : Fin 2 → ℕ) ![1, 2048] inb_S1x2048_S1x2048_0_0
abbrev finalRect : Rect S1x1024 := Rect.unit (s := S1x1024) (![0, 0] : Fin 2 → ℕ) ![1, 1024] inb_S1x1024_S1x1024_0_0
abbrev lossRect : Rect S1x128 := Rect.unit (s := S1x128) (![0, 0] : Fin 2 → ℕ) ![1, 128] inb_S1x128_S1x128_0_0
abbrev mixRect0 : Rect S4x128x128 := Rect.unit (s := S4x128x128) (![0, 0, 0] : Fin 3 → ℕ) ![1, 128, 128] inb_S4x128x128_S1x128x128_0_0_0
abbrev mixRect1 : Rect S4x128x128 := Rect.unit (s := S4x128x128) (![1, 0, 0] : Fin 3 → ℕ) ![1, 128, 128] inb_S4x128x128_S1x128x128_1_0_0
abbrev mixRect2 : Rect S4x128x128 := Rect.unit (s := S4x128x128) (![2, 0, 0] : Fin 3 → ℕ) ![1, 128, 128] inb_S4x128x128_S1x128x128_2_0_0
abbrev mixRect3 : Rect S4x128x128 := Rect.unit (s := S4x128x128) (![3, 0, 0] : Fin 3 → ℕ) ![1, 128, 128] inb_S4x128x128_S1x128x128_3_0_0
abbrev biasRect0 : Rect S4x128x1 := Rect.unit (s := S4x128x1) (![0, 0, 0] : Fin 3 → ℕ) ![1, 128, 1] inb_S4x128x1_S1x128x1_0_0_0
abbrev biasRect1 : Rect S4x128x1 := Rect.unit (s := S4x128x1) (![1, 0, 0] : Fin 3 → ℕ) ![1, 128, 1] inb_S4x128x1_S1x128x1_1_0_0
abbrev biasRect2 : Rect S4x128x1 := Rect.unit (s := S4x128x1) (![2, 0, 0] : Fin 3 → ℕ) ![1, 128, 1] inb_S4x128x1_S1x128x1_2_0_0
abbrev biasRect3 : Rect S4x128x1 := Rect.unit (s := S4x128x1) (![3, 0, 0] : Fin 3 → ℕ) ![1, 128, 1] inb_S4x128x1_S1x128x1_3_0_0

/-- A value that adds to what the array holds at a rectangle, stored there on top of the earlier stores. -/
abbrev onTop {s : Shape} (a : View sig .tc .vmem s .f32) (f : a.ty.Contents (Elt Ideal)) (r : Rect s)
    (step : (r.shape.Idx → Elt Ideal .f32) → r.shape.Idx → Elt Ideal .f32) (L : List (View.Piece (Elt Ideal) s .f32)) :
    List (View.Piece (Elt Ideal) s .f32) :=
  ⟨r, step (a.readAt (Elt Ideal) r.toLoadRect (a.writes (Elt Ideal) f L))⟩ :: L

/-- The stores of a block into the accumulated arrays, both chunks of it, on top of the earlier stores. -/
def gainPieces (k : Blocks) (v : View sig .tc .vmem S256x2048 .bf16) (a : View sig .tc .vmem S1x2048 .f32) (f : a.ty.Contents (Elt Ideal))
    (L : List (View.Piece (Elt Ideal) S1x2048 .f32)) : List (View.Piece (Elt Ideal) S1x2048 .f32) :=
  onTop a a.junk rowRect (gainAdd k.chunk1 k.w0 k.w1 k.w2 k.w3 (k.d1 v)) <|
  onTop a f rowRect (gainAdd k.chunk0 k.w0 k.w1 k.w2 k.w3 (k.d0 v)) L

def mixPieces (p : CVec) (g : FVec Ideal S1x2048 .f32) (d : WVec) (a : View sig .tc .vmem S4x128x128 .f32)
    (L : List (View.Piece (Elt Ideal) S4x128x128 .f32)) : List (View.Piece (Elt Ideal) S4x128x128 .f32) :=
  onTop a a.junk mixRect3 (mixAdd (part3 (dsVec p d)) (part3 (vnVec p g))) <|
  onTop a a.junk mixRect2 (mixAdd (part2 (dsVec p d)) (part2 (vnVec p g))) <|
  onTop a a.junk mixRect1 (mixAdd (part1 (dsVec p d)) (part1 (vnVec p g))) <|
  onTop a a.junk mixRect0 (mixAdd (part0 (dsVec p d)) (part0 (vnVec p g))) L

def biasPieces (p : CVec) (d : WVec) (a : View sig .tc .vmem S4x128x1 .f32)
    (L : List (View.Piece (Elt Ideal) S4x128x1 .f32)) : List (View.Piece (Elt Ideal) S4x128x1 .f32) :=
  onTop a a.junk biasRect3 (biasAdd (part3 (dsVec p d))) <| onTop a a.junk biasRect2 (biasAdd (part2 (dsVec p d))) <|
  onTop a a.junk biasRect1 (biasAdd (part1 (dsVec p d))) <| onTop a a.junk biasRect0 (biasAdd (part0 (dsVec p d))) L

/-- The same four stores where the values added to are given. -/
def mixStores (p : CVec) (g : FVec Ideal S1x2048 .f32) (d : WVec) (o0 o1 o2 o3 : MVec)
    (L : List (View.Piece (Elt Ideal) S4x128x128 .f32)) : List (View.Piece (Elt Ideal) S4x128x128 .f32) :=
  ⟨mixRect3, mixAdd (part3 (dsVec p d)) (part3 (vnVec p g)) o3⟩ :: ⟨mixRect2, mixAdd (part2 (dsVec p d)) (part2 (vnVec p g)) o2⟩ ::
  ⟨mixRect1, mixAdd (part1 (dsVec p d)) (part1 (vnVec p g)) o1⟩ :: ⟨mixRect0, mixAdd (part0 (dsVec p d)) (part0 (vnVec p g)) o0⟩ :: L

def biasStores (p : CVec) (d : WVec) (o0 o1 o2 o3 : BVec)
    (L : List (View.Piece (Elt Ideal) S4x128x1 .f32)) : List (View.Piece (Elt Ideal) S4x128x1 .f32) :=
  ⟨biasRect3, biasAdd (part3 (dsVec p d)) o3⟩ :: ⟨biasRect2, biasAdd (part2 (dsVec p d)) o2⟩ ::
  ⟨biasRect1, biasAdd (part1 (dsVec p d)) o1⟩ :: ⟨biasRect0, biasAdd (part0 (dsVec p d)) o0⟩ :: L

def finalPieces (k : Blocks) (v : View sig .tc .vmem S256x2048 .bf16) (a : View sig .tc .vmem S1x1024 .f32) (f : a.ty.Contents (Elt Ideal))
    (L : List (View.Piece (Elt Ideal) S1x1024 .f32)) : List (View.Piece (Elt Ideal) S1x1024 .f32) :=
  onTop a f finalRect (k0_pay72 (k0_pay68 k.rest (k.yBlk v) k.out) (k0_pay69 k.rest (k.yBlk v) k.out k.final k.goal)) L

def lossPieces (k : Blocks) (v : View sig .tc .vmem S256x2048 .bf16) (a : View sig .tc .vmem S1x128 .f32) (f : a.ty.Contents (Elt Ideal))
    (L : List (View.Piece (Elt Ideal) S1x128 .f32)) : List (View.Piece (Elt Ideal) S1x128 .f32) :=
  onTop a f lossRect (k0_pay70 k.rest (k.yBlk v) k.out k.final k.goal) L

variable (m : (ℓ : Loc nD τ sig) → Buf (Elt Ideal) ℓ) (c : Dev nD) (t : Fin cfg0.N)

/-- The blocks as the body finds them in its windows. -/
abbrev found : Blocks :=
  ⟨(ms0_0 t).view.read (Elt Ideal) ((hs0_0 t).unread (iblk m c 0 t)), (ms0_1 t).view.read (Elt Ideal) ((hs0_1 t).unread (iblk m c 1 t)),
    (ms0_2 t).view.read (Elt Ideal) ((hs0_2 t).unread (iblk m c 2 t)), (ms0_3 t).view.read (Elt Ideal) ((hs0_3 t).unread (iblk m c 3 t)),
    (ms0_4 t).view.read (Elt Ideal) ((hs0_4 t).unread (iblk m c 4 t)), (ms0_5 t).view.read (Elt Ideal) ((hs0_5 t).unread (iblk m c 5 t)),
    (ms0_6 t).view.read (Elt Ideal) ((hs0_6 t).unread (iblk m c 6 t)), (ms0_7 t).view.read (Elt Ideal) ((hs0_7 t).unread (iblk m c 7 t))⟩

theorem y_eq : (outsAt0 m c t.val t.isLt).2.1
    = VO0_9.read (Elt Ideal) (VO0_9.writes (Elt Ideal) VO0_9.junk (found m c t).yPieces) := by
  by_cases h : t.val % 32 = 0
  · rw [outsAt0_A m c t h]; sl_kernel_rfl
  · rw [outsAt0_B m c t h]; sl_kernel_rfl

theorem dResid_eq : (outsAt0 m c t.val t.isLt).2.2.1
    = VO0_10.read (Elt Ideal) (VO0_10.writes (Elt Ideal) VO0_10.junk
      [⟨Rect.unit ![0, 0] ![256, 1024] inb_S256x1024_S256x1024_0_0, dResidVec ((found m c t).yBlk (ms0_9 t).view)
        (found m c t).rest (found m c t).goal (found m c t).out (found m c t).final⟩]) := by
  by_cases h : t.val % 32 = 0
  · rw [outsAt0_A m c t h]; sl_kernel_rfl
  · rw [outsAt0_B m c t h]; sl_kernel_rfl

theorem dProj_eq : (outsAt0 m c t.val t.isLt).1
    = VO0_8.read (Elt Ideal) (VO0_8.writes (Elt Ideal) VO0_8.junk ((found m c t).dProjPieces (ms0_9 t).view)) := by
  by_cases h : t.val % 32 = 0
  · rw [outsAt0_A m c t h]; sl_kernel_rfl
  · rw [outsAt0_B m c t h]; sl_kernel_rfl

theorem gain_first (h : t.val % 32 = 0) : (outsAt0 m c t.val t.isLt).2.2.2.1
    = VO0_11.read (Elt Ideal) (VO0_11.writes (Elt Ideal) VO0_11.junk
      (gainPieces (found m c t) (ms0_9 t).view (ms0_11 t).view (ms0_11 t).view.junk [⟨rowRect, k0_pay2 (F := Ideal)⟩])) := by
  rw [outsAt0_A m c t h]; sl_kernel_rfl

theorem gain_next (h : ¬ t.val % 32 = 0) : (outsAt0 m c t.val t.isLt).2.2.2.1
    = VO0_11.read (Elt Ideal) (VO0_11.writes (Elt Ideal) VO0_11.junk
      (gainPieces (found m c t) (ms0_9 t).view (ms0_11 t).view
        ((hs0_11 t).unread ((outsAt0 m c (t.val - 1) (Nat.lt_of_le_of_lt (Nat.sub_le _ _) t.isLt)).2.2.2.1)) [])) := by
  rw [outsAt0_B m c t h]; sl_kernel_rfl

theorem final_first (h : t.val % 32 = 0) : (outsAt0 m c t.val t.isLt).2.2.2.2.2.2.1
    = VO0_14.read (Elt Ideal) (VO0_14.writes (Elt Ideal) VO0_14.junk
      (finalPieces (found m c t) (ms0_9 t).view (ms0_14 t).view (ms0_14 t).view.junk [⟨finalRect, k0_pay5 (F := Ideal)⟩])) := by
  rw [outsAt0_A m c t h]; sl_kernel_rfl

theorem final_next (h : ¬ t.val % 32 = 0) : (outsAt0 m c t.val t.isLt).2.2.2.2.2.2.1
    = VO0_14.read (Elt Ideal) (VO0_14.writes (Elt Ideal) VO0_14.junk
      (finalPieces (found m c t) (ms0_9 t).view (ms0_14 t).view
        ((hs0_14 t).unread ((outsAt0 m c (t.val - 1) (Nat.lt_of_le_of_lt (Nat.sub_le _ _) t.isLt)).2.2.2.2.2.2.1)) [])) := by
  rw [outsAt0_B m c t h]; sl_kernel_rfl

theorem loss_first (h : t.val % 32 = 0) : (outsAt0 m c t.val t.isLt).2.2.2.2.2.2.2
    = VO0_15.read (Elt Ideal) (VO0_15.writes (Elt Ideal) VO0_15.junk
      (lossPieces (found m c t) (ms0_9 t).view (ms0_15 t).view (ms0_15 t).view.junk [⟨lossRect, k0_pay6 (F := Ideal)⟩])) := by
  rw [outsAt0_A m c t h]; sl_kernel_rfl

theorem loss_next (h : ¬ t.val % 32 = 0) : (outsAt0 m c t.val t.isLt).2.2.2.2.2.2.2
    = VO0_15.read (Elt Ideal) (VO0_15.writes (Elt Ideal) VO0_15.junk
      (lossPieces (found m c t) (ms0_9 t).view (ms0_15 t).view
        ((hs0_15 t).unread ((outsAt0 m c (t.val - 1) (Nat.lt_of_le_of_lt (Nat.sub_le _ _) t.isLt)).2.2.2.2.2.2.2)) [])) := by
  rw [outsAt0_B m c t h]; sl_kernel_rfl

theorem mix_first (h : t.val % 32 = 0) : (outsAt0 m c t.val t.isLt).2.2.2.2.1
    = VO0_12.read (Elt Ideal) (VO0_12.writes (Elt Ideal) VO0_12.junk
      (mixPieces (found m c t).chunk1 (found m c t).gain ((found m c t).d1 (ms0_9 t).view) (ms0_12 t).view
        (mixPieces (found m c t).chunk0 (found m c t).gain ((found m c t).d0 (ms0_9 t).view) (ms0_12 t).view
          [⟨Rect.unit ![0, 0, 0] ![4, 128, 128] inb_S4x128x128_S4x128x128_0_0_0, k0_pay3 (F := Ideal)⟩]))) := by
  rw [outsAt0_A m c t h]; sl_kernel_rfl

theorem bias_first (h : t.val % 32 = 0) : (outsAt0 m c t.val t.isLt).2.2.2.2.2.1
    = VO0_13.read (Elt Ideal) (VO0_13.writes (Elt Ideal) VO0_13.junk
      (biasPieces (found m c t).chunk1 ((found m c t).d1 (ms0_9 t).view) (ms0_13 t).view
        (biasPieces (found m c t).chunk0 ((found m c t).d0 (ms0_9 t).view) (ms0_13 t).view
          [⟨Rect.unit ![0, 0, 0] ![4, 128, 1] inb_S4x128x1_S4x128x1_0_0_0, k0_pay4 (F := Ideal)⟩]))) := by
  rw [outsAt0_A m c t h]; sl_kernel_rfl

/-- What the arrays held before a step, as the body finds it. -/
abbrev heldMix : Vec Ideal S4x128x128 .f32 := (ms0_12 t).view.read (Elt Ideal)
  ((hs0_12 t).unread ((outsAt0 m c (t.val - 1) (Nat.lt_of_le_of_lt (Nat.sub_le _ _) t.isLt)).2.2.2.2.1))
abbrev heldBias : Vec Ideal S4x128x1 .f32 := (ms0_13 t).view.read (Elt Ideal)
  ((hs0_13 t).unread ((outsAt0 m c (t.val - 1) (Nat.lt_of_le_of_lt (Nat.sub_le _ _) t.isLt)).2.2.2.2.2.1))

theorem mix_next (h : ¬ t.val % 32 = 0) : (outsAt0 m c t.val t.isLt).2.2.2.2.1
    = VO0_12.read (Elt Ideal) (VO0_12.writes (Elt Ideal) VO0_12.junk
      (mixPieces (found m c t).chunk1 (found m c t).gain ((found m c t).d1 (ms0_9 t).view) (ms0_12 t).view
        (mixStores (found m c t).chunk0 (found m c t).gain ((found m c t).d0 (ms0_9 t).view)
          (View.ld (heldMix m c t) mixRect0) (View.ld (heldMix m c t) mixRect1)
          (View.ld (heldMix m c t) mixRect2) (View.ld (heldMix m c t) mixRect3) []))) := by
  rw [outsAt0_B m c t h]; sl_kernel_rfl

theorem bias_next (h : ¬ t.val % 32 = 0) : (outsAt0 m c t.val t.isLt).2.2.2.2.2.1
    = VO0_13.read (Elt Ideal) (VO0_13.writes (Elt Ideal) VO0_13.junk
      (biasPieces (found m c t).chunk1 ((found m c t).d1 (ms0_9 t).view) (ms0_13 t).view
        (biasStores (found m c t).chunk0 ((found m c t).d0 (ms0_9 t).view)
          (View.ld (heldBias m c t) biasRect0) (View.ld (heldBias m c t) biasRect1)
          (View.ld (heldBias m c t) biasRect2) (View.ld (heldBias m c t) biasRect3) []))) := by
  rw [outsAt0_B m c t h]; sl_kernel_rfl

end Cert.Sgu

end
-- ==== Proof.SguBlock.lean ====
module

public import proofs.«01_k».proof.Proof.SguPoint
public import proofs.«01_k».proof.Proof.WholeCopy

/-! The gated unit's backward call, third part: what a grid point's stores amount to, row by row. A block is two chunks
of rows. -/

@[expose] public section

set_option maxRecDepth 16384

noncomputable section

namespace Cert.Sgu

open Cert.Kernel3Ideal Cert.Kernel3Ideal.Gen Idealize.ShloMosaic Idealize.ShloMosaic.ValueKit Idealize.ShloMosaic.TcCoe
open Cert.Activations Cert.NormGrad

/-- A row's chunk in its block, its place there, and a row from the two. -/
abbrev half (r : Fin 256) : Fin 2 := ⟨r.val / 128, by omega⟩
abbrev place (r : Fin 256) : Fin 128 := ⟨r.val % 128, by omega⟩
abbrev brow (j : Fin 2) (t : Fin 128) : Fin 256 := ⟨j.val * 128 + t.val, by omega⟩

theorem half_brow (j : Fin 2) (t : Fin 128) : half (brow j t) = j := Fin.ext (by simp only [half, brow]; omega)
theorem place_brow (j : Fin 2) (t : Fin 128) : place (brow j t) = t := Fin.ext (by simp only [place, brow]; omega)

/-- A block's row is the row of its chunk at its place. -/
theorem brow_row (r : Fin 256) : brow (half r) (place r) = r := Fin.ext (by simp only [half, place, brow]; omega)

namespace Blocks

variable (k : Blocks)

def shared : Shared := ⟨fun q => k.g (ix2 0 q), fun g t s => k.w (ix3 g t s), fun g t => k.b (ix3 g t 0), fun i q => k.o (ix2 i q), fun q => k.n (ix2 0 q)⟩
def rows (j : Fin 2) : Rows :=
  ⟨fun t q => k.x (ix2 (brow j t) q), fun t q => k.z (ix2 (brow j t) q), fun t q => k.tg (ix2 (brow j t) q)⟩

theorem chunk0_rows : mat k.chunk0 = (k.rows 0).P := by
  funext t q
  show k.chunk0 (ix2 t q) = k.x (ix2 _ q)
  pointwise [chunk0]
  try blk_ext
theorem chunk1_rows : mat k.chunk1 = (k.rows 1).P := by
  funext t q
  show k.chunk1 (ix2 t q) = k.x (ix2 _ q)
  pointwise [chunk1]
  try blk_ext
theorem gain_shared : mat k.gain 0 = k.shared.G := by
  funext q
  show k.gain (ix2 0 q) = k.g (ix2 0 q)
  pointwise [gain]
  try blk_ext
theorem final_shared : mat k.final 0 = k.shared.F := by
  funext q
  show k.final (ix2 0 q) = k.n (ix2 0 q)
  pointwise [final]
  try blk_ext
theorem out_shared : proj k.out = k.shared.O := by
  funext i q
  show k.out (ix2 i q) = k.o (ix2 i q)
  pointwise [out]
  try blk_ext
theorem mix_shared : mixOf k.w0 k.w1 k.w2 k.w3 = k.shared.W := by
  funext g t s
  show _ = k.w (ix3 g t s)
  fin_cases g
  · show k.w0 (ix3 0 t s) = k.w (ix3 0 t s)
    pointwise [w0]
    try blk_ext
  · show k.w1 (ix3 0 t s) = k.w (ix3 1 t s)
    pointwise [w1]
    try blk_ext
  · show k.w2 (ix3 0 t s) = k.w (ix3 2 t s)
    pointwise [w2]
    try blk_ext
  · show k.w3 (ix3 0 t s) = k.w (ix3 3 t s)
    pointwise [w3]
    try blk_ext
theorem bias_shared : biasOf k.b0 k.b1 k.b2 k.b3 = k.shared.B := by
  funext g t
  show _ = k.b (ix3 g t 0)
  fin_cases g
  · show k.b0 (ix3 0 t 0) = k.b (ix3 0 t 0)
    pointwise [b0]
    try blk_ext
  · show k.b1 (ix3 0 t 0) = k.b (ix3 1 t 0)
    pointwise [b1]
    try blk_ext
  · show k.b2 (ix3 0 t 0) = k.b (ix3 2 t 0)
    pointwise [b2]
    try blk_ext
  · show k.b3 (ix3 0 t 0) = k.b (ix3 3 t 0)
    pointwise [b3]
    try blk_ext

/-- The unit's rows, block whole. -/
theorem y_canon : (View.canon k.yPieces : Vec Ideal S256x2048 .bf16)
    = fun i : S256x2048.Idx => yC k.shared (k.rows (half (i 0))) (place (i 0)) (i 1) := by
  funext y
  rw [yPieces]
  canon_tiles z h
  · idx_vars z
    rw [y_at, chunk1_rows, gain_shared, mix_shared, bias_shared, show y 0 = brow 1 z0 from Fin.ext h0, half_brow, place_brow,
      show y 1 = z1 from Fin.ext h1]
    rfl
  · idx_vars z
    rw [y_at, chunk0_rows, gain_shared, mix_shared, bias_shared, show y 0 = brow 0 z0 from Fin.ext (by simpa using h0), half_brow, place_brow,
      show y 1 = z1 from Fin.ext h1]
    rfl

variable (v : View sig .tc .vmem S256x2048 .bf16)

theorem yBlk_at (r : Fin 256) : (fun q => k.yBlk v (ix2 r q)) = yC k.shared (k.rows (half r)) (place r) := by
  funext q
  rw [yBlk, View.readCov_eq_canon', y_canon]
  show View.ld (Val := Elt Ideal) (e' := .bf16) (fun i : S256x2048.Idx => yC k.shared (k.rows (half (i 0))) (place (i 0)) (i 1))
    (Rect.unit (s := S256x2048) (![0, 0] : Fin 2 → ℕ) ![256, 2048] inb_S256x2048_S256x2048_0_0) (ix2 r q) = _
  pointwise []

theorem rest_at (r : Fin 256) : (fun q => k.rest (ix2 r q)) = (k.rows (half r)).X (place r) := by
  funext q
  show _ = k.z (ix2 (brow (half r) (place r)) q)
  rw [brow_row]
  pointwise [rest]
  try blk_ext
theorem goal_at (r : Fin 256) : (fun q => k.goal (ix2 r q)) = (k.rows (half r)).T (place r) := by
  funext q
  show _ = k.tg (ix2 (brow (half r) (place r)) q)
  rw [brow_row]
  pointwise [goal]
  try blk_ext

/-- The residual's and the unit's gradients. -/
theorem dResidBlk_at (r : Fin 256) (q : Fin 1024) :
    dResidVec (k.yBlk v) k.rest k.goal k.out k.final (ix2 r q) = dResidC k.shared (k.rows (half r)) (place r) q := by
  rw [dResid_at, yBlk_at, rest_at, goal_at, out_shared, final_shared, dResidC]
theorem dYBlk_at (r : Fin 256) (q : Fin 2048) : k.dYBlk v (ix2 r q) = dYC k.shared (k.rows (half r)) (place r) q := by
  rw [dYBlk, dY_at, yBlk_at, rest_at, goal_at, out_shared, final_shared, dYC]
theorem d0_rows : mat (k.d0 v) = dYC k.shared (k.rows 0) := by
  funext t q
  show k.d0 v (ix2 t q) = _
  rw [show k.d0 v (ix2 t q) = k.dYBlk v (ix2 (brow 0 t) q) from by pointwise [d0]; try blk_ext, dYBlk_at, half_brow, place_brow]
theorem d1_rows : mat (k.d1 v) = dYC k.shared (k.rows 1) := by
  funext t q
  show k.d1 v (ix2 t q) = _
  rw [show k.d1 v (ix2 t q) = k.dYBlk v (ix2 (brow 1 t) q) from by pointwise [d1]; try blk_ext, dYBlk_at, half_brow, place_brow]

/-- The projection's gradient, block whole. -/
theorem dProj_canon : (View.canon (k.dProjPieces v) : Vec Ideal S256x6144 .bf16)
    = fun i : S256x6144.Idx => dProjC k.shared (k.rows (half (i 0))) (place (i 0)) (i 1) := by
  funext y
  rw [dProjPieces]
  canon_tiles z h
  · idx_vars z
    rw [dProj_at, chunk1_rows, gain_shared, mix_shared, bias_shared, d1_rows, show y 0 = brow 1 z0 from Fin.ext h0, half_brow, place_brow,
      show y 1 = z1 from Fin.ext h1]
    rfl
  · idx_vars z
    rw [dProj_at, chunk0_rows, gain_shared, mix_shared, bias_shared, d0_rows, show y 0 = brow 0 z0 from Fin.ext (by simpa using h0),
      half_brow, place_brow, show y 1 = z1 from Fin.ext h1]
    rfl

/-- A sum over a block's rows, chunk by chunk. -/
theorem sum_rows (f : Fin 2 → Fin 128 → EReal) : ∑ r : Fin 256, f (half r) (place r) = ∑ j, ∑ t, f j t := by
  rw [Fin.sum_univ_tiles 2 128 rfl]
  exact Finset.sum_congr rfl fun j _ => Finset.sum_congr rfl fun t _ => congrArg₂ f (half_brow j t) (place_brow j t)

/-! ## The accumulated arrays -/

theorem gain_canon (a : View sig .tc .vmem S1x2048 .f32) (f : a.ty.Contents (Elt Ideal)) (L : List (View.Piece (Elt Ideal) S1x2048 .f32))
    (q : Fin 2048) : (View.canon (gainPieces k v a f L) : Vec Ideal S1x2048 .f32) (ix2 0 q)
      = (a.readAt (Elt Ideal) rowRect.toLoadRect (a.writes (Elt Ideal) f L) : Vec Ideal S1x2048 .f32) (ix2 0 q)
        + ∑ j, gainC k.shared (k.rows j) q := by
  have e : a.readAt (Elt Ideal) rowRect.toLoadRect (a.writes (Elt Ideal) a.junk
      (onTop a f rowRect (gainAdd k.chunk0 k.w0 k.w1 k.w2 k.w3 (k.d0 v)) L)) = _ := View.readCov_cons_toLoadRect a rowRect _ L
  rw [gainPieces, onTop, e, View.canon_cons_unit_lit' _ _ _ (by decide)]
  rw [gainAdd_at, gainAdd_at, chunk0_rows, chunk1_rows, mix_shared, d0_rows, d1_rows, Fin.sum_univ_two, add_assoc]
  rfl

theorem final_canon (a : View sig .tc .vmem S1x1024 .f32) (f : a.ty.Contents (Elt Ideal)) (L : List (View.Piece (Elt Ideal) S1x1024 .f32))
    (q : Fin 1024) : (View.canon (finalPieces k v a f L) : Vec Ideal S1x1024 .f32) (ix2 0 q)
      = (a.readAt (Elt Ideal) finalRect.toLoadRect (a.writes (Elt Ideal) f L) : Vec Ideal S1x1024 .f32) (ix2 0 q)
        + ∑ j, finalC k.shared (k.rows j) q := by
  rw [finalPieces, onTop, View.canon_cons_unit_lit' _ _ _ (by decide), final_at]
  simp only [yBlk_at, rest_at, goal_at]
  rw [out_shared, final_shared]
  exact congrArg₂ _ rfl (sum_rows fun j t => finalTerm (yC k.shared (k.rows j) t) ((k.rows j).X t) ((k.rows j).T t) k.shared.O k.shared.F q)

theorem loss_canon (a : View sig .tc .vmem S1x128 .f32) (f : a.ty.Contents (Elt Ideal)) (L : List (View.Piece (Elt Ideal) S1x128 .f32))
    (q : Fin 128) : (View.canon (lossPieces k v a f L) : Vec Ideal S1x128 .f32) (ix2 0 q)
      = (a.readAt (Elt Ideal) lossRect.toLoadRect (a.writes (Elt Ideal) f L) : Vec Ideal S1x128 .f32) (ix2 0 q)
        + Activations.half * ∑ j, ∑ t, lossC k.shared (k.rows j) t := by
  rw [lossPieces, onTop, View.canon_cons_unit_lit' _ _ _ (by decide), loss_at]
  simp only [yBlk_at, rest_at, goal_at]
  rw [out_shared, final_shared]
  exact congrArg₂ _ rfl (congrArg _ (sum_rows fun j t => lossC k.shared (k.rows j) t))

end Blocks

end Cert.Sgu

end
-- ==== Proof.SguMix.lean ====
module

public import proofs.«01_k».proof.Proof.SguBlock

/-! The gated unit's backward call, fourth part: the stores into the mixing weights' and biases' gradients, group by group. -/

@[expose] public section

set_option maxRecDepth 16384

noncomputable section

namespace Cert.Sgu

open Cert.Kernel3Ideal Cert.Kernel3Ideal.Gen Idealize.ShloMosaic Idealize.ShloMosaic.ValueKit Idealize.ShloMosaic.TcCoe
open Cert.Activations Cert.NormGrad

variable (p : CVec) (g : FVec Ideal S1x2048 .f32) (d : WVec)

/-- What one group's store adds. -/
theorem mixTerm_of (h : Fin 4) (s v : FVec Ideal S128x512 .f32) (hs : ∀ t j, s (ix2 t j) = ds (mat p) (mat d) t (col h j))
    (hv : ∀ t j, v (ix2 t j) = vn (mat p) (mat g 0) t (col h j)) (old : MVec) (t r : Fin 128) :
    mixAdd s v old (ix3 0 t r) = old (ix3 0 t r) + mixTerm (mat p) (mat g 0) (mat d) h t r := by
  rw [mixAdd_at, mixTerm]
  simp only [hs, hv]

theorem biasTerm_of (h : Fin 4) (s : FVec Ideal S128x512 .f32) (hs : ∀ t j, s (ix2 t j) = ds (mat p) (mat d) t (col h j)) (old : BVec)
    (t : Fin 128) : biasAdd s old (ix3 0 t 0) = old (ix3 0 t 0) + biasTerm (mat p) (mat d) h t := by
  rw [biasAdd_at, biasTerm]
  simp only [hs]

theorem slice_at (x : WVec) (o : ℕ) (hs : S128x2048.Slices ![0, o] S128x512) (h : Fin 4) (ho : o = h.val * 512) (t : Fin 128) (j : Fin 512) :
    extractStridedSlice S128x512 ![0, o] x hs (ix2 t j) = x (ix2 t (col h j)) := by
  subst ho
  pointwise []
  try blk_ext

/-- A load from where the last store went reads it, and from elsewhere the earlier ones. -/
theorem ld_top {S : Shape} (q : Rect S) (w : q.shape.Idx → Elt Ideal .f32) (L : List (View.Piece (Elt Ideal) S .f32)) :
    View.ld (View.canon (⟨q, w⟩ :: L) : Vec Ideal S .f32) q = w := funext fun j => View.canon_cons_emb q w L j
theorem ld_skip {S : Shape} (q q' : Rect S) (w : q.shape.Idx → Elt Ideal .f32) (L : List (View.Piece (Elt Ideal) S .f32))
    (hd : LoadRect.disj q q'.toLoadRect = true) :
    View.ld (View.canon (⟨q, w⟩ :: L) : Vec Ideal S .f32) q' = View.ld (View.canon L : Vec Ideal S .f32) q' :=
  funext fun j => View.canon_cons_of_not_mem ⟨q, w⟩ L (LoadRect.idx_not_mem_of_disj hd j)

/-- A group's entries by a load of the group. -/
theorem mixGroup_at (X : Vec Ideal S4x128x128 .f32) (t r : Fin 128) :
    X (ix3 0 t r) = (View.ld X mixRect0 : MVec) (ix3 0 t r) ∧ X (ix3 1 t r) = (View.ld X mixRect1 : MVec) (ix3 0 t r)
      ∧ X (ix3 2 t r) = (View.ld X mixRect2 : MVec) (ix3 0 t r) ∧ X (ix3 3 t r) = (View.ld X mixRect3 : MVec) (ix3 0 t r) := by
  refine ⟨?_, ?_, ?_, ?_⟩ <;> (pointwise []; try blk_ext)
theorem biasGroup_at (X : Vec Ideal S4x128x1 .f32) (t : Fin 128) :
    X (ix3 0 t 0) = (View.ld X biasRect0 : BVec) (ix3 0 t 0) ∧ X (ix3 1 t 0) = (View.ld X biasRect1 : BVec) (ix3 0 t 0)
      ∧ X (ix3 2 t 0) = (View.ld X biasRect2 : BVec) (ix3 0 t 0) ∧ X (ix3 3 t 0) = (View.ld X biasRect3 : BVec) (ix3 0 t 0) := by
  refine ⟨?_, ?_, ?_, ?_⟩ <;> (pointwise []; try blk_ext)

/-- The four groups' parts of the mixed rows' gradients and of the scaled rows. -/
theorem parts_at (t : Fin 128) (j : Fin 512) : part0 (dsVec p d) (ix2 t j) = ds (mat p) (mat d) t (col 0 j)
    ∧ part1 (dsVec p d) (ix2 t j) = ds (mat p) (mat d) t (col 1 j) ∧ part2 (dsVec p d) (ix2 t j) = ds (mat p) (mat d) t (col 2 j)
    ∧ part3 (dsVec p d) (ix2 t j) = ds (mat p) (mat d) t (col 3 j) := by
  exact ⟨(slice_at (dsVec p d) 0 slices_S128x2048_o0_0_S128x512 0 rfl t j).trans (ds_at p d t _),
    (slice_at (dsVec p d) 512 slices_S128x2048_o0_512_S128x512 1 rfl t j).trans (ds_at p d t _),
    (slice_at (dsVec p d) 1024 slices_S128x2048_o0_1024_S128x512 2 rfl t j).trans (ds_at p d t _),
    (slice_at (dsVec p d) 1536 slices_S128x2048_o0_1536_S128x512 3 rfl t j).trans (ds_at p d t _)⟩
theorem vparts_at (t : Fin 128) (j : Fin 512) : part0 (vnVec p g) (ix2 t j) = vn (mat p) (mat g 0) t (col 0 j)
    ∧ part1 (vnVec p g) (ix2 t j) = vn (mat p) (mat g 0) t (col 1 j) ∧ part2 (vnVec p g) (ix2 t j) = vn (mat p) (mat g 0) t (col 2 j)
    ∧ part3 (vnVec p g) (ix2 t j) = vn (mat p) (mat g 0) t (col 3 j) := by
  exact ⟨(slice_at (vnVec p g) 0 slices_S128x2048_o0_0_S128x512 0 rfl t j).trans (vn_at p g t _),
    (slice_at (vnVec p g) 512 slices_S128x2048_o0_512_S128x512 1 rfl t j).trans (vn_at p g t _),
    (slice_at (vnVec p g) 1024 slices_S128x2048_o0_1024_S128x512 2 rfl t j).trans (vn_at p g t _),
    (slice_at (vnVec p g) 1536 slices_S128x2048_o0_1536_S128x512 3 rfl t j).trans (vn_at p g t _)⟩

/-- The four stores add a chunk's share to what is given. -/
theorem mixStores_canon (X : Vec Ideal S4x128x128 .f32) (L : List (View.Piece (Elt Ideal) S4x128x128 .f32)) (h : Fin 4) (t r : Fin 128) :
    (View.canon (mixStores p g d (View.ld X mixRect0) (View.ld X mixRect1) (View.ld X mixRect2) (View.ld X mixRect3) L)
      : Vec Ideal S4x128x128 .f32) (ix3 h t r) = X (ix3 h t r) + mixTerm (mat p) (mat g 0) (mat d) h t r := by
  rw [mixStores]
  fin_cases h
  · refine (mixGroup_at _ t r).1.trans (.trans ?_ (congrArg (· + _) (mixGroup_at X t r).1.symm))
    rw [ld_skip _ _ _ _ (by decide), ld_skip _ _ _ _ (by decide), ld_skip _ _ _ _ (by decide), ld_top]
    exact mixTerm_of p g d 0 _ _ (fun t j => (parts_at p d t j).1) (fun t j => (vparts_at p g t j).1) _ t r
  · refine (mixGroup_at _ t r).2.1.trans (.trans ?_ (congrArg (· + _) (mixGroup_at X t r).2.1.symm))
    rw [ld_skip _ _ _ _ (by decide), ld_skip _ _ _ _ (by decide), ld_top]
    exact mixTerm_of p g d 1 _ _ (fun t j => (parts_at p d t j).2.1) (fun t j => (vparts_at p g t j).2.1) _ t r
  · refine (mixGroup_at _ t r).2.2.1.trans (.trans ?_ (congrArg (· + _) (mixGroup_at X t r).2.2.1.symm))
    rw [ld_skip _ _ _ _ (by decide), ld_top]
    exact mixTerm_of p g d 2 _ _ (fun t j => (parts_at p d t j).2.2.1) (fun t j => (vparts_at p g t j).2.2.1) _ t r
  · refine (mixGroup_at _ t r).2.2.2.trans (.trans ?_ (congrArg (· + _) (mixGroup_at X t r).2.2.2.symm))
    rw [ld_top]
    exact mixTerm_of p g d 3 _ _ (fun t j => (parts_at p d t j).2.2.2) (fun t j => (vparts_at p g t j).2.2.2) _ t r

theorem biasStores_canon (X : Vec Ideal S4x128x1 .f32) (L : List (View.Piece (Elt Ideal) S4x128x1 .f32)) (h : Fin 4) (t : Fin 128) :
    (View.canon (biasStores p d (View.ld X biasRect0) (View.ld X biasRect1) (View.ld X biasRect2) (View.ld X biasRect3) L)
      : Vec Ideal S4x128x1 .f32) (ix3 h t 0) = X (ix3 h t 0) + biasTerm (mat p) (mat d) h t := by
  rw [biasStores]
  fin_cases h
  · refine (biasGroup_at _ t).1.trans (.trans ?_ (congrArg (· + _) (biasGroup_at X t).1.symm))
    rw [ld_skip _ _ _ _ (by decide), ld_skip _ _ _ _ (by decide), ld_skip _ _ _ _ (by decide), ld_top]
    exact biasTerm_of p d 0 _ (fun t j => (parts_at p d t j).1) _ t
  · refine (biasGroup_at _ t).2.1.trans (.trans ?_ (congrArg (· + _) (biasGroup_at X t).2.1.symm))
    rw [ld_skip _ _ _ _ (by decide), ld_skip _ _ _ _ (by decide), ld_top]
    exact biasTerm_of p d 1 _ (fun t j => (parts_at p d t j).2.1) _ t
  · refine (biasGroup_at _ t).2.2.1.trans (.trans ?_ (congrArg (· + _) (biasGroup_at X t).2.2.1.symm))
    rw [ld_skip _ _ _ _ (by decide), ld_top]
    exact biasTerm_of p d 2 _ (fun t j => (parts_at p d t j).2.2.1) _ t
  · refine (biasGroup_at _ t).2.2.2.trans (.trans ?_ (congrArg (· + _) (biasGroup_at X t).2.2.2.symm))
    rw [ld_top]
    exact biasTerm_of p d 3 _ (fun t j => (parts_at p d t j).2.2.2) _ t

/-- A chunk's stores on top of the earlier ones: each group's load sees what the earlier stores left. -/
theorem mixPieces_eq (a : View sig .tc .vmem S4x128x128 .f32) (L : List (View.Piece (Elt Ideal) S4x128x128 .f32)) :
    mixPieces p g d a L = mixStores p g d (View.ld (View.canon L : Vec Ideal S4x128x128 .f32) mixRect0) (View.ld (View.canon L : Vec Ideal S4x128x128 .f32) mixRect1)
      (View.ld (View.canon L : Vec Ideal S4x128x128 .f32) mixRect2) (View.ld (View.canon L : Vec Ideal S4x128x128 .f32) mixRect3) L := by
  have e0 : ∀ (q : Rect S4x128x128), a.readAt (Elt Ideal) q.toLoadRect (a.writes (Elt Ideal) a.junk L)
      = View.ld (View.canon L : Vec Ideal S4x128x128 .f32) q := fun q => View.readCov_eq_canon' a L q.toLoadRect
  have e : ∀ (q q' : Rect S4x128x128) (w : q.shape.Idx → Elt Ideal .f32) (L' : List (View.Piece (Elt Ideal) S4x128x128 .f32)),
      LoadRect.disj q q'.toLoadRect = true → a.readAt (Elt Ideal) q'.toLoadRect (a.writes (Elt Ideal) a.junk (⟨q, w⟩ :: L'))
        = a.readAt (Elt Ideal) q'.toLoadRect (a.writes (Elt Ideal) a.junk L') := fun q q' w L' hd => View.readCov_skip a q w L' q'.toLoadRect hd
  simp only [mixPieces, mixStores, onTop]
  rw [e mixRect2 mixRect3 _ _ (by decide), e mixRect1 mixRect3 _ _ (by decide), e mixRect0 mixRect3 _ _ (by decide),
    e mixRect1 mixRect2 _ _ (by decide), e mixRect0 mixRect2 _ _ (by decide), e mixRect0 mixRect1 _ _ (by decide),
    e0, e0, e0, e0]

theorem biasPieces_eq (a : View sig .tc .vmem S4x128x1 .f32) (L : List (View.Piece (Elt Ideal) S4x128x1 .f32)) :
    biasPieces p d a L = biasStores p d (View.ld (View.canon L : Vec Ideal S4x128x1 .f32) biasRect0) (View.ld (View.canon L : Vec Ideal S4x128x1 .f32) biasRect1)
      (View.ld (View.canon L : Vec Ideal S4x128x1 .f32) biasRect2) (View.ld (View.canon L : Vec Ideal S4x128x1 .f32) biasRect3) L := by
  have e0 : ∀ (q : Rect S4x128x1), a.readAt (Elt Ideal) q.toLoadRect (a.writes (Elt Ideal) a.junk L)
      = View.ld (View.canon L : Vec Ideal S4x128x1 .f32) q := fun q => View.readCov_eq_canon' a L q.toLoadRect
  have e : ∀ (q q' : Rect S4x128x1) (w : q.shape.Idx → Elt Ideal .f32) (L' : List (View.Piece (Elt Ideal) S4x128x1 .f32)),
      LoadRect.disj q q'.toLoadRect = true → a.readAt (Elt Ideal) q'.toLoadRect (a.writes (Elt Ideal) a.junk (⟨q, w⟩ :: L'))
        = a.readAt (Elt Ideal) q'.toLoadRect (a.writes (Elt Ideal) a.junk L') := fun q q' w L' hd => View.readCov_skip a q w L' q'.toLoadRect hd
  simp only [biasPieces, biasStores, onTop]
  rw [e biasRect2 biasRect3 _ _ (by decide), e biasRect1 biasRect3 _ _ (by decide), e biasRect0 biasRect3 _ _ (by decide),
    e biasRect1 biasRect2 _ _ (by decide), e biasRect0 biasRect2 _ _ (by decide), e biasRect0 biasRect1 _ _ (by decide),
    e0, e0, e0, e0]

theorem mixPieces_canon (a : View sig .tc .vmem S4x128x128 .f32) (L : List (View.Piece (Elt Ideal) S4x128x128 .f32)) (h : Fin 4)
    (t r : Fin 128) : (View.canon (mixPieces p g d a L) : Vec Ideal S4x128x128 .f32) (ix3 h t r)
      = (View.canon L : Vec Ideal S4x128x128 .f32) (ix3 h t r) + mixTerm (mat p) (mat g 0) (mat d) h t r := by
  rw [mixPieces_eq, mixStores_canon]
theorem biasPieces_canon (a : View sig .tc .vmem S4x128x1 .f32) (L : List (View.Piece (Elt Ideal) S4x128x1 .f32)) (h : Fin 4)
    (t : Fin 128) : (View.canon (biasPieces p d a L) : Vec Ideal S4x128x1 .f32) (ix3 h t 0)
      = (View.canon L : Vec Ideal S4x128x1 .f32) (ix3 h t 0) + biasTerm (mat p) (mat d) h t := by
  rw [biasPieces_eq, biasStores_canon]

end Cert.Sgu

end
-- ==== Proof.SguResult.lean ====
module

public import proofs.«01_k».proof.Proof.SguSpec
public import Idealize.ShloMosaic.Lib.Pointwise

/-! The gated unit's backward call: its eight results as functions of the eight argument arrays, whose 8192 rows are 64 chunks. -/

@[expose] public section

noncomputable section

namespace Cert.Sgu

open Idealize.ShloMosaic Cert.Activations Cert.NormGrad

/-- A row's chunk, its place there, and a row from the two. -/
abbrev chunkOf (r : Fin 8192) : Fin 64 := ⟨r.val / 128, by omega⟩
abbrev placeOf (r : Fin 8192) : Fin 128 := ⟨r.val % 128, by omega⟩
abbrev rowOf (n : Fin 64) (t : Fin 128) : Fin 8192 := ⟨n.val * 128 + t.val, by omega⟩

theorem chunkOf_row (n : Fin 64) (t : Fin 128) : chunkOf (rowOf n t) = n := Fin.ext (by simp only [chunkOf, rowOf]; omega)
theorem placeOf_row (n : Fin 64) (t : Fin 128) : placeOf (rowOf n t) = t := Fin.ext (by simp only [placeOf, rowOf]; omega)
theorem rowOf_of (r : Fin 8192) : rowOf (chunkOf r) (placeOf r) = r := Fin.ext (by simp only [chunkOf, placeOf, rowOf]; omega)

/-- The arguments: projected rows, residual, the norm's gain, mixing weights and biases, output projection, final gain, target. -/
structure Arrays where
  p : FVec Ideal ⟨2, ![8192, 6144]⟩ .f32
  x : FVec Ideal ⟨2, ![8192, 1024]⟩ .f32
  g : FVec Ideal ⟨2, ![1, 2048]⟩ .f32
  w : FVec Ideal ⟨3, ![4, 128, 128]⟩ .f32
  b : FVec Ideal ⟨2, ![4, 128]⟩ .f32
  o : FVec Ideal ⟨2, ![2048, 1024]⟩ .f32
  n : FVec Ideal ⟨2, ![1, 1024]⟩ .f32
  tg : FVec Ideal ⟨2, ![8192, 1024]⟩ .f32

namespace Arrays

variable (a : Arrays)

def shared : Shared :=
  ⟨fun q => a.g (ix2 0 q), fun g t s => a.w (ix3 g t s), fun g t => a.b (ix2 g t), fun i q => a.o (ix2 i q), fun q => a.n (ix2 0 q)⟩
def rows (n : Fin 64) : Rows :=
  ⟨fun t q => a.p (ix2 (rowOf n t) q), fun t q => a.x (ix2 (rowOf n t) q), fun t q => a.tg (ix2 (rowOf n t) q)⟩

/-- The results. -/
def gradP : FVec Ideal ⟨2, ![8192, 6144]⟩ .f32 := fun i => dProjC a.shared (a.rows (chunkOf (i 0))) (placeOf (i 0)) (i 1)
def unit : FVec Ideal ⟨2, ![8192, 2048]⟩ .f32 := fun i => yC a.shared (a.rows (chunkOf (i 0))) (placeOf (i 0)) (i 1)
def gradX : FVec Ideal ⟨2, ![8192, 1024]⟩ .f32 := fun i => dResidC a.shared (a.rows (chunkOf (i 0))) (placeOf (i 0)) (i 1)
def gradGain : FVec Ideal ⟨2, ![1, 2048]⟩ .f32 := fun i => ∑ n, gainC a.shared (a.rows n) (i 1)
def gradMix : FVec Ideal ⟨3, ![4, 128, 128]⟩ .f32 := fun i => ∑ n, mixC a.shared (a.rows n) (i 0) (i 1) (i 2)
def gradBias : FVec Ideal ⟨2, ![4, 128]⟩ .f32 := fun i => ∑ n, biasC a.shared (a.rows n) (i 0) (i 1)
def gradFinal : FVec Ideal ⟨2, ![1, 1024]⟩ .f32 := fun i => ∑ n, finalC a.shared (a.rows n) (i 1)
/-- Half the sum of the rows' mean squared errors, two chunks at a time. -/
def loss : FVec Ideal ⟨0, ![]⟩ .f32 := fun _ =>
  ∑ t : Fin 32, half * ∑ j : Fin 2, ∑ s, lossC a.shared (a.rows ⟨t.val * 2 + j.val, by omega⟩) s

end Arrays

end Cert.Sgu

end
-- ==== Proof.SguArray.lean ====
module

public import proofs.«01_k».proof.Proof.SguMix
public import proofs.«01_k».proof.Proof.SguResult
public import Idealize.ShloMosaic.Lib.Claim

/-! The gated unit's backward call, fifth part: what the eight result arrays hold after the thirty-two grid points and the host
lines. -/

@[expose] public section

set_option maxRecDepth 16384

noncomputable section

namespace Cert.Sgu

open Cert.Kernel3Ideal Cert.Kernel3Ideal.Gen Idealize.ShloMosaic Idealize.ShloMosaic.ValueKit Idealize.ShloMosaic.TcCoe Idealize.SL.Sem

variable (m : (ℓ : Loc nD τ sig) → Buf (Elt Ideal) ℓ)

/-- The argument arrays. -/
def arrays (c : Dev nD) : Arrays where
  p := (m ((c : Thread nD τ).loc main_arg0) : FVec Ideal S8192x6144 .f32)
  x := (m ((c : Thread nD τ).loc main_arg1) : FVec Ideal S8192x1024 .f32)
  g := (m ((c : Thread nD τ).loc main_arg2) : FVec Ideal S1x2048 .f32)
  w := (m ((c : Thread nD τ).loc main_arg3) : FVec Ideal S4x128x128 .f32)
  b := (m ((c : Thread nD τ).loc main_arg4) : FVec Ideal S4x128 .f32)
  o := (m ((c : Thread nD τ).loc main_arg5) : FVec Ideal S2048x1024 .f32)
  n := (m ((c : Thread nD τ).loc main_arg6) : FVec Ideal S1x1024 .f32)
  tg := (m ((c : Thread nD τ).loc main_arg7) : FVec Ideal S8192x1024 .f32)

/-- Point `t` reads and writes row block `t`. -/
theorem idx : ∀ t : Fin cfg0.N, win0_0.index t = ![t.val, 0] ∧ win0_1.index t = ![t.val, 0] ∧ win0_2.index t = ![0, 0]
    ∧ win0_3.index t = ![0, 0, 0] ∧ win0_4.index t = ![0, 0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![0, 0] ∧ win0_12.index t = ![0, 0, 0] ∧ win0_13.index t = ![0, 0, 0] ∧ win0_14.index t = ![0, 0]
    ∧ win0_15.index t = ![0, 0] :=
  (by decide +kernel : ∀ t : Fin grid0.N, _)

theorem points (t : Fin cfg0.N) : t.val < 32 := lt_of_lt_of_eq t.isLt N_0

/-- The array row of block `t`'s row `r`, and the array's chunk of its chunk `j`. -/
abbrev arow (t : Fin cfg0.N) (r : Fin 256) : Fin 8192 := ⟨t.val * 256 + r.val, by have := points t; omega⟩
abbrev achunk (t : Fin cfg0.N) (j : Fin 2) : Fin 64 := ⟨t.val * 2 + j.val, by have := points t; omega⟩

theorem chunkOf_arow (t : Fin cfg0.N) (r : Fin 256) : chunkOf (arow t r) = achunk t (half r) := Fin.ext (by simp only [chunkOf, arow, achunk, half]; omega)
theorem placeOf_arow (t : Fin cfg0.N) (r : Fin 256) : placeOf (arow t r) = place r := Fin.ext (by simp only [placeOf, arow, place]; omega)
theorem arow_brow (t : Fin cfg0.N) (j : Fin 2) (s : Fin 128) : arow t (brow j s) = rowOf (achunk t j) s :=
  Fin.ext (by simp only [arow, brow, rowOf, achunk]; omega)

variable (c : Dev nD) (t : Fin cfg0.N)

/-- The blocks of a grid point. -/
abbrev held : Blocks := ⟨iblk m c 0 t, iblk m c 1 t, iblk m c 2 t, iblk m c 3 t, iblk m c 4 t, iblk m c 5 t, iblk m c 6 t, iblk m c 7 t⟩

theorem found_eq : found m c t = held m c t := by
  simp only [found, Memref.IsWhole.read_unread]

theorem bHost_at (h : Fin 4) (s : Fin 128) : (V m c main_v0 : FVec Ideal S4x128x1 .f32) (ix3 h s 0) = (arrays m c).b (ix2 h s) := by
  entry_read
  show shapeCast S4x128x1 (arrays m c).b _ _ = _
  pointwise []
  try blk_ext
theorem oHost_at (i : S2048x1024.Idx) : (V m c main_v1 : FVec Ideal S2048x1024 .bf16) i = (arrays m c).o i := by
  entry_read
  rfl

theorem held_shared : (held m c t).shared = (arrays m c).shared := by
  rw [Blocks.shared, Arrays.shared]
  congr 1
  · funext q
    show (iblk m c 2 t : FVec Ideal S1x2048 .f32) (ix2 0 q) = _
    rw [arrays]
    blk_point [iblk, V, idx t]
  · funext g s r
    show (iblk m c 3 t : FVec Ideal S4x128x128 .f32) (ix3 g s r) = _
    rw [arrays]
    blk_point [iblk, V, idx t]
  · funext g s
    show (iblk m c 4 t : FVec Ideal S4x128x1 .f32) (ix3 g s 0) = _
    rw [← bHost_at]
    blk_point [iblk, idx t]
  · funext i q
    show (iblk m c 5 t : FVec Ideal S2048x1024 .bf16) (ix2 i q) = _
    rw [← oHost_at]
    blk_point [iblk, idx t]
  · funext q
    show (iblk m c 6 t : FVec Ideal S1x1024 .f32) (ix2 0 q) = _
    rw [arrays]
    blk_point [iblk, V, idx t]

theorem held_rows (j : Fin 2) : (held m c t).rows j = (arrays m c).rows (achunk t j) := by
  rw [Blocks.rows, Arrays.rows]
  congr 1
  · funext s q
    show (iblk m c 0 t : FVec Ideal S256x6144 .f32) (ix2 (brow j s) q) = _
    rw [← arow_brow, arrays]
    blk_point [iblk, V, idx t]
  · funext s q
    show (iblk m c 1 t : FVec Ideal S256x1024 .f32) (ix2 (brow j s) q) = _
    rw [← arow_brow, arrays]
    blk_point [iblk, V, idx t]
  · funext s q
    show (iblk m c 7 t : FVec Ideal S256x1024 .f32) (ix2 (brow j s) q) = _
    rw [← arow_brow, arrays]
    blk_point [iblk, V, idx t]

/-! ## The tiled results -/

theorem dProj_array : (dats m 0 c).arrAt 8 cfg0.N = (arrays m c).gradP := by
  refine (dats m 0 c).arrAt_eq_of_covers 8 _ (by decide +kernel) fun t _ y => ?_
  blk_simp
  rw [after0_8, dProj_eq, View.read_writes_junk_eq_canon, Blocks.dProj_canon, found_eq]
  idx_vars y
  rw [show ((View.whole main_v2_0).slice (win0_8.rect t)).emb (ix2 y0 y1) = ix2 (arow t y0) y1 from by blk_ext [idx t]]
  show _ = dProjC _ ((arrays m c).rows (chunkOf (arow t y0))) (placeOf (arow t y0)) y1
  rw [chunkOf_arow, placeOf_arow, ← held_rows, ← held_shared m c t]

theorem y_array : (dats m 0 c).arrAt 9 cfg0.N = (arrays m c).unit := by
  refine (dats m 0 c).arrAt_eq_of_covers 9 _ (by decide +kernel) fun t _ y => ?_
  blk_simp
  rw [after0_9, y_eq, View.read_writes_junk_eq_canon, Blocks.y_canon, found_eq]
  idx_vars y
  rw [show ((View.whole main_v2_1).slice (win0_9.rect t)).emb (ix2 y0 y1) = ix2 (arow t y0) y1 from by blk_ext [idx t]]
  show _ = yC _ ((arrays m c).rows (chunkOf (arow t y0))) (placeOf (arow t y0)) y1
  rw [chunkOf_arow, placeOf_arow, ← held_rows, ← held_shared m c t]

theorem dResid_array : (dats m 0 c).arrAt 10 cfg0.N = (arrays m c).gradX := by
  refine (dats m 0 c).arrAt_eq_of_covers 10 _ (by decide +kernel) fun t _ y => ?_
  blk_simp
  rw [after0_10, dResid_eq, View.read_writes_junk_eq_canon, View.canon_cons_unit_lit' _ _ _ (by decide), found_eq]
  idx_vars y
  rw [show ((View.whole main_v2_2).slice (win0_10.rect t)).emb (ix2 y0 y1) = ix2 (arow t y0) y1 from by blk_ext [idx t]]
  show _ = dResidC _ ((arrays m c).rows (chunkOf (arow t y0))) (placeOf (arow t y0)) y1
  rw [Blocks.dResidBlk_at, chunkOf_arow, placeOf_arow, ← held_rows, ← held_shared m c t]

/-! ## The accumulated results -/

/-- A sum over the chunks, point by point. -/
theorem sum_chunks (f : Fin 64 → EReal) : ∑ n, f n = ∑ t : Fin cfg0.N, ∑ j, f (achunk t j) :=
  Fin.sum_univ_tiles 32 2 rfl f

/-- The last point. -/
abbrev last : Fin cfg0.N := ⟨31, lt_of_lt_of_eq (by decide) N_0.symm⟩

/-- What a buffer holds at the last point when the first point stores its term over zero and each later one adds its term. -/
theorem acc_last {S : Shape} (f : (n : ℕ) → n < cfg0.N → Vec Ideal S .f32) (term : Fin cfg0.N → S.Idx → EReal)
    (h0 : ∀ t : Fin cfg0.N, t.val % 32 = 0 → ∀ i, f t.val t.isLt i = 0 + term t i)
    (hs : ∀ t : Fin cfg0.N, ¬t.val % 32 = 0 → ∀ i, f t.val t.isLt i = f (t.val - 1) (Nat.lt_of_le_of_lt (Nat.sub_le _ _) t.isLt) i + term t i)
    (i : S.Idx) : f last.val last.isLt i = ∑ t : Fin cfg0.N, term t i := by
  rw [Pipeline.eq_sum_fin_of_reset_step_apply_last f 32 (fun _ => (0 : EReal)) term h0 hs (le_of_eq N_0) last N_0.symm i, zero_add]

theorem gain_array : (dats m 0 c).arrAt 11 cfg0.N = (arrays m c).gradGain := by
  refine (dats m 0 c).arrAt_eq_of_after_last 11 last (by decide +kernel) _ fun j => ?_
  blk_simp
  idx_vars j
  obtain rfl : j0 = 0 := Subsingleton.elim _ _
  rw [after0_11]
  refine (acc_last (fun n h => (outsAt0 m c n h).2.2.2.1) (fun t i => ∑ j, gainC (held m c t).shared ((held m c t).rows j) (i 1))
    (fun t h i => ?_) (fun t h i => ?_) (ix2 0 j1)).trans ?_
  · idx_vars i
    obtain rfl : i0 = 0 := Subsingleton.elim _ _
    rw [gain_first m c t h, View.read_writes_junk_eq_canon, Blocks.gain_canon, found_eq]
    refine congrArg (· + _) ?_
    rw [show (ms0_11 t).view.readAt (Elt Ideal) rowRect.toLoadRect _ = _ from View.readCov_cons_toLoadRect (ms0_11 t).view rowRect _ []]
    pointwise [k0_pay2]
  · idx_vars i
    obtain rfl : i0 = 0 := Subsingleton.elim _ _
    rw [gain_next m c t h, View.read_writes_junk_eq_canon, Blocks.gain_canon, found_eq]
    refine congrArg (· + _) ?_
    show View.ld ((ms0_11 t).view.read (Elt Ideal) ((hs0_11 t).unread _)) rowRect (ix2 0 i1) = _
    rw [Memref.IsWhole.read_unread]
    pointwise []
    try blk_ext
  · show _ = ∑ n, gainC (arrays m c).shared ((arrays m c).rows n) j1
    rw [sum_chunks]
    simp only [held_rows, held_shared m c]
    rfl

theorem final_array : (dats m 0 c).arrAt 14 cfg0.N = (arrays m c).gradFinal := by
  refine (dats m 0 c).arrAt_eq_of_after_last 14 last (by decide +kernel) _ fun j => ?_
  blk_simp
  idx_vars j
  obtain rfl : j0 = 0 := Subsingleton.elim _ _
  rw [after0_14]
  refine (acc_last (fun n h => (outsAt0 m c n h).2.2.2.2.2.2.1) (fun t i => ∑ j, finalC (held m c t).shared ((held m c t).rows j) (i 1))
    (fun t h i => ?_) (fun t h i => ?_) (ix2 0 j1)).trans ?_
  · idx_vars i
    obtain rfl : i0 = 0 := Subsingleton.elim _ _
    rw [final_first m c t h, View.read_writes_junk_eq_canon, Blocks.final_canon, found_eq]
    refine congrArg (· + _) ?_
    rw [show (ms0_14 t).view.readAt (Elt Ideal) finalRect.toLoadRect _ = _ from View.readCov_cons_toLoadRect (ms0_14 t).view finalRect _ []]
    pointwise [k0_pay5]
  · idx_vars i
    obtain rfl : i0 = 0 := Subsingleton.elim _ _
    rw [final_next m c t h, View.read_writes_junk_eq_canon, Blocks.final_canon, found_eq]
    refine congrArg (· + _) ?_
    show View.ld ((ms0_14 t).view.read (Elt Ideal) ((hs0_14 t).unread _)) finalRect (ix2 0 i1) = _
    rw [Memref.IsWhole.read_unread]
    pointwise []
    try blk_ext
  · show _ = ∑ n, finalC (arrays m c).shared ((arrays m c).rows n) j1
    rw [sum_chunks]
    simp only [held_rows, held_shared m c]
    rfl

/-- The loss, in every lane. -/
def lossLanes : S1x128.Idx → EReal := fun _ => (arrays m c).loss (fun a => a.elim0)

theorem loss_array : (dats m 0 c).arrAt 15 cfg0.N = lossLanes m c := by
  refine (dats m 0 c).arrAt_eq_of_after_last 15 last (by decide +kernel) _ fun j => ?_
  blk_simp
  idx_vars j
  obtain rfl : j0 = 0 := Subsingleton.elim _ _
  rw [after0_15]
  refine (acc_last (fun n h => (outsAt0 m c n h).2.2.2.2.2.2.2)
    (fun t _ => Activations.half * ∑ j, ∑ s, lossC (held m c t).shared ((held m c t).rows j) s)
    (fun t h i => ?_) (fun t h i => ?_) (ix2 0 j1)).trans ?_
  · idx_vars i
    obtain rfl : i0 = 0 := Subsingleton.elim _ _
    rw [loss_first m c t h, View.read_writes_junk_eq_canon, Blocks.loss_canon, found_eq]
    refine congrArg (· + _) ?_
    rw [show (ms0_15 t).view.readAt (Elt Ideal) lossRect.toLoadRect _ = _ from View.readCov_cons_toLoadRect (ms0_15 t).view lossRect _ []]
    pointwise [k0_pay6]
  · idx_vars i
    obtain rfl : i0 = 0 := Subsingleton.elim _ _
    rw [loss_next m c t h, View.read_writes_junk_eq_canon, Blocks.loss_canon, found_eq]
    refine congrArg (· + _) ?_
    show View.ld ((ms0_15 t).view.read (Elt Ideal) ((hs0_15 t).unread _)) lossRect (ix2 0 i1) = _
    rw [Memref.IsWhole.read_unread]
    pointwise []
    try blk_ext
  · simp only [held_rows, held_shared m c]
    rfl

theorem mix_array : (dats m 0 c).arrAt 12 cfg0.N = (arrays m c).gradMix := by
  refine (dats m 0 c).arrAt_eq_of_after_last 12 last (by decide +kernel) _ fun j => ?_
  blk_simp
  idx_vars j
  rw [after0_12]
  refine (acc_last (fun n h => (outsAt0 m c n h).2.2.2.2.1)
    (fun t i => ∑ j, mixC (held m c t).shared ((held m c t).rows j) (i 0) (i 1) (i 2))
    (fun t h i => ?_) (fun t h i => ?_) (ix3 j0 j1 j2)).trans ?_
  · idx_vars i
    rw [mix_first m c t h, View.read_writes_junk_eq_canon, mixPieces_canon, mixPieces_canon, found_eq, Blocks.chunk0_rows,
      Blocks.chunk1_rows, Blocks.gain_shared, Blocks.d0_rows, Blocks.d1_rows, add_assoc, View.canon_cons_unit_lit' _ _ _ (by decide)]
    refine congrArg₂ (· + ·) ?_ ?_
    · pointwise [k0_pay3]
    · rw [Fin.sum_univ_two]; rfl
  · idx_vars i
    rw [mix_next m c t h, View.read_writes_junk_eq_canon, mixPieces_canon, mixStores_canon, found_eq, Blocks.chunk0_rows,
      Blocks.chunk1_rows, Blocks.gain_shared, Blocks.d0_rows, Blocks.d1_rows, add_assoc, heldMix, Memref.IsWhole.read_unread]
    refine congrArg₂ (· + ·) rfl ?_
    rw [Fin.sum_univ_two]; rfl
  · show _ = ∑ n, mixC (arrays m c).shared ((arrays m c).rows n) j0 j1 j2
    rw [sum_chunks]
    simp only [held_rows, held_shared m c]
    rfl

/-- The mixing biases' gradient, a column a group. -/
def biasColumns : S4x128x1.Idx → EReal := fun i => (arrays m c).gradBias (ix2 (i 0) (i 1))

theorem bias_array : (dats m 0 c).arrAt 13 cfg0.N = biasColumns m c := by
  refine (dats m 0 c).arrAt_eq_of_after_last 13 last (by decide +kernel) _ fun j => ?_
  blk_simp
  idx_vars j
  rw [after0_13]
  refine (acc_last (fun n h => (outsAt0 m c n h).2.2.2.2.2.1)
    (fun t i => ∑ j, biasC (held m c t).shared ((held m c t).rows j) (i 0) (i 1))
    (fun t h i => ?_) (fun t h i => ?_) (ix3 j0 j1 j2)).trans ?_
  · idx_vars i
    obtain rfl : i2 = 0 := Subsingleton.elim _ _
    rw [bias_first m c t h, View.read_writes_junk_eq_canon, biasPieces_canon, biasPieces_canon, found_eq, Blocks.chunk0_rows,
      Blocks.chunk1_rows, Blocks.d0_rows, Blocks.d1_rows, add_assoc, View.canon_cons_unit_lit' _ _ _ (by decide)]
    refine congrArg₂ (· + ·) ?_ ?_
    · pointwise [k0_pay4]
    · rw [Fin.sum_univ_two]; rfl
  · idx_vars i
    obtain rfl : i2 = 0 := Subsingleton.elim _ _
    rw [bias_next m c t h, View.read_writes_junk_eq_canon, biasPieces_canon, biasStores_canon, found_eq, Blocks.chunk0_rows,
      Blocks.chunk1_rows, Blocks.d0_rows, Blocks.d1_rows, add_assoc, heldBias, Memref.IsWhole.read_unread]
    refine congrArg₂ (· + ·) rfl ?_
    rw [Fin.sum_univ_two]; rfl
  · show _ = ∑ n, biasC (arrays m c).shared ((arrays m c).rows n) j0 j1
    rw [sum_chunks]
    simp only [held_rows, held_shared m c]
    rfl

/-! ## The run -/

theorem from_columns : shapeCast S4x128 (biasColumns m c) shapeCasts_S4x128x1_S4x128 = (arrays m c).gradBias := by
  funext j
  idx_vars j
  pointwise []
  show (arrays m c).gradBias _ = _
  congr 1
  try blk_ext

/-- What the eight results hold at the end. -/
theorem run (ρ : Dev nD → PrngReg) : θ_run defs (onTc (τ := τ) (main (F := Ideal))) ⟨m, fun _ => 0, ρ⟩ (fun r => ∀ c : Dev nD,
      r.2.mem ((c.tc : Thread nD τ).loc main_v3) = (arrays m c).gradP
      ∧ r.2.mem ((c.tc : Thread nD τ).loc main_v4) = (arrays m c).unit
      ∧ r.2.mem ((c.tc : Thread nD τ).loc main_v2_2) = (arrays m c).gradX
      ∧ r.2.mem ((c.tc : Thread nD τ).loc main_v2_3) = (arrays m c).gradGain
      ∧ r.2.mem ((c.tc : Thread nD τ).loc main_v2_4) = (arrays m c).gradMix
      ∧ r.2.mem ((c.tc : Thread nD τ).loc main_v5) = (arrays m c).gradBias
      ∧ r.2.mem ((c.tc : Thread nD τ).loc main_v2_6) = (arrays m c).gradFinal
      ∧ r.2.mem ((c.tc : Thread nD τ).loc main_v7) = (arrays m c).loss) := by
  refine (θ_run defs _ _).mono (fun r h c => ⟨?_, ?_, ((h c).1 10).trans (dResid_array m c), ((h c).1 11).trans (gain_array m c),
    ((h c).1 12).trans (mix_array m c), ?_, ((h c).1 14).trans (final_array m c), ?_⟩) (run_main m ρ)
  · refine ((h c).2 main_v3 (Pipeline.mem_restRefs_of main_v3 (by decide) (by decide))).trans ?_
    unfold Pipeline.afterTail₀
    simp only [hostOps1, List.flatten_cons, List.flatten_nil, List.append_nil]
    after_results
    erw [Pipeline.withArrays_arr _ launch0.win.arr_inj c _ _ 8, dProj_array]
    rfl
  · refine ((h c).2 main_v4 (Pipeline.mem_restRefs_of main_v4 (by decide) (by decide))).trans ?_
    unfold Pipeline.afterTail₀
    simp only [hostOps1, List.flatten_cons, List.flatten_nil, List.append_nil]
    after_results
    erw [Pipeline.withArrays_arr _ launch0.win.arr_inj c _ _ 9, y_array]
    rfl
  · refine ((h c).2 main_v5 (Pipeline.mem_restRefs_of main_v5 (by decide) (by decide))).trans ?_
    unfold Pipeline.afterTail₀
    simp only [hostOps1, List.flatten_cons, List.flatten_nil, List.append_nil]
    after_results
    erw [Pipeline.withArrays_arr _ launch0.win.arr_inj c _ _ 13, bias_array]
    exact from_columns m c
  · refine ((h c).2 main_v7 (Pipeline.mem_restRefs_of main_v7 (by decide) (by decide))).trans ?_
    unfold Pipeline.afterTail₀
    simp only [hostOps1, List.flatten_cons, List.flatten_nil, List.append_nil]
    after_results
    erw [Pipeline.withArrays_arr _ launch0.win.arr_inj c _ _ 15, loss_array]
    rfl

end Cert.Sgu

end
-- ==== Proof.SguRef.lean ====
module

public import proofs.«01_k».proof.Proof.Gen.Reference3Ideal.Read
public import proofs.«01_k».proof.Proof.SguResult
public import Idealize.ShloMosaic.Lib.Pipeline.ValueKit
public import Idealize.ShloMosaic.Lib.WordCmp

/-! The gated unit's backward call: what the reference computes on the way forward, element by element. -/

@[expose] public section

set_option maxRecDepth 16384

noncomputable section

namespace Cert.Sgu

open Cert.Reference3Ideal Cert.Reference3Ideal.Gen Cert.Reference3Ideal.Read Idealize.ShloMosaic Idealize.ShloMosaic.TcCoe
open Cert.Activations Cert.RealValues Cert.NormGrad

variable (a : Arrays)

/-! ## A row of an array is a row of its chunk -/

theorem rows_P (r : Fin 8192) (q : Fin 6144) : (a.rows (chunkOf r)).P (placeOf r) q = a.p (ix2 r q) := by
  show a.p (ix2 (rowOf (chunkOf r) (placeOf r)) q) = _
  rw [rowOf_of]
theorem rows_X (r : Fin 8192) : (a.rows (chunkOf r)).X (placeOf r) = fun q => a.x (ix2 r q) := by
  funext q
  show a.x (ix2 (rowOf (chunkOf r) (placeOf r)) q) = _
  rw [rowOf_of]
theorem rows_T (r : Fin 8192) : (a.rows (chunkOf r)).T (placeOf r) = fun q => a.tg (ix2 r q) := by
  funext q
  show a.tg (ix2 (rowOf (chunkOf r) (placeOf r)) q) = _
  rw [rowOf_of]

/-- The columns the activation is taken of. -/
theorem ref_cols (r : Fin 8192) (q : Fin 4096) :
    (val_main_v0 (F := Ideal) a.p : FVec Ideal S8192x4096 .f32) (ix2 r q) = a.p (ix2 r ⟨q.val, by omega⟩) := by
  pointwise [val_main_v0]
  try blk_ext

/-- The logistic of the last columns and their silu. -/
theorem ref_logistic (r : Fin 8192) (k : Fin 2048) :
    (val_main_v64_2 (F := Ideal) a.p : FVec Ideal S8192x2048 .f32) (ix2 r k) = Ideal.logistic (a.p (ix2 r (colZ k))) := by
  pointwise [val_main_v64_2, val_main_call2_v4, val_main_call2_v3, val_main_call2_v2, val_main_call2_v1, val_main_call2_v0,
    val_main_call2_cst, val_main_call2_cst_0, val_main_v23]
  try rfl
theorem ref_silu (r : Fin 8192) (k : Fin 2048) :
    (val_main_v64_0 (F := Ideal) a.p : FVec Ideal S8192x2048 .f32) (ix2 r k)
      = silu ((a.rows (chunkOf r)).P (placeOf r) (colZ k)) := by
  rw [rows_P]
  pointwise [val_main_v64_0, ref_logistic, val_main_v23, silu]

/-- The mixing weights, no row from a later one. -/
theorem ref_mask (g : Fin 4) (t s : Fin 128) :
    (val_main_v55_1 (F := Ideal) : IVec S4x128x128 1) (ix3 g t s) = if s.val ≤ t.val then 1#1 else 0#1 := by
  pointwise [val_main_v55_1, val_main_v54, val_main_v53, val_main_call0_v5, val_main_call0_c_0, val_main_call0_v4,
    val_main_call0_v3, val_main_call0_v2, val_main_call0_v1, val_main_call0_c, val_main_call0_v0, val_main_v52, val_main_c]
  rw [show IntOp.addi (BitVec.ofNat 32 t.val) 0#32 = BitVec.ofNat 32 t.val from BitVec.add_zero _]
  rw [WordCmp.cmpi_sge_ofNat (by omega) (by omega)]
  by_cases h : s.val ≤ t.val <;> simp [h, Scalar.select]

theorem ref_weights (g : Fin 4) (t s : Fin 128) :
    (val_main_v55_0 (F := Ideal) a.w : FVec Ideal S4x128x128 .f32) (ix3 g t s) = wm a.shared.W g t s := by
  rw [wm]
  pointwise [val_main_v55_0, ref_mask, val_main_call1_v2, val_main_call1_v0]
  by_cases h : s.val ≤ t.val
  · simp only [if_pos h, Scalar.select]; rfl
  · simp only [if_neg h, Scalar.select]
    exact Ideal.ofBits_zero_f32

section

variable (hp : ∀ i, IsReal (a.p i))
include hp

/-- The tangent. -/
theorem ref_tanh (r : Fin 8192) (q : Fin 4096) :
    (val_main_v12 (F := Ideal) a.p : FVec Ideal S8192x4096 .f32) (ix2 r q) = geluTanh (a.p (ix2 r ⟨q.val, by omega⟩)) := by
  rw [← tanh_cubed (hp _), ← cubic_quotient]
  pointwise [val_main_v12, val_main_v11, val_main_v10, val_main_v9, val_main_v8, val_main_v7, val_main_v3, val_main_v2,
    val_main_v1, val_main_cst, val_main_cst_0, val_main_cst_2, ref_cols]

theorem ref_geluGate (r : Fin 8192) (q : Fin 4096) :
    (val_main_v21 (F := Ideal) a.p : FVec Ideal S8192x4096 .f32) (ix2 r q) = geluGate (a.p (ix2 r ⟨q.val, by omega⟩)) := by
  pointwise [val_main_v21, val_main_v20, val_main_v19, val_main_v18, val_main_cst_5, val_main_cst_6, ref_tanh a hp, geluGate]

/-- The two activated halves. -/
theorem ref_u (r : Fin 8192) (k : Fin 2048) :
    (val_main_v24 (F := Ideal) a.p : FVec Ideal S8192x2048 .f32) (ix2 r k) = u (a.rows (chunkOf r)).P (placeOf r) k := by
  rw [u, rows_P]
  pointwise [val_main_v24, val_main_v22, ref_geluGate a hp, ref_cols, gelu]
  try blk_ext
theorem ref_v (r : Fin 8192) (k : Fin 2048) :
    (val_main_v25 (F := Ideal) a.p : FVec Ideal S8192x2048 .f32) (ix2 r k) = v (a.rows (chunkOf r)).P (placeOf r) k := by
  rw [v, rows_P]
  pointwise [val_main_v25, val_main_v22, ref_geluGate a hp, ref_cols, gelu]
  try blk_ext

/-- The layer norm: the centred row, twice; the mean square; the reciprocal deviation; the normalised row. -/
theorem ref_ctr (r : Fin 8192) (k : Fin 2048) :
    (val_main_v40 (F := Ideal) a.p : FVec Ideal S8192x2048 .f32) (ix2 r k) = ctr (a.rows (chunkOf r)).P (placeOf r) k := by
  pointwise [val_main_v40, val_main_v39, val_main_v29, val_main_v28, val_main_cst_8, val_main_v27, val_main_v26, val_main_cst_7,
    ref_v a hp, ctr]
theorem ref_ctr' (r : Fin 8192) (k : Fin 2048) :
    (val_main_v31 (F := Ideal) a.p : FVec Ideal S8192x2048 .f32) (ix2 r k) = ctr (a.rows (chunkOf r)).P (placeOf r) k := by
  pointwise [val_main_v31, val_main_v30, val_main_v29, val_main_v28, val_main_cst_8, val_main_v27, val_main_v26, val_main_cst_7,
    ref_v a hp, ctr]
theorem ref_var (r : Fin 8192) :
    (val_main_v42 (F := Ideal) a.p : FVec Ideal S8192x1 .f32) (ix2 r 0)
      = meanSq wide eps (ctr (a.rows (chunkOf r)).P (placeOf r)) := by
  pointwise [val_main_v42, val_main_v41, val_main_cst_12, val_main_v38, val_main_v37, val_main_cst_11, val_main_v36,
    val_main_v35, val_main_cst_10, val_main_v32, ref_ctr' a hp, meanSq]
theorem ref_rstd (r : Fin 8192) :
    (val_main_v43 (F := Ideal) a.p : FVec Ideal S8192x1 .f32) (ix2 r 0) = rstd (a.rows (chunkOf r)).P (placeOf r) := by
  pointwise [val_main_v43, ref_var a hp, rstd, invRms]
theorem ref_vhat (r : Fin 8192) (k : Fin 2048) :
    (val_main_v48 (F := Ideal) a.p : FVec Ideal S8192x2048 .f32) (ix2 r k) = vhat (a.rows (chunkOf r)).P (placeOf r) k := by
  pointwise [val_main_v48, val_main_v47, ref_ctr a hp, ref_rstd a hp, vhat]
theorem ref_vn (r : Fin 8192) (k : Fin 2048) :
    (val_main_v50 (F := Ideal) a.p a.g : FVec Ideal S8192x2048 .f32) (ix2 r k)
      = vn (a.rows (chunkOf r)).P a.shared.G (placeOf r) k := by
  pointwise [val_main_v50, val_main_v49, ref_vhat a hp, vn]
  try rfl
/-- The same by chunk, place, group and column. -/
theorem ref_vn4 (n : Fin 64) (t : Fin 128) (g : Fin 4) (d : Fin 512) :
    (val_main_v51 (F := Ideal) a.p a.g : FVec Ideal S64x128x4x512 .f32) (ix4 n t g d)
      = vn (a.rows n).P a.shared.G t (col g d) := by
  have h := ref_vn a hp (rowOf n t) (col g d)
  rw [chunkOf_row, placeOf_row] at h
  rw [← h]
  pointwise [val_main_v51]
  try blk_ext

/-- The mixed rows. -/
theorem ref_mix4 (n : Fin 64) (t : Fin 128) (g : Fin 4) (d : Fin 512) :
    (val_main_v61 (F := Ideal) a.p a.g a.w a.b : FVec Ideal S64x128x4x512 .f32) (ix4 n t g d)
      = mix (a.rows n).P a.shared.G a.shared.W a.shared.B t (col g d) := by
  have e : grp (col g d) = g := Fin.ext (by simp only [grp, col]; omega)
  rw [mix, e]
  pointwise [val_main_v61, val_main_v57, val_main_v56, val_main_v60, val_main_v59, val_main_v58, ref_vn4 a hp, ref_weights]
  try simp only [mul_comm (vn _ _ _ _)]
  try rfl
theorem ref_mix (r : Fin 8192) (k : Fin 2048) :
    (val_main_v62 (F := Ideal) a.p a.g a.w a.b : FVec Ideal S8192x2048 .f32) (ix2 r k)
      = mix (a.rows (chunkOf r)).P a.shared.G a.shared.W a.shared.B (placeOf r) k := by
  have e : k = col (grp k) ⟨k.val % 512, by omega⟩ := Fin.ext (by simp only [grp, col]; omega)
  refine Eq.trans ?_ ((ref_mix4 a hp (chunkOf r) (placeOf r) (grp k) ⟨k.val % 512, by omega⟩).trans (congrArg _ e.symm))
  pointwise [val_main_v62]
  try blk_ext

/-- The unit's rows before the gate, and the unit's rows. -/
theorem ref_mixed (r : Fin 8192) (k : Fin 2048) :
    (val_main_v63 (F := Ideal) a.p a.g a.w a.b : FVec Ideal S8192x2048 .f32) (ix2 r k)
      = u (a.rows (chunkOf r)).P (placeOf r) k
        * mix (a.rows (chunkOf r)).P a.shared.G a.shared.W a.shared.B (placeOf r) k := by
  pointwise [val_main_v63, ref_u a hp, ref_mix a hp]
theorem ref_y (r : Fin 8192) (k : Fin 2048) :
    (val_main_v65 (F := Ideal) a.p a.g a.w a.b : FVec Ideal S8192x2048 .f32) (ix2 r k)
      = yC a.shared (a.rows (chunkOf r)) (placeOf r) k := by
  rw [yC, yOut]
  pointwise [val_main_v65, ref_mixed a hp, ref_silu]

theorem ref_result_unit : val_main_v65 (F := Ideal) a.p a.g a.w a.b = a.unit := by
  funext i
  idx_vars i
  exact ref_y a hp i0 i1

/-- The residual after the unit, its norm, and the error. -/
theorem ref_resid (r : Fin 8192) (q : Fin 1024) :
    (val_main_v67 (F := Ideal) a.p a.x a.g a.w a.b a.o : FVec Ideal S8192x1024 .f32) (ix2 r q)
      = resid (yC a.shared (a.rows (chunkOf r)) (placeOf r)) ((a.rows (chunkOf r)).X (placeOf r)) a.shared.O q := by
  rw [resid, rows_X]
  pointwise [val_main_v67, val_main_v66, ref_y a hp]
  try rfl
theorem ref_meanSq (r : Fin 8192) :
    (val_main_v74 (F := Ideal) a.p a.x a.g a.w a.b a.o : FVec Ideal S8192x1 .f32) (ix2 r 0)
      = meanSq width eps (resid (yC a.shared (a.rows (chunkOf r)) (placeOf r)) ((a.rows (chunkOf r)).X (placeOf r)) a.shared.O) := by
  pointwise [val_main_v74, val_main_v73, val_main_cst_17, val_main_v72, val_main_v71, val_main_cst_16, val_main_v70,
    val_main_v69, val_main_cst_15, val_main_v68, ref_resid a hp, meanSq]
theorem ref_invR (r : Fin 8192) :
    (val_main_v75 (F := Ideal) a.p a.x a.g a.w a.b a.o : FVec Ideal S8192x1 .f32) (ix2 r 0)
      = invR (yC a.shared (a.rows (chunkOf r)) (placeOf r)) ((a.rows (chunkOf r)).X (placeOf r)) a.shared.O := by
  pointwise [val_main_v75, ref_meanSq a hp, invR, invRms]
theorem ref_xhat (r : Fin 8192) (q : Fin 1024) :
    (val_main_v80 (F := Ideal) a.p a.x a.g a.w a.b a.o : FVec Ideal S8192x1024 .f32) (ix2 r q)
      = xhat (yC a.shared (a.rows (chunkOf r)) (placeOf r)) ((a.rows (chunkOf r)).X (placeOf r)) a.shared.O q := by
  pointwise [val_main_v80, val_main_v79, ref_resid a hp, ref_invR a hp, xhat]
theorem ref_err (r : Fin 8192) (q : Fin 1024) :
    (val_main_v83 (F := Ideal) a.p a.x a.g a.w a.b a.o a.n a.tg : FVec Ideal S8192x1024 .f32) (ix2 r q)
      = err (yC a.shared (a.rows (chunkOf r)) (placeOf r)) ((a.rows (chunkOf r)).X (placeOf r))
          ((a.rows (chunkOf r)).T (placeOf r)) a.shared.O a.shared.F q := by
  rw [err, rows_T]
  pointwise [val_main_v83, val_main_v82, val_main_v81, ref_xhat a hp]
  try rfl

/-- The mean squared error of a row. -/
theorem ref_lossRow (r : Fin 8192) :
    (val_main_v89 (F := Ideal) a.p a.x a.g a.w a.b a.o a.n a.tg : FVec Ideal S8192 .f32) (ix1 r)
      = lossC a.shared (a.rows (chunkOf r)) (placeOf r) := by
  rw [lossC, lossRow]
  pointwise [val_main_v89, val_main_v88, val_main_cst_21, val_main_v87, val_main_cst_20, val_main_v84, ref_err a hp]

end

end Cert.Sgu

end
-- ==== Proof.SguReal.lean ====
module

public import proofs.«01_k».proof.Proof.SguResult

/-! The gated unit's backward call over real numbers: every quantity of it is a real number when the arguments are, and the
    chain rule through the layer norm gives the closed form of its gradient. -/

@[expose] public section

noncomputable section

namespace Cert.Sgu

open Idealize.ShloMosaic Cert.Activations Cert.RealValues Cert.NormGrad

theorem width_pos : IsPos width := ⟨1024, by norm_num, width_f32⟩
theorem wide_f32 : wide = ((2048 : ℝ) : EReal) := by simp [Ideal.ofBits, Ideal.ieee, -EReal.coe_mul]; norm_num
theorem wide_pos : IsPos wide := ⟨2048, by norm_num, wide_f32⟩
theorem eps_pos : IsPos eps := eps_f32
theorem perWidth_f32 : perWidth = ((1 / 1024 : ℝ) : EReal) := by
  simp [Ideal.ofBits, Ideal.ieee, -EReal.coe_mul]; norm_num
theorem two_f32 : Ideal.ofBits .f32 0x40000000#32 = ((2 : ℝ) : EReal) := by
  simp [Ideal.ofBits, Ideal.ieee, -EReal.coe_mul]; norm_num

/-- The square's derivative, halved and divided by the width. -/
theorem half_square (e : EReal) :
    Ideal.div (half * 1) width * (Ideal.ofBits .f32 0x40000000#32 * e) = e * perWidth := by
  rw [mul_one, half_f32, show width = _ from width_f32, two_f32, perWidth_f32, div_coe_coe _ (by norm_num), ← mul_assoc, ← EReal.coe_mul, mul_comm]
  congr 2; norm_num

theorem div_real {x w : EReal} (hx : IsReal x) (hw : IsPos w) : IsReal (Ideal.div x w) := by
  obtain ⟨x, rfl⟩ := hx; obtain ⟨w, hw, rfl⟩ := hw; exact ⟨x / w, div_coe_coe _ hw.ne'⟩

theorem root_real {n : ℕ} {w e : EReal} (hw : IsPos w) (he : IsPos e) {x : Fin n → EReal} (hx : ∀ k, IsReal (x k)) :
    IsReal (invRms w e x) := by
  obtain ⟨r, v, hr, _⟩ := invRms_real hw he hx
  exact ⟨r, hr⟩

/-- A real factor passes into a sum of real numbers. -/
theorem mul_sum_real {ι : Type*} {s : Finset ι} {c : EReal} {f : ι → EReal} (hc : IsReal c) (hf : ∀ i, IsReal (f i)) :
    c * ∑ i ∈ s, f i = ∑ i ∈ s, c * f i := by
  obtain ⟨c, rfl⟩ := hc; obtain ⟨f, rfl⟩ := lift_family hf
  simp only [← EReal.coe_mul, ← coe_sum, Finset.mul_sum]

/-! ## The rows are real numbers -/

/-- What the chunks share is real; a chunk's rows are. -/
structure Shared.Real (w : Shared) : Prop where
  G : ∀ k, IsReal (w.G k)
  W : ∀ g t s, IsReal (w.W g t s)
  B : ∀ g t, IsReal (w.B g t)
  O : ∀ k q, IsReal (w.O k q)
  F : ∀ q, IsReal (w.F q)
structure Rows.Real (c : Rows) : Prop where
  P : ∀ t k, IsReal (c.P t k)
  X : ∀ t q, IsReal (c.X t q)
  T : ∀ t q, IsReal (c.T t q)

section

variable {w : Shared} {c : Rows} (hw : w.Real) (hc : c.Real)
include hc

theorem u_real (t : Fin 128) (k : Fin 2048) : IsReal (u c.P t k) := gelu_real (hc.P _ _)
theorem v_real (t : Fin 128) (k : Fin 2048) : IsReal (v c.P t k) := gelu_real (hc.P _ _)
theorem ctr_real (t : Fin 128) (k : Fin 2048) : IsReal (ctr c.P t k) :=
  sub_real (v_real hc t k) (div_real (IsReal.sum (v_real hc t)) wide_pos)
theorem rstd_real (t : Fin 128) : IsReal (rstd c.P t) := root_real wide_pos eps_pos (ctr_real hc t)
theorem vhat_real (t : Fin 128) (k : Fin 2048) : IsReal (vhat c.P t k) := (ctr_real hc t k).mul (rstd_real hc t)

/-- The centred row sums to zero. -/
theorem ctr_sum (t : Fin 128) : ∑ k, ctr c.P t k = 0 := by
  obtain ⟨f, hf⟩ := lift_family (v_real hc t)
  have e : ∀ k, v c.P t k = (f k : EReal) := fun k => congrFun hf k
  simp only [ctr, e, wide_f32, ← coe_sum, div_coe_coe _ (by norm_num : (2048 : ℝ) ≠ 0), ← EReal.coe_sub, Finset.sum_sub_distrib,
    Finset.sum_const, Finset.card_univ, Fintype.card_fin, nsmul_eq_mul]
  rw [← EReal.coe_zero]
  congr 1
  push_cast
  ring

include hw

theorem wm_real (g : Fin 4) (t s : Fin 128) : IsReal (wm w.W g t s) := by
  rw [wm]; split
  · exact hw.W _ _ _
  · exact ⟨0, EReal.coe_zero.symm⟩
theorem mix_real (t : Fin 128) (k : Fin 2048) : IsReal (mix c.P w.G w.W w.B t k) :=
  (IsReal.sum fun s => (wm_real hw hc _ t s).mul ((vhat_real hc s k).mul (hw.G k))).add (hw.B _ _)
theorem y_real (t : Fin 128) (k : Fin 2048) : IsReal (yC w c t k) :=
  ((u_real hc t k).mul (mix_real hw hc t k)).mul (silu_real (hc.P _ _))
theorem resid_real (t : Fin 128) (q : Fin 1024) : IsReal (resid (yC w c t) (c.X t) w.O q) :=
  (hc.X t q).add (IsReal.sum fun k => (y_real hw hc t k).mul (hw.O k q))
theorem invR_real (t : Fin 128) : IsReal (invR (yC w c t) (c.X t) w.O) := root_real width_pos eps_pos (resid_real hw hc t)
theorem err_real (t : Fin 128) (q : Fin 1024) : IsReal (err (yC w c t) (c.X t) (c.T t) w.O w.F q) :=
  sub_real (((resid_real hw hc t q).mul (invR_real hw hc t)).mul (hw.F q)) (hc.T t q)
theorem loss_real (t : Fin 128) : IsReal (lossC w c t) :=
  div_real (IsReal.sum fun q => (err_real hw hc t q).mul (err_real hw hc t q)) width_pos
theorem scaled_real (t : Fin 128) (q : Fin 1024) : IsReal (dOut (yC w c t) (c.X t) (c.T t) w.O w.F q * w.F q) :=
  ((err_real hw hc t q).mul ⟨_, perWidth_f32⟩).mul (hw.F q)
theorem dResid_real (t : Fin 128) (q : Fin 1024) : IsReal (dResidC w c t q) :=
  (invR_real hw hc t).mul (sub_real (scaled_real hw hc t q) (((resid_real hw hc t q).mul (invR_real hw hc t)).mul
    (div_real (IsReal.sum fun k => (scaled_real hw hc t k).mul ((resid_real hw hc t k).mul (invR_real hw hc t))) width_pos)))
theorem dY_real (t : Fin 128) (k : Fin 2048) : IsReal (dYC w c t k) := by
  rw [dYC, dY]
  exact IsReal.sum fun q => (dResid_real hw hc t q).mul (hw.O k q)
theorem du_real (t : Fin 128) (k : Fin 2048) : IsReal (du c.P w.G w.W w.B (dYC w c) t k) :=
  ((dY_real hw hc t k).mul (mix_real hw hc t k)).mul (silu_real (hc.P _ _))
theorem ds_real (t : Fin 128) (k : Fin 2048) : IsReal (ds c.P (dYC w c) t k) :=
  ((dY_real hw hc t k).mul (u_real hc t k)).mul (silu_real (hc.P _ _))
theorem dvhat_real (t : Fin 128) (k : Fin 2048) : IsReal (dvhat c.P w.G w.W (dYC w c) t k) :=
  (IsReal.sum fun s => (wm_real hw hc _ s t).mul (ds_real hw hc s k)).mul (hw.G k)
theorem dv_real (t : Fin 128) (k : Fin 2048) : IsReal (dv c.P w.G w.W (dYC w c) t k) :=
  (rstd_real hc t).mul (sub_real (sub_real (dvhat_real hw hc t k) (div_real (IsReal.sum (dvhat_real hw hc t)) wide_pos))
    ((vhat_real hc t k).mul (div_real (IsReal.sum fun j => (dvhat_real hw hc t j).mul (vhat_real hc t j)) wide_pos)))

end

/-! ## The chain rule through a centred row's root mean square -/

/-- The chain rule's gradient of a centred and normalised row is the closed form, because a centred row sums to zero. -/
theorem layer_chain {n : ℕ} {w e : EReal} (hw : IsPos w) (he : IsPos e) {d x : Fin n → EReal} (hd : ∀ k, IsReal (d k))
    (hx : ∀ k, IsReal (x k)) (h0 : ∑ k, x k = 0) (j : Fin n) :
    d j * invRms w e x + chainFactor w e d x * (Ideal.ofBits .f32 0x40000000#32 * x j)
        + Ideal.div (∑ k, -(d k * invRms w e x) + ∑ k, -(chainFactor w e d x * (Ideal.ofBits .f32 0x40000000#32 * x k))) w
      = invRms w e x * (d j - Ideal.div (∑ k, d k) w - x j * invRms w e x * Ideal.div (∑ k, d k * (x k * invRms w e x)) w) := by
  obtain ⟨r, v, hr, hv, hpos, hrv⟩ := invRms_real hw he hx
  simp only [chainFactor, hr, hv, neg_half_f32, two_f32]
  obtain ⟨w, hw, rfl⟩ := hw; obtain ⟨x, rfl⟩ := lift_family hx; obtain ⟨d, rfl⟩ := lift_family hd
  have hs0 : ∑ k, x k = 0 := by
    rw [← coe_sum, ← EReal.coe_zero] at h0; exact_mod_cast h0
  simp only [← EReal.coe_mul, ← coe_sum, div_coe_coe _ hw.ne', div_coe_coe _ hpos.ne', ← EReal.coe_sub, ← EReal.coe_neg,
    ← EReal.coe_add]
  congr 1
  have hs : ∑ k, d k * (x k * r) = (∑ k, x k * d k) * r := by
    rw [Finset.sum_mul]; exact Finset.sum_congr rfl fun k _ => by ring
  have hq : r / v = r * (r * r) := by rw [hrv]; ring
  simp only [Finset.sum_neg_distrib, ← Finset.mul_sum, ← Finset.sum_mul, hs0, hs, hq]
  ring

/-! ## The rows of all chunks -/

/-- A sum over all rows is a sum over the chunks of sums over their rows. -/
theorem sum_all {M : Type*} [AddCommMonoid M] (f : Fin 64 → Fin 128 → M) :
    ∑ r : Fin 8192, f (chunkOf r) (placeOf r) = ∑ n, ∑ t, f n t := by
  refine (Fin.sum_univ_tiles 64 128 rfl _).trans (Finset.sum_congr rfl fun n _ => Finset.sum_congr rfl fun t _ => ?_)
  exact congrArg₂ f (chunkOf_row n t) (placeOf_row n t)

/-- A sum over the chunks is a sum over their pairs. -/
theorem sum_pairs {M : Type*} [AddCommMonoid M] (f : Fin 64 → M) :
    ∑ n, f n = ∑ t : Fin 32, ∑ j : Fin 2, f ⟨t.val * 2 + j.val, by omega⟩ :=
  Fin.sum_univ_tiles 32 2 rfl f

end Cert.Sgu

end
-- ==== Proof.SguBack.lean ====
module

public import proofs.«01_k».proof.Proof.SguRef
public import proofs.«01_k».proof.Proof.SguReal

/-! The gated unit's backward call: what the reference computes on the way back, element by element, and its results. -/

@[expose] public section

set_option maxRecDepth 16384

noncomputable section

namespace Cert.Sgu

open Cert.Reference3Ideal Cert.Reference3Ideal.Gen Cert.Reference3Ideal.Read Idealize.ShloMosaic Idealize.ShloMosaic.TcCoe
open Cert.Activations Cert.RealValues Cert.NormGrad

/-- All eight arguments are real. -/
structure Arrays.Real (a : Arrays) : Prop where
  p : ∀ i, IsReal (a.p i)
  x : ∀ i, IsReal (a.x i)
  g : ∀ i, IsReal (a.g i)
  w : ∀ i, IsReal (a.w i)
  b : ∀ i, IsReal (a.b i)
  o : ∀ i, IsReal (a.o i)
  n : ∀ i, IsReal (a.n i)
  tg : ∀ i, IsReal (a.tg i)

variable {a : Arrays} (ha : a.Real)
include ha

theorem shared_real : a.shared.Real :=
  ⟨fun _ => ha.g _, fun _ _ _ => ha.w _, fun _ _ => ha.b _, fun _ _ => ha.o _, fun _ => ha.n _⟩
theorem rows_real (n : Fin 64) : (a.rows n).Real := ⟨fun _ _ => ha.p _, fun _ _ => ha.x _, fun _ _ => ha.tg _⟩

omit ha in
/-- A sum over the first and the last of four axes. -/
theorem reduce_outer {n₀ n₁ n₂ n₃ : ℕ} (h : (⟨4, ![n₀, n₁, n₂, n₃]⟩ : Shape).ReducesTo [0, 3] ⟨2, ![n₁, n₂]⟩)
    (x : (⟨4, ![n₀, n₁, n₂, n₃]⟩ : Shape).Idx → EReal) (e : EReal) (t : Fin n₁) (g : Fin n₂) :
    Ideal.hostReduceAdd h x e (ix2 t g) = e + ∑ n, ∑ d, x (ix4 n t g d) := by
  refine congrArg (e + ·) ((Finset.sum_filter_eq_sum_of_fiber _ (fun k : Fin n₀ × Fin n₃ => ix4 k.1 t g k.2)
    (fun _ _ e => Prod.ext (congrFun e 0) (congrFun e 3)) (fun i => ⟨fun e => ⟨(i 0, i 3), ?_⟩, ?_⟩) x).trans
      (Fintype.sum_prod_type _))
  · have e1 : i 1 = t := Fin.ext (congrArg Fin.val (congrFun e 0))
    have e2 : i 2 = g := Fin.ext (congrArg Fin.val (congrFun e 1))
    exact (congrArg₂ (fun a b => ix4 (i 0) a b (i 3)) e1.symm e2.symm).trans (eq_ix4 i).symm
  · rintro ⟨k, rfl⟩
    exact (eq_ix2 _).trans rfl

/-! ## The loss and the final norm -/

theorem ref_result_loss : val_main_v91 (F := Ideal) a.p a.x a.g a.w a.b a.o a.n a.tg = a.loss := by
  funext i
  obtain rfl : i = ix0 := Subsingleton.elim _ _
  show _ = ∑ t : Fin 32, half * ∑ j : Fin 2, ∑ s, lossC a.shared (a.rows ⟨t.val * 2 + j.val, by omega⟩) s
  have hl := fun n s => loss_real (shared_real ha) (rows_real ha n) s
  rw [← sum_pairs (fun n => half * ∑ s, lossC a.shared (a.rows n) s) |>.trans (Finset.sum_congr rfl fun t _ =>
      (mul_sum_real ⟨_, half_f32⟩ fun j => IsReal.sum fun s => hl _ s).symm),
    ← mul_sum_real ⟨_, half_f32⟩ (fun n => IsReal.sum fun s => hl n s), ← sum_all]
  pointwise [val_main_v91, val_main_cst_23, val_main_v90, val_main_cst_22, ref_lossRow a ha.p]

theorem ref_dOut (r : Fin 8192) (q : Fin 1024) :
    (val_main_v97 (F := Ideal) a.p a.x a.g a.w a.b a.o a.n a.tg : FVec Ideal S8192x1024 .f32) (ix2 r q)
      = dOut (yC a.shared (a.rows (chunkOf r)) (placeOf r)) ((a.rows (chunkOf r)).X (placeOf r)) ((a.rows (chunkOf r)).T (placeOf r)) a.shared.O a.shared.F q := by
  rw [dOut, ← half_square]
  pointwise [val_main_v97, val_main_v96, val_main_v95, val_main_v94, val_main_cst_26, val_main_v93, val_main_v92, val_main_cst_24,
    val_main_cst_25, val_main_v86, val_main_v85, val_main_cst_19, ref_err a ha.p]

theorem ref_result_final : val_main_v100 (F := Ideal) a.p a.x a.g a.w a.b a.o a.n a.tg = a.gradFinal := by
  funext i
  idx_vars i
  show _ = ∑ n, ∑ t, finalTerm (yC a.shared (a.rows n) t) ((a.rows n).X t) ((a.rows n).T t) a.shared.O a.shared.F i1
  rw [← sum_all fun n t => finalTerm (yC a.shared (a.rows n) t) ((a.rows n).X t) ((a.rows n).T t) a.shared.O a.shared.F i1]
  pointwise [val_main_v100, val_main_v99, val_main_cst_27, val_main_v98, ref_xhat a ha.p, ref_dOut ha, finalTerm]
  try simp only [mul_comm (xhat _ _ _ _)]

/-- The residual's gradient. -/
theorem ref_scaled (r : Fin 8192) (q : Fin 1024) :
    (val_main_v102 (F := Ideal) a.p a.x a.g a.w a.b a.o a.n a.tg : FVec Ideal S8192x1024 .f32) (ix2 r q)
      = dOut (yC a.shared (a.rows (chunkOf r)) (placeOf r)) ((a.rows (chunkOf r)).X (placeOf r)) ((a.rows (chunkOf r)).T (placeOf r)) a.shared.O a.shared.F q
          * a.shared.F q := by
  pointwise [val_main_v102, val_main_v101, ref_dOut ha]
  try rfl
theorem ref_factor (r : Fin 8192) :
    (val_main_v111 (F := Ideal) a.p a.x a.g a.w a.b a.o a.n a.tg : FVec Ideal S8192 .f32) (ix1 r)
      = chainFactor width eps
          (fun k => dOut (yC a.shared (a.rows (chunkOf r)) (placeOf r)) ((a.rows (chunkOf r)).X (placeOf r)) ((a.rows (chunkOf r)).T (placeOf r)) a.shared.O a.shared.F k
            * a.shared.F k)
          (resid (yC a.shared (a.rows (chunkOf r)) (placeOf r)) ((a.rows (chunkOf r)).X (placeOf r)) a.shared.O) := by
  pointwise [val_main_v111, val_main_cst_30, val_main_v110, val_main_v109, val_main_cst_29, val_main_v108, val_main_v105,
    val_main_v104, val_main_cst_28, val_main_v103, val_main_v78, val_main_v77, val_main_cst_18, val_main_v76, ref_scaled ha,
    ref_resid a ha.p, ref_invR a ha.p, ref_meanSq a ha.p, chainFactor, Finset.univ_unique, Finset.sum_singleton]
  rw [Fin.default_eq_zero, ref_invR a ha.p, ref_meanSq a ha.p, invR]
theorem ref_dResid (r : Fin 8192) (q : Fin 1024) :
    (val_main_v116 (F := Ideal) a.p a.x a.g a.w a.b a.o a.n a.tg : FVec Ideal S8192x1024 .f32) (ix2 r q) = dResidC a.shared (a.rows (chunkOf r)) (placeOf r) q := by
  rw [dResidC, dResid, ← zero_add (gradByRoot _ _ _ _ _), ← chain_eq_root width_pos eps_pos
    (scaled_real (shared_real ha) (rows_real ha _) _) (resid_real (shared_real ha) (rows_real ha _) _), zero_add]
  pointwise [val_main_v116, val_main_v115, val_main_v114, val_main_v113, val_main_v112, val_main_v107, val_main_v106,
    ref_factor ha, ref_scaled ha, ref_resid a ha.p, ref_invR a ha.p, invR]

theorem ref_result_gradX : val_main_v116 (F := Ideal) a.p a.x a.g a.w a.b a.o a.n a.tg = a.gradX := by
  funext i
  idx_vars i
  exact ref_dResid ha i0 i1

/-- The unit's cotangent. -/
theorem ref_dY (r : Fin 8192) (k : Fin 2048) :
    (val_main_v117 (F := Ideal) a.p a.x a.g a.w a.b a.o a.n a.tg : FVec Ideal S8192x2048 .f32) (ix2 r k) = dYC a.shared (a.rows (chunkOf r)) (placeOf r) k := by
  rw [dYC, dY]
  pointwise [val_main_v117, ref_dResid ha]
  try rfl

/-! ## The unit, backward -/

theorem ref_dz (r : Fin 8192) (k : Fin 2048) :
    (val_main_v120 (F := Ideal) a.p a.x a.g a.w a.b a.o a.n a.tg : FVec Ideal S8192x2048 .f32) (ix2 r k)
      = dz (a.rows (chunkOf r)).P a.shared.G a.shared.W a.shared.B (dYC a.shared (a.rows (chunkOf r))) (placeOf r) k := by
  have hw := shared_real ha
  have hc := rows_real ha (chunkOf r)
  rw [dz, mul_assoc (dYC _ _ _ _), mul_comm (dYC _ _ _ _), ← silu_chain (hc.P _ _)
    (((u_real hc _ _).mul (mix_real hw hc _ _)).mul (dY_real hw hc _ _)), rows_P]
  pointwise [val_main_v120, val_main_call3_v2, val_main_call3_v1, val_main_call3_v0, val_main_v118, val_main_v64_1,
    val_main_call2_v7, val_main_call2_v6, val_main_call2_cst_1, val_main_v23, ref_logistic, ref_dY ha, ref_mixed a ha.p]

theorem ref_ds (r : Fin 8192) (k : Fin 2048) :
    (val_main_v121 (F := Ideal) a.p a.x a.g a.w a.b a.o a.n a.tg : FVec Ideal S8192x2048 .f32) (ix2 r k)
      = ds (a.rows (chunkOf r)).P (dYC a.shared (a.rows (chunkOf r))) (placeOf r) k := by
  pointwise [val_main_v121, val_main_v119, ref_u a ha.p, ref_dY ha, ref_silu, ds]
  try ac_rfl
theorem ref_du (r : Fin 8192) (k : Fin 2048) :
    (val_main_v122 (F := Ideal) a.p a.x a.g a.w a.b a.o a.n a.tg : FVec Ideal S8192x2048 .f32) (ix2 r k)
      = du (a.rows (chunkOf r)).P a.shared.G a.shared.W a.shared.B (dYC a.shared (a.rows (chunkOf r))) (placeOf r) k := by
  pointwise [val_main_v122, val_main_v119, ref_mix a ha.p, ref_dY ha, ref_silu, du]
  try ac_rfl
/-- The mixed rows' cotangent by chunk, place, group and column. -/
theorem ref_ds4 (n : Fin 64) (t : Fin 128) (g : Fin 4) (d : Fin 512) :
    (val_main_v123 (F := Ideal) a.p a.x a.g a.w a.b a.o a.n a.tg : FVec Ideal S64x128x4x512 .f32) (ix4 n t g d)
      = ds (a.rows n).P (dYC a.shared (a.rows n)) t (col g d) := by
  have h := ref_ds ha (rowOf n t) (col g d)
  rw [chunkOf_row, placeOf_row] at h
  rw [← h]
  pointwise [val_main_v123]
  try blk_ext

theorem ref_biasRows (t : Fin 128) (g : Fin 4) :
    (val_main_v124 (F := Ideal) a.p a.x a.g a.w a.b a.o a.n a.tg : FVec Ideal S128x4 .f32) (ix2 t g)
      = ∑ n, ∑ d, ds (a.rows n).P (dYC a.shared (a.rows n)) t (col g d) := by
  pointwise [val_main_v124, val_main_cst_31]
  rw [reduce_outer]
  simp only [ref_ds4 ha, zero_add]

theorem ref_result_bias : val_main_v127 (F := Ideal) a.p a.x a.g a.w a.b a.o a.n a.tg = a.gradBias := by
  funext i
  idx_vars i
  show _ = ∑ n, ∑ d, ds (a.rows n).P (dYC a.shared (a.rows n)) i1 (col i0 d)
  pointwise [val_main_v127, val_main_v126, val_main_cst_32]
  rw [reduce_outer]
  pointwise [val_main_v125, ref_biasRows ha, Finset.univ_unique, Finset.sum_singleton]

theorem ref_result_mix : val_main_v132 (F := Ideal) a.p a.x a.g a.w a.b a.o a.n a.tg = a.gradMix := by
  funext i
  idx_vars i
  show _ = ∑ n, mixTerm (a.rows n).P a.shared.G (dYC a.shared (a.rows n)) i0 i1 i2
  pointwise [val_main_v132, ref_mask, val_main_call4_v0, val_main_call4_cst, val_main_v129, val_main_v128, ref_ds4 ha,
    ref_vn4 a ha.p, mixTerm]
  by_cases h : i2.val ≤ i1.val
  · simp only [if_pos h, Scalar.select]; rfl
  · simp only [if_neg h, Scalar.select, Finset.sum_const_zero]
    rw [if_neg (by decide)]

/-- The gradient of the normalised and scaled rows. -/
theorem ref_dvn4 (n : Fin 64) (s : Fin 128) (g : Fin 4) (d : Fin 512) :
    (val_main_v131 (F := Ideal) a.p a.x a.g a.w a.b a.o a.n a.tg : FVec Ideal S64x128x4x512 .f32) (ix4 n s g d)
      = dvn (a.rows n).P a.shared.W (dYC a.shared (a.rows n)) s (col g d) := by
  have e : grp (col g d) = g := Fin.ext (by simp only [grp, col]; omega)
  rw [dvn, e]
  pointwise [val_main_v131, val_main_v130, val_main_v128, ref_ds4 ha, ref_weights]
  try simp only [mul_comm (ds _ _ _ _)]
theorem ref_dvn (r : Fin 8192) (k : Fin 2048) :
    (val_main_v133 (F := Ideal) a.p a.x a.g a.w a.b a.o a.n a.tg : FVec Ideal S8192x2048 .f32) (ix2 r k)
      = dvn (a.rows (chunkOf r)).P a.shared.W (dYC a.shared (a.rows (chunkOf r))) (placeOf r) k := by
  have e : k = col (grp k) ⟨k.val % 512, by omega⟩ := Fin.ext (by simp only [grp, col]; omega)
  refine Eq.trans ?_ ((ref_dvn4 ha (chunkOf r) (placeOf r) (grp k) ⟨k.val % 512, by omega⟩).trans (congrArg _ e.symm))
  pointwise [val_main_v133]
  try blk_ext

theorem ref_result_gain : val_main_v136 (F := Ideal) a.p a.x a.g a.w a.b a.o a.n a.tg = a.gradGain := by
  funext i
  idx_vars i
  show _ = ∑ n, ∑ t, gainTerm (a.rows n).P a.shared.W (dYC a.shared (a.rows n)) t i1
  rw [← sum_all fun n t => gainTerm (a.rows n).P a.shared.W (dYC a.shared (a.rows n)) t i1]
  pointwise [val_main_v136, val_main_v135, val_main_cst_33, val_main_v134, ref_dvn ha, ref_vhat a ha.p, gainTerm]
  try simp only [mul_comm (vhat _ _ _)]

/-- The layer norm's gradient. -/
theorem ref_dvhat (r : Fin 8192) (k : Fin 2048) :
    (val_main_v138 (F := Ideal) a.p a.x a.g a.w a.b a.o a.n a.tg : FVec Ideal S8192x2048 .f32) (ix2 r k)
      = dvhat (a.rows (chunkOf r)).P a.shared.G a.shared.W (dYC a.shared (a.rows (chunkOf r))) (placeOf r) k := by
  pointwise [val_main_v138, val_main_v137, ref_dvn ha, dvhat]
  try rfl
theorem ref_layerFactor (r : Fin 8192) :
    (val_main_v150 (F := Ideal) a.p a.x a.g a.w a.b a.o a.n a.tg : FVec Ideal S8192 .f32) (ix1 r)
      = chainFactor wide eps (dvhat (a.rows (chunkOf r)).P a.shared.G a.shared.W (dYC a.shared (a.rows (chunkOf r))) (placeOf r))
          (ctr (a.rows (chunkOf r)).P (placeOf r)) := by
  pointwise [val_main_v150, val_main_cst_37, val_main_v149, val_main_v148, val_main_cst_36, val_main_v144, val_main_v141,
    val_main_v140, val_main_cst_34, val_main_v139, val_main_v46, val_main_v45, val_main_cst_13, val_main_v44, ref_dvhat ha,
    ref_ctr a ha.p, ref_rstd a ha.p, ref_var a ha.p, chainFactor, Finset.univ_unique, Finset.sum_singleton]
  rw [Fin.default_eq_zero, ref_rstd a ha.p, ref_var a ha.p, rstd]
theorem ref_direct (r : Fin 8192) (k : Fin 2048) :
    (val_main_v143 (F := Ideal) a.p a.x a.g a.w a.b a.o a.n a.tg : FVec Ideal S8192x2048 .f32) (ix2 r k)
      = dvhat (a.rows (chunkOf r)).P a.shared.G a.shared.W (dYC a.shared (a.rows (chunkOf r))) (placeOf r) k * rstd (a.rows (chunkOf r)).P (placeOf r) := by
  pointwise [val_main_v143, val_main_v142, ref_dvhat ha, ref_rstd a ha.p]
theorem ref_square (r : Fin 8192) (k : Fin 2048) :
    (val_main_v152 (F := Ideal) a.p a.x a.g a.w a.b a.o a.n a.tg : FVec Ideal S8192x2048 .f32) (ix2 r k)
      = chainFactor wide eps (dvhat (a.rows (chunkOf r)).P a.shared.G a.shared.W (dYC a.shared (a.rows (chunkOf r))) (placeOf r)) (ctr (a.rows (chunkOf r)).P (placeOf r))
          * (Ideal.ofBits .f32 0x40000000#32 * ctr (a.rows (chunkOf r)).P (placeOf r) k) := by
  pointwise [val_main_v152, val_main_v151, val_main_v34, val_main_v33, val_main_cst_9, ref_layerFactor ha, ref_ctr' a ha.p]
theorem ref_dv (r : Fin 8192) (k : Fin 2048) :
    (val_main_v162 (F := Ideal) a.p a.x a.g a.w a.b a.o a.n a.tg : FVec Ideal S8192x2048 .f32) (ix2 r k)
      = dv (a.rows (chunkOf r)).P a.shared.G a.shared.W (dYC a.shared (a.rows (chunkOf r))) (placeOf r) k := by
  have hw := shared_real ha
  have hc := rows_real ha (chunkOf r)
  refine Eq.trans ?_ (layer_chain wide_pos eps_pos (dvhat_real hw hc (placeOf r)) (ctr_real hc (placeOf r))
    (ctr_sum hc (placeOf r)) k)
  pointwise [val_main_v162, val_main_v161, val_main_v160, val_main_cst_40, val_main_v159, val_main_v158, val_main_cst_39,
    val_main_v157, val_main_v156, val_main_v155, val_main_v154, val_main_cst_38, val_main_v153, val_main_v147, val_main_v146,
    val_main_cst_35, val_main_v145, ref_direct ha, ref_square ha, rstd, Finset.univ_unique, Finset.sum_singleton]
  try rfl

/-! ## The projected rows' gradient -/

/-- The two activated halves' cotangents, side by side. -/
theorem ref_cotGelu (r : Fin 8192) (q : Fin 4096) :
    (val_main_v165 (F := Ideal) a.p a.x a.g a.w a.b a.o a.n a.tg : FVec Ideal S8192x4096 .f32) (ix2 r q)
      = if h : q.val < 2048 then du (a.rows (chunkOf r)).P a.shared.G a.shared.W a.shared.B (dYC a.shared (a.rows (chunkOf r))) (placeOf r) ⟨q.val, h⟩
        else dv (a.rows (chunkOf r)).P a.shared.G a.shared.W (dYC a.shared (a.rows (chunkOf r))) (placeOf r) ⟨q.val - 2048, by omega⟩ := by
  by_cases h : q.val < 2048
  · rw [dif_pos h, ← ref_du ha]
    pointwise [val_main_v165, val_main_v164, val_main_v163, val_main_cst_41, val_main_cst_42]
    rw [dif_neg (by omega), dif_pos h, zero_add]
  · rw [dif_neg h, ← ref_dv ha]
    pointwise [val_main_v165, val_main_v164, val_main_v163, val_main_cst_41, val_main_cst_42]
    rw [dif_pos (by omega), dif_neg h, add_zero]

theorem cotGelu_real (r : Fin 8192) (q : Fin 4096) :
    IsReal ((val_main_v165 (F := Ideal) a.p a.x a.g a.w a.b a.o a.n a.tg : FVec Ideal S8192x4096 .f32) (ix2 r q)) := by
  rw [ref_cotGelu ha]
  split
  · exact du_real (shared_real ha) (rows_real ha _) _ _
  · exact dv_real (shared_real ha) (rows_real ha _) _ _

theorem ref_gradGelu (r : Fin 8192) (q : Fin 4096) :
    (val_main_v178 (F := Ideal) a.p a.x a.g a.w a.b a.o a.n a.tg : FVec Ideal S8192x4096 .f32) (ix2 r q)
      = (val_main_v165 (F := Ideal) a.p a.x a.g a.w a.b a.o a.n a.tg : FVec Ideal S8192x4096 .f32) (ix2 r q)
          * geluSlope (a.p (ix2 r ⟨q.val, by omega⟩)) := by
  rw [← gelu_chain (ha.p _) (cotGelu_real ha r q), ← cubic_quotient]
  pointwise [val_main_v178, val_main_v177, val_main_v176, val_main_v175, val_main_v174, val_main_v173, val_main_v172,
    val_main_cst_45, val_main_v171, val_main_v170, val_main_v169, val_main_cst_44, val_main_v168, val_main_v167, val_main_v6,
    val_main_v5, val_main_cst_1, val_main_v4, val_main_v17, val_main_v16, val_main_v15, val_main_cst_4, val_main_v14,
    val_main_v13, val_main_cst_3, val_main_v1, val_main_cst, val_main_cst_0, ref_geluGate a ha.p, ref_tanh a ha.p, ref_cols]

/-- The gate's columns and the activated ones, put together. -/
theorem ref_gradP (r : Fin 8192) (k : Fin 6144) :
    (val_main_v180 (F := Ideal) a.p a.x a.g a.w a.b a.o a.n a.tg : FVec Ideal S8192x6144 .f32) (ix2 r k)
      = (if h : 4096 ≤ k.val ∧ k.val - 4096 < 2048 then
          (val_main_v120 (F := Ideal) a.p a.x a.g a.w a.b a.o a.n a.tg : FVec Ideal S8192x2048 .f32) (ix2 r ⟨k.val - 4096, h.2⟩) else 0)
        + if h : k.val < 4096 then
          (val_main_v178 (F := Ideal) a.p a.x a.g a.w a.b a.o a.n a.tg : FVec Ideal S8192x4096 .f32) (ix2 r ⟨k.val, h⟩) else 0 := by
  pointwise [val_main_v180, val_main_v179, val_main_v166, val_main_cst_46, val_main_cst_43]

theorem ref_dProj (r : Fin 8192) (k : Fin 6144) :
    (val_main_v180 (F := Ideal) a.p a.x a.g a.w a.b a.o a.n a.tg : FVec Ideal S8192x6144 .f32) (ix2 r k)
      = dProjC a.shared (a.rows (chunkOf r)) (placeOf r) k := by
  rw [ref_gradP ha, dProjC, dProj]
  by_cases h : k.val < 2048
  · have h1 : ¬ (4096 ≤ k.val ∧ k.val - 4096 < 2048) := by omega
    have h2 : k.val < 4096 := by omega
    rw [dif_neg h1, dif_pos h2, dif_pos h, zero_add, ref_gradGelu ha, ref_cotGelu ha, dif_pos h, dpU, rows_P]
  · rw [dif_neg h]
    by_cases h' : k.val < 4096
    · have h1 : ¬ (4096 ≤ k.val ∧ k.val - 4096 < 2048) := by omega
      have h2 : k.val - 2048 < 2048 := by omega
      have e : colV ⟨k.val - 2048, h2⟩ = k := Fin.ext (by simp only [colV]; omega)
      rw [dif_neg h1, dif_pos h', dif_pos h2, zero_add, ref_gradGelu ha, ref_cotGelu ha, dif_neg h, dpV, rows_P, e]
    · have h1 : 4096 ≤ k.val ∧ k.val - 4096 < 2048 := by omega
      have h2 : ¬ k.val - 2048 < 2048 := by omega
      rw [dif_pos h1, dif_neg h', dif_neg h2, add_zero, ref_dz ha]
      rfl

theorem ref_result_gradP : val_main_v180 (F := Ideal) a.p a.x a.g a.w a.b a.o a.n a.tg = a.gradP := by
  funext i
  idx_vars i
  exact ref_dProj ha i0 i1

end Cert.Sgu

end
-- ==== Proof.SguClaim.lean ====
module

public import proofs.«01_k».proof.Defs
public import proofs.«01_k».proof.Proof.SguArray
public import proofs.«01_k».proof.Proof.SguBack
public import proofs.«01_k».proof.Proof.RealArrays
public import Idealize.ShloMosaic.Lib.Claim
public import Idealize.ShloMosaic.Lib.Quiescent

/-! The gated unit's backward call: the kernel's eight results are the reference's. -/

@[expose] public section

set_option maxRecDepth 16384

noncomputable section

namespace Cert.Sgu

open Idealize.ShloMosaic Idealize.ShloMosaic.TcCoe Idealize.SL.Sem Cert.RealValues Cert.Reference3Ideal.Read

/-- The precondition's side conditions. -/
theorem preFacts : Cert.Pre_sgu_finite.Facts where
  bcast_S_S8192x6144 := by decide
  bcast_S_S8192x1024 := by decide
  bcast_S_S1x2048 := by decide
  bcast_S_S4x128x128 := by decide
  bcast_S_S4x128 := by decide
  bcast_S_S2048x1024 := by decide
  bcast_S_S1x1024 := by decide

attribute [local instance] Cert.Kernel3Ideal.Gen.facts Cert.Reference3Ideal.Gen.facts preFacts

/-- The reference leaves its arguments as they were; it has no semaphore. -/
theorem ref_frame : Cert.quiescent_Reference3Ideal (hReference3Ideal := Cert.Reference3Ideal.Gen.facts) := fun m g _ =>
  (θ_run _ _ _).mono (fun r h => ⟨fun c => (h c).2.2.2.2.2.2.2.2, sem_eq_zero_of_no_sems rfl r.2⟩)
    (Cert.Reference3Ideal.Value.run m g)

/-- The two named constants. -/
theorem preserves : Cert.preserves_Kernel3_Kernel3Ideal := ⟨
  IdealRules.named_const.statement Cert.Kernel3Ideal.κ "gelu" .f32 0x3D372713#32 _ rfl,
  IdealRules.named_const.statement Cert.Kernel3Ideal.κ "gelu3" .f32 0x3E095D4F#32 _ rfl⟩

/-- The two runs end with equal results. -/
theorem algebraic : Cert.algebraic_Kernel3Ideal_Reference3Ideal_pre_sgu_finite
    (hKernel3Ideal := Cert.Kernel3Ideal.Gen.facts) (hReference3Ideal := Cert.Reference3Ideal.Gen.facts)
    (hPre_sgu_finite := preFacts) := by
  intro m g m' g' hpre hargs
  refine ⟨fun c => (arrays m c).gradP, fun c => (arrays m c).unit, fun c => (arrays m c).gradX, fun c => (arrays m c).gradGain,
    fun c => (arrays m c).gradMix, fun c => (arrays m c).gradBias, fun c => (arrays m c).gradFinal, fun c => (arrays m c).loss,
    (θ_run _ _ _).mono (fun r h c => ?_) (θ_run_and (run m g) (Cert.Kernel3Ideal.Gen.unchanged m g)), ?_⟩
  · obtain ⟨h0, h1, h2, h3, h4, h5, h6, h7⟩ := h.1 c
    exact ⟨h0, h1, h2, h3, h4, h5, h6, h7, h.2 c⟩
  · refine (θ_run _ _ _).mono (fun r h c => ?_) (Cert.Reference3Ideal.Value.run m' g')
    obtain ⟨a0, a1, a2, a3, a4, a5, a6, a7⟩ := hargs c
    obtain ⟨h0, h1, h2, h3, h4, h5, h6, h7⟩ := hpre c
    have ha : (arrays m c).Real := ⟨isReal_of_array h0, isReal_of_array h1, isReal_of_array h2, isReal_of_array h3,
      isReal_of_array h4, isReal_of_array h5, isReal_of_array h6, isReal_of_array h7⟩
    obtain ⟨r0, r1, r2, r3, r4, r5, r6, r7, rest⟩ := h c
    have e0 : StableHlo.launchContents m' c (Proc.tc.devRef Cert.Reference3Ideal.main_arg0) = _ := a0
    have e1 : StableHlo.launchContents m' c (Proc.tc.devRef Cert.Reference3Ideal.main_arg1) = _ := a1
    have e2 : StableHlo.launchContents m' c (Proc.tc.devRef Cert.Reference3Ideal.main_arg2) = _ := a2
    have e3 : StableHlo.launchContents m' c (Proc.tc.devRef Cert.Reference3Ideal.main_arg3) = _ := a3
    have e4 : StableHlo.launchContents m' c (Proc.tc.devRef Cert.Reference3Ideal.main_arg4) = _ := a4
    have e5 : StableHlo.launchContents m' c (Proc.tc.devRef Cert.Reference3Ideal.main_arg5) = _ := a5
    have e6 : StableHlo.launchContents m' c (Proc.tc.devRef Cert.Reference3Ideal.main_arg6) = _ := a6
    have e7 : StableHlo.launchContents m' c (Proc.tc.devRef Cert.Reference3Ideal.main_arg7) = _ := a7
    refine ⟨(r0.trans (val_main_v180_eq _)).trans ?_,
      (r1.trans (val_main_v65_eq _)).trans ?_,
      (r2.trans (val_main_v116_eq _)).trans ?_,
      (r3.trans (val_main_v136_eq _)).trans ?_,
      (r4.trans (val_main_v132_eq _)).trans ?_,
      (r5.trans (val_main_v127_eq _)).trans ?_,
      (r6.trans (val_main_v100_eq _)).trans ?_,
      (r7.trans (val_main_v91_eq _)).trans ?_,
      rest⟩
    · rw [e0, e1, e2, e3, e4, e5, e6, e7]
      exact ref_result_gradP (a := arrays m c) ha
    · rw [e0, e2, e3, e4]
      exact ref_result_unit (arrays m c) ha.p
    · rw [e0, e1, e2, e3, e4, e5, e6, e7]
      exact ref_result_gradX (a := arrays m c) ha
    · rw [e0, e1, e2, e3, e4, e5, e6, e7]
      exact ref_result_gain (a := arrays m c) ha
    · rw [e0, e1, e2, e3, e4, e5, e6, e7]
      exact ref_result_mix (a := arrays m c) ha
    · rw [e0, e1, e2, e3, e4, e5, e6, e7]
      exact ref_result_bias (a := arrays m c) ha
    · rw [e0, e1, e2, e3, e4, e5, e6, e7]
      exact ref_result_final (a := arrays m c) ha
    · rw [e0, e1, e2, e3, e4, e5, e6, e7]
      exact ref_result_loss (a := arrays m c) ha

end Cert.Sgu

end
-- ==== Proof.RetCell.lean ====
module

public import proofs.«01_k».proof.Proof.Gen.Kernel4Ideal.Frame
public import Idealize.ShloMosaic.Lib.Pipeline.ValueKit
public import Idealize.ShloMosaic.Lib.Pointwise
public import Idealize.ShloMosaic.Lib.Claim

/-! Retention's backward call: the vectors the kernel computes for one head and one chunk of 128 rows. -/

@[expose] public section

set_option maxRecDepth 16384

noncomputable section

namespace Cert.Ret

open Cert.Kernel4Ideal Cert.Kernel4Ideal.Gen Idealize.ShloMosaic Idealize.ShloMosaic.TcCoe Idealize.SL.Sem

abbrev Rows : Type := FVec Ideal S128x256 .f32
abbrev Square : Type := FVec Ideal S128x128 .f32
abbrev HeadState : Type := FVec Ideal S1x256x256 .f32

/-- A head's tables: the decay within a chunk, and the decays before and behind each of its rows. -/
structure Tables where
  dec : FVec Ideal S1x128x128 .f32
  xi : FVec Ideal S1x128x1 .f32
  zeta : FVec Ideal S1x128x1 .f32

/-- What one head finds at one chunk. -/
structure Cell where
  q : Rows
  k : Rows
  v : Rows
  o : Rows
  cos : Square
  sin : Square
  score : FVec Ideal S128x128 .bf16
  before : FVec Ideal S1x1x256x256 .bf16
  gain : FVec Ideal S1x256 .f32
  act : Rows
  slope : Rows
  cot : Rows
  tables : Tables

/-! ## A head's logarithm of the decay, and the decay over a chunk -/

def logDecay (h : Fin 4) : EReal :=
  match h with
  | 0 => Named.named (F := Ideal) (φ := .f32) κ "log_gamma0" 0xBD020AEC#32
  | 1 => Named.named (F := Ideal) (φ := .f32) κ "log_gamma1" 0xBC8102B3#32
  | 2 => Named.named (F := Ideal) (φ := .f32) κ "log_gamma2" 0xBC0080AC#32
  | 3 => Named.named (F := Ideal) (φ := .f32) κ "log_gamma3" 0xBB80402B#32

def chunkDecay (h : Fin 4) : EReal :=
  match h with
  | 0 => Named.named (F := Ideal) (φ := .f32) κ "gamma0" 0x3C8CC36A#32
  | 1 => Named.named (F := Ideal) (φ := .f32) κ "gamma1" 0x3E08698E#32
  | 2 => Named.named (F := Ideal) (φ := .f32) κ "gamma2" 0x3EBB9DB9#32
  | 3 => Named.named (F := Ideal) (φ := .f32) κ "gamma3" 0x3F1B1EB1#32

/-! ## The tables as they are made at the first grid point -/

/-- The decay from one row of a chunk to a later one. -/
def decayVec (g : EReal) : FVec Ideal S1x128x128 .f32 :=
  let r := iota .tc S128x128 32 [0] iota_S128x128_d0_w32
  let s := iota .tc S128x128 32 [1] iota_S128x128_d1_w32
  let zero : Ideal .f32 := Scalar.ofBits .f32 0x00000000#32
  let far : Square := maximumf (sitofp .f32 (subi r s)) (broadcast S128x128 zero)
  shapeCast S1x128x128 (select (cmpi .sge r s) (exp (mulf (broadcast S128x128 g) far)) (broadcast S128x128 zero))
    shapeCasts_S128x128_S1x128x128

/-- The decays up to a row and from it to the chunk's end, each copied along half of the columns. -/
def rowDecayVec (g : EReal) : FVec Ideal S1x128x256 .f32 :=
  let r : FVec Ideal S128x1 .f32 := sitofp .f32 (iota .tc S128x1 32 [0] iota_S128x1_d0_w32)
  let one : Ideal .f32 := Scalar.ofBits .f32 0x3F800000#32
  let last : Ideal .f32 := Scalar.ofBits .f32 0x42FE0000#32
  let upTo : FVec Ideal S128x1 .f32 := exp (mulf (broadcast S128x1 g) (addf r (broadcast S128x1 one)))
  let onward : FVec Ideal S128x1 .f32 := exp (mulf (broadcast S128x1 g) (subf (broadcast S128x1 last) r))
  shapeCast S1x128x256 (concatenate S128x256 1
    [⟨S128x128, broadcastTo S128x128 (shapeCast S128x1 upTo shapeCasts_S128x1_S128x1) broadcasts_S128x1_S128x128⟩,
      ⟨S128x128, broadcastTo S128x128 (shapeCast S128x1 onward shapeCasts_S128x1_S128x1) broadcasts_S128x1_S128x128⟩]
    concatenates_S128x128_S128x128_S128x256_d1) shapeCasts_S128x256_S1x128x256

/-! ## One head at one chunk -/

namespace Cell

variable (x : Cell)

abbrev cosV : Square := k0_pay28 x.cos
abbrev sinV : Square := k0_pay29 x.sin
abbrev decV : Square := k0_pay33 x.tables.dec
abbrev xiV : FVec Ideal S128x1 .f32 := k0_pay34 x.tables.xi
abbrev zetaV : FVec Ideal S128x1 .f32 := k0_pay35 x.tables.zeta
abbrev beforeV : FVec Ideal S256x256 .bf16 := k0_pay36 x.before
/-- The rotated queries, and the rotated and scaled keys. -/
def qr : Rows := k0_pay37 x.cosV x.sinV x.q
def kr : Rows := k0_pay38 x.cosV x.sinV x.k
abbrev scoreV : FVec Ideal S128x128 .bf16 := k0_pay39 x.score
/-- The reciprocal root of the head's variance, the normalised rows, and these by the gain. -/
def rstd : FVec Ideal S128x1 .f32 := k0_pay41 x.o
def normed : Rows := k0_pay42 x.o
def out : Rows := k0_pay43 x.o x.gain
/-- The branch, the gate's cotangent and the cotangent of the normalised and scaled rows. -/
def branch : FVec Ideal S128x256 .bf16 := truncf .bf16 (mulf x.out x.act) bitsLt_bf16_f32
def dGate : FVec Ideal S128x256 .bf16 := truncf .bf16 (mulf (mulf x.cot x.out) x.slope) bitsLt_bf16_f32
def dOut : Rows := mulf x.cot x.act
/-- The gain's gradient on top of what is there. -/
def addGain (held : FVec Ideal S1x256 .f32) : FVec Ideal S1x256 .f32 :=
  addf (shapeCast S1x256 held shapeCasts_S1x256_S1x256)
    (shapeCast S1x256 (multiReduction .add [0] S256 (mulf x.dOut x.normed) 0x00000000#32 reduces_S128x256_S256 (.inl rfl) rfl)
      shapeCasts_S256_S1x256)
/-- The mean of each row, copied along it. -/
def rowMean (T : Rows) : Rows :=
  let n : Ideal .f32 := Scalar.ofBits .f32 0x43800000#32
  broadcastTo S128x256 (divf (shapeCast S128x1 (multiReduction .add [1] S128 T 0x00000000#32 reduces_S128x256_S128 (.inl rfl) rfl)
    shapeCasts_S128_S128x1) (broadcast S128x1 n)) broadcasts_S128x1_S128x256
/-- The cotangent of the normalised rows, and of the rows before the norm. -/
def dNormed : Rows := mulf x.dOut (broadcastTo S128x256 x.gain broadcasts_S1x256_S128x256)
def dO : Rows :=
  mulf (broadcastTo S128x256 x.rstd broadcasts_S128x1_S128x256)
    (subf (subf x.dNormed (rowMean x.dNormed)) (mulf x.normed (rowMean (mulf x.dNormed x.normed))))
abbrev dOb : FVec Ideal S128x256 .bf16 := truncf .bf16 x.dO bitsLt_bf16_f32

/-- The gradients at the values, the queries and the keys, from the state's cotangent `g` behind the chunk. -/
def dV (g : HeadState) : FVec Ideal S128x256 .bf16 := k0_pay54 x.zetaV x.kr x.scoreV x.dO (k0_pay51 g)
def dQ : FVec Ideal S128x256 .bf16 :=
  k0_pay61 x.cosV x.sinV (k0_pay58 x.decV x.xiV x.v x.beforeV x.kr x.dO x.dOb) (k0_pay59 x.decV x.xiV x.v x.beforeV x.kr x.dO x.dOb)
    (k0_pay60 x.cosV x.sinV x.decV x.xiV x.v x.beforeV x.kr x.dO x.dOb)
def dK (g : HeadState) : FVec Ideal S128x256 .bf16 :=
  k0_pay62 x.cosV x.sinV (k0_pay56 x.decV x.zetaV x.v x.qr (k0_pay51 g) x.dOb)
/-- The state's cotangent before the chunk. -/
def stepBack (decay : EReal) (g : HeadState) : HeadState :=
  shapeCast S1x256x256 (addf (mulf (k0_pay50 g) (broadcast S256x256 decay))
    (matmul dot_S128x256_S128x256_S256x256_0_0_1_1_n_n none
      (truncf .bf16 (mulf x.qr (broadcastTo S128x256 x.xiV broadcasts_S128x1_S128x256)) bitsLt_bf16_f32) x.dOb
      (constant S256x256 .f32 0x00000000#32))) shapeCasts_S256x256_S1x256x256

end Cell

end Cert.Ret

end
-- ==== Proof.RetPoint.lean ====
module

public import proofs.«01_k».proof.Proof.RetCell

/-! Retention's backward call: what the windows and the scratch hold after the body at one grid point, from the blocks it
    read. A point takes two chunks of rows, the later one first, and in each the four heads in turn. -/

@[expose] public section

set_option maxRecDepth 16384

noncomputable section

namespace Cert.Ret

open Cert.Kernel4Ideal Cert.Kernel4Ideal.Gen Idealize.ShloMosaic Idealize.ShloMosaic.TcCoe Idealize.SL.Sem

/-- What a grid point reads: the queries', keys', values' and gate's columns, the rotary tables, the gain, the states
    before each chunk, the scores, the rows before the norm, the residual's cotangent, the output projection, and the other
    branch's two cotangents. -/
structure Blocks where
  q : Vec Ideal S256x1024 .f32
  k : Vec Ideal S256x1024 .f32
  v : Vec Ideal S256x1024 .f32
  z : Vec Ideal S256x1024 .f32
  cos : Vec Ideal S256x128 .f32
  sin : Vec Ideal S256x128 .f32
  gain : Vec Ideal S1x1024 .f32
  before : Vec Ideal S2x4x256x256 .bf16
  score : Vec Ideal S256x512 .bf16
  o : Vec Ideal S256x1024 .f32
  d : Vec Ideal S256x1024 .f32
  w : Vec Ideal S1024x1024 .bf16
  du : Vec Ideal S8x256x128 .f32
  da : Vec Ideal S256x1024 .bf16

/-! ## The parts of the arrays that belong to a chunk and a head -/

theorem inb_cell : ∀ (c : Fin 2) (h : Fin 4) (a : Fin 2), (![128 * c.val, 256 * h.val] : Fin 2 → ℕ) a + (![128, 256] : Fin 2 → ℕ) a ≤ S256x1024.size a := by
  decide
theorem inb_table : ∀ (c : Fin 2) (a : Fin 2), (![128 * c.val, 0] : Fin 2 → ℕ) a + (![128, 128] : Fin 2 → ℕ) a ≤ S256x128.size a := by
  decide
theorem inb_score : ∀ (c : Fin 2) (h : Fin 4) (a : Fin 2), (![128 * c.val, 128 * h.val] : Fin 2 → ℕ) a + (![128, 128] : Fin 2 → ℕ) a ≤ S256x512.size a := by
  decide
theorem inb_before : ∀ (c : Fin 2) (h : Fin 4) (a : Fin 4), (![c.val, h.val, 0, 0] : Fin 4 → ℕ) a + (![1, 1, 256, 256] : Fin 4 → ℕ) a ≤ S2x4x256x256.size a := by
  decide
theorem inb_gain : ∀ (h : Fin 4) (a : Fin 2), (![0, 256 * h.val] : Fin 2 → ℕ) a + (![1, 256] : Fin 2 → ℕ) a ≤ S1x1024.size a := by
  decide
theorem inb_state : ∀ (h : Fin 4) (a : Fin 3), (![h.val, 0, 0] : Fin 3 → ℕ) a + (![1, 256, 256] : Fin 3 → ℕ) a ≤ S4x256x256.size a := by
  decide
theorem inb_dec : ∀ (h : Fin 4) (a : Fin 3), (![h.val, 0, 0] : Fin 3 → ℕ) a + (![1, 128, 128] : Fin 3 → ℕ) a ≤ S4x128x128.size a := by
  decide
theorem inb_rowDec : ∀ (h : Fin 4) (a : Fin 3), (![h.val, 0, 0] : Fin 3 → ℕ) a + (![1, 128, 256] : Fin 3 → ℕ) a ≤ S4x128x256.size a := by
  decide
theorem inb_xi : ∀ (h : Fin 4) (a : Fin 3), (![h.val, 0, 0] : Fin 3 → ℕ) a + (![1, 128, 1] : Fin 3 → ℕ) a ≤ S4x128x256.size a := by
  decide
theorem inb_zeta : ∀ (h : Fin 4) (a : Fin 3), (![h.val, 0, 128] : Fin 3 → ℕ) a + (![1, 128, 1] : Fin 3 → ℕ) a ≤ S4x128x256.size a := by
  decide
theorem inb_part : ∀ (c : Fin 2) (h : Fin 4) (p : Fin 4) (a : Fin 2),
    (![128 * c.val, 2048 + 1024 * p.val + 256 * h.val] : Fin 2 → ℕ) a + (![128, 256] : Fin 2 → ℕ) a ≤ S256x6144.size a := by
  decide
theorem slices_chunk : ∀ c : Fin 2, S256x1024.Slices ![128 * c.val, 0] S128x1024 := by decide
theorem slices_head : ∀ h : Fin 4, S128x1024.Slices ![0, 256 * h.val] S128x256 := by decide

abbrev cellRect (c : Fin 2) (h : Fin 4) : Rect S256x1024 := Rect.unit (s := S256x1024) ![128 * c.val, 256 * h.val] ![128, 256] (inb_cell c h)
abbrev gainRect (h : Fin 4) : Rect S1x1024 := Rect.unit (s := S1x1024) ![0, 256 * h.val] ![1, 256] (inb_gain h)
abbrev stateRect (h : Fin 4) : Rect S4x256x256 := Rect.unit (s := S4x256x256) ![h.val, 0, 0] ![1, 256, 256] (inb_state h)
abbrev decRect (h : Fin 4) : Rect S4x128x128 := Rect.unit (s := S4x128x128) ![h.val, 0, 0] ![1, 128, 128] (inb_dec h)
abbrev rowDecRect (h : Fin 4) : Rect S4x128x256 := Rect.unit (s := S4x128x256) ![h.val, 0, 0] ![1, 128, 256] (inb_rowDec h)
abbrev xiRect (h : Fin 4) : Rect S4x128x256 := Rect.unit (s := S4x128x256) ![h.val, 0, 0] ![1, 128, 1] (inb_xi h)
abbrev zetaRect (h : Fin 4) : Rect S4x128x256 := Rect.unit (s := S4x128x256) ![h.val, 0, 128] ![1, 128, 1] (inb_zeta h)
abbrev partRect (c : Fin 2) (h p : Fin 4) : Rect S256x6144 :=
  Rect.unit (s := S256x6144) ![128 * c.val, 2048 + 1024 * p.val + 256 * h.val] ![128, 256] (inb_part c h p)

/-- The part of a block's rows that belongs to a chunk and a head. -/
def part (c : Fin 2) (h : Fin 4) (x : FVec Ideal S256x1024 .f32) : Rows :=
  extractStridedSlice S128x256 ![0, 256 * h.val] (extractStridedSlice S128x1024 ![128 * c.val, 0] x (slices_chunk c)) (slices_head h)

namespace Blocks

variable (b : Blocks)

abbrev zAll : FVec Ideal S256x1024 .f32 := View.ld (Val := Elt Ideal) b.z (Rect.unit ![0, 0] ![256, 1024] inb_S256x1024_S256x1024_0_0)
abbrev dAll : FVec Ideal S256x1024 .f32 := View.ld (Val := Elt Ideal) b.d (Rect.unit ![0, 0] ![256, 1024] inb_S256x1024_S256x1024_0_0)
abbrev wAll : FVec Ideal S1024x1024 .bf16 := View.ld (Val := Elt Ideal) b.w (Rect.unit ![0, 0] ![1024, 1024] inb_S1024x1024_S1024x1024_0_0)
abbrev daAll : FVec Ideal S256x1024 .bf16 := View.ld (Val := Elt Ideal) b.da (Rect.unit ![0, 0] ![256, 1024] inb_S256x1024_S256x1024_0_0)

/-- What head `h` finds at chunk `c`. -/
def cell (T : Fin 4 → Tables) (c : Fin 2) (h : Fin 4) : Cell where
  q := View.ld (Val := Elt Ideal) b.q (cellRect c h)
  k := View.ld (Val := Elt Ideal) b.k (cellRect c h)
  v := View.ld (Val := Elt Ideal) b.v (cellRect c h)
  o := View.ld (Val := Elt Ideal) b.o (cellRect c h)
  cos := View.ld (Val := Elt Ideal) b.cos (Rect.unit (s := S256x128) ![128 * c.val, 0] ![128, 128] (inb_table c))
  sin := View.ld (Val := Elt Ideal) b.sin (Rect.unit (s := S256x128) ![128 * c.val, 0] ![128, 128] (inb_table c))
  score := View.ld (Val := Elt Ideal) b.score (Rect.unit (s := S256x512) ![128 * c.val, 128 * h.val] ![128, 128] (inb_score c h))
  before := View.ld (Val := Elt Ideal) b.before (Rect.unit (s := S2x4x256x256) ![c.val, h.val, 0, 0] ![1, 1, 256, 256] (inb_before c h))
  gain := View.ld (Val := Elt Ideal) b.gain (gainRect h)
  act := part c h (k0_pay17 (F := Ideal) b.zAll)
  slope := part c h (k0_pay18 (F := Ideal) b.zAll)
  cot := part c h (k0_pay19 (F := Ideal) b.dAll b.wAll)
  tables := T h

end Blocks

/-! ## The state's cotangent, head by head -/

/-- A head's state as it is read behind the stores `L`, and the stores with the head's next state on top. -/
def stateAt (a : View sig .tc .vmem S4x256x256 .f32) (L : List (View.Piece (Elt Ideal) S4x256x256 .f32)) (h : Fin 4) : HeadState :=
  a.readAt (Elt Ideal) (stateRect h).toLoadRect (a.writes (Elt Ideal) a.junk L)
def putState (a : View sig .tc .vmem S4x256x256 .f32) (K : Fin 4 → Cell) (h : Fin 4) (L : List (View.Piece (Elt Ideal) S4x256x256 .f32)) :
    List (View.Piece (Elt Ideal) S4x256x256 .f32) :=
  ⟨stateRect h, (K h).stepBack (chunkDecay h) (stateAt a L h)⟩ :: L

/-- The states the four heads read at a chunk where each is read behind the stores so far, and the stores after it. -/
def statesAt (a : View sig .tc .vmem S4x256x256 .f32) (K : Fin 4 → Cell) (L : List (View.Piece (Elt Ideal) S4x256x256 .f32)) :
    Fin 4 → HeadState :=
  fun h => match h with
    | 0 => stateAt a L 0
    | 1 => stateAt a (putState a K 0 L) 1
    | 2 => stateAt a (putState a K 1 (putState a K 0 L)) 2
    | 3 => stateAt a (putState a K 2 (putState a K 1 (putState a K 0 L))) 3
def putStates (a : View sig .tc .vmem S4x256x256 .f32) (K : Fin 4 → Cell) (L : List (View.Piece (Elt Ideal) S4x256x256 .f32)) :
    List (View.Piece (Elt Ideal) S4x256x256 .f32) :=
  putState a K 3 (putState a K 2 (putState a K 1 (putState a K 0 L)))
/-- The stores of a chunk whose states are given. -/
def storeStates (K : Fin 4 → Cell) (G : Fin 4 → HeadState) (L : List (View.Piece (Elt Ideal) S4x256x256 .f32)) :
    List (View.Piece (Elt Ideal) S4x256x256 .f32) :=
  ⟨stateRect 3, (K 3).stepBack (chunkDecay 3) (G 3)⟩ :: ⟨stateRect 2, (K 2).stepBack (chunkDecay 2) (G 2)⟩ ::
  ⟨stateRect 1, (K 1).stepBack (chunkDecay 1) (G 1)⟩ :: ⟨stateRect 0, (K 0).stepBack (chunkDecay 0) (G 0)⟩ :: L

/-! ## The gain's gradient, head by head -/

def putGain (a : View sig .tc .vmem S1x1024 .f32) (K : Fin 4 → Cell) (h : Fin 4) (L : List (View.Piece (Elt Ideal) S1x1024 .f32)) :
    List (View.Piece (Elt Ideal) S1x1024 .f32) :=
  ⟨gainRect h, (K h).addGain (a.readAt (Elt Ideal) (gainRect h).toLoadRect (a.writes (Elt Ideal) a.junk L))⟩ :: L
def putGains (a : View sig .tc .vmem S1x1024 .f32) (K : Fin 4 → Cell) (L : List (View.Piece (Elt Ideal) S1x1024 .f32)) :
    List (View.Piece (Elt Ideal) S1x1024 .f32) :=
  putGain a K 3 (putGain a K 2 (putGain a K 1 (putGain a K 0 L)))
def storeGains (K : Fin 4 → Cell) (X : Vec Ideal S1x1024 .f32) (L : List (View.Piece (Elt Ideal) S1x1024 .f32)) :
    List (View.Piece (Elt Ideal) S1x1024 .f32) :=
  ⟨gainRect 3, (K 3).addGain (View.ld (Val := Elt Ideal) X (gainRect 3))⟩ :: ⟨gainRect 2, (K 2).addGain (View.ld (Val := Elt Ideal) X (gainRect 2))⟩ ::
  ⟨gainRect 1, (K 1).addGain (View.ld (Val := Elt Ideal) X (gainRect 1))⟩ :: ⟨gainRect 0, (K 0).addGain (View.ld (Val := Elt Ideal) X (gainRect 0))⟩ :: L

/-! ## The projection's gradient and the branch -/

/-- A head's four stores into the projection's gradient, and its store into the branch. -/
def cellPieces (K : Fin 4 → Cell) (G : Fin 4 → HeadState) (c : Fin 2) (h : Fin 4) (L : List (View.Piece (Elt Ideal) S256x6144 .bf16)) :
    List (View.Piece (Elt Ideal) S256x6144 .bf16) :=
  ⟨partRect c h 1, (K h).dK (G h)⟩ :: ⟨partRect c h 0, (K h).dQ⟩ :: ⟨partRect c h 2, (K h).dV (G h)⟩ :: ⟨partRect c h 3, (K h).dGate⟩ :: L
def chunkPieces (K : Fin 4 → Cell) (G : Fin 4 → HeadState) (c : Fin 2) (L : List (View.Piece (Elt Ideal) S256x6144 .bf16)) :
    List (View.Piece (Elt Ideal) S256x6144 .bf16) :=
  cellPieces K G c 3 (cellPieces K G c 2 (cellPieces K G c 1 (cellPieces K G c 0 L)))
def branchPieces (K : Fin 4 → Cell) (c : Fin 2) (L : List (View.Piece (Elt Ideal) S256x1024 .bf16)) :
    List (View.Piece (Elt Ideal) S256x1024 .bf16) :=
  ⟨cellRect c 3, (K 3).branch⟩ :: ⟨cellRect c 2, (K 2).branch⟩ :: ⟨cellRect c 1, (K 1).branch⟩ :: ⟨cellRect c 0, (K 0).branch⟩ :: L

/-- One lane block of the other branch's cotangent. -/
theorem inb_lane : ∀ (l : Fin 8) (a : Fin 3), (![l.val, 0, 0] : Fin 3 → ℕ) a + (![1, 256, 128] : Fin 3 → ℕ) a ≤ S8x256x128.size a := by
  decide
abbrev lane (b : Blocks) (l : Fin 8) : FVec Ideal S1x256x128 .f32 :=
  View.ld (Val := Elt Ideal) b.du (Rect.unit (s := S8x256x128) ![l.val, 0, 0] ![1, 256, 128] (inb_lane l))
/-- The other branch's two stores into the projection's gradient. -/
def otherPieces (b : Blocks) : List (View.Piece (Elt Ideal) S256x6144 .bf16) :=
  [⟨Rect.unit ![0, 1024] ![256, 1024] inb_S256x6144_S256x1024_0_1024, k0_pay27 (F := Ideal) b.daAll⟩,
    ⟨Rect.unit ![0, 0] ![256, 1024] inb_S256x6144_S256x1024_0_0,
      k0_pay26 (F := Ideal) (k0_pay20 (F := Ideal) (lane b 0)) (k0_pay21 (F := Ideal) (lane b 1)) (k0_pay22 (F := Ideal) (lane b 2)) (k0_pay23 (F := Ideal) (lane b 3)) (k0_pay24 (F := Ideal) (lane b 4))
        (k0_pay25 (F := Ideal) (lane b 5)) (lane b 6) (lane b 7)⟩]

/-! ## The tables -/

def decPieces : List (View.Piece (Elt Ideal) S4x128x128 .f32) :=
  [⟨decRect 3, decayVec (logDecay 3)⟩, ⟨decRect 2, decayVec (logDecay 2)⟩, ⟨decRect 1, decayVec (logDecay 1)⟩, ⟨decRect 0, decayVec (logDecay 0)⟩]
def rowDecPieces : List (View.Piece (Elt Ideal) S4x128x256 .f32) :=
  [⟨rowDecRect 3, rowDecayVec (logDecay 3)⟩, ⟨rowDecRect 2, rowDecayVec (logDecay 2)⟩, ⟨rowDecRect 1, rowDecayVec (logDecay 1)⟩,
    ⟨rowDecRect 0, rowDecayVec (logDecay 0)⟩]
/-- The tables read back at the first point, and from what is held at a later one. -/
def madeTables (a : View sig .tc .vmem S4x128x128 .f32) (v : View sig .tc .vmem S4x128x256 .f32) (h : Fin 4) : Tables where
  dec := a.readAt (Elt Ideal) (decRect h).toLoadRect (a.writes (Elt Ideal) a.junk decPieces)
  xi := v.readAt (Elt Ideal) (xiRect h).toLoadRect (v.writes (Elt Ideal) v.junk rowDecPieces)
  zeta := v.readAt (Elt Ideal) (zetaRect h).toLoadRect (v.writes (Elt Ideal) v.junk rowDecPieces)
def heldTables (X : Vec Ideal S4x128x128 .f32) (Y : Vec Ideal S4x128x256 .f32) (h : Fin 4) : Tables where
  dec := View.ld (Val := Elt Ideal) X (decRect h)
  xi := View.ld (Val := Elt Ideal) Y (xiRect h)
  zeta := View.ld (Val := Elt Ideal) Y (zetaRect h)

variable (m : (ℓ : Loc nD τ sig) → Buf (Elt Ideal) ℓ) (c : Dev nD) (t : Fin cfg0.N)

/-- The blocks as the body finds them in its windows. -/
abbrev found : Blocks :=
  ⟨(ms0_0 t).view.read (Elt Ideal) ((hs0_0 t).unread (iblk m c 0 t)), (ms0_1 t).view.read (Elt Ideal) ((hs0_1 t).unread (iblk m c 1 t)),
    (ms0_2 t).view.read (Elt Ideal) ((hs0_2 t).unread (iblk m c 2 t)), (ms0_3 t).view.read (Elt Ideal) ((hs0_3 t).unread (iblk m c 3 t)),
    (ms0_4 t).view.read (Elt Ideal) ((hs0_4 t).unread (iblk m c 4 t)), (ms0_5 t).view.read (Elt Ideal) ((hs0_5 t).unread (iblk m c 5 t)),
    (ms0_6 t).view.read (Elt Ideal) ((hs0_6 t).unread (iblk m c 6 t)), (ms0_7 t).view.read (Elt Ideal) ((hs0_7 t).unread (iblk m c 7 t)),
    (ms0_8 t).view.read (Elt Ideal) ((hs0_8 t).unread (iblk m c 8 t)), (ms0_9 t).view.read (Elt Ideal) ((hs0_9 t).unread (iblk m c 9 t)),
    (ms0_10 t).view.read (Elt Ideal) ((hs0_10 t).unread (iblk m c 10 t)), (ms0_11 t).view.read (Elt Ideal) ((hs0_11 t).unread (iblk m c 11 t)),
    (ms0_12 t).view.read (Elt Ideal) ((hs0_12 t).unread (iblk m c 12 t)), (ms0_13 t).view.read (Elt Ideal) ((hs0_13 t).unread (iblk m c 13 t))⟩

/-- What the point before left, as this point's body finds it: the states' cotangents, the tables and the gain's gradient. -/
abbrev prev : Vec Ideal S256x6144 .bf16 × Vec Ideal S256x1024 .bf16 × Vec Ideal S1x1024 .f32 × Vec Ideal S4x256x256 .f32 × Vec Ideal S4x128x128 .f32 × Vec Ideal S4x128x256 .f32 :=
  outsAt0 m c (t.val - 1) (Nat.lt_of_le_of_lt (Nat.sub_le _ _) t.isLt)
abbrev heldGain : Vec Ideal S1x1024 .f32 := (ms0_16 t).view.read (Elt Ideal) ((hs0_16 t).unread (prev m c t).2.2.1)
abbrev heldState : Vec Ideal S4x256x256 .f32 :=
  scM0_0.view.read (Elt Ideal) ((Memref.isWhole_whole _ : scM0_0.IsWhole).unread (prev m c t).2.2.2.1)
abbrev heldDec : Vec Ideal S4x128x128 .f32 :=
  scM0_1.view.read (Elt Ideal) ((Memref.isWhole_whole _ : scM0_1.IsWhole).unread (prev m c t).2.2.2.2.1)
abbrev heldRowDec : Vec Ideal S4x128x256 .f32 :=
  scM0_2.view.read (Elt Ideal) ((Memref.isWhole_whole _ : scM0_2.IsWhole).unread (prev m c t).2.2.2.2.2)

theorem dec_first (h : t.val % 32 = 0) : (outsAt0 m c t.val t.isLt).2.2.2.2.1
    = VS0_1.read (Elt Ideal) (VS0_1.writes (Elt Ideal) VS0_1.junk decPieces) := by
  rw [outsAt0_A m c t h]; sl_kernel_rfl
theorem rowDec_first (h : t.val % 32 = 0) : (outsAt0 m c t.val t.isLt).2.2.2.2.2
    = VS0_2.read (Elt Ideal) (VS0_2.writes (Elt Ideal) VS0_2.junk rowDecPieces) := by
  rw [outsAt0_A m c t h]; sl_kernel_rfl
theorem dec_next (h : ¬ t.val % 32 = 0) : (outsAt0 m c t.val t.isLt).2.2.2.2.1 = (prev m c t).2.2.2.2.1 := by
  rw [outsAt0_B m c t h]; rfl
theorem rowDec_next (h : ¬ t.val % 32 = 0) : (outsAt0 m c t.val t.isLt).2.2.2.2.2 = (prev m c t).2.2.2.2.2 := by
  rw [outsAt0_B m c t h]; rfl

/-- The zeros the first point writes before its stores. -/
def zeroState : List (View.Piece (Elt Ideal) S4x256x256 .f32) :=
  [⟨Rect.unit ![0, 0, 0] ![4, 256, 256] inb_S4x256x256_S4x256x256_0_0_0, k0_pay2 (F := Ideal)⟩]
def zeroGain : List (View.Piece (Elt Ideal) S1x1024 .f32) :=
  [⟨Rect.unit ![0, 0] ![1, 1024] inb_S1x1024_S1x1024_0_0, k0_pay3 (F := Ideal)⟩]

/-- The cells of a chunk at the first point and at a later one, and the states a later point's first chunk reads. -/
abbrev firstCell (k : Fin 2) : Fin 4 → Cell := (found m c t).cell (madeTables VS0_1 VS0_2) k
abbrev nextCell (k : Fin 2) : Fin 4 → Cell := (found m c t).cell (heldTables (heldDec m c t) (heldRowDec m c t)) k
abbrev nextState : Fin 4 → HeadState := fun h => View.ld (Val := Elt Ideal) (heldState m c t) (stateRect h)

/-- The states' stores of a point after its first chunk. -/
abbrev firstStores : List (View.Piece (Elt Ideal) S4x256x256 .f32) := putStates VS0_0 (firstCell m c t 1) zeroState
abbrev nextStores : List (View.Piece (Elt Ideal) S4x256x256 .f32) := storeStates (nextCell m c t 1) (nextState m c t) []

theorem branch_first (h : t.val % 32 = 0) : (outsAt0 m c t.val t.isLt).2.1
    = VO0_15.read (Elt Ideal) (VO0_15.writes (Elt Ideal) VO0_15.junk
        (branchPieces (firstCell m c t 0) 0 (branchPieces (firstCell m c t 1) 1 []))) := by
  rw [outsAt0_A m c t h]; sl_kernel_rfl

theorem branch_next (h : ¬ t.val % 32 = 0) : (outsAt0 m c t.val t.isLt).2.1
    = VO0_15.read (Elt Ideal) (VO0_15.writes (Elt Ideal) VO0_15.junk
        (branchPieces (nextCell m c t 0) 0 (branchPieces (nextCell m c t 1) 1 []))) := by
  rw [outsAt0_B m c t h]; sl_kernel_rfl

theorem state_first (h : t.val % 32 = 0) : (outsAt0 m c t.val t.isLt).2.2.2.1
    = VS0_0.read (Elt Ideal) (VS0_0.writes (Elt Ideal) VS0_0.junk (putStates VS0_0 (firstCell m c t 0) (firstStores m c t))) := by
  rw [outsAt0_A m c t h]; sl_kernel_rfl

theorem state_next (h : ¬ t.val % 32 = 0) : (outsAt0 m c t.val t.isLt).2.2.2.1
    = VS0_0.read (Elt Ideal) (VS0_0.writes (Elt Ideal) VS0_0.junk (putStates VS0_0 (nextCell m c t 0) (nextStores m c t))) := by
  rw [outsAt0_B m c t h]; sl_kernel_rfl

theorem gain_first (h : t.val % 32 = 0) : (outsAt0 m c t.val t.isLt).2.2.1
    = VO0_16.read (Elt Ideal) (VO0_16.writes (Elt Ideal) VO0_16.junk
        (putGains (ms0_16 t).view (firstCell m c t 0) (putGains (ms0_16 t).view (firstCell m c t 1) zeroGain))) := by
  rw [outsAt0_A m c t h]; sl_kernel_rfl

theorem gain_next (h : ¬ t.val % 32 = 0) : (outsAt0 m c t.val t.isLt).2.2.1
    = VO0_16.read (Elt Ideal) (VO0_16.writes (Elt Ideal) VO0_16.junk
        (putGains (ms0_16 t).view (nextCell m c t 0) (storeGains (nextCell m c t 1) (heldGain m c t) []))) := by
  rw [outsAt0_B m c t h]; sl_kernel_rfl

theorem proj_first (h : t.val % 32 = 0) : (outsAt0 m c t.val t.isLt).1
    = VO0_14.read (Elt Ideal) (VO0_14.writes (Elt Ideal) VO0_14.junk
        (chunkPieces (firstCell m c t 0) (statesAt VS0_0 (firstCell m c t 0) (firstStores m c t)) 0
          (chunkPieces (firstCell m c t 1) (statesAt VS0_0 (firstCell m c t 1) zeroState) 1 (otherPieces (found m c t))))) := by
  rw [outsAt0_A m c t h]; sl_kernel_rfl

theorem proj_next (h : ¬ t.val % 32 = 0) : (outsAt0 m c t.val t.isLt).1
    = VO0_14.read (Elt Ideal) (VO0_14.writes (Elt Ideal) VO0_14.junk
        (chunkPieces (nextCell m c t 0) (statesAt VS0_0 (nextCell m c t 0) (nextStores m c t)) 0
          (chunkPieces (nextCell m c t 1) (nextState m c t) 1 (otherPieces (found m c t))))) := by
  rw [outsAt0_B m c t h]; sl_kernel_rfl

end Cert.Ret

end
-- ==== Proof.RetState.lean ====
module

public import proofs.«01_k».proof.Proof.RetPoint
public import Idealize.ShloMosaic.Lib.Pipeline.ValueKit
public import Idealize.ShloMosaic.Lib.Pipeline.ReadBack

/-! Retention's backward call: the tables are the same at every point, a head's state passes from chunk to chunk, and what
    the windows hold after a point follows from the states at its entry. -/

@[expose] public section

set_option maxRecDepth 16384

noncomputable section

namespace Cert.Ret

open Cert.Kernel4Ideal Cert.Kernel4Ideal.Gen Idealize.ShloMosaic Idealize.ShloMosaic.TcCoe Idealize.SL.Sem

/-! ## Reading a head's part behind stores into the heads' parts -/

theorem disj_state : ∀ h h' : Fin 4, h ≠ h' → LoadRect.disj (stateRect h) (stateRect h').toLoadRect = true := by decide
theorem disj_gain : ∀ h h' : Fin 4, h ≠ h' → LoadRect.disj (gainRect h) (gainRect h').toLoadRect = true := by decide

section Generic

variable {S : Shape} {e : EltTy} (a : View sig .tc .vmem S e)

theorem read_hit (q : Rect S) (w : q.shape.Idx → Elt Ideal e) (L : List (View.Piece (Elt Ideal) S e)) :
    a.readAt (Elt Ideal) q.toLoadRect (a.writes (Elt Ideal) a.junk (⟨q, w⟩ :: L)) = w :=
  View.readCov_cons_toLoadRect a q w L
theorem read_skip (q q' : Rect S) (w : q.shape.Idx → Elt Ideal e) (L : List (View.Piece (Elt Ideal) S e))
    (hd : LoadRect.disj q q'.toLoadRect = true) :
    a.readAt (Elt Ideal) q'.toLoadRect (a.writes (Elt Ideal) a.junk (⟨q, w⟩ :: L))
      = a.readAt (Elt Ideal) q'.toLoadRect (a.writes (Elt Ideal) a.junk L) := View.readCov_skip a q w L q'.toLoadRect hd
theorem read_canon (q : Rect S) (L : List (View.Piece (Elt Ideal) S e)) :
    a.readAt (Elt Ideal) q.toLoadRect (a.writes (Elt Ideal) a.junk L) = View.ld (View.canon L : S.Idx → Elt Ideal e) q :=
  View.readCov_eq_canon' a L q.toLoadRect

end Generic

section Lists

variable (a : View sig .tc .vmem S4x256x256 .f32) (b : View sig .tc .vmem S1x1024 .f32) (K : Fin 4 → Cell)

theorem stateAt_skip (h h' : Fin 4) (hne : h ≠ h') (w) (L) : stateAt a (⟨stateRect h, w⟩ :: L) h' = stateAt a L h' :=
  read_skip a (stateRect h) (stateRect h') w L (disj_state h h' hne)
theorem stateAt_hit (h : Fin 4) (w) (L) : stateAt a (⟨stateRect h, w⟩ :: L) h = w := read_hit a (stateRect h) w L

theorem statesAt_one (w0) (L) : stateAt a (⟨stateRect 0, w0⟩ :: L) 1 = stateAt a L 1 := stateAt_skip a 0 1 (by decide) _ _
theorem statesAt_two (w0 w1) (L) : stateAt a (⟨stateRect 1, w1⟩ :: ⟨stateRect 0, w0⟩ :: L) 2 = stateAt a L 2 :=
  (stateAt_skip a 1 2 (by decide) _ _).trans (stateAt_skip a 0 2 (by decide) _ _)
theorem statesAt_three (w0 w1 w2) (L) : stateAt a (⟨stateRect 2, w2⟩ :: ⟨stateRect 1, w1⟩ :: ⟨stateRect 0, w0⟩ :: L) 3 = stateAt a L 3 :=
  ((stateAt_skip a 2 3 (by decide) _ _).trans (stateAt_skip a 1 3 (by decide) _ _)).trans (stateAt_skip a 0 3 (by decide) _ _)
theorem statesAt_eq (L) : statesAt a K L = fun h => stateAt a L h :=
  funext fun h => match h with
    | 0 => rfl
    | 1 => statesAt_one a _ L
    | 2 => statesAt_two a _ _ L
    | 3 => statesAt_three a _ _ _ L
theorem putStates_eq (L) : putStates a K L = storeStates K (fun h => stateAt a L h) L := by
  simp only [putStates, putState, storeStates, statesAt_one, statesAt_two, statesAt_three]

variable (G : Fin 4 → HeadState)

theorem stateAt_store (L) (h : Fin 4) : stateAt a (storeStates K G L) h = (K h).stepBack (chunkDecay h) (G h) := by
  fin_cases h <;> unfold storeStates
  · exact (((stateAt_skip a 3 0 (by decide) _ _).trans (stateAt_skip a 2 0 (by decide) _ _)).trans
      (stateAt_skip a 1 0 (by decide) _ _)).trans (stateAt_hit a 0 _ _)
  · exact ((stateAt_skip a 3 1 (by decide) _ _).trans (stateAt_skip a 2 1 (by decide) _ _)).trans (stateAt_hit a 1 _ _)
  · exact (stateAt_skip a 3 2 (by decide) _ _).trans (stateAt_hit a 2 _ _)
  · exact stateAt_hit a 3 _ _
/-- A head's part of the states after a chunk's four stores. -/
theorem ld_store (L) (h : Fin 4) : View.ld (View.canon (storeStates K G L) : Vec Ideal S4x256x256 .f32) (stateRect h)
    = (K h).stepBack (chunkDecay h) (G h) :=
  (read_canon VS0_0 (stateRect h) _).symm.trans (stateAt_store VS0_0 K G L h)
theorem stateAt_zero (h : Fin 4) : stateAt a zeroState h = fun _ => (0 : EReal) := by
  refine (read_canon a (stateRect h) _).trans ?_
  have e : (View.canon zeroState : Vec Ideal S4x256x256 .f32) = k0_pay2 (F := Ideal) := by
    unfold zeroState; exact View.canon_cons_unit_lit' _ _ _ (by decide)
  rw [e]
  funext x
  show (Scalar.ofBits .f32 0x00000000#32 : Ideal .f32) = 0
  exact Ideal.ofBits_zero_f32

/-! The gain's gradient the same way. -/

theorem putGains_eq (L) : putGains b K L = storeGains K (View.canon L : Vec Ideal S1x1024 .f32) L := by
  have e : ∀ (h h' : Fin 4), h ≠ h' → ∀ (w) (L' : List (View.Piece (Elt Ideal) S1x1024 .f32)),
      b.readAt (Elt Ideal) (gainRect h').toLoadRect (b.writes (Elt Ideal) b.junk (⟨gainRect h, w⟩ :: L'))
        = b.readAt (Elt Ideal) (gainRect h').toLoadRect (b.writes (Elt Ideal) b.junk L') :=
    fun h h' hne w L' => read_skip b (gainRect h) (gainRect h') w L' (disj_gain h h' hne)
  have e0 : ∀ h : Fin 4, b.readAt (Elt Ideal) (gainRect h).toLoadRect (b.writes (Elt Ideal) b.junk L)
      = View.ld (View.canon L : Vec Ideal S1x1024 .f32) (gainRect h) := fun h => read_canon b (gainRect h) L
  simp only [putGains, putGain, storeGains]
  rw [e 2 3 (by decide), e 1 3 (by decide), e 0 3 (by decide), e 1 2 (by decide), e 0 2 (by decide), e 0 1 (by decide), e0, e0, e0, e0]

/-- A head's part of the gain's gradient after a chunk's four stores. -/
theorem ld_gains (X : Vec Ideal S1x1024 .f32) (L) (h : Fin 4) :
    View.ld (View.canon (storeGains K X L) : Vec Ideal S1x1024 .f32) (gainRect h)
      = (K h).addGain (View.ld (Val := Elt Ideal) X (gainRect h)) := by
  refine (read_canon VO0_16 (gainRect h) _).symm.trans ?_
  have e : ∀ (h h' : Fin 4), h ≠ h' → ∀ (w) (L' : List (View.Piece (Elt Ideal) S1x1024 .f32)),
      VO0_16.readAt (Elt Ideal) (gainRect h').toLoadRect (VO0_16.writes (Elt Ideal) VO0_16.junk (⟨gainRect h, w⟩ :: L'))
        = VO0_16.readAt (Elt Ideal) (gainRect h').toLoadRect (VO0_16.writes (Elt Ideal) VO0_16.junk L') :=
    fun h h' hne w L' => read_skip VO0_16 (gainRect h) (gainRect h') w L' (disj_gain h h' hne)
  fin_cases h <;> unfold storeGains
  · exact (((e 3 0 (by decide) _ _).trans (e 2 0 (by decide) _ _)).trans (e 1 0 (by decide) _ _)).trans (read_hit VO0_16 (gainRect 0) _ _)
  · exact ((e 3 1 (by decide) _ _).trans (e 2 1 (by decide) _ _)).trans (read_hit VO0_16 (gainRect 1) _ _)
  · exact (e 3 2 (by decide) _ _).trans (read_hit VO0_16 (gainRect 2) _ _)
  · exact read_hit VO0_16 (gainRect 3) _ _

end Lists

/-! ## The tables -/

/-- The tables every point works with. -/
abbrev theTables : Fin 4 → Tables :=
  heldTables (View.canon decPieces : Vec Ideal S4x128x128 .f32) (View.canon rowDecPieces : Vec Ideal S4x128x256 .f32)
theorem madeTables_eq (a : View sig .tc .vmem S4x128x128 .f32) (v : View sig .tc .vmem S4x128x256 .f32) : madeTables a v = theTables := by
  funext h
  simp only [madeTables, theTables, heldTables, read_canon]

variable (m : (ℓ : Loc nD τ sig) → Buf (Elt Ideal) ℓ) (c : Dev nD)

theorem tables_at (t : Fin cfg0.N) : (outsAt0 m c t.val t.isLt).2.2.2.2.1 = (View.canon decPieces : Vec Ideal S4x128x128 .f32)
    ∧ (outsAt0 m c t.val t.isLt).2.2.2.2.2 = (View.canon rowDecPieces : Vec Ideal S4x128x256 .f32) := by
  obtain ⟨n, hn⟩ := t
  induction n with
  | zero => exact ⟨(dec_first m c ⟨0, hn⟩ rfl).trans (View.read_writes_junk_eq_canon ..),
      (rowDec_first m c ⟨0, hn⟩ rfl).trans (View.read_writes_junk_eq_canon ..)⟩
  | succ k ih =>
    have hk : k + 1 < 32 := hn
    have h : ¬ (⟨k + 1, hn⟩ : Fin cfg0.N).val % 32 = 0 := by show ¬ (k + 1) % 32 = 0; omega
    have ih' := ih (by show k < cfg0.N; exact Nat.lt_of_succ_lt hn)
    exact ⟨(dec_next m c ⟨k + 1, hn⟩ h).trans ih'.1, (rowDec_next m c ⟨k + 1, hn⟩ h).trans ih'.2⟩

/-- The cells of one of a point's two chunks. -/
abbrev cells (t : Fin cfg0.N) (k : Fin 2) : Fin 4 → Cell := (found m c t).cell theTables k

theorem firstCell_eq (t : Fin cfg0.N) (k : Fin 2) : firstCell m c t k = cells m c t k := by
  unfold firstCell cells
  rw [madeTables_eq]
theorem nextCell_eq (t : Fin cfg0.N) (h : ¬ t.val % 32 = 0) (k : Fin 2) : nextCell m c t k = cells m c t k := by
  have e := tables_at m c ⟨t.val - 1, Nat.lt_of_le_of_lt (Nat.sub_le _ _) t.isLt⟩
  have e1 : heldDec m c t = View.canon decPieces := (Memref.IsWhole.read_unread _ _).trans e.1
  have e2 : heldRowDec m c t = View.canon rowDecPieces := (Memref.IsWhole.read_unread _ _).trans e.2
  unfold nextCell cells
  rw [e1, e2]

/-! ## What a point leaves, from the states at its entry -/

/-- The heads' states as the first point and a later one find them. -/
def entry (t : Fin cfg0.N) (h : Fin 4) : HeadState :=
  if t.val % 32 = 0 then fun _ => (0 : EReal) else View.ld (Val := Elt Ideal) ((prev m c t).2.2.2.1 : Vec Ideal S4x256x256 .f32) (stateRect h)
/-- And after the later of the point's two chunks. -/
def between (t : Fin cfg0.N) (h : Fin 4) : HeadState := (cells m c t 1 h).stepBack (chunkDecay h) (entry m c t h)

theorem nextState_eq (t : Fin cfg0.N) (h : ¬ t.val % 32 = 0) : nextState m c t = entry m c t := by
  funext k
  have e : heldState m c t = (prev m c t).2.2.2.1 := Memref.IsWhole.read_unread _ _
  unfold nextState entry
  rw [if_neg h, e]
theorem firstState_eq (t : Fin cfg0.N) (h : t.val % 32 = 0) : (fun k => stateAt VS0_0 zeroState k) = entry m c t := by
  funext k
  unfold entry
  rw [if_pos h, stateAt_zero]

theorem firstStores_at (t : Fin cfg0.N) (h : t.val % 32 = 0) :
    firstStores m c t = storeStates (cells m c t 1) (entry m c t) zeroState := by
  unfold firstStores
  rw [putStates_eq, firstCell_eq, firstState_eq m c t h]
theorem nextStores_at (t : Fin cfg0.N) (h : ¬ t.val % 32 = 0) :
    nextStores m c t = storeStates (cells m c t 1) (entry m c t) [] := by
  unfold nextStores
  rw [nextCell_eq m c t h, nextState_eq m c t h]

theorem between_at (t : Fin cfg0.N) (L) : (fun k => stateAt VS0_0 (storeStates (cells m c t 1) (entry m c t) L) k) = between m c t :=
  funext fun k => stateAt_store VS0_0 _ _ L k

theorem state_point (t : Fin cfg0.N) (h : Fin 4) :
    View.ld (Val := Elt Ideal) ((outsAt0 m c t.val t.isLt).2.2.2.1 : Vec Ideal S4x256x256 .f32) (stateRect h)
      = (cells m c t 0 h).stepBack (chunkDecay h) (between m c t h) := by
  by_cases ht : t.val % 32 = 0
  · rw [state_first m c t ht, View.read_writes_junk_eq_canon, putStates_eq, firstCell_eq, firstStores_at m c t ht, between_at]
    exact ld_store _ _ _ h
  · rw [state_next m c t ht, View.read_writes_junk_eq_canon, putStates_eq, nextCell_eq m c t ht, nextStores_at m c t ht, between_at]
    exact ld_store _ _ _ h

theorem proj_point (t : Fin cfg0.N) : (outsAt0 m c t.val t.isLt).1 = (View.canon (chunkPieces (cells m c t 0) (between m c t) 0
    (chunkPieces (cells m c t 1) (entry m c t) 1 (otherPieces (found m c t)))) : Vec Ideal S256x6144 .bf16) := by
  by_cases ht : t.val % 32 = 0
  · rw [proj_first m c t ht, View.read_writes_junk_eq_canon, statesAt_eq, statesAt_eq, firstCell_eq, firstCell_eq,
      firstStores_at m c t ht, between_at, firstState_eq m c t ht]
  · rw [proj_next m c t ht, View.read_writes_junk_eq_canon, statesAt_eq, nextCell_eq m c t ht, nextCell_eq m c t ht,
      nextStores_at m c t ht, between_at, nextState_eq m c t ht]

theorem branch_point (t : Fin cfg0.N) : (outsAt0 m c t.val t.isLt).2.1
    = (View.canon (branchPieces (cells m c t 0) 0 (branchPieces (cells m c t 1) 1 [])) : Vec Ideal S256x1024 .bf16) := by
  by_cases ht : t.val % 32 = 0
  · rw [branch_first m c t ht, View.read_writes_junk_eq_canon, firstCell_eq, firstCell_eq]
  · rw [branch_next m c t ht, View.read_writes_junk_eq_canon, nextCell_eq m c t ht, nextCell_eq m c t ht]

/-- The gain's gradient as a point finds it. -/
def gainEntry (t : Fin cfg0.N) : Vec Ideal S1x1024 .f32 := if t.val % 32 = 0 then fun _ => (0 : EReal) else (prev m c t).2.2.1

theorem gain_point (t : Fin cfg0.N) (h : Fin 4) :
    View.ld (Val := Elt Ideal) ((outsAt0 m c t.val t.isLt).2.2.1 : Vec Ideal S1x1024 .f32) (gainRect h)
      = (cells m c t 0 h).addGain ((cells m c t 1 h).addGain (View.ld (Val := Elt Ideal) (gainEntry m c t) (gainRect h))) := by
  by_cases ht : t.val % 32 = 0
  · have e : (View.canon zeroGain : Vec Ideal S1x1024 .f32) = fun _ => (0 : EReal) := by
      unfold zeroGain
      refine (View.canon_cons_unit_lit' _ _ _ (by decide)).trans (funext fun x => ?_)
      show (Scalar.ofBits .f32 0x00000000#32 : Ideal .f32) = 0
      exact Ideal.ofBits_zero_f32
    rw [gain_first m c t ht, View.read_writes_junk_eq_canon, putGains_eq, putGains_eq, firstCell_eq, firstCell_eq, e, ld_gains, ld_gains]
    unfold gainEntry
    rw [if_pos ht]
  · have e : heldGain m c t = (prev m c t).2.2.1 := Memref.IsWhole.read_unread _ _
    rw [gain_next m c t ht, View.read_writes_junk_eq_canon, putGains_eq, nextCell_eq m c t ht, nextCell_eq m c t ht, e, ld_gains, ld_gains]
    unfold gainEntry
    rw [if_neg ht]

end Cert.Ret

end
-- ==== Proof.RetSpec.lean ====
module

public import proofs.«01_k».proof.Proof.Activations
public import proofs.«01_k».proof.Proof.NormGrad

/-! Retention's backward call in closed form. A head's part of a chunk of 128 rows: the rotated queries and keys, the values,
    the rows before the norm, the scores, the state before the chunk, and the gate. The state's cotangent behind the chunk is
    `G`. -/

@[expose] public section

noncomputable section

namespace Cert.Ret

open Idealize.ShloMosaic Cert.Activations Cert.NormGrad

/-- The width of a head, the norm's epsilon and the keys' scale. -/
abbrev headWidth : EReal := Ideal.ofBits .f32 0x43800000#32
abbrev eps : EReal := Ideal.ofBits .f32 0x358637BD#32
abbrev keyScale : EReal := Ideal.ofBits .f32 0x3D800000#32

abbrev Wide := Fin 128 → Fin 256 → EReal
abbrev Sq := Fin 128 → Fin 128 → EReal
abbrev State := Fin 256 → Fin 256 → EReal

/-- The rotation by the angles of a row's position, and the rotation back. -/
def rotate (cos sin : Sq) (x : Wide) (a : Fin 128) (k : Fin 256) : EReal :=
  if h : k.val < 128 then x a ⟨k.val, by omega⟩ * cos a ⟨k.val, h⟩ - x a ⟨128 + k.val, by omega⟩ * sin a ⟨k.val, h⟩
  else x a ⟨k.val - 128, by omega⟩ * sin a ⟨k.val - 128, by omega⟩ + x a ⟨128 + (k.val - 128), by omega⟩ * cos a ⟨k.val - 128, by omega⟩
def rotateBack (cos sin : Sq) (x : Wide) (a : Fin 128) (k : Fin 256) : EReal :=
  if h : k.val < 128 then x a ⟨k.val, by omega⟩ * cos a ⟨k.val, h⟩ + x a ⟨128 + k.val, by omega⟩ * sin a ⟨k.val, h⟩
  else x a ⟨128 + (k.val - 128), by omega⟩ * cos a ⟨k.val - 128, by omega⟩ - x a ⟨k.val - 128, by omega⟩ * sin a ⟨k.val - 128, by omega⟩

/-- A head's part of a chunk. -/
structure Head where
  q : Wide
  k : Wide
  v : Wide
  o : Wide
  z : Wide
  cot : Wide
  cos : Sq
  sin : Sq
  dec : Sq
  score : Sq
  before : State
  gain : Fin 256 → EReal
  xi : Fin 128 → EReal
  zeta : Fin 128 → EReal

namespace Head

variable (x : Head)

def qr : Wide := rotate x.cos x.sin x.q
def kr (a : Fin 128) (k : Fin 256) : EReal := rotate x.cos x.sin x.k a k * keyScale

/-! The norm, the gain and the gate, forward and backward. -/

def ctr (a : Fin 128) (j : Fin 256) : EReal := x.o a j - Ideal.div (∑ i, x.o a i) headWidth
def rstd (a : Fin 128) : EReal := invRms headWidth eps (x.ctr a)
def normed (a : Fin 128) (j : Fin 256) : EReal := x.ctr a j * x.rstd a
def out (a : Fin 128) (j : Fin 256) : EReal := x.normed a j * x.gain j
def branch (a : Fin 128) (j : Fin 256) : EReal := x.out a j * silu (x.z a j)
def dGate (a : Fin 128) (j : Fin 256) : EReal := x.cot a j * x.out a j * siluSlope (x.z a j)
def dOut (a : Fin 128) (j : Fin 256) : EReal := x.cot a j * silu (x.z a j)
def gainTerm (j : Fin 256) : EReal := ∑ a, x.dOut a j * x.normed a j
def dNormed (a : Fin 128) (j : Fin 256) : EReal := x.dOut a j * x.gain j
def dO (a : Fin 128) (j : Fin 256) : EReal :=
  x.rstd a * (x.dNormed a j - Ideal.div (∑ i, x.dNormed a i) headWidth
    - x.normed a j * Ideal.div (∑ i, x.dNormed a i * x.normed a i) headWidth)

/-! The retention itself, backward. -/

def dScore (a b : Fin 128) : EReal := (∑ j, x.dO a j * x.v b j) * x.dec a b
def dV (G : State) (b : Fin 128) (j : Fin 256) : EReal := ∑ a, x.score a b * x.dO a j + ∑ i, x.kr b i * x.zeta b * G i j
def dQr (a : Fin 128) (i : Fin 256) : EReal := ∑ b, x.dScore a b * x.kr b i + (∑ j, x.dO a j * x.before i j) * x.xi a
def dKr (G : State) (b : Fin 128) (i : Fin 256) : EReal := ∑ a, x.dScore a b * x.qr a i + (∑ j, x.v b j * G i j) * x.zeta b
def dQ : Wide := rotateBack x.cos x.sin x.dQr
def dK (G : State) (b : Fin 128) (i : Fin 256) : EReal := rotateBack x.cos x.sin (x.dKr G) b i * keyScale
/-- What a chunk adds to the cotangent of the state before it. -/
def stateTerm (i j : Fin 256) : EReal := ∑ a, x.qr a i * x.xi a * x.dO a j

end Head

end Cert.Ret

end
-- ==== Proof.RetModel.lean ====
module

public import proofs.«01_k».proof.Proof.RetSpec
public import proofs.«01_k».proof.Proof.Gen.Reference4Ideal.Read
public import Idealize.ShloMosaic.Lib.Pointwise
public import Idealize.ShloMosaic.Lib.Claim

/-! Retention's backward call over the whole arrays: each chunk's and head's part, the state's cotangent carried from the
    last chunk to the first, and the three results. -/

@[expose] public section

noncomputable section

namespace Cert.Ret

open Idealize.ShloMosaic Cert.Reference4Ideal

/-- A head's logarithm of the decay per row: the decay is one less a power of a half. -/
def lg (h : Fin 4) : ℝ :=
  match h with
  | 0 => Real.log (31 / 32)
  | 1 => Real.log (63 / 64)
  | 2 => Real.log (127 / 128)
  | 3 => Real.log (255 / 256)

/-- The decay over `n` rows, and over a chunk. -/
def decayBy (h : Fin 4) (n : ℝ) : EReal := ((Real.exp (lg h * n) : ℝ) : EReal)
def γ (h : Fin 4) : EReal := decayBy h 128

/-- Row `a` of chunk `n`, column `j` of head `h`, and that column in the projection's part `p`. -/
abbrev rowAt (n : Fin 64) (a : Fin 128) : Fin 8192 := ⟨128 * n.val + a.val, by omega⟩
abbrev colAt (h : Fin 4) (j : Fin 256) : Fin 1024 := ⟨256 * h.val + j.val, by omega⟩
abbrev partAt (p : Fin 4) (h : Fin 4) (j : Fin 256) : Fin 6144 := ⟨2048 + 1024 * p.val + (256 * h.val + j.val), by omega⟩

theorem row_split (r : Fin 8192) : ∃ n a, r = rowAt n a :=
  ⟨⟨r.val / 128, by omega⟩, ⟨r.val % 128, by omega⟩, Fin.ext (by simp only; omega)⟩
theorem col_split (q : Fin 1024) : ∃ h j, q = colAt h j :=
  ⟨⟨q.val / 256, by omega⟩, ⟨q.val % 256, by omega⟩, Fin.ext (by simp only; omega)⟩

/-- The arrays: the projection, the gain, the residual's cotangent, the output projection, and the other branch's two
    cotangents. -/
structure In where
  p : FVec Ideal S8192x6144 .f32
  gain : FVec Ideal S1x1024 .f32
  dx : FVec Ideal S8192x1024 .f32
  w : FVec Ideal S2048x1024 .f32
  du : FVec Ideal S8192x1024 .f32
  da : FVec Ideal S8192x1024 .f32

/-- One of the four gradients a head sends into the projection. -/
def Head.grad (x : Head) (G : State) (p : Fin 4) : Wide :=
  match p with
  | 0 => x.dQ
  | 1 => x.dK G
  | 2 => x.dV G
  | 3 => x.dGate

namespace In

variable (x : In)

/-- Head `h`'s part of chunk `n`. -/
def head (n : Fin 64) (h : Fin 4) : Head where
  q a j := x.p (ix2 (rowAt n a) (partAt 0 h j))
  k a j := x.p (ix2 (rowAt n a) (partAt 1 h j))
  v a j := x.p (ix2 (rowAt n a) (partAt 2 h j))
  z a j := x.p (ix2 (rowAt n a) (partAt 3 h j))
  o a j := Read.val_main_v144 (F := Ideal) x.p (ix3 (rowAt n a) h j)
  cot a j := ∑ k : Fin 1024, x.dx (ix2 (rowAt n a) k) * x.w (ix2 ⟨1024 + (colAt h j).val, by omega⟩ k)
  cos a j := Read.val_main_v17 (F := Ideal) (ix2 (rowAt n a) j)
  sin a j := Read.val_main_v19 (F := Ideal) (ix2 (rowAt n a) j)
  dec a b := if b.val ≤ a.val then decayBy h ((a.val : ℝ) - b.val) else 0
  score a b := Read.val_main_v104 (F := Ideal) x.p (ix4 n h a b)
  before i j := Read.val_main_v137 (F := Ideal) x.p (ix4 n h i j)
  gain j := x.gain (ix2 0 (colAt h j))
  xi a := decayBy h ((a.val : ℝ) + 1)
  zeta b := decayBy h (127 - (b.val : ℝ))

/-! Its fields. -/

theorem head_q (n : Fin 64) (h : Fin 4) (a : Fin 128) (j : Fin 256) : (x.head n h).q a j = x.p (ix2 (rowAt n a) (partAt 0 h j)) := by
  simp only [head]
theorem head_k (n : Fin 64) (h : Fin 4) (a : Fin 128) (j : Fin 256) : (x.head n h).k a j = x.p (ix2 (rowAt n a) (partAt 1 h j)) := by
  simp only [head]
theorem head_v (n : Fin 64) (h : Fin 4) (a : Fin 128) (j : Fin 256) : (x.head n h).v a j = x.p (ix2 (rowAt n a) (partAt 2 h j)) := by
  simp only [head]
theorem head_z (n : Fin 64) (h : Fin 4) (a : Fin 128) (j : Fin 256) : (x.head n h).z a j = x.p (ix2 (rowAt n a) (partAt 3 h j)) := by
  simp only [head]
theorem head_o (n : Fin 64) (h : Fin 4) (a : Fin 128) (j : Fin 256) : (x.head n h).o a j = Read.val_main_v144 (F := Ideal) x.p (ix3 (rowAt n a) h j) := by
  simp only [head]
theorem head_cos (n : Fin 64) (h : Fin 4) (a j : Fin 128) : (x.head n h).cos a j = Read.val_main_v17 (F := Ideal) (ix2 (rowAt n a) j) := by
  simp only [head]
theorem head_sin (n : Fin 64) (h : Fin 4) (a j : Fin 128) : (x.head n h).sin a j = Read.val_main_v19 (F := Ideal) (ix2 (rowAt n a) j) := by
  simp only [head]
theorem head_dec (n : Fin 64) (h : Fin 4) (a b : Fin 128) : (x.head n h).dec a b = if b.val ≤ a.val then decayBy h ((a.val : ℝ) - b.val) else 0 := by
  simp only [head]
theorem head_score (n : Fin 64) (h : Fin 4) (a b : Fin 128) : (x.head n h).score a b = Read.val_main_v104 (F := Ideal) x.p (ix4 n h a b) := by
  simp only [head]
theorem head_before (n : Fin 64) (h : Fin 4) (i j : Fin 256) : (x.head n h).before i j = Read.val_main_v137 (F := Ideal) x.p (ix4 n h i j) := by
  simp only [head]
theorem head_gain (n : Fin 64) (h : Fin 4) (j : Fin 256) : (x.head n h).gain j = x.gain (ix2 0 (colAt h j)) := by
  simp only [head]
theorem head_xi (n : Fin 64) (h : Fin 4) (a : Fin 128) : (x.head n h).xi a = decayBy h ((a.val : ℝ) + 1) := by
  simp only [head]
theorem head_zeta (n : Fin 64) (h : Fin 4) (b : Fin 128) : (x.head n h).zeta b = decayBy h (127 - (b.val : ℝ)) := by
  simp only [head]
theorem head_cot (n : Fin 64) (h : Fin 4) (a : Fin 128) (j : Fin 256) : (x.head n h).cot a j = ∑ k : Fin 1024, x.dx (ix2 (rowAt n a) k) * x.w (ix2 ⟨1024 + (colAt h j).val, by omega⟩ k) := by
  simp only [head]

/-- The state's cotangent after the last `s` chunks, and behind chunk `n`. -/
def carried (h : Fin 4) : ℕ → State
  | 0 => fun _ _ => 0
  | s + 1 => fun i j => carried h s i j * γ h + (x.head ⟨63 - s, by omega⟩ h).stateTerm i j
def behind (n : Fin 64) (h : Fin 4) : State := x.carried h (63 - n.val)

/-- The projection's gradient. -/
def gradP : FVec Ideal S8192x6144 .f32 := fun i =>
  let n : Fin 64 := ⟨(i 0).val / 128, Nat.div_lt_of_lt_mul (i 0).isLt⟩
  let a : Fin 128 := ⟨(i 0).val % 128, Nat.mod_lt _ (by decide)⟩
  if h0 : (i 1).val < 1024 then x.du (ix2 (i 0) ⟨(i 1).val, h0⟩)
  else if h1 : (i 1).val < 2048 then x.da (ix2 (i 0) ⟨(i 1).val - 1024, by omega⟩)
  else
    let p : Fin 4 := ⟨((i 1).val - 2048) / 1024, by have h : (i 1).val < 6144 := (i 1).isLt; omega⟩
    let h : Fin 4 := ⟨((i 1).val - 2048) % 1024 / 256, by omega⟩
    let j : Fin 256 := ⟨(i 1).val % 256, Nat.mod_lt _ (by decide)⟩
    (x.head n h).grad (x.behind n h) p a j
/-- The branch. -/
def unit : FVec Ideal S8192x1024 .f32 := fun i =>
  (x.head ⟨(i 0).val / 128, Nat.div_lt_of_lt_mul (i 0).isLt⟩ ⟨(i 1).val / 256, Nat.div_lt_of_lt_mul (i 1).isLt⟩).branch
    ⟨(i 0).val % 128, Nat.mod_lt _ (by decide)⟩ ⟨(i 1).val % 256, Nat.mod_lt _ (by decide)⟩
/-- The gain's gradient. -/
def gradGain : FVec Ideal S1x1024 .f32 := fun i =>
  ∑ n, (x.head n ⟨(i 1).val / 256, Nat.div_lt_of_lt_mul (i 1).isLt⟩).gainTerm ⟨(i 1).val % 256, Nat.mod_lt _ (by decide)⟩

theorem gradP_at (n : Fin 64) (a : Fin 128) (p h : Fin 4) (j : Fin 256) :
    x.gradP (ix2 (rowAt n a) (partAt p h j)) = (x.head n h).grad (x.behind n h) p a j := by
  have e0 : ¬ 2048 + 1024 * p.val + (256 * h.val + j.val) < 1024 := by omega
  have e1 : ¬ 2048 + 1024 * p.val + (256 * h.val + j.val) < 2048 := by omega
  have en : (128 * n.val + a.val) / 128 = n.val := by omega
  have ea : (128 * n.val + a.val) % 128 = a.val := by omega
  have ep : (2048 + 1024 * p.val + (256 * h.val + j.val) - 2048) / 1024 = p.val := by omega
  have eh : (2048 + 1024 * p.val + (256 * h.val + j.val) - 2048) % 1024 / 256 = h.val := by omega
  have ej : (2048 + 1024 * p.val + (256 * h.val + j.val)) % 256 = j.val := by omega
  unfold gradP
  simp only [ix2_0, ix2_1, dif_neg e0, dif_neg e1, en, ea, ep, eh, ej, Fin.eta]
theorem gradP_du (r : Fin 8192) (q : Fin 1024) : x.gradP (ix2 r ⟨q.val, by omega⟩) = x.du (ix2 r q) := by
  unfold gradP
  simp only [ix2_0, ix2_1, Fin.eta]
  exact dif_pos q.isLt
theorem gradP_da (r : Fin 8192) (q : Fin 1024) : x.gradP (ix2 r ⟨1024 + q.val, by omega⟩) = x.da (ix2 r q) := by
  have e0 : ¬ 1024 + q.val < 1024 := by omega
  have e1 : 1024 + q.val < 2048 := by omega
  unfold gradP
  simp only [ix2_0, ix2_1, dif_neg e0, dif_pos e1, Nat.add_sub_cancel_left, Fin.eta]
theorem unit_at (n : Fin 64) (a : Fin 128) (h : Fin 4) (j : Fin 256) :
    x.unit (ix2 (rowAt n a) (colAt h j)) = (x.head n h).branch a j := by
  have en : (128 * n.val + a.val) / 128 = n.val := by omega
  have ea : (128 * n.val + a.val) % 128 = a.val := by omega
  have eh : (256 * h.val + j.val) / 256 = h.val := by omega
  have ej : (256 * h.val + j.val) % 256 = j.val := by omega
  unfold unit
  simp only [ix2_0, ix2_1, en, ea, eh, ej, Fin.eta]
theorem gradGain_at (h : Fin 4) (j : Fin 256) : x.gradGain (ix2 0 (colAt h j)) = ∑ n, (x.head n h).gainTerm j := by
  have eh : (256 * h.val + j.val) / 256 = h.val := by omega
  have ej : (256 * h.val + j.val) % 256 = j.val := by omega
  unfold gradGain
  simp only [ix2_1, eh, ej, Fin.eta]

/-- A column of the projection belongs to the other branch's two parts or to a head's part. -/
theorem column (q : Fin 6144) : (∃ k : Fin 1024, q = ⟨k.val, by omega⟩) ∨ (∃ k : Fin 1024, q = ⟨1024 + k.val, by omega⟩)
    ∨ ∃ p h j, q = partAt p h j := by
  by_cases h0 : q.val < 1024
  · exact .inl ⟨⟨q.val, h0⟩, rfl⟩
  by_cases h1 : q.val < 2048
  · exact .inr (.inl ⟨⟨q.val - 1024, by omega⟩, Fin.ext (by simp only; omega)⟩)
  · exact .inr (.inr ⟨⟨(q.val - 2048) / 1024, by omega⟩, ⟨(q.val - 2048) % 1024 / 256, by omega⟩, ⟨q.val % 256, by omega⟩,
      Fin.ext (by simp only; omega)⟩)

end In

end Cert.Ret

end
-- ==== Proof.RetTable.lean ====
module

public import proofs.«01_k».proof.Proof.RetState
public import proofs.«01_k».proof.Proof.RetModel
public import proofs.«01_k».proof.Proof.RealValues
public import Idealize.ShloMosaic.Lib.WordCmp

/-! Retention's backward call: reading a part of an array behind many stores into disjoint parts, and the kernel's tables,
    element by element. -/

@[expose] public section

set_option maxRecDepth 16384

noncomputable section

namespace Cert.Ret

open Cert.Kernel4Ideal Cert.Kernel4Ideal.Gen Idealize.ShloMosaic Idealize.ShloMosaic.TcCoe Idealize.SL.Sem
open Cert.RealValues

/-! ## Stores into disjoint parts -/

section Parts

variable {S : Shape} {e : EltTy} (a : View sig .tc .vmem S e) {ι : Type} [DecidableEq ι] (R : ι → Rect S)
  (w : ∀ i, (R i).shape.Idx → Elt Ideal e)

/-- The stores of the parts in the list, the first last. -/
def stores (l : List ι) : List (View.Piece (Elt Ideal) S e) := l.map fun i => ⟨R i, w i⟩

theorem read_stores_skip (Q : Rect S) (l : List ι) (hd : ∀ i ∈ l, LoadRect.disj (R i) Q.toLoadRect = true)
    (L : List (View.Piece (Elt Ideal) S e)) :
    a.readAt (Elt Ideal) Q.toLoadRect (a.writes (Elt Ideal) a.junk (stores R w l ++ L))
      = a.readAt (Elt Ideal) Q.toLoadRect (a.writes (Elt Ideal) a.junk L) := by
  induction l with
  | nil => rfl
  | cons i l ih =>
    exact (read_skip a (R i) Q (w i) _ (hd i List.mem_cons_self)).trans (ih fun k hk => hd k (List.mem_cons_of_mem _ hk))

theorem read_stores (hd : ∀ i k, i ≠ k → LoadRect.disj (R i) (R k).toLoadRect = true) (l : List ι) (i : ι) (hi : i ∈ l)
    (L : List (View.Piece (Elt Ideal) S e)) :
    a.readAt (Elt Ideal) (R i).toLoadRect (a.writes (Elt Ideal) a.junk (stores R w l ++ L)) = w i := by
  induction l with
  | nil => simp at hi
  | cons k l ih =>
    by_cases hk : k = i
    · subst hk
      exact read_hit a (R k) (w k) _
    · refine (read_skip a (R k) (R i) (w k) _ (hd k i hk)).trans (ih ?_)
      rcases List.mem_cons.mp hi with h | h
      · exact absurd h.symm hk
      · exact h

include a in
/-- A part of what the array holds is what was stored there. -/
theorem ld_stores (hd : ∀ i k, i ≠ k → LoadRect.disj (R i) (R k).toLoadRect = true) (l : List ι) (i : ι) (hi : i ∈ l)
    (L : List (View.Piece (Elt Ideal) S e)) :
    View.ld (View.canon (stores R w l ++ L) : S.Idx → Elt Ideal e) (R i) = w i :=
  (read_canon a (R i) _).symm.trans (read_stores a R w hd l i hi L)
include a in
theorem ld_stores_skip (Q : Rect S) (l : List ι) (hd : ∀ i ∈ l, LoadRect.disj (R i) Q.toLoadRect = true)
    (L : List (View.Piece (Elt Ideal) S e)) :
    View.ld (View.canon (stores R w l ++ L) : S.Idx → Elt Ideal e) Q = View.ld (View.canon L : S.Idx → Elt Ideal e) Q :=
  (read_canon a Q _).symm.trans ((read_stores_skip a R w Q l hd L).trans (read_canon a Q _))

end Parts

/-! ## The tables -/

theorem logDecay_eq (h : Fin 4) : logDecay h = (lg h : EReal) :=
  match h with
  | 0 => IdealRules.named_const.ideal_named_scalar κ "log_gamma0" _ _ rfl
  | 1 => IdealRules.named_const.ideal_named_scalar κ "log_gamma1" _ _ rfl
  | 2 => IdealRules.named_const.ideal_named_scalar κ "log_gamma2" _ _ rfl
  | 3 => IdealRules.named_const.ideal_named_scalar κ "log_gamma3" _ _ rfl

theorem exp_log_pow {x : ℝ} (hx : 0 < x) : Real.exp (Real.log x * 128) = x ^ 128 := by
  rw [mul_comm, show (128 : ℝ) = ((128 : ℕ) : ℝ) by norm_num, Real.exp_nat_mul, Real.exp_log hx]

theorem chunkDecay_eq (h : Fin 4) : chunkDecay h = γ h := by
  unfold γ decayBy
  match h with
  | 0 => exact (IdealRules.named_const.ideal_named_scalar κ "gamma0" _ _ rfl).trans (congrArg _ (by simp only [lg]; rw [exp_log_pow (by norm_num)]; norm_num))
  | 1 => exact (IdealRules.named_const.ideal_named_scalar κ "gamma1" _ _ rfl).trans (congrArg _ (by simp only [lg]; rw [exp_log_pow (by norm_num)]; norm_num))
  | 2 => exact (IdealRules.named_const.ideal_named_scalar κ "gamma2" _ _ rfl).trans (congrArg _ (by simp only [lg]; rw [exp_log_pow (by norm_num)]; norm_num))
  | 3 => exact (IdealRules.named_const.ideal_named_scalar κ "gamma3" _ _ rfl).trans (congrArg _ (by simp only [lg]; rw [exp_log_pow (by norm_num)]; norm_num))

theorem one_f32 : Ideal.ofBits .f32 0x3F800000#32 = ((1 : ℝ) : EReal) := by
  simp [Ideal.ofBits, Ideal.ieee, -EReal.coe_mul]; norm_num

/-- The number a small word stands for, and the difference of two. -/
theorem word_at {n : ℕ} (h : n < 2 ^ 31) : (FloatOps.sitofp .f32 (BitVec.ofNat 32 n) : Ideal .f32) = ((n : ℝ) : EReal) := by
  show (((BitVec.ofNat 32 n).toInt : ℝ) : EReal) = _
  rw [BitVec.toInt_ofNat', Int.bmod_eq_of_le (by omega) (by omega)]
  norm_cast
theorem word_sub {n k : ℕ} (hn : n < 2 ^ 31) (hk : k ≤ n) :
    (FloatOps.sitofp .f32 (IntOp.subi (BitVec.ofNat 32 n) (BitVec.ofNat 32 k)) : Ideal .f32) = (((n : ℝ) - k : ℝ) : EReal) := by
  have e : IntOp.subi (BitVec.ofNat 32 n) (BitVec.ofNat 32 k) = BitVec.ofNat 32 (n - k) := by
    apply BitVec.eq_of_toNat_eq
    simp only [IntOp.subi, BitVec.toNat_sub, BitVec.toNat_ofNat]
    omega
  rw [e, word_at (by omega), Nat.cast_sub hk]
theorem last_f32 : Ideal.ofBits .f32 0x42FE0000#32 = ((127 : ℝ) : EReal) := by
  simp [Ideal.ofBits, Ideal.ieee, -EReal.coe_mul]; norm_num

theorem disj_dec : ∀ h h' : Fin 4, h ≠ h' → LoadRect.disj (decRect h) (decRect h').toLoadRect = true := by decide
theorem disj_rowDec : ∀ h h' : Fin 4, h ≠ h' → LoadRect.disj (rowDecRect h) (rowDecRect h').toLoadRect = true := by decide

theorem mem_heads : ∀ h : Fin 4, h ∈ ([3, 2, 1, 0] : List (Fin 4)) := by decide

theorem dec_ld (h : Fin 4) : View.ld (View.canon decPieces : Vec Ideal S4x128x128 .f32) (decRect h) = decayVec (logDecay h) :=
  ld_stores VS0_1 decRect (fun h => decayVec (logDecay h)) disj_dec [3, 2, 1, 0] h (mem_heads h) []
theorem rowDec_ld (h : Fin 4) : View.ld (View.canon rowDecPieces : Vec Ideal S4x128x256 .f32) (rowDecRect h) = rowDecayVec (logDecay h) :=
  ld_stores VS0_2 rowDecRect (fun h => rowDecayVec (logDecay h)) disj_rowDec [3, 2, 1, 0] h (mem_heads h) []

theorem theDec_at (h : Fin 4) (a b : Fin 128) : (theTables h).dec (ix3 0 a b) = if b.val ≤ a.val then decayBy h ((a.val : ℝ) - b.val) else 0 := by
  show View.ld (View.canon decPieces : Vec Ideal S4x128x128 .f32) (decRect h) (ix3 0 a b) = _
  rw [dec_ld, logDecay_eq]
  pointwise [decayVec]
  rw [WordCmp.cmpi_sge_ofNat (by omega) (by omega)]
  by_cases hab : b.val ≤ a.val
  · have h0 : (0 : ℝ) ≤ (a.val : ℝ) - b.val := sub_nonneg.mpr (Nat.cast_le.mpr hab)
    rw [if_pos hab, word_sub (by omega) hab, max_eq_left (by exact_mod_cast h0), ← EReal.coe_mul]
    simp only [hab, decide_true, Scalar.select]
    rfl
  · rw [if_neg hab]
    simp only [hab, decide_false, Scalar.select]
    rfl
theorem theXi_at (h : Fin 4) (a : Fin 128) : (theTables h).xi (ix3 0 a 0) = decayBy h ((a.val : ℝ) + 1) := by
  have e : (theTables h).xi (ix3 0 a 0) = View.ld (View.canon rowDecPieces : Vec Ideal S4x128x256 .f32) (rowDecRect h) (ix3 0 a ⟨0, by omega⟩) := by
    show View.ld (View.canon rowDecPieces : Vec Ideal S4x128x256 .f32) (xiRect h) (ix3 0 a 0) = _
    simp only [View.ld]
    congr 1
    funext k
    refine Fin.ext ?_
    fin_cases k <;> simp [Rect.idx_unit_val]
  rw [e, rowDec_ld, logDecay_eq]
  pointwise [rowDecayVec, one_f32]
  rw [word_at (by omega), ← EReal.coe_add, ← EReal.coe_mul]
  rfl
theorem theZeta_at (h : Fin 4) (b : Fin 128) : (theTables h).zeta (ix3 0 b 0) = decayBy h (127 - (b.val : ℝ)) := by
  have e : (theTables h).zeta (ix3 0 b 0) = View.ld (View.canon rowDecPieces : Vec Ideal S4x128x256 .f32) (rowDecRect h) (ix3 0 b ⟨128, by omega⟩) := by
    show View.ld (View.canon rowDecPieces : Vec Ideal S4x128x256 .f32) (zetaRect h) (ix3 0 b 0) = _
    simp only [View.ld]
    congr 1
    funext k
    refine Fin.ext ?_
    fin_cases k <;> simp [Rect.idx_unit_val]
  rw [e, rowDec_ld, logDecay_eq]
  pointwise [rowDecayVec, last_f32]
  rw [word_at (by omega), ← EReal.coe_sub, ← EReal.coe_mul]
  rfl

end Cert.Ret

end
-- ==== Proof.RetBlock.lean ====
module

public import proofs.«01_k».proof.Proof.RetState
public import proofs.«01_k».proof.Proof.RetSpec
public import Idealize.ShloMosaic.Lib.Pointwise
public import Idealize.ShloMosaic.Lib.Claim

/-! Retention's backward call: the vectors of one head at one chunk, element by element. -/

@[expose] public section

set_option maxRecDepth 16384

noncomputable section

namespace Cert.Ret

open Cert.Kernel4Ideal Cert.Kernel4Ideal.Gen Idealize.ShloMosaic Idealize.ShloMosaic.TcCoe Idealize.SL.Sem
open Cert.Activations

/-- A cell's gate, before the activation, beside the vectors it holds: these are the gate's own. -/
structure Cell.Gated (x : Cell) (z : Wide) : Prop where
  act : ∀ a j, x.act (ix2 a j) = silu (z a j)
  slope : ∀ a j, x.slope (ix2 a j) = siluSlope (z a j)

/-- What a cell holds, as functions of the row and the column. -/
def Cell.head (x : Cell) (z : Wide) : Head where
  q a k := x.q (ix2 a k)
  k a k := x.k (ix2 a k)
  v a k := x.v (ix2 a k)
  o a k := x.o (ix2 a k)
  z := z
  cot a k := x.cot (ix2 a k)
  cos a k := x.cos (ix2 a k)
  sin a k := x.sin (ix2 a k)
  dec a b := x.tables.dec (ix3 0 a b)
  score a b := x.score (ix2 a b)
  before i j := x.before (ix4 0 0 i j)
  gain j := x.gain (ix2 0 j)
  xi a := x.tables.xi (ix3 0 a 0)
  zeta a := x.tables.zeta (ix3 0 a 0)

/-- A head's state as a function of its two columns. -/
def stateOf (g : HeadState) : State := fun i j => g (ix3 0 i j)

variable (x : Cell) (z : Wide) (hz : x.Gated z) (g : HeadState) (γ : EReal)

theorem qr_at (a : Fin 128) (k : Fin 256) : x.qr (ix2 a k) = (x.head z).qr a k := by
  pointwise [Cell.qr, k0_pay37, k0_pay28, k0_pay29, Head.qr, rotate, Cell.head]

theorem kr_at (a : Fin 128) (k : Fin 256) : x.kr (ix2 a k) = (x.head z).kr a k := by
  pointwise [Cell.kr, k0_pay38, k0_pay28, k0_pay29, Head.kr, rotate, Cell.head]

theorem ctr_at (a : Fin 128) (j : Fin 256) : k0_pay40 (F := Ideal) x.o (ix2 a j) = (x.head z).ctr a j := by
  pointwise [k0_pay40, Head.ctr, Cell.head]

theorem rstd_at (a : Fin 128) : x.rstd (ix2 a 0) = (x.head z).rstd a := by
  pointwise [Cell.rstd, k0_pay41, ctr_at x z, Head.rstd, NormGrad.invRms, NormGrad.meanSq]

theorem normed_at (a : Fin 128) (j : Fin 256) : x.normed (ix2 a j) = (x.head z).normed a j := by
  have h : k0_pay41 (F := Ideal) x.o (ix2 a 0) = _ := rstd_at x z a
  pointwise [Cell.normed, k0_pay42, ctr_at x z, h, Head.normed]

theorem out_at (a : Fin 128) (j : Fin 256) : x.out (ix2 a j) = (x.head z).out a j := by
  have h : k0_pay42 (F := Ideal) x.o (ix2 a j) = _ := normed_at x z a j
  pointwise [Cell.out, k0_pay43, h, Head.out, Cell.head]

include hz

theorem branch_at (a : Fin 128) (j : Fin 256) : x.branch (ix2 a j) = (x.head z).branch a j := by
  pointwise [Cell.branch, out_at x z, hz.act, Head.branch, Cell.head]

theorem dGate_at (a : Fin 128) (j : Fin 256) : x.dGate (ix2 a j) = (x.head z).dGate a j := by
  pointwise [Cell.dGate, out_at x z, hz.slope, Head.dGate, Cell.head]

theorem dOut_at (a : Fin 128) (j : Fin 256) : x.dOut (ix2 a j) = (x.head z).dOut a j := by
  pointwise [Cell.dOut, hz.act, Head.dOut, Cell.head]

theorem addGain_at (held : FVec Ideal S1x256 .f32) (j : Fin 256) : x.addGain held (ix2 0 j) = held (ix2 0 j) + (x.head z).gainTerm j := by
  pointwise [Cell.addGain, dOut_at x z hz, normed_at x z, Head.gainTerm]

theorem dNormed_at (a : Fin 128) (j : Fin 256) : x.dNormed (ix2 a j) = (x.head z).dNormed a j := by
  pointwise [Cell.dNormed, dOut_at x z hz, Head.dNormed, Cell.head]

omit hz in
theorem rowMean_at (T : Rows) (a : Fin 128) (j : Fin 256) : Cell.rowMean T (ix2 a j) = Ideal.div (∑ i, T (ix2 a i)) headWidth := by
  pointwise [Cell.rowMean]

theorem dO_at (a : Fin 128) (j : Fin 256) : x.dO (ix2 a j) = (x.head z).dO a j := by
  pointwise [Cell.dO, rowMean_at, dNormed_at x z hz, normed_at x z, rstd_at x z, Head.dO]

theorem dOb_at (a : Fin 128) (j : Fin 256) : x.dOb (ix2 a j) = (x.head z).dO a j := dO_at x z hz a j

theorem dV_at (b : Fin 128) (j : Fin 256) : x.dV g (ix2 b j) = (x.head z).dV (stateOf g) b j := by
  pointwise [Cell.dV, k0_pay54, k0_pay51, k0_pay50, k0_pay39, k0_pay35, dO_at x z hz, kr_at x z, Head.dV, stateOf, Cell.head]

theorem dScore_at (a b : Fin 128) : k0_pay53 (F := Ideal) x.decV x.v x.dOb (ix2 a b) = (x.head z).dScore a b := by
  pointwise [k0_pay53, k0_pay33, dO_at x z hz, Head.dScore, Cell.head]

theorem dQr_at (a : Fin 128) (k : Fin 256) :
    k0_pay55 (F := Ideal) x.decV x.xiV x.v x.beforeV x.kr x.dO x.dOb (ix2 a k) = (x.head z).dQr a k := by
  pointwise [k0_pay55, k0_pay34, k0_pay36, dScore_at x z hz, kr_at x z, dO_at x z hz, Head.dQr, Cell.head]

theorem dKr_at (a : Fin 128) (k : Fin 256) :
    k0_pay56 (F := Ideal) x.decV x.zetaV x.v x.qr (k0_pay51 g) x.dOb (ix2 a k) = (x.head z).dKr (stateOf g) a k := by
  pointwise [k0_pay56, k0_pay51, k0_pay50, k0_pay35, dScore_at x z hz, qr_at x z, Head.dKr, stateOf, Cell.head]

theorem dQ_at (a : Fin 128) (k : Fin 256) : x.dQ (ix2 a k) = (x.head z).dQ a k := by
  pointwise [Cell.dQ, k0_pay61, k0_pay60, k0_pay59, k0_pay58, k0_pay28, k0_pay29, dQr_at x z hz, Head.dQ, rotateBack, Cell.head]

theorem dK_at (a : Fin 128) (k : Fin 256) : x.dK g (ix2 a k) = (x.head z).dK (stateOf g) a k := by
  pointwise [Cell.dK, k0_pay62, k0_pay28, k0_pay29, dKr_at x z hz, Head.dK, rotateBack, Cell.head]

theorem stepBack_at (i j : Fin 256) : stateOf (x.stepBack γ g) i j = stateOf g i j * γ + (x.head z).stateTerm i j := by
  unfold stateOf
  pointwise [Cell.stepBack, k0_pay50, k0_pay34, qr_at x z, dO_at x z hz, Head.stateTerm, Cell.head]

end Cert.Ret

end
-- ==== Proof.RetHost.lean ====
module

public import proofs.«01_k».proof.Proof.Gen.Kernel4Ideal.Frame
public import proofs.«01_k».proof.Proof.Gen.Kernel4.Frame
public import proofs.«01_k».proof.Proof.Gen.Reference4Ideal.Read
public import proofs.«01_k».proof.Proof.Gen.Reference4Ideal.Run
public import Idealize.ShloMosaic.Lib.Pipeline.ValueKit

/-! Retention's backward call: the arrays the host lines hand to the call are the reference's own forward values. -/

@[expose] public section

set_option maxRecDepth 65536
set_option maxHeartbeats 4000000

noncomputable section

namespace Cert.Ret

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The projection, as the call finds it. -/
abbrev projArg : FVec Ideal S8192x6144 .f32 := m ((c.tc : Thread nD τ).loc main_arg0)

theorem host_cos : (V m c main_v156 : FVec Ideal S8192x128 .f32) = Reference4Ideal.Read.val_main_v17 (F := Ideal) := by
  entry_read; rfl
theorem host_sin : (V m c main_v157 : FVec Ideal S8192x128 .f32) = Reference4Ideal.Read.val_main_v19 (F := Ideal) := by
  entry_read; rfl
theorem host_before : (V m c main_v158 : FVec Ideal S64x4x256x256 .bf16) = Reference4Ideal.Read.val_main_v137 (F := Ideal) (projArg m c) := by
  entry_read; rfl
theorem host_score : (V m c main_v161 : FVec Ideal S8192x512 .bf16) = shapeCast S8192x512
    (transpose S64x128x4x128 [0, 2, 1, 3] (Reference4Ideal.Read.val_main_v104 (F := Ideal) (projArg m c)) transposes_S64x4x128x128_S64x128x4x128_0_2_1_3)
    shapeCasts_S64x128x4x128_S8192x512 := by
  entry_read; rfl
theorem host_o : (V m c main_v162 : FVec Ideal S8192x1024 .f32) = shapeCast S8192x1024
    (Reference4Ideal.Read.val_main_v144 (F := Ideal) (projArg m c)) shapeCasts_S8192x4x256_S8192x1024 := by
  entry_read; rfl
theorem host_wout : (V m c main_v163 : FVec Ideal S2048x1024 .bf16) = m ((c.tc : Thread nD τ).loc main_arg3) := by
  entry_read; rfl
theorem host_du : (V m c main_v165 : FVec Ideal S8x8192x128 .f32) = transpose S8x8192x128 [1, 0, 2]
    (shapeCast S8192x8x128 (m ((c.tc : Thread nD τ).loc main_arg4) : FVec Ideal S8192x1024 .f32) shapeCasts_S8192x1024_S8192x8x128) transposes_S8192x8x128_S8x8192x128_1_0_2 := by
  entry_read; rfl
theorem host_da : (V m c main_v166 : FVec Ideal S8192x1024 .bf16) = m ((c.tc : Thread nD τ).loc main_arg5) := by
  entry_read; rfl

end Cert.Ret

end
-- ==== Proof.RetHead.lean ====
module

public import proofs.«01_k».proof.Proof.RetTable
public import proofs.«01_k».proof.Proof.RetBlock
public import proofs.«01_k».proof.Proof.RetHost

/-! Retention's backward call: what a head finds at a chunk of a grid point is its part of the arrays. -/

@[expose] public section

set_option maxRecDepth 16384

noncomputable section

namespace Cert.Ret

open Cert.Kernel4Ideal Cert.Kernel4Ideal.Gen Idealize.ShloMosaic Idealize.ShloMosaic.TcCoe Idealize.SL.Sem
open Cert.Activations

variable (m : (ℓ : Loc nD τ sig) → Buf (Elt Ideal) ℓ) (c : Dev nD)

/-- The argument arrays. -/
def input : In where
  p := (m ((c : Thread nD τ).loc main_arg0) : FVec Ideal S8192x6144 .f32)
  gain := (m ((c : Thread nD τ).loc main_arg1) : FVec Ideal S1x1024 .f32)
  dx := (m ((c : Thread nD τ).loc main_arg2) : FVec Ideal S8192x1024 .f32)
  w := (m ((c : Thread nD τ).loc main_arg3) : FVec Ideal S2048x1024 .f32)
  du := (m ((c : Thread nD τ).loc main_arg4) : FVec Ideal S8192x1024 .f32)
  da := (m ((c : Thread nD τ).loc main_arg5) : FVec Ideal S8192x1024 .f32)

/-- Point `t` takes block `31 - t` of the rows. -/
theorem idx : ∀ t : Fin cfg0.N, win0_0.index t = ![31 - t.val, 2] ∧ win0_1.index t = ![31 - t.val, 3] ∧ win0_2.index t = ![31 - t.val, 4]
    ∧ win0_3.index t = ![31 - t.val, 5] ∧ win0_4.index t = ![31 - t.val, 0] ∧ win0_5.index t = ![31 - t.val, 0] ∧ win0_6.index t = ![0, 0]
    ∧ win0_7.index t = ![31 - t.val, 0, 0, 0] ∧ win0_8.index t = ![31 - t.val, 0] ∧ win0_9.index t = ![31 - t.val, 0] ∧ win0_10.index t = ![31 - t.val, 0]
    ∧ win0_11.index t = ![1, 0] ∧ win0_12.index t = ![0, 31 - t.val, 0] ∧ win0_13.index t = ![31 - t.val, 0] ∧ win0_14.index t = ![31 - t.val, 0]
    ∧ win0_15.index t = ![31 - t.val, 0] ∧ win0_16.index t = ![0, 0] :=
  (by decide +kernel : ∀ t : Fin grid0.N, _)

theorem points (t : Fin cfg0.N) : t.val < 32 := lt_of_lt_of_eq t.isLt N_0

/-- The array's chunk of a point's chunk, and a block's rows and columns. -/
abbrev chunkAt (t : Fin cfg0.N) (k : Fin 2) : Fin 64 := ⟨2 * (31 - t.val) + k.val, by omega⟩
abbrev blkRow (k : Fin 2) (a : Fin 128) : Fin 256 := ⟨128 * k.val + a.val, by omega⟩
abbrev arow (t : Fin cfg0.N) (r : Fin 256) : Fin 8192 := ⟨(31 - t.val) * 256 + r.val, by omega⟩
theorem arow_blkRow (t : Fin cfg0.N) (k : Fin 2) (a : Fin 128) : arow t (blkRow k a) = rowAt (chunkAt t k) a :=
  Fin.ext (by simp only [arow, blkRow, rowAt, chunkAt]; omega)

variable (t : Fin cfg0.N)

/-- The blocks of a grid point. -/
abbrev held : Blocks := ⟨iblk m c 0 t, iblk m c 1 t, iblk m c 2 t, iblk m c 3 t, iblk m c 4 t, iblk m c 5 t, iblk m c 6 t, iblk m c 7 t,
  iblk m c 8 t, iblk m c 9 t, iblk m c 10 t, iblk m c 11 t, iblk m c 12 t, iblk m c 13 t⟩
theorem found_eq : found m c t = held m c t := by
  simp only [found, Memref.IsWhole.read_unread]

theorem ld_cell (X : Vec Ideal S256x1024 .f32) (k : Fin 2) (h : Fin 4) (a : Fin 128) (j : Fin 256) :
    View.ld (Val := Elt Ideal) X (cellRect k h) (ix2 a j) = X (ix2 (blkRow k a) (colAt h j)) := by
  simp only [View.ld]
  congr 1
  funext i
  refine Fin.ext ?_
  fin_cases i <;> simp [Rect.idx_unit_val]

theorem q_at (k : Fin 2) (h : Fin 4) (a : Fin 128) (j : Fin 256) :
    (iblk m c 0 t : FVec Ideal S256x1024 .f32) (ix2 (blkRow k a) (colAt h j)) = (input m c).p (ix2 (rowAt (chunkAt t k) a) (partAt 0 h j)) := by
  rw [← arow_blkRow, input]
  blk_point [iblk, V, idx t]
theorem k_at (k : Fin 2) (h : Fin 4) (a : Fin 128) (j : Fin 256) :
    (iblk m c 1 t : FVec Ideal S256x1024 .f32) (ix2 (blkRow k a) (colAt h j)) = (input m c).p (ix2 (rowAt (chunkAt t k) a) (partAt 1 h j)) := by
  rw [← arow_blkRow, input]
  blk_point [iblk, V, idx t]
theorem v_at (k : Fin 2) (h : Fin 4) (a : Fin 128) (j : Fin 256) :
    (iblk m c 2 t : FVec Ideal S256x1024 .f32) (ix2 (blkRow k a) (colAt h j)) = (input m c).p (ix2 (rowAt (chunkAt t k) a) (partAt 2 h j)) := by
  rw [← arow_blkRow, input]
  blk_point [iblk, V, idx t]
theorem z_at (k : Fin 2) (h : Fin 4) (a : Fin 128) (j : Fin 256) :
    (iblk m c 3 t : FVec Ideal S256x1024 .f32) (ix2 (blkRow k a) (colAt h j)) = (input m c).p (ix2 (rowAt (chunkAt t k) a) (partAt 3 h j)) := by
  rw [← arow_blkRow, input]
  blk_point [iblk, V, idx t]
theorem cos_at (k : Fin 2) (a j : Fin 128) :
    (iblk m c 4 t : FVec Ideal S256x128 .f32) (ix2 (blkRow k a) j) = Reference4Ideal.Read.val_main_v17 (F := Ideal) (ix2 (rowAt (chunkAt t k) a) j) := by
  rw [← arow_blkRow, ← host_cos m c]
  blk_point [iblk, idx t]
theorem sin_at (k : Fin 2) (a j : Fin 128) :
    (iblk m c 5 t : FVec Ideal S256x128 .f32) (ix2 (blkRow k a) j) = Reference4Ideal.Read.val_main_v19 (F := Ideal) (ix2 (rowAt (chunkAt t k) a) j) := by
  rw [← arow_blkRow, ← host_sin m c]
  blk_point [iblk, idx t]
theorem gain_at (h : Fin 4) (j : Fin 256) : (iblk m c 6 t : FVec Ideal S1x1024 .f32) (ix2 0 (colAt h j)) = (input m c).gain (ix2 0 (colAt h j)) := by
  rw [input]
  blk_point [iblk, V, idx t]
theorem before_at (k : Fin 2) (h : Fin 4) (i j : Fin 256) : (iblk m c 7 t : FVec Ideal S2x4x256x256 .bf16) (ix4 k h i j)
    = Reference4Ideal.Read.val_main_v137 (F := Ideal) (input m c).p (ix4 (chunkAt t k) h i j) := by
  have e : (V m c main_v158 : FVec Ideal S64x4x256x256 .bf16) (ix4 (chunkAt t k) h i j) = _ := congrFun (host_before m c) _
  refine Eq.trans ?_ e
  blk_point [iblk, idx t]
theorem score_at (k : Fin 2) (h : Fin 4) (a b : Fin 128) : (iblk m c 8 t : FVec Ideal S256x512 .bf16) (ix2 (blkRow k a) ⟨128 * h.val + b.val, by omega⟩)
    = Reference4Ideal.Read.val_main_v104 (F := Ideal) (input m c).p (ix4 (chunkAt t k) h a b) := by
  have e : (V m c main_v161 : FVec Ideal S8192x512 .bf16) (ix2 (arow t (blkRow k a)) ⟨128 * h.val + b.val, by omega⟩)
      = Reference4Ideal.Read.val_main_v104 (F := Ideal) (input m c).p (ix4 (chunkAt t k) h a b) := by
    rw [host_score, arow_blkRow]
    show _ = Reference4Ideal.Read.val_main_v104 (F := Ideal) (projArg m c) _
    generalize Reference4Ideal.Read.val_main_v104 (F := Ideal) (projArg m c) = S
    have e1 : (128 * (2 * (31 - t.val) + k.val) + a.val) / 128 = 2 * (31 - t.val) + k.val := by omega
    have e2 : (128 * (2 * (31 - t.val) + k.val) + a.val) % 128 = a.val := by omega
    pointwise [e1, e2]
  refine Eq.trans ?_ e
  blk_point [iblk, idx t]
theorem o_at (k : Fin 2) (h : Fin 4) (a : Fin 128) (j : Fin 256) : (iblk m c 9 t : FVec Ideal S256x1024 .f32) (ix2 (blkRow k a) (colAt h j))
    = Reference4Ideal.Read.val_main_v144 (F := Ideal) (input m c).p (ix3 (rowAt (chunkAt t k) a) h j) := by
  have e : (V m c main_v162 : FVec Ideal S8192x1024 .f32) (ix2 (arow t (blkRow k a)) (colAt h j))
      = Reference4Ideal.Read.val_main_v144 (F := Ideal) (input m c).p (ix3 (rowAt (chunkAt t k) a) h j) := by
    rw [host_o, arow_blkRow]
    show _ = Reference4Ideal.Read.val_main_v144 (F := Ideal) (projArg m c) _
    generalize Reference4Ideal.Read.val_main_v144 (F := Ideal) (projArg m c) = S
    have e1 : (256 * h.val + j.val) / 256 = h.val := by omega
    have e2 : (256 * h.val + j.val) % 256 = j.val := by omega
    pointwise [e1, e2]
  refine Eq.trans ?_ e
  blk_point [iblk, idx t]
theorem d_at (r : Fin 256) (q : Fin 1024) : (iblk m c 10 t : FVec Ideal S256x1024 .f32) (ix2 r q) = (input m c).dx (ix2 (arow t r) q) := by
  rw [input]
  blk_point [iblk, V, idx t]
theorem w_at (i : Fin 1024) (q : Fin 1024) : (iblk m c 11 t : FVec Ideal S1024x1024 .bf16) (ix2 i q) = (input m c).w (ix2 ⟨1024 + i.val, by omega⟩ q) := by
  have e : (V m c main_v163 : FVec Ideal S2048x1024 .bf16) (ix2 ⟨1024 + i.val, by omega⟩ q) = _ := congrFun (host_wout m c) _
  refine Eq.trans ?_ e
  blk_point [iblk, idx t]
theorem du_at (l : Fin 8) (r : Fin 256) (q : Fin 128) : (iblk m c 12 t : FVec Ideal S8x256x128 .f32) (ix3 l r q)
    = (input m c).du (ix2 (arow t r) ⟨128 * l.val + q.val, by omega⟩) := by
  have e : (V m c main_v165 : FVec Ideal S8x8192x128 .f32) (ix3 l (arow t r) q) = (input m c).du (ix2 (arow t r) ⟨128 * l.val + q.val, by omega⟩) := by
    rw [host_du]
    pointwise [Nat.mul_comm 128 l.val]
    rfl
  refine Eq.trans ?_ e
  blk_point [iblk, idx t]
theorem da_at (r : Fin 256) (q : Fin 1024) : (iblk m c 13 t : FVec Ideal S256x1024 .bf16) (ix2 r q) = (input m c).da (ix2 (arow t r) q) := by
  have e : (V m c main_v166 : FVec Ideal S8192x1024 .bf16) (ix2 (arow t r) q) = _ := congrFun (host_da m c) _
  refine Eq.trans ?_ e
  blk_point [iblk, idx t]

/-! ## The cell -/

theorem ld_rows (X : Vec Ideal S256x1024 .f32) : View.ld (Val := Elt Ideal) X (Rect.unit ![0, 0] ![256, 1024] inb_S256x1024_S256x1024_0_0) = X := by
  funext y
  simp only [View.ld]
  congr 1
  funext i
  refine Fin.ext ?_
  fin_cases i <;> simp [Rect.idx_unit_val]
theorem ld_square (X : Vec Ideal S1024x1024 .bf16) : View.ld (Val := Elt Ideal) X (Rect.unit ![0, 0] ![1024, 1024] inb_S1024x1024_S1024x1024_0_0) = X := by
  funext y
  simp only [View.ld]
  congr 1
  funext i
  refine Fin.ext ?_
  fin_cases i <;> simp [Rect.idx_unit_val]

theorem part_at (k : Fin 2) (h : Fin 4) (x : FVec Ideal S256x1024 .f32) (a : Fin 128) (j : Fin 256) :
    part k h x (ix2 a j) = x (ix2 (blkRow k a) (colAt h j)) := by
  unfold part
  pointwise []
  try blk_ext

theorem cot_at (k : Fin 2) (h : Fin 4) (a : Fin 128) (j : Fin 256) : part k h (k0_pay19 (F := Ideal) (held m c t).dAll (held m c t).wAll) (ix2 a j)
    = ((input m c).head (chunkAt t k) h).cot a j := by
  rw [part_at, Blocks.dAll, Blocks.wAll, ld_rows, ld_square]
  rw [In.head_cot]
  simp only [← arow_blkRow, ← d_at]
  pointwise [k0_pay19, w_at m c t]

abbrev tableRect (k : Fin 2) : Rect S256x128 := Rect.unit (s := S256x128) ![128 * k.val, 0] ![128, 128] (inb_table k)
abbrev scoreRect (k : Fin 2) (h : Fin 4) : Rect S256x512 := Rect.unit (s := S256x512) ![128 * k.val, 128 * h.val] ![128, 128] (inb_score k h)
abbrev beforeRect (k : Fin 2) (h : Fin 4) : Rect S2x4x256x256 :=
  Rect.unit (s := S2x4x256x256) ![k.val, h.val, 0, 0] ![1, 1, 256, 256] (inb_before k h)

theorem ld_table (X : Vec Ideal S256x128 .f32) (k : Fin 2) (a j : Fin 128) :
    View.ld (Val := Elt Ideal) X (tableRect k) (ix2 a j) = X (ix2 (blkRow k a) j) := by
  simp only [View.ld]; congr 1; funext i; refine Fin.ext ?_; fin_cases i <;> simp [Rect.idx_unit_val]
theorem ld_score (X : Vec Ideal S256x512 .bf16) (k : Fin 2) (h : Fin 4) (a b : Fin 128) :
    View.ld (Val := Elt Ideal) X (scoreRect k h) (ix2 a b) = X (ix2 (blkRow k a) ⟨128 * h.val + b.val, by omega⟩) := by
  simp only [View.ld]; congr 1; funext i; refine Fin.ext ?_; fin_cases i <;> simp [Rect.idx_unit_val]
theorem ld_before (X : Vec Ideal S2x4x256x256 .bf16) (k : Fin 2) (h : Fin 4) (i j : Fin 256) :
    View.ld (Val := Elt Ideal) X (beforeRect k h) (ix4 0 0 i j) = X (ix4 k h i j) := by
  simp only [View.ld]; congr 1; funext i; refine Fin.ext ?_; fin_cases i <;> simp [Rect.idx_unit_val]
theorem ld_gain (X : Vec Ideal S1x1024 .f32) (h : Fin 4) (j : Fin 256) :
    View.ld (Val := Elt Ideal) X (gainRect h) (ix2 0 j) = X (ix2 0 (colAt h j)) := by
  simp only [View.ld]; congr 1; funext i; refine Fin.ext ?_; fin_cases i <;> simp [Rect.idx_unit_val]

/-- Two heads' parts with the same entries are the same. -/
theorem head_ext {x y : Head} (q : ∀ a j, x.q a j = y.q a j) (k : ∀ a j, x.k a j = y.k a j) (v : ∀ a j, x.v a j = y.v a j)
    (o : ∀ a j, x.o a j = y.o a j) (z : ∀ a j, x.z a j = y.z a j) (cot : ∀ a j, x.cot a j = y.cot a j)
    (cos : ∀ a j, x.cos a j = y.cos a j) (sin : ∀ a j, x.sin a j = y.sin a j) (dec : ∀ a j, x.dec a j = y.dec a j)
    (score : ∀ a j, x.score a j = y.score a j) (before : ∀ i j, x.before i j = y.before i j) (gain : ∀ j, x.gain j = y.gain j)
    (xi : ∀ a, x.xi a = y.xi a) (zeta : ∀ a, x.zeta a = y.zeta a) : x = y := by
  cases x; cases y
  simp only [Head.mk.injEq]
  exact ⟨funext₂ q, funext₂ k, funext₂ v, funext₂ o, funext₂ z, funext₂ cot, funext₂ cos, funext₂ sin, funext₂ dec, funext₂ score,
    funext₂ before, funext gain, funext xi, funext zeta⟩

end Cert.Ret

end
-- ==== Proof.RetPlace.lean ====
module

public import proofs.«01_k».proof.Proof.RetHead

/-! Retention's backward call: the cell of a head at a chunk of a grid point is the head's part of the arrays. -/

@[expose] public section

set_option maxRecDepth 16384

noncomputable section

namespace Cert.Ret

open Cert.Kernel4Ideal Cert.Kernel4Ideal.Gen Idealize.ShloMosaic Idealize.ShloMosaic.TcCoe Idealize.SL.Sem
open Cert.Activations

variable (m : (ℓ : Loc nD τ sig) → Buf (Elt Ideal) ℓ) (c : Dev nD)

variable (t : Fin cfg0.N)

/-- A cell of blocks whose entries are those of a head's part is that part. -/
theorem cell_of (q k' v z o d : Vec Ideal S256x1024 .f32) (cos sin : Vec Ideal S256x128 .f32) (gain : Vec Ideal S1x1024 .f32)
    (before : Vec Ideal S2x4x256x256 .bf16) (score : Vec Ideal S256x512 .bf16) (w : Vec Ideal S1024x1024 .bf16) (du : Vec Ideal S8x256x128 .f32)
    (da : Vec Ideal S256x1024 .bf16) (x : Head) (k : Fin 2) (h : Fin 4)
    (hq : ∀ a j, q (ix2 (blkRow k a) (colAt h j)) = x.q a j) (hk : ∀ a j, k' (ix2 (blkRow k a) (colAt h j)) = x.k a j)
    (hv : ∀ a j, v (ix2 (blkRow k a) (colAt h j)) = x.v a j) (ho : ∀ a j, o (ix2 (blkRow k a) (colAt h j)) = x.o a j)
    (hcot : ∀ a j, part k h (k0_pay19 (F := Ideal) (View.ld (Val := Elt Ideal) d (Rect.unit ![0, 0] ![256, 1024] inb_S256x1024_S256x1024_0_0))
      (View.ld (Val := Elt Ideal) w (Rect.unit ![0, 0] ![1024, 1024] inb_S1024x1024_S1024x1024_0_0))) (ix2 a j) = x.cot a j)
    (hcos : ∀ a j, cos (ix2 (blkRow k a) j) = x.cos a j) (hsin : ∀ a j, sin (ix2 (blkRow k a) j) = x.sin a j)
    (hdec : ∀ a j, (theTables h).dec (ix3 0 a j) = x.dec a j)
    (hscore : ∀ a j : Fin 128, score (ix2 (blkRow k a) ⟨128 * h.val + j.val, by omega⟩) = x.score a j)
    (hbefore : ∀ i j, before (ix4 k h i j) = x.before i j) (hgain : ∀ j, gain (ix2 0 (colAt h j)) = x.gain j)
    (hxi : ∀ a, (theTables h).xi (ix3 0 a 0) = x.xi a) (hzeta : ∀ a, (theTables h).zeta (ix3 0 a 0) = x.zeta a) :
    ((⟨q, k', v, z, cos, sin, gain, before, score, o, d, w, du, da⟩ : Blocks).cell theTables k h).head x.z = x :=
  head_ext (fun a j => (ld_cell q k h a j).trans (hq a j)) (fun a j => (ld_cell k' k h a j).trans (hk a j))
    (fun a j => (ld_cell v k h a j).trans (hv a j)) (fun a j => (ld_cell o k h a j).trans (ho a j)) (fun a j => rfl) hcot
    (fun a j => (ld_table cos k a j).trans (hcos a j)) (fun a j => (ld_table sin k a j).trans (hsin a j)) hdec
    (fun a j => (ld_score score k h a j).trans (hscore a j)) (fun i j => (ld_before before k h i j).trans (hbefore i j))
    (fun j => (ld_gain gain h j).trans (hgain j)) hxi hzeta

theorem cell_head (k : Fin 2) (h : Fin 4) :
    (cells m c t k h).head ((input m c).head (chunkAt t k) h).z = (input m c).head (chunkAt t k) h := by
  rw [cells, found_eq]
  refine cell_of _ _ _ _ _ _ _ _ _ _ _ _ _ _ ((input m c).head (chunkAt t k) h) k h ?_ ?_ ?_ ?_ ?_ ?_ ?_ ?_ ?_ ?_ ?_ ?_ ?_
  · intro a j; rw [In.head_q, q_at]
  · intro a j; rw [In.head_k, k_at]
  · intro a j; rw [In.head_v, v_at]
  · intro a j; rw [In.head_o, o_at]
  · intro a j; exact cot_at m c t k h a j
  · intro a j; rw [In.head_cos, cos_at]
  · intro a j; rw [In.head_sin, sin_at]
  · intro a b; rw [In.head_dec, theDec_at]
  · intro a b; rw [In.head_score, score_at]
  · intro i j; rw [In.head_before, before_at]
  · intro j; rw [In.head_gain, gain_at]
  · intro a; rw [In.head_xi, theXi_at]
  · intro b; rw [In.head_zeta, theZeta_at]

theorem cell_gated (k : Fin 2) (h : Fin 4) : (cells m c t k h).Gated ((input m c).head (chunkAt t k) h).z := by
  have e : ∀ a j, ((input m c).head (chunkAt t k) h).z a j = (iblk m c 3 t : FVec Ideal S256x1024 .f32) (ix2 (blkRow k a) (colAt h j)) :=
    fun a j => (z_at m c t k h a j).symm
  rw [cells, found_eq]
  constructor
  · intro a j
    show part k h (k0_pay17 (F := Ideal) (held m c t).zAll) (ix2 a j) = _
    rw [part_at, Blocks.zAll, ld_rows, e]
    pointwise [k0_pay17, k0_pay16, silu]
  · intro a j
    show part k h (k0_pay18 (F := Ideal) (held m c t).zAll) (ix2 a j) = _
    rw [part_at, Blocks.zAll, ld_rows, e]
    pointwise [k0_pay18, k0_pay16, siluSlope]

end Cert.Ret

end
-- ==== Proof.RetArray.lean ====
module

public import proofs.«01_k».proof.Proof.RetPlace
public import proofs.«01_k».proof.Proof.Gen.Kernel4.Frame
public import proofs.«01_k».proof.Proof.Gen.Reference4Ideal.Run

/-! Retention's backward call: what the three results hold at the end. -/

@[expose] public section

set_option maxRecDepth 16384

noncomputable section

namespace Cert.Ret

open Cert.Kernel4Ideal Cert.Kernel4Ideal.Gen Idealize.ShloMosaic Idealize.ShloMosaic.TcCoe Idealize.SL.Sem
open Cert.Activations

variable (m : (ℓ : Loc nD τ sig) → Buf (Elt Ideal) ℓ) (c : Dev nD)

/-! ## The state's cotangent from point to point -/

theorem step (t : Fin cfg0.N) (k : Fin 2) (h : Fin 4) (g : HeadState) (i j : Fin 256) :
    stateOf ((cells m c t k h).stepBack (chunkDecay h) g) i j
      = stateOf g i j * γ h + ((input m c).head (chunkAt t k) h).stateTerm i j := by
  rw [stepBack_at _ _ (cell_gated m c t k h), cell_head, chunkDecay_eq]

theorem ld_state (X : Vec Ideal S4x256x256 .f32) (h : Fin 4) (i j : Fin 256) : stateOf (View.ld (Val := Elt Ideal) X (stateRect h)) i j = X (ix3 h i j) := by
  simp only [stateOf, View.ld]
  congr 1
  funext a
  refine Fin.ext ?_
  fin_cases a <;> simp [Rect.idx_unit_val]

theorem chunk_late (t : Fin cfg0.N) : chunkAt t 1 = ⟨63 - 2 * t.val, by omega⟩ :=
  Fin.ext (by have := points t; simp only [chunkAt]; omega)
theorem chunk_early (t : Fin cfg0.N) : chunkAt t 0 = ⟨63 - (2 * t.val + 1), by omega⟩ :=
  Fin.ext (by have := points t; simp only [chunkAt]; omega)

theorem carried_succ (h : Fin 4) (s : ℕ) (i j : Fin 256) :
    (input m c).carried h (s + 1) i j = (input m c).carried h s i j * γ h + ((input m c).head ⟨63 - s, by omega⟩ h).stateTerm i j := rfl

theorem between_of_entry (t : Fin cfg0.N) (h : Fin 4) (he : stateOf (entry m c t h) = (input m c).carried h (2 * t.val)) :
    stateOf (between m c t h) = (input m c).carried h (2 * t.val + 1) := by
  funext i j
  rw [between, step, he, carried_succ, chunk_late]

theorem entry_eq (t : Fin cfg0.N) (h : Fin 4) : stateOf (entry m c t h) = (input m c).carried h (2 * t.val) := by
  obtain ⟨n, hn⟩ := t
  induction n with
  | zero =>
    funext i j
    unfold entry
    rw [if_pos (by rfl)]
    rfl
  | succ n ih =>
    have hn' : n < cfg0.N := Nat.lt_of_succ_lt hn
    have hk : n + 1 < 32 := hn
    have h0 : ¬ (⟨n + 1, hn⟩ : Fin cfg0.N).val % 32 = 0 := by show ¬ (n + 1) % 32 = 0; omega
    have e : entry m c ⟨n + 1, hn⟩ h = (cells m c ⟨n, hn'⟩ 0 h).stepBack (chunkDecay h) (between m c ⟨n, hn'⟩ h) := by
      unfold entry
      rw [if_neg h0]
      exact state_point m c ⟨n, hn'⟩ h
    funext i j
    rw [e, step, between_of_entry m c ⟨n, hn'⟩ h (ih hn'), chunk_early]
    rfl

theorem behind_late (t : Fin cfg0.N) (h : Fin 4) : stateOf (entry m c t h) = (input m c).behind (chunkAt t 1) h := by
  rw [entry_eq, In.behind]
  congr 1
  have := points t
  simp only [chunkAt]; omega
theorem behind_early (t : Fin cfg0.N) (h : Fin 4) : stateOf (between m c t h) = (input m c).behind (chunkAt t 0) h := by
  rw [between_of_entry m c t h (entry_eq m c t h), In.behind]
  congr 1
  have := points t
  simp only [chunkAt]; omega

/-! ## The projection's gradient -/

/-- The parts of a block of the projection's gradient: a chunk, a head, and which of the four. -/
abbrev Place : Type := Fin 2 × Fin 4 × Fin 4
abbrev placeRect (p : Place) : Rect S256x6144 := partRect p.1 p.2.1 p.2.2
def placeVal (K : Fin 2 → Fin 4 → Cell) (G : Fin 2 → Fin 4 → HeadState) (p : Place) : FVec Ideal S128x256 .bf16 :=
  match p.2.2 with
  | 0 => (K p.1 p.2.1).dQ
  | 1 => (K p.1 p.2.1).dK (G p.1 p.2.1)
  | 2 => (K p.1 p.2.1).dV (G p.1 p.2.1)
  | 3 => (K p.1 p.2.1).dGate
abbrev headPlaces (k : Fin 2) (h : Fin 4) : List Place := [(k, h, 1), (k, h, 0), (k, h, 2), (k, h, 3)]
abbrev chunkPlaces (k : Fin 2) : List Place := headPlaces k 3 ++ headPlaces k 2 ++ headPlaces k 1 ++ headPlaces k 0
abbrev places : List Place := chunkPlaces 0 ++ chunkPlaces 1

theorem mem_places : ∀ p : Place, p ∈ places := by decide
theorem disj_places (p q : Place) (hne : p ≠ q) : LoadRect.disj (placeRect p) (placeRect q).toLoadRect = true := by
  revert p q
  decide +kernel
theorem disj_du : ∀ p ∈ places, LoadRect.disj (placeRect p)
    (Rect.unit (s := S256x6144) ![0, 0] ![256, 1024] inb_S256x6144_S256x1024_0_0).toLoadRect = true := by
  decide +kernel
theorem disj_da : ∀ p ∈ places, LoadRect.disj (placeRect p)
    (Rect.unit (s := S256x6144) ![0, 1024] ![256, 1024] inb_S256x6144_S256x1024_0_1024).toLoadRect = true := by
  decide +kernel

theorem pieces_eq (K : Fin 2 → Fin 4 → Cell) (G : Fin 2 → Fin 4 → HeadState) (L : List (View.Piece (Elt Ideal) S256x6144 .bf16)) :
    chunkPieces (K 0) (G 0) 0 (chunkPieces (K 1) (G 1) 1 L) = stores placeRect (placeVal K G) places ++ L := rfl

/-- What belongs to one of the four parts at a chunk and a head of a point. -/
theorem placeVal_at (t : Fin cfg0.N) (k : Fin 2) (h p : Fin 4) (a : Fin 128) (j : Fin 256) :
    placeVal (cells m c t) ![between m c t, entry m c t] (k, h, p) (ix2 a j)
      = ((input m c).head (chunkAt t k) h).grad ((input m c).behind (chunkAt t k) h) p a j := by
  have hz := cell_gated m c t k h
  have hG : stateOf ((![between m c t, entry m c t] : Fin 2 → Fin 4 → HeadState) k h) = (input m c).behind (chunkAt t k) h := by
    fin_cases k
    · exact behind_early m c t h
    · exact behind_late m c t h
  match p with
  | 0 => exact (dQ_at _ _ hz a j).trans (by rw [cell_head]; rfl)
  | 1 => exact (dK_at _ _ hz _ a j).trans (by rw [cell_head, hG]; rfl)
  | 2 => exact (dV_at _ _ hz _ a j).trans (by rw [cell_head, hG]; rfl)
  | 3 => exact (dGate_at _ _ hz a j).trans (by rw [cell_head]; rfl)

theorem proj_ld (t : Fin cfg0.N) (k : Fin 2) (h p : Fin 4) (a : Fin 128) (j : Fin 256) :
    ((outsAt0 m c t.val t.isLt).1 : Vec Ideal S256x6144 .bf16) (ix2 (blkRow k a) (partAt p h j))
      = ((input m c).head (chunkAt t k) h).grad ((input m c).behind (chunkAt t k) h) p a j := by
  rw [← placeVal_at, proj_point]
  have e := congrFun (ld_stores VO0_14 placeRect (placeVal (cells m c t) ![between m c t, entry m c t]) disj_places places (k, h, p)
    (mem_places _) (otherPieces (found m c t))) (ix2 a j)
  refine Eq.trans ?_ e
  simp only [View.ld]
  congr 1
  funext i
  refine Fin.ext ?_
  fin_cases i <;> simp [Rect.idx_unit_val, Nat.add_assoc]

/-- The first part's eight lane groups side by side. -/
theorem lanes_at (b : Blocks) (r : Fin 256) (q : Fin 1024) :
    k0_pay26 (F := Ideal) (k0_pay20 (F := Ideal) (lane b 0)) (k0_pay21 (F := Ideal) (lane b 1)) (k0_pay22 (F := Ideal) (lane b 2))
      (k0_pay23 (F := Ideal) (lane b 3)) (k0_pay24 (F := Ideal) (lane b 4)) (k0_pay25 (F := Ideal) (lane b 5)) (lane b 6) (lane b 7) (ix2 r q)
      = b.du (ix3 ⟨q.val / 128, by omega⟩ r ⟨q.val % 128, by omega⟩) := by
  pointwise [k0_pay26, k0_pay20, k0_pay21, k0_pay22, k0_pay23, k0_pay24, k0_pay25, lane]
  blk_point []

abbrev duRect : Rect S256x6144 := Rect.unit (s := S256x6144) ![0, 0] ![256, 1024] inb_S256x6144_S256x1024_0_0
abbrev daRect : Rect S256x6144 := Rect.unit (s := S256x6144) ![0, 1024] ![256, 1024] inb_S256x6144_S256x1024_0_1024

theorem proj_du (t : Fin cfg0.N) (r : Fin 256) (q : Fin 1024) :
    ((outsAt0 m c t.val t.isLt).1 : Vec Ideal S256x6144 .bf16) (ix2 r ⟨q.val, by omega⟩) = (input m c).du (ix2 (arow t r) q) := by
  rw [proj_point]
  have e := congrFun ((ld_stores_skip VO0_14 placeRect (placeVal (cells m c t) ![between m c t, entry m c t]) duRect places disj_du
    (otherPieces (found m c t))).trans ((read_canon VO0_14 duRect _).symm.trans ((read_skip VO0_14 daRect duRect _ _ (by decide)).trans
      (read_hit VO0_14 duRect _ [])))) (ix2 r q)
  refine Eq.trans ?_ (e.trans ?_)
  · simp only [View.ld]
    congr 1
    funext i
    refine Fin.ext ?_
    fin_cases i <;> simp [Rect.idx_unit_val]
  · rw [found_eq]
    refine (lanes_at _ r q).trans ((du_at m c t _ r _).trans ?_)
    congr 2
    exact Fin.ext (by simp only; omega)

theorem proj_da (t : Fin cfg0.N) (r : Fin 256) (q : Fin 1024) :
    ((outsAt0 m c t.val t.isLt).1 : Vec Ideal S256x6144 .bf16) (ix2 r ⟨1024 + q.val, by omega⟩) = (input m c).da (ix2 (arow t r) q) := by
  rw [proj_point]
  have e := congrFun ((ld_stores_skip VO0_14 placeRect (placeVal (cells m c t) ![between m c t, entry m c t]) daRect places disj_da
    (otherPieces (found m c t))).trans ((read_canon VO0_14 daRect _).symm.trans (read_hit VO0_14 daRect _ _))) (ix2 r q)
  refine Eq.trans ?_ (e.trans ?_)
  · simp only [View.ld]
    congr 1
    funext i
    refine Fin.ext ?_
    fin_cases i <;> simp [Rect.idx_unit_val]
  · rw [found_eq, Blocks.daAll]
    refine Eq.trans ?_ (da_at m c t r q)
    pointwise [k0_pay27]
    try blk_ext

theorem proj_array : (dats m 0 c).arrAt 14 cfg0.N = (input m c).gradP := by
  refine (dats m 0 c).arrAt_eq_of_covers 14 _ (by decide +kernel) fun t _ y => ?_
  blk_simp
  rw [after0_14]
  idx_vars y
  rw [show ((View.whole main_v167_0).slice (win0_14.rect t)).emb (ix2 y0 y1) = ix2 (arow t y0) y1 from by blk_ext [idx t]]
  obtain ⟨k, a, rfl⟩ : ∃ k a, y0 = blkRow k a := ⟨⟨y0.val / 128, by omega⟩, ⟨y0.val % 128, by omega⟩, Fin.ext (by simp only [blkRow]; omega)⟩
  rcases In.column y1 with ⟨q, rfl⟩ | ⟨q, rfl⟩ | ⟨p, h, j, rfl⟩
  · exact (proj_du m c t _ q).trans ((input m c).gradP_du _ q).symm
  · exact (proj_da m c t _ q).trans ((input m c).gradP_da _ q).symm
  · rw [arow_blkRow]
    exact (proj_ld m c t k h p a j).trans ((input m c).gradP_at _ a p h j).symm

/-! ## The branch -/

abbrev unitRect (p : Fin 2 × Fin 4) : Rect S256x1024 := cellRect p.1 p.2
abbrev unitPlaces : List (Fin 2 × Fin 4) := [(0, 3), (0, 2), (0, 1), (0, 0), (1, 3), (1, 2), (1, 1), (1, 0)]
theorem mem_unit : ∀ p : Fin 2 × Fin 4, p ∈ unitPlaces := by decide
theorem disj_unit (p q : Fin 2 × Fin 4) (hne : p ≠ q) : LoadRect.disj (unitRect p) (unitRect q).toLoadRect = true := by
  revert p q
  decide +kernel

theorem unit_ld (t : Fin cfg0.N) (k : Fin 2) (h : Fin 4) (a : Fin 128) (j : Fin 256) :
    ((outsAt0 m c t.val t.isLt).2.1 : Vec Ideal S256x1024 .bf16) (ix2 (blkRow k a) (colAt h j)) = ((input m c).head (chunkAt t k) h).branch a j := by
  rw [← cell_head m c t k h, ← branch_at _ _ (cell_gated m c t k h), branch_point]
  have e := congrFun (ld_stores VO0_15 unitRect (fun p => (cells m c t p.1 p.2).branch) disj_unit unitPlaces (k, h) (mem_unit _) []) (ix2 a j)
  refine Eq.trans ?_ e
  simp only [View.ld]
  congr 1
  funext i
  refine Fin.ext ?_
  fin_cases i <;> simp [Rect.idx_unit_val]

theorem unit_array : (dats m 0 c).arrAt 15 cfg0.N = (input m c).unit := by
  refine (dats m 0 c).arrAt_eq_of_covers 15 _ (by decide +kernel) fun t _ y => ?_
  blk_simp
  rw [after0_15]
  idx_vars y
  rw [show ((View.whole main_v167_1).slice (win0_15.rect t)).emb (ix2 y0 y1) = ix2 (arow t y0) y1 from by blk_ext [idx t]]
  obtain ⟨k, a, rfl⟩ : ∃ k a, y0 = blkRow k a := ⟨⟨y0.val / 128, by omega⟩, ⟨y0.val % 128, by omega⟩, Fin.ext (by simp only [blkRow]; omega)⟩
  obtain ⟨h, j, rfl⟩ := col_split y1
  rw [arow_blkRow]
  exact (unit_ld m c t k h a j).trans ((input m c).unit_at _ a h j).symm

/-! ## The gain's gradient -/

/-- The last point. -/
abbrev last : Fin cfg0.N := ⟨31, lt_of_lt_of_eq (by decide) N_0.symm⟩

theorem gain_step (t : Fin cfg0.N) (h : Fin 4) (j : Fin 256) : ((outsAt0 m c t.val t.isLt).2.2.1 : Vec Ideal S1x1024 .f32) (ix2 0 (colAt h j))
    = gainEntry m c t (ix2 0 (colAt h j)) + (((input m c).head (chunkAt t 1) h).gainTerm j + ((input m c).head (chunkAt t 0) h).gainTerm j) := by
  refine (ld_gain _ h j).symm.trans ?_
  rw [gain_point, addGain_at _ _ (cell_gated m c t 0 h), addGain_at _ _ (cell_gated m c t 1 h), cell_head, cell_head, ld_gain, add_assoc]

/-- A sum over the chunks, point by point. -/
theorem sum_chunks (f : Fin 64 → EReal) : ∑ t : Fin cfg0.N, (f (chunkAt t 1) + f (chunkAt t 0)) = ∑ n, f n := by
  have e : ∑ n, f n = ∑ t : Fin 32, ∑ k : Fin 2, f ⟨t.val * 2 + k.val, by omega⟩ := Fin.sum_univ_tiles 32 2 rfl f
  rw [e, ← Equiv.sum_comp (Fin.revPerm : Equiv.Perm (Fin 32)) (fun t : Fin 32 => ∑ k : Fin 2, f ⟨t.val * 2 + k.val, by omega⟩)]
  refine Finset.sum_congr rfl fun t _ => ?_
  rw [Fin.sum_univ_two, add_comm]
  have ht : t.val < 32 := points t
  have er : ((Fin.revPerm : Equiv.Perm (Fin 32)) t).val = 31 - t.val := by show 32 - (t.val + 1) = 31 - t.val; omega
  congr 2 <;> refine Fin.ext ?_ <;> simp only [chunkAt, er] <;> omega

/-- What a point adds. -/
def gainBoth (t : Fin cfg0.N) : S1x1024.Idx → EReal := fun i =>
  ((input m c).head (chunkAt t 1) ⟨(i 1).val / 256, Nat.div_lt_of_lt_mul (i 1).isLt⟩).gainTerm ⟨(i 1).val % 256, Nat.mod_lt _ (by decide)⟩
    + ((input m c).head (chunkAt t 0) ⟨(i 1).val / 256, Nat.div_lt_of_lt_mul (i 1).isLt⟩).gainTerm ⟨(i 1).val % 256, Nat.mod_lt _ (by decide)⟩
theorem gainBoth_at (t : Fin cfg0.N) (h : Fin 4) (j : Fin 256) : gainBoth m c t (ix2 0 (colAt h j))
    = ((input m c).head (chunkAt t 1) h).gainTerm j + ((input m c).head (chunkAt t 0) h).gainTerm j := by
  have eh : (256 * h.val + j.val) / 256 = h.val := by omega
  have ej : (256 * h.val + j.val) % 256 = j.val := by omega
  unfold gainBoth
  simp only [ix2_1, eh, ej, Fin.eta]
theorem gain_both (t : Fin cfg0.N) (i : S1x1024.Idx) : ((outsAt0 m c t.val t.isLt).2.2.1 : Vec Ideal S1x1024 .f32) i
    = gainEntry m c t i + gainBoth m c t i := by
  idx_vars i
  obtain rfl : i0 = 0 := Subsingleton.elim _ _
  obtain ⟨h, j, rfl⟩ := col_split i1
  rw [gainBoth_at]
  exact gain_step m c t h j

theorem gain_array : (dats m 0 c).arrAt 16 cfg0.N = (input m c).gradGain := by
  refine (dats m 0 c).arrAt_eq_of_after_last 16 last (by decide +kernel) _ fun y => ?_
  blk_simp
  idx_vars y
  obtain rfl : y0 = 0 := Subsingleton.elim _ _
  obtain ⟨h, j, rfl⟩ := col_split y1
  rw [after0_16]
  refine Eq.trans ?_ ((sum_chunks fun n => ((input m c).head n h).gainTerm j).trans ((input m c).gradGain_at h j).symm)
  refine (Pipeline.eq_sum_fin_of_reset_step_apply_last (fun n hn => ((outsAt0 m c n hn).2.2.1 : Vec Ideal S1x1024 .f32)) 32
    (fun _ => (0 : EReal)) (gainBoth m c) (fun t h0 i => ?_) (fun t h0 i => ?_) (le_of_eq N_0) last N_0.symm (ix2 0 (colAt h j))).trans ?_
  · refine (gain_both m c t i).trans ?_
    unfold gainEntry
    rw [if_pos h0]
  · refine (gain_both m c t i).trans ?_
    unfold gainEntry
    rw [if_neg h0]
  · rw [zero_add]
    exact Finset.sum_congr rfl fun t _ => gainBoth_at m c t h j

/-! ## The run -/

/-- What the three results hold at the end. -/
theorem run (ρ : Dev nD → PrngReg) : θ_run defs (onTc (τ := τ) (main (F := Ideal))) ⟨m, fun _ => 0, ρ⟩ (fun r => ∀ c : Dev nD,
      r.2.mem ((c.tc : Thread nD τ).loc main_v168) = (input m c).gradP
      ∧ r.2.mem ((c.tc : Thread nD τ).loc main_v169) = (input m c).unit
      ∧ r.2.mem ((c.tc : Thread nD τ).loc main_v167_2) = (input m c).gradGain) := by
  refine (θ_run defs _ _).mono (fun r h c => ⟨?_, ?_, ((h c).1 16).trans (gain_array m c)⟩) (run_main m ρ)
  · refine ((h c).2 main_v168 (Pipeline.mem_restRefs_of main_v168 (by decide) (by decide))).trans ?_
    unfold Pipeline.afterTail₀
    simp only [hostOps1, List.flatten_cons, List.flatten_nil, List.append_nil]
    after_results
    erw [(dats m 0 c).withArrays_arrAt launch₀0.sharedIn _ (A_eq m c) 14, proj_array]
    rfl
  · refine ((h c).2 main_v169 (Pipeline.mem_restRefs_of main_v169 (by decide) (by decide))).trans ?_
    unfold Pipeline.afterTail₀
    simp only [hostOps1, List.flatten_cons, List.flatten_nil, List.append_nil]
    after_results
    erw [(dats m 0 c).withArrays_arrAt launch₀0.sharedIn _ (A_eq m c) 15, unit_array]
    rfl

end Cert.Ret

end
-- ==== Proof.RetKeep.lean ====
module

public import proofs.«01_k».proof.Proof.RetTable

/-! Retention's backward call: the reference's tables of decays, element by element. -/

@[expose] public section

set_option maxRecDepth 16384

noncomputable section

namespace Cert.Ret

open Cert.Reference4Ideal Cert.Reference4Ideal.Gen Cert.Reference4Ideal.Read Idealize.ShloMosaic Idealize.ShloMosaic.TcCoe
open Cert.RealValues

theorem half_f32 : Ideal.ofBits .f32 0x3F000000#32 = ((1 / 2 : ℝ) : EReal) := by
  simp [Ideal.ofBits, Ideal.ieee, -EReal.coe_mul]; norm_num
theorem five_f32 : Ideal.ofBits .f32 0x40A00000#32 = ((5 : ℝ) : EReal) := by
  simp [Ideal.ofBits, Ideal.ieee, -EReal.coe_mul]; norm_num
theorem chunk_f32 : Ideal.ofBits .f32 0x43000000#32 = ((128 : ℝ) : EReal) := by
  simp [Ideal.ofBits, Ideal.ieee, -EReal.coe_mul]; norm_num

/-- The logarithm of one less a power of a half. -/
theorem log1p_power (n : ℕ) (y : ℝ) (hy : 1 - (1 / 2 : ℝ) ^ n = y) (h0 : 0 < y) :
    Ideal.log1p (-(((1 / 2 : ℝ).rpow n : ℝ) : EReal)) = ((Real.log y : ℝ) : EReal) := by
  have e : (1 / 2 : ℝ).rpow n = (1 / 2 : ℝ) ^ n := Real.rpow_natCast _ _
  rw [e, Ideal.log1p, ← EReal.coe_neg, ← EReal.coe_one, ← EReal.coe_add, Ideal.log_coe, ← sub_eq_add_neg, hy, if_neg (not_le.mpr h0)]

theorem ref_lg (h : Fin 4) : (val_main_v72 (F := Ideal) : FVec Ideal S4 .f32) (ix1 h) = (lg h : EReal) := by
  pointwise [val_main_v72, val_main_v71, val_main_v70, val_main_v69, val_main_cst_5, val_main_v68, val_main_v67, val_main_cst_4,
    val_main_v66, half_f32, five_f32]
  rw [word_at (by omega), ← EReal.coe_add, Ideal.pow_coe_coe]
  have e : ((5 : ℝ) + (h.val : ℝ)) = ((5 + h.val : ℕ) : ℝ) := by push_cast; rfl
  rw [e]
  match h with
  | 0 => exact log1p_power 5 (31 / 32) (by norm_num) (by norm_num)
  | 1 => exact log1p_power 6 (63 / 64) (by norm_num) (by norm_num)
  | 2 => exact log1p_power 7 (127 / 128) (by norm_num) (by norm_num)
  | 3 => exact log1p_power 8 (255 / 256) (by norm_num) (by norm_num)

theorem ref_xi (h : Fin 4) (a : Fin 128) : (val_main_v97 (F := Ideal) : FVec Ideal S128x4 .f32) (ix2 a h) = decayBy h ((a.val : ℝ) + 1) := by
  pointwise [val_main_v97, val_main_v96, val_main_v95, val_main_v94, val_main_v93, val_main_v92, val_main_cst_9, val_main_v91,
    val_main_v90, val_main_v73, ref_lg, one_f32]
  rw [word_at (by omega), ← EReal.coe_add, ← EReal.coe_mul]
  rfl

/-- A decay over `t` rows, kept where `t` is not negative. -/
theorem kept_of {p : Prop} [Decidable p] (h : Fin 4) (t : ℝ) (z : EReal) (hz : z = 0) (ht : 0 ≤ t ↔ p) [Decidable ((0 : EReal) ≤ (t : EReal))] :
    (if (0 : EReal) ≤ (t : EReal) then Ideal.exp ((lg h : EReal) * max (t : EReal) 0) else z) = if p then decayBy h t else 0 := by
  by_cases hp : p
  · have h0 : (0 : EReal) ≤ (t : EReal) := by exact_mod_cast ht.mpr hp
    rw [if_pos hp, if_pos h0, max_eq_left h0, ← EReal.coe_mul]
    rfl
  · have h0 : ¬ (0 : EReal) ≤ (t : EReal) := fun h0 => hp (ht.mp (by exact_mod_cast h0))
    rw [if_neg hp, if_neg h0, hz]

theorem ref_dec (h : Fin 4) (a b : Fin 128) : (val_main_v89 (F := Ideal) : FVec Ideal S4x128x128 .f32) (ix3 h a b)
    = if b.val ≤ a.val then decayBy h ((a.val : ℝ) - b.val) else 0 := by
  pointwise [val_main_v89, val_main_v88, val_main_v87, val_main_v86, val_main_v85, val_main_v84, val_main_v83, val_main_v82,
    val_main_cst_7, val_main_v81, val_main_v80, val_main_v79, val_main_cst_6, val_main_v78, val_main_v77, val_main_v76,
    val_main_v75, val_main_v74, val_main_v73, val_main_call0_v0, val_main_call0_v1, val_main_call0_v2, val_main_cst_8, ref_lg]
  rw [word_at (by omega), word_at (by omega), ← EReal.coe_sub]
  exact kept_of h _ _ Ideal.ofBits_zero_f32 (by rw [sub_nonneg, Nat.cast_le])

/-- How far row `b` of chunk `n` lies before the start of chunk `c`. -/
theorem ref_kept (h : Fin 4) (c n : Fin 64) (b : Fin 128) : (val_main_v128 (F := Ideal) : FVec Ideal S4x64x8192 .f32) (ix3 h c (rowAt n b))
    = if n.val < c.val then decayBy h (128 * ((c.val : ℝ) - 1 - n.val) + (127 - b.val)) else 0 := by
  pointwise [val_main_v128, val_main_v127, val_main_v126, val_main_v125, val_main_v124, val_main_v123, val_main_v122, val_main_v121,
    val_main_cst_13, val_main_v120, val_main_v119, val_main_v118, val_main_cst_12, val_main_v117, val_main_v116, val_main_v115,
    val_main_v114, val_main_v113, val_main_v112, val_main_v111, val_main_cst_11, val_main_v110, val_main_v109, val_main_cst_10,
    val_main_v108, val_main_v107, val_main_call1_v0, val_main_call1_v1, val_main_call1_v2, val_main_cst_14, ref_lg, one_f32, chunk_f32]
  rw [word_at (by omega), word_at (by omega), ← EReal.coe_mul, ← EReal.coe_sub, ← EReal.coe_sub]
  have e : (128 : ℝ) * (c.val : ℝ) - 1 - ((128 * n.val + b.val : ℕ) : ℝ) = 128 * ((c.val : ℝ) - 1 - n.val) + (127 - b.val) := by
    push_cast; ring
  rw [e]
  refine kept_of h _ _ Ideal.ofBits_zero_f32 ?_
  rw [← e, sub_sub, sub_nonneg]
  have e2 : (1 : ℝ) + ((128 * n.val + b.val : ℕ) : ℝ) ≤ 128 * (c.val : ℝ) ↔ 1 + (128 * n.val + b.val) ≤ 128 * c.val := by
    rw [← Nat.cast_le (α := ℝ)]; push_cast; rfl
  rw [e2]
  omega

end Cert.Ret

end
-- ==== Proof.RetRef.lean ====
module

public import proofs.«01_k».proof.Proof.RetKeep
public import proofs.«01_k».proof.Proof.SguReal
public import Idealize.ShloMosaic.Lib.Pipeline.ValueKit

/-! Retention's backward call: what the reference computes up to the norm's gradient, element by element. -/

@[expose] public section

set_option maxRecDepth 16384

noncomputable section

namespace Cert.Ret

open Cert.Reference4Ideal Cert.Reference4Ideal.Gen Cert.Reference4Ideal.Read Idealize.ShloMosaic Idealize.ShloMosaic.TcCoe
open Cert.Activations Cert.RealValues Cert.NormGrad

variable (x : In) (n : Fin 64) (a b : Fin 128) (h : Fin 4) (i j : Fin 256)

/-! ## The projection's parts -/

theorem ref_q : (val_main_v4 (F := Ideal) x.p : FVec Ideal S8192x4x256 .f32) (ix3 (rowAt n a) h j) = (x.head n h).q a j := by
  rw [In.head_q]
  pointwise [val_main_v4, val_main_v0]
  try blk_ext
theorem ref_k : (val_main_v34 (F := Ideal) x.p : FVec Ideal S8192x4x256 .f32) (ix3 (rowAt n a) h j) = (x.head n h).k a j := by
  rw [In.head_k]
  pointwise [val_main_v34, val_main_v1]
  try blk_ext
theorem ref_v : (val_main_v135 (F := Ideal) x.p : FVec Ideal S8192x4x256 .f32) (ix3 (rowAt n a) h j) = (x.head n h).v a j := by
  rw [In.head_v]
  pointwise [val_main_v135, val_main_v2]
  try blk_ext
theorem ref_v' : (val_main_v100 (F := Ideal) x.p : FVec Ideal S64x128x4x256 .f32) (ix4 n a h j) = (x.head n h).v a j := by
  rw [In.head_v]
  pointwise [val_main_v100, val_main_v2]
  try blk_ext
theorem ref_z : (val_main_v3 (F := Ideal) x.p : FVec Ideal S8192x1024 .f32) (ix2 (rowAt n a) (colAt h j)) = (x.head n h).z a j := by
  rw [In.head_z]
  pointwise [val_main_v3]
  try blk_ext

/-! ## The rotated queries and keys -/

theorem cos_keys : (val_main_v47 (F := Ideal)) = val_main_v17 := rfl
theorem sin_keys : (val_main_v49 (F := Ideal)) = val_main_v19 := rfl

theorem ref_qr : (val_main_v33 (F := Ideal) x.p : FVec Ideal S8192x4x256 .f32) (ix3 (rowAt n a) h j) = (x.head n h).qr a j := by
  pointwise [val_main_v33, val_main_v32, val_main_v31, val_main_v30, val_main_v29, val_main_v28, val_main_v27, val_main_v26,
    val_main_v25, val_main_v24, val_main_v23, val_main_v22, val_main_v21, val_main_v20, val_main_v18, ref_q, Head.qr, rotate,
    In.head_cos, In.head_sin]
theorem ref_qc : (val_main_v98 (F := Ideal) x.p : FVec Ideal S64x128x4x256 .f32) (ix4 n a h j) = (x.head n h).qr a j := by
  rw [← ref_qr]
  pointwise [val_main_v98]
  try blk_ext
theorem ref_kr : (val_main_v65 (F := Ideal) x.p : FVec Ideal S8192x4x256 .f32) (ix3 (rowAt n a) h j) = (x.head n h).kr a j := by
  pointwise [val_main_v65, val_main_v64, val_main_cst_3, val_main_v63, val_main_v62, val_main_v61, val_main_v60, val_main_v59, val_main_v58, val_main_v57, val_main_v56,
    val_main_v55, val_main_v54, val_main_v53, val_main_v52, val_main_v51, val_main_v50, val_main_v48, ref_k, Head.kr, rotate,
    cos_keys, sin_keys, In.head_cos, In.head_sin]
theorem ref_kc : (val_main_v99 (F := Ideal) x.p : FVec Ideal S64x128x4x256 .f32) (ix4 n a h j) = (x.head n h).kr a j := by
  rw [← ref_kr]
  pointwise [val_main_v99]
  try blk_ext

/-! ## The norm and the gate -/

theorem ref_ctr : (val_main_v159 (F := Ideal) x.p : FVec Ideal S8192x4x256 .f32) (ix3 (rowAt n a) h j) = (x.head n h).ctr a j := by
  simp only [Head.ctr, In.head_o]
  pointwise [val_main_v159, val_main_v158, val_main_v148, val_main_v147, val_main_cst_16, val_main_v146, val_main_v145, val_main_cst_15]
theorem ref_ctr' : (val_main_v150 (F := Ideal) x.p : FVec Ideal S8192x4x256 .f32) (ix3 (rowAt n a) h j) = (x.head n h).ctr a j := by
  simp only [Head.ctr, In.head_o]
  pointwise [val_main_v150, val_main_v149, val_main_v148, val_main_v147, val_main_cst_16, val_main_v146, val_main_v145, val_main_cst_15]
theorem ref_meanSq : (val_main_v161 (F := Ideal) x.p : FVec Ideal S8192x4x1 .f32) (ix3 (rowAt n a) h 0) = meanSq headWidth eps ((x.head n h).ctr a) := by
  pointwise [val_main_v161, val_main_v160, val_main_cst_20, val_main_v157, val_main_v156, val_main_cst_19, val_main_v155, val_main_v154,
    val_main_cst_18, val_main_v151, ref_ctr', meanSq]
theorem ref_rstd : (val_main_v162 (F := Ideal) x.p : FVec Ideal S8192x4x1 .f32) (ix3 (rowAt n a) h 0) = (x.head n h).rstd a := by
  pointwise [val_main_v162, ref_meanSq, Head.rstd, invRms]
theorem ref_normed : (val_main_v167 (F := Ideal) x.p : FVec Ideal S8192x4x256 .f32) (ix3 (rowAt n a) h j) = (x.head n h).normed a j := by
  pointwise [val_main_v167, val_main_v166, ref_ctr, ref_rstd, Head.normed]
theorem ref_normed' : (val_main_v168 (F := Ideal) x.p : FVec Ideal S8192x1024 .f32) (ix2 (rowAt n a) (colAt h j)) = (x.head n h).normed a j := by
  rw [← ref_normed]
  have e1 : (256 * h.val + j.val) / 256 = h.val := by omega
  have e2 : (256 * h.val + j.val) % 256 = j.val := by omega
  pointwise [val_main_v168, e1, e2]
theorem ref_out : (val_main_v170 (F := Ideal) x.p x.gain : FVec Ideal S8192x1024 .f32) (ix2 (rowAt n a) (colAt h j)) = (x.head n h).out a j := by
  pointwise [val_main_v170, val_main_v169, ref_normed', Head.out, In.head_gain]
theorem ref_logistic : (val_main_v171_2 (F := Ideal) x.p : FVec Ideal S8192x1024 .f32) (ix2 (rowAt n a) (colAt h j)) = Ideal.logistic ((x.head n h).z a j) := by
  rw [← ref_z]
  pointwise [val_main_v171_2, val_main_call2_v4, val_main_call2_v3, val_main_call2_v2, val_main_call2_v1, val_main_call2_v0,
    val_main_call2_cst, val_main_call2_cst_0]
  try rfl
theorem ref_silu : (val_main_v171_0 (F := Ideal) x.p : FVec Ideal S8192x1024 .f32) (ix2 (rowAt n a) (colAt h j)) = silu ((x.head n h).z a j) := by
  pointwise [val_main_v171_0, ref_z, ref_logistic, silu]
theorem ref_slope : (val_main_v171_1 (F := Ideal) x.p : FVec Ideal S8192x1024 .f32) (ix2 (rowAt n a) (colAt h j))
    = Ideal.logistic ((x.head n h).z a j) * (1 - Ideal.logistic ((x.head n h).z a j)) := by
  pointwise [val_main_v171_1, val_main_call2_v7, val_main_call2_v6, val_main_call2_cst_1, ref_logistic]
theorem ref_branch : (val_main_v172 (F := Ideal) x.p x.gain : FVec Ideal S8192x1024 .f32) (ix2 (rowAt n a) (colAt h j)) = (x.head n h).branch a j := by
  pointwise [val_main_v172, ref_out, ref_silu, Head.branch]
theorem ref_cot : (val_main_v175 (F := Ideal) x.dx x.w : FVec Ideal S8192x1024 .f32) (ix2 (rowAt n a) (colAt h j)) = (x.head n h).cot a j := by
  rw [In.head_cot]
  pointwise [val_main_v175, val_main_v174, val_main_v173]
theorem ref_dOut : (val_main_v177 (F := Ideal) x.p x.dx x.w : FVec Ideal S8192x1024 .f32) (ix2 (rowAt n a) (colAt h j)) = (x.head n h).dOut a j := by
  pointwise [val_main_v177, ref_cot, ref_silu, Head.dOut]
theorem ref_dNormed : (val_main_v184 (F := Ideal) x.p x.gain x.dx x.w : FVec Ideal S8192x4x256 .f32) (ix3 (rowAt n a) h j) = (x.head n h).dNormed a j := by
  have e : (val_main_v183 (F := Ideal) x.p x.gain x.dx x.w : FVec Ideal S8192x1024 .f32) (ix2 (rowAt n a) (colAt h j)) = (x.head n h).dNormed a j := by
    pointwise [val_main_v183, val_main_v182, ref_dOut, Head.dNormed, In.head_gain]
  rw [← e]
  pointwise [val_main_v184]
  try blk_ext
theorem ref_gain : (val_main_v181 (F := Ideal) x.p x.dx x.w : FVec Ideal S1x1024 .f32) (ix2 0 (colAt h j)) = ∑ n, (x.head n h).gainTerm j := by
  have e : ∀ n a, (val_main_v179 (F := Ideal) x.p x.dx x.w : FVec Ideal S8192x1024 .f32) (ix2 (rowAt n a) (colAt h j))
      = (x.head n h).dOut a j * (x.head n h).normed a j := fun n a => by
    pointwise [val_main_v179, ref_dOut, ref_normed']
    exact mul_comm _ _
  pointwise [val_main_v181, val_main_v180, val_main_cst_22]
  refine (Fin.sum_univ_tiles 64 128 rfl _).trans (Finset.sum_congr rfl fun n _ => Finset.sum_congr rfl fun a _ => ?_)
  rw [← e]
  refine congrArg (val_main_v179 (F := Ideal) x.p x.dx x.w : FVec Ideal S8192x1024 .f32) ?_
  refine congrArg₂ ix2 (Fin.ext ?_) rfl
  simp only; omega

end Cert.Ret

end
-- ==== Proof.RetBack.lean ====
module

public import proofs.«01_k».proof.Proof.RetRef

/-! Retention's backward call: the arrays are real numbers, and the reference's gradients of the gate and of the norm. -/

@[expose] public section

set_option maxRecDepth 16384

noncomputable section

namespace Cert.Ret

open Cert.Reference4Ideal Cert.Reference4Ideal.Gen Cert.Reference4Ideal.Read Idealize.ShloMosaic Idealize.ShloMosaic.TcCoe
open Cert.Activations Cert.RealValues Cert.NormGrad Cert.Sgu

/-- The four arrays the gradients multiply are real. -/
structure In.Real (x : In) : Prop where
  p : ∀ i, IsReal (x.p i)
  gain : ∀ i, IsReal (x.gain i)
  dx : ∀ i, IsReal (x.dx i)
  w : ∀ i, IsReal (x.w i)

theorem width_pos : IsPos headWidth := ⟨256, by norm_num, by simp [Ideal.ofBits, Ideal.ieee, -EReal.coe_mul]; norm_num⟩
theorem keyScale_real : IsReal keyScale := ⟨1 / 16, by simp [Ideal.ofBits, Ideal.ieee, -EReal.coe_mul]; norm_num⟩
theorem decayBy_real (h : Fin 4) (t : ℝ) : IsReal (decayBy h t) := isReal_coe _
theorem ite_real {p : Prop} [Decidable p] {t : EReal} (ht : IsReal t) : IsReal (if p then t else 0) := by
  split
  · exact ht
  · exact ⟨0, EReal.coe_zero.symm⟩

/-! ## The arrays' real numbers -/

/-- A rotary angle. -/
theorem angle_real (r : Fin 8192) (j : Fin 128) : IsReal ((val_main_v16 (F := Ideal) : FVec Ideal S8192x128 .f32) (ix2 r j)) := by
  have e : Ideal.ofBits .f32 0x461C4000#32 = ((10000 : ℝ) : EReal) := by simp [Ideal.ofBits, Ideal.ieee, -EReal.coe_mul]; norm_num
  pointwise [val_main_v16, val_main_v15, val_main_v14, val_main_v13, val_main_v12, val_main_v11, val_main_v10, val_main_v9,
    val_main_cst_0, val_main_v8, val_main_v7, val_main_cst, val_main_v6, val_main_v5, chunk_f32]
  rw [word_at (by omega), word_at (by omega), e, ← EReal.coe_neg, div_coe_coe _ (by norm_num), Ideal.pow_coe_coe, ← EReal.coe_mul]
  exact isReal_coe _

variable {x : In} (hx : x.Real) (n : Fin 64) (a b : Fin 128) (h : Fin 4) (i j : Fin 256)

theorem cos_real (j : Fin 128) : IsReal ((x.head n h).cos a j) := by
  obtain ⟨t, ht⟩ := angle_real (rowAt n a) j
  rw [In.head_cos]
  pointwise [val_main_v17, ht]
  rw [Ideal.cos_coe]
  exact isReal_coe _
theorem sin_real (j : Fin 128) : IsReal ((x.head n h).sin a j) := by
  obtain ⟨t, ht⟩ := angle_real (rowAt n a) j
  rw [In.head_sin]
  pointwise [val_main_v19, ht]
  rw [Ideal.sin_coe]
  exact isReal_coe _

include hx

theorem q_real : IsReal ((x.head n h).q a j) := by rw [In.head_q]; exact hx.p _
theorem k_real : IsReal ((x.head n h).k a j) := by rw [In.head_k]; exact hx.p _
theorem v_real : IsReal ((x.head n h).v a j) := by rw [In.head_v]; exact hx.p _
theorem z_real : IsReal ((x.head n h).z a j) := by rw [In.head_z]; exact hx.p _
theorem gain_real : IsReal ((x.head n h).gain j) := by rw [In.head_gain]; exact hx.gain _
theorem cot_real : IsReal ((x.head n h).cot a j) := by rw [In.head_cot]; exact IsReal.sum fun _ => (hx.dx _).mul (hx.w _)

omit hx in
theorem rotate_real {c s : Sq} {y : Wide} (hc : ∀ a j, IsReal (c a j)) (hs : ∀ a j, IsReal (s a j)) (hy : ∀ a j, IsReal (y a j)) :
    IsReal (rotate c s y a j) := by
  unfold rotate
  split
  · exact sub_real ((hy _ _).mul (hc _ _)) ((hy _ _).mul (hs _ _))
  · exact ((hy _ _).mul (hs _ _)).add ((hy _ _).mul (hc _ _))
theorem qr_real : IsReal ((x.head n h).qr a j) := rotate_real a j (fun a => cos_real n a h) (fun a => sin_real n a h) fun a j => q_real hx n a h j
theorem kr_real : IsReal ((x.head n h).kr a j) :=
  (rotate_real a j (fun a => cos_real n a h) (fun a => sin_real n a h) fun a j => k_real hx n a h j).mul keyScale_real
theorem xi_real : IsReal ((x.head n h).xi a) := by rw [In.head_xi]; exact decayBy_real _ _

theorem score_real : IsReal ((x.head n h).score a b) := by
  rw [In.head_score]
  pointwise [val_main_v104, val_main_v103, val_main_v102, val_main_v101, ref_qc, ref_kc, ref_dec]
  exact (IsReal.sum fun i => (qr_real hx n a h i).mul (kr_real hx n b h i)).mul (ite_real (decayBy_real _ _))
theorem before_real : IsReal ((x.head n h).before i j) := by
  rw [In.head_before]
  pointwise [val_main_v137, val_main_v136, val_main_v134, val_main_v133, val_main_v132, val_main_v131, val_main_v130, val_main_v129]
  refine IsReal.sum fun r => ?_
  obtain ⟨m, b, rfl⟩ := row_split r
  rw [ref_v, ref_kr, ref_kept]
  exact (v_real hx m b h j).mul ((kr_real hx m b h i).mul (ite_real (decayBy_real _ _)))
theorem o_real : IsReal ((x.head n h).o a j) := by
  have e : (val_main_v143 (F := Ideal) x.p : FVec Ideal S64x128x4x256 .f32) (ix4 n a h j)
      = ∑ b, (x.head n h).v b j * (x.head n h).score a b + ∑ i, (x.head n h).before i j * ((x.head n h).qr a i * (x.head n h).xi a) := by
    simp only [In.head_score, In.head_before, In.head_xi]
    pointwise [val_main_v143, val_main_v142, val_main_v141, val_main_v140, val_main_v139, val_main_v138, val_main_v106, val_main_v105,
      ref_v', ref_qc, ref_xi]
  have e' : (x.head n h).o a j = (val_main_v143 (F := Ideal) x.p : FVec Ideal S64x128x4x256 .f32) (ix4 n a h j) := by
    rw [In.head_o]
    have e1 : (128 * n.val + a.val) / 128 = n.val := by omega
    have e2 : (128 * n.val + a.val) % 128 = a.val := by omega
    pointwise [val_main_v144, e1, e2]
  rw [e', e]
  exact (IsReal.sum fun b => (v_real hx n b h j).mul (score_real hx n a b h)).add
    (IsReal.sum fun i => (before_real hx n h i j).mul ((qr_real hx n a h i).mul (xi_real hx n a h)))

/-! ## The norm and the gate -/

theorem ctr_real : IsReal ((x.head n h).ctr a j) :=
  sub_real (o_real hx n a h j) (div_real (IsReal.sum fun i => o_real hx n a h i) width_pos)
theorem ctr_sum : ∑ j, (x.head n h).ctr a j = 0 := by
  obtain ⟨o, ho⟩ := lift_family fun j => o_real hx n a h j
  have ew : headWidth = ((256 : ℝ) : EReal) := by simp [Ideal.ofBits, Ideal.ieee, -EReal.coe_mul]; norm_num
  simp only [Head.ctr, ew, fun j => congrFun ho j]
  simp only [← coe_sum, div_coe_coe _ (by norm_num : (256 : ℝ) ≠ 0), ← EReal.coe_sub]
  rw [← EReal.coe_zero]
  congr 1
  rw [Finset.sum_sub_distrib, Finset.sum_const, Finset.card_univ, Fintype.card_fin]
  simp only [nsmul_eq_mul]
  push_cast
  ring
theorem rstd_real : IsReal ((x.head n h).rstd a) := root_real width_pos eps_pos fun k => ctr_real hx n a h k
theorem out_real : IsReal ((x.head n h).out a j) := ((ctr_real hx n a h j).mul (rstd_real hx n a h)).mul (gain_real hx n h j)
theorem dNormed_real : IsReal ((x.head n h).dNormed a j) :=
  ((cot_real hx n a h j).mul (silu_real (z_real hx n a h j))).mul (gain_real hx n h j)
theorem dO_real : IsReal ((x.head n h).dO a j) :=
  (rstd_real hx n a h).mul (sub_real (sub_real (dNormed_real hx n a h j) (div_real (IsReal.sum fun i => dNormed_real hx n a h i) width_pos))
    (((ctr_real hx n a h j).mul (rstd_real hx n a h)).mul (div_real (IsReal.sum fun i =>
      (dNormed_real hx n a h i).mul ((ctr_real hx n a h i).mul (rstd_real hx n a h))) width_pos)))
theorem stateTerm_real : IsReal ((x.head n h).stateTerm i j) :=
  IsReal.sum fun a => ((qr_real hx n a h i).mul (xi_real hx n a h)).mul (dO_real hx n a h j)

theorem ref_dGate : (val_main_v178 (F := Ideal) x.p x.gain x.dx x.w : FVec Ideal S8192x1024 .f32) (ix2 (rowAt n a) (colAt h j))
    = (x.head n h).dGate a j := by
  pointwise [val_main_v178, val_main_call3_v0, val_main_call3_v1, val_main_call3_v2, val_main_v176, ref_out, ref_cot, ref_z,
    ref_logistic, ref_slope]
  rw [Head.dGate, mul_comm ((x.head n h).cot a j)]
  exact silu_chain (z_real hx n a h j) ((out_real hx n a h j).mul (cot_real hx n a h j))

theorem ref_dO : (val_main_v208 (F := Ideal) x.p x.gain x.dx x.w : FVec Ideal S8192x4x256 .f32) (ix3 (rowAt n a) h j)
    = (x.head n h).dO a j := by
  rw [Head.dO, Head.normed, Head.rstd]
  refine Eq.trans ?_ (layer_chain width_pos eps_pos (fun k => dNormed_real hx n a h k) (fun k => ctr_real hx n a h k) (ctr_sum hx n a h) j)
  have ed : ∀ k, (val_main_v189 (F := Ideal) x.p x.gain x.dx x.w : FVec Ideal S8192x4x256 .f32) (ix3 (rowAt n a) h k)
      = (x.head n h).dNormed a k * invRms headWidth eps ((x.head n h).ctr a) := fun k => by
    pointwise [val_main_v189, val_main_v188, ref_dNormed, ref_rstd, Head.rstd]
  have ec : (val_main_v195 (F := Ideal) x.p x.gain x.dx x.w : FVec Ideal S8192x4x1 .f32) (ix3 (rowAt n a) h 0)
      = chainFactor headWidth eps ((x.head n h).dNormed a) ((x.head n h).ctr a) := by
    pointwise [val_main_v195, val_main_v194, val_main_cst_25, val_main_v190, val_main_v187, val_main_v186, val_main_cst_23,
      val_main_v185, val_main_v165, val_main_v164, val_main_cst_21, val_main_v163, ref_rstd, ref_meanSq, ref_ctr, ref_dNormed,
      Head.rstd, chainFactor]
  have es : ∀ k, (val_main_v198 (F := Ideal) x.p x.gain x.dx x.w : FVec Ideal S8192x4x256 .f32) (ix3 (rowAt n a) h k)
      = chainFactor headWidth eps ((x.head n h).dNormed a) ((x.head n h).ctr a) * (Ideal.ofBits .f32 0x40000000#32 * (x.head n h).ctr a k) := fun k => by
    pointwise [val_main_v198, val_main_v197, val_main_v196, val_main_cst_26, val_main_v153, val_main_v152, val_main_cst_17, ref_ctr']
    simp only [Finset.univ_unique, Finset.sum_singleton]
    rw [Fin.default_eq_zero, ec]
  pointwise [val_main_v208, val_main_v207, val_main_v206, val_main_cst_29, val_main_v205, val_main_v204, val_main_cst_28, val_main_v203,
    val_main_v202, val_main_v201, val_main_v200, val_main_cst_27, val_main_v199, val_main_v193, val_main_v192, val_main_cst_24,
    val_main_v191, ed, es]
  try simp only [Finset.univ_unique, Finset.sum_singleton]

theorem ref_dO' : (val_main_v209 (F := Ideal) x.p x.gain x.dx x.w : FVec Ideal S64x128x4x256 .f32) (ix4 n a h j)
    = (x.head n h).dO a j := by
  rw [← ref_dO hx]
  pointwise [val_main_v209]
  try blk_ext

end Cert.Ret

end
-- ==== Proof.RetReal.lean ====
module

public import proofs.«01_k».proof.Proof.RetModel
public import proofs.«01_k».proof.Proof.SguReal

/-! Retention's backward call: the state's cotangent behind a chunk, carried chunk by chunk, is the sum of what the later
    chunks add to it, each decayed over the chunks between. -/

@[expose] public section

noncomputable section

namespace Cert.Ret

open Idealize.ShloMosaic Cert.RealValues

/-- The decay from chunk `c` back to the end of chunk `n`. -/
def gapDecay (g : ℝ) (n c : ℕ) : ℝ := if n < c then Real.exp (g * (128 * ((c : ℝ) - 1 - n))) else 0

/-- One step of the carried sum. -/
theorem gapDecay_step (g : ℝ) (D : Fin 64 → ℝ) (n : Fin 64) :
    ∑ c, gapDecay g n.val c.val * D c = (∑ c, gapDecay g (n.val + 1) c.val * D c) * Real.exp (g * 128)
      + if h : n.val + 1 < 64 then D ⟨n.val + 1, h⟩ else 0 := by
  have e : (if h : n.val + 1 < 64 then D ⟨n.val + 1, h⟩ else 0) = ∑ c : Fin 64, if c.val = n.val + 1 then D c else 0 := by
    by_cases h : n.val + 1 < 64
    · rw [dif_pos h, Finset.sum_eq_single (⟨n.val + 1, h⟩ : Fin 64) (fun c _ hc => if_neg fun e => hc (Fin.ext e))
        (fun hc => absurd (Finset.mem_univ _) hc), if_pos rfl]
    · rw [dif_neg h]
      exact (Finset.sum_eq_zero fun c _ => if_neg (by omega)).symm
  rw [e, Finset.sum_mul, ← Finset.sum_add_distrib]
  refine Finset.sum_congr rfl fun c _ => ?_
  unfold gapDecay
  rcases lt_trichotomy c.val (n.val + 1) with h | h | h
  · rw [if_neg (by omega), if_neg (by omega), if_neg (by omega)]; ring
  · rw [if_pos (by omega), if_neg (by omega), if_pos h, h]
    push_cast
    rw [show g * (128 * ((n.val : ℝ) + 1 - 1 - n.val)) = 0 by ring, Real.exp_zero]; ring
  · rw [if_pos (by omega), if_pos h, if_neg (by omega), add_zero, mul_right_comm, ← Real.exp_add]
    push_cast
    congr 2; ring

/-- The carried sum in closed form, where the chunks add real numbers. -/
theorem carried_sum (g : ℝ) (D : Fin 64 → ℝ) (F : ℕ → EReal) (h0 : F 0 = 0)
    (hs : ∀ s : ℕ, (hs : s < 63) → F (s + 1) = F s * ((Real.exp (g * 128) : ℝ) : EReal) + (D ⟨63 - s, by omega⟩ : EReal)) (n : Fin 64) :
    F (63 - n.val) = ((∑ c, gapDecay g n.val c.val * D c : ℝ) : EReal) := by
  have key : ∀ s : ℕ, (hs : s < 64) → F s = ((∑ c, gapDecay g (63 - s) c.val * D c : ℝ) : EReal) := by
    intro s
    induction s with
    | zero =>
      intro _
      rw [h0, Finset.sum_eq_zero fun c _ => by rw [gapDecay, if_neg (by omega), zero_mul], EReal.coe_zero]
    | succ s ih =>
      intro h
      have e := gapDecay_step g D ⟨63 - (s + 1), by omega⟩
      have e1 : 63 - (s + 1) + 1 = 63 - s := by omega
      simp only [e1] at e
      rw [dif_pos (by omega)] at e
      rw [hs s (by omega), ih (by omega), e, EReal.coe_add, EReal.coe_mul]
  have := key (63 - n.val) (by omega)
  rwa [show 63 - (63 - n.val) = n.val by omega] at this

end Cert.Ret

end
-- ==== Proof.RetMix.lean ====
module

public import proofs.«01_k».proof.Proof.RetBack
public import proofs.«01_k».proof.Proof.RetReal

/-! Retention's backward call: the reference's gradients of queries, keys and values, and its three results. The reference
    adds up what all later chunks send back, each with its own decay; that is the carried cotangent of the state. -/

@[expose] public section

set_option maxRecDepth 16384

noncomputable section

namespace Cert.Ret

open Cert.Reference4Ideal Cert.Reference4Ideal.Gen Cert.Reference4Ideal.Read Idealize.ShloMosaic Idealize.ShloMosaic.TcCoe
open Cert.Activations Cert.RealValues Cert.NormGrad Cert.Sgu

/-- A row's decay is the decay over the chunks between, times the decay to the end of its chunk. -/
theorem kept_split (h : Fin 4) (n c : Fin 64) (b : Fin 128) :
    (if n.val < c.val then decayBy h (128 * ((c.val : ℝ) - 1 - n.val) + (127 - b.val)) else 0)
      = ((gapDecay (lg h) n.val c.val : ℝ) : EReal) * decayBy h (127 - (b.val : ℝ)) := by
  unfold gapDecay
  by_cases hc : n.val < c.val
  · rw [if_pos hc, if_pos hc, decayBy, decayBy, ← EReal.coe_mul, ← Real.exp_add]
    congr 2; ring
  · rw [if_neg hc, if_neg hc, EReal.coe_zero, zero_mul]

variable {x : In} (hx : x.Real) (n : Fin 64) (a b : Fin 128) (h : Fin 4) (i j : Fin 256)
include hx

/-- The state's cotangent behind a chunk as one sum over the chunks. -/
theorem behind_sum {D : Fin 64 → Fin 256 → Fin 256 → ℝ} (hD : ∀ c i j, (x.head c h).stateTerm i j = (D c i j : EReal)) :
    x.behind n h i j = ((∑ c, gapDecay (lg h) n.val c.val * D c i j : ℝ) : EReal) :=
  carried_sum (lg h) (fun c => D c i j) (fun s => x.carried h s i j) rfl
    (fun s hs => congrArg (x.carried h s i j * γ h + ·) (hD ⟨63 - s, by omega⟩ i j)) n

theorem terms_real : ∃ D : Fin 64 → Fin 256 → Fin 256 → ℝ, ∀ c i j, (x.head c h).stateTerm i j = (D c i j : EReal) :=
  ⟨fun c i j => (stateTerm_real hx c h i j).choose, fun c i j => (stateTerm_real hx c h i j).choose_spec⟩

theorem behind_real : IsReal (x.behind n h i j) := by
  obtain ⟨D, hD⟩ := terms_real hx h
  exact ⟨_, behind_sum hx n h i j hD⟩

/-- What the later chunks send back to a key and to a value. -/
theorem sent_key : ∑ c : Fin 64, (∑ j, (x.head c h).stateTerm i j * (x.head n h).v b j)
      * (if n.val < c.val then decayBy h (128 * ((c.val : ℝ) - 1 - n.val) + (127 - b.val)) else 0)
    = (∑ j, (x.head n h).v b j * x.behind n h i j) * (x.head n h).zeta b := by
  obtain ⟨D, hD⟩ := terms_real hx h
  obtain ⟨v, hv⟩ := lift_family fun j => v_real hx n b h j
  simp only [kept_split, fun j => congrFun hv j, hD, fun j => behind_sum hx n h i j hD, In.head_zeta]
  simp only [decayBy, ← EReal.coe_mul, ← coe_sum]
  congr 1
  simp only [Finset.sum_mul, Finset.mul_sum]
  rw [Finset.sum_comm]
  exact Finset.sum_congr rfl fun j _ => Finset.sum_congr rfl fun c _ => by ring
theorem sent_value : ∑ c : Fin 64, ∑ i, (x.head c h).stateTerm i j
      * ((x.head n h).kr b i * (if n.val < c.val then decayBy h (128 * ((c.val : ℝ) - 1 - n.val) + (127 - b.val)) else 0))
    = ∑ i, (x.head n h).kr b i * (x.head n h).zeta b * x.behind n h i j := by
  obtain ⟨D, hD⟩ := terms_real hx h
  obtain ⟨k, hk⟩ := lift_family fun i => kr_real hx n b h i
  simp only [kept_split, fun j => congrFun hk j, hD, fun i => behind_sum hx n h i j hD, In.head_zeta]
  simp only [decayBy, ← EReal.coe_mul, ← coe_sum]
  congr 1
  simp only [Finset.mul_sum]
  rw [Finset.sum_comm]
  exact Finset.sum_congr rfl fun j _ => Finset.sum_congr rfl fun c _ => by ring

/-! ## The retention's gradients -/

theorem ref_stateTerm : (val_main_v214 (F := Ideal) x.p x.gain x.dx x.w : FVec Ideal S64x4x256x256 .f32) (ix4 n h i j)
    = (x.head n h).stateTerm i j := by
  simp only [Head.stateTerm, In.head_xi]
  pointwise [val_main_v214, val_main_v213, val_main_v210, val_main_v140, val_main_v139, val_main_v138, ref_dO' hx, ref_qc, ref_xi]
  exact Finset.sum_congr rfl fun a _ => mul_comm _ _
theorem ref_dScore : (val_main_v233 (F := Ideal) x.p x.gain x.dx x.w : FVec Ideal S64x4x128x128 .f32) (ix4 n h a b)
    = (x.head n h).dScore a b := by
  simp only [Head.dScore, In.head_dec]
  pointwise [val_main_v233, val_main_v232, val_main_v102, val_main_v229, val_main_v228, ref_dO' hx, ref_v', ref_dec]
theorem ref_dQr : (val_main_v238 (F := Ideal) x.p x.gain x.dx x.w : FVec Ideal S64x128x4x256 .f32) (ix4 n a h i)
    = (x.head n h).dQr a i := by
  simp only [Head.dQr, In.head_xi, In.head_before]
  pointwise [val_main_v238, val_main_v237, val_main_v236, val_main_v216, val_main_v215, val_main_v138, val_main_v212, val_main_v211,
    val_main_v210, ref_dO' hx, ref_dScore hx, ref_kc, ref_xi]
  exact add_comm _ _
theorem ref_dQr' : (val_main_v243 (F := Ideal) x.p x.gain x.dx x.w : FVec Ideal S8192x4x256 .f32) (ix3 (rowAt n a) h i)
    = (x.head n h).dQr a i := by
  rw [← ref_dQr hx]
  have e1 : (128 * n.val + a.val) / 128 = n.val := by omega
  have e2 : (128 * n.val + a.val) % 128 = a.val := by omega
  pointwise [val_main_v243, e1, e2]
theorem ref_sent : (val_main_v217 (F := Ideal) x.p x.gain x.dx x.w : FVec Ideal S4x256x64x256 .f32) (ix4 h j n i)
    = (x.head n h).stateTerm i j := by
  pointwise [val_main_v217, ref_stateTerm hx]
theorem ref_dKr : (val_main_v242 (F := Ideal) x.p x.gain x.dx x.w : FVec Ideal S8192x4x256 .f32) (ix3 (rowAt n b) h i)
    = (x.head n h).dKr (x.behind n h) b i := by
  have e1 : (128 * n.val + b.val) / 128 = n.val := by omega
  have e2 : (128 * n.val + b.val) % 128 = b.val := by omega
  rw [Head.dKr, ← sent_key hx]
  pointwise [val_main_v242, val_main_v241, val_main_v235, val_main_v234, val_main_v227, val_main_cst_31, val_main_v226, val_main_v225,
    val_main_cst_30, val_main_v224, val_main_v223, val_main_v131, val_main_v130, val_main_v219, val_main_v218, ref_sent hx,
    ref_dScore hx, ref_qc, ref_v, ref_kept, e1, e2]
  try simp only [Finset.univ_unique, Finset.sum_singleton]
  exact add_comm _ _
theorem ref_dV : (val_main_v240 (F := Ideal) x.p x.gain x.dx x.w : FVec Ideal S8192x1024 .f32) (ix2 (rowAt n b) (colAt h j))
    = (x.head n h).dV (x.behind n h) b j := by
  have e1 : (128 * n.val + b.val) / 128 = n.val := by omega
  have e2 : (128 * n.val + b.val) % 128 = b.val := by omega
  have e3 : (256 * h.val + j.val) / 256 = h.val := by omega
  have e4 : (256 * h.val + j.val) % 256 = j.val := by omega
  rw [Head.dV, ← sent_value hx]
  simp only [In.head_score]
  pointwise [val_main_v240, val_main_v239, val_main_v231, val_main_v230, val_main_v228, val_main_v222, val_main_v221, val_main_v220,
    val_main_v134, val_main_v133, val_main_v132, val_main_v131, val_main_v130, val_main_v129, ref_sent hx, ref_dO' hx, ref_kr, ref_kept,
    e1, e2, e3, e4]
  exact (add_comm _ _).trans (congrArg (· + _) (Finset.sum_congr rfl fun a _ => mul_comm _ _))
theorem dKr_real : IsReal ((x.head n h).dKr (x.behind n h) b i) := by
  have hd : ∀ a, IsReal ((x.head n h).dec a b) := fun a => by rw [In.head_dec]; exact ite_real (decayBy_real _ _)
  have hz : IsReal ((x.head n h).zeta b) := by rw [In.head_zeta]; exact decayBy_real _ _
  exact (IsReal.sum fun a => ((IsReal.sum fun j => (dO_real hx n a h j).mul (v_real hx n b h j)).mul (hd a)).mul (qr_real hx n a h i)).add
    ((IsReal.sum fun j => (v_real hx n b h j).mul (behind_real hx n h i j)).mul hz)
omit hx in
/-- The keys' scale before and after the rotation back. -/
theorem scaled_low {u v s c t : EReal} (hu : IsReal u) (hv : IsReal v) (hs : IsReal s) (hc : IsReal c) (ht : IsReal t) :
    v * s * t + u * s * c = (u * c + v * t) * s := by
  obtain ⟨u, rfl⟩ := hu; obtain ⟨v, rfl⟩ := hv; obtain ⟨s, rfl⟩ := hs; obtain ⟨c, rfl⟩ := hc; obtain ⟨t, rfl⟩ := ht
  simp only [← EReal.coe_mul, ← EReal.coe_add]
  congr 1; ring
omit hx in
theorem scaled_high {u v s c t : EReal} (hu : IsReal u) (hv : IsReal v) (hs : IsReal s) (hc : IsReal c) (ht : IsReal t) :
    v * s * c + -(u * s) * t = (v * c - u * t) * s := by
  obtain ⟨u, rfl⟩ := hu; obtain ⟨v, rfl⟩ := hv; obtain ⟨s, rfl⟩ := hs; obtain ⟨c, rfl⟩ := hc; obtain ⟨t, rfl⟩ := ht
  simp only [← EReal.coe_mul, ← EReal.coe_add, ← EReal.coe_neg, ← EReal.coe_sub]
  congr 1; ring
theorem ref_dK : (val_main_v262 (F := Ideal) x.p x.gain x.dx x.w : FVec Ideal S8192x1024 .f32) (ix2 (rowAt n b) (colAt h i))
    = (x.head n h).dK (x.behind n h) b i := by
  have e3 : (256 * h.val + i.val) / 256 = h.val := by omega
  have e4 : (256 * h.val + i.val) % 256 = i.val := by omega
  simp only [Head.dK, rotateBack, In.head_cos, In.head_sin]
  pointwise [val_main_v262, val_main_v261, val_main_v260, val_main_cst_34, val_main_v259, val_main_cst_33, val_main_v258, val_main_v257,
    val_main_v256, val_main_v255, val_main_v254, val_main_v253, val_main_v252, val_main_v251, val_main_v250, val_main_v249, val_main_v248,
    val_main_v247, val_main_v246, val_main_v245, val_main_v244, val_main_cst_32, val_main_v50, val_main_v48, cos_keys, sin_keys,
    ref_dKr hx, e3, e4]
  have hc := fun k => cos_real (x := x) n b h k
  have hn := fun k => sin_real (x := x) n b h k
  simp only [In.head_cos, In.head_sin] at hc hn
  by_cases hi : i.val < 128
  · rw [dif_neg (fun e => absurd hi (not_lt.mpr e.2.1)), dif_pos ⟨by omega, hi⟩, dif_pos hi, zero_add]
    exact scaled_low (dKr_real hx n b h _) (dKr_real hx n b h _) keyScale_real (hc _) (hn _)
  · rw [dif_pos ⟨by omega, not_lt.mp hi, by omega⟩, dif_neg (fun e => hi e.2), dif_neg hi, add_zero]
    exact scaled_high (dKr_real hx n b h _) (dKr_real hx n b h _) keyScale_real (hc _) (hn _)
theorem ref_dQ : (val_main_v279 (F := Ideal) x.p x.gain x.dx x.w : FVec Ideal S8192x1024 .f32) (ix2 (rowAt n a) (colAt h i))
    = (x.head n h).dQ a i := by
  have e3 : (256 * h.val + i.val) / 256 = h.val := by omega
  have e4 : (256 * h.val + i.val) % 256 = i.val := by omega
  simp only [Head.dQ, rotateBack, In.head_cos, In.head_sin]
  pointwise [val_main_v279, val_main_v278, val_main_v277, val_main_cst_36, val_main_v276, val_main_cst_35, val_main_v275, val_main_v274,
    val_main_v273, val_main_v272, val_main_v271, val_main_v270, val_main_v269, val_main_v268, val_main_v267, val_main_v266, val_main_v265,
    val_main_v264, val_main_v263, val_main_v20, val_main_v18, ref_dQr' hx, e3, e4]
  by_cases hi : i.val < 128
  · rw [dif_neg (fun e => absurd hi (not_lt.mpr e.2.1)), dif_pos ⟨by omega, hi⟩, dif_pos hi, zero_add]
    exact add_comm _ _
  · rw [dif_pos ⟨by omega, not_lt.mp hi, by omega⟩, dif_neg (fun e => hi e.2), dif_neg hi, add_zero, EReal.neg_mul, ← sub_eq_add_neg]

/-! ## The three results -/

theorem ref_gradP : val_main_v280 (F := Ideal) x.p x.gain x.dx x.w x.du x.da = x.gradP := by
  funext i
  obtain ⟨r, q, rfl⟩ : ∃ r q, i = ix2 r q := ⟨_, _, eq_ix2 i⟩
  rcases In.column q with ⟨k, rfl⟩ | ⟨k, rfl⟩ | ⟨p, h, j, rfl⟩
  · rw [In.gradP_du]
    pointwise [val_main_v280]
  · rw [In.gradP_da]
    pointwise [val_main_v280]
  · obtain ⟨n, a, rfl⟩ := row_split r
    rw [In.gradP_at]
    match p with
    | 0 =>
      rw [Head.grad, ← ref_dQ hx]
      pointwise [val_main_v280]
      rw [dif_neg (by omega), dif_neg (by omega), dif_pos (by omega)]
      exact congrArg (fun q => (val_main_v279 (F := Ideal) x.p x.gain x.dx x.w : FVec Ideal S8192x1024 .f32) (ix2 (rowAt n a) q)) (Fin.ext (by simp only; omega))
    | 1 =>
      rw [Head.grad, ← ref_dK hx]
      pointwise [val_main_v280]
      rw [dif_neg (by omega), dif_neg (by omega), dif_neg (by omega), dif_pos (by omega)]
      exact congrArg (fun q => (val_main_v262 (F := Ideal) x.p x.gain x.dx x.w : FVec Ideal S8192x1024 .f32) (ix2 (rowAt n a) q)) (Fin.ext (by simp only; omega))
    | 2 =>
      rw [Head.grad, ← ref_dV hx]
      pointwise [val_main_v280]
      rw [dif_neg (by omega), dif_neg (by omega), dif_neg (by omega), dif_neg (by omega), dif_pos (by omega)]
      exact congrArg (fun q => (val_main_v240 (F := Ideal) x.p x.gain x.dx x.w : FVec Ideal S8192x1024 .f32) (ix2 (rowAt n a) q)) (Fin.ext (by simp only; omega))
    | 3 =>
      rw [Head.grad, ← ref_dGate hx]
      pointwise [val_main_v280]
      rw [dif_neg (by omega), dif_neg (by omega), dif_neg (by omega), dif_neg (by omega), dif_neg (by omega)]
      exact congrArg (fun q => (val_main_v178 (F := Ideal) x.p x.gain x.dx x.w : FVec Ideal S8192x1024 .f32) (ix2 (rowAt n a) q)) (Fin.ext (by simp only; omega))

omit hx in
theorem ref_unit : val_main_v172 (F := Ideal) x.p x.gain = x.unit := by
  funext i
  obtain ⟨r, q, rfl⟩ : ∃ r q, i = ix2 r q := ⟨_, _, eq_ix2 i⟩
  obtain ⟨n, a, rfl⟩ := row_split r
  obtain ⟨h, j, rfl⟩ := col_split q
  exact (ref_branch x n a h j).trans (x.unit_at n a h j).symm

omit hx in
theorem ref_gradGain : val_main_v181 (F := Ideal) x.p x.dx x.w = x.gradGain := by
  funext i
  obtain ⟨r, q, rfl⟩ : ∃ r q, i = ix2 r q := ⟨_, _, eq_ix2 i⟩
  obtain rfl : r = 0 := Subsingleton.elim _ _
  obtain ⟨h, j, rfl⟩ := col_split q
  exact (ref_gain x h j).trans (x.gradGain_at h j).symm

end Cert.Ret

end
-- ==== Proof.RetClaim.lean ====
module

public import proofs.«01_k».proof.Defs
public import proofs.«01_k».proof.Proof.RetArray
public import proofs.«01_k».proof.Proof.RetMix
public import proofs.«01_k».proof.Proof.RealArrays
public import Idealize.ShloMosaic.Lib.Claim
public import Idealize.ShloMosaic.Lib.Quiescent

/-! Retention's backward call: the kernel's three results are the reference's. -/

@[expose] public section

set_option maxRecDepth 16384

noncomputable section

namespace Cert.Ret

open Idealize.ShloMosaic Idealize.ShloMosaic.TcCoe Idealize.SL.Sem Cert.RealValues Cert.Reference4Ideal.Read

/-- The precondition's side conditions. -/
theorem preFacts : Cert.Pre_ret_finite.Facts where
  bcast_S_S8192x6144 := by decide
  bcast_S_S1x1024 := by decide
  bcast_S_S8192x1024 := by decide
  bcast_S_S2048x1024 := by decide

attribute [local instance] Cert.Kernel4Ideal.Gen.facts Cert.Reference4Ideal.Gen.facts preFacts

/-- The reference leaves its arguments as they were; it has no semaphore. -/
theorem ref_frame : Cert.quiescent_Reference4Ideal (hReference4Ideal := Cert.Reference4Ideal.Gen.facts) := fun m g _ =>
  (θ_run _ _ _).mono (fun r h => ⟨fun c => (h c).2.2.2, sem_eq_zero_of_no_sems rfl r.2⟩)
    (Cert.Reference4Ideal.Value.run m g)

/-- The named constants: each head's logarithm of the decay, and the decay over a chunk. -/
theorem preserves : Cert.preserves_Kernel4_Kernel4Ideal := ⟨
  IdealRules.named_const.statement Cert.Kernel4Ideal.κ "log_gamma0" .f32 0xBD020AEC#32 _ rfl,
  IdealRules.named_const.statement Cert.Kernel4Ideal.κ "log_gamma1" .f32 0xBC8102B3#32 _ rfl,
  IdealRules.named_const.statement Cert.Kernel4Ideal.κ "log_gamma2" .f32 0xBC0080AC#32 _ rfl,
  IdealRules.named_const.statement Cert.Kernel4Ideal.κ "log_gamma3" .f32 0xBB80402B#32 _ rfl,
  IdealRules.named_const.statement Cert.Kernel4Ideal.κ "gamma0" .f32 0x3C8CC36A#32 _ rfl,
  IdealRules.named_const.statement Cert.Kernel4Ideal.κ "gamma1" .f32 0x3E08698E#32 _ rfl,
  IdealRules.named_const.statement Cert.Kernel4Ideal.κ "gamma2" .f32 0x3EBB9DB9#32 _ rfl,
  IdealRules.named_const.statement Cert.Kernel4Ideal.κ "gamma3" .f32 0x3F1B1EB1#32 _ rfl⟩

/-- The two runs end with equal results. -/
theorem algebraic : Cert.algebraic_Kernel4Ideal_Reference4Ideal_pre_ret_finite
    (hKernel4Ideal := Cert.Kernel4Ideal.Gen.facts) (hReference4Ideal := Cert.Reference4Ideal.Gen.facts)
    (hPre_ret_finite := preFacts) := by
  intro m g m' g' hpre hargs
  refine ⟨fun c => (input m c).gradP, fun c => (input m c).unit, fun c => (input m c).gradGain,
    (θ_run _ _ _).mono (fun r h c => ?_) (θ_run_and (run m g) (Cert.Kernel4Ideal.Gen.unchanged m g)), ?_⟩
  · obtain ⟨h0, h1, h2⟩ := h.1 c
    exact ⟨h0, h1, h2, h.2 c⟩
  · refine (θ_run _ _ _).mono (fun r h c => ?_) (Cert.Reference4Ideal.Value.run m' g')
    obtain ⟨a0, a1, a2, a3, a4, a5⟩ := hargs c
    obtain ⟨h0, h1, h2, h3⟩ := hpre c
    have hx : (input m c).Real := ⟨isReal_of_array h0, isReal_of_array h1, isReal_of_array h2, isReal_of_array h3⟩
    obtain ⟨r0, r1, r2, rest⟩ := h c
    have e0 : StableHlo.launchContents m' c (Proc.tc.devRef Cert.Reference4Ideal.main_arg0) = _ := a0
    have e1 : StableHlo.launchContents m' c (Proc.tc.devRef Cert.Reference4Ideal.main_arg1) = _ := a1
    have e2 : StableHlo.launchContents m' c (Proc.tc.devRef Cert.Reference4Ideal.main_arg2) = _ := a2
    have e3 : StableHlo.launchContents m' c (Proc.tc.devRef Cert.Reference4Ideal.main_arg3) = _ := a3
    have e4 : StableHlo.launchContents m' c (Proc.tc.devRef Cert.Reference4Ideal.main_arg4) = _ := a4
    have e5 : StableHlo.launchContents m' c (Proc.tc.devRef Cert.Reference4Ideal.main_arg5) = _ := a5
    refine ⟨(r0.trans (val_main_v280_eq _)).trans ?_,
      (r1.trans (val_main_v172_eq _)).trans ?_,
      (r2.trans (val_main_v181_eq _)).trans ?_,
      rest⟩
    · rw [e0, e1, e2, e3, e4, e5]
      exact ref_gradP (x := input m c) hx
    · rw [e0, e1]
      exact ref_unit (x := input m c)
    · rw [e0, e2, e3]
      exact ref_gradGain (x := input m c)

end Cert.Ret

end
-- ==== Proof.DiscSpec.lean ====
module

public import Idealize.ShloMosaic.PureOps.Ideal

/-! The discretisation's backward call: the mathematics. One group has one step size, 64 states and 16 inputs to each state;
    a state's discretised pole and its input weights depend on its pole, the step size and the 16 weights. -/

@[expose] public section

noncomputable section

namespace Cert.Disc

open Idealize.ShloMosaic

abbrev half : EReal := Ideal.ofBits .f32 0x3F000000#32
/-- The bound a pole's real part is kept below. -/
abbrev bound : EReal := Ideal.ofBits .f32 0xB8D1B717#32

/-- One state: its pole `a + i l`, the logarithm `d` of its step, the weights of its inputs, and the cotangents of the
    discretised pole (`ca`, `cb`) and of the discretised weights (`cr`, `ci`). -/
structure State where
  a : EReal
  l : EReal
  d : EReal
  ca : EReal
  cb : EReal
  br : Fin 16 → EReal
  bi : Fin 16 → EReal
  cr : Fin 16 → EReal
  ci : Fin 16 → EReal

namespace State

variable (s : State)

/-! ## On the way forward -/

/-- The real part kept negative, and its derivative: one half where the two are equal. -/
def re : EReal := min s.a bound
def slope : EReal := Scalar.select (Ideal.cmp .ogt bound s.a) 1 (Scalar.select (Ideal.cmp .oeq bound s.a) half 0)
def step : EReal := Ideal.exp s.d
def mag : EReal := Ideal.exp (s.re * s.step)
def cosine : EReal := Ideal.cos (s.l * s.step)
def sine : EReal := Ideal.sin (s.l * s.step)
def poleRe : EReal := s.mag * s.cosine
def poleIm : EReal := s.mag * s.sine
/-- The quotient of the discretised pole less one by the pole. -/
def den : EReal := s.re * s.re + s.l * s.l
def less : EReal := s.poleRe - 1
def numRe : EReal := s.less * s.re + s.poleIm * s.l
def numIm : EReal := s.poleIm * s.re - s.less * s.l
def quotRe : EReal := Ideal.div s.numRe s.den
def quotIm : EReal := Ideal.div s.numIm s.den

/-! ## On the way back -/

/-- The quotient's cotangent. -/
def dQuotRe : EReal := ∑ h, s.ci h * s.bi h + ∑ h, s.cr h * s.br h
def dQuotIm : EReal := ∑ h, s.ci h * s.br h + ∑ h, -s.cr h * s.bi h
def dNumRe : EReal := Ideal.div s.dQuotRe s.den
def dNumIm : EReal := Ideal.div s.dQuotIm s.den
def dDen : EReal := -(s.dQuotIm * Ideal.div 1 (s.den * s.den) * s.numIm) + -(s.dQuotRe * Ideal.div 1 (s.den * s.den) * s.numRe)
def dPoleRe : EReal := s.ca + -s.dNumIm * s.l + s.dNumRe * s.re
def dPoleIm : EReal := s.cb + s.dNumIm * s.re + s.dNumRe * s.l
/-- What reaches the angle through the sine and through the cosine, and the exponent. -/
def dSine : EReal := s.mag * s.dPoleIm * s.cosine
def dCosine : EReal := -(s.mag * s.dPoleRe) * s.sine
def dExponent : EReal := (s.dPoleIm * s.sine + s.dPoleRe * s.cosine) * s.mag

/-- The gradients at the pole and at the weights. -/
def gradRe : EReal := (s.poleIm * s.dNumIm + s.less * s.dNumRe + s.re * s.dDen + s.dDen * s.re + s.dExponent * s.step) * s.slope
def gradIm : EReal :=
  s.less * -s.dNumIm + s.poleIm * s.dNumRe + s.l * s.dDen + s.dDen * s.l + s.dSine * s.step + s.dCosine * s.step
def gradBr (h : Fin 16) : EReal := s.quotIm * s.ci h + s.quotRe * s.cr h
def gradBi (h : Fin 16) : EReal := s.quotRe * s.ci h + s.quotIm * -s.cr h

end State

/-- The gradient at a group's step, from its states. -/
def gradStep (d : EReal) (s : Fin 64 → State) : EReal :=
  (∑ p, (s p).l * (s p).dSine + ∑ p, (s p).l * (s p).dCosine + ∑ p, (s p).re * (s p).dExponent) * Ideal.exp d

end Cert.Disc

end
-- ==== Proof.DiscBlock.lean ====
module

public import proofs.«01_k».proof.Proof.DiscSpec
public import proofs.«01_k».proof.Proof.Gen.Kernel5Ideal.Frame
public import Idealize.ShloMosaic.Lib.Pipeline.ValueKit
public import Idealize.ShloMosaic.Lib.Pointwise

/-! The discretisation's kernel: what its one point leaves in the five windows, element by element. -/

@[expose] public section

set_option maxRecDepth 16384

noncomputable section

namespace Cert.Disc

open Cert.Kernel5Ideal Cert.Kernel5Ideal.Gen Idealize.ShloMosaic Idealize.ShloMosaic.TcCoe Idealize.SL.Sem

variable (x0 x1 : FVec Ideal S64x1x64 .f32) (x2 : FVec Ideal S64x1x1 .f32) (x3 x4 : FVec Ideal S64x16x64 .f32)
  (x5 x6 : FVec Ideal S64x1x64 .f32) (x7 x8 : FVec Ideal S64x16x64 .f32)

/-- State `p` of group `g` in the kernel's arrays. -/
def inBlock (g p : Fin 64) : State where
  a := x0 (ix3 g 0 p)
  l := x1 (ix3 g 0 p)
  d := x2 (ix3 g 0 0)
  ca := x5 (ix3 g 0 p)
  cb := x6 (ix3 g 0 p)
  br := fun h => x3 (ix3 g h p)
  bi := fun h => x4 (ix3 g h p)
  cr := fun h => x7 (ix3 g h p)
  ci := fun h => x8 (ix3 g h p)

variable (g p : Fin 64)

/-- The state a group's row holds. -/
abbrev here : State := inBlock x0 x1 x2 x3 x4 x5 x6 x7 x8 g p

/-! ## The values on the way forward -/

theorem l_at : k0_pay55 (F := Ideal) x0 x1 x2 x3 x4 x5 x6 x7 x8 (ix3 g 0 p) = (here x0 x1 x2 x3 x4 x5 x6 x7 x8 g p).l := by
  pointwise [k0_pay55, k0_pay7, inBlock]
theorem br_at (h : Fin 16) : k0_pay56 (F := Ideal) x0 x1 x2 x3 x4 x5 x6 x7 x8 (ix3 g h p) = (here x0 x1 x2 x3 x4 x5 x6 x7 x8 g p).br h := by
  pointwise [k0_pay56, k0_pay8, inBlock]
theorem bi_at (h : Fin 16) : k0_pay57 (F := Ideal) x0 x1 x2 x3 x4 x5 x6 x7 x8 (ix3 g h p) = (here x0 x1 x2 x3 x4 x5 x6 x7 x8 g p).bi h := by
  pointwise [k0_pay57, k0_pay9, inBlock]
theorem re_at : k0_pay58 (F := Ideal) x0 x1 x2 x3 x4 x5 x6 x7 x8 (ix3 g 0 p) = (here x0 x1 x2 x3 x4 x5 x6 x7 x8 g p).re := by
  pointwise [k0_pay58, k0_pay10, k0_pay6, inBlock, State.re]
theorem step_at : k0_pay59 (F := Ideal) x0 x1 x2 x3 x4 x5 x6 x7 x8 (ix3 g 0 0) = (here x0 x1 x2 x3 x4 x5 x6 x7 x8 g p).step := by
  pointwise [k0_pay59, k0_pay12, inBlock, State.step]
theorem mag_at : k0_pay60 (F := Ideal) x0 x1 x2 x3 x4 x5 x6 x7 x8 (ix3 g 0 p) = (here x0 x1 x2 x3 x4 x5 x6 x7 x8 g p).mag := by
  pointwise [k0_pay60, k0_pay13, k0_pay12, k0_pay10, k0_pay6, inBlock, State.mag, State.re, State.step]
theorem sine_at : k0_pay61 (F := Ideal) x0 x1 x2 x3 x4 x5 x6 x7 x8 (ix3 g 0 p) = (here x0 x1 x2 x3 x4 x5 x6 x7 x8 g p).sine := by
  pointwise [k0_pay61, k0_pay16, k0_pay14, k0_pay12, k0_pay7, inBlock, State.sine, State.step]
theorem cosine_at : k0_pay63 (F := Ideal) x0 x1 x2 x3 x4 x5 x6 x7 x8 (ix3 g 0 p) = (here x0 x1 x2 x3 x4 x5 x6 x7 x8 g p).cosine := by
  pointwise [k0_pay63, k0_pay20, k0_pay18, k0_pay12, k0_pay7, inBlock, State.cosine, State.step]
theorem poleRe_at : k0_pay62 (F := Ideal) x0 x1 x2 x3 x4 x5 x6 x7 x8 (ix3 g 0 p) = (here x0 x1 x2 x3 x4 x5 x6 x7 x8 g p).poleRe := by
  pointwise [k0_pay62, k0_pay17, k0_pay15, k0_pay14, k0_pay13, k0_pay12, k0_pay10, k0_pay7, k0_pay6, inBlock, State.poleRe, State.mag, State.re,
    State.cosine, State.step]
theorem poleIm_at : k0_pay64 (F := Ideal) x0 x1 x2 x3 x4 x5 x6 x7 x8 (ix3 g 0 p) = (here x0 x1 x2 x3 x4 x5 x6 x7 x8 g p).poleIm := by
  pointwise [k0_pay64, k0_pay21, k0_pay19, k0_pay18, k0_pay13, k0_pay12, k0_pay10, k0_pay7, k0_pay6, inBlock, State.poleIm, State.mag, State.re,
    State.sine, State.step]
theorem den_at : k0_pay65 (F := Ideal) x0 x1 x2 x3 x4 x5 x6 x7 x8 (ix3 g 0 p) = (here x0 x1 x2 x3 x4 x5 x6 x7 x8 g p).den := by
  pointwise [k0_pay65, k0_pay22, k0_pay10, k0_pay7, k0_pay6, inBlock, State.den, State.re]
theorem less_at : k0_pay66 (F := Ideal) x0 x1 x2 x3 x4 x5 x6 x7 x8 (ix3 g 0 p) = (here x0 x1 x2 x3 x4 x5 x6 x7 x8 g p).less := by
  pointwise [k0_pay66, k0_pay23, poleRe_at, State.less]
theorem numRe_at : k0_pay67 (F := Ideal) x0 x1 x2 x3 x4 x5 x6 x7 x8 (ix3 g 0 p) = (here x0 x1 x2 x3 x4 x5 x6 x7 x8 g p).numRe := by
  pointwise [k0_pay67, k0_pay24, k0_pay23, poleRe_at, poleIm_at, re_at, l_at, State.numRe, State.less]
theorem numIm_at : k0_pay69 (F := Ideal) x0 x1 x2 x3 x4 x5 x6 x7 x8 (ix3 g 0 p) = (here x0 x1 x2 x3 x4 x5 x6 x7 x8 g p).numIm := by
  pointwise [k0_pay69, k0_pay27, k0_pay23, poleRe_at, poleIm_at, re_at, l_at, State.numIm, State.less]
theorem square_at : k0_pay68 (F := Ideal) x0 x1 x2 x3 x4 x5 x6 x7 x8 (ix3 g 0 p)
    = Ideal.div 1 ((here x0 x1 x2 x3 x4 x5 x6 x7 x8 g p).den * (here x0 x1 x2 x3 x4 x5 x6 x7 x8 g p).den) := by
  pointwise [k0_pay68, k0_pay26, den_at]
theorem square_at' : k0_pay70 (F := Ideal) x0 x1 x2 x3 x4 x5 x6 x7 x8 (ix3 g 0 p)
    = Ideal.div 1 ((here x0 x1 x2 x3 x4 x5 x6 x7 x8 g p).den * (here x0 x1 x2 x3 x4 x5 x6 x7 x8 g p).den) := by
  pointwise [k0_pay70, k0_pay29, den_at]
theorem slope_at : k0_pay11 (F := Ideal) (View.ld (Val := Elt Ideal) x0 r0_0) (ix3 g 0 p) = (here x0 x1 x2 x3 x4 x5 x6 x7 x8 g p).slope := by
  pointwise [k0_pay11, k0_pay6, inBlock, State.slope]

/-- The same cosine and sine, in the values that compute the discretised pole. -/
theorem turn_at : k0_pay15 (F := Ideal) (View.ld (Val := Elt Ideal) x1 r0_0) (View.ld (Val := Elt Ideal) x2 r0_1) (ix3 g 0 p) = (here x0 x1 x2 x3 x4 x5 x6 x7 x8 g p).cosine
    ∧ k0_pay19 (F := Ideal) (View.ld (Val := Elt Ideal) x1 r0_0) (View.ld (Val := Elt Ideal) x2 r0_1) (ix3 g 0 p) = (here x0 x1 x2 x3 x4 x5 x6 x7 x8 g p).sine := by
  constructor
  · pointwise [k0_pay15, k0_pay14, k0_pay12, k0_pay7, inBlock, State.cosine, State.step]
  · pointwise [k0_pay19, k0_pay18, k0_pay12, k0_pay7, inBlock, State.sine, State.step]

/-! ## The cotangents -/

theorem ca_at : k0_pay71 (F := Ideal) x0 x1 x2 x3 x4 x5 x6 x7 x8 (ix3 g 0 p) = (here x0 x1 x2 x3 x4 x5 x6 x7 x8 g p).ca := by
  pointwise [k0_pay71, k0_pay30, inBlock]
theorem cb_at : k0_pay72 (F := Ideal) x0 x1 x2 x3 x4 x5 x6 x7 x8 (ix3 g 0 p) = (here x0 x1 x2 x3 x4 x5 x6 x7 x8 g p).cb := by
  pointwise [k0_pay72, k0_pay31, inBlock]
theorem cr_at (h : Fin 16) : k0_pay73 (F := Ideal) x0 x1 x2 x3 x4 x5 x6 x7 x8 (ix3 g h p) = (here x0 x1 x2 x3 x4 x5 x6 x7 x8 g p).cr h := by
  pointwise [k0_pay73, k0_pay32, inBlock]
theorem sums_at : k0_pay74 (F := Ideal) x0 x1 x2 x3 x4 x5 x6 x7 x8 (ix3 g 0 p)
      = ∑ h, (here x0 x1 x2 x3 x4 x5 x6 x7 x8 g p).ci h * (here x0 x1 x2 x3 x4 x5 x6 x7 x8 g p).br h
    ∧ k0_pay75 (F := Ideal) x0 x1 x2 x3 x4 x5 x6 x7 x8 (ix3 g 0 p)
      = ∑ h, (here x0 x1 x2 x3 x4 x5 x6 x7 x8 g p).ci h * (here x0 x1 x2 x3 x4 x5 x6 x7 x8 g p).bi h
    ∧ k0_pay76 (F := Ideal) x0 x1 x2 x3 x4 x5 x6 x7 x8 (ix3 g 0 p)
      = ∑ h, -(here x0 x1 x2 x3 x4 x5 x6 x7 x8 g p).cr h * (here x0 x1 x2 x3 x4 x5 x6 x7 x8 g p).bi h := by
  refine ⟨?_, ?_, ?_⟩
  · pointwise [k0_pay74, k0_pay35, k0_pay33, br_at, inBlock]
  · pointwise [k0_pay75, k0_pay36, k0_pay33, bi_at, inBlock]
  · pointwise [k0_pay76, k0_pay39, k0_pay37, k0_pay32, bi_at, inBlock]
    simp only [zero_sub]

/-! ## The results -/

theorem dMag_at : k0_pay77 (F := Ideal) x0 x1 x2 x3 x4 x5 x6 x7 x8 (ix3 g 0 p) = (here x0 x1 x2 x3 x4 x5 x6 x7 x8 g p).mag * (here x0 x1 x2 x3 x4 x5 x6 x7 x8 g p).dPoleRe := by
  obtain ⟨h1, h2, h3⟩ := sums_at x0 x1 x2 x3 x4 x5 x6 x7 x8 g p
  pointwise [k0_pay77, k0_pay53, k0_pay48, k0_pay46, k0_pay44, k0_pay43, k0_pay42, k0_pay40, l_at, br_at, re_at, mag_at, den_at, ca_at, cr_at, h1, h2, h3]
  simp only [zero_sub]
  rfl

theorem dBoth_at : k0_pay78 (F := Ideal) x0 x1 x2 x3 x4 x5 x6 x7 x8 (ix3 g 0 p) = (here x0 x1 x2 x3 x4 x5 x6 x7 x8 g p).dPoleIm * (here x0 x1 x2 x3 x4 x5 x6 x7 x8 g p).sine + (here x0 x1 x2 x3 x4 x5 x6 x7 x8 g p).dPoleRe * (here x0 x1 x2 x3 x4 x5 x6 x7 x8 g p).cosine := by
  obtain ⟨h1, h2, h3⟩ := sums_at x0 x1 x2 x3 x4 x5 x6 x7 x8 g p
  obtain ⟨h4, h5⟩ := turn_at x0 x1 x2 x3 x4 x5 x6 x7 x8 g p
  pointwise [h4, h5, k0_pay78, k0_pay54, k0_pay48, k0_pay47, k0_pay46, k0_pay44, k0_pay43, k0_pay42, k0_pay40, l_at, br_at, re_at, den_at, ca_at, cb_at, cr_at, h1, h2, h3]
  simp only [zero_sub]
  rfl

theorem re_block : out0_9 (F := Ideal) x0 x1 x2 x3 x4 x5 x6 x7 x8 (ix3 g 0 p) = (here x0 x1 x2 x3 x4 x5 x6 x7 x8 g p).gradRe := by
  obtain ⟨h1, h2, h3⟩ := sums_at x0 x1 x2 x3 x4 x5 x6 x7 x8 g p
  unfold out0_9
  rw [View.canon_cons_unit_lit' _ _ _ (by decide)]
  pointwise [k0_pay5, k0_pay3, k0_pay49, k0_pay46, k0_pay45, k0_pay43, k0_pay42, k0_pay40, l_at, br_at, re_at, mag_at, den_at, ca_at, cr_at, h1, h2, h3,
    slope_at _ x1 x2 x3 x4 x5 x6 x7 x8, dBoth_at, step_at _ _ _ _ _ _ _ _ _ _ p, less_at, poleIm_at, numRe_at, numIm_at, square_at, square_at']
  simp only [zero_sub]
  rfl

theorem im_block : out0_10 (F := Ideal) x0 x1 x2 x3 x4 x5 x6 x7 x8 (ix3 g 0 p) = (here x0 x1 x2 x3 x4 x5 x6 x7 x8 g p).gradIm := by
  obtain ⟨h1, h2, h3⟩ := sums_at x0 x1 x2 x3 x4 x5 x6 x7 x8 g p
  unfold out0_10
  rw [View.canon_cons_unit_lit' _ _ _ (by decide)]
  pointwise [k0_pay2, k0_pay1, k0_pay52, k0_pay50, k0_pay47, k0_pay46, k0_pay45, k0_pay44, k0_pay43, k0_pay42, k0_pay40, l_at, br_at, re_at, mag_at, den_at, cb_at, cr_at, h1, h2, h3,
    sine_at, cosine_at, dMag_at, step_at _ _ _ _ _ _ _ _ _ _ p, less_at, poleIm_at, numRe_at, numIm_at, square_at, square_at']
  simp only [zero_sub]
  rfl

theorem step_block : out0_11 (F := Ideal) x0 x1 x2 x3 x4 x5 x6 x7 x8 (ix3 g 0 0)
    = gradStep (x2 (ix3 g 0 0)) fun p => (here x0 x1 x2 x3 x4 x5 x6 x7 x8 g p) := by
  have h1 := fun p => (sums_at x0 x1 x2 x3 x4 x5 x6 x7 x8 g p).1
  have h2 := fun p => (sums_at x0 x1 x2 x3 x4 x5 x6 x7 x8 g p).2.1
  have h3 := fun p => (sums_at x0 x1 x2 x3 x4 x5 x6 x7 x8 g p).2.2
  unfold out0_11
  rw [View.canon_cons_unit_lit' _ _ _ (by decide)]
  pointwise [k0_pay4, k0_pay3, k0_pay1, k0_pay51, k0_pay50, k0_pay47, k0_pay46, k0_pay43, k0_pay42, k0_pay40, l_at, br_at, re_at, mag_at, den_at, cb_at, cr_at, h1, h2, h3,
    sine_at, cosine_at, dMag_at, dBoth_at, step_at _ _ _ _ _ _ _ _ _ _ 0]
  simp only [zero_sub]
  rfl

theorem br_block (h : Fin 16) : out0_12 (F := Ideal) x0 x1 x2 x3 x4 x5 x6 x7 x8 (ix3 g h p) = (here x0 x1 x2 x3 x4 x5 x6 x7 x8 g p).gradBr h := by
  unfold out0_12
  rw [View.canon_cons_unit_lit' _ _ _ (by decide)]
  pointwise [k0_pay41, k0_pay34, k0_pay33, k0_pay28, k0_pay27, k0_pay25, k0_pay24, k0_pay23, l_at, re_at, den_at, cr_at, poleRe_at, poleIm_at]
  rfl

theorem bi_block (h : Fin 16) : out0_13 (F := Ideal) x0 x1 x2 x3 x4 x5 x6 x7 x8 (ix3 g h p) = (here x0 x1 x2 x3 x4 x5 x6 x7 x8 g p).gradBi h := by
  unfold out0_13
  rw [View.canon_cons_unit_lit' _ _ _ (by decide)]
  pointwise [k0_pay38, k0_pay37, k0_pay33, k0_pay32, k0_pay28, k0_pay27, k0_pay25, k0_pay24, k0_pay23, l_at, re_at, den_at, poleRe_at, poleIm_at]
  simp only [zero_sub]
  rfl

end Cert.Disc

end
-- ==== Proof.DiscArray.lean ====
module

public import proofs.«01_k».proof.Proof.DiscBlock
public import Idealize.ShloMosaic.Lib.Claim

/-! The discretisation's backward call: what the five result arrays hold after the one grid point and the host lines. -/

@[expose] public section

set_option maxRecDepth 16384

noncomputable section

namespace Cert.Disc

open Cert.Kernel5Ideal Cert.Kernel5Ideal.Gen Idealize.ShloMosaic Idealize.ShloMosaic.TcCoe Idealize.SL.Sem

/-- The nine argument arrays. -/
structure Arrays where
  a : FVec Ideal S64x64 .f32
  l : FVec Ideal S64x64 .f32
  d : FVec Ideal S64 .f32
  br : FVec Ideal S64x64x16 .f32
  bi : FVec Ideal S64x64x16 .f32
  ca : FVec Ideal S64x64 .f32
  cb : FVec Ideal S64x64 .f32
  cr : FVec Ideal S64x64x16 .f32
  ci : FVec Ideal S64x64x16 .f32

namespace Arrays

variable (x : Arrays)

/-- State `p` of group `g`. -/
def state (g p : Fin 64) : State where
  a := x.a (ix2 g p)
  l := x.l (ix2 g p)
  d := x.d (ix1 g)
  ca := x.ca (ix2 g p)
  cb := x.cb (ix2 g p)
  br := fun h => x.br (ix3 g p h)
  bi := fun h => x.bi (ix3 g p h)
  cr := fun h => x.cr (ix3 g p h)
  ci := fun h => x.ci (ix3 g p h)

/-- The five results. -/
def outRe : FVec Ideal S64x64 .f32 := fun i => (x.state (i 0) (i 1)).gradRe
def outIm : FVec Ideal S64x64 .f32 := fun i => (x.state (i 0) (i 1)).gradIm
def outStep : FVec Ideal S64 .f32 := fun i => gradStep (x.d i) fun p => x.state (i 0) p
def outBr : FVec Ideal S64x64x16 .f32 := fun i => (x.state (i 0) (i 1)).gradBr (i 2)
def outBi : FVec Ideal S64x64x16 .f32 := fun i => (x.state (i 0) (i 1)).gradBi (i 2)

end Arrays

variable (m : (ℓ : Loc nD τ sig) → Buf (Elt Ideal) ℓ)

/-- The arguments the kernel's program is given. -/
abbrev arrays (c : Dev nD) : Arrays where
  a := m ((c : Thread nD τ).loc main_arg0)
  l := m ((c : Thread nD τ).loc main_arg1)
  d := m ((c : Thread nD τ).loc main_arg2)
  br := m ((c : Thread nD τ).loc main_arg3)
  bi := m ((c : Thread nD τ).loc main_arg4)
  ca := m ((c : Thread nD τ).loc main_arg5)
  cb := m ((c : Thread nD τ).loc main_arg6)
  cr := m ((c : Thread nD τ).loc main_arg7)
  ci := m ((c : Thread nD τ).loc main_arg8)

variable (c : Dev nD) (t : Fin cfg0.N)

/-- The arrays as the host lines lay them out. -/
theorem host_rows :
    (V m c main_v0 : FVec Ideal S64x1x64 .f32) = shapeCast S64x1x64 (arrays m c).a shapeCasts_S64x64_S64x1x64
    ∧ (V m c main_v1 : FVec Ideal S64x1x64 .f32) = shapeCast S64x1x64 (arrays m c).l shapeCasts_S64x64_S64x1x64
    ∧ (V m c main_v5 : FVec Ideal S64x1x64 .f32) = shapeCast S64x1x64 (arrays m c).ca shapeCasts_S64x64_S64x1x64
    ∧ (V m c main_v6 : FVec Ideal S64x1x64 .f32) = shapeCast S64x1x64 (arrays m c).cb shapeCasts_S64x64_S64x1x64 := by
  refine ⟨?_, ?_, ?_, ?_⟩
  · entry_read; rfl
  · entry_read; rfl
  · entry_read; rfl
  · entry_read; rfl
theorem host_step : (V m c main_v2 : FVec Ideal S64x1x1 .f32) = shapeCast S64x1x1 (arrays m c).d shapeCasts_S64_S64x1x1 := by
  entry_read; rfl
theorem host_weights :
    (V m c main_v3 : FVec Ideal S64x16x64 .f32) = transpose S64x16x64 [0, 2, 1] (arrays m c).br transposes_S64x64x16_S64x16x64_0_2_1
    ∧ (V m c main_v4 : FVec Ideal S64x16x64 .f32) = transpose S64x16x64 [0, 2, 1] (arrays m c).bi transposes_S64x64x16_S64x16x64_0_2_1
    ∧ (V m c main_v7 : FVec Ideal S64x16x64 .f32) = transpose S64x16x64 [0, 2, 1] (arrays m c).cr transposes_S64x64x16_S64x16x64_0_2_1
    ∧ (V m c main_v8 : FVec Ideal S64x16x64 .f32) = transpose S64x16x64 [0, 2, 1] (arrays m c).ci transposes_S64x64x16_S64x16x64_0_2_1 := by
  refine ⟨?_, ?_, ?_, ?_⟩
  · entry_read; rfl
  · entry_read; rfl
  · entry_read; rfl
  · entry_read; rfl
theorem row_at (T : FVec Ideal S64x64 .f32) (g p : Fin 64) :
    shapeCast S64x1x64 T shapeCasts_S64x64_S64x1x64 (ix3 g 0 p) = T (ix2 g p) := by pointwise []
theorem steps_at (T : FVec Ideal S64 .f32) (g : Fin 64) :
    shapeCast S64x1x1 T shapeCasts_S64_S64x1x1 (ix3 g 0 0) = T (ix1 g) := by pointwise []
theorem weight_at (T : FVec Ideal S64x64x16 .f32) (g p : Fin 64) (h : Fin 16) :
    transpose S64x16x64 [0, 2, 1] T transposes_S64x64x16_S64x16x64_0_2_1 (ix3 g h p) = T (ix3 g p h) := by pointwise []

/-- The one point reads and writes the whole arrays. -/
theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] ∧ win0_8.index t = ![0, 0, 0] ∧ win0_9.index t = ![0, 0, 0] ∧ win0_10.index t = ![0, 0, 0]
    ∧ win0_11.index t = ![0, 0, 0] ∧ win0_12.index t = ![0, 0, 0] ∧ win0_13.index t = ![0, 0, 0] :=
  (by decide +kernel : ∀ t : Fin grid0.N, _)

/-- A window's one block is its whole array. -/
theorem block_whole :
    (iblk m c 0 t : FVec Ideal S64x1x64 .f32) = V m c main_v0 ∧ (iblk m c 1 t : FVec Ideal S64x1x64 .f32) = V m c main_v1
    ∧ (iblk m c 2 t : FVec Ideal S64x1x1 .f32) = V m c main_v2 ∧ (iblk m c 3 t : FVec Ideal S64x16x64 .f32) = V m c main_v3
    ∧ (iblk m c 4 t : FVec Ideal S64x16x64 .f32) = V m c main_v4 ∧ (iblk m c 5 t : FVec Ideal S64x1x64 .f32) = V m c main_v5
    ∧ (iblk m c 6 t : FVec Ideal S64x1x64 .f32) = V m c main_v6 ∧ (iblk m c 7 t : FVec Ideal S64x16x64 .f32) = V m c main_v7
    ∧ (iblk m c 8 t : FVec Ideal S64x16x64 .f32) = V m c main_v8 := by
  refine ⟨?_, ?_, ?_, ?_, ?_, ?_, ?_, ?_, ?_⟩ <;> (funext i; idx_vars i; blk_point [iblk, idx t])

/-- The state the body finds is the arrays' state. -/
theorem found (g p : Fin 64) :
    here (iblk m c 0 t) (iblk m c 1 t) (iblk m c 2 t) (iblk m c 3 t) (iblk m c 4 t) (iblk m c 5 t) (iblk m c 6 t) (iblk m c 7 t) (iblk m c 8 t) g p
      = (arrays m c).state g p := by
  obtain ⟨e0, e1, e2, e3, e4, e5, e6, e7, e8⟩ := block_whole m c t
  obtain ⟨r0, r1, r5, r6⟩ := host_rows m c
  obtain ⟨w3, w4, w7, w8⟩ := host_weights m c
  rw [e0, e1, e2, e3, e4, e5, e6, e7, e8, r0, r1, host_step, w3, w4, r5, r6, w7, w8]
  simp only [here, inBlock, Arrays.state, row_at, steps_at]
  congr 1 <;> exact funext fun h => weight_at _ g p h

/-! ## The result arrays -/

/-- A row for each group, and the same transposed, as the kernel's windows hold them. -/
def asRows (T : S64x64.Idx → EReal) : S64x1x64.Idx → EReal := fun i => T (ix2 (i 0) (i 2))
def asWeights (T : S64x64x16.Idx → EReal) : S64x16x64.Idx → EReal := fun i => T (ix3 (i 0) (i 2) (i 1))
def asSteps (T : S64.Idx → EReal) : S64x1x1.Idx → EReal := fun i => T (ix1 (i 0))

theorem re_array : (dats m 0 c).arrAt 9 cfg0.N = asRows (arrays m c).outRe := by
  refine (dats m 0 c).arrAt_eq_of_covers 9 _ (by decide +kernel) fun t _ y => ?_
  blk_simp
  rw [after0_9]
  idx_vars y
  obtain rfl : y1 = 0 := Subsingleton.elim _ _
  rw [show ((View.whole main_v9_0).slice (win0_9.rect t)).emb (ix3 y0 0 y2) = ix3 y0 0 y2 from by blk_ext [idx t]]
  exact (re_block _ _ _ _ _ _ _ _ _ y0 y2).trans (congrArg State.gradRe (found m c t y0 y2))

theorem im_array : (dats m 0 c).arrAt 10 cfg0.N = asRows (arrays m c).outIm := by
  refine (dats m 0 c).arrAt_eq_of_covers 10 _ (by decide +kernel) fun t _ y => ?_
  blk_simp
  rw [after0_10]
  idx_vars y
  obtain rfl : y1 = 0 := Subsingleton.elim _ _
  rw [show ((View.whole main_v9_1).slice (win0_10.rect t)).emb (ix3 y0 0 y2) = ix3 y0 0 y2 from by blk_ext [idx t]]
  exact (im_block _ _ _ _ _ _ _ _ _ y0 y2).trans (congrArg State.gradIm (found m c t y0 y2))

theorem step_array : (dats m 0 c).arrAt 11 cfg0.N = asSteps (arrays m c).outStep := by
  refine (dats m 0 c).arrAt_eq_of_covers 11 _ (by decide +kernel) fun t _ y => ?_
  blk_simp
  rw [after0_11]
  idx_vars y
  obtain rfl : y1 = 0 := Subsingleton.elim _ _
  obtain rfl : y2 = 0 := Subsingleton.elim _ _
  rw [show ((View.whole main_v9_2).slice (win0_11.rect t)).emb (ix3 y0 0 0) = ix3 y0 0 0 from by blk_ext [idx t]]
  refine (step_block _ _ _ _ _ _ _ _ _ y0).trans (congrArg₂ gradStep ?_ (funext fun p => found m c t y0 p))
  exact congrArg State.d (found m c t y0 0)

theorem br_array : (dats m 0 c).arrAt 12 cfg0.N = asWeights (arrays m c).outBr := by
  refine (dats m 0 c).arrAt_eq_of_covers 12 _ (by decide +kernel) fun t _ y => ?_
  blk_simp
  rw [after0_12]
  idx_vars y
  rw [show ((View.whole main_v9_3).slice (win0_12.rect t)).emb (ix3 y0 y1 y2) = ix3 y0 y1 y2 from by blk_ext [idx t]]
  exact (br_block _ _ _ _ _ _ _ _ _ y0 y2 y1).trans (congrArg (State.gradBr · y1) (found m c t y0 y2))

theorem bi_array : (dats m 0 c).arrAt 13 cfg0.N = asWeights (arrays m c).outBi := by
  refine (dats m 0 c).arrAt_eq_of_covers 13 _ (by decide +kernel) fun t _ y => ?_
  blk_simp
  rw [after0_13]
  idx_vars y
  rw [show ((View.whole main_v9_4).slice (win0_13.rect t)).emb (ix3 y0 y1 y2) = ix3 y0 y1 y2 from by blk_ext [idx t]]
  exact (bi_block _ _ _ _ _ _ _ _ _ y0 y2 y1).trans (congrArg (State.gradBi · y1) (found m c t y0 y2))

/-! ## The run -/

theorem rows_back (T : S64x64.Idx → EReal) :
    shapeCast S64x64 (asRows T : FVec Ideal S64x1x64 .f32) shapeCasts_S64x1x64_S64x64 = T := by
  funext i; idx_vars i; pointwise [asRows]
theorem steps_back (T : S64.Idx → EReal) : shapeCast S64 (asSteps T : FVec Ideal S64x1x1 .f32) shapeCasts_S64x1x1_S64 = T := by
  funext i; idx_vars i; pointwise [asSteps]
theorem weights_back (T : S64x64x16.Idx → EReal) :
    transpose S64x64x16 [0, 2, 1] (asWeights T : FVec Ideal S64x16x64 .f32) transposes_S64x16x64_S64x64x16_0_2_1 = T := by
  funext i; idx_vars i; pointwise [asWeights]

/-- What the five results hold at the end. -/
theorem run (ρ : Dev nD → PrngReg) : θ_run defs (onTc (τ := τ) (main (F := Ideal))) ⟨m, fun _ => 0, ρ⟩ (fun r => ∀ c : Dev nD,
      r.2.mem ((c.tc : Thread nD τ).loc main_v10) = (arrays m c).outRe ∧ r.2.mem ((c.tc : Thread nD τ).loc main_v11) = (arrays m c).outIm
      ∧ r.2.mem ((c.tc : Thread nD τ).loc main_v12) = (arrays m c).outStep ∧ r.2.mem ((c.tc : Thread nD τ).loc main_v13) = (arrays m c).outBr
      ∧ r.2.mem ((c.tc : Thread nD τ).loc main_v14) = (arrays m c).outBi) := by
  refine (θ_run defs _ _).mono (fun r h c => ⟨?_, ?_, ?_, ?_, ?_⟩) (run_main m ρ)
  · refine ((h c).2 main_v10 (Pipeline.mem_restRefs_of main_v10 (by decide) (by decide))).trans ?_
    unfold Pipeline.afterTail₀
    simp only [hostOps1, List.flatten_cons, List.flatten_nil, List.append_nil]
    after_results
    erw [Pipeline.withArrays_arr _ launch0.win.arr_inj c _ _ 9, re_array]
    exact rows_back _
  · refine ((h c).2 main_v11 (Pipeline.mem_restRefs_of main_v11 (by decide) (by decide))).trans ?_
    unfold Pipeline.afterTail₀
    simp only [hostOps1, List.flatten_cons, List.flatten_nil, List.append_nil]
    after_results
    erw [Pipeline.withArrays_arr _ launch0.win.arr_inj c _ _ 10, im_array]
    exact rows_back _
  · refine ((h c).2 main_v12 (Pipeline.mem_restRefs_of main_v12 (by decide) (by decide))).trans ?_
    unfold Pipeline.afterTail₀
    simp only [hostOps1, List.flatten_cons, List.flatten_nil, List.append_nil]
    after_results
    erw [Pipeline.withArrays_arr _ launch0.win.arr_inj c _ _ 11, step_array]
    exact steps_back _
  · refine ((h c).2 main_v13 (Pipeline.mem_restRefs_of main_v13 (by decide) (by decide))).trans ?_
    unfold Pipeline.afterTail₀
    simp only [hostOps1, List.flatten_cons, List.flatten_nil, List.append_nil]
    after_results
    erw [Pipeline.withArrays_arr _ launch0.win.arr_inj c _ _ 12, br_array]
    exact weights_back _
  · refine ((h c).2 main_v14 (Pipeline.mem_restRefs_of main_v14 (by decide) (by decide))).trans ?_
    unfold Pipeline.afterTail₀
    simp only [hostOps1, List.flatten_cons, List.flatten_nil, List.append_nil]
    after_results
    erw [Pipeline.withArrays_arr _ launch0.win.arr_inj c _ _ 13, bi_array]
    exact weights_back _

end Cert.Disc

end
-- ==== Proof.DiscRef.lean ====
module

public import proofs.«01_k».proof.Proof.Gen.Reference5Ideal.Read
public import proofs.«01_k».proof.Proof.DiscSpec
public import Idealize.ShloMosaic.Lib.Pipeline.ValueKit

/-! The discretisation's backward call: what the reference computes, element by element. -/

@[expose] public section

set_option maxRecDepth 16384

noncomputable section

namespace Cert.Disc

open Cert.Reference5Ideal Cert.Reference5Ideal.Gen Cert.Reference5Ideal.Read Idealize.ShloMosaic Idealize.ShloMosaic.TcCoe

/-- The arguments the reference is given. -/
structure Args where
  x0 : FVec Ideal S64x64 .f32
  x1 : FVec Ideal S64x64 .f32
  x2 : FVec Ideal S64 .f32
  x3 : FVec Ideal S64x64x16 .f32
  x4 : FVec Ideal S64x64x16 .f32
  x5 : FVec Ideal S64x64 .f32
  x6 : FVec Ideal S64x64 .f32
  x7 : FVec Ideal S64x64x16 .f32
  x8 : FVec Ideal S64x64x16 .f32

/-- State `p` of group `g`. -/
def Args.state (x : Args) (g p : Fin 64) : State where
  a := x.x0 (ix2 g p)
  l := x.x1 (ix2 g p)
  d := x.x2 (ix1 g)
  ca := x.x5 (ix2 g p)
  cb := x.x6 (ix2 g p)
  br := fun h => x.x3 (ix3 g p h)
  bi := fun h => x.x4 (ix3 g p h)
  cr := fun h => x.x7 (ix3 g p h)
  ci := fun h => x.x8 (ix3 g p h)

variable (x : Args) (g p : Fin 64) (h : Fin 16)

/-- The four sums over a state's inputs. -/
theorem ref_sum_ciBr : (val_main_v66 (F := Ideal) x.x3 x.x8 : FVec Ideal S64x64 .f32) (ix2 g p) = ∑ h, x.x8 (ix3 g p h) * x.x3 (ix3 g p h) := by
  pointwise [val_main_v66, val_main_v65, val_main_cst_9, val_main_v64, val_main_v63, val_main_cst_8, val_main_v60]
  simp only [Finset.univ_unique, Finset.sum_singleton]

theorem ref_sum_ciBi : (val_main_v72 (F := Ideal) x.x4 x.x8 : FVec Ideal S64x64 .f32) (ix2 g p) = ∑ h, x.x8 (ix3 g p h) * x.x4 (ix3 g p h) := by
  pointwise [val_main_v72, val_main_v71, val_main_cst_11, val_main_v70, val_main_v69, val_main_cst_10, val_main_v59]
  simp only [Finset.univ_unique, Finset.sum_singleton]

theorem ref_sum_crBi : (val_main_v81 (F := Ideal) x.x4 x.x7 : FVec Ideal S64x64 .f32) (ix2 g p) = ∑ h, -x.x7 (ix3 g p h) * x.x4 (ix3 g p h) := by
  pointwise [val_main_v81, val_main_v80, val_main_cst_13, val_main_v79, val_main_v78, val_main_cst_12, val_main_v74]
  simp only [Finset.univ_unique, Finset.sum_singleton]

theorem ref_sum_crBr : (val_main_v89 (F := Ideal) x.x3 x.x7 : FVec Ideal S64x64 .f32) (ix2 g p) = ∑ h, x.x7 (ix3 g p h) * x.x3 (ix3 g p h) := by
  pointwise [val_main_v89, val_main_v88, val_main_cst_15, val_main_v87, val_main_v86, val_main_cst_14, val_main_v73]
  simp only [Finset.univ_unique, Finset.sum_singleton]

theorem ref_re : (val_main_v1 (F := Ideal) x.x0 : FVec Ideal S64x64 .f32) (ix2 g p) = (x.state g p).re := by
  pointwise [val_main_v1, val_main_v0, val_main_cst, State.re, Args.state]

theorem ref_slope : (val_main_v10 (F := Ideal) x.x0 : FVec Ideal S64x64 .f32) (ix2 g p) = (x.state g p).slope := by
  pointwise [val_main_v10, val_main_v3, val_main_v6, val_main_v9, val_main_v2, val_main_cst_2, val_main_v5, val_main_v8, val_main_v7, val_main_cst_0, val_main_v4, val_main_cst_4, val_main_cst_3, val_main_cst_1, State.slope, Args.state]

theorem ref_mag : (val_main_v15 (F := Ideal) x.x0 x.x2 : FVec Ideal S64x64 .f32) (ix2 g p) = (x.state g p).mag := by
  pointwise [val_main_v15, val_main_v14, val_main_v13, val_main_v12, val_main_v11, ref_re, State.mag, State.step, Args.state]

theorem ref_cosine : (val_main_v18 (F := Ideal) x.x1 x.x2 : FVec Ideal S64x64 .f32) (ix2 g p) = (x.state g p).cosine := by
  pointwise [val_main_v18, val_main_v17, val_main_v16, val_main_v12, val_main_v11, State.cosine, State.step, Args.state]

theorem ref_cosine' : (val_main_v24 (F := Ideal) x.x1 x.x2 : FVec Ideal S64x64 .f32) (ix2 g p) = (x.state g p).cosine := by
  pointwise [val_main_v24, val_main_v22, val_main_v21, val_main_v12, val_main_v11, State.cosine, State.step, Args.state]

theorem ref_sine : (val_main_v19 (F := Ideal) x.x1 x.x2 : FVec Ideal S64x64 .f32) (ix2 g p) = (x.state g p).sine := by
  pointwise [val_main_v19, val_main_v17, val_main_v16, val_main_v12, val_main_v11, State.sine, State.step, Args.state]

theorem ref_sine' : (val_main_v23 (F := Ideal) x.x1 x.x2 : FVec Ideal S64x64 .f32) (ix2 g p) = (x.state g p).sine := by
  pointwise [val_main_v23, val_main_v22, val_main_v21, val_main_v12, val_main_v11, State.sine, State.step, Args.state]

theorem ref_poleRe : (val_main_v20 (F := Ideal) x.x0 x.x1 x.x2 : FVec Ideal S64x64 .f32) (ix2 g p) = (x.state g p).poleRe := by
  pointwise [val_main_v20, ref_mag, ref_cosine, State.poleRe, Args.state]

theorem ref_poleIm : (val_main_v25 (F := Ideal) x.x0 x.x1 x.x2 : FVec Ideal S64x64 .f32) (ix2 g p) = (x.state g p).poleIm := by
  pointwise [val_main_v25, ref_mag, ref_sine', State.poleIm, Args.state]

theorem ref_den : (val_main_v28 (F := Ideal) x.x0 x.x1 : FVec Ideal S64x64 .f32) (ix2 g p) = (x.state g p).den := by
  pointwise [val_main_v28, val_main_v26, val_main_v27, ref_re, State.den, Args.state]

theorem ref_less : (val_main_v30 (F := Ideal) x.x0 x.x1 x.x2 : FVec Ideal S64x64 .f32) (ix2 g p) = (x.state g p).less := by
  pointwise [val_main_v30, val_main_v29, val_main_cst_5, ref_poleRe, State.less, Args.state]

theorem ref_numRe : (val_main_v33 (F := Ideal) x.x0 x.x1 x.x2 : FVec Ideal S64x64 .f32) (ix2 g p) = (x.state g p).numRe := by
  pointwise [val_main_v33, val_main_v31, val_main_v32, ref_less, ref_re, ref_poleIm, State.numRe, Args.state]

theorem ref_numIm : (val_main_v40 (F := Ideal) x.x0 x.x1 x.x2 : FVec Ideal S64x64 .f32) (ix2 g p) = (x.state g p).numIm := by
  pointwise [val_main_v40, val_main_v38, val_main_v39, ref_poleIm, ref_re, ref_less, State.numIm, Args.state]

theorem ref_quotRe : (val_main_v34 (F := Ideal) x.x0 x.x1 x.x2 : FVec Ideal S64x64 .f32) (ix2 g p) = (x.state g p).quotRe := by
  pointwise [val_main_v34, ref_numRe, ref_den, State.quotRe, Args.state]

theorem ref_quotIm : (val_main_v41 (F := Ideal) x.x0 x.x1 x.x2 : FVec Ideal S64x64 .f32) (ix2 g p) = (x.state g p).quotIm := by
  pointwise [val_main_v41, ref_numIm, ref_den, State.quotIm, Args.state]

theorem ref_dQuotRe : (val_main_v90 (F := Ideal) x.x3 x.x4 x.x7 x.x8 : FVec Ideal S64x64 .f32) (ix2 g p) = (x.state g p).dQuotRe := by
  pointwise [val_main_v90, ref_sum_ciBi, ref_sum_crBr, State.dQuotRe, Args.state]

theorem ref_dQuotIm : (val_main_v82 (F := Ideal) x.x3 x.x4 x.x7 x.x8 : FVec Ideal S64x64 .f32) (ix2 g p) = (x.state g p).dQuotIm := by
  pointwise [val_main_v82, ref_sum_ciBr, ref_sum_crBi, State.dQuotIm, Args.state]

theorem ref_dNumRe : (val_main_v106 (F := Ideal) x.x0 x.x1 x.x3 x.x4 x.x7 x.x8 : FVec Ideal S64x64 .f32) (ix2 g p) = (x.state g p).dNumRe := by
  pointwise [val_main_v106, ref_dQuotRe, ref_den, State.dNumRe, Args.state]

theorem ref_dNumIm : (val_main_v94 (F := Ideal) x.x0 x.x1 x.x3 x.x4 x.x7 x.x8 : FVec Ideal S64x64 .f32) (ix2 g p) = (x.state g p).dNumIm := by
  pointwise [val_main_v94, ref_dQuotIm, ref_den, State.dNumIm, Args.state]

theorem ref_dDen : (val_main_v105 (F := Ideal) x.x0 x.x1 x.x2 x.x3 x.x4 x.x7 x.x8 : FVec Ideal S64x64 .f32) (ix2 g p) = (x.state g p).dDen := by
  pointwise [val_main_v105, val_main_v93, val_main_v104, val_main_v92, val_main_v103, val_main_v91, val_main_v102, val_main_v44, val_main_v37, val_main_v43, val_main_v42, val_main_v36, val_main_v35, val_main_cst_7, val_main_cst_6, ref_numIm, ref_numRe, ref_dQuotIm, ref_dQuotRe, ref_den, State.dDen, Args.state]

theorem ref_dPoleRe : (val_main_v114 (F := Ideal) x.x0 x.x1 x.x3 x.x4 x.x5 x.x7 x.x8 : FVec Ideal S64x64 .f32) (ix2 g p) = (x.state g p).dPoleRe := by
  pointwise [val_main_v114, val_main_v98, val_main_v113, val_main_v97, val_main_v95, ref_dNumRe, ref_re, ref_dNumIm, State.dPoleRe, Args.state]

theorem ref_dPoleIm : (val_main_v110 (F := Ideal) x.x0 x.x1 x.x3 x.x4 x.x6 x.x7 x.x8 : FVec Ideal S64x64 .f32) (ix2 g p) = (x.state g p).dPoleIm := by
  pointwise [val_main_v110, val_main_v101, val_main_v109, val_main_v100, ref_dNumRe, ref_dNumIm, ref_re, State.dPoleIm, Args.state]

theorem ref_dSine : (val_main_v125 (F := Ideal) x.x0 x.x1 x.x2 x.x3 x.x4 x.x6 x.x7 x.x8 : FVec Ideal S64x64 .f32) (ix2 g p) = (x.state g p).dSine := by
  pointwise [val_main_v125, val_main_v123, ref_cosine', ref_mag, ref_dPoleIm, State.dSine, Args.state]

theorem ref_dCosine : (val_main_v136 (F := Ideal) x.x0 x.x1 x.x2 x.x3 x.x4 x.x5 x.x7 x.x8 : FVec Ideal S64x64 .f32) (ix2 g p) = (x.state g p).dCosine := by
  pointwise [val_main_v136, val_main_v135, val_main_v132, ref_sine, ref_mag, ref_dPoleRe, State.dCosine, Args.state]

theorem ref_dExponent : (val_main_v144 (F := Ideal) x.x0 x.x1 x.x2 x.x3 x.x4 x.x5 x.x6 x.x7 x.x8 : FVec Ideal S64x64 .f32) (ix2 g p) = (x.state g p).dExponent := by
  pointwise [val_main_v144, val_main_v134, val_main_v124, val_main_v133, ref_mag, ref_dPoleIm, ref_sine', ref_dPoleRe, ref_cosine, State.dExponent, Args.state]

theorem ref_gradRe : (val_main_v154 (F := Ideal) x.x0 x.x1 x.x2 x.x3 x.x4 x.x5 x.x6 x.x7 x.x8 : FVec Ideal S64x64 .f32) (ix2 g p) = (x.state g p).gradRe := by
  pointwise [val_main_v154, val_main_v151, val_main_v122, val_main_v150, val_main_v120, val_main_v121, val_main_v149, val_main_v112, val_main_v119, val_main_v12, val_main_v99, val_main_v111, val_main_v11, ref_slope, ref_dExponent, ref_dDen, ref_re, ref_poleIm, ref_dNumIm, ref_less, ref_dNumRe, State.gradRe, State.step, Args.state]

theorem ref_gradIm : (val_main_v143 (F := Ideal) x.x0 x.x1 x.x2 x.x3 x.x4 x.x5 x.x6 x.x7 x.x8 : FVec Ideal S64x64 .f32) (ix2 g p) = (x.state g p).gradIm := by
  pointwise [val_main_v143, val_main_v131, val_main_v142, val_main_v118, val_main_v130, val_main_v141, val_main_v116, val_main_v117, val_main_v129, val_main_v12, val_main_v108, val_main_v115, val_main_v11, val_main_v96, val_main_v107, val_main_v95, ref_dCosine, ref_dSine, ref_dDen, ref_less, ref_poleIm, ref_dNumRe, ref_dNumIm, State.gradIm, State.step, Args.state]

theorem ref_gradBr : (val_main_v85 (F := Ideal) x.x0 x.x1 x.x2 x.x7 x.x8 : FVec Ideal S64x64x16 .f32) (ix3 g p h) = (x.state g p).gradBr h := by
  pointwise [val_main_v85, val_main_v62, val_main_v84, val_main_v61, val_main_v60, val_main_v83, val_main_v73, val_main_v55, val_main_v45, ref_quotIm, ref_quotRe, State.gradBr, Args.state]

theorem ref_gradBi : (val_main_v77 (F := Ideal) x.x0 x.x1 x.x2 x.x7 x.x8 : FVec Ideal S64x64x16 .f32) (ix3 g p h) = (x.state g p).gradBi h := by
  pointwise [val_main_v77, val_main_v68, val_main_v76, val_main_v67, val_main_v59, val_main_v75, val_main_v74, val_main_v52, val_main_v48, ref_quotRe, ref_quotIm, State.gradBi, Args.state]

theorem ref_gradStep : (val_main_v153 (F := Ideal) x.x0 x.x1 x.x2 x.x3 x.x4 x.x5 x.x6 x.x7 x.x8 : FVec Ideal S64 .f32) (ix1 g) = gradStep (x.x2 (ix1 g)) (x.state g) := by
  pointwise [val_main_v153, val_main_v152, val_main_v11, val_main_v148, val_main_cst_19, val_main_v140, val_main_v147, val_main_v128, val_main_v139, val_main_v146, val_main_v127, val_main_v138, val_main_v145, val_main_cst_18, val_main_v126, val_main_cst_16, val_main_v137, val_main_cst_17, ref_re, ref_dExponent, ref_dSine, ref_dCosine, gradStep]
  simp only [Finset.univ_unique, Finset.sum_singleton]
  rfl

end Cert.Disc

end
-- ==== Proof.DiscClaim.lean ====
module

public import proofs.«01_k».proof.Defs
public import proofs.«01_k».proof.Proof.DiscArray
public import proofs.«01_k».proof.Proof.DiscRef
public import proofs.«01_k».proof.Proof.Gen.Kernel5.Frame
public import proofs.«01_k».proof.Proof.Gen.Reference5Ideal.Run
public import Idealize.ShloMosaic.Lib.Claim
public import Idealize.ShloMosaic.Lib.Quiescent

/-! The discretisation's backward call: the kernel's five results are the reference's, whatever the arguments. -/

@[expose] public section

set_option maxRecDepth 16384

noncomputable section

namespace Cert.Disc

open Idealize.ShloMosaic Idealize.ShloMosaic.TcCoe Idealize.SL.Sem Cert.Reference5Ideal.Read

attribute [local instance] Cert.Kernel5Ideal.Gen.facts Cert.Reference5Ideal.Gen.facts

/-- The reference leaves its arguments as they were; it has no semaphore. -/
theorem ref_frame : Cert.quiescent_Reference5Ideal (hReference5Ideal := Cert.Reference5Ideal.Gen.facts) := fun m g _ =>
  (θ_run _ _ _).mono (fun r h => ⟨fun c => (h c).2.2.2.2.2, sem_eq_zero_of_no_sems rfl r.2⟩)
    (Cert.Reference5Ideal.Value.run m g)

/-- The kernel's arguments as the reference's. -/
def Arrays.args (x : Arrays) : Args := ⟨x.a, x.l, x.d, x.br, x.bi, x.ca, x.cb, x.cr, x.ci⟩

/-- The two runs end with equal results. -/
theorem algebraic : Cert.algebraic_Kernel5Ideal_Reference5Ideal
    (hKernel5Ideal := Cert.Kernel5Ideal.Gen.facts) (hReference5Ideal := Cert.Reference5Ideal.Gen.facts) := by
  intro m g m' g' hpre hargs
  refine ⟨fun c => (arrays m c).outRe, fun c => (arrays m c).outIm, fun c => (arrays m c).outStep, fun c => (arrays m c).outBr,
    fun c => (arrays m c).outBi,
    (θ_run _ _ _).mono (fun r h c => ?_) (θ_run_and (run m g) (Cert.Kernel5Ideal.Gen.unchanged m g)), ?_⟩
  · obtain ⟨h0, h1, h2, h3, h4⟩ := h.1 c
    exact ⟨h0, h1, h2, h3, h4, h.2 c⟩
  · refine (θ_run _ _ _).mono (fun r h c => ?_) (Cert.Reference5Ideal.Value.run m' g')
    obtain ⟨a0, a1, a2, a3, a4, a5, a6, a7, a8⟩ := hargs c
    obtain ⟨r0, r1, r2, r3, r4, rest⟩ := h c
    refine ⟨(r0.trans (val_main_v154_eq _ _)).trans ?_, (r1.trans (val_main_v143_eq _ _)).trans ?_,
      (r2.trans (val_main_v153_eq _ _)).trans ?_, (r3.trans (val_main_v85_eq (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)))).trans ?_,
      (r4.trans (val_main_v77_eq (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)))).trans ?_, rest⟩
    · rw [a0, a1, a2, a3, a4, a5, a6, a7, a8]
      funext i
      idx_vars i
      exact ref_gradRe (arrays m c).args i0 i1
    · rw [a0, a1, a2, a3, a4, a5, a6, a7, a8]
      funext i
      idx_vars i
      exact ref_gradIm (arrays m c).args i0 i1
    · rw [a0, a1, a2, a3, a4, a5, a6, a7, a8]
      funext i
      idx_vars i
      exact ref_gradStep (arrays m c).args i0
    · rw [a0, a1, a2, a7, a8]
      funext i
      idx_vars i
      exact ref_gradBr (arrays m c).args i0 i1 i2
    · rw [a0, a1, a2, a7, a8]
      funext i
      idx_vars i
      exact ref_gradBi (arrays m c).args i0 i1 i2

end Cert.Disc

end
-- ==== Proof.FwdBlock.lean ====
module

public import proofs.«01_k».proof.Proof.Gen.Kernel6Ideal.Frame
public import proofs.«01_k».proof.Proof.RetTable
public import Idealize.ShloMosaic.Lib.Pipeline.ValueKit

/-! Retention's forward call: what the windows and the scratch hold after the body at one grid point, from the blocks it
    read. A point takes one chunk of 128 rows, and in it the four heads in turn. -/

@[expose] public section

set_option maxRecDepth 16384

noncomputable section

namespace Cert.Fwd

open Cert.Kernel6Ideal Cert.Kernel6Ideal.Gen Idealize.ShloMosaic Idealize.ShloMosaic.TcCoe Idealize.SL.Sem
open Cert.Ret (Rows Square HeadState Tables decRect rowDecRect xiRect zetaRect stateRect gainRect decPieces rowDecPieces chunkDecay
  heldTables theTables)

/-- What one head finds at one chunk, beside its state. -/
structure Cell where
  q : Rows
  k : Rows
  v : Rows
  cos : Square
  sin : Square
  gain : FVec Ideal S1x256 .f32
  act : Rows
  tables : Tables

namespace Cell

variable (x : Cell)

/-- The rotated queries, and the rotated and scaled keys. -/
def qr : Rows := k0_pay24 x.cos x.sin x.q
def kr : Rows := k0_pay25 (k0_pay16 x.cos) (k0_pay17 x.sin) x.k
/-- The scores, decayed, and the rows before the norm. -/
def score : FVec Ideal S128x128 .bf16 := k0_pay26 (k0_pay16 x.cos) (k0_pay17 x.sin) x.qr x.k x.tables.dec
def out (s : HeadState) : Rows :=
  k0_pay27 (k0_pay16 x.cos) (k0_pay17 x.sin) (k0_pay19 x.tables.xi) (k0_pay22 s) x.v x.qr x.k x.tables.dec
/-- The state behind the chunk. -/
def step (decay : EReal) (s : HeadState) : HeadState :=
  shapeCast S1x256x256 (addf (mulf (k0_pay21 s) (broadcast S256x256 decay))
    (matmul dot_S128x256_S128x256_S256x256_0_0_1_1_n_n none
      (truncf .bf16 (mulf x.kr (broadcastTo S128x256 (k0_pay20 x.tables.zeta) broadcasts_S128x1_S128x256)) bitsLt_bf16_f32)
      (truncf .bf16 x.v bitsLt_bf16_f32) (constant S256x256 .f32 0x00000000#32))) shapeCasts_S256x256_S1x256x256
/-- The mean of each row, and the rows normalised, scaled and gated. -/
def rowMean (T : Rows) : FVec Ideal S128x1 .f32 :=
  let n : Ideal .f32 := Scalar.ofBits .f32 0x43800000#32
  divf (shapeCast S128x1 (multiReduction .add [1] S128 T 0x00000000#32 reduces_S128x256_S128 (.inl rfl) rfl) shapeCasts_S128_S128x1)
    (broadcast S128x1 n)
def branchOf (o : Rows) : FVec Ideal S128x256 .bf16 :=
  let e : Ideal .f32 := Scalar.ofBits .f32 0x358637BD#32
  let ctr : Rows := subf o (broadcastTo S128x256 (rowMean o) broadcasts_S128x1_S128x256)
  truncf .bf16 (mulf (mulf (mulf ctr (broadcastTo S128x256 (rsqrt (addf (rowMean (mulf ctr ctr)) (broadcast S128x1 e)))
    broadcasts_S128x1_S128x256)) (broadcastTo S128x256 x.gain broadcasts_S1x256_S128x256)) x.act) bitsLt_bf16_f32
def branch (s : HeadState) : FVec Ideal S128x256 .bf16 := x.branchOf (x.out s)

end Cell

/-! ## The parts of the arrays that belong to a head -/

theorem inb_cell : ∀ (h : Fin 4) (a : Fin 2), (![0, 256 * h.val] : Fin 2 → ℕ) a + (![128, 256] : Fin 2 → ℕ) a ≤ S128x1024.size a := by
  decide
theorem inb_score : ∀ (h : Fin 4) (a : Fin 2), (![0, 128 * h.val] : Fin 2 → ℕ) a + (![128, 128] : Fin 2 → ℕ) a ≤ S128x512.size a := by
  decide
theorem inb_saved : ∀ (h : Fin 4) (a : Fin 4), (![0, h.val, 0, 0] : Fin 4 → ℕ) a + (![1, 1, 256, 256] : Fin 4 → ℕ) a ≤ S1x4x256x256.size a := by
  decide
theorem slices_head : ∀ h : Fin 4, S128x1024.Slices ![0, 256 * h.val] S128x256 := by decide

abbrev cellRect (h : Fin 4) : Rect S128x1024 := Rect.unit (s := S128x1024) ![0, 256 * h.val] ![128, 256] (inb_cell h)
abbrev scoreRect (h : Fin 4) : Rect S128x512 := Rect.unit (s := S128x512) ![0, 128 * h.val] ![128, 128] (inb_score h)
abbrev savedRect (h : Fin 4) : Rect S1x4x256x256 := Rect.unit (s := S1x4x256x256) ![0, h.val, 0, 0] ![1, 1, 256, 256] (inb_saved h)

/-- The blocks a grid point reads: the queries', keys', values' and gate's columns, the rotary tables and the gain. -/
structure Blocks where
  q : Vec Ideal S128x1024 .f32
  k : Vec Ideal S128x1024 .f32
  v : Vec Ideal S128x1024 .f32
  z : Vec Ideal S128x1024 .f32
  cos : Vec Ideal S128x128 .f32
  sin : Vec Ideal S128x128 .f32
  gain : Vec Ideal S1x1024 .f32

namespace Blocks

variable (b : Blocks)

abbrev zAll : FVec Ideal S128x1024 .f32 := View.ld (Val := Elt Ideal) b.z (Rect.unit ![0, 0] ![128, 1024] inb_S128x1024_S128x1024_0_0)

/-- What head `h` finds. -/
def cell (T : Fin 4 → Tables) (h : Fin 4) : Cell where
  q := View.ld (Val := Elt Ideal) b.q (cellRect h)
  k := View.ld (Val := Elt Ideal) b.k (cellRect h)
  v := View.ld (Val := Elt Ideal) b.v (cellRect h)
  cos := View.ld (Val := Elt Ideal) b.cos (Rect.unit ![0, 0] ![128, 128] inb_S128x128_S128x128_0_0)
  sin := View.ld (Val := Elt Ideal) b.sin (Rect.unit ![0, 0] ![128, 128] inb_S128x128_S128x128_0_0)
  gain := View.ld (Val := Elt Ideal) b.gain (gainRect h)
  act := extractStridedSlice S128x256 ![0, 256 * h.val] (k0_pay18 (F := Ideal) b.zAll) (slices_head h)
  tables := T h

end Blocks

/-! ## The stores -/

/-- One store into each head's part, the last head's on top. -/
def headStores {S : Shape} {e : EltTy} (R : Fin 4 → Rect S) (w : ∀ h, (R h).shape.Idx → Elt Ideal e) : List (View.Piece (Elt Ideal) S e) :=
  [⟨R 3, w 3⟩, ⟨R 2, w 2⟩, ⟨R 1, w 1⟩, ⟨R 0, w 0⟩]

/-- A head's state as it is read behind the stores `L`, and the stores with the head's next state on top. -/
def stateAt (L : List (View.Piece (Elt Ideal) S4x256x256 .f32)) (h : Fin 4) : HeadState :=
  VS0_0.readAt (Elt Ideal) (stateRect h).toLoadRect (VS0_0.writes (Elt Ideal) VS0_0.junk L)
def putState (K : Fin 4 → Cell) (h : Fin 4) (L : List (View.Piece (Elt Ideal) S4x256x256 .f32)) : List (View.Piece (Elt Ideal) S4x256x256 .f32) :=
  ⟨stateRect h, (K h).step (chunkDecay h) (stateAt L h)⟩ :: L
/-- The zeros the first point writes before its stores, and the states its heads read. -/
def zeroState : List (View.Piece (Elt Ideal) S4x256x256 .f32) :=
  [⟨Rect.unit ![0, 0, 0] ![4, 256, 256] inb_S4x256x256_S4x256x256_0_0_0, k0_pay2 (F := Ideal)⟩]
def firstState (K : Fin 4 → Cell) : Fin 4 → HeadState := fun h => match h with
  | 0 => stateAt zeroState 0
  | 1 => stateAt (putState K 0 zeroState) 1
  | 2 => stateAt (putState K 1 (putState K 0 zeroState)) 2
  | 3 => stateAt (putState K 2 (putState K 1 (putState K 0 zeroState))) 3

def branches (K : Fin 4 → Cell) (s : Fin 4 → HeadState) : List (View.Piece (Elt Ideal) S128x1024 .bf16) :=
  headStores cellRect fun h => (K h).branch (s h)
def savedStates (s : Fin 4 → HeadState) : List (View.Piece (Elt Ideal) S1x4x256x256 .bf16) := headStores savedRect fun h => k0_pay23 (F := Ideal) (s h)
def scores (K : Fin 4 → Cell) : List (View.Piece (Elt Ideal) S128x512 .bf16) := headStores scoreRect fun h => (K h).score
def outs (K : Fin 4 → Cell) (s : Fin 4 → HeadState) : List (View.Piece (Elt Ideal) S128x1024 .f32) :=
  headStores cellRect fun h => (K h).out (s h)
def steps (K : Fin 4 → Cell) (s : Fin 4 → HeadState) : List (View.Piece (Elt Ideal) S4x256x256 .f32) :=
  headStores stateRect fun h => (K h).step (chunkDecay h) (s h)

/-! ## What a point leaves -/

/-- The tables as the first point reads them back. -/
def madeTables (h : Fin 4) : Tables where
  dec := VS0_1.readAt (Elt Ideal) (decRect h).toLoadRect (VS0_1.writes (Elt Ideal) VS0_1.junk decPieces)
  xi := VS0_2.readAt (Elt Ideal) (xiRect h).toLoadRect (VS0_2.writes (Elt Ideal) VS0_2.junk rowDecPieces)
  zeta := VS0_2.readAt (Elt Ideal) (zetaRect h).toLoadRect (VS0_2.writes (Elt Ideal) VS0_2.junk rowDecPieces)

variable (m : (ℓ : Loc nD τ sig) → Buf (Elt Ideal) ℓ) (c : Dev nD) (t : Fin cfg0.N)

/-- The blocks as the body finds them in its windows. -/
abbrev found : Blocks :=
  ⟨(ms0_0 t).view.read (Elt Ideal) ((hs0_0 t).unread (iblk m c 0 t)), (ms0_1 t).view.read (Elt Ideal) ((hs0_1 t).unread (iblk m c 1 t)),
    (ms0_2 t).view.read (Elt Ideal) ((hs0_2 t).unread (iblk m c 2 t)), (ms0_3 t).view.read (Elt Ideal) ((hs0_3 t).unread (iblk m c 3 t)),
    (ms0_4 t).view.read (Elt Ideal) ((hs0_4 t).unread (iblk m c 4 t)), (ms0_5 t).view.read (Elt Ideal) ((hs0_5 t).unread (iblk m c 5 t)),
    (ms0_6 t).view.read (Elt Ideal) ((hs0_6 t).unread (iblk m c 6 t))⟩

/-- What the point before left, as this point's body finds it: the states and the tables. -/
abbrev prev := outsAt0 m c (t.val - 1) (Nat.lt_of_le_of_lt (Nat.sub_le _ _) t.isLt)
abbrev heldState : Vec Ideal S4x256x256 .f32 :=
  scM0_0.view.read (Elt Ideal) ((Memref.isWhole_whole _ : scM0_0.IsWhole).unread (prev m c t).2.2.2.2.1)
abbrev heldDec : Vec Ideal S4x128x128 .f32 :=
  scM0_1.view.read (Elt Ideal) ((Memref.isWhole_whole _ : scM0_1.IsWhole).unread (prev m c t).2.2.2.2.2.1)
abbrev heldRowDec : Vec Ideal S4x128x256 .f32 :=
  scM0_2.view.read (Elt Ideal) ((Memref.isWhole_whole _ : scM0_2.IsWhole).unread (prev m c t).2.2.2.2.2.2)

abbrev firstCell : Fin 4 → Cell := (found m c t).cell madeTables
abbrev nextCell : Fin 4 → Cell := (found m c t).cell (heldTables (heldDec m c t) (heldRowDec m c t))
abbrev nextState : Fin 4 → HeadState := fun h => View.ld (Val := Elt Ideal) (heldState m c t) (stateRect h)

theorem dec_first (h : t.val % 64 = 0) : (outsAt0 m c t.val t.isLt).2.2.2.2.2.1
    = VS0_1.read (Elt Ideal) (VS0_1.writes (Elt Ideal) VS0_1.junk decPieces) := by
  rw [outsAt0_A m c t h]; sl_kernel_rfl
theorem rowDec_first (h : t.val % 64 = 0) : (outsAt0 m c t.val t.isLt).2.2.2.2.2.2
    = VS0_2.read (Elt Ideal) (VS0_2.writes (Elt Ideal) VS0_2.junk rowDecPieces) := by
  rw [outsAt0_A m c t h]; sl_kernel_rfl
theorem dec_next (h : ¬ t.val % 64 = 0) : (outsAt0 m c t.val t.isLt).2.2.2.2.2.1 = (prev m c t).2.2.2.2.2.1 := by
  rw [outsAt0_B m c t h]; rfl
theorem rowDec_next (h : ¬ t.val % 64 = 0) : (outsAt0 m c t.val t.isLt).2.2.2.2.2.2 = (prev m c t).2.2.2.2.2.2 := by
  rw [outsAt0_B m c t h]; rfl

theorem state_first (h : t.val % 64 = 0) : (outsAt0 m c t.val t.isLt).2.2.2.2.1 = VS0_0.read (Elt Ideal) (VS0_0.writes (Elt Ideal) VS0_0.junk
    (steps (firstCell m c t) (firstState (firstCell m c t)) ++ zeroState)) := by
  rw [outsAt0_A m c t h]; sl_kernel_rfl
theorem state_next (h : ¬ t.val % 64 = 0) : (outsAt0 m c t.val t.isLt).2.2.2.2.1 = VS0_0.read (Elt Ideal) (VS0_0.writes (Elt Ideal) VS0_0.junk
    (steps (nextCell m c t) (nextState m c t))) := by
  rw [outsAt0_B m c t h]; sl_kernel_rfl
theorem branch_first (h : t.val % 64 = 0) : (outsAt0 m c t.val t.isLt).1 = VO0_7.read (Elt Ideal) (VO0_7.writes (Elt Ideal) VO0_7.junk
    (branches (firstCell m c t) (firstState (firstCell m c t)))) := by
  rw [outsAt0_A m c t h]; sl_kernel_rfl
theorem branch_next (h : ¬ t.val % 64 = 0) : (outsAt0 m c t.val t.isLt).1 = VO0_7.read (Elt Ideal) (VO0_7.writes (Elt Ideal) VO0_7.junk
    (branches (nextCell m c t) (nextState m c t))) := by
  rw [outsAt0_B m c t h]; sl_kernel_rfl
theorem saved_first (h : t.val % 64 = 0) : (outsAt0 m c t.val t.isLt).2.1 = VO0_8.read (Elt Ideal) (VO0_8.writes (Elt Ideal) VO0_8.junk
    (savedStates (firstState (firstCell m c t)))) := by
  rw [outsAt0_A m c t h]; sl_kernel_rfl
theorem saved_next (h : ¬ t.val % 64 = 0) : (outsAt0 m c t.val t.isLt).2.1 = VO0_8.read (Elt Ideal) (VO0_8.writes (Elt Ideal) VO0_8.junk
    (savedStates (nextState m c t))) := by
  rw [outsAt0_B m c t h]; sl_kernel_rfl
theorem score_first (h : t.val % 64 = 0) : (outsAt0 m c t.val t.isLt).2.2.1 = VO0_9.read (Elt Ideal) (VO0_9.writes (Elt Ideal) VO0_9.junk
    (scores (firstCell m c t))) := by
  rw [outsAt0_A m c t h]; sl_kernel_rfl
theorem score_next (h : ¬ t.val % 64 = 0) : (outsAt0 m c t.val t.isLt).2.2.1 = VO0_9.read (Elt Ideal) (VO0_9.writes (Elt Ideal) VO0_9.junk
    (scores (nextCell m c t))) := by
  rw [outsAt0_B m c t h]; sl_kernel_rfl
theorem out_first (h : t.val % 64 = 0) : (outsAt0 m c t.val t.isLt).2.2.2.1 = VO0_10.read (Elt Ideal) (VO0_10.writes (Elt Ideal) VO0_10.junk
    (outs (firstCell m c t) (firstState (firstCell m c t)))) := by
  rw [outsAt0_A m c t h]; sl_kernel_rfl
theorem out_next (h : ¬ t.val % 64 = 0) : (outsAt0 m c t.val t.isLt).2.2.2.1 = VO0_10.read (Elt Ideal) (VO0_10.writes (Elt Ideal) VO0_10.junk
    (outs (nextCell m c t) (nextState m c t))) := by
  rw [outsAt0_B m c t h]; sl_kernel_rfl

end Cert.Fwd

end
-- ==== Proof.FwdState.lean ====
module

public import proofs.«01_k».proof.Proof.FwdBlock
public import Idealize.ShloMosaic.Lib.Pipeline.ReadBack

/-! Retention's forward call: the tables are the same at every point, a head's state passes from point to point, and what the
    windows hold after a point follows from the states at its entry. -/

@[expose] public section

set_option maxRecDepth 16384

noncomputable section

namespace Cert.Fwd

open Cert.Kernel6Ideal Cert.Kernel6Ideal.Gen Idealize.ShloMosaic Idealize.ShloMosaic.TcCoe Idealize.SL.Sem
open Cert.Ret (Rows Square HeadState Tables decRect rowDecRect xiRect zetaRect stateRect gainRect decPieces rowDecPieces chunkDecay
  heldTables theTables)

/-! ## Reading a head's part behind stores into the heads' parts -/

section Generic

variable {S : Shape} {e : EltTy} (a : View sig .tc .vmem S e)

theorem part_canon (q : Rect S) (L : List (View.Piece (Elt Ideal) S e)) :
    a.readAt (Elt Ideal) q.toLoadRect (a.writes (Elt Ideal) a.junk L) = View.ld (View.canon L : S.Idx → Elt Ideal e) q :=
  View.readCov_eq_canon' a L q.toLoadRect
theorem part_skip (q q' : Rect S) (w : q.shape.Idx → Elt Ideal e) (L : List (View.Piece (Elt Ideal) S e))
    (hd : LoadRect.disj q q'.toLoadRect = true) :
    a.readAt (Elt Ideal) q'.toLoadRect (a.writes (Elt Ideal) a.junk (⟨q, w⟩ :: L))
      = a.readAt (Elt Ideal) q'.toLoadRect (a.writes (Elt Ideal) a.junk L) := View.readCov_skip a q w L q'.toLoadRect hd

include a in
/-- A head's part of what the array holds after one store into each head's part. -/
theorem ld_heads (R : Fin 4 → Rect S) (w : ∀ h, (R h).shape.Idx → Elt Ideal e)
    (hd : ∀ h h', h ≠ h' → LoadRect.disj (R h) (R h').toLoadRect = true) (L : List (View.Piece (Elt Ideal) S e)) (h : Fin 4) :
    View.ld (View.canon (headStores R w ++ L) : S.Idx → Elt Ideal e) (R h) = w h := by
  refine (part_canon a (R h) _).symm.trans ?_
  have hit : ∀ (k : Fin 4) (L), a.readAt (Elt Ideal) (R k).toLoadRect (a.writes (Elt Ideal) a.junk (⟨R k, w k⟩ :: L)) = w k :=
    fun k L => View.readCov_cons_toLoadRect a (R k) (w k) L
  have skip : ∀ (k k' : Fin 4), k ≠ k' → ∀ L, a.readAt (Elt Ideal) (R k').toLoadRect (a.writes (Elt Ideal) a.junk (⟨R k, w k⟩ :: L))
      = a.readAt (Elt Ideal) (R k').toLoadRect (a.writes (Elt Ideal) a.junk L) :=
    fun k k' hne L => part_skip a (R k) (R k') (w k) L (hd k k' hne)
  match h with
  | 0 => exact (skip 3 0 (by decide) _).trans ((skip 2 0 (by decide) _).trans ((skip 1 0 (by decide) _).trans (hit 0 _)))
  | 1 => exact (skip 3 1 (by decide) _).trans ((skip 2 1 (by decide) _).trans (hit 1 _))
  | 2 => exact (skip 3 2 (by decide) _).trans (hit 2 _)
  | 3 => exact hit 3 _

include a in
theorem ld_heads_only (R : Fin 4 → Rect S) (w : ∀ h, (R h).shape.Idx → Elt Ideal e)
    (hd : ∀ h h', h ≠ h' → LoadRect.disj (R h) (R h').toLoadRect = true) (h : Fin 4) :
    View.ld (View.canon (headStores R w) : S.Idx → Elt Ideal e) (R h) = w h := by
  have e := ld_heads a R w hd [] h
  rwa [List.append_nil] at e

end Generic

theorem disj_cell : ∀ h h' : Fin 4, h ≠ h' → LoadRect.disj (cellRect h) (cellRect h').toLoadRect = true := by decide
theorem disj_score : ∀ h h' : Fin 4, h ≠ h' → LoadRect.disj (scoreRect h) (scoreRect h').toLoadRect = true := by decide
theorem disj_saved : ∀ h h' : Fin 4, h ≠ h' → LoadRect.disj (savedRect h) (savedRect h').toLoadRect = true := by decide
theorem disj_state : ∀ h h' : Fin 4, h ≠ h' → LoadRect.disj (stateRect h) (stateRect h').toLoadRect = true := by decide

theorem stateAt_zero (h : Fin 4) : stateAt zeroState h = fun _ => (0 : EReal) := by
  refine (part_canon VS0_0 (stateRect h) _).trans ?_
  have e : (View.canon zeroState : Vec Ideal S4x256x256 .f32) = k0_pay2 (F := Ideal) := by
    unfold zeroState; exact View.canon_cons_unit_lit' _ _ _ (by decide)
  rw [e]
  funext x
  show (Scalar.ofBits .f32 0x00000000#32 : Ideal .f32) = 0
  exact Ideal.ofBits_zero_f32
theorem stateAt_put (K : Fin 4 → Cell) (h h' : Fin 4) (hne : h ≠ h') (L) : stateAt (putState K h L) h' = stateAt L h' :=
  part_skip VS0_0 (stateRect h) (stateRect h') _ L (disj_state h h' hne)
theorem firstState_eq (K : Fin 4 → Cell) (h : Fin 4) : firstState K h = fun _ => (0 : EReal) :=
  match h with
  | 0 => stateAt_zero 0
  | 1 => (stateAt_put K 0 1 (by decide) _).trans (stateAt_zero 1)
  | 2 => (stateAt_put K 1 2 (by decide) _).trans ((stateAt_put K 0 2 (by decide) _).trans (stateAt_zero 2))
  | 3 => (stateAt_put K 2 3 (by decide) _).trans ((stateAt_put K 1 3 (by decide) _).trans
      ((stateAt_put K 0 3 (by decide) _).trans (stateAt_zero 3)))

/-! ## The tables -/

theorem madeTables_eq : madeTables = theTables := by
  funext h
  simp only [madeTables, theTables, heldTables, part_canon]

variable (m : (ℓ : Loc nD τ sig) → Buf (Elt Ideal) ℓ) (c : Dev nD)

theorem tables_at (t : Fin cfg0.N) : (outsAt0 m c t.val t.isLt).2.2.2.2.2.1 = (View.canon decPieces : Vec Ideal S4x128x128 .f32)
    ∧ (outsAt0 m c t.val t.isLt).2.2.2.2.2.2 = (View.canon rowDecPieces : Vec Ideal S4x128x256 .f32) := by
  obtain ⟨n, hn⟩ := t
  induction n with
  | zero => exact ⟨(dec_first m c ⟨0, hn⟩ rfl).trans (View.read_writes_junk_eq_canon ..),
      (rowDec_first m c ⟨0, hn⟩ rfl).trans (View.read_writes_junk_eq_canon ..)⟩
  | succ k ih =>
    have hk : k + 1 < 64 := hn
    have h : ¬ (⟨k + 1, hn⟩ : Fin cfg0.N).val % 64 = 0 := by show ¬ (k + 1) % 64 = 0; omega
    have ih' := ih (by show k < cfg0.N; exact Nat.lt_of_succ_lt hn)
    exact ⟨(dec_next m c ⟨k + 1, hn⟩ h).trans ih'.1, (rowDec_next m c ⟨k + 1, hn⟩ h).trans ih'.2⟩

/-- The heads' cells at a point, and their states as the point finds them. -/
abbrev cells (t : Fin cfg0.N) : Fin 4 → Cell := (found m c t).cell theTables
def entry (t : Fin cfg0.N) (h : Fin 4) : HeadState :=
  if t.val % 64 = 0 then fun _ => (0 : EReal)
  else View.ld (Val := Elt Ideal) ((prev m c t).2.2.2.2.1 : Vec Ideal S4x256x256 .f32) (stateRect h)

theorem firstCell_eq (t : Fin cfg0.N) : firstCell m c t = cells m c t := by
  unfold firstCell cells
  rw [madeTables_eq]
theorem nextCell_eq (t : Fin cfg0.N) : nextCell m c t = cells m c t := by
  have e := tables_at m c ⟨t.val - 1, Nat.lt_of_le_of_lt (Nat.sub_le _ _) t.isLt⟩
  have e1 : heldDec m c t = View.canon decPieces := (Memref.IsWhole.read_unread _ _).trans e.1
  have e2 : heldRowDec m c t = View.canon rowDecPieces := (Memref.IsWhole.read_unread _ _).trans e.2
  unfold nextCell cells
  rw [e1, e2]
theorem first_entry (t : Fin cfg0.N) (h : t.val % 64 = 0) (K : Fin 4 → Cell) : firstState K = entry m c t := by
  funext k
  unfold entry
  rw [if_pos h, firstState_eq]
theorem next_entry (t : Fin cfg0.N) (h : ¬ t.val % 64 = 0) : nextState m c t = entry m c t := by
  funext k
  have e : heldState m c t = (prev m c t).2.2.2.2.1 := Memref.IsWhole.read_unread _ _
  unfold nextState entry
  rw [if_neg h, e]

/-! ## What a point leaves, from the states at its entry -/

theorem state_point (t : Fin cfg0.N) (h : Fin 4) :
    View.ld (Val := Elt Ideal) ((outsAt0 m c t.val t.isLt).2.2.2.2.1 : Vec Ideal S4x256x256 .f32) (stateRect h)
      = (cells m c t h).step (chunkDecay h) (entry m c t h) := by
  by_cases ht : t.val % 64 = 0
  · rw [state_first m c t ht, View.read_writes_junk_eq_canon, firstCell_eq, first_entry m c t ht]
    exact ld_heads VS0_0 stateRect _ disj_state zeroState h
  · rw [state_next m c t ht, View.read_writes_junk_eq_canon, nextCell_eq, next_entry m c t ht]
    exact ld_heads_only VS0_0 stateRect _ disj_state h
theorem branch_point (t : Fin cfg0.N) : (outsAt0 m c t.val t.isLt).1
    = (View.canon (branches (cells m c t) (entry m c t)) : Vec Ideal S128x1024 .bf16) := by
  by_cases ht : t.val % 64 = 0
  · rw [branch_first m c t ht, View.read_writes_junk_eq_canon, firstCell_eq, first_entry m c t ht]
  · rw [branch_next m c t ht, View.read_writes_junk_eq_canon, nextCell_eq, next_entry m c t ht]
theorem saved_point (t : Fin cfg0.N) : (outsAt0 m c t.val t.isLt).2.1
    = (View.canon (savedStates (entry m c t)) : Vec Ideal S1x4x256x256 .bf16) := by
  by_cases ht : t.val % 64 = 0
  · rw [saved_first m c t ht, View.read_writes_junk_eq_canon, first_entry m c t ht]
  · rw [saved_next m c t ht, View.read_writes_junk_eq_canon, next_entry m c t ht]
theorem score_point (t : Fin cfg0.N) : (outsAt0 m c t.val t.isLt).2.2.1
    = (View.canon (scores (cells m c t)) : Vec Ideal S128x512 .bf16) := by
  by_cases ht : t.val % 64 = 0
  · rw [score_first m c t ht, View.read_writes_junk_eq_canon, firstCell_eq]
  · rw [score_next m c t ht, View.read_writes_junk_eq_canon, nextCell_eq]
theorem out_point (t : Fin cfg0.N) : (outsAt0 m c t.val t.isLt).2.2.2.1
    = (View.canon (outs (cells m c t) (entry m c t)) : Vec Ideal S128x1024 .f32) := by
  by_cases ht : t.val % 64 = 0
  · rw [out_first m c t ht, View.read_writes_junk_eq_canon, firstCell_eq, first_entry m c t ht]
  · rw [out_next m c t ht, View.read_writes_junk_eq_canon, nextCell_eq, next_entry m c t ht]

end Cert.Fwd

end
-- ==== Proof.FwdCell.lean ====
module

public import proofs.«01_k».proof.Proof.FwdBlock
public import proofs.«01_k».proof.Proof.RetBlock
public import Idealize.ShloMosaic.Lib.Pointwise
public import Idealize.ShloMosaic.Lib.Claim

/-! Retention's forward call: the vectors of one head at one chunk, element by element. -/

@[expose] public section

set_option maxRecDepth 16384

noncomputable section

namespace Cert.Fwd

open Cert.Kernel6Ideal Cert.Kernel6Ideal.Gen Idealize.ShloMosaic Idealize.ShloMosaic.TcCoe Idealize.SL.Sem
open Cert.Activations
open Cert.Ret (Head State Rows HeadState rotate headWidth eps keyScale stateOf)

/-- A cell's entries are those of a head's part of the arrays. -/
structure Cell.Is (x : Cell) (H : Head) : Prop where
  q : ∀ a j, x.q (ix2 a j) = H.q a j
  k : ∀ a j, x.k (ix2 a j) = H.k a j
  v : ∀ a j, x.v (ix2 a j) = H.v a j
  cos : ∀ a j, x.cos (ix2 a j) = H.cos a j
  sin : ∀ a j, x.sin (ix2 a j) = H.sin a j
  gain : ∀ j, x.gain (ix2 0 j) = H.gain j
  act : ∀ a j, x.act (ix2 a j) = silu (H.z a j)
  dec : ∀ a b, x.tables.dec (ix3 0 a b) = H.dec a b
  xi : ∀ a, x.tables.xi (ix3 0 a 0) = H.xi a
  zeta : ∀ a, x.tables.zeta (ix3 0 a 0) = H.zeta a

variable {x : Cell} {H : Head} (hx : x.Is H) (s : HeadState) (γ : EReal)
include hx

theorem qr_at (a : Fin 128) (k : Fin 256) : x.qr (ix2 a k) = H.qr a k := by
  pointwise [Cell.qr, k0_pay24, k0_pay16, k0_pay17, Head.qr, rotate, hx.q, hx.cos, hx.sin]
theorem kr_at' (a : Fin 128) (k : Fin 256) : k0_pay25 (F := Ideal) (k0_pay16 x.cos) (k0_pay17 x.sin) x.k (ix2 a k) = H.kr a k := by
  pointwise [k0_pay25, k0_pay16, k0_pay17, Head.kr, rotate, hx.k, hx.cos, hx.sin]
theorem kr_at (a : Fin 128) (k : Fin 256) : x.kr (ix2 a k) = H.kr a k := kr_at' hx a k
theorem score_at' (a b : Fin 128) : k0_pay26 (F := Ideal) (k0_pay16 x.cos) (k0_pay17 x.sin) x.qr x.k x.tables.dec (ix2 a b)
    = (∑ k, H.qr a k * H.kr b k) * H.dec a b := by
  pointwise [k0_pay26, qr_at hx, kr_at' hx, hx.dec]
theorem score_at (a b : Fin 128) : x.score (ix2 a b) = (∑ k, H.qr a k * H.kr b k) * H.dec a b := score_at' hx a b
theorem out_at (a : Fin 128) (j : Fin 256) : x.out s (ix2 a j)
    = ∑ b, (∑ k, H.qr a k * H.kr b k) * H.dec a b * H.v b j + ∑ i, H.qr a i * H.xi a * stateOf s i j := by
  pointwise [Cell.out, k0_pay27, score_at' hx, k0_pay19, k0_pay22, k0_pay21, qr_at hx, hx.v, hx.xi, stateOf]
theorem step_at (i j : Fin 256) : stateOf (x.step γ s) i j = stateOf s i j * γ + ∑ b, H.kr b i * H.zeta b * H.v b j := by
  unfold stateOf
  pointwise [Cell.step, k0_pay21, k0_pay20, kr_at hx, hx.zeta, hx.v]
omit hx in
theorem saved_at (i j : Fin 256) : k0_pay23 (F := Ideal) s (ix4 0 0 i j) = stateOf s i j := by
  unfold stateOf
  pointwise [k0_pay23, k0_pay22, k0_pay21]
omit hx in
theorem rowMean_at (T : Rows) (a : Fin 128) : Cell.rowMean T (ix2 a 0) = Ideal.div (∑ i, T (ix2 a i)) headWidth := by
  pointwise [Cell.rowMean]
theorem branchOf_at (o : Rows) (ho : ∀ a j, o (ix2 a j) = H.o a j) (a : Fin 128) (j : Fin 256) : x.branchOf o (ix2 a j) = H.branch a j := by
  pointwise [Cell.branchOf, rowMean_at, ho, hx.gain, hx.act, Head.branch, Head.out, Head.normed, Head.rstd, Head.ctr,
    NormGrad.invRms, NormGrad.meanSq]

end Cert.Fwd

end
-- ==== Proof.FwdHead.lean ====
module

public import proofs.«01_k».proof.Proof.FwdState
public import proofs.«01_k».proof.Proof.FwdCell
public import proofs.«01_k».proof.Proof.RetHead
public import Idealize.ShloMosaic.Lib.Pointwise
public import Idealize.ShloMosaic.Lib.Claim

/-! Retention's forward call: what a head finds at a grid point is its part of the arrays at that chunk. -/

@[expose] public section

set_option maxRecDepth 16384

noncomputable section

namespace Cert.Fwd

open Cert.Kernel6Ideal Cert.Kernel6Ideal.Gen Idealize.ShloMosaic Idealize.ShloMosaic.TcCoe Idealize.SL.Sem
open Cert.Activations
open Cert.Ret (In Head HeadState Tables stateRect gainRect chunkDecay theTables rowAt colAt partAt theDec_at theXi_at theZeta_at ld_gain)

variable (m : (ℓ : Loc nD τ sig) → Buf (Elt Ideal) ℓ) (c : Dev nD)

/-- The argument arrays; the forward call takes no cotangents. -/
def input : In where
  p := (m ((c : Thread nD τ).loc main_arg0) : FVec Ideal S8192x6144 .f32)
  gain := (m ((c : Thread nD τ).loc main_arg1) : FVec Ideal S1x1024 .f32)
  dx := fun _ => (0 : EReal)
  w := fun _ => (0 : EReal)
  du := fun _ => (0 : EReal)
  da := fun _ => (0 : EReal)

/-- Point `t` takes block `t` of the rows. -/
theorem idx : ∀ t : Fin cfg0.N, win0_0.index t = ![t.val, 2] ∧ win0_1.index t = ![t.val, 3] ∧ win0_2.index t = ![t.val, 4]
    ∧ win0_3.index t = ![t.val, 5] ∧ win0_4.index t = ![t.val, 0] ∧ win0_5.index t = ![t.val, 0] ∧ win0_6.index t = ![0, 0]
    ∧ win0_7.index t = ![t.val, 0] ∧ win0_8.index t = ![t.val, 0, 0, 0] ∧ win0_9.index t = ![t.val, 0] ∧ win0_10.index t = ![t.val, 0] :=
  (by decide +kernel : ∀ t : Fin grid0.N, _)

theorem points (t : Fin cfg0.N) : t.val < 64 := lt_of_lt_of_eq t.isLt N_0
abbrev chunkAt (t : Fin cfg0.N) : Fin 64 := ⟨t.val, points t⟩
theorem arow_eq (t : Fin cfg0.N) (a : Fin 128) : (⟨t.val * 128 + a.val, by have := points t; omega⟩ : Fin 8192) = rowAt (chunkAt t) a :=
  Fin.ext (by simp only [rowAt, chunkAt]; omega)

variable (t : Fin cfg0.N)

/-- The blocks of a grid point. -/
abbrev held : Blocks := ⟨iblk m c 0 t, iblk m c 1 t, iblk m c 2 t, iblk m c 3 t, iblk m c 4 t, iblk m c 5 t, iblk m c 6 t⟩
theorem found_eq : found m c t = held m c t := by
  simp only [found, Memref.IsWhole.read_unread]

theorem q_at (h : Fin 4) (a : Fin 128) (j : Fin 256) :
    (iblk m c 0 t : FVec Ideal S128x1024 .f32) (ix2 a (colAt h j)) = (input m c).p (ix2 (rowAt (chunkAt t) a) (partAt 0 h j)) := by
  rw [← arow_eq, input]
  blk_point [iblk, V, idx t]
theorem k_at (h : Fin 4) (a : Fin 128) (j : Fin 256) :
    (iblk m c 1 t : FVec Ideal S128x1024 .f32) (ix2 a (colAt h j)) = (input m c).p (ix2 (rowAt (chunkAt t) a) (partAt 1 h j)) := by
  rw [← arow_eq, input]
  blk_point [iblk, V, idx t]
theorem v_at (h : Fin 4) (a : Fin 128) (j : Fin 256) :
    (iblk m c 2 t : FVec Ideal S128x1024 .f32) (ix2 a (colAt h j)) = (input m c).p (ix2 (rowAt (chunkAt t) a) (partAt 2 h j)) := by
  rw [← arow_eq, input]
  blk_point [iblk, V, idx t]
theorem z_at (h : Fin 4) (a : Fin 128) (j : Fin 256) :
    (iblk m c 3 t : FVec Ideal S128x1024 .f32) (ix2 a (colAt h j)) = (input m c).p (ix2 (rowAt (chunkAt t) a) (partAt 3 h j)) := by
  rw [← arow_eq, input]
  blk_point [iblk, V, idx t]
theorem gain_at (h : Fin 4) (j : Fin 256) : (iblk m c 6 t : FVec Ideal S1x1024 .f32) (ix2 0 (colAt h j)) = (input m c).gain (ix2 0 (colAt h j)) := by
  rw [input]
  blk_point [iblk, V, idx t]

/-- The rotary tables, as the host lines leave them. -/
theorem host_cos : (V m c main_v12 : FVec Ideal S8192x128 .f32) = Reference4Ideal.Read.val_main_v17 (F := Ideal) := by entry_read; rfl
theorem host_sin : (V m c main_v13 : FVec Ideal S8192x128 .f32) = Reference4Ideal.Read.val_main_v19 (F := Ideal) := by entry_read; rfl
theorem cos_at (a j : Fin 128) :
    (iblk m c 4 t : FVec Ideal S128x128 .f32) (ix2 a j) = Reference4Ideal.Read.val_main_v17 (F := Ideal) (ix2 (rowAt (chunkAt t) a) j) := by
  rw [← arow_eq, ← host_cos m c]
  blk_point [iblk, idx t]
theorem sin_at (a j : Fin 128) :
    (iblk m c 5 t : FVec Ideal S128x128 .f32) (ix2 a j) = Reference4Ideal.Read.val_main_v19 (F := Ideal) (ix2 (rowAt (chunkAt t) a) j) := by
  rw [← arow_eq, ← host_sin m c]
  blk_point [iblk, idx t]

/-! ## The cell -/

theorem ld_rows (X : Vec Ideal S128x1024 .f32) : View.ld (Val := Elt Ideal) X (Rect.unit ![0, 0] ![128, 1024] inb_S128x1024_S128x1024_0_0) = X := by
  funext y
  simp only [View.ld]
  congr 1
  funext i
  refine Fin.ext ?_
  fin_cases i <;> simp [Rect.idx_unit_val]
theorem ld_cell {e : EltTy} (X : Vec Ideal S128x1024 e) (h : Fin 4) (a : Fin 128) (j : Fin 256) :
    View.ld (Val := Elt Ideal) X (cellRect h) (ix2 a j) = X (ix2 a (colAt h j)) := by
  simp only [View.ld]; congr 1; funext i; refine Fin.ext ?_; fin_cases i <;> simp [Rect.idx_unit_val]
theorem ld_score (X : Vec Ideal S128x512 .bf16) (h : Fin 4) (a b : Fin 128) :
    View.ld (Val := Elt Ideal) X (scoreRect h) (ix2 a b) = X (ix2 a ⟨128 * h.val + b.val, by omega⟩) := by
  simp only [View.ld]; congr 1; funext i; refine Fin.ext ?_; fin_cases i <;> simp [Rect.idx_unit_val]
theorem ld_saved (X : Vec Ideal S1x4x256x256 .bf16) (h : Fin 4) (i j : Fin 256) :
    View.ld (Val := Elt Ideal) X (savedRect h) (ix4 0 0 i j) = X (ix4 0 h i j) := by
  simp only [View.ld]; congr 1; funext i; refine Fin.ext ?_; fin_cases i <;> simp [Rect.idx_unit_val]
theorem ld_whole (X : Vec Ideal S128x128 .f32) : View.ld (Val := Elt Ideal) X (Rect.unit ![0, 0] ![128, 128] inb_S128x128_S128x128_0_0) = X := by
  funext y
  simp only [View.ld]
  congr 1
  funext i
  refine Fin.ext ?_
  fin_cases i <;> simp [Rect.idx_unit_val]

/-- A head's cell holds its part of the arrays. -/
theorem cell_is (h : Fin 4) : (cells m c t h).Is ((input m c).head (chunkAt t) h) := by
  rw [cells, found_eq]
  constructor
  · intro a j; rw [In.head_q, ← q_at]; exact ld_cell (e := .f32) (held m c t).q h a j
  · intro a j; rw [In.head_k, ← k_at]; exact ld_cell (e := .f32) (held m c t).k h a j
  · intro a j; rw [In.head_v, ← v_at]; exact ld_cell (e := .f32) (held m c t).v h a j
  · intro a j; rw [In.head_cos, ← cos_at m c]; exact congrFun (ld_whole (held m c t).cos) _
  · intro a j; rw [In.head_sin, ← sin_at m c]; exact congrFun (ld_whole (held m c t).sin) _
  · intro j; rw [In.head_gain, ← gain_at m c t]; exact ld_gain (held m c t).gain h j
  · intro a j
    rw [In.head_z, ← z_at m c t]
    show extractStridedSlice S128x256 ![0, 256 * h.val] (k0_pay18 (F := Ideal) (held m c t).zAll) (slices_head h) (ix2 a j) = _
    rw [Blocks.zAll, ld_rows]
    refine Eq.trans (b := k0_pay18 (F := Ideal) (iblk m c 3 t : FVec Ideal S128x1024 .f32) (ix2 a (colAt h j))) ?_ ?_
    · pointwise []
      try blk_ext
    · pointwise [k0_pay18, silu]
  · intro a b; rw [In.head_dec, ← theDec_at]; rfl
  · intro a; rw [In.head_xi, ← theXi_at]; rfl
  · intro a; rw [In.head_zeta, ← theZeta_at]; rfl

end Cert.Fwd

end
-- ==== Proof.FwdSpec.lean ====
module

public import proofs.«01_k».proof.Proof.RetRef

/-! Retention forward, on all extended reals: the scores and the rows before the norm as the reference has them, and the state
    before a chunk from the state before the last one. -/

@[expose] public section

set_option maxRecDepth 16384

noncomputable section

namespace Cert.Fwd

open Cert.Reference4Ideal Cert.Reference4Ideal.Gen Cert.Reference4Ideal.Read Idealize.ShloMosaic Idealize.ShloMosaic.TcCoe
open Cert.Ret

variable (x : In) (n : Fin 64) (a b : Fin 128) (h : Fin 4) (i j : Fin 256)

theorem score_eq : (x.head n h).score a b = (∑ k, (x.head n h).qr a k * (x.head n h).kr b k) * (x.head n h).dec a b := by
  rw [In.head_score, In.head_dec]
  pointwise [val_main_v104, val_main_v103, val_main_v102, val_main_v101, ref_qc, ref_kc, ref_dec]

theorem o_eq : (x.head n h).o a j = ∑ b, (x.head n h).score a b * (x.head n h).v b j
    + ∑ i, (x.head n h).qr a i * (x.head n h).xi a * (x.head n h).before i j := by
  have e : (val_main_v143 (F := Ideal) x.p : FVec Ideal S64x128x4x256 .f32) (ix4 n a h j)
      = ∑ b, (x.head n h).v b j * (x.head n h).score a b + ∑ i, (x.head n h).before i j * ((x.head n h).qr a i * (x.head n h).xi a) := by
    simp only [In.head_score, In.head_before, In.head_xi]
    pointwise [val_main_v143, val_main_v142, val_main_v141, val_main_v140, val_main_v139, val_main_v138, val_main_v106, val_main_v105,
      ref_v', ref_qc, ref_xi]
  have e' : (x.head n h).o a j = (val_main_v143 (F := Ideal) x.p : FVec Ideal S64x128x4x256 .f32) (ix4 n a h j) := by
    rw [In.head_o]
    have e1 : (128 * n.val + a.val) / 128 = n.val := by omega
    have e2 : (128 * n.val + a.val) % 128 = a.val := by omega
    pointwise [val_main_v144, e1, e2]
  rw [e', e]
  exact congrArg₂ (· + ·) (Finset.sum_congr rfl fun b _ => mul_comm _ _) (Finset.sum_congr rfl fun i _ => mul_comm _ _)

/-! ## The state before a chunk -/

/-- What a row of chunk `k` keeps at the start of chunk `c`. -/
def keeps (h : Fin 4) (c k : ℕ) (b : Fin 128) : EReal := if k < c then decayBy h (128 * ((c : ℝ) - 1 - k) + (127 - b.val)) else 0

theorem keeps_next (c k : ℕ) (hk : k ≠ c) : keeps h (c + 1) k b = keeps h c k b * γ h := by
  unfold keeps
  by_cases hc : k < c
  · rw [if_pos hc, if_pos (by omega)]
    unfold γ decayBy
    rw [← EReal.coe_mul, ← Real.exp_add]
    push_cast
    congr 3; ring
  · rw [if_neg hc, if_neg (by omega), zero_mul]
theorem keeps_new (c : ℕ) : keeps h (c + 1) c b = (x.head n h).zeta b := by
  rw [In.head_zeta]
  unfold keeps
  rw [if_pos (by omega)]
  congr 1
  push_cast; ring

/-- What chunk `k` holds of the state before chunk `c`. -/
def kept (c : ℕ) (k : Fin 64) : EReal := ∑ b, (x.head k h).v b j * ((x.head k h).kr b i * keeps h c k.val b)

theorem before_eq : (x.head n h).before i j = ∑ k, kept x h i j n.val k := by
  rw [In.head_before]
  pointwise [val_main_v137, val_main_v136, val_main_v134, val_main_v133, val_main_v132, val_main_v131, val_main_v130, val_main_v129]
  refine (Fin.sum_univ_tiles 64 128 rfl _).trans (Finset.sum_congr rfl fun k _ => Finset.sum_congr rfl fun b _ => ?_)
  have e : (⟨k.val * 128 + b.val, by omega⟩ : Fin 8192) = rowAt k b := Fin.ext (by simp only; omega)
  simp only [e, ref_v, ref_kr, ref_kept, keeps]

theorem γ_nonneg : 0 ≤ γ h := by
  unfold γ decayBy
  exact_mod_cast (Real.exp_pos _).le
theorem γ_ne_top : γ h ≠ ⊤ := EReal.coe_ne_top _
/-- A decay goes into a sum. -/
theorem sum_decay {ι : Type} (s : Finset ι) (f : ι → EReal) : (∑ k ∈ s, f k) * γ h = ∑ k ∈ s, f k * γ h := by
  classical
  induction s using Finset.induction_on with
  | empty => simp
  | insert k s hk ih =>
    rw [Finset.sum_insert hk, Finset.sum_insert hk, EReal.right_distrib_of_nonneg_of_ne_top (γ_nonneg h) (γ_ne_top h), ih]

theorem kept_next (c : ℕ) (hc : c < 64) (k : Fin 64) : kept x h i j (c + 1) k = kept x h i j c k * γ h
    + if k = ⟨c, hc⟩ then ∑ b, (x.head ⟨c, hc⟩ h).kr b i * (x.head ⟨c, hc⟩ h).zeta b * (x.head ⟨c, hc⟩ h).v b j else 0 := by
  by_cases hk : k = ⟨c, hc⟩
  · subst hk
    have e0 : kept x h i j c ⟨c, hc⟩ = 0 := Finset.sum_eq_zero fun b _ => by unfold keeps; rw [if_neg (lt_irrefl _), mul_zero, mul_zero]
    rw [if_pos rfl, e0, zero_mul, zero_add]
    refine Finset.sum_congr rfl fun b _ => ?_
    rw [keeps_new x ⟨c, hc⟩, mul_comm]
  · rw [if_neg hk, add_zero]
    unfold kept
    rw [sum_decay]
    refine Finset.sum_congr rfl fun b _ => ?_
    rw [keeps_next b h c k.val fun e => hk (Fin.ext e), mul_assoc, mul_assoc]

theorem before_zero : (x.head 0 h).before i j = 0 := by
  rw [before_eq]
  refine Finset.sum_eq_zero fun k _ => Finset.sum_eq_zero fun b _ => ?_
  unfold keeps
  rw [if_neg (show ¬ k.val < (0 : Fin 64).val from Nat.not_lt_zero _), mul_zero, mul_zero]
theorem before_succ (c : ℕ) (hc : c + 1 < 64) : (x.head ⟨c + 1, hc⟩ h).before i j = (x.head ⟨c, by omega⟩ h).before i j * γ h
    + ∑ b, (x.head ⟨c, by omega⟩ h).kr b i * (x.head ⟨c, by omega⟩ h).zeta b * (x.head ⟨c, by omega⟩ h).v b j := by
  rw [before_eq, before_eq, sum_decay]
  simp only [kept_next x h i j c (by omega), Finset.sum_add_distrib, Finset.sum_ite_eq', Finset.mem_univ, if_true]

end Cert.Fwd

end
-- ==== Proof.FwdArray.lean ====
module

public import proofs.«01_k».proof.Proof.FwdHead
public import proofs.«01_k».proof.Proof.FwdSpec

/-! Retention's forward call: what the four results hold at the end. -/

@[expose] public section

set_option maxRecDepth 16384

noncomputable section

namespace Cert.Fwd

open Cert.Kernel6Ideal Cert.Kernel6Ideal.Gen Idealize.ShloMosaic Idealize.ShloMosaic.TcCoe Idealize.SL.Sem
open Cert.Ret (In Head HeadState stateRect chunkDecay chunkDecay_eq stateOf γ rowAt colAt col_split)

variable (m : (ℓ : Loc nD τ sig) → Buf (Elt Ideal) ℓ) (c : Dev nD)

/-! ## The state from point to point -/

/-- A head's state at a point's entry is the state before its chunk. -/
theorem entry_eq (t : Fin cfg0.N) (h : Fin 4) (i j : Fin 256) :
    stateOf (entry m c t h) i j = ((input m c).head (chunkAt t) h).before i j := by
  obtain ⟨n, hn⟩ := t
  induction n generalizing i j with
  | zero =>
    unfold entry
    rw [if_pos (by rfl)]
    exact (before_zero (input m c) h i j).symm
  | succ n ih =>
    have hn' : n < cfg0.N := Nat.lt_of_succ_lt hn
    have hk : n + 1 < 64 := points ⟨n + 1, hn⟩
    have h0 : ¬ (⟨n + 1, hn⟩ : Fin cfg0.N).val % 64 = 0 := by show ¬ (n + 1) % 64 = 0; omega
    have e : entry m c ⟨n + 1, hn⟩ h = (cells m c ⟨n, hn'⟩ h).step (chunkDecay h) (entry m c ⟨n, hn'⟩ h) := by
      unfold entry
      rw [if_neg h0]
      exact state_point m c ⟨n, hn'⟩ h
    rw [e, step_at (cell_is m c ⟨n, hn'⟩ h), ih _ _ hn', chunkDecay_eq]
    exact (before_succ (input m c) h i j n hk).symm

/-! ## What a point leaves -/

variable (t : Fin cfg0.N)

theorem saved_ld (h : Fin 4) (i j : Fin 256) : ((outsAt0 m c t.val t.isLt).2.1 : Vec Ideal S1x4x256x256 .bf16) (ix4 0 h i j)
    = ((input m c).head (chunkAt t) h).before i j := by
  rw [← entry_eq, ← saved_at, saved_point]
  refine (ld_saved _ h i j).symm.trans ?_
  exact congrFun (ld_heads_only VO0_8 savedRect (fun h => k0_pay23 (F := Ideal) (entry m c t h)) disj_saved h) (ix4 0 0 i j)
theorem score_ld (h : Fin 4) (a b : Fin 128) : ((outsAt0 m c t.val t.isLt).2.2.1 : Vec Ideal S128x512 .bf16) (ix2 a ⟨128 * h.val + b.val, by omega⟩)
    = ((input m c).head (chunkAt t) h).score a b := by
  rw [score_eq, ← score_at (cell_is m c t h), score_point]
  refine (ld_score _ h a b).symm.trans ?_
  exact congrFun (ld_heads_only VO0_9 scoreRect (fun h => (cells m c t h).score) disj_score h) (ix2 a b)
theorem o_at (h : Fin 4) (a : Fin 128) (j : Fin 256) : (cells m c t h).out (entry m c t h) (ix2 a j) = ((input m c).head (chunkAt t) h).o a j := by
  rw [out_at (cell_is m c t h), o_eq]
  simp only [score_eq, entry_eq]
theorem out_ld (h : Fin 4) (a : Fin 128) (j : Fin 256) : ((outsAt0 m c t.val t.isLt).2.2.2.1 : Vec Ideal S128x1024 .f32) (ix2 a (colAt h j))
    = ((input m c).head (chunkAt t) h).o a j := by
  rw [← o_at, out_point]
  refine (ld_cell _ h a j).symm.trans ?_
  exact congrFun (ld_heads_only VO0_10 cellRect (fun h => (cells m c t h).out (entry m c t h)) disj_cell h) (ix2 a j)
theorem branch_ld (h : Fin 4) (a : Fin 128) (j : Fin 256) : ((outsAt0 m c t.val t.isLt).1 : Vec Ideal S128x1024 .bf16) (ix2 a (colAt h j))
    = ((input m c).head (chunkAt t) h).branch a j := by
  rw [← branchOf_at (cell_is m c t h) _ (o_at m c t h) a j, branch_point]
  refine (ld_cell _ h a j).symm.trans ?_
  exact congrFun (ld_heads_only VO0_7 cellRect (fun h => (cells m c t h).branch (entry m c t h)) disj_cell h) (ix2 a j)

/-! ## The arrays -/

/-- The scores, a chunk's rows under one another and the heads side by side. -/
def scoreRows (x : In) : FVec Ideal S8192x512 .f32 := fun i =>
  (x.head ⟨(i 0).val / 128, Nat.div_lt_of_lt_mul (i 0).isLt⟩ ⟨(i 1).val / 128, Nat.div_lt_of_lt_mul (i 1).isLt⟩).score
    ⟨(i 0).val % 128, Nat.mod_lt _ (by decide)⟩ ⟨(i 1).val % 128, Nat.mod_lt _ (by decide)⟩
theorem scoreRows_at (x : In) (n : Fin 64) (a : Fin 128) (h : Fin 4) (b : Fin 128) :
    scoreRows x (ix2 (rowAt n a) ⟨128 * h.val + b.val, by omega⟩) = (x.head n h).score a b := by
  have en : (128 * n.val + a.val) / 128 = n.val := by omega
  have ea : (128 * n.val + a.val) % 128 = a.val := by omega
  have eh : (128 * h.val + b.val) / 128 = h.val := by omega
  have eb : (128 * h.val + b.val) % 128 = b.val := by omega
  unfold scoreRows
  simp only [ix2_0, ix2_1, rowAt, en, ea, eh, eb, Fin.eta]
/-- The rows before the norm, the heads side by side. -/
def outRows (x : In) : FVec Ideal S8192x1024 .f32 := fun i =>
  (x.head ⟨(i 0).val / 128, Nat.div_lt_of_lt_mul (i 0).isLt⟩ ⟨(i 1).val / 256, Nat.div_lt_of_lt_mul (i 1).isLt⟩).o
    ⟨(i 0).val % 128, Nat.mod_lt _ (by decide)⟩ ⟨(i 1).val % 256, Nat.mod_lt _ (by decide)⟩
theorem outRows_at (x : In) (n : Fin 64) (a : Fin 128) (h : Fin 4) (j : Fin 256) :
    outRows x (ix2 (rowAt n a) (colAt h j)) = (x.head n h).o a j := by
  have en : (128 * n.val + a.val) / 128 = n.val := by omega
  have ea : (128 * n.val + a.val) % 128 = a.val := by omega
  have eh : (256 * h.val + j.val) / 256 = h.val := by omega
  have ej : (256 * h.val + j.val) % 256 = j.val := by omega
  unfold outRows
  simp only [ix2_0, ix2_1, rowAt, colAt, en, ea, eh, ej, Fin.eta]

theorem unit_array : (dats m 0 c).arrAt 7 cfg0.N = (input m c).unit := by
  refine (dats m 0 c).arrAt_eq_of_covers 7 _ (by decide +kernel) fun t _ y => ?_
  blk_simp
  rw [after0_7]
  idx_vars y
  rw [show ((View.whole main_v14_0).slice (win0_7.rect t)).emb (ix2 y0 y1) = ix2 (rowAt (chunkAt t) y0) y1 from by
    rw [← arow_eq]; blk_ext [idx t]]
  obtain ⟨h, j, rfl⟩ := col_split y1
  exact (branch_ld m c t h y0 j).trans ((input m c).unit_at _ y0 h j).symm
theorem saved_array : (dats m 0 c).arrAt 8 cfg0.N = Reference4Ideal.Read.val_main_v137 (F := Ideal) (input m c).p := by
  refine (dats m 0 c).arrAt_eq_of_covers 8 _ (by decide +kernel) fun t _ y => ?_
  blk_simp
  rw [after0_8]
  idx_vars y
  obtain rfl : y0 = 0 := Subsingleton.elim _ _
  rw [show ((View.whole main_v14_1).slice (win0_8.rect t)).emb (ix4 0 y1 y2 y3) = ix4 (chunkAt t) y1 y2 y3 from by blk_ext [idx t]]
  exact (saved_ld m c t y1 y2 y3).trans (In.head_before _ _ _ _ _)
theorem score_array : (dats m 0 c).arrAt 9 cfg0.N = scoreRows (input m c) := by
  refine (dats m 0 c).arrAt_eq_of_covers 9 _ (by decide +kernel) fun t _ y => ?_
  blk_simp
  rw [after0_9]
  idx_vars y
  rw [show ((View.whole main_v14_2).slice (win0_9.rect t)).emb (ix2 y0 y1) = ix2 (rowAt (chunkAt t) y0) y1 from by
    rw [← arow_eq]; blk_ext [idx t]]
  obtain ⟨h, b, rfl⟩ : ∃ (h : Fin 4) (b : Fin 128), y1 = ⟨128 * h.val + b.val, by omega⟩ :=
    ⟨⟨y1.val / 128, by omega⟩, ⟨y1.val % 128, by omega⟩, Fin.ext (by simp only; omega)⟩
  exact (score_ld m c t h y0 b).trans (scoreRows_at _ _ y0 h b).symm
theorem out_array : (dats m 0 c).arrAt 10 cfg0.N = outRows (input m c) := by
  refine (dats m 0 c).arrAt_eq_of_covers 10 _ (by decide +kernel) fun t _ y => ?_
  blk_simp
  rw [after0_10]
  idx_vars y
  rw [show ((View.whole main_v14_3).slice (win0_10.rect t)).emb (ix2 y0 y1) = ix2 (rowAt (chunkAt t) y0) y1 from by
    rw [← arow_eq]; blk_ext [idx t]]
  obtain ⟨h, j, rfl⟩ := col_split y1
  exact (out_ld m c t h y0 j).trans (outRows_at _ _ y0 h j).symm

/-! ## The host lines behind the call -/

theorem scores_host (x : In) : transpose S64x4x128x128 [0, 2, 1, 3] (shapeCast S64x128x4x128 (scoreRows x) shapeCasts_S8192x512_S64x128x4x128)
    transposes_S64x128x4x128_S64x4x128x128_0_2_1_3 = Reference4Ideal.Read.val_main_v104 (F := Ideal) x.p := by
  funext i
  idx_vars i
  rw [← In.head_score, ← scoreRows_at]
  generalize scoreRows x = S
  pointwise []
  try blk_ext
theorem outs_host (x : In) : shapeCast S8192x4x256 (outRows x) shapeCasts_S8192x1024_S8192x4x256 = Reference4Ideal.Read.val_main_v144 (F := Ideal) x.p := by
  funext i
  idx_vars i
  obtain ⟨n, a, rfl⟩ := Cert.Ret.row_split i0
  rw [← In.head_o, ← outRows_at]
  generalize outRows x = S
  pointwise []
  try blk_ext

/-! ## The run -/

/-- What the four results hold at the end. -/
theorem run (ρ : Dev nD → PrngReg) : θ_run defs (onTc (τ := τ) (main (F := Ideal))) ⟨m, fun _ => 0, ρ⟩ (fun r => ∀ c : Dev nD,
      r.2.mem ((c.tc : Thread nD τ).loc main_v15) = (input m c).unit
      ∧ r.2.mem ((c.tc : Thread nD τ).loc main_v16) = Reference4Ideal.Read.val_main_v137 (F := Ideal) (input m c).p
      ∧ r.2.mem ((c.tc : Thread nD τ).loc main_v19) = Reference4Ideal.Read.val_main_v104 (F := Ideal) (input m c).p
      ∧ r.2.mem ((c.tc : Thread nD τ).loc main_v20) = Reference4Ideal.Read.val_main_v144 (F := Ideal) (input m c).p) := by
  refine (θ_run defs _ _).mono (fun r h c => ⟨?_, ?_, ?_, ?_⟩) (run_main m ρ)
  · refine ((h c).2 main_v15 (Pipeline.mem_restRefs_of main_v15 (by decide) (by decide))).trans ?_
    unfold Pipeline.afterTail₀
    simp only [hostOps1, List.flatten_cons, List.flatten_nil, List.append_nil]
    after_results
    erw [(dats m 0 c).withArrays_arrAt launch₀0.sharedIn _ (A_eq m c) 7, unit_array]
    rfl
  · refine ((h c).2 main_v16 (Pipeline.mem_restRefs_of main_v16 (by decide) (by decide))).trans ?_
    unfold Pipeline.afterTail₀
    simp only [hostOps1, List.flatten_cons, List.flatten_nil, List.append_nil]
    after_results
    erw [(dats m 0 c).withArrays_arrAt launch₀0.sharedIn _ (A_eq m c) 8, saved_array]
    rfl
  · refine ((h c).2 main_v19 (Pipeline.mem_restRefs_of main_v19 (by decide) (by decide))).trans ?_
    unfold Pipeline.afterTail₀
    simp only [hostOps1, List.flatten_cons, List.flatten_nil, List.append_nil]
    after_results
    erw [(dats m 0 c).withArrays_arrAt launch₀0.sharedIn _ (A_eq m c) 9, score_array]
    exact scores_host (input m c)
  · refine ((h c).2 main_v20 (Pipeline.mem_restRefs_of main_v20 (by decide) (by decide))).trans ?_
    unfold Pipeline.afterTail₀
    simp only [hostOps1, List.flatten_cons, List.flatten_nil, List.append_nil]
    after_results
    erw [(dats m 0 c).withArrays_arrAt launch₀0.sharedIn _ (A_eq m c) 10, out_array]
    exact outs_host (input m c)

end Cert.Fwd

end
-- ==== Proof.FwdClaim.lean ====
module

public import proofs.«01_k».proof.Defs
public import proofs.«01_k».proof.Proof.FwdArray
public import proofs.«01_k».proof.Proof.RetMix
public import proofs.«01_k».proof.Proof.Gen.Kernel6.Frame
public import proofs.«01_k».proof.Proof.Gen.Reference6Ideal.Run
public import proofs.«01_k».proof.Proof.Gen.Reference6Ideal.Read
public import Idealize.ShloMosaic.Lib.Claim
public import Idealize.ShloMosaic.Lib.Quiescent

/-! Retention's forward call: the kernel's four results are the reference's, whatever the arguments. -/

@[expose] public section

set_option maxRecDepth 16384

noncomputable section

namespace Cert.Fwd

open Idealize.ShloMosaic Idealize.ShloMosaic.TcCoe Idealize.SL.Sem Cert.Reference6Ideal.Read

attribute [local instance] Cert.Kernel6Ideal.Gen.facts Cert.Reference6Ideal.Gen.facts

/-- The reference leaves its arguments as they were; it has no semaphore. -/
theorem ref_frame : Cert.quiescent_Reference6Ideal (hReference6Ideal := Cert.Reference6Ideal.Gen.facts) := fun m g _ =>
  (θ_run _ _ _).mono (fun r h => ⟨fun c => (h c).2.2.2.2, sem_eq_zero_of_no_sems rfl r.2⟩)
    (Cert.Reference6Ideal.Value.run m g)

/-- The named constants: each head's logarithm of the decay, and the decay over a chunk. -/
theorem preserves : Cert.preserves_Kernel6_Kernel6Ideal := ⟨
  IdealRules.named_const.statement Cert.Kernel6Ideal.κ "log_gamma0" .f32 0xBD020AEC#32 _ rfl,
  IdealRules.named_const.statement Cert.Kernel6Ideal.κ "log_gamma1" .f32 0xBC8102B3#32 _ rfl,
  IdealRules.named_const.statement Cert.Kernel6Ideal.κ "log_gamma2" .f32 0xBC0080AC#32 _ rfl,
  IdealRules.named_const.statement Cert.Kernel6Ideal.κ "log_gamma3" .f32 0xBB80402B#32 _ rfl,
  IdealRules.named_const.statement Cert.Kernel6Ideal.κ "gamma0" .f32 0x3C8CC36A#32 _ rfl,
  IdealRules.named_const.statement Cert.Kernel6Ideal.κ "gamma1" .f32 0x3E08698E#32 _ rfl,
  IdealRules.named_const.statement Cert.Kernel6Ideal.κ "gamma2" .f32 0x3EBB9DB9#32 _ rfl,
  IdealRules.named_const.statement Cert.Kernel6Ideal.κ "gamma3" .f32 0x3F1B1EB1#32 _ rfl⟩

/-! ## The reference's lines are those of the backward pair's forward part -/

theorem ref_before (p) : val_main_v137 (F := Ideal) p = Reference4Ideal.Read.val_main_v137 (F := Ideal) p := rfl
theorem ref_score (p) : val_main_v104 (F := Ideal) p = Reference4Ideal.Read.val_main_v104 (F := Ideal) p := rfl
theorem ref_o (p) : val_main_v144 (F := Ideal) p = Reference4Ideal.Read.val_main_v144 (F := Ideal) p := rfl
theorem ref_branch (p gain) : val_main_v167 (F := Ideal) p gain = Reference4Ideal.Read.val_main_v172 (F := Ideal) p gain := rfl

/-- The two runs end with equal results. -/
theorem algebraic : Cert.algebraic_Kernel6Ideal_Reference6Ideal
    (hKernel6Ideal := Cert.Kernel6Ideal.Gen.facts) (hReference6Ideal := Cert.Reference6Ideal.Gen.facts) := by
  intro m g m' g' hpre hargs
  refine ⟨fun c => (input m c).unit, fun c => Reference4Ideal.Read.val_main_v137 (F := Ideal) (input m c).p,
    fun c => Reference4Ideal.Read.val_main_v104 (F := Ideal) (input m c).p, fun c => Reference4Ideal.Read.val_main_v144 (F := Ideal) (input m c).p,
    (θ_run _ _ _).mono (fun r h c => ?_) (θ_run_and (run m g) (Cert.Kernel6Ideal.Gen.unchanged m g)), ?_⟩
  · obtain ⟨h0, h1, h2, h3⟩ := h.1 c
    exact ⟨h0, h1, h2, h3, h.2 c⟩
  · refine (θ_run _ _ _).mono (fun r h c => ?_) (Cert.Reference6Ideal.Value.run m' g')
    obtain ⟨a0, a1⟩ := hargs c
    obtain ⟨r0, r1, r2, r3, rest⟩ := h c
    have e0 : StableHlo.launchContents m' c (Proc.tc.devRef Cert.Reference6Ideal.main_arg0) = _ := a0
    have e1 : StableHlo.launchContents m' c (Proc.tc.devRef Cert.Reference6Ideal.main_arg1) = _ := a1
    refine ⟨(r0.trans (val_main_v167_eq _)).trans ?_, (r1.trans (val_main_v137_eq _)).trans ?_,
      (r2.trans (val_main_v104_eq _)).trans ?_, (r3.trans (val_main_v144_eq _)).trans ?_, rest⟩
    · rw [e0, e1]
      exact (ref_branch _ _).trans (Cert.Ret.ref_unit (x := input m c))
    · rw [e0]; exact ref_before (input m c).p
    · rw [e0]; exact ref_score (input m c).p
    · rw [e0]; exact ref_o (input m c).p

end Cert.Fwd

end
-- ==== Proof.DiscFwdBlock.lean ====
module

public import proofs.«01_k».proof.Proof.DiscSpec
public import proofs.«01_k».proof.Proof.Gen.Kernel7Ideal.Frame
public import Idealize.ShloMosaic.Lib.Pipeline.ValueKit
public import Idealize.ShloMosaic.Lib.Pointwise

/-! The discretisation's forward call: what its one point leaves in the four windows, element by element. -/

@[expose] public section

set_option maxRecDepth 16384

noncomputable section

namespace Cert.DiscFwd

open Cert.Disc Cert.Kernel7Ideal Cert.Kernel7Ideal.Gen Idealize.ShloMosaic Idealize.ShloMosaic.TcCoe Idealize.SL.Sem

/-- The weights of one input, discretised: the quotient times the weight, as complex numbers. -/
def weightRe (s : State) (h : Fin 16) : EReal := s.quotRe * s.br h - s.quotIm * s.bi h
def weightIm (s : State) (h : Fin 16) : EReal := s.quotRe * s.bi h + s.quotIm * s.br h

variable (x0 x1 : FVec Ideal S64x1x64 .f32) (x2 : FVec Ideal S64x1x1 .f32) (x3 x4 : FVec Ideal S64x16x64 .f32)

/-- State `p` of group `g` in the kernel's arrays; going forward there are no cotangents. -/
def inBlock (g p : Fin 64) : State where
  a := x0 (ix3 g 0 p)
  l := x1 (ix3 g 0 p)
  d := x2 (ix3 g 0 0)
  ca := 0
  cb := 0
  br := fun h => x3 (ix3 g h p)
  bi := fun h => x4 (ix3 g h p)
  cr := 0
  ci := 0

variable (g p : Fin 64)

theorem poleRe_at : k0_pay8 (F := Ideal) (View.ld (Val := Elt Ideal) x0 r0_0) (View.ld (Val := Elt Ideal) x1 r0_0) (View.ld (Val := Elt Ideal) x2 r0_1) (ix3 g 0 p)
    = (inBlock x0 x1 x2 x3 x4 g p).poleRe := by
  pointwise [k0_pay8, k0_pay7, k0_pay6, k0_pay5, k0_pay2, inBlock, State.poleRe, State.mag, State.re, State.cosine, State.step]
theorem poleIm_at : k0_pay9 (F := Ideal) (View.ld (Val := Elt Ideal) x0 r0_0) (View.ld (Val := Elt Ideal) x1 r0_0) (View.ld (Val := Elt Ideal) x2 r0_1) (ix3 g 0 p)
    = (inBlock x0 x1 x2 x3 x4 g p).poleIm := by
  pointwise [k0_pay9, k0_pay7, k0_pay6, k0_pay5, k0_pay2, inBlock, State.poleIm, State.mag, State.re, State.sine, State.step]
theorem quotRe_at : k0_pay12 (F := Ideal) (View.ld (Val := Elt Ideal) x0 r0_0) (View.ld (Val := Elt Ideal) x1 r0_0) (View.ld (Val := Elt Ideal) x2 r0_1) (ix3 g 0 p)
    = (inBlock x0 x1 x2 x3 x4 g p).quotRe := by
  pointwise [k0_pay12, k0_pay11, k0_pay10, k0_pay5, k0_pay2, poleRe_at x0 x1 x2 x3 x4, poleIm_at x0 x1 x2 x3 x4]
  rfl
theorem quotIm_at : k0_pay13 (F := Ideal) (View.ld (Val := Elt Ideal) x0 r0_0) (View.ld (Val := Elt Ideal) x1 r0_0) (View.ld (Val := Elt Ideal) x2 r0_1) (ix3 g 0 p)
    = (inBlock x0 x1 x2 x3 x4 g p).quotIm := by
  pointwise [k0_pay13, k0_pay11, k0_pay10, k0_pay5, k0_pay2, poleRe_at x0 x1 x2 x3 x4, poleIm_at x0 x1 x2 x3 x4]
  rfl

/-! ## The four windows -/

theorem poleRe_block : out0_5 (F := Ideal) x0 x1 x2 x3 x4 (ix3 g 0 p) = (inBlock x0 x1 x2 x3 x4 g p).poleRe := by
  unfold out0_5
  rw [View.canon_cons_unit_lit' _ _ _ (by decide)]
  exact poleRe_at x0 x1 x2 x3 x4 g p
theorem poleIm_block : out0_6 (F := Ideal) x0 x1 x2 x3 x4 (ix3 g 0 p) = (inBlock x0 x1 x2 x3 x4 g p).poleIm := by
  unfold out0_6
  rw [View.canon_cons_unit_lit' _ _ _ (by decide)]
  exact poleIm_at x0 x1 x2 x3 x4 g p
theorem weightRe_block (h : Fin 16) : out0_7 (F := Ideal) x0 x1 x2 x3 x4 (ix3 g h p) = weightRe (inBlock x0 x1 x2 x3 x4 g p) h := by
  unfold out0_7
  rw [View.canon_cons_unit_lit' _ _ _ (by decide)]
  pointwise [k0_pay14, k0_pay3, k0_pay4, quotRe_at x0 x1 x2 x3 x4, quotIm_at x0 x1 x2 x3 x4]
  rfl
theorem weightIm_block (h : Fin 16) : out0_8 (F := Ideal) x0 x1 x2 x3 x4 (ix3 g h p) = weightIm (inBlock x0 x1 x2 x3 x4 g p) h := by
  unfold out0_8
  rw [View.canon_cons_unit_lit' _ _ _ (by decide)]
  pointwise [k0_pay1, k0_pay15, k0_pay3, k0_pay4, quotRe_at x0 x1 x2 x3 x4, quotIm_at x0 x1 x2 x3 x4]
  rfl

end Cert.DiscFwd

end
-- ==== Proof.DiscFwdRef.lean ====
module

public import proofs.«01_k».proof.Proof.Gen.Reference7Ideal.Read
public import proofs.«01_k».proof.Proof.DiscFwdBlock

/-! The discretisation's forward call: what the reference computes, element by element. -/

@[expose] public section

set_option maxRecDepth 16384

noncomputable section

namespace Cert.DiscFwd

open Cert.Disc Cert.Reference7Ideal Cert.Reference7Ideal.Gen Cert.Reference7Ideal.Read Idealize.ShloMosaic Idealize.ShloMosaic.TcCoe

/-- The five argument arrays. -/
structure Arrays where
  a : FVec Ideal S64x64 .f32
  l : FVec Ideal S64x64 .f32
  d : FVec Ideal S64 .f32
  br : FVec Ideal S64x64x16 .f32
  bi : FVec Ideal S64x64x16 .f32

namespace Arrays

variable (x : Arrays)

/-- State `p` of group `g`; going forward there are no cotangents. -/
def state (g p : Fin 64) : State where
  a := x.a (ix2 g p)
  l := x.l (ix2 g p)
  d := x.d (ix1 g)
  ca := 0
  cb := 0
  br := fun h => x.br (ix3 g p h)
  bi := fun h => x.bi (ix3 g p h)
  cr := 0
  ci := 0

/-- The four results: the discretised poles and the discretised weights. -/
def outPoleRe : FVec Ideal S64x64 .f32 := fun i => (x.state (i 0) (i 1)).poleRe
def outPoleIm : FVec Ideal S64x64 .f32 := fun i => (x.state (i 0) (i 1)).poleIm
def outRe : FVec Ideal S64x64x16 .f32 := fun i => weightRe (x.state (i 0) (i 1)) (i 2)
def outIm : FVec Ideal S64x64x16 .f32 := fun i => weightIm (x.state (i 0) (i 1)) (i 2)

end Arrays

variable (x : Arrays) (g p : Fin 64) (h : Fin 16)

theorem ref_poleRe : val_main_v10 (F := Ideal) x.a x.l x.d (ix2 g p) = (x.state g p).poleRe := by
  pointwise [val_main_v10, val_main_v9, val_main_v8, val_main_v7, val_main_v6, val_main_v5, val_main_v4, val_main_v3, val_main_v2, val_main_v1,
    val_main_v0, val_main_cst, Arrays.state, State.poleRe, State.mag, State.re, State.cosine, State.step]
theorem ref_poleIm : val_main_v14 (F := Ideal) x.a x.l x.d (ix2 g p) = (x.state g p).poleIm := by
  pointwise [val_main_v14, val_main_v13, val_main_v12, val_main_v11, val_main_v6, val_main_v5, val_main_v4, val_main_v3, val_main_v2, val_main_v1,
    val_main_v0, val_main_cst, Arrays.state, State.poleIm, State.mag, State.re, State.sine, State.step]
theorem ref_re : val_main_v1 (F := Ideal) x.a (ix2 g p) = (x.state g p).re := by
  pointwise [val_main_v1, val_main_v0, val_main_cst, Arrays.state, State.re]
theorem ref_less : val_main_v19 (F := Ideal) x.a x.l x.d (ix2 g p) = (x.state g p).less := by
  pointwise [val_main_v19, val_main_v18, val_main_cst_0, ref_poleRe, State.less]
theorem ref_den : val_main_v17 (F := Ideal) x.a x.l (ix2 g p) = (x.state g p).den := by
  pointwise [val_main_v17, val_main_v16, val_main_v15, ref_re]
  rfl
theorem ref_quotRe : val_main_v23 (F := Ideal) x.a x.l x.d (ix2 g p) = (x.state g p).quotRe := by
  pointwise [val_main_v23, val_main_v22, val_main_v21, val_main_v20, ref_re, ref_less, ref_poleIm, ref_den]
  rfl
theorem ref_quotIm : val_main_v27 (F := Ideal) x.a x.l x.d (ix2 g p) = (x.state g p).quotIm := by
  pointwise [val_main_v27, val_main_v26, val_main_v25, val_main_v24, ref_re, ref_less, ref_poleIm, ref_den]
  rfl
theorem ref_weightRe : val_main_v34 (F := Ideal) x.a x.l x.d x.br x.bi (ix3 g p h) = weightRe (x.state g p) h := by
  pointwise [val_main_v34, val_main_v33, val_main_v32, val_main_v31, val_main_v30, val_main_v29, val_main_v28, ref_quotRe, ref_quotIm]
  rfl
theorem ref_weightIm : val_main_v41 (F := Ideal) x.a x.l x.d x.br x.bi (ix3 g p h) = weightIm (x.state g p) h := by
  pointwise [val_main_v41, val_main_v40, val_main_v39, val_main_v38, val_main_v37, val_main_v36, val_main_v35, ref_quotRe, ref_quotIm]
  rfl

end Cert.DiscFwd

end
-- ==== Proof.DiscFwdArray.lean ====
module

public import proofs.«01_k».proof.Proof.DiscFwdRef
public import Idealize.ShloMosaic.Lib.Claim

/-! The discretisation's forward call: what the four result arrays hold after the one grid point and the host lines. -/

@[expose] public section

set_option maxRecDepth 16384

noncomputable section

namespace Cert.DiscFwd

open Cert.Disc Cert.Kernel7Ideal Cert.Kernel7Ideal.Gen Idealize.ShloMosaic Idealize.ShloMosaic.TcCoe Idealize.SL.Sem

variable (m : (ℓ : Loc nD τ sig) → Buf (Elt Ideal) ℓ)

/-- The arguments the kernel's program is given. -/
abbrev arrays (c : Dev nD) : Arrays where
  a := m ((c : Thread nD τ).loc main_arg0)
  l := m ((c : Thread nD τ).loc main_arg1)
  d := m ((c : Thread nD τ).loc main_arg2)
  br := m ((c : Thread nD τ).loc main_arg3)
  bi := m ((c : Thread nD τ).loc main_arg4)

variable (c : Dev nD) (t : Fin cfg0.N)

/-- The arrays as the host lines lay them out. -/
theorem host_rows :
    (V m c main_v0 : FVec Ideal S64x1x64 .f32) = shapeCast S64x1x64 (arrays m c).a shapeCasts_S64x64_S64x1x64
    ∧ (V m c main_v1 : FVec Ideal S64x1x64 .f32) = shapeCast S64x1x64 (arrays m c).l shapeCasts_S64x64_S64x1x64
    ∧ (V m c main_v2 : FVec Ideal S64x1x1 .f32) = shapeCast S64x1x1 (arrays m c).d shapeCasts_S64_S64x1x1 := by
  refine ⟨?_, ?_, ?_⟩
  · entry_read; rfl
  · entry_read; rfl
  · entry_read; rfl
theorem host_weights :
    (V m c main_v3 : FVec Ideal S64x16x64 .f32) = transpose S64x16x64 [0, 2, 1] (arrays m c).br transposes_S64x64x16_S64x16x64_0_2_1
    ∧ (V m c main_v4 : FVec Ideal S64x16x64 .f32) = transpose S64x16x64 [0, 2, 1] (arrays m c).bi transposes_S64x64x16_S64x16x64_0_2_1 := by
  refine ⟨?_, ?_⟩
  · entry_read; rfl
  · entry_read; rfl
theorem row_at (T : FVec Ideal S64x64 .f32) (g p : Fin 64) :
    shapeCast S64x1x64 T shapeCasts_S64x64_S64x1x64 (ix3 g 0 p) = T (ix2 g p) := by pointwise []
theorem steps_at (T : FVec Ideal S64 .f32) (g : Fin 64) :
    shapeCast S64x1x1 T shapeCasts_S64_S64x1x1 (ix3 g 0 0) = T (ix1 g) := by pointwise []
theorem weight_at (T : FVec Ideal S64x64x16 .f32) (g p : Fin 64) (h : Fin 16) :
    transpose S64x16x64 [0, 2, 1] T transposes_S64x64x16_S64x16x64_0_2_1 (ix3 g h p) = T (ix3 g p h) := by pointwise []

/-- The one point reads and writes the whole arrays. -/
theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] ∧ win0_8.index t = ![0, 0, 0] :=
  (by decide +kernel : ∀ t : Fin grid0.N, _)

/-- A window's one block is its whole array. -/
theorem block_whole :
    (iblk m c 0 t : FVec Ideal S64x1x64 .f32) = V m c main_v0 ∧ (iblk m c 1 t : FVec Ideal S64x1x64 .f32) = V m c main_v1
    ∧ (iblk m c 2 t : FVec Ideal S64x1x1 .f32) = V m c main_v2 ∧ (iblk m c 3 t : FVec Ideal S64x16x64 .f32) = V m c main_v3
    ∧ (iblk m c 4 t : FVec Ideal S64x16x64 .f32) = V m c main_v4 := by
  refine ⟨?_, ?_, ?_, ?_, ?_⟩ <;> (funext i; idx_vars i; blk_point [iblk, idx t])

/-- The state the body finds is the arrays' state. -/
theorem found (g p : Fin 64) :
    inBlock (iblk m c 0 t) (iblk m c 1 t) (iblk m c 2 t) (iblk m c 3 t) (iblk m c 4 t) g p = (arrays m c).state g p := by
  obtain ⟨e0, e1, e2, e3, e4⟩ := block_whole m c t
  obtain ⟨r0, r1, r2⟩ := host_rows m c
  obtain ⟨w3, w4⟩ := host_weights m c
  rw [e0, e1, e2, e3, e4, r0, r1, r2, w3, w4]
  simp only [inBlock, Arrays.state, row_at, steps_at]
  congr 1 <;> exact funext fun h => weight_at _ g p h

/-! ## The result arrays -/

/-- A row for each group, and the weights transposed, as the kernel's windows hold them. -/
def asRows (T : S64x64.Idx → EReal) : S64x1x64.Idx → EReal := fun i => T (ix2 (i 0) (i 2))
def asWeights (T : S64x64x16.Idx → EReal) : S64x16x64.Idx → EReal := fun i => T (ix3 (i 0) (i 2) (i 1))

theorem poleRe_array : (dats m 0 c).arrAt 5 cfg0.N = asRows (arrays m c).outPoleRe := by
  refine (dats m 0 c).arrAt_eq_of_covers 5 _ (by decide +kernel) fun t _ y => ?_
  blk_simp
  rw [after0_5]
  idx_vars y
  obtain rfl : y1 = 0 := Subsingleton.elim _ _
  rw [show ((View.whole main_v5_0).slice (win0_5.rect t)).emb (ix3 y0 0 y2) = ix3 y0 0 y2 from by blk_ext [idx t]]
  exact (poleRe_block _ _ _ _ _ y0 y2).trans (congrArg State.poleRe (found m c t y0 y2))

theorem poleIm_array : (dats m 0 c).arrAt 6 cfg0.N = asRows (arrays m c).outPoleIm := by
  refine (dats m 0 c).arrAt_eq_of_covers 6 _ (by decide +kernel) fun t _ y => ?_
  blk_simp
  rw [after0_6]
  idx_vars y
  obtain rfl : y1 = 0 := Subsingleton.elim _ _
  rw [show ((View.whole main_v5_1).slice (win0_6.rect t)).emb (ix3 y0 0 y2) = ix3 y0 0 y2 from by blk_ext [idx t]]
  exact (poleIm_block _ _ _ _ _ y0 y2).trans (congrArg State.poleIm (found m c t y0 y2))

theorem re_array : (dats m 0 c).arrAt 7 cfg0.N = asWeights (arrays m c).outRe := by
  refine (dats m 0 c).arrAt_eq_of_covers 7 _ (by decide +kernel) fun t _ y => ?_
  blk_simp
  rw [after0_7]
  idx_vars y
  rw [show ((View.whole main_v5_2).slice (win0_7.rect t)).emb (ix3 y0 y1 y2) = ix3 y0 y1 y2 from by blk_ext [idx t]]
  exact (weightRe_block _ _ _ _ _ y0 y2 y1).trans (congrArg (weightRe · y1) (found m c t y0 y2))

theorem im_array : (dats m 0 c).arrAt 8 cfg0.N = asWeights (arrays m c).outIm := by
  refine (dats m 0 c).arrAt_eq_of_covers 8 _ (by decide +kernel) fun t _ y => ?_
  blk_simp
  rw [after0_8]
  idx_vars y
  rw [show ((View.whole main_v5_3).slice (win0_8.rect t)).emb (ix3 y0 y1 y2) = ix3 y0 y1 y2 from by blk_ext [idx t]]
  exact (weightIm_block _ _ _ _ _ y0 y2 y1).trans (congrArg (weightIm · y1) (found m c t y0 y2))

/-! ## The run -/

theorem rows_back (T : S64x64.Idx → EReal) :
    shapeCast S64x64 (asRows T : FVec Ideal S64x1x64 .f32) shapeCasts_S64x1x64_S64x64 = T := by
  funext i; idx_vars i; pointwise [asRows]
theorem weights_back (T : S64x64x16.Idx → EReal) :
    transpose S64x64x16 [0, 2, 1] (asWeights T : FVec Ideal S64x16x64 .f32) transposes_S64x16x64_S64x64x16_0_2_1 = T := by
  funext i; idx_vars i; pointwise [asWeights]

/-- What the four results hold at the end. -/
theorem run (ρ : Dev nD → PrngReg) : θ_run defs (onTc (τ := τ) (main (F := Ideal))) ⟨m, fun _ => 0, ρ⟩ (fun r => ∀ c : Dev nD,
      r.2.mem ((c.tc : Thread nD τ).loc main_v6) = (arrays m c).outPoleRe ∧ r.2.mem ((c.tc : Thread nD τ).loc main_v7) = (arrays m c).outPoleIm
      ∧ r.2.mem ((c.tc : Thread nD τ).loc main_v8) = (arrays m c).outRe ∧ r.2.mem ((c.tc : Thread nD τ).loc main_v9) = (arrays m c).outIm) := by
  refine (θ_run defs _ _).mono (fun r h c => ⟨?_, ?_, ?_, ?_⟩) (run_main m ρ)
  · refine ((h c).2 main_v6 (Pipeline.mem_restRefs_of main_v6 (by decide) (by decide))).trans ?_
    unfold Pipeline.afterTail₀
    simp only [hostOps1, List.flatten_cons, List.flatten_nil, List.append_nil]
    after_results
    erw [Pipeline.withArrays_arr _ launch0.win.arr_inj c _ _ 5, poleRe_array]
    exact rows_back _
  · refine ((h c).2 main_v7 (Pipeline.mem_restRefs_of main_v7 (by decide) (by decide))).trans ?_
    unfold Pipeline.afterTail₀
    simp only [hostOps1, List.flatten_cons, List.flatten_nil, List.append_nil]
    after_results
    erw [Pipeline.withArrays_arr _ launch0.win.arr_inj c _ _ 6, poleIm_array]
    exact rows_back _
  · refine ((h c).2 main_v8 (Pipeline.mem_restRefs_of main_v8 (by decide) (by decide))).trans ?_
    unfold Pipeline.afterTail₀
    simp only [hostOps1, List.flatten_cons, List.flatten_nil, List.append_nil]
    after_results
    erw [Pipeline.withArrays_arr _ launch0.win.arr_inj c _ _ 7, re_array]
    exact weights_back _
  · refine ((h c).2 main_v9 (Pipeline.mem_restRefs_of main_v9 (by decide) (by decide))).trans ?_
    unfold Pipeline.afterTail₀
    simp only [hostOps1, List.flatten_cons, List.flatten_nil, List.append_nil]
    after_results
    erw [Pipeline.withArrays_arr _ launch0.win.arr_inj c _ _ 8, im_array]
    exact weights_back _

end Cert.DiscFwd

end
-- ==== Proof.DiscFwdClaim.lean ====
module

public import proofs.«01_k».proof.Defs
public import proofs.«01_k».proof.Proof.DiscFwdArray
public import proofs.«01_k».proof.Proof.Gen.Kernel7.Frame
public import proofs.«01_k».proof.Proof.Gen.Reference7Ideal.Run
public import Idealize.ShloMosaic.Lib.Claim
public import Idealize.ShloMosaic.Lib.Quiescent

/-! The discretisation's forward call: the kernel's four results are the reference's, whatever the arguments. -/

@[expose] public section

set_option maxRecDepth 16384

noncomputable section

namespace Cert.DiscFwd

open Idealize.ShloMosaic Idealize.ShloMosaic.TcCoe Idealize.SL.Sem Cert.Reference7Ideal.Read

attribute [local instance] Cert.Kernel7Ideal.Gen.facts Cert.Reference7Ideal.Gen.facts

/-- The reference leaves its arguments as they were; it has no semaphore. -/
theorem ref_frame : Cert.quiescent_Reference7Ideal (hReference7Ideal := Cert.Reference7Ideal.Gen.facts) := fun m g _ =>
  (θ_run _ _ _).mono (fun r h => ⟨fun c => (h c).2.2.2.2, sem_eq_zero_of_no_sems rfl r.2⟩)
    (Cert.Reference7Ideal.Value.run m g)

/-- The two runs end with equal results. -/
theorem algebraic : Cert.algebraic_Kernel7Ideal_Reference7Ideal
    (hKernel7Ideal := Cert.Kernel7Ideal.Gen.facts) (hReference7Ideal := Cert.Reference7Ideal.Gen.facts) := by
  intro m g m' g' hpre hargs
  refine ⟨fun c => (arrays m c).outPoleRe, fun c => (arrays m c).outPoleIm, fun c => (arrays m c).outRe, fun c => (arrays m c).outIm,
    (θ_run _ _ _).mono (fun r h c => ?_) (θ_run_and (run m g) (Cert.Kernel7Ideal.Gen.unchanged m g)), ?_⟩
  · obtain ⟨h0, h1, h2, h3⟩ := h.1 c
    exact ⟨h0, h1, h2, h3, h.2 c⟩
  · refine (θ_run _ _ _).mono (fun r h c => ?_) (Cert.Reference7Ideal.Value.run m' g')
    obtain ⟨a0, a1, a2, a3, a4⟩ := hargs c
    obtain ⟨r0, r1, r2, r3, rest⟩ := h c
    refine ⟨(r0.trans (val_main_v10_eq _ _ _)).trans ?_, (r1.trans (val_main_v14_eq _ _ _)).trans ?_,
      (r2.trans (val_main_v34_eq _ _ _ _ _)).trans ?_, (r3.trans (val_main_v41_eq _ _ _ _ _)).trans ?_, rest⟩
    · rw [a0, a1, a2]
      funext i
      idx_vars i
      exact ref_poleRe (arrays m c) i0 i1
    · rw [a0, a1, a2]
      funext i
      idx_vars i
      exact ref_poleIm (arrays m c) i0 i1
    · rw [a0, a1, a2, a3, a4]
      funext i
      idx_vars i
      exact ref_weightRe (arrays m c) i0 i1 i2
    · rw [a0, a1, a2, a3, a4]
      funext i
      idx_vars i
      exact ref_weightIm (arrays m c) i0 i1 i2

end Cert.DiscFwd

end
-- ==== Proof.ProjFwdBlock.lean ====
module

public import proofs.«01_k».proof.Proof.InProjSpec
public import proofs.«01_k».proof.Proof.Gen.Kernel8Ideal.Frame
public import proofs.«01_k».proof.Proof.WholeCopy
public import Idealize.ShloMosaic.Lib.Pipeline.ValueKit
public import Idealize.ShloMosaic.Lib.Pointwise
public import Idealize.ShloMosaic.Lib.Claim

/-! The input projection: what one grid point (512 rows) computes from its input blocks. -/

@[expose] public section

set_option maxRecDepth 16384

noncomputable section

namespace Cert.ProjFwd

open Cert.Kernel8Ideal Cert.Kernel8Ideal.Gen Idealize.ShloMosaic Idealize.ShloMosaic.TcCoe Idealize.SL.Sem
open Cert.WholeCopy Cert.NormGrad
open Cert.InProj (width eps)

/-! ## The rows a point computes -/

variable (x : Vec Ideal S512x1024 .f32) (g : Vec Ideal S1x1024 .f32) (w : Vec Ideal S8x1024x768 .bf16)

/-- Row `p`, column `j`: the normalised row times the gain, through the column's block of the weights. -/
def projected (p : Fin 512) (j : Fin 6144) : EReal :=
  ∑ q : Fin 1024, x (ix2 p q) * invRms width eps (fun k => x (ix2 p k)) * g (ix2 0 q) * w (ix3 ⟨j.val / 768, by omega⟩ q ⟨j.val % 768, by omega⟩)

/-- The rows through one block of the weights. -/
theorem product_at (v : Vec Ideal S1x1024x768 .bf16) (p : Fin 512) (k : Fin 768) : k0_pay6 (k0_pay2 x g) v (ix2 p k)
    = ∑ q : Fin 1024, x (ix2 p q) * invRms width eps (fun k => x (ix2 p k)) * g (ix2 0 q) * v (ix3 0 q k) := by
  pointwise [k0_pay6, k0_pay2, invRms, meanSq]

/-- A block of the weights that is block `n` gives the columns from `768 n`. -/
theorem product_eq (v : Vec Ideal S1x1024x768 .bf16) (n : Fin 8) (hv : ∀ q k, v (ix3 0 q k) = w (ix3 n q k)) (p p' : Fin 512) (k : Fin 768) (j : Fin 6144)
    (hp : p'.val = p.val) (hj : j.val = 768 * n.val + k.val) : k0_pay6 (k0_pay2 x g) v (ix2 p k) = projected x g w p' j := by
  obtain rfl : p' = p := Fin.ext hp
  rw [product_at, projected]
  refine Finset.sum_congr rfl fun q _ => congrArg (_ * ·) ((hv q k).trans ?_)
  congr 2
  · exact Fin.ext (by simp only []; omega)
  · exact Fin.ext (by simp only []; omega)

/-- The point's rows as stored, eight column blocks. -/
def stored : Vec Ideal S512x6144 .f32 :=
  View.canon (Val := Elt Ideal) [
      ⟨Rect.unit ![0, 5376] ![512, 768] inb_S512x6144_S512x768_0_5376, k0_pay6 (k0_pay2 x g) (View.ld (Val := Elt Ideal) w (Rect.unit ![7, 0, 0] ![1, 1024, 768] inb_S8x1024x768_S1x1024x768_7_0_0))⟩,
      ⟨Rect.unit ![0, 4608] ![512, 768] inb_S512x6144_S512x768_0_4608, k0_pay6 (k0_pay2 x g) (View.ld (Val := Elt Ideal) w (Rect.unit ![6, 0, 0] ![1, 1024, 768] inb_S8x1024x768_S1x1024x768_6_0_0))⟩,
      ⟨Rect.unit ![0, 3840] ![512, 768] inb_S512x6144_S512x768_0_3840, k0_pay6 (k0_pay2 x g) (View.ld (Val := Elt Ideal) w (Rect.unit ![5, 0, 0] ![1, 1024, 768] inb_S8x1024x768_S1x1024x768_5_0_0))⟩,
      ⟨Rect.unit ![0, 3072] ![512, 768] inb_S512x6144_S512x768_0_3072, k0_pay6 (k0_pay2 x g) (View.ld (Val := Elt Ideal) w (Rect.unit ![4, 0, 0] ![1, 1024, 768] inb_S8x1024x768_S1x1024x768_4_0_0))⟩,
      ⟨Rect.unit ![0, 2304] ![512, 768] inb_S512x6144_S512x768_0_2304, k0_pay6 (k0_pay2 x g) (View.ld (Val := Elt Ideal) w (Rect.unit ![3, 0, 0] ![1, 1024, 768] inb_S8x1024x768_S1x1024x768_3_0_0))⟩,
      ⟨Rect.unit ![0, 1536] ![512, 768] inb_S512x6144_S512x768_0_1536, k0_pay6 (k0_pay2 x g) (View.ld (Val := Elt Ideal) w (Rect.unit ![2, 0, 0] ![1, 1024, 768] inb_S8x1024x768_S1x1024x768_2_0_0))⟩,
      ⟨Rect.unit ![0, 768] ![512, 768] inb_S512x6144_S512x768_0_768, k0_pay6 (k0_pay2 x g) (View.ld (Val := Elt Ideal) w (Rect.unit ![1, 0, 0] ![1, 1024, 768] inb_S8x1024x768_S1x1024x768_1_0_0))⟩,
      ⟨Rect.unit ![0, 0] ![512, 768] inb_S512x6144_S512x768_0_0, k0_pay6 (k0_pay2 x g) (View.ld (Val := Elt Ideal) w (Rect.unit ![0, 0, 0] ![1, 1024, 768] inb_S8x1024x768_S1x1024x768_0_0_0))⟩]

theorem stored_eq : stored x g w = fun y : S512x6144.Idx => projected x g w (y 0) (y 1) := by
  funext y
  unfold stored
  canon_tiles z h
  · idx_vars z; exact product_eq x g w _ 7 (fun q k => by first | rfl | pointwise [] | blk_ext []) _ _ _ _ (by omega) (by omega)
  · idx_vars z; exact product_eq x g w _ 6 (fun q k => by first | rfl | pointwise [] | blk_ext []) _ _ _ _ (by omega) (by omega)
  · idx_vars z; exact product_eq x g w _ 5 (fun q k => by first | rfl | pointwise [] | blk_ext []) _ _ _ _ (by omega) (by omega)
  · idx_vars z; exact product_eq x g w _ 4 (fun q k => by first | rfl | pointwise [] | blk_ext []) _ _ _ _ (by omega) (by omega)
  · idx_vars z; exact product_eq x g w _ 3 (fun q k => by first | rfl | pointwise [] | blk_ext []) _ _ _ _ (by omega) (by omega)
  · idx_vars z; exact product_eq x g w _ 2 (fun q k => by first | rfl | pointwise [] | blk_ext []) _ _ _ _ (by omega) (by omega)
  · idx_vars z; exact product_eq x g w _ 1 (fun q k => by first | rfl | pointwise [] | blk_ext []) _ _ _ _ (by omega) (by omega)
  · idx_vars z; exact product_eq x g w _ 0 (fun q k => by first | rfl | pointwise [] | blk_ext []) _ _ _ _ (by omega) (by omega)

/-- One lane group of 128 columns, under a unit axis. -/
def lane (u : FVec Ideal S512x1024 .f32) (o : Fin 2 → ℕ) (h : S512x1024.Slices o S512x128) : FVec Ideal S1x512x128 .f32 :=
  shapeCast S1x512x128 (extractStridedSlice S512x128 o u h) shapeCasts_S512x128_S1x512x128

/-- The first 1024 columns stored by lane groups hold at each lane the column. -/
theorem canon_lanes (u : FVec Ideal S512x1024 .f32) :
    (View.canon (Val := Elt Ideal) [
      ⟨Rect.unit ![7, 0, 0] ![1, 512, 128] inb_S8x512x128_S1x512x128_7_0_0, lane u ![0, 896] slices_S512x1024_o0_896_S512x128⟩,
      ⟨Rect.unit ![6, 0, 0] ![1, 512, 128] inb_S8x512x128_S1x512x128_6_0_0, lane u ![0, 768] slices_S512x1024_o0_768_S512x128⟩,
      ⟨Rect.unit ![5, 0, 0] ![1, 512, 128] inb_S8x512x128_S1x512x128_5_0_0, lane u ![0, 640] slices_S512x1024_o0_640_S512x128⟩,
      ⟨Rect.unit ![4, 0, 0] ![1, 512, 128] inb_S8x512x128_S1x512x128_4_0_0, lane u ![0, 512] slices_S512x1024_o0_512_S512x128⟩,
      ⟨Rect.unit ![3, 0, 0] ![1, 512, 128] inb_S8x512x128_S1x512x128_3_0_0, lane u ![0, 384] slices_S512x1024_o0_384_S512x128⟩,
      ⟨Rect.unit ![2, 0, 0] ![1, 512, 128] inb_S8x512x128_S1x512x128_2_0_0, lane u ![0, 256] slices_S512x1024_o0_256_S512x128⟩,
      ⟨Rect.unit ![1, 0, 0] ![1, 512, 128] inb_S8x512x128_S1x512x128_1_0_0, lane u ![0, 128] slices_S512x1024_o0_128_S512x128⟩,
      ⟨Rect.unit ![0, 0, 0] ![1, 512, 128] inb_S8x512x128_S1x512x128_0_0_0, lane u ![0, 0] slices_S512x1024_o0_0_S512x128⟩] : Vec Ideal S8x512x128 .f32)
      = fun j : S8x512x128.Idx => u (ix2 (j 1) ⟨(j 0).val * 128 + (j 2).val, by have h0 := (j 0).isLt; have h2 := (j 2).isLt; simp at h0 h2; omega⟩) := by
  have e : ∀ (p p' : Fin 512) (q q' : Fin 1024), p'.val = p.val → q'.val = q.val → u (ix2 p q) = u (ix2 p' q') :=
    fun p p' q q' hp hq => by rw [Fin.ext hp, Fin.ext hq]
  funext j
  canon_tiles z hz
  all_goals
    idx_vars z
    pointwise [lane]
    exact e _ _ _ _ (by omega) (by simp only []; omega)

/-- The first 1024 of a row's columns. -/
def lead : FVec Ideal S512x1024 .f32 :=
  k0_pay11 (View.ld (Val := Elt Ideal) (stored x g w) (Rect.unit ![0, 0] ![512, 1024] inb_S512x6144_S512x1024_0_0))

theorem lead_at (p : Fin 512) (q : Fin 1024) : lead x g w (ix2 p q) = projected x g w p ⟨q.val, by omega⟩ := by
  unfold lead
  rw [stored_eq]
  pointwise [k0_pay11]
  try rfl
  try blk_ext

/-! The kernel's own names for the products and the lane groups. -/

variable (v : Vec Ideal S1x1024x768 .bf16) (r : Vec Ideal S512x1024 .f32)

theorem product_3 : k0_pay3 x g v = k0_pay6 (k0_pay2 x g) v := rfl
theorem product_4 : k0_pay4 x g v = k0_pay6 (k0_pay2 x g) v := rfl
theorem product_5 : k0_pay5 x g v = k0_pay6 (k0_pay2 x g) v := rfl
theorem product_7 : k0_pay7 = k0_pay6 (F := Ideal) := rfl
theorem product_8 : k0_pay8 = k0_pay6 (F := Ideal) := rfl
theorem product_9 : k0_pay9 = k0_pay6 (F := Ideal) := rfl
theorem product_10 : k0_pay10 = k0_pay6 (F := Ideal) := rfl
theorem lane_0 : k0_pay12 r = lane (k0_pay11 r) ![0, 0] slices_S512x1024_o0_0_S512x128 := rfl
theorem lane_1 : k0_pay13 r = lane (k0_pay11 r) ![0, 128] slices_S512x1024_o0_128_S512x128 := rfl
theorem lane_2 : k0_pay14 r = lane (k0_pay11 r) ![0, 256] slices_S512x1024_o0_256_S512x128 := rfl
theorem lane_3 : k0_pay15 r = lane (k0_pay11 r) ![0, 384] slices_S512x1024_o0_384_S512x128 := rfl
theorem lane_4 : k0_pay16 r = lane (k0_pay11 r) ![0, 512] slices_S512x1024_o0_512_S512x128 := rfl
theorem lane_5 : k0_pay17 r = lane (k0_pay11 r) ![0, 640] slices_S512x1024_o0_640_S512x128 := rfl
theorem lane_6 : k0_pay18 r = lane (k0_pay11 r) ![0, 768] slices_S512x1024_o0_768_S512x128 := rfl
theorem lane_7 : k0_pay1 (k0_pay19 r) = lane (k0_pay11 r) ![0, 896] slices_S512x1024_o0_896_S512x128 := rfl

/-! ## What a point leaves -/

variable (m : (ℓ : Loc nD τ sig) → Buf (Elt Ideal) ℓ)

/-- The weights as the launch finds them, the eight column blocks stacked. -/
abbrev weights (c : Dev nD) : Vec Ideal S8x1024x768 .bf16 := V m c main_v2

/-- The first point copies the weights into the scratch. -/
theorem scratch_first (c : Dev nD) (t : Fin cfg0.N) (h : t.val % 16 = 0) :
    (outsAt0 m c t.val t.isLt).2.2 = weights m c := by
  rw [outsAt0_A m c t h]
  frame_out
  exact canon_whole _

/-- Every point leaves the weights there. -/
theorem scratch_eq (c : Dev nD) : ∀ (n : ℕ) (hn : n < cfg0.N), (outsAt0 m c n hn).2.2 = weights m c
  | 0, hn => scratch_first m c ⟨0, hn⟩ rfl
  | n + 1, hn => by
    by_cases h : (n + 1) % 16 = 0
    · exact scratch_first m c ⟨n + 1, hn⟩ h
    · rw [outsAt0_B m c ⟨n + 1, hn⟩ h]
      exact scratch_eq c n (Nat.lt_of_succ_lt hn)

theorem rows_point (c : Dev nD) (t : Fin cfg0.N) :
    (outsAt0 m c t.val t.isLt).1 = fun y : S512x6144.Idx => projected (iblk m c 0 t) (iblk m c 1 t) (weights m c) (y 0) (y 1) := by
  rw [← stored_eq]
  by_cases h : t.val % 16 = 0
  · rw [outsAt0_A m c t h]
    frame_out
    simp only [load_whole]
    rfl
  · rw [outsAt0_B m c t h]
    frame_out
    simp only [read_unread_whole, scratch_eq]
    rfl

theorem lanes_point (c : Dev nD) (t : Fin cfg0.N) :
    (outsAt0 m c t.val t.isLt).2.1 = fun j : S8x512x128.Idx => lead (iblk m c 0 t) (iblk m c 1 t) (weights m c)
      (ix2 (j 1) ⟨(j 0).val * 128 + (j 2).val, by have h0 := (j 0).isLt; have h2 := (j 2).isLt; simp at h0 h2; omega⟩) := by
  rw [← canon_lanes]
  unfold lead stored
  by_cases h : t.val % 16 = 0
  · rw [outsAt0_A m c t h]
    frame_out
    simp only [load_whole]
    simp only [View.readCov_eq_canon', product_3, product_4, product_5, product_7, product_8, product_9, product_10,
      lane_0, lane_1, lane_2, lane_3, lane_4, lane_5, lane_6, lane_7]
    rfl
  · rw [outsAt0_B m c t h]
    frame_out
    simp only [read_unread_whole, scratch_eq]
    simp only [View.readCov_eq_canon', product_3, product_4, product_5, product_7, product_8, product_9, product_10,
      lane_0, lane_1, lane_2, lane_3, lane_4, lane_5, lane_6, lane_7]

end Cert.ProjFwd

end
-- ==== Proof.ProjFwdRef.lean ====
module

public import proofs.«01_k».proof.Proof.InProjSpec
public import proofs.«01_k».proof.Proof.Gen.Reference8Ideal.Read

/-! The input projection: its two results as functions of the three argument arrays, and that the reference computes them. -/

@[expose] public section

set_option maxRecDepth 16384

noncomputable section

namespace Cert.ProjFwd

open Cert.NormGrad Idealize.ShloMosaic
open Cert.InProj (Rows Gain Mat row width eps)

/-- Row `p`, column `j`: the normalised row times the gain, through the weights. -/
def projAt (x : Rows) (g : Gain) (w : Mat) (p : Fin 8192) (j : Fin 6144) : EReal :=
  ∑ q : Fin 1024, x (ix2 p q) * invRms width eps (row x p) * g (ix2 0 q) * w (ix2 q j)

/-- The two results: all columns, and the first 1024 of them. -/
def proj (x : Rows) (g : Gain) (w : Mat) : FVec Ideal ⟨2, ![8192, 6144]⟩ .f32 := fun i => projAt x g w (i 0) (i 1)
def scanIn (x : Rows) (g : Gain) (w : Mat) : Rows := fun i => projAt x g w (i 0) ⟨(i 1).val, Nat.lt_trans (i 1).isLt (by decide)⟩

open Cert.Reference8Ideal Cert.Reference8Ideal.Gen Cert.Reference8Ideal.Read

variable (x : Rows) (g : Gain) (w : Mat)

theorem ref_proj_at (p : Fin 8192) (j : Fin 6144) : val_main_v12 (F := Ideal) x g w (ix2 p j) = projAt x g w p j := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, projAt, invRms, meanSq]

theorem ref_proj : val_main_v12 (F := Ideal) x g w = proj x g w := by
  funext i
  idx_vars i
  exact ref_proj_at x g w i0 i1

theorem ref_scanIn : val_main_v13 (F := Ideal) x g w = scanIn x g w := by
  funext i
  idx_vars i
  refine Eq.trans ?_ (ref_proj_at x g w i0 ⟨i1.val, by omega⟩)
  pointwise [val_main_v13]

end Cert.ProjFwd

end
-- ==== Proof.ProjFwdArray.lean ====
module

public import proofs.«01_k».proof.Proof.ProjFwdBlock
public import proofs.«01_k».proof.Proof.ProjFwdRef

/-! The input projection: what the two result arrays hold after the sixteen grid points and the host lines. -/

@[expose] public section

set_option maxRecDepth 16384

noncomputable section

namespace Cert.ProjFwd

open Cert.Kernel8Ideal Cert.Kernel8Ideal.Gen Idealize.ShloMosaic Idealize.ShloMosaic.TcCoe Idealize.SL.Sem
open Cert.NormGrad
open Cert.InProj (Rows Gain Mat row width eps)

variable (m : (ℓ : Loc nD τ sig) → Buf (Elt Ideal) ℓ)

/-- The three argument arrays. -/
abbrev xA (c : Dev nD) : Rows := m ((c : Thread nD τ).loc main_arg0)
abbrev gA (c : Dev nD) : Gain := m ((c : Thread nD τ).loc main_arg1)
abbrev wA (c : Dev nD) : Mat := m ((c : Thread nD τ).loc main_arg2)

/-- Point `t` reads and writes row block `t`. -/
theorem idx : ∀ t : Fin cfg0.N, win0_0.index t = ![t.val, 0] ∧ win0_1.index t = ![0, 0] ∧ win0_2.index t = ![t.val, 0]
    ∧ win0_3.index t = ![0, t.val, 0] :=
  (by decide +kernel : ∀ t : Fin grid0.N, _)

/-- The array row of block `t`'s row `p`. -/
abbrev arow (t : Fin cfg0.N) (p : Fin 512) : Fin 8192 := ⟨t.val * 512 + p.val, by have := t.isLt; have : cfg0.N = 16 := N_0; omega⟩

variable (c : Dev nD) (t : Fin cfg0.N)

/-- Block `n` of the weights, as the host lays them, is the columns from `768 n`. -/
theorem weights_at (n : Fin 8) (q : Fin 1024) (k : Fin 768) :
    (weights m c : FVec Ideal S8x1024x768 .bf16) (ix3 n q k) = wA m c (ix2 q ⟨n.val * 768 + k.val, by omega⟩) := by
  unfold weights
  entry_read
  show truncf (F := Ideal) .bf16 (transpose S8x1024x768 [1, 0, 2] (shapeCast S1024x8x768 (wA m c) shapeCasts_S1024x6144_S1024x8x768)
    transposes_S1024x8x768_S8x1024x768_1_0_2) bitsLt_bf16_f32 _ = _
  pointwise []

theorem xBlk_at (p : Fin 512) (k : Fin 1024) : (iblk m c 0 t : FVec Ideal S512x1024 .f32) (ix2 p k) = xA m c (ix2 (arow t p) k) := by
  blk_point [iblk, V, idx t]

theorem gBlk_at (k : Fin 1024) : (iblk m c 1 t : FVec Ideal S1x1024 .f32) (ix2 0 k) = gA m c (ix2 0 k) := by
  blk_point [iblk, V, idx t]

/-- A point's row is the array's. -/
theorem projected_at (p : Fin 512) (j : Fin 6144) :
    projected (iblk m c 0 t) (iblk m c 1 t) (weights m c) p j = projAt (xA m c) (gA m c) (wA m c) (arow t p) j := by
  rw [projected, projAt, show (fun k : Fin 1024 => (iblk m c 0 t : FVec Ideal S512x1024 .f32) (ix2 p k)) = row (xA m c) (arow t p) from
    funext (xBlk_at m c t p)]
  refine Finset.sum_congr rfl fun q _ => ?_
  rw [xBlk_at, gBlk_at, weights_at]
  congr 3
  exact Fin.ext (by show j.val / 768 * 768 + j.val % 768 = j.val; omega)

/-- The first result array. -/
theorem proj_array : (dats m 0 c).arrAt 2 cfg0.N = proj (xA m c) (gA m c) (wA m c) := by
  refine (dats m 0 c).arrAt_eq_of_covers 2 _ (by decide +kernel) fun t _ y => ?_
  blk_simp
  rw [after0_2, rows_point]
  idx_vars y
  rw [show ((View.whole main_v3_0).slice (win0_2.rect t)).emb (ix2 y0 y1) = ix2 (arow t y0) y1 from by blk_ext [idx t]]
  exact projected_at m c t y0 y1

/-- Rows in lane groups: group, row, lane. -/
def inLanes (T : Rows) : S8x8192x128.Idx → EReal :=
  fun j => T (ix2 (j 1) ⟨(j 0).val * 128 + (j 2).val, by have h0 := (j 0).isLt; have h2 := (j 2).isLt; simp at h0 h2; omega⟩)

/-- The second result array, before the host lays it in rows. -/
theorem scanIn_array : (dats m 0 c).arrAt 3 cfg0.N = inLanes (scanIn (xA m c) (gA m c) (wA m c)) := by
  refine (dats m 0 c).arrAt_eq_of_covers 3 _ (by decide +kernel) fun t _ y => ?_
  blk_simp
  rw [after0_3, lanes_point]
  idx_vars y
  rw [show ((View.whole main_v3_1).slice (win0_3.rect t)).emb (ix3 y0 y1 y2) = ix3 y0 (arow t y1) y2 from by blk_ext [idx t]]
  exact (lead_at _ _ _ y1 _).trans (projected_at m c t y1 _)

/-- The host's transpose and reshape lay the lane groups in rows again. -/
theorem from_lanes (T : Rows) :
    shapeCast S8192x1024 (transpose S8192x8x128 [1, 0, 2] (inLanes T : FVec Ideal S8x8192x128 .f32) transposes_S8x8192x128_S8192x8x128_1_0_2)
      shapeCasts_S8192x8x128_S8192x1024 = T := by
  funext i
  idx_vars i
  pointwise [inLanes]
  try blk_ext

/-- What the two results hold at the end. -/
theorem run (ρ : Dev nD → PrngReg) : θ_run defs (onTc (τ := τ) (main (F := Ideal))) ⟨m, fun _ => 0, ρ⟩ (fun r => ∀ c : Dev nD,
      r.2.mem ((c.tc : Thread nD τ).loc main_v3_0) = proj (xA m c) (gA m c) (wA m c)
      ∧ r.2.mem ((c.tc : Thread nD τ).loc main_v5) = scanIn (xA m c) (gA m c) (wA m c)) := by
  refine (θ_run defs _ _).mono (fun r h c => ⟨((h c).1 2).trans (proj_array m c), ?_⟩) (run_main m ρ)
  refine ((h c).2 main_v5 (Pipeline.mem_restRefs_of main_v5 (by decide) (by decide))).trans ?_
  unfold Pipeline.afterTail₀
  simp only [hostOps1, List.flatten_cons, List.flatten_nil, List.append_nil]
  after_results
  erw [Pipeline.withArrays_arr _ launch0.win.arr_inj c _ _ 3, scanIn_array]
  exact from_lanes _

end Cert.ProjFwd

end
-- ==== Proof.ProjFwdClaim.lean ====
module

public import proofs.«01_k».proof.Defs
public import proofs.«01_k».proof.Proof.ProjFwdArray
public import proofs.«01_k».proof.Proof.Gen.Kernel8.Frame
public import proofs.«01_k».proof.Proof.Gen.Reference8Ideal.Run
public import Idealize.ShloMosaic.Lib.Claim
public import Idealize.ShloMosaic.Lib.Quiescent

/-! The input projection: the kernel's two results are the reference's, whatever the arguments. -/

@[expose] public section

set_option maxRecDepth 16384

noncomputable section

namespace Cert.ProjFwd

open Idealize.ShloMosaic Idealize.ShloMosaic.TcCoe Idealize.SL.Sem Cert.Reference8Ideal.Read

attribute [local instance] Cert.Kernel8Ideal.Gen.facts Cert.Reference8Ideal.Gen.facts

/-- The reference leaves its arguments as they were; it has no semaphore. -/
theorem ref_frame : Cert.quiescent_Reference8Ideal (hReference8Ideal := Cert.Reference8Ideal.Gen.facts) := fun m g _ =>
  (θ_run _ _ _).mono (fun r h => ⟨fun c => (h c).2.2, sem_eq_zero_of_no_sems rfl r.2⟩)
    (Cert.Reference8Ideal.Value.run m g)

/-- The two runs end with equal results. -/
theorem algebraic : Cert.algebraic_Kernel8Ideal_Reference8Ideal
    (hKernel8Ideal := Cert.Kernel8Ideal.Gen.facts) (hReference8Ideal := Cert.Reference8Ideal.Gen.facts) := by
  intro m g m' g' hpre hargs
  refine ⟨fun c => proj (xA m c) (gA m c) (wA m c), fun c => scanIn (xA m c) (gA m c) (wA m c),
    (θ_run _ _ _).mono (fun r h c => ?_) (θ_run_and (run m g) (Cert.Kernel8Ideal.Gen.unchanged m g)), ?_⟩
  · obtain ⟨h0, h1⟩ := h.1 c
    exact ⟨h0, h1, h.2 c⟩
  · refine (θ_run _ _ _).mono (fun r h c => ?_) (Cert.Reference8Ideal.Value.run m' g')
    obtain ⟨a0, a1, a2⟩ := hargs c
    obtain ⟨r0, r1, rest⟩ := h c
    refine ⟨?_, ?_, rest⟩
    · rw [r0, val_main_v12_eq, a0, a1, a2]
      exact ref_proj _ _ _
    · rw [r1, val_main_v13_eq, a0, a1, a2]
      exact ref_scanIn _ _ _

end Cert.ProjFwd

end
-- ==== Proof.OutFwdSpec.lean ====
module

public import proofs.«01_k».proof.Proof.GateSpec
public import Idealize.ShloMosaic.Lib.Pipeline.ValueKit

/-! The output projection in closed form: the gated branch and the other branch side by side, through the weights, added to
    the residual. Also: the two forms of gelu's tangent agree on every extended real. -/

@[expose] public section

noncomputable section

namespace Cert.OutFwd

open Idealize.ShloMosaic Cert.Activations Cert.RealValues Cert.Gate

/-- One row of the result: `x` the residual's row, `y` the state-space output's, `a` the gate's, `z` the other branch's. -/
def outRow (x y a z : Row) (g : Square) (b : Row) (w : Fin 2048 → Fin 1024 → EReal) (q : Fin 1024) : EReal :=
  x q + (∑ k : Fin 1024, branch y a g b k * w ⟨k.val, by omega⟩ q + ∑ k : Fin 1024, z k * w ⟨1024 + k.val, by omega⟩ q)

theorem scale_pos : ∃ s : ℝ, 0 < s ∧ scale = (s : EReal) := by
  refine ⟨_, ?_, by simp [Ideal.ofBits, Ideal.ieee, -EReal.coe_mul]; rfl⟩
  norm_num

theorem one_add_top : (1 : EReal) + ⊤ = ⊤ := EReal.coe_one ▸ EReal.coe_add_top 1

/-- The argument of the tangent, multiplied out, infinite or not. -/
theorem tanh_cubed (x : EReal) : Ideal.tanh (scale * (x + cubic * (x * x * x))) = geluTanh x := by
  obtain ⟨s, hs, e⟩ := scale_pos
  have hc : (0 : ℝ) < 8943 / 200000 := by norm_num
  induction x using EReal.rec with
  | bot =>
    rw [geluTanh, e, cubic]
    simp [EReal.coe_mul_bot_of_pos hs, EReal.coe_mul_bot_of_pos hc, EReal.coe_mul_top_of_pos hc, one_add_top]
  | top =>
    rw [geluTanh, e, cubic]
    simp [EReal.coe_mul_top_of_pos hs, EReal.coe_mul_top_of_pos hc, one_add_top]
  | coe x => exact Activations.tanh_cubed ⟨x, rfl⟩

end Cert.OutFwd

end
-- ==== Proof.OutFwdBlock.lean ====
module

public import proofs.«01_k».proof.Proof.Gen.Kernel9Ideal.Frame
public import proofs.«01_k».proof.Proof.OutFwdSpec
public import proofs.«01_k».proof.Proof.GateResult
public import Idealize.ShloMosaic.Lib.Pointwise
public import Idealize.ShloMosaic.Lib.Claim

/-! The output projection: what one grid point (512 rows) computes from its input blocks. -/

@[expose] public section

set_option maxRecDepth 16384

noncomputable section

namespace Cert.OutFwd

open Cert.Kernel9Ideal Cert.Kernel9Ideal.Gen Idealize.ShloMosaic Idealize.ShloMosaic.TcCoe Idealize.SL.Sem
open Cert.Activations Cert.Gate

theorem named_cubic (b : BitVec FTy.f32.bits) : Named.named (F := Ideal) κ "gelu" b = cubic :=
  IdealRules.named_const.ideal_named_scalar κ "gelu" b _ rfl

/-- A row of a block kept as eight lane groups of 128 columns. -/
abbrev laneRow {n : ℕ} (x : (⟨3, ![8, n, 128]⟩ : Shape).Idx → EReal) (p : Fin n) : Row :=
  fun k => x (ix3 ⟨k.val / 128, by omega⟩ p ⟨k.val % 128, by omega⟩)

/-- The block of the state-space output and what gelu multiplies it by. -/
def acts (x : Vec Ideal S8x512x128 .f32) : FVec Ideal S512x1024 .f32 :=
  k0_pay2 (F := Ideal) (View.ld (Val := Elt Ideal) x r0_0) (View.ld (Val := Elt Ideal) x r0_1) (View.ld (Val := Elt Ideal) x r0_2)
    (View.ld (Val := Elt Ideal) x r0_3) (View.ld (Val := Elt Ideal) x r0_4) (View.ld (Val := Elt Ideal) x r0_5)
    (View.ld (Val := Elt Ideal) x r0_6) (View.ld (Val := Elt Ideal) x r0_7)
def gates (x : Vec Ideal S8x512x128 .f32) : FVec Ideal S512x1024 .f32 :=
  k0_pay3 (F := Ideal) (View.ld (Val := Elt Ideal) x r0_0) (View.ld (Val := Elt Ideal) x r0_1) (View.ld (Val := Elt Ideal) x r0_2)
    (View.ld (Val := Elt Ideal) x r0_3) (View.ld (Val := Elt Ideal) x r0_4) (View.ld (Val := Elt Ideal) x r0_5)
    (View.ld (Val := Elt Ideal) x r0_6) (View.ld (Val := Elt Ideal) x r0_7)

variable (x : Vec Ideal S8x512x128 .f32)

theorem acts_row (p : Fin 512) : row (acts x) p = laneRow x p := by
  funext k
  show acts x (ix2 p k) = _
  pointwise [acts, k0_pay2]
  blk_point []

theorem gates_at (p : Fin 512) (q : Fin 1024) : gates x (ix2 p q) = geluGate (acts x (ix2 p q)) := by
  pointwise [gates, k0_pay3, acts, geluGate, geluTanh, named_cubic]

variable (y v : FVec Ideal S512x1024 .f32) (h : ∀ p q, v (ix2 p q) = geluGate (y (ix2 p q)))
variable (r a : FVec Ideal S512x1024 .f32) (z : FVec Ideal S512x1024 .bf16) (g : FVec Ideal S1024x1024 .bf16) (b : FVec Ideal S1x1024 .f32)
variable (w : FVec Ideal S2048x1024 .bf16)

include h in
theorem out_at (p : Fin 512) (q : Fin 1024) : k0_pay1 (F := Ideal) y v g b a z r w (ix2 p q)
    = outRow (row r p) (row y p) (row a p) (row z p) (mat g) (row b 0) (fun i k => w (ix2 i k)) q := by
  pointwise [k0_pay1, h, outRow]
  rfl

/-- The window's contents after the body, row by row. -/
theorem out_block (p : Fin 512) (q : Fin 1024) : out0_7 (F := Ideal) r x a z g b w (ix2 p q)
    = outRow (row r p) (laneRow x p) (row a p) (row z p) (mat g) (row b 0) (fun i k => w (ix2 i k)) q := by
  rw [← acts_row]
  unfold out0_7
  rw [View.canon_cons_unit_lit' _ _ _ (by decide)]
  refine Eq.trans ?_ (out_at (acts x) (gates x) (gates_at x) r a z g b w p q)
  congr 1
  · exact View.ld_unit_lit' _ _ (by decide)
  · exact View.ld_unit_lit' _ _ (by decide)
  · exact View.ld_unit_lit' _ _ (by decide)
  · exact View.ld_unit_lit' _ _ (by decide)
  · exact View.ld_unit_lit' _ _ (by decide)
  · exact View.ld_unit_lit' _ _ (by decide)

end Cert.OutFwd

end
-- ==== Proof.OutFwdRef.lean ====
module

public import proofs.«01_k».proof.Proof.Gen.Reference9Ideal.Read
public import proofs.«01_k».proof.Proof.OutFwdSpec
public import proofs.«01_k».proof.Proof.GateResult

/-! The output projection: what the reference computes, element by element. -/

@[expose] public section

set_option maxRecDepth 16384

noncomputable section

namespace Cert.OutFwd

open Cert.Reference9Ideal Cert.Reference9Ideal.Gen Cert.Reference9Ideal.Read Idealize.ShloMosaic Idealize.ShloMosaic.TcCoe
open Cert.Activations Cert.Gate

variable (x y : FVec Ideal S8192x1024 .f32) (p : FVec Ideal S8192x6144 .f32) (z : FVec Ideal S8192x1024 .f32)
variable (g : FVec Ideal S1024x1024 .f32) (b : FVec Ideal S1x1024 .f32) (w : FVec Ideal S2048x1024 .f32)

/-- The result as a function of the argument arrays. -/
def result : FVec Ideal S8192x1024 .f32 := fun i =>
  outRow (row x (i 0)) (row y (i 0)) (gateRow (fun i k => p (ix2 i k)) (i 0)) (row z (i 0)) (mat g) (row b 0) (fun i k => w (ix2 i k)) (i 1)

/-- The gate's columns. -/
theorem ref_gateRow (r : Fin 8192) (q : Fin 1024) :
    (val_main_v24 (F := Ideal) p : FVec Ideal S8192x1024 .f32) (ix2 r q) = gateRow (fun i k => p (ix2 i k)) r q := by
  pointwise [val_main_v24]
  try blk_ext

/-- The gate's activation. -/
theorem ref_silu (r : Fin 8192) (q : Fin 1024) :
    (val_main_v25 (F := Ideal) p : FVec Ideal S8192x1024 .f32) (ix2 r q) = silu (gateRow (fun i k => p (ix2 i k)) r q) := by
  rw [← ref_gateRow]
  pointwise [val_main_v25, val_main_call0_v5, val_main_call0_v4, val_main_call0_v3, val_main_call0_v2, val_main_call0_v1, val_main_call0_v0,
    val_main_call0_cst, val_main_call0_cst_0]
  rfl

/-- The activated rows. -/
theorem ref_gelu (r : Fin 8192) (q : Fin 1024) :
    (val_main_v13 (F := Ideal) y : FVec Ideal S8192x1024 .f32) (ix2 r q) = gelu (y (ix2 r q)) := by
  rw [gelu, geluGate, ← tanh_cubed, ← cubic_quotient]
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2,
    val_main_cst_3]

/-- The gated unit. -/
theorem ref_gated (r : Fin 8192) (q : Fin 1024) :
    (val_main_v23 (F := Ideal) y g b : FVec Ideal S8192x1024 .f32) (ix2 r q) = gated (row y r) (mat g) (row b 0) q := by
  pointwise [val_main_v23, val_main_v22, val_main_v21, val_main_v20, val_main_v19, val_main_v18, val_main_v17, val_main_v16,
    val_main_v15, val_main_v14, val_main_cst_4, val_main_cst_5, ref_gelu, gated, gate, Ideal.logistic]

theorem ref_result : val_main_v29 (F := Ideal) x y p z g b w = result x y p z g b w := by
  funext i
  idx_vars i
  pointwise [val_main_v29, val_main_v28, val_main_v27, val_main_v26, ref_gated, ref_silu]
  rfl

end Cert.OutFwd

end
-- ==== Proof.OutFwdArray.lean ====
module

public import proofs.«01_k».proof.Proof.OutFwdBlock
public import proofs.«01_k».proof.Proof.OutFwdRef

/-! The output projection: what the result array holds after the sixteen grid points. -/

@[expose] public section

set_option maxRecDepth 16384

noncomputable section

namespace Cert.OutFwd

open Cert.Kernel9Ideal Cert.Kernel9Ideal.Gen Idealize.ShloMosaic Idealize.ShloMosaic.TcCoe Idealize.SL.Sem
open Cert.Gate

variable (m : (ℓ : Loc nD τ sig) → Buf (Elt Ideal) ℓ)

/-- The seven argument arrays. -/
abbrev xA (c : Dev nD) : FVec Ideal S8192x1024 .f32 := m ((c : Thread nD τ).loc main_arg0)
abbrev yA (c : Dev nD) : FVec Ideal S8192x1024 .f32 := m ((c : Thread nD τ).loc main_arg1)
abbrev pA (c : Dev nD) : FVec Ideal S8192x6144 .f32 := m ((c : Thread nD τ).loc main_arg2)
abbrev zA (c : Dev nD) : FVec Ideal S8192x1024 .f32 := m ((c : Thread nD τ).loc main_arg3)
abbrev gA (c : Dev nD) : FVec Ideal S1024x1024 .f32 := m ((c : Thread nD τ).loc main_arg4)
abbrev bA (c : Dev nD) : FVec Ideal S1x1024 .f32 := m ((c : Thread nD τ).loc main_arg5)
abbrev wA (c : Dev nD) : FVec Ideal S2048x1024 .f32 := m ((c : Thread nD τ).loc main_arg6)

/-- Point `t` reads and writes row block `t`. -/
theorem idx : ∀ t : Fin cfg0.N, win0_0.index t = ![t.val, 0] ∧ win0_1.index t = ![0, t.val, 0] ∧ win0_2.index t = ![t.val, 1]
    ∧ win0_3.index t = ![t.val, 0] ∧ win0_4.index t = ![0, 0] ∧ win0_5.index t = ![0, 0] ∧ win0_6.index t = ![0, 0]
    ∧ win0_7.index t = ![t.val, 0] :=
  (by decide +kernel : ∀ t : Fin grid0.N, _)

/-- The array row of block `t`'s row `p`. -/
abbrev arow (t : Fin cfg0.N) (p : Fin 512) : Fin 8192 := ⟨t.val * 512 + p.val, by have := t.isLt; have : cfg0.N = 16 := N_0; omega⟩

variable (c : Dev nD) (t : Fin cfg0.N)

/-- The rows in eight lane groups, as the host lays them. -/
theorem lanes_at (n : Fin 8) (r : Fin 8192) (l : Fin 128) :
    (V m c main_v1 : FVec Ideal S8x8192x128 .f32) (ix3 n r l) = yA m c (ix2 r ⟨n.val * 128 + l.val, by omega⟩) := by
  entry_read
  show transpose _ _ (shapeCast _ (yA m c) _) _ _ = _
  pointwise []
  try blk_ext

theorem yBlk_at (p : Fin 512) : laneRow (iblk m c 1 t) p = row (yA m c) (arow t p) := by
  funext k
  show (iblk m c 1 t : FVec Ideal S8x512x128 .f32) (ix3 _ _ _) = _
  rw [show row (yA m c) (arow t p) k = (V m c main_v1 : FVec Ideal S8x8192x128 .f32) (ix3 ⟨k.val / 128, by omega⟩ (arow t p) ⟨k.val % 128, by omega⟩) from by
    rw [lanes_at]; show yA m c _ = yA m c _; congr 1; blk_ext]
  blk_point [iblk, idx t]

theorem xBlk_at (p : Fin 512) : row (iblk m c 0 t) p = row (xA m c) (arow t p) := by
  funext k
  show (iblk m c 0 t : FVec Ideal S512x1024 .f32) (ix2 p k) = xA m c (ix2 _ _)
  blk_point [iblk, V, idx t]

theorem aBlk_at (p : Fin 512) : row (iblk m c 2 t) p = gateRow (fun i k => pA m c (ix2 i k)) (arow t p) := by
  funext k
  show (iblk m c 2 t : FVec Ideal S512x1024 .f32) (ix2 p k) = pA m c (ix2 _ _)
  blk_point [iblk, V, idx t]

theorem zHost_at (i : S8192x1024.Idx) : (V m c main_v2 : FVec Ideal S8192x1024 .bf16) i = zA m c i := by
  entry_read
  rfl

theorem gHost_at (i : S1024x1024.Idx) : (V m c main_v3 : FVec Ideal S1024x1024 .bf16) i = gA m c i := by
  entry_read
  rfl

theorem wHost_at (i : S2048x1024.Idx) : (V m c main_v4 : FVec Ideal S2048x1024 .bf16) i = wA m c i := by
  entry_read
  rfl

theorem zBlk_at (p : Fin 512) : row (iblk m c 3 t) p = row (zA m c) (arow t p) := by
  funext k
  show (iblk m c 3 t : FVec Ideal S512x1024 .bf16) (ix2 p k) = zA m c (ix2 _ _)
  rw [← zHost_at]
  blk_point [iblk, idx t]

theorem gBlk_at : mat (iblk m c 4 t) = mat (gA m c) := by
  funext p k
  show (iblk m c 4 t : FVec Ideal S1024x1024 .bf16) (ix2 p k) = gA m c (ix2 _ _)
  rw [← gHost_at]
  blk_point [iblk, idx t]

theorem bBlk_at : row (iblk m c 5 t) 0 = row (bA m c) 0 := by
  funext k
  show (iblk m c 5 t : FVec Ideal S1x1024 .f32) (ix2 0 k) = bA m c (ix2 _ _)
  blk_point [iblk, V, idx t]

theorem wBlk_at : (fun i k => (iblk m c 6 t : FVec Ideal S2048x1024 .bf16) (ix2 i k)) = fun i k => wA m c (ix2 i k) := by
  funext p k
  rw [← wHost_at]
  blk_point [iblk, idx t]

/-- The result array. -/
theorem array : (dats m 0 c).arrAt 7 cfg0.N = result (xA m c) (yA m c) (pA m c) (zA m c) (gA m c) (bA m c) (wA m c) := by
  refine (dats m 0 c).arrAt_eq_of_covers 7 _ (by decide +kernel) fun t _ y => ?_
  blk_simp
  rw [after0_7]
  idx_vars y
  rw [show ((View.whole main_v5).slice (win0_7.rect t)).emb (ix2 y0 y1) = ix2 (arow t y0) y1 from by blk_ext [idx t]]
  refine (out_block _ _ _ _ _ _ _ y0 y1).trans ?_
  rw [xBlk_at, yBlk_at, aBlk_at, zBlk_at, gBlk_at, bBlk_at, wBlk_at]
  rfl

/-- What the result holds at the end. -/
theorem run (ρ : Dev nD → PrngReg) : θ_run defs (onTc (τ := τ) (main (F := Ideal))) ⟨m, fun _ => 0, ρ⟩ (fun r => ∀ c : Dev nD,
      r.2.mem ((c.tc : Thread nD τ).loc main_v5) = result (xA m c) (yA m c) (pA m c) (zA m c) (gA m c) (bA m c) (wA m c)) :=
  (θ_run defs _ _).mono (fun _ h c => ((h c).1 7).trans (array m c)) (run_main m ρ)

end Cert.OutFwd

end
-- ==== Proof.OutFwdClaim.lean ====
module

public import proofs.«01_k».proof.Defs
public import proofs.«01_k».proof.Proof.OutFwdArray
public import proofs.«01_k».proof.Proof.Gen.Kernel9.Frame
public import proofs.«01_k».proof.Proof.Gen.Reference9Ideal.Run
public import Idealize.ShloMosaic.Lib.Claim
public import Idealize.ShloMosaic.Lib.Quiescent

/-! The output projection: the kernel's result is the reference's, whatever the arguments. -/

@[expose] public section

set_option maxRecDepth 16384

noncomputable section

namespace Cert.OutFwd

open Idealize.ShloMosaic Idealize.ShloMosaic.TcCoe Idealize.SL.Sem

attribute [local instance] Cert.Kernel9Ideal.Gen.facts Cert.Reference9Ideal.Gen.facts

/-- The reference leaves its arguments as they were; it has no semaphore. -/
theorem ref_frame : Cert.quiescent_Reference9Ideal (hReference9Ideal := Cert.Reference9Ideal.Gen.facts) := fun m g _ =>
  (θ_run _ _ _).mono (fun r h => ⟨fun c => (h c).2, sem_eq_zero_of_no_sems rfl r.2⟩) (Cert.Reference9Ideal.Value.run m g)

/-- The named constant. -/
theorem preserves : Cert.preserves_Kernel9_Kernel9Ideal :=
  IdealRules.named_const.statement Cert.Kernel9Ideal.κ "gelu" .f32 0x3D372713#32 _ rfl

/-- The two runs end with equal results. -/
theorem algebraic : Cert.algebraic_Kernel9Ideal_Reference9Ideal
    (hKernel9Ideal := Cert.Kernel9Ideal.Gen.facts) (hReference9Ideal := Cert.Reference9Ideal.Gen.facts) := by
  intro m g m' g' hpre hargs
  refine ⟨fun c => result (xA m c) (yA m c) (pA m c) (zA m c) (gA m c) (bA m c) (wA m c),
    (θ_run _ _ _).mono (fun r h c => ⟨h.1 c, h.2 c⟩) (θ_run_and (run m g) (Cert.Kernel9Ideal.Gen.unchanged m g)), ?_⟩
  refine (θ_run _ _ _).mono (fun r h c => ?_) (Cert.Reference9Ideal.Value.run m' g')
  obtain ⟨a0, a1, a2, a3, a4, a5, a6⟩ := hargs c
  obtain ⟨r0, rest⟩ := h c
  refine ⟨?_, rest⟩
  rw [r0, Cert.Reference9Ideal.Read.val_main_v29_eq, a0, a1, a2, a3, a4, a5, a6]
  exact ref_result _ _ _ _ _ _ _

end Cert.OutFwd

end
-- ==== Proof.RopeArray.lean ====
module

public import proofs.«01_k».proof.Proof.Gen.Kernel10Ideal.Frame
public import proofs.«01_k».proof.Proof.Gen.Reference10Ideal.Read
public import Idealize.ShloMosaic.Lib.Pipeline.ValueKit
public import Idealize.ShloMosaic.Lib.Pointwise
public import Idealize.ShloMosaic.Lib.Claim

/-! The rotary tables: cosine and sine of position times frequency, as the kernel's sixteen grid points leave them and as the
    reference computes them. -/

@[expose] public section

set_option maxRecDepth 16384

noncomputable section

namespace Cert.Rope

open Idealize.ShloMosaic Idealize.ShloMosaic.TcCoe Idealize.SL.Sem

/-- Position `p` times frequency `k`. -/
def angle (f : FVec Ideal ⟨1, ![128]⟩ .f32) (p : ℕ) (k : Fin 128) : EReal := ((p : ℝ) : EReal) * f (ix1 k)

/-- The two tables. -/
def cosines (f : FVec Ideal ⟨1, ![128]⟩ .f32) : FVec Ideal ⟨2, ![8192, 128]⟩ .f32 := fun i => Ideal.cos (angle f (i 0).val (i 1))
def sines (f : FVec Ideal ⟨1, ![128]⟩ .f32) : FVec Ideal ⟨2, ![8192, 128]⟩ .f32 := fun i => Ideal.sin (angle f (i 0).val (i 1))

/-- The number a small word stands for. -/
theorem word_at {n : ℕ} (h : n < 2 ^ 31) : (FloatOps.sitofp .f32 (BitVec.ofNat 32 n) : Ideal .f32) = ((n : ℝ) : EReal) := by
  show (((BitVec.ofNat 32 n).toInt : ℝ) : EReal) = _
  rw [BitVec.toInt_ofNat', Int.bmod_eq_of_le (by omega) (by omega)]
  norm_cast

/-- A row's position: the row in its block plus 512 for each block before. -/
theorem position_at (p t : ℕ) (hp : p < 512) (ht : t < 16) :
    (FloatOps.sitofp .f32 (IntOp.addi (BitVec.ofNat 32 p) (IntOp.muli (BitVec.ofNat 32 t) 512#32)) : Ideal .f32) = (((t * 512 + p : ℕ) : ℝ) : EReal) := by
  have e : IntOp.addi (BitVec.ofNat 32 p) (IntOp.muli (BitVec.ofNat 32 t) 512#32) = BitVec.ofNat 32 (t * 512 + p) := by
    apply BitVec.eq_of_toNat_eq
    simp only [IntOp.addi, IntOp.muli, BitVec.toNat_add, BitVec.toNat_mul, BitVec.toNat_ofNat]
    omega
  rw [e, word_at (by omega)]

section Kernel

open Cert.Kernel10Ideal Cert.Kernel10Ideal.Gen

variable (m : (ℓ : Loc nD τ sig) → Buf (Elt Ideal) ℓ)

/-- The frequencies. -/
abbrev fA (c : Dev nD) : FVec Ideal ⟨1, ![128]⟩ .f32 := m ((c : Thread nD τ).loc main_arg0)

/-- Point `t` writes row block `t`. -/
theorem idx : ∀ t : Fin cfg0.N, win0_0.index t = ![0, 0] ∧ win0_1.index t = ![t.val, 0] ∧ win0_2.index t = ![t.val, 0]
    ∧ (grid0.coords t 0).val = t.val :=
  (by decide +kernel : ∀ t : Fin grid0.N, _)

theorem small (t : Fin cfg0.N) : t.val < 16 := by have := t.isLt; have : cfg0.N = 16 := N_0; omega

/-- The array row of block `t`'s row `p`. -/
abbrev arow (t : Fin cfg0.N) (p : Fin 512) : Fin 8192 := ⟨t.val * 512 + p.val, by have := small t; omega⟩

variable (c : Dev nD) (t : Fin cfg0.N)

theorem host_at (k : Fin 128) : (V m c main_v0 : FVec Ideal S1x128 .f32) (ix2 0 k) = fA m c (ix1 k) := by
  entry_read
  show shapeCast S1x128 (fA m c) shapeCasts_S128_S1x128 _ = _
  pointwise []

theorem fBlk_at (k : Fin 128) : (iblk m c 0 t : FVec Ideal S1x128 .f32) (ix2 0 k) = fA m c (ix1 k) := by
  rw [← host_at]
  blk_point [iblk, idx t]

theorem angle_at (p : Fin 512) (k : Fin 128) :
    k0_pay1 (F := Ideal) (grid0.coords t) (iblk m c 0 t) (ix2 p k) = angle (fA m c) (arow t p).val k := by
  rw [angle, ← position_at p.val t.val p.isLt (small t), ← fBlk_at m c t k, ← (idx t).2.2.2]
  pointwise [k0_pay1]
  rfl

theorem cos_point : out0_1 (grid0.coords t) (iblk m c 0 t) = k0_pay2 (F := Ideal) (grid0.coords t) (iblk m c 0 t) := by
  frame_out

theorem sin_point : out0_2 (grid0.coords t) (iblk m c 0 t) = k0_pay3 (F := Ideal) (grid0.coords t) (iblk m c 0 t) := by
  frame_out

/-- The two result arrays. -/
theorem cos_array : (dats m 0 c).arrAt 1 cfg0.N = cosines (fA m c) := by
  refine (dats m 0 c).arrAt_eq_of_covers 1 _ (by decide +kernel) fun t _ y => ?_
  blk_simp
  rw [after0_1, cos_point]
  idx_vars y
  rw [show ((View.whole main_v1_0).slice (win0_1.rect t)).emb (ix2 y0 y1) = ix2 (arow t y0) y1 from by blk_ext [idx t]]
  exact congrArg Ideal.cos (angle_at m c t y0 y1)

theorem sin_array : (dats m 0 c).arrAt 2 cfg0.N = sines (fA m c) := by
  refine (dats m 0 c).arrAt_eq_of_covers 2 _ (by decide +kernel) fun t _ y => ?_
  blk_simp
  rw [after0_2, sin_point]
  idx_vars y
  rw [show ((View.whole main_v1_1).slice (win0_2.rect t)).emb (ix2 y0 y1) = ix2 (arow t y0) y1 from by blk_ext [idx t]]
  exact congrArg Ideal.sin (angle_at m c t y0 y1)

/-- What the two results hold at the end. -/
theorem run (ρ : Dev nD → PrngReg) : θ_run defs (onTc (τ := τ) (main (F := Ideal))) ⟨m, fun _ => 0, ρ⟩ (fun r => ∀ c : Dev nD,
      r.2.mem ((c.tc : Thread nD τ).loc main_v1_0) = cosines (fA m c) ∧ r.2.mem ((c.tc : Thread nD τ).loc main_v1_1) = sines (fA m c)) :=
  (θ_run defs _ _).mono (fun _ h c => ⟨((h c).1 1).trans (cos_array m c), ((h c).1 2).trans (sin_array m c)⟩) (run_main m ρ)

end Kernel

section Reference

open Cert.Reference10Ideal Cert.Reference10Ideal.Gen Cert.Reference10Ideal.Read

variable (f : FVec Ideal ⟨1, ![128]⟩ .f32)

theorem ref_angle (p : Fin 8192) (k : Fin 128) : val_main_v5 (F := Ideal) f (ix2 p k) = angle f p.val k := by
  rw [angle, ← word_at (n := p.val) (by omega)]
  pointwise [val_main_v5, val_main_v4, val_main_v3, val_main_v2, val_main_v1, val_main_v0]

theorem ref_cos : val_main_v6 (F := Ideal) f = cosines f := by
  funext i
  idx_vars i
  exact congrArg Ideal.cos (ref_angle f i0 i1)

theorem ref_sin : val_main_v7 (F := Ideal) f = sines f := by
  funext i
  idx_vars i
  exact congrArg Ideal.sin (ref_angle f i0 i1)

end Reference

end Cert.Rope

end
-- ==== Proof.RopeClaim.lean ====
module

public import proofs.«01_k».proof.Defs
public import proofs.«01_k».proof.Proof.RopeArray
public import proofs.«01_k».proof.Proof.Gen.Kernel10.Frame
public import proofs.«01_k».proof.Proof.Gen.Reference10Ideal.Run
public import Idealize.ShloMosaic.Lib.Claim
public import Idealize.ShloMosaic.Lib.Quiescent

/-! The rotary tables: the kernel's two results are the reference's, whatever the frequencies. -/

@[expose] public section

set_option maxRecDepth 16384

noncomputable section

namespace Cert.Rope

open Idealize.ShloMosaic Idealize.ShloMosaic.TcCoe Idealize.SL.Sem Cert.Reference10Ideal.Read

attribute [local instance] Cert.Kernel10Ideal.Gen.facts Cert.Reference10Ideal.Gen.facts

/-- The reference leaves its argument as it was; it has no semaphore. -/
theorem ref_frame : Cert.quiescent_Reference10Ideal (hReference10Ideal := Cert.Reference10Ideal.Gen.facts) := fun m g _ =>
  (θ_run _ _ _).mono (fun r h => ⟨fun c => (h c).2.2, sem_eq_zero_of_no_sems rfl r.2⟩)
    (Cert.Reference10Ideal.Value.run m g)

/-- The two runs end with equal results. -/
theorem algebraic : Cert.algebraic_Kernel10Ideal_Reference10Ideal
    (hKernel10Ideal := Cert.Kernel10Ideal.Gen.facts) (hReference10Ideal := Cert.Reference10Ideal.Gen.facts) := by
  intro m g m' g' hpre hargs
  refine ⟨fun c => cosines (fA m c), fun c => sines (fA m c),
    (θ_run _ _ _).mono (fun r h c => ?_) (θ_run_and (run m g) (Cert.Kernel10Ideal.Gen.unchanged m g)), ?_⟩
  · obtain ⟨h0, h1⟩ := h.1 c
    exact ⟨h0, h1, h.2 c⟩
  · refine (θ_run _ _ _).mono (fun r h c => ?_) (Cert.Reference10Ideal.Value.run m' g')
    have a0 := hargs c
    obtain ⟨r0, r1, rest⟩ := h c
    refine ⟨?_, ?_, rest⟩
    · rw [r0, val_main_v6_eq, a0]
      exact ref_cos _
    · rw [r1, val_main_v7_eq, a0]
      exact ref_sin _

end Cert.Rope

end
-- ==== Proof.WgradInBlock.lean ====
module

public import proofs.«01_k».proof.Proof.InProjSpec
public import proofs.«01_k».proof.Proof.Gen.Kernel11Ideal.Frame
public import proofs.«01_k».proof.Proof.WholeCopy
public import Idealize.ShloMosaic.Lib.Pipeline.ValueKit
public import Idealize.ShloMosaic.Lib.Pointwise
public import Idealize.ShloMosaic.Lib.Claim

/-! The input projection's weight gradient: what one grid point (1024 rows, half of the columns) adds to the accumulator, and what
    the last point of a half stores. -/

@[expose] public section

set_option maxRecDepth 16384

noncomputable section

namespace Cert.WgradIn

open Cert.Kernel11Ideal Cert.Kernel11Ideal.Gen Idealize.ShloMosaic Idealize.ShloMosaic.TcCoe Idealize.SL.Sem
open Cert.WholeCopy Cert.NormGrad
open Cert.InProj (width eps)

/-- The accumulator with one block of rows added. -/
theorem add_at (x : Vec Ideal S1024x1024 .f32) (acc : Vec Ideal S1024x3072 .f32) (g : Vec Ideal S1x1024 .f32) (d : Vec Ideal S1024x3072 .bf16)
    (q : Fin 1024) (j : Fin 3072) : k0_pay2 x acc g d (ix2 q j)
      = acc (ix2 q j) + (∑ p : Fin 1024, x (ix2 p q) * invRms width eps (fun k => x (ix2 p k)) * g (ix2 0 q) * d (ix2 p j) : EReal) := by
  pointwise [k0_pay2, invRms, meanSq]

theorem zero_at (i : S1024x3072.Idx) : k0_pay1 (F := Ideal) i = 0 := by
  idx_vars i
  pointwise [k0_pay1]

variable (m : (ℓ : Loc nD τ sig) → Buf (Elt Ideal) ℓ)

theorem acc_first (c : Dev nD) (t : Fin cfg0.N) (h : t.val % 8 = 0) :
    (outsAt0 m c t.val t.isLt).2 = k0_pay2 (iblk m c 0 t) (k0_pay1 (F := Ideal)) (iblk m c 1 t) (iblk m c 2 t) := by
  rw [outsAt0_A m c t h (by omega)]
  frame_out

theorem acc_later (c : Dev nD) (t : Fin cfg0.N) (h : ¬t.val % 8 = 0) :
    (outsAt0 m c t.val t.isLt).2 = k0_pay2 (iblk m c 0 t) (outsAt0 m c (t.val - 1) (Nat.lt_of_le_of_lt (Nat.sub_le _ _) t.isLt)).2
      (iblk m c 1 t) (iblk m c 2 t) := by
  by_cases h1 : t.val % 8 = 7
  · rw [outsAt0_C m c t h h1]
    frame_out
    simp only [read_unread_whole]
  · rw [outsAt0_B m c t h h1]
    frame_out
    simp only [read_unread_whole]

/-- A load behind a store of the whole accumulator reads what was stored. -/
theorem load_full (v : View sig .tc .vmem S1024x3072 .f32) (u : Vec Ideal S1024x3072 .f32) (r : Rect S1024x3072) :
    v.readCov (Val := Elt Ideal) [⟨Rect.unit ![0, 0] ![1024, 3072] inb_S1024x3072_S1024x3072_0_0, u⟩] r.toLoadRect = View.ld (Val := Elt Ideal) u r := by
  rw [View.readCov_eq_canon', View.canon_cons_unit_lit' _ _ _ (by decide)]

/-- The accumulator's four column blocks, stored one under another. -/
theorem canon_parts (u : Vec Ideal S1024x3072 .f32) :
    (View.canon (Val := Elt Ideal) [
      ⟨Rect.unit ![3, 0, 0] ![1, 1024, 768] inb_S4x1024x768_S1x1024x768_3_0_0, k0_pay6 (View.ld (Val := Elt Ideal) u (Rect.unit ![0, 2304] ![1024, 768] inb_S1024x3072_S1024x768_0_2304))⟩,
      ⟨Rect.unit ![2, 0, 0] ![1, 1024, 768] inb_S4x1024x768_S1x1024x768_2_0_0, k0_pay5 (View.ld (Val := Elt Ideal) u (Rect.unit ![0, 1536] ![1024, 768] inb_S1024x3072_S1024x768_0_1536))⟩,
      ⟨Rect.unit ![1, 0, 0] ![1, 1024, 768] inb_S4x1024x768_S1x1024x768_1_0_0, k0_pay4 (View.ld (Val := Elt Ideal) u (Rect.unit ![0, 768] ![1024, 768] inb_S1024x3072_S1024x768_0_768))⟩,
      ⟨Rect.unit ![0, 0, 0] ![1, 1024, 768] inb_S4x1024x768_S1x1024x768_0_0_0, k0_pay3 (View.ld (Val := Elt Ideal) u (Rect.unit ![0, 0] ![1024, 768] inb_S1024x3072_S1024x768_0_0))⟩] : Vec Ideal S4x1024x768 .bf16)
      = fun i : S4x1024x768.Idx => u (ix2 (i 1) ⟨(i 0).val * 768 + (i 2).val, by have h0 := (i 0).isLt; have h2 := (i 2).isLt; simp at h0 h2; omega⟩) := by
  have e : ∀ (p p' : Fin 1024) (q q' : Fin 3072), p'.val = p.val → q'.val = q.val → u (ix2 p q) = u (ix2 p' q') :=
    fun p p' q q' hp hq => by rw [Fin.ext hp, Fin.ext hq]
  funext j
  canon_tiles z hz
  all_goals
    idx_vars z
    pointwise [k0_pay3, k0_pay4, k0_pay5, k0_pay6]
    exact e _ _ _ _ (by omega) (by simp only []; omega)

theorem out_last (c : Dev nD) (t : Fin cfg0.N) (h : t.val % 8 = 7) :
    (outsAt0 m c t.val t.isLt).1 = fun i => (outsAt0 m c t.val t.isLt).2 (ix2 (i 1) ⟨(i 0).val * 768 + (i 2).val, by have h0 := (i 0).isLt; have h2 := (i 2).isLt; simp at h0 h2; omega⟩) := by
  rw [acc_later m c t (by omega), outsAt0_C m c t (by omega) h]
  frame_out
  simp only [read_unread_whole, load_full]
  exact canon_parts _

end Cert.WgradIn

end
-- ==== Proof.WgradInRef.lean ====
module

public import proofs.«01_k».proof.Proof.InProjSpec
public import proofs.«01_k».proof.Proof.Gen.Reference11Ideal.Read

/-! The input projection's weight gradient as a function of the three argument arrays, and that the reference computes it. -/

@[expose] public section

set_option maxRecDepth 16384

noncomputable section

namespace Cert.WgradIn

open Cert.NormGrad Idealize.ShloMosaic
open Cert.InProj (Rows Gain Mat Cots row width eps)

/-- One row's share of the gradient of the weight from column `q` to column `j`. -/
def term (x : Rows) (g : Gain) (d : Cots) (q : Fin 1024) (j : Fin 6144) (p : Fin 8192) : EReal :=
  x (ix2 p q) * invRms width eps (row x p) * g (ix2 0 q) * d (ix2 p j)

/-- The weights' gradient. -/
def dw (x : Rows) (g : Gain) (d : Cots) : Mat := fun i => ∑ p : Fin 8192, term x g d (i 0) (i 1) p

open Cert.Reference11Ideal Cert.Reference11Ideal.Gen Cert.Reference11Ideal.Read

theorem ref_dw (x : Rows) (g : Gain) (d : Cots) : val_main_v15 (F := Ideal) x g d = dw x g d := by
  funext i
  idx_vars i
  show _ = ∑ p : Fin 8192, term x g d i0 i1 p
  pointwise [val_main_v15, val_main_v14, val_main_v12, val_main_v11, val_main_v10, val_main_v9, val_main_v8, val_main_v7, val_main_v6,
    val_main_v5, val_main_v4, val_main_v3, val_main_v2, val_main_v1, val_main_cst_0, val_main_cst_1, val_main_cst_2, term, invRms, meanSq]
  exact Finset.sum_congr rfl fun p _ => mul_comm _ _

end Cert.WgradIn

end
-- ==== Proof.WgradInArray.lean ====
module

public import proofs.«01_k».proof.Proof.WgradInBlock
public import proofs.«01_k».proof.Proof.WgradInRef

/-! The input projection's weight gradient: what the result array holds after the sixteen grid points and the host lines. -/

@[expose] public section

set_option maxRecDepth 16384

noncomputable section

namespace Cert.WgradIn

open Cert.Kernel11Ideal Cert.Kernel11Ideal.Gen Idealize.ShloMosaic Idealize.ShloMosaic.TcCoe Idealize.SL.Sem
open Cert.NormGrad
open Cert.InProj (Rows Gain Mat Cots row width eps)

variable (m : (ℓ : Loc nD τ sig) → Buf (Elt Ideal) ℓ)

/-- The three argument arrays. -/
abbrev xA (c : Dev nD) : Rows := m ((c : Thread nD τ).loc main_arg0)
abbrev gA (c : Dev nD) : Gain := m ((c : Thread nD τ).loc main_arg1)
abbrev dA (c : Dev nD) : Cots := m ((c : Thread nD τ).loc main_arg2)

/-- Point `t` takes row block `t % 8` and the column half `t / 8`. -/
theorem idx : ∀ t : Fin cfg0.N, win0_0.index t = ![t.val % 8, 0] ∧ win0_1.index t = ![0, 0] ∧ win0_2.index t = ![t.val % 8, t.val / 8]
    ∧ win0_3.index t = ![t.val / 8, 0, 0] :=
  (by decide +kernel : ∀ t : Fin grid0.N, _)

theorem small (t : Fin cfg0.N) : t.val < 16 := by have := t.isLt; have : cfg0.N = 16 := N_0; omega

/-- The array row of a point's row, and the array column of its column. -/
abbrev arow (t : Fin cfg0.N) (p : Fin 1024) : Fin 8192 := ⟨t.val % 8 * 1024 + p.val, by omega⟩
abbrev acol (t : Fin cfg0.N) (j : Fin 3072) : Fin 6144 := ⟨t.val / 8 * 3072 + j.val, by have := small t; omega⟩

variable (c : Dev nD) (t : Fin cfg0.N)

theorem dHost_at (i : S8192x6144.Idx) : (V m c main_v0 : FVec Ideal S8192x6144 .bf16) i = dA m c i := by
  entry_read
  rfl

theorem xBlk_at (p k : Fin 1024) : (iblk m c 0 t : FVec Ideal S1024x1024 .f32) (ix2 p k) = xA m c (ix2 (arow t p) k) := by
  blk_point [iblk, V, idx t]

theorem gBlk_at (k : Fin 1024) : (iblk m c 1 t : FVec Ideal S1x1024 .f32) (ix2 0 k) = gA m c (ix2 0 k) := by
  blk_point [iblk, V, idx t]

theorem dBlk_at (p : Fin 1024) (j : Fin 3072) : (iblk m c 2 t : FVec Ideal S1024x3072 .bf16) (ix2 p j) = dA m c (ix2 (arow t p) (acol t j)) := by
  rw [← dHost_at]
  blk_point [iblk, idx t]

/-- What a point adds to the accumulator. -/
theorem part_at (acc : Vec Ideal S1024x3072 .f32) (q : Fin 1024) (j : Fin 3072) : k0_pay2 (iblk m c 0 t) acc (iblk m c 1 t) (iblk m c 2 t) (ix2 q j)
    = acc (ix2 q j) + ∑ p : Fin 1024, term (xA m c) (gA m c) (dA m c) q (acol t j) (arow t p) := by
  rw [add_at]
  refine congrArg (_ + ·) (Finset.sum_congr rfl fun p _ => ?_)
  rw [term, xBlk_at, gBlk_at, dBlk_at, show (fun k : Fin 1024 => (iblk m c 0 t : FVec Ideal S1024x1024 .f32) (ix2 p k)) = row (xA m c) (arow t p) from
    funext (xBlk_at m c t p)]

/-- The accumulator at the last point of a half: the sum over all rows. -/
theorem acc_last (h : t.val % 8 = 7) (q : Fin 1024) (j : Fin 3072) : ((outsAt0 m c t.val t.isLt).2 : Vec Ideal S1024x3072 .f32) (ix2 q j)
    = ∑ p : Fin 8192, term (xA m c) (gA m c) (dA m c) q (acol t j) p := by
  refine (Pipeline.eq_sum_fin_of_reset_step_apply_of_flush (fun n hn => ((outsAt0 m c n hn).2 : Vec Ideal S1024x3072 .f32)) 8 (fun _ => (0 : EReal))
    (fun t i => ∑ p : Fin 1024, term (xA m c) (gA m c) (dA m c) (i 0) (acol t (i 1)) (arow t p)) (fun t h i => ?_) (fun t h i => ?_) t h (ix2 q j)).trans ?_
  · idx_vars i
    show ((outsAt0 m c t.val t.isLt).2 : Vec Ideal S1024x3072 .f32) (ix2 i0 i1) = _
    rw [acc_first m c t h, part_at, zero_at]
  · idx_vars i
    show ((outsAt0 m c t.val t.isLt).2 : Vec Ideal S1024x3072 .f32) (ix2 i0 i1) = _
    rw [acc_later m c t h, part_at]
  · rw [zero_add, Fin.sum_univ_tiles 8 1024 rfl]
    refine Finset.sum_congr rfl fun s _ => Finset.sum_congr rfl fun p _ => ?_
    have hs : s.val < 8 := s.isLt
    congr 1 <;> refine Fin.ext ?_ <;> simp only [ix2_1] <;> omega

/-- The gradient in eight blocks of columns. -/
def inBlocks (T : Mat) : S8x1024x768.Idx → EReal :=
  fun i => T (ix2 (i 1) ⟨(i 0).val * 768 + (i 2).val, by have h0 := (i 0).isLt; have h2 := (i 2).isLt; simp at h0 h2; omega⟩)

/-- The result array, before the host lays it in rows. -/
theorem array : (dats m 0 c).arrAt 3 cfg0.N = inBlocks (dw (xA m c) (gA m c) (dA m c)) := by
  refine (dats m 0 c).arrAt_eq_of_covers 3 _ (by decide +kernel) fun t hf y => ?_
  have h : t.val % 8 = 7 := (flush0_3 t).mp hf
  have ht := small t
  blk_simp
  rw [after0_3, out_last m c t h]
  idx_vars y
  rw [show ((View.whole main_v1).slice (win0_3.rect t)).emb (ix3 y0 y1 y2) = ix3 (⟨t.val / 8 * 4 + y0.val, by omega⟩ : Fin 8) y1 y2 from by blk_ext [idx t]]
  refine (acc_last m c t h y1 _).trans ?_
  show _ = ∑ p : Fin 8192, term (xA m c) (gA m c) (dA m c) y1 _ p
  refine Finset.sum_congr rfl fun p _ => congrArg (fun j => term (xA m c) (gA m c) (dA m c) y1 j p) (Fin.ext ?_)
  show t.val / 8 * 3072 + (y0.val * 768 + y2.val) = (t.val / 8 * 4 + y0.val) * 768 + y2.val
  omega

/-- The host's transpose and reshape lay the blocks in rows again. -/
theorem from_blocks (T : Mat) :
    shapeCast S1024x6144 (transpose S1024x8x768 [1, 0, 2] (extf .f32 (inBlocks T : FVec Ideal S8x1024x768 .bf16) bitsLt_bf16_f32)
      transposes_S8x1024x768_S1024x8x768_1_0_2) shapeCasts_S1024x8x768_S1024x6144 = T := by
  funext i
  idx_vars i
  pointwise [inBlocks]
  try blk_ext

/-- What the result holds at the end. -/
theorem run (ρ : Dev nD → PrngReg) : θ_run defs (onTc (τ := τ) (main (F := Ideal))) ⟨m, fun _ => 0, ρ⟩ (fun r => ∀ c : Dev nD,
      r.2.mem ((c.tc : Thread nD τ).loc main_v4) = dw (xA m c) (gA m c) (dA m c)) := by
  refine (θ_run defs _ _).mono (fun r h c => ?_) (run_main m ρ)
  refine ((h c).2 main_v4 (Pipeline.mem_restRefs_of main_v4 (by decide) (by decide))).trans ?_
  unfold Pipeline.afterTail₀
  simp only [hostOps1, List.flatten_cons, List.flatten_nil, List.append_nil]
  after_results
  erw [Pipeline.withArrays_arr _ launch0.win.arr_inj c _ _ 3, array]
  exact from_blocks _

end Cert.WgradIn

end
-- ==== Proof.WgradInClaim.lean ====
module

public import proofs.«01_k».proof.Defs
public import proofs.«01_k».proof.Proof.WgradInArray
public import proofs.«01_k».proof.Proof.Gen.Kernel11.Frame
public import proofs.«01_k».proof.Proof.Gen.Reference11Ideal.Run
public import Idealize.ShloMosaic.Lib.Claim
public import Idealize.ShloMosaic.Lib.Quiescent

/-! The input projection's weight gradient: the kernel's result is the reference's, whatever the arguments. -/

@[expose] public section

set_option maxRecDepth 16384

noncomputable section

namespace Cert.WgradIn

open Idealize.ShloMosaic Idealize.ShloMosaic.TcCoe Idealize.SL.Sem

attribute [local instance] Cert.Kernel11Ideal.Gen.facts Cert.Reference11Ideal.Gen.facts

/-- The reference leaves its arguments as they were; it has no semaphore. -/
theorem ref_frame : Cert.quiescent_Reference11Ideal (hReference11Ideal := Cert.Reference11Ideal.Gen.facts) := fun m g _ =>
  (θ_run _ _ _).mono (fun r h => ⟨fun c => (h c).2, sem_eq_zero_of_no_sems rfl r.2⟩) (Cert.Reference11Ideal.Value.run m g)

/-- The two runs end with equal results. -/
theorem algebraic : Cert.algebraic_Kernel11Ideal_Reference11Ideal
    (hKernel11Ideal := Cert.Kernel11Ideal.Gen.facts) (hReference11Ideal := Cert.Reference11Ideal.Gen.facts) := by
  intro m g m' g' hpre hargs
  refine ⟨fun c => dw (xA m c) (gA m c) (dA m c),
    (θ_run _ _ _).mono (fun r h c => ⟨h.1 c, h.2 c⟩) (θ_run_and (run m g) (Cert.Kernel11Ideal.Gen.unchanged m g)), ?_⟩
  refine (θ_run _ _ _).mono (fun r h c => ?_) (Cert.Reference11Ideal.Value.run m' g')
  obtain ⟨a0, a1, a2⟩ := hargs c
  obtain ⟨r0, rest⟩ := h c
  refine ⟨?_, rest⟩
  rw [r0, Cert.Reference11Ideal.Read.val_main_v15_eq, a0, a1, a2]
  exact ref_dw _ _ _

end Cert.WgradIn

end
-- ==== Proof.WgradOutBlock.lean ====
module

public import proofs.«01_k».proof.Proof.InProjSpec
public import proofs.«01_k».proof.Proof.Gen.Kernel12Ideal.Frame
public import proofs.«01_k».proof.Proof.WholeCopy
public import Idealize.ShloMosaic.Lib.Pipeline.ValueKit
public import Idealize.ShloMosaic.Lib.Pointwise
public import Idealize.ShloMosaic.Lib.Claim

/-! The output projection's weight gradient: what one grid point (1024 rows) adds to the accumulator, and what the last point stores. -/

@[expose] public section

set_option maxRecDepth 16384

noncomputable section

namespace Cert.WgradOut

open Cert.Kernel12Ideal Cert.Kernel12Ideal.Gen Idealize.ShloMosaic Idealize.ShloMosaic.TcCoe Idealize.SL.Sem
open Cert.WholeCopy

/-- Column `q` of two arrays of 1024 columns side by side, at row `p`. -/
def joined {n : Nat} (a b : Fin n → Fin 1024 → EReal) (p : Fin n) (q : Fin 2048) : EReal :=
  if h : q.val < 1024 then a p ⟨q.val, h⟩ else b p ⟨q.val - 1024, by omega⟩

/-- The accumulator with one block of rows added. -/
def step (acc : Vec Ideal S2048x1024 .f32) (a b : Vec Ideal S1024x1024 .bf16) (d : Vec Ideal S1024x1024 .f32) : Vec Ideal S2048x1024 .f32 :=
  fun i => acc i + ∑ p : Fin 1024, joined (fun p q => a (ix2 p q)) (fun p q => b (ix2 p q)) p (i 0) * d (ix2 p (i 1))

theorem zero_at (i : S2048x1024.Idx) : k0_pay1 (F := Ideal) i = 0 := by
  idx_vars i
  pointwise [k0_pay1]

/-- The accumulator's upper and lower halves. -/
abbrev upper : Rect S2048x1024 := Rect.unit ![0, 0] ![1024, 1024] inb_S2048x1024_S1024x1024_0_0
abbrev lower : Rect S2048x1024 := Rect.unit ![1024, 0] ![1024, 1024] inb_S2048x1024_S1024x1024_1024_0

theorem upper_at (acc : Vec Ideal S2048x1024 .f32) (a b : Vec Ideal S1024x1024 .bf16) (d : Vec Ideal S1024x1024 .f32) (q j : Fin 1024) :
    k0_pay3 d (View.ld (Val := Elt Ideal) acc upper) a (ix2 q j) = step acc a b d (ix2 ⟨q.val, by omega⟩ j) := by
  show _ = acc (ix2 (⟨q.val, by omega⟩ : Fin 2048) j)
    + ∑ p : Fin 1024, joined (fun p q => a (ix2 p q)) (fun p q => b (ix2 p q)) p (⟨q.val, by omega⟩ : Fin 2048) * d (ix2 p j)
  simp only [joined, q.isLt, dif_pos]
  pointwise [k0_pay3, k0_pay2]
  try blk_ext

theorem lower_at (acc : Vec Ideal S2048x1024 .f32) (a b : Vec Ideal S1024x1024 .bf16) (d : Vec Ideal S1024x1024 .f32) (q j : Fin 1024) :
    k0_pay4 d (View.ld (Val := Elt Ideal) acc lower) b (ix2 q j) = step acc a b d (ix2 ⟨1024 + q.val, by omega⟩ j) := by
  show _ = acc (ix2 (⟨1024 + q.val, by omega⟩ : Fin 2048) j)
    + ∑ p : Fin 1024, joined (fun p q => a (ix2 p q)) (fun p q => b (ix2 p q)) p (⟨1024 + q.val, by omega⟩ : Fin 2048) * d (ix2 p j)
  have n : ¬1024 + q.val < 1024 := by omega
  simp only [joined, n, dif_neg, not_false_eq_true, Nat.add_sub_cancel_left]
  pointwise [k0_pay4, k0_pay2]
  try blk_ext

theorem disj_halves : LoadRect.disj upper lower.toLoadRect = true ∧ LoadRect.disj lower upper.toLoadRect = true := by decide

/-- Where a later store did not reach, the earlier ones are read. -/
theorem skip_emb {S : Shape} (q q' : Rect S) (w : q.shape.Idx → Elt Ideal .f32) (L : List (View.Piece (Elt Ideal) S .f32))
    (hd : LoadRect.disj q q'.toLoadRect = true) (x : q'.shape.Idx) :
    (View.canon (⟨q, w⟩ :: L) : Vec Ideal S .f32) (q'.emb x) = (View.canon L : Vec Ideal S .f32) (q'.emb x) :=
  View.canon_cons_of_not_mem ⟨q, w⟩ L (LoadRect.idx_not_mem_of_disj hd x)

/-- What the two halves' stores leave, whatever was stored before. -/
theorem canon_halves (acc : Vec Ideal S2048x1024 .f32) (a b : Vec Ideal S1024x1024 .bf16) (d : Vec Ideal S1024x1024 .f32)
    (L : List (View.Piece (Elt Ideal) S2048x1024 .f32)) :
    (View.canon (Val := Elt Ideal) (⟨lower, k0_pay4 d (View.ld (Val := Elt Ideal) acc lower) b⟩
      :: ⟨upper, k0_pay3 d (View.ld (Val := Elt Ideal) acc upper) a⟩ :: L) : Vec Ideal S2048x1024 .f32) = step acc a b d := by
  funext i
  idx_vars i
  by_cases h : i0.val < 1024
  · have e : (ix2 i0 i1 : S2048x1024.Idx) = upper.emb (ix2 (⟨i0.val, h⟩ : Fin 1024) i1) := by blk_ext
    rw [e]
    refine (skip_emb lower upper _ _ disj_halves.2 _).trans ?_
    refine (View.canon_cons_emb upper _ L _).trans ((upper_at acc a b d _ _).trans (congrArg _ ?_))
    rw [← e]
  · have e : (ix2 i0 i1 : S2048x1024.Idx) = lower.emb (ix2 (⟨i0.val - 1024, by omega⟩ : Fin 1024) i1) := by blk_ext
    rw [e]
    refine (View.canon_cons_emb lower _ _ _).trans ((lower_at acc a b d _ _).trans (congrArg _ ?_))
    rw [← e]
    exact congrArg (fun r => (ix2 r i1 : S2048x1024.Idx)) (Fin.ext (by show 1024 + (i0.val - 1024) = i0.val; omega))

/-- A load behind a store of the whole accumulator reads what was stored. -/
theorem load_full (v : View sig .tc .vmem S2048x1024 .f32) (u : Vec Ideal S2048x1024 .f32) (r : Rect S2048x1024) :
    v.readCov (Val := Elt Ideal) [⟨Rect.unit ![0, 0] ![2048, 1024] inb_S2048x1024_S2048x1024_0_0, u⟩] r.toLoadRect = View.ld (Val := Elt Ideal) u r := by
  rw [View.readCov_eq_canon', View.canon_cons_unit_lit' _ _ _ (by decide)]

/-- A load of the lower half reads past a store into the upper half. -/
theorem load_lower (v : View sig .tc .vmem S2048x1024 .f32) (w : Vec Ideal S1024x1024 .f32) (L : List (View.Piece (Elt Ideal) S2048x1024 .f32)) :
    v.readCov (Val := Elt Ideal) (⟨upper, w⟩ :: L) lower.toLoadRect = v.readCov (Val := Elt Ideal) L lower.toLoadRect :=
  View.readCov_skip v upper w L lower.toLoadRect disj_halves.1

variable (m : (ℓ : Loc nD τ sig) → Buf (Elt Ideal) ℓ)

theorem acc_first (c : Dev nD) (t : Fin cfg0.N) (h : t.val % 8 = 0) :
    (outsAt0 m c t.val t.isLt).2 = step (k0_pay1 (F := Ideal)) (iblk m c 0 t) (iblk m c 1 t) (iblk m c 2 t) := by
  rw [outsAt0_A m c t h (by omega)]
  frame_out
  simp only [load_lower, load_full]
  exact canon_halves _ _ _ _ _

theorem acc_later (c : Dev nD) (t : Fin cfg0.N) (h : ¬t.val % 8 = 0) :
    (outsAt0 m c t.val t.isLt).2 = step (outsAt0 m c (t.val - 1) (Nat.lt_of_le_of_lt (Nat.sub_le _ _) t.isLt)).2
      (iblk m c 0 t) (iblk m c 1 t) (iblk m c 2 t) := by
  by_cases h1 : t.val % 8 = 7
  · rw [outsAt0_C m c t h h1]
    frame_out
    simp only [read_unread_whole]
    exact canon_halves _ _ _ _ _
  · rw [outsAt0_B m c t h h1]
    frame_out
    simp only [read_unread_whole]
    exact canon_halves _ _ _ _ _

theorem out_last (c : Dev nD) (t : Fin cfg0.N) (h : t.val % 8 = 7) :
    (outsAt0 m c t.val t.isLt).1 = k0_pay5 (step (outsAt0 m c (t.val - 1) (Nat.lt_of_le_of_lt (Nat.sub_le _ _) t.isLt)).2
      (iblk m c 0 t) (iblk m c 1 t) (iblk m c 2 t)) := by
  rw [outsAt0_C m c t (by omega) h]
  frame_out
  simp only [read_unread_whole, View.readCov_eq_canon', canon_halves]
  exact congrArg k0_pay5 (View.ld_unit_lit' _ _ (by decide))

end Cert.WgradOut

end
-- ==== Proof.WgradOutArray.lean ====
module

public import proofs.«01_k».proof.Proof.WgradOutBlock
public import proofs.«01_k».proof.Proof.Gen.Reference12Ideal.Read

/-! The output projection's weight gradient: what the result array holds after the eight grid points and the host lines, and that
    the reference computes it. -/

@[expose] public section

set_option maxRecDepth 16384

noncomputable section

namespace Cert.WgradOut

open Cert.Kernel12Ideal Cert.Kernel12Ideal.Gen Idealize.ShloMosaic Idealize.ShloMosaic.TcCoe Idealize.SL.Sem

/-- An argument array, read by row and column. -/
abbrev Rows := FVec Ideal ⟨2, ![8192, 1024]⟩ .f32
abbrev Weights := FVec Ideal ⟨2, ![2048, 1024]⟩ .f32

/-- One row's share of the gradient of the weight from column `q` to column `j`. -/
def term (a b d : Rows) (q : Fin 2048) (j : Fin 1024) (p : Fin 8192) : EReal :=
  joined (fun p q => a (ix2 p q)) (fun p q => b (ix2 p q)) p q * d (ix2 p j)

/-- The weights' gradient. -/
def dw (a b d : Rows) : Weights := fun i => ∑ p : Fin 8192, term a b d (i 0) (i 1) p

section Reference

open Cert.Reference12Ideal.Read

/-- The two arrays side by side. -/
theorem ref_joined (a b : Rows) (p : Fin 8192) (q : Fin 2048) :
    (val_main_v1 (F := Ideal) a b : FVec Ideal ⟨2, ![8192, 2048]⟩ .f32) (ix2 p q) = joined (fun p q => a (ix2 p q)) (fun p q => b (ix2 p q)) p q := by
  pointwise [val_main_v1]
  rfl

theorem ref_dw (a b d : Rows) : val_main_v4 (F := Ideal) a b d = dw a b d := by
  funext i
  idx_vars i
  show _ = ∑ p : Fin 8192, term a b d i0 i1 p
  pointwise [val_main_v4, val_main_v3, ref_joined, term]
  exact Finset.sum_congr rfl fun p _ => mul_comm _ _

end Reference

variable (m : (ℓ : Loc nD τ sig) → Buf (Elt Ideal) ℓ)

/-- The three argument arrays. -/
abbrev aA (c : Dev nD) : Rows := m ((c : Thread nD τ).loc main_arg0)
abbrev bA (c : Dev nD) : Rows := m ((c : Thread nD τ).loc main_arg1)
abbrev dA (c : Dev nD) : Rows := m ((c : Thread nD τ).loc main_arg2)

/-- Point `t` takes row block `t`. -/
theorem idx : ∀ t : Fin cfg0.N, win0_0.index t = ![t.val, 0] ∧ win0_1.index t = ![t.val, 0] ∧ win0_2.index t = ![t.val, 0]
    ∧ win0_3.index t = ![0, 0, 0] :=
  (by decide +kernel : ∀ t : Fin grid0.N, _)

theorem small (t : Fin cfg0.N) : t.val < 8 := by have := t.isLt; have : cfg0.N = 8 := N_0; omega

/-- The array row of a point's row. -/
abbrev arow (t : Fin cfg0.N) (p : Fin 1024) : Fin 8192 := ⟨t.val * 1024 + p.val, by have := small t; omega⟩

variable (c : Dev nD) (t : Fin cfg0.N)

theorem aHost_at (i : S8192x1024.Idx) : (V m c main_v0 : FVec Ideal S8192x1024 .bf16) i = aA m c i := by
  entry_read
  rfl

theorem bHost_at (i : S8192x1024.Idx) : (V m c main_v1 : FVec Ideal S8192x1024 .bf16) i = bA m c i := by
  entry_read
  rfl

theorem aBlk_at (p k : Fin 1024) : (iblk m c 0 t : FVec Ideal S1024x1024 .bf16) (ix2 p k) = aA m c (ix2 (arow t p) k) := by
  rw [← aHost_at]
  blk_point [iblk, idx t]

theorem bBlk_at (p k : Fin 1024) : (iblk m c 1 t : FVec Ideal S1024x1024 .bf16) (ix2 p k) = bA m c (ix2 (arow t p) k) := by
  rw [← bHost_at]
  blk_point [iblk, idx t]

theorem dBlk_at (p j : Fin 1024) : (iblk m c 2 t : FVec Ideal S1024x1024 .f32) (ix2 p j) = dA m c (ix2 (arow t p) j) := by
  blk_point [iblk, V, idx t]

/-- What a point adds to the accumulator. -/
theorem step_at (acc : Vec Ideal S2048x1024 .f32) (q : Fin 2048) (j : Fin 1024) : step acc (iblk m c 0 t) (iblk m c 1 t) (iblk m c 2 t) (ix2 q j)
    = acc (ix2 q j) + ∑ p : Fin 1024, term (aA m c) (bA m c) (dA m c) q j (arow t p) := by
  refine congrArg (acc (ix2 q j) + ·) (Finset.sum_congr rfl fun p _ => ?_)
  refine congrArg₂ (· * ·) ?_ (dBlk_at m c t p j)
  show joined _ _ p q = joined _ _ (arow t p) q
  unfold joined
  split
  · exact aBlk_at m c t p _
  · exact bBlk_at m c t p _

/-- The accumulator at the last point: the sum over all rows. -/
theorem acc_last (h : t.val % 8 = 7) (q : Fin 2048) (j : Fin 1024) : ((outsAt0 m c t.val t.isLt).2 : Vec Ideal S2048x1024 .f32) (ix2 q j)
    = ∑ p : Fin 8192, term (aA m c) (bA m c) (dA m c) q j p := by
  refine (Pipeline.eq_sum_fin_of_reset_step_apply_of_flush (fun n hn => ((outsAt0 m c n hn).2 : Vec Ideal S2048x1024 .f32)) 8 (fun _ => (0 : EReal))
    (fun t i => ∑ p : Fin 1024, term (aA m c) (bA m c) (dA m c) (i 0) (i 1) (arow t p)) (fun t h i => ?_) (fun t h i => ?_) t h (ix2 q j)).trans ?_
  · idx_vars i
    show ((outsAt0 m c t.val t.isLt).2 : Vec Ideal S2048x1024 .f32) (ix2 i0 i1) = _
    rw [acc_first m c t h, step_at, zero_at]
  · idx_vars i
    show ((outsAt0 m c t.val t.isLt).2 : Vec Ideal S2048x1024 .f32) (ix2 i0 i1) = _
    rw [acc_later m c t h, step_at]
  · rw [zero_add, Fin.sum_univ_tiles 8 1024 rfl]
    refine Finset.sum_congr rfl fun s _ => Finset.sum_congr rfl fun p _ => ?_
    have hs : s.val < 8 := s.isLt
    have ht := small t
    exact congrArg (term (aA m c) (bA m c) (dA m c) q j) (Fin.ext (by show (8 * (t.val / 8) + s.val) * 1024 + p.val = s.val * 1024 + p.val; omega))

/-- The gradient in eight blocks of rows. -/
def inBlocks (T : Weights) : S8x256x1024.Idx → EReal :=
  fun i => T (ix2 ⟨(i 0).val * 256 + (i 1).val, by have h0 := (i 0).isLt; have h1 := (i 1).isLt; simp at h0 h1; omega⟩ (i 2))

theorem stored (u : Vec Ideal S2048x1024 .f32) : k0_pay5 u = inBlocks u := by
  funext i
  idx_vars i
  pointwise [k0_pay5, inBlocks]
  try blk_ext

/-- The result array, before the host lays it in rows. -/
theorem array : (dats m 0 c).arrAt 3 cfg0.N = inBlocks (dw (aA m c) (bA m c) (dA m c)) := by
  refine (dats m 0 c).arrAt_eq_of_covers 3 _ (by decide +kernel) fun t hf y => ?_
  have ht := small t
  have h : t.val % 8 = 7 := by
    first
      | exact (flush0_3 t).mp hf
      | (have := (flush0_3 t).mp hf; omega)
  blk_simp
  rw [after0_3, out_last m c t h, ← acc_later m c t (by omega), stored]
  idx_vars y
  rw [show ((View.whole main_v2).slice (win0_3.rect t)).emb (ix3 y0 y1 y2) = ix3 y0 y1 y2 from by blk_ext [idx t]]
  exact acc_last m c t h _ y2

/-- The host's reshape lays the blocks in rows again. -/
theorem from_blocks (T : Weights) :
    shapeCast S2048x1024 (extf .f32 (inBlocks T : FVec Ideal S8x256x1024 .bf16) bitsLt_bf16_f32) shapeCasts_S8x256x1024_S2048x1024 = T := by
  funext i
  idx_vars i
  pointwise [inBlocks]
  try blk_ext

/-- What the result holds at the end. -/
theorem run (ρ : Dev nD → PrngReg) : θ_run defs (onTc (τ := τ) (main (F := Ideal))) ⟨m, fun _ => 0, ρ⟩ (fun r => ∀ c : Dev nD,
      r.2.mem ((c.tc : Thread nD τ).loc main_v4) = dw (aA m c) (bA m c) (dA m c)) := by
  refine (θ_run defs _ _).mono (fun r h c => ?_) (run_main m ρ)
  refine ((h c).2 main_v4 (Pipeline.mem_restRefs_of main_v4 (by decide) (by decide))).trans ?_
  unfold Pipeline.afterTail₀
  simp only [hostOps1, List.flatten_cons, List.flatten_nil, List.append_nil]
  after_results
  erw [Pipeline.withArrays_arr _ launch0.win.arr_inj c _ _ 3, array]
  exact from_blocks _

end Cert.WgradOut

end
-- ==== Proof.WgradOutClaim.lean ====
module

public import proofs.«01_k».proof.Defs
public import proofs.«01_k».proof.Proof.WgradOutArray
public import proofs.«01_k».proof.Proof.Gen.Kernel12.Frame
public import proofs.«01_k».proof.Proof.Gen.Reference12Ideal.Run
public import Idealize.ShloMosaic.Lib.Claim
public import Idealize.ShloMosaic.Lib.Quiescent

/-! The output projection's weight gradient: the kernel's result is the reference's, whatever the arguments. -/

@[expose] public section

set_option maxRecDepth 16384

noncomputable section

namespace Cert.WgradOut

open Idealize.ShloMosaic Idealize.ShloMosaic.TcCoe Idealize.SL.Sem

attribute [local instance] Cert.Kernel12Ideal.Gen.facts Cert.Reference12Ideal.Gen.facts

/-- The reference leaves its arguments as they were; it has no semaphore. -/
theorem ref_frame : Cert.quiescent_Reference12Ideal (hReference12Ideal := Cert.Reference12Ideal.Gen.facts) := fun m g _ =>
  (θ_run _ _ _).mono (fun r h => ⟨fun c => (h c).2, sem_eq_zero_of_no_sems rfl r.2⟩) (Cert.Reference12Ideal.Value.run m g)

/-- The two runs end with equal results. -/
theorem algebraic : Cert.algebraic_Kernel12Ideal_Reference12Ideal
    (hKernel12Ideal := Cert.Kernel12Ideal.Gen.facts) (hReference12Ideal := Cert.Reference12Ideal.Gen.facts) := by
  intro m g m' g' hpre hargs
  refine ⟨fun c => dw (aA m c) (bA m c) (dA m c),
    (θ_run _ _ _).mono (fun r h c => ⟨h.1 c, h.2 c⟩) (θ_run_and (run m g) (Cert.Kernel12Ideal.Gen.unchanged m g)), ?_⟩
  refine (θ_run _ _ _).mono (fun r h c => ?_) (Cert.Reference12Ideal.Value.run m' g')
  obtain ⟨a0, a1, a2⟩ := hargs c
  obtain ⟨r0, rest⟩ := h c
  refine ⟨?_, rest⟩
  rw [r0, Cert.Reference12Ideal.Read.val_main_v4_eq, a0, a1, a2]
  exact ref_dw _ _ _

end Cert.WgradOut

end
-- ==== Proof.lean ====
module

public import proofs.«01_k».proof.Defs
public import proofs.«01_k».proof.Proof.InProjClaim
public import proofs.«01_k».proof.Proof.Gen.Kernel.Frame
public import proofs.«01_k».proof.Proof.GateClaim
public import proofs.«01_k».proof.Proof.Gen.Kernel2.Frame
public import proofs.«01_k».proof.Proof.SguClaim
public import proofs.«01_k».proof.Proof.Gen.Kernel3.Frame
public import proofs.«01_k».proof.Proof.RetClaim
public import proofs.«01_k».proof.Proof.Gen.Kernel4.Frame
public import proofs.«01_k».proof.Proof.DiscClaim
public import proofs.«01_k».proof.Proof.Gen.Kernel5.Frame
public import proofs.«01_k».proof.Proof.FwdClaim
public import proofs.«01_k».proof.Proof.Gen.Kernel6.Frame
public import proofs.«01_k».proof.Proof.DiscFwdClaim
public import proofs.«01_k».proof.Proof.Gen.Kernel7.Frame
public import proofs.«01_k».proof.Proof.ProjFwdClaim
public import proofs.«01_k».proof.Proof.Gen.Kernel8.Frame
public import proofs.«01_k».proof.Proof.OutFwdClaim
public import proofs.«01_k».proof.Proof.Gen.Kernel9.Frame
public import proofs.«01_k».proof.Proof.RopeClaim
public import proofs.«01_k».proof.Proof.Gen.Kernel10.Frame
public import proofs.«01_k».proof.Proof.WgradInClaim
public import proofs.«01_k».proof.Proof.Gen.Kernel11.Frame
public import proofs.«01_k».proof.Proof.WgradOutClaim
public import proofs.«01_k».proof.Proof.Gen.Kernel12.Frame

/-! The statement's claims, put together from the modules about each backward call. -/

@[expose] public section

noncomputable section

namespace Cert.Proof

open Idealize.ShloMosaic Idealize.SL.Sem

/-- The claims of every pair. -/
theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.InProj.preFacts, Cert.Gate.preFacts, Cert.Sgu.preFacts, Cert.Ret.preFacts,
  fun m ρ _ => Cert.Kernel.Gen.frame m ρ,
  fun m ρ _ => Cert.KernelIdeal.Gen.frame m ρ,
  fun m ρ _ => Cert.KernelIdeal.Gen.frame m ρ,
  Cert.InProj.ref_frame,
  fun m ρ _ => Cert.InProj.ref_frame m ρ trivial,
  fun m ρ _ => Cert.Kernel2.Gen.frame m ρ,
  fun m ρ _ => Cert.Kernel2Ideal.Gen.frame m ρ,
  fun m ρ _ => Cert.Kernel2Ideal.Gen.frame m ρ,
  Cert.Gate.ref_frame,
  fun m ρ _ => Cert.Gate.ref_frame m ρ trivial,
  fun m ρ _ => Cert.Kernel3.Gen.frame m ρ,
  fun m ρ _ => Cert.Kernel3Ideal.Gen.frame m ρ,
  fun m ρ _ => Cert.Kernel3Ideal.Gen.frame m ρ,
  Cert.Sgu.ref_frame,
  fun m ρ _ => Cert.Sgu.ref_frame m ρ trivial,
  fun m ρ _ => Cert.Kernel4.Gen.frame m ρ,
  fun m ρ _ => Cert.Kernel4Ideal.Gen.frame m ρ,
  fun m ρ _ => Cert.Kernel4Ideal.Gen.frame m ρ,
  Cert.Ret.ref_frame,
  fun m ρ _ => Cert.Ret.ref_frame m ρ trivial,
  fun m ρ _ => Cert.Kernel5.Gen.frame m ρ,
  fun m ρ _ => Cert.Kernel5Ideal.Gen.frame m ρ,
  Cert.Disc.ref_frame,
  fun m ρ _ => Cert.Kernel6.Gen.frame m ρ,
  fun m ρ _ => Cert.Kernel6Ideal.Gen.frame m ρ,
  Cert.Fwd.ref_frame,
  fun m ρ _ => Cert.Kernel7.Gen.frame m ρ,
  fun m ρ _ => Cert.Kernel7Ideal.Gen.frame m ρ,
  Cert.DiscFwd.ref_frame,
  fun m ρ _ => Cert.Kernel8.Gen.frame m ρ,
  fun m ρ _ => Cert.Kernel8Ideal.Gen.frame m ρ,
  Cert.ProjFwd.ref_frame,
  fun m ρ _ => Cert.Kernel9.Gen.frame m ρ,
  fun m ρ _ => Cert.Kernel9Ideal.Gen.frame m ρ,
  Cert.OutFwd.ref_frame,
  fun m ρ _ => Cert.Kernel10.Gen.frame m ρ,
  fun m ρ _ => Cert.Kernel10Ideal.Gen.frame m ρ,
  Cert.Rope.ref_frame,
  fun m ρ _ => Cert.Kernel11.Gen.frame m ρ,
  fun m ρ _ => Cert.Kernel11Ideal.Gen.frame m ρ,
  Cert.WgradIn.ref_frame,
  fun m ρ _ => Cert.Kernel12.Gen.frame m ρ,
  fun m ρ _ => Cert.Kernel12Ideal.Gen.frame m ρ,
  Cert.WgradOut.ref_frame,
  trivial,
  Cert.InProj.algebraic,
  Cert.Gate.preserves,
  Cert.Gate.algebraic,
  Cert.Sgu.preserves,
  Cert.Sgu.algebraic,
  Cert.Ret.preserves,
  Cert.Ret.algebraic,
  trivial,
  Cert.Disc.algebraic,
  Cert.Fwd.preserves,
  Cert.Fwd.algebraic,
  trivial,
  Cert.DiscFwd.algebraic,
  trivial,
  Cert.ProjFwd.algebraic,
  Cert.OutFwd.preserves,
  Cert.OutFwd.algebraic,
  trivial,
  Cert.Rope.algebraic,
  trivial,
  Cert.WgradIn.algebraic,
  trivial,
  Cert.WgradOut.algebraic⟩

end Cert.Proof

end
